-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.2 = (fun _ => 1#1)

def Pre_Swiglu (m : (ℓ : Loc Cert.Swiglu.nD Cert.Swiglu.τ Cert.Swiglu.sig) → Buf (Elt Bits) ℓ) : Prop :=
  True

def Pre_SwigluIdeal (m : (ℓ : Loc Cert.SwigluIdeal.nD Cert.SwigluIdeal.τ Cert.SwigluIdeal.sig) → Buf (Elt Ideal) ℓ) : Prop :=
  True

def Pre_SwigluRefIdeal (m : (ℓ : Loc Cert.SwigluRefIdeal.nD Cert.SwigluRefIdeal.τ Cert.SwigluRefIdeal.sig) → Buf (Elt Ideal) ℓ) : Prop :=
  True

def Pre_Glu (m : (ℓ : Loc Cert.Glu.nD Cert.Glu.τ Cert.Glu.sig) → Buf (Elt Bits) ℓ) : Prop :=
  True

def Pre_GluIdeal (m : (ℓ : Loc Cert.GluIdeal.nD Cert.GluIdeal.τ Cert.GluIdeal.sig) → Buf (Elt Ideal) ℓ) : Prop :=
  True

def Pre_GluRefIdeal (m : (ℓ : Loc Cert.GluRefIdeal.nD Cert.GluRefIdeal.τ Cert.GluRefIdeal.sig) → Buf (Elt Ideal) ℓ) : Prop :=
  True

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjRefIdeal (m : (ℓ : Loc Cert.ProjRefIdeal.nD Cert.ProjRefIdeal.τ Cert.ProjRefIdeal.sig) → Buf (Elt Ideal) ℓ) : Prop :=
  True

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownRefIdeal (m : (ℓ : Loc Cert.DownRefIdeal.nD Cert.DownRefIdeal.τ Cert.DownRefIdeal.sig) → Buf (Elt Ideal) ℓ) : Prop :=
  True

def Pre_DownMod (m : (ℓ : Loc Cert.DownMod.nD Cert.DownMod.τ Cert.DownMod.sig) → Buf (Elt Bits) ℓ) : Prop :=
  True

def Pre_DownModIdeal (m : (ℓ : Loc Cert.DownModIdeal.nD Cert.DownModIdeal.τ Cert.DownModIdeal.sig) → Buf (Elt Ideal) ℓ) : Prop :=
  True

def Pre_DownModRefIdeal (m : (ℓ : Loc Cert.DownModRefIdeal.nD Cert.DownModRefIdeal.τ Cert.DownModRefIdeal.sig) → Buf (Elt Ideal) ℓ) : Prop :=
  True

def Pre_DownNext (m : (ℓ : Loc Cert.DownNext.nD Cert.DownNext.τ Cert.DownNext.sig) → Buf (Elt Bits) ℓ) : Prop :=
  True

def Pre_DownNextIdeal (m : (ℓ : Loc Cert.DownNextIdeal.nD Cert.DownNextIdeal.τ Cert.DownNextIdeal.sig) → Buf (Elt Ideal) ℓ) : Prop :=
  True

def Pre_DownNextRefIdeal (m : (ℓ : Loc Cert.DownNextRefIdeal.nD Cert.DownNextRefIdeal.τ Cert.DownNextRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Swiglu [hSwiglu : Cert.Swiglu.Facts] : Prop :=
  ∀ (m : (ℓ : Loc Cert.Swiglu.nD Cert.Swiglu.τ Cert.Swiglu.sig) → Buf (Elt Bits) ℓ) (g : Dev Cert.Swiglu.nD → PrngReg), Pre_Swiglu m →
    θ_run (Cert.Swiglu.defs (F := Bits)) (onTc (τ := Cert.Swiglu.τ) (Cert.Swiglu.main (F := Bits))) ⟨m, fun _ => 0, g⟩ (fun r => (∀ c : Dev Cert.Swiglu.nD,
      r.2.mem ((c.tc : Thread Cert.Swiglu.nD Cert.Swiglu.τ).loc Cert.Swiglu.main_arg0) = m ((c.tc : Thread Cert.Swiglu.nD Cert.Swiglu.τ).loc Cert.Swiglu.main_arg0)
      ∧ r.2.mem ((c.tc : Thread Cert.Swiglu.nD Cert.Swiglu.τ).loc Cert.Swiglu.main_arg1) = m ((c.tc : Thread Cert.Swiglu.nD Cert.Swiglu.τ).loc Cert.Swiglu.main_arg1)
      ∧ r.2.mem ((c.tc : Thread Cert.Swiglu.nD Cert.Swiglu.τ).loc Cert.Swiglu.main_arg2) = m ((c.tc : Thread Cert.Swiglu.nD Cert.Swiglu.τ).loc Cert.Swiglu.main_arg2))
      ∧ r.2.sem = fun _ => 0)

def quiescent_SwigluIdeal [hSwigluIdeal : Cert.SwigluIdeal.Facts] : Prop :=
  ∀ (m : (ℓ : Loc Cert.SwigluIdeal.nD Cert.SwigluIdeal.τ Cert.SwigluIdeal.sig) → Buf (Elt Ideal) ℓ) (g : Dev Cert.SwigluIdeal.nD → PrngReg), Pre_SwigluIdeal m →
    θ_run (Cert.SwigluIdeal.defs (F := Ideal)) (onTc (τ := Cert.SwigluIdeal.τ) (Cert.SwigluIdeal.main (F := Ideal))) ⟨m, fun _ => 0, g⟩ (fun r => (∀ c : Dev Cert.SwigluIdeal.nD,
      r.2.mem ((c.tc : Thread Cert.SwigluIdeal.nD Cert.SwigluIdeal.τ).loc Cert.SwigluIdeal.main_arg0) = m ((c.tc : Thread Cert.SwigluIdeal.nD Cert.SwigluIdeal.τ).loc Cert.SwigluIdeal.main_arg0)
      ∧ r.2.mem ((c.tc : Thread Cert.SwigluIdeal.nD Cert.SwigluIdeal.τ).loc Cert.SwigluIdeal.main_arg1) = m ((c.tc : Thread Cert.SwigluIdeal.nD Cert.SwigluIdeal.τ).loc Cert.SwigluIdeal.main_arg1)
      ∧ r.2.mem ((c.tc : Thread Cert.SwigluIdeal.nD Cert.SwigluIdeal.τ).loc Cert.SwigluIdeal.main_arg2) = m ((c.tc : Thread Cert.SwigluIdeal.nD Cert.SwigluIdeal.τ).loc Cert.SwigluIdeal.main_arg2))
      ∧ r.2.sem = fun _ => 0)

def quiescent_SwigluRefIdeal [hSwigluRefIdeal : Cert.SwigluRefIdeal.Facts] : Prop :=
  ∀ (m : (ℓ : Loc Cert.SwigluRefIdeal.nD Cert.SwigluRefIdeal.τ Cert.SwigluRefIdeal.sig) → Buf (Elt Ideal) ℓ) (g : Dev Cert.SwigluRefIdeal.nD → PrngReg), Pre_SwigluRefIdeal m →
    θ_run (Cert.SwigluRefIdeal.defs (F := Ideal)) (onTc (τ := Cert.SwigluRefIdeal.τ) (Cert.SwigluRefIdeal.main (F := Ideal))) ⟨m, fun _ => 0, g⟩ (fun r => (∀ c : Dev Cert.SwigluRefIdeal.nD,
      r.2.mem ((c.tc : Thread Cert.SwigluRefIdeal.nD Cert.SwigluRefIdeal.τ).loc Cert.SwigluRefIdeal.main_arg0) = m ((c.tc : Thread Cert.SwigluRefIdeal.nD Cert.SwigluRefIdeal.τ).loc Cert.SwigluRefIdeal.main_arg0)
      ∧ r.2.mem ((c.tc : Thread Cert.SwigluRefIdeal.nD Cert.SwigluRefIdeal.τ).loc Cert.SwigluRefIdeal.main_arg1) = m ((c.tc : Thread Cert.SwigluRefIdeal.nD Cert.SwigluRefIdeal.τ).loc Cert.SwigluRefIdeal.main_arg1)
      ∧ r.2.mem ((c.tc : Thread Cert.SwigluRefIdeal.nD Cert.SwigluRefIdeal.τ).loc Cert.SwigluRefIdeal.main_arg2) = m ((c.tc : Thread Cert.SwigluRefIdeal.nD Cert.SwigluRefIdeal.τ).loc Cert.SwigluRefIdeal.main_arg2))
      ∧ r.2.sem = fun _ => 0)

def quiescent_Glu [hGlu : Cert.Glu.Facts] : Prop :=
  ∀ (m : (ℓ : Loc Cert.Glu.nD Cert.Glu.τ Cert.Glu.sig) → Buf (Elt Bits) ℓ) (g : Dev Cert.Glu.nD → PrngReg), Pre_Glu m →
    θ_run (Cert.Glu.defs (F := Bits)) (onTc (τ := Cert.Glu.τ) (Cert.Glu.main (F := Bits))) ⟨m, fun _ => 0, g⟩ (fun r => (∀ c : Dev Cert.Glu.nD,
      r.2.mem ((c.tc : Thread Cert.Glu.nD Cert.Glu.τ).loc Cert.Glu.main_arg0) = m ((c.tc : Thread Cert.Glu.nD Cert.Glu.τ).loc Cert.Glu.main_arg0)
      ∧ r.2.mem ((c.tc : Thread Cert.Glu.nD Cert.Glu.τ).loc Cert.Glu.main_arg1) = m ((c.tc : Thread Cert.Glu.nD Cert.Glu.τ).loc Cert.Glu.main_arg1)
      ∧ r.2.mem ((c.tc : Thread Cert.Glu.nD Cert.Glu.τ).loc Cert.Glu.main_arg2) = m ((c.tc : Thread Cert.Glu.nD Cert.Glu.τ).loc Cert.Glu.main_arg2))
      ∧ r.2.sem = fun _ => 0)

def quiescent_GluIdeal [hGluIdeal : Cert.GluIdeal.Facts] : Prop :=
  ∀ (m : (ℓ : Loc Cert.GluIdeal.nD Cert.GluIdeal.τ Cert.GluIdeal.sig) → Buf (Elt Ideal) ℓ) (g : Dev Cert.GluIdeal.nD → PrngReg), Pre_GluIdeal m →
    θ_run (Cert.GluIdeal.defs (F := Ideal)) (onTc (τ := Cert.GluIdeal.τ) (Cert.GluIdeal.main (F := Ideal))) ⟨m, fun _ => 0, g⟩ (fun r => (∀ c : Dev Cert.GluIdeal.nD,
      r.2.mem ((c.tc : Thread Cert.GluIdeal.nD Cert.GluIdeal.τ).loc Cert.GluIdeal.main_arg0) = m ((c.tc : Thread Cert.GluIdeal.nD Cert.GluIdeal.τ).loc Cert.GluIdeal.main_arg0)
      ∧ r.2.mem ((c.tc : Thread Cert.GluIdeal.nD Cert.GluIdeal.τ).loc Cert.GluIdeal.main_arg1) = m ((c.tc : Thread Cert.GluIdeal.nD Cert.GluIdeal.τ).loc Cert.GluIdeal.main_arg1)
      ∧ r.2.mem ((c.tc : Thread Cert.GluIdeal.nD Cert.GluIdeal.τ).loc Cert.GluIdeal.main_arg2) = m ((c.tc : Thread Cert.GluIdeal.nD Cert.GluIdeal.τ).loc Cert.GluIdeal.main_arg2))
      ∧ r.2.sem = fun _ => 0)

def quiescent_GluRefIdeal [hGluRefIdeal : Cert.GluRefIdeal.Facts] : Prop :=
  ∀ (m : (ℓ : Loc Cert.GluRefIdeal.nD Cert.GluRefIdeal.τ Cert.GluRefIdeal.sig) → Buf (Elt Ideal) ℓ) (g : Dev Cert.GluRefIdeal.nD → PrngReg), Pre_GluRefIdeal m →
    θ_run (Cert.GluRefIdeal.defs (F := Ideal)) (onTc (τ := Cert.GluRefIdeal.τ) (Cert.GluRefIdeal.main (F := Ideal))) ⟨m, fun _ => 0, g⟩ (fun r => (∀ c : Dev Cert.GluRefIdeal.nD,
      r.2.mem ((c.tc : Thread Cert.GluRefIdeal.nD Cert.GluRefIdeal.τ).loc Cert.GluRefIdeal.main_arg0) = m ((c.tc : Thread Cert.GluRefIdeal.nD Cert.GluRefIdeal.τ).loc Cert.GluRefIdeal.main_arg0)
      ∧ r.2.mem ((c.tc : Thread Cert.GluRefIdeal.nD Cert.GluRefIdeal.τ).loc Cert.GluRefIdeal.main_arg1) = m ((c.tc : Thread Cert.GluRefIdeal.nD Cert.GluRefIdeal.τ).loc Cert.GluRefIdeal.main_arg1)
      ∧ r.2.mem ((c.tc : Thread Cert.GluRefIdeal.nD Cert.GluRefIdeal.τ).loc Cert.GluRefIdeal.main_arg2) = m ((c.tc : Thread Cert.GluRefIdeal.nD Cert.GluRefIdeal.τ).loc Cert.GluRefIdeal.main_arg2))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1))
      ∧ r.2.sem = fun _ => 0)

def quiescent_ProjRefIdeal [hProjRefIdeal : Cert.ProjRefIdeal.Facts] : Prop :=
  ∀ (m : (ℓ : Loc Cert.ProjRefIdeal.nD Cert.ProjRefIdeal.τ Cert.ProjRefIdeal.sig) → Buf (Elt Ideal) ℓ) (g : Dev Cert.ProjRefIdeal.nD → PrngReg), Pre_ProjRefIdeal m →
    θ_run (Cert.ProjRefIdeal.defs (F := Ideal)) (onTc (τ := Cert.ProjRefIdeal.τ) (Cert.ProjRefIdeal.main (F := Ideal))) ⟨m, fun _ => 0, g⟩ (fun r => (∀ c : Dev Cert.ProjRefIdeal.nD,
      r.2.mem ((c.tc : Thread Cert.ProjRefIdeal.nD Cert.ProjRefIdeal.τ).loc Cert.ProjRefIdeal.main_arg0) = m ((c.tc : Thread Cert.ProjRefIdeal.nD Cert.ProjRefIdeal.τ).loc Cert.ProjRefIdeal.main_arg0)
      ∧ r.2.mem ((c.tc : Thread Cert.ProjRefIdeal.nD Cert.ProjRefIdeal.τ).loc Cert.ProjRefIdeal.main_arg1) = m ((c.tc : Thread Cert.ProjRefIdeal.nD Cert.ProjRefIdeal.τ).loc Cert.ProjRefIdeal.main_arg1))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1)
      ∧ r.2.mem ((c.tc : Thread Cert.Down.nD Cert.Down.τ).loc Cert.Down.main_arg2) = m ((c.tc : Thread Cert.Down.nD Cert.Down.τ).loc Cert.Down.main_arg2)
      ∧ r.2.mem ((c.tc : Thread Cert.Down.nD Cert.Down.τ).loc Cert.Down.main_arg3) = m ((c.tc : Thread Cert.Down.nD Cert.Down.τ).loc Cert.Down.main_arg3)
      ∧ r.2.mem ((c.tc : Thread Cert.Down.nD Cert.Down.τ).loc Cert.Down.main_arg4) = m ((c.tc : Thread Cert.Down.nD Cert.Down.τ).loc Cert.Down.main_arg4))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
      ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
      ∧ r.2.mem ((c.tc : Thread Cert.DownIdeal.nD Cert.DownIdeal.τ).loc Cert.DownIdeal.main_arg3) = m ((c.tc : Thread Cert.DownIdeal.nD Cert.DownIdeal.τ).loc Cert.DownIdeal.main_arg3)
      ∧ r.2.mem ((c.tc : Thread Cert.DownIdeal.nD Cert.DownIdeal.τ).loc Cert.DownIdeal.main_arg4) = m ((c.tc : Thread Cert.DownIdeal.nD Cert.DownIdeal.τ).loc Cert.DownIdeal.main_arg4))
      ∧ r.2.sem = fun _ => 0)

def quiescent_DownRefIdeal [hDownRefIdeal : Cert.DownRefIdeal.Facts] : Prop :=
  ∀ (m : (ℓ : Loc Cert.DownRefIdeal.nD Cert.DownRefIdeal.τ Cert.DownRefIdeal.sig) → Buf (Elt Ideal) ℓ) (g : Dev Cert.DownRefIdeal.nD → PrngReg), Pre_DownRefIdeal m →
    θ_run (Cert.DownRefIdeal.defs (F := Ideal)) (onTc (τ := Cert.DownRefIdeal.τ) (Cert.DownRefIdeal.main (F := Ideal))) ⟨m, fun _ => 0, g⟩ (fun r => (∀ c : Dev Cert.DownRefIdeal.nD,
      r.2.mem ((c.tc : Thread Cert.DownRefIdeal.nD Cert.DownRefIdeal.τ).loc Cert.DownRefIdeal.main_arg0) = m ((c.tc : Thread Cert.DownRefIdeal.nD Cert.DownRefIdeal.τ).loc Cert.DownRefIdeal.main_arg0)
      ∧ r.2.mem ((c.tc : Thread Cert.DownRefIdeal.nD Cert.DownRefIdeal.τ).loc Cert.DownRefIdeal.main_arg1) = m ((c.tc : Thread Cert.DownRefIdeal.nD Cert.DownRefIdeal.τ).loc Cert.DownRefIdeal.main_arg1)
      ∧ r.2.mem ((c.tc : Thread Cert.DownRefIdeal.nD Cert.DownRefIdeal.τ).loc Cert.DownRefIdeal.main_arg2) = m ((c.tc : Thread Cert.DownRefIdeal.nD Cert.DownRefIdeal.τ).loc Cert.DownRefIdeal.main_arg2)
      ∧ r.2.mem ((c.tc : Thread Cert.DownRefIdeal.nD Cert.DownRefIdeal.τ).loc Cert.DownRefIdeal.main_arg3) = m ((c.tc : Thread Cert.DownRefIdeal.nD Cert.DownRefIdeal.τ).loc Cert.DownRefIdeal.main_arg3)
      ∧ r.2.mem ((c.tc : Thread Cert.DownRefIdeal.nD Cert.DownRefIdeal.τ).loc Cert.DownRefIdeal.main_arg4) = m ((c.tc : Thread Cert.DownRefIdeal.nD Cert.DownRefIdeal.τ).loc Cert.DownRefIdeal.main_arg4))
      ∧ r.2.sem = fun _ => 0)

def quiescent_DownMod [hDownMod : Cert.DownMod.Facts] : Prop :=
  ∀ (m : (ℓ : Loc Cert.DownMod.nD Cert.DownMod.τ Cert.DownMod.sig) → Buf (Elt Bits) ℓ) (g : Dev Cert.DownMod.nD → PrngReg), Pre_DownMod m →
    θ_run (Cert.DownMod.defs (F := Bits)) (onTc (τ := Cert.DownMod.τ) (Cert.DownMod.main (F := Bits))) ⟨m, fun _ => 0, g⟩ (fun r => (∀ c : Dev Cert.DownMod.nD,
      r.2.mem ((c.tc : Thread Cert.DownMod.nD Cert.DownMod.τ).loc Cert.DownMod.main_arg0) = m ((c.tc : Thread Cert.DownMod.nD Cert.DownMod.τ).loc Cert.DownMod.main_arg0)
      ∧ r.2.mem ((c.tc : Thread Cert.DownMod.nD Cert.DownMod.τ).loc Cert.DownMod.main_arg1) = m ((c.tc : Thread Cert.DownMod.nD Cert.DownMod.τ).loc Cert.DownMod.main_arg1)
      ∧ r.2.mem ((c.tc : Thread Cert.DownMod.nD Cert.DownMod.τ).loc Cert.DownMod.main_arg2) = m ((c.tc : Thread Cert.DownMod.nD Cert.DownMod.τ).loc Cert.DownMod.main_arg2)
      ∧ r.2.mem ((c.tc : Thread Cert.DownMod.nD Cert.DownMod.τ).loc Cert.DownMod.main_arg3) = m ((c.tc : Thread Cert.DownMod.nD Cert.DownMod.τ).loc Cert.DownMod.main_arg3)
      ∧ r.2.mem ((c.tc : Thread Cert.DownMod.nD Cert.DownMod.τ).loc Cert.DownMod.main_arg4) = m ((c.tc : Thread Cert.DownMod.nD Cert.DownMod.τ).loc Cert.DownMod.main_arg4))
      ∧ r.2.sem = fun _ => 0)

def quiescent_DownModIdeal [hDownModIdeal : Cert.DownModIdeal.Facts] : Prop :=
  ∀ (m : (ℓ : Loc Cert.DownModIdeal.nD Cert.DownModIdeal.τ Cert.DownModIdeal.sig) → Buf (Elt Ideal) ℓ) (g : Dev Cert.DownModIdeal.nD → PrngReg), Pre_DownModIdeal m →
    θ_run (Cert.DownModIdeal.defs (F := Ideal)) (onTc (τ := Cert.DownModIdeal.τ) (Cert.DownModIdeal.main (F := Ideal))) ⟨m, fun _ => 0, g⟩ (fun r => (∀ c : Dev Cert.DownModIdeal.nD,
      r.2.mem ((c.tc : Thread Cert.DownModIdeal.nD Cert.DownModIdeal.τ).loc Cert.DownModIdeal.main_arg0) = m ((c.tc : Thread Cert.DownModIdeal.nD Cert.DownModIdeal.τ).loc Cert.DownModIdeal.main_arg0)
      ∧ r.2.mem ((c.tc : Thread Cert.DownModIdeal.nD Cert.DownModIdeal.τ).loc Cert.DownModIdeal.main_arg1) = m ((c.tc : Thread Cert.DownModIdeal.nD Cert.DownModIdeal.τ).loc Cert.DownModIdeal.main_arg1)
      ∧ r.2.mem ((c.tc : Thread Cert.DownModIdeal.nD Cert.DownModIdeal.τ).loc Cert.DownModIdeal.main_arg2) = m ((c.tc : Thread Cert.DownModIdeal.nD Cert.DownModIdeal.τ).loc Cert.DownModIdeal.main_arg2)
      ∧ r.2.mem ((c.tc : Thread Cert.DownModIdeal.nD Cert.DownModIdeal.τ).loc Cert.DownModIdeal.main_arg3) = m ((c.tc : Thread Cert.DownModIdeal.nD Cert.DownModIdeal.τ).loc Cert.DownModIdeal.main_arg3)
      ∧ r.2.mem ((c.tc : Thread Cert.DownModIdeal.nD Cert.DownModIdeal.τ).loc Cert.DownModIdeal.main_arg4) = m ((c.tc : Thread Cert.DownModIdeal.nD Cert.DownModIdeal.τ).loc Cert.DownModIdeal.main_arg4))
      ∧ r.2.sem = fun _ => 0)

def quiescent_DownModRefIdeal [hDownModRefIdeal : Cert.DownModRefIdeal.Facts] : Prop :=
  ∀ (m : (ℓ : Loc Cert.DownModRefIdeal.nD Cert.DownModRefIdeal.τ Cert.DownModRefIdeal.sig) → Buf (Elt Ideal) ℓ) (g : Dev Cert.DownModRefIdeal.nD → PrngReg), Pre_DownModRefIdeal m →
    θ_run (Cert.DownModRefIdeal.defs (F := Ideal)) (onTc (τ := Cert.DownModRefIdeal.τ) (Cert.DownModRefIdeal.main (F := Ideal))) ⟨m, fun _ => 0, g⟩ (fun r => (∀ c : Dev Cert.DownModRefIdeal.nD,
      r.2.mem ((c.tc : Thread Cert.DownModRefIdeal.nD Cert.DownModRefIdeal.τ).loc Cert.DownModRefIdeal.main_arg0) = m ((c.tc : Thread Cert.DownModRefIdeal.nD Cert.DownModRefIdeal.τ).loc Cert.DownModRefIdeal.main_arg0)
      ∧ r.2.mem ((c.tc : Thread Cert.DownModRefIdeal.nD Cert.DownModRefIdeal.τ).loc Cert.DownModRefIdeal.main_arg1) = m ((c.tc : Thread Cert.DownModRefIdeal.nD Cert.DownModRefIdeal.τ).loc Cert.DownModRefIdeal.main_arg1)
      ∧ r.2.mem ((c.tc : Thread Cert.DownModRefIdeal.nD Cert.DownModRefIdeal.τ).loc Cert.DownModRefIdeal.main_arg2) = m ((c.tc : Thread Cert.DownModRefIdeal.nD Cert.DownModRefIdeal.τ).loc Cert.DownModRefIdeal.main_arg2)
      ∧ r.2.mem ((c.tc : Thread Cert.DownModRefIdeal.nD Cert.DownModRefIdeal.τ).loc Cert.DownModRefIdeal.main_arg3) = m ((c.tc : Thread Cert.DownModRefIdeal.nD Cert.DownModRefIdeal.τ).loc Cert.DownModRefIdeal.main_arg3)
      ∧ r.2.mem ((c.tc : Thread Cert.DownModRefIdeal.nD Cert.DownModRefIdeal.τ).loc Cert.DownModRefIdeal.main_arg4) = m ((c.tc : Thread Cert.DownModRefIdeal.nD Cert.DownModRefIdeal.τ).loc Cert.DownModRefIdeal.main_arg4))
      ∧ r.2.sem = fun _ => 0)

def quiescent_DownNext [hDownNext : Cert.DownNext.Facts] : Prop :=
  ∀ (m : (ℓ : Loc Cert.DownNext.nD Cert.DownNext.τ Cert.DownNext.sig) → Buf (Elt Bits) ℓ) (g : Dev Cert.DownNext.nD → PrngReg), Pre_DownNext m →
    θ_run (Cert.DownNext.defs (F := Bits)) (onTc (τ := Cert.DownNext.τ) (Cert.DownNext.main (F := Bits))) ⟨m, fun _ => 0, g⟩ (fun r => (∀ c : Dev Cert.DownNext.nD,
      r.2.mem ((c.tc : Thread Cert.DownNext.nD Cert.DownNext.τ).loc Cert.DownNext.main_arg0) = m ((c.tc : Thread Cert.DownNext.nD Cert.DownNext.τ).loc Cert.DownNext.main_arg0)
      ∧ r.2.mem ((c.tc : Thread Cert.DownNext.nD Cert.DownNext.τ).loc Cert.DownNext.main_arg1) = m ((c.tc : Thread Cert.DownNext.nD Cert.DownNext.τ).loc Cert.DownNext.main_arg1)
      ∧ r.2.mem ((c.tc : Thread Cert.DownNext.nD Cert.DownNext.τ).loc Cert.DownNext.main_arg2) = m ((c.tc : Thread Cert.DownNext.nD Cert.DownNext.τ).loc Cert.DownNext.main_arg2)
      ∧ r.2.mem ((c.tc : Thread Cert.DownNext.nD Cert.DownNext.τ).loc Cert.DownNext.main_arg3) = m ((c.tc : Thread Cert.DownNext.nD Cert.DownNext.τ).loc Cert.DownNext.main_arg3)
      ∧ r.2.mem ((c.tc : Thread Cert.DownNext.nD Cert.DownNext.τ).loc Cert.DownNext.main_arg4) = m ((c.tc : Thread Cert.DownNext.nD Cert.DownNext.τ).loc Cert.DownNext.main_arg4)
      ∧ r.2.mem ((c.tc : Thread Cert.DownNext.nD Cert.DownNext.τ).loc Cert.DownNext.main_arg5) = m ((c.tc : Thread Cert.DownNext.nD Cert.DownNext.τ).loc Cert.DownNext.main_arg5))
      ∧ r.2.sem = fun _ => 0)

def quiescent_DownNextIdeal [hDownNextIdeal : Cert.DownNextIdeal.Facts] : Prop :=
  ∀ (m : (ℓ : Loc Cert.DownNextIdeal.nD Cert.DownNextIdeal.τ Cert.DownNextIdeal.sig) → Buf (Elt Ideal) ℓ) (g : Dev Cert.DownNextIdeal.nD → PrngReg), Pre_DownNextIdeal m →
    θ_run (Cert.DownNextIdeal.defs (F := Ideal)) (onTc (τ := Cert.DownNextIdeal.τ) (Cert.DownNextIdeal.main (F := Ideal))) ⟨m, fun _ => 0, g⟩ (fun r => (∀ c : Dev Cert.DownNextIdeal.nD,
      r.2.mem ((c.tc : Thread Cert.DownNextIdeal.nD Cert.DownNextIdeal.τ).loc Cert.DownNextIdeal.main_arg0) = m ((c.tc : Thread Cert.DownNextIdeal.nD Cert.DownNextIdeal.τ).loc Cert.DownNextIdeal.main_arg0)
      ∧ r.2.mem ((c.tc : Thread Cert.DownNextIdeal.nD Cert.DownNextIdeal.τ).loc Cert.DownNextIdeal.main_arg1) = m ((c.tc : Thread Cert.DownNextIdeal.nD Cert.DownNextIdeal.τ).loc Cert.DownNextIdeal.main_arg1)
      ∧ r.2.mem ((c.tc : Thread Cert.DownNextIdeal.nD Cert.DownNextIdeal.τ).loc Cert.DownNextIdeal.main_arg2) = m ((c.tc : Thread Cert.DownNextIdeal.nD Cert.DownNextIdeal.τ).loc Cert.DownNextIdeal.main_arg2)
      ∧ r.2.mem ((c.tc : Thread Cert.DownNextIdeal.nD Cert.DownNextIdeal.τ).loc Cert.DownNextIdeal.main_arg3) = m ((c.tc : Thread Cert.DownNextIdeal.nD Cert.DownNextIdeal.τ).loc Cert.DownNextIdeal.main_arg3)
      ∧ r.2.mem ((c.tc : Thread Cert.DownNextIdeal.nD Cert.DownNextIdeal.τ).loc Cert.DownNextIdeal.main_arg4) = m ((c.tc : Thread Cert.DownNextIdeal.nD Cert.DownNextIdeal.τ).loc Cert.DownNextIdeal.main_arg4)
      ∧ r.2.mem ((c.tc : Thread Cert.DownNextIdeal.nD Cert.DownNextIdeal.τ).loc Cert.DownNextIdeal.main_arg5) = m ((c.tc : Thread Cert.DownNextIdeal.nD Cert.DownNextIdeal.τ).loc Cert.DownNextIdeal.main_arg5))
      ∧ r.2.sem = fun _ => 0)

def quiescent_DownNextRefIdeal [hDownNextRefIdeal : Cert.DownNextRefIdeal.Facts] : Prop :=
  ∀ (m : (ℓ : Loc Cert.DownNextRefIdeal.nD Cert.DownNextRefIdeal.τ Cert.DownNextRefIdeal.sig) → Buf (Elt Ideal) ℓ) (g : Dev Cert.DownNextRefIdeal.nD → PrngReg), Pre_DownNextRefIdeal m →
    θ_run (Cert.DownNextRefIdeal.defs (F := Ideal)) (onTc (τ := Cert.DownNextRefIdeal.τ) (Cert.DownNextRefIdeal.main (F := Ideal))) ⟨m, fun _ => 0, g⟩ (fun r => (∀ c : Dev Cert.DownNextRefIdeal.nD,
      r.2.mem ((c.tc : Thread Cert.DownNextRefIdeal.nD Cert.DownNextRefIdeal.τ).loc Cert.DownNextRefIdeal.main_arg0) = m ((c.tc : Thread Cert.DownNextRefIdeal.nD Cert.DownNextRefIdeal.τ).loc Cert.DownNextRefIdeal.main_arg0)
      ∧ r.2.mem ((c.tc : Thread Cert.DownNextRefIdeal.nD Cert.DownNextRefIdeal.τ).loc Cert.DownNextRefIdeal.main_arg1) = m ((c.tc : Thread Cert.DownNextRefIdeal.nD Cert.DownNextRefIdeal.τ).loc Cert.DownNextRefIdeal.main_arg1)
      ∧ r.2.mem ((c.tc : Thread Cert.DownNextRefIdeal.nD Cert.DownNextRefIdeal.τ).loc Cert.DownNextRefIdeal.main_arg2) = m ((c.tc : Thread Cert.DownNextRefIdeal.nD Cert.DownNextRefIdeal.τ).loc Cert.DownNextRefIdeal.main_arg2)
      ∧ r.2.mem ((c.tc : Thread Cert.DownNextRefIdeal.nD Cert.DownNextRefIdeal.τ).loc Cert.DownNextRefIdeal.main_arg3) = m ((c.tc : Thread Cert.DownNextRefIdeal.nD Cert.DownNextRefIdeal.τ).loc Cert.DownNextRefIdeal.main_arg3)
      ∧ r.2.mem ((c.tc : Thread Cert.DownNextRefIdeal.nD Cert.DownNextRefIdeal.τ).loc Cert.DownNextRefIdeal.main_arg4) = m ((c.tc : Thread Cert.DownNextRefIdeal.nD Cert.DownNextRefIdeal.τ).loc Cert.DownNextRefIdeal.main_arg4)
      ∧ r.2.mem ((c.tc : Thread Cert.DownNextRefIdeal.nD Cert.DownNextRefIdeal.τ).loc Cert.DownNextRefIdeal.main_arg5) = m ((c.tc : Thread Cert.DownNextRefIdeal.nD Cert.DownNextRefIdeal.τ).loc Cert.DownNextRefIdeal.main_arg5))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v51) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Swiglu_SwigluIdeal : Prop :=
  True

def algebraic_SwigluIdeal_SwigluRefIdeal [hSwigluIdeal : Cert.SwigluIdeal.Facts] [hSwigluRefIdeal : Cert.SwigluRefIdeal.Facts] : Prop :=
  ∀ (m : (ℓ : Loc Cert.SwigluIdeal.nD Cert.SwigluIdeal.τ Cert.SwigluIdeal.sig) → Buf (Elt Ideal) ℓ) (g : Dev Cert.SwigluIdeal.nD → PrngReg)
    (m' : (ℓ : Loc Cert.SwigluRefIdeal.nD Cert.SwigluRefIdeal.τ Cert.SwigluRefIdeal.sig) → Buf (Elt Ideal) ℓ) (g' : Dev Cert.SwigluRefIdeal.nD → PrngReg), Pre_SwigluIdeal m →
    (∀ c : Dev Cert.SwigluIdeal.nD,
      m' ((c.tc : Thread Cert.SwigluRefIdeal.nD Cert.SwigluRefIdeal.τ).loc Cert.SwigluRefIdeal.main_arg0) = m ((c.tc : Thread Cert.SwigluIdeal.nD Cert.SwigluIdeal.τ).loc Cert.SwigluIdeal.main_arg0)
      ∧ m' ((c.tc : Thread Cert.SwigluRefIdeal.nD Cert.SwigluRefIdeal.τ).loc Cert.SwigluRefIdeal.main_arg1) = m ((c.tc : Thread Cert.SwigluIdeal.nD Cert.SwigluIdeal.τ).loc Cert.SwigluIdeal.main_arg1)
      ∧ m' ((c.tc : Thread Cert.SwigluRefIdeal.nD Cert.SwigluRefIdeal.τ).loc Cert.SwigluRefIdeal.main_arg2) = m ((c.tc : Thread Cert.SwigluIdeal.nD Cert.SwigluIdeal.τ).loc Cert.SwigluIdeal.main_arg2)) →
    ∃ (v0 : (c : Dev Cert.SwigluIdeal.nD) → Buf (Elt Ideal) ((c.tc : Thread Cert.SwigluIdeal.nD Cert.SwigluIdeal.τ).loc Cert.SwigluIdeal.main_v0)),
      θ_run (Cert.SwigluIdeal.defs (F := Ideal)) (onTc (τ := Cert.SwigluIdeal.τ) (Cert.SwigluIdeal.main (F := Ideal))) ⟨m, fun _ => 0, g⟩ (fun r => ∀ c : Dev Cert.SwigluIdeal.nD,
          r.2.mem ((c.tc : Thread Cert.SwigluIdeal.nD Cert.SwigluIdeal.τ).loc Cert.SwigluIdeal.main_v0) = v0 c
          ∧ r.2.mem ((c.tc : Thread Cert.SwigluIdeal.nD Cert.SwigluIdeal.τ).loc Cert.SwigluIdeal.main_arg0) = m ((c.tc : Thread Cert.SwigluIdeal.nD Cert.SwigluIdeal.τ).loc Cert.SwigluIdeal.main_arg0)
          ∧ r.2.mem ((c.tc : Thread Cert.SwigluIdeal.nD Cert.SwigluIdeal.τ).loc Cert.SwigluIdeal.main_arg1) = m ((c.tc : Thread Cert.SwigluIdeal.nD Cert.SwigluIdeal.τ).loc Cert.SwigluIdeal.main_arg1)
          ∧ r.2.mem ((c.tc : Thread Cert.SwigluIdeal.nD Cert.SwigluIdeal.τ).loc Cert.SwigluIdeal.main_arg2) = m ((c.tc : Thread Cert.SwigluIdeal.nD Cert.SwigluIdeal.τ).loc Cert.SwigluIdeal.main_arg2))
      ∧ θ_run (Cert.SwigluRefIdeal.defs (F := Ideal)) (onTc (τ := Cert.SwigluRefIdeal.τ) (Cert.SwigluRefIdeal.main (F := Ideal))) ⟨m', fun _ => 0, g'⟩ (fun r => ∀ c : Dev Cert.SwigluRefIdeal.nD,
          r.2.mem ((c.tc : Thread Cert.SwigluRefIdeal.nD Cert.SwigluRefIdeal.τ).loc Cert.SwigluRefIdeal.main_v11) = v0 c
          ∧ r.2.mem ((c.tc : Thread Cert.SwigluRefIdeal.nD Cert.SwigluRefIdeal.τ).loc Cert.SwigluRefIdeal.main_arg0) = m' ((c.tc : Thread Cert.SwigluRefIdeal.nD Cert.SwigluRefIdeal.τ).loc Cert.SwigluRefIdeal.main_arg0)
          ∧ r.2.mem ((c.tc : Thread Cert.SwigluRefIdeal.nD Cert.SwigluRefIdeal.τ).loc Cert.SwigluRefIdeal.main_arg1) = m' ((c.tc : Thread Cert.SwigluRefIdeal.nD Cert.SwigluRefIdeal.τ).loc Cert.SwigluRefIdeal.main_arg1)
          ∧ r.2.mem ((c.tc : Thread Cert.SwigluRefIdeal.nD Cert.SwigluRefIdeal.τ).loc Cert.SwigluRefIdeal.main_arg2) = m' ((c.tc : Thread Cert.SwigluRefIdeal.nD Cert.SwigluRefIdeal.τ).loc Cert.SwigluRefIdeal.main_arg2))

def preserves_Glu_GluIdeal : Prop :=
  True

def algebraic_GluIdeal_GluRefIdeal [hGluIdeal : Cert.GluIdeal.Facts] [hGluRefIdeal : Cert.GluRefIdeal.Facts] : Prop :=
  ∀ (m : (ℓ : Loc Cert.GluIdeal.nD Cert.GluIdeal.τ Cert.GluIdeal.sig) → Buf (Elt Ideal) ℓ) (g : Dev Cert.GluIdeal.nD → PrngReg)
    (m' : (ℓ : Loc Cert.GluRefIdeal.nD Cert.GluRefIdeal.τ Cert.GluRefIdeal.sig) → Buf (Elt Ideal) ℓ) (g' : Dev Cert.GluRefIdeal.nD → PrngReg), Pre_GluIdeal m →
    (∀ c : Dev Cert.GluIdeal.nD,
      m' ((c.tc : Thread Cert.GluRefIdeal.nD Cert.GluRefIdeal.τ).loc Cert.GluRefIdeal.main_arg0) = m ((c.tc : Thread Cert.GluIdeal.nD Cert.GluIdeal.τ).loc Cert.GluIdeal.main_arg0)
      ∧ m' ((c.tc : Thread Cert.GluRefIdeal.nD Cert.GluRefIdeal.τ).loc Cert.GluRefIdeal.main_arg1) = m ((c.tc : Thread Cert.GluIdeal.nD Cert.GluIdeal.τ).loc Cert.GluIdeal.main_arg1)
      ∧ m' ((c.tc : Thread Cert.GluRefIdeal.nD Cert.GluRefIdeal.τ).loc Cert.GluRefIdeal.main_arg2) = m ((c.tc : Thread Cert.GluIdeal.nD Cert.GluIdeal.τ).loc Cert.GluIdeal.main_arg2)) →
    ∃ (v0 : (c : Dev Cert.GluIdeal.nD) → Buf (Elt Ideal) ((c.tc : Thread Cert.GluIdeal.nD Cert.GluIdeal.τ).loc Cert.GluIdeal.main_v3)),
      θ_run (Cert.GluIdeal.defs (F := Ideal)) (onTc (τ := Cert.GluIdeal.τ) (Cert.GluIdeal.main (F := Ideal))) ⟨m, fun _ => 0, g⟩ (fun r => ∀ c : Dev Cert.GluIdeal.nD,
          r.2.mem ((c.tc : Thread Cert.GluIdeal.nD Cert.GluIdeal.τ).loc Cert.GluIdeal.main_v3) = v0 c
          ∧ r.2.mem ((c.tc : Thread Cert.GluIdeal.nD Cert.GluIdeal.τ).loc Cert.GluIdeal.main_arg0) = m ((c.tc : Thread Cert.GluIdeal.nD Cert.GluIdeal.τ).loc Cert.GluIdeal.main_arg0)
          ∧ r.2.mem ((c.tc : Thread Cert.GluIdeal.nD Cert.GluIdeal.τ).loc Cert.GluIdeal.main_arg1) = m ((c.tc : Thread Cert.GluIdeal.nD Cert.GluIdeal.τ).loc Cert.GluIdeal.main_arg1)
          ∧ r.2.mem ((c.tc : Thread Cert.GluIdeal.nD Cert.GluIdeal.τ).loc Cert.GluIdeal.main_arg2) = m ((c.tc : Thread Cert.GluIdeal.nD Cert.GluIdeal.τ).loc Cert.GluIdeal.main_arg2))
      ∧ θ_run (Cert.GluRefIdeal.defs (F := Ideal)) (onTc (τ := Cert.GluRefIdeal.τ) (Cert.GluRefIdeal.main (F := Ideal))) ⟨m', fun _ => 0, g'⟩ (fun r => ∀ c : Dev Cert.GluRefIdeal.nD,
          r.2.mem ((c.tc : Thread Cert.GluRefIdeal.nD Cert.GluRefIdeal.τ).loc Cert.GluRefIdeal.main_v19) = v0 c
          ∧ r.2.mem ((c.tc : Thread Cert.GluRefIdeal.nD Cert.GluRefIdeal.τ).loc Cert.GluRefIdeal.main_arg0) = m' ((c.tc : Thread Cert.GluRefIdeal.nD Cert.GluRefIdeal.τ).loc Cert.GluRefIdeal.main_arg0)
          ∧ r.2.mem ((c.tc : Thread Cert.GluRefIdeal.nD Cert.GluRefIdeal.τ).loc Cert.GluRefIdeal.main_arg1) = m' ((c.tc : Thread Cert.GluRefIdeal.nD Cert.GluRefIdeal.τ).loc Cert.GluRefIdeal.main_arg1)
          ∧ r.2.mem ((c.tc : Thread Cert.GluRefIdeal.nD Cert.GluRefIdeal.τ).loc Cert.GluRefIdeal.main_arg2) = m' ((c.tc : Thread Cert.GluRefIdeal.nD Cert.GluRefIdeal.τ).loc Cert.GluRefIdeal.main_arg2))

def preserves_Proj_ProjIdeal : Prop :=
  True

def algebraic_ProjIdeal_ProjRefIdeal [hProjIdeal : Cert.ProjIdeal.Facts] [hProjRefIdeal : Cert.ProjRefIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjRefIdeal.nD Cert.ProjRefIdeal.τ Cert.ProjRefIdeal.sig) → Buf (Elt Ideal) ℓ) (g' : Dev Cert.ProjRefIdeal.nD → PrngReg), Pre_ProjIdeal m →
    (∀ c : Dev Cert.ProjIdeal.nD,
      m' ((c.tc : Thread Cert.ProjRefIdeal.nD Cert.ProjRefIdeal.τ).loc Cert.ProjRefIdeal.main_arg0) = m ((c.tc : Thread Cert.ProjIdeal.nD Cert.ProjIdeal.τ).loc Cert.ProjIdeal.main_arg0)
      ∧ m' ((c.tc : Thread Cert.ProjRefIdeal.nD Cert.ProjRefIdeal.τ).loc Cert.ProjRefIdeal.main_arg1) = m ((c.tc : Thread Cert.ProjIdeal.nD Cert.ProjIdeal.τ).loc Cert.ProjIdeal.main_arg1)) →
    ∃ (v0 : (c : Dev Cert.ProjIdeal.nD) → Buf (Elt Ideal) ((c.tc : Thread Cert.ProjIdeal.nD Cert.ProjIdeal.τ).loc Cert.ProjIdeal.main_v0)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v0) = v0 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1))
      ∧ θ_run (Cert.ProjRefIdeal.defs (F := Ideal)) (onTc (τ := Cert.ProjRefIdeal.τ) (Cert.ProjRefIdeal.main (F := Ideal))) ⟨m', fun _ => 0, g'⟩ (fun r => ∀ c : Dev Cert.ProjRefIdeal.nD,
          r.2.mem ((c.tc : Thread Cert.ProjRefIdeal.nD Cert.ProjRefIdeal.τ).loc Cert.ProjRefIdeal.main_v5) = v0 c
          ∧ r.2.mem ((c.tc : Thread Cert.ProjRefIdeal.nD Cert.ProjRefIdeal.τ).loc Cert.ProjRefIdeal.main_arg0) = m' ((c.tc : Thread Cert.ProjRefIdeal.nD Cert.ProjRefIdeal.τ).loc Cert.ProjRefIdeal.main_arg0)
          ∧ r.2.mem ((c.tc : Thread Cert.ProjRefIdeal.nD Cert.ProjRefIdeal.τ).loc Cert.ProjRefIdeal.main_arg1) = m' ((c.tc : Thread Cert.ProjRefIdeal.nD Cert.ProjRefIdeal.τ).loc Cert.ProjRefIdeal.main_arg1))

def preserves_Down_DownIdeal : Prop :=
  True

def algebraic_DownIdeal_DownRefIdeal [hDownIdeal : Cert.DownIdeal.Facts] [hDownRefIdeal : Cert.DownRefIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownRefIdeal.nD Cert.DownRefIdeal.τ Cert.DownRefIdeal.sig) → Buf (Elt Ideal) ℓ) (g' : Dev Cert.DownRefIdeal.nD → PrngReg), Pre_DownIdeal m →
    (∀ c : Dev Cert.DownIdeal.nD,
      m' ((c.tc : Thread Cert.DownRefIdeal.nD Cert.DownRefIdeal.τ).loc Cert.DownRefIdeal.main_arg0) = m ((c.tc : Thread Cert.DownIdeal.nD Cert.DownIdeal.τ).loc Cert.DownIdeal.main_arg0)
      ∧ m' ((c.tc : Thread Cert.DownRefIdeal.nD Cert.DownRefIdeal.τ).loc Cert.DownRefIdeal.main_arg1) = m ((c.tc : Thread Cert.DownIdeal.nD Cert.DownIdeal.τ).loc Cert.DownIdeal.main_arg1)
      ∧ m' ((c.tc : Thread Cert.DownRefIdeal.nD Cert.DownRefIdeal.τ).loc Cert.DownRefIdeal.main_arg2) = m ((c.tc : Thread Cert.DownIdeal.nD Cert.DownIdeal.τ).loc Cert.DownIdeal.main_arg2)
      ∧ m' ((c.tc : Thread Cert.DownRefIdeal.nD Cert.DownRefIdeal.τ).loc Cert.DownRefIdeal.main_arg3) = m ((c.tc : Thread Cert.DownIdeal.nD Cert.DownIdeal.τ).loc Cert.DownIdeal.main_arg3)
      ∧ m' ((c.tc : Thread Cert.DownRefIdeal.nD Cert.DownRefIdeal.τ).loc Cert.DownRefIdeal.main_arg4) = m ((c.tc : Thread Cert.DownIdeal.nD Cert.DownIdeal.τ).loc Cert.DownIdeal.main_arg4)) →
    ∃ (v0 : (c : Dev Cert.DownIdeal.nD) → Buf (Elt Ideal) ((c.tc : Thread Cert.DownIdeal.nD Cert.DownIdeal.τ).loc Cert.DownIdeal.main_v2)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v2) = v0 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
          ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
          ∧ r.2.mem ((c.tc : Thread Cert.DownIdeal.nD Cert.DownIdeal.τ).loc Cert.DownIdeal.main_arg3) = m ((c.tc : Thread Cert.DownIdeal.nD Cert.DownIdeal.τ).loc Cert.DownIdeal.main_arg3)
          ∧ r.2.mem ((c.tc : Thread Cert.DownIdeal.nD Cert.DownIdeal.τ).loc Cert.DownIdeal.main_arg4) = m ((c.tc : Thread Cert.DownIdeal.nD Cert.DownIdeal.τ).loc Cert.DownIdeal.main_arg4))
      ∧ θ_run (Cert.DownRefIdeal.defs (F := Ideal)) (onTc (τ := Cert.DownRefIdeal.τ) (Cert.DownRefIdeal.main (F := Ideal))) ⟨m', fun _ => 0, g'⟩ (fun r => ∀ c : Dev Cert.DownRefIdeal.nD,
          r.2.mem ((c.tc : Thread Cert.DownRefIdeal.nD Cert.DownRefIdeal.τ).loc Cert.DownRefIdeal.main_v34) = v0 c
          ∧ r.2.mem ((c.tc : Thread Cert.DownRefIdeal.nD Cert.DownRefIdeal.τ).loc Cert.DownRefIdeal.main_arg0) = m' ((c.tc : Thread Cert.DownRefIdeal.nD Cert.DownRefIdeal.τ).loc Cert.DownRefIdeal.main_arg0)
          ∧ r.2.mem ((c.tc : Thread Cert.DownRefIdeal.nD Cert.DownRefIdeal.τ).loc Cert.DownRefIdeal.main_arg1) = m' ((c.tc : Thread Cert.DownRefIdeal.nD Cert.DownRefIdeal.τ).loc Cert.DownRefIdeal.main_arg1)
          ∧ r.2.mem ((c.tc : Thread Cert.DownRefIdeal.nD Cert.DownRefIdeal.τ).loc Cert.DownRefIdeal.main_arg2) = m' ((c.tc : Thread Cert.DownRefIdeal.nD Cert.DownRefIdeal.τ).loc Cert.DownRefIdeal.main_arg2)
          ∧ r.2.mem ((c.tc : Thread Cert.DownRefIdeal.nD Cert.DownRefIdeal.τ).loc Cert.DownRefIdeal.main_arg3) = m' ((c.tc : Thread Cert.DownRefIdeal.nD Cert.DownRefIdeal.τ).loc Cert.DownRefIdeal.main_arg3)
          ∧ r.2.mem ((c.tc : Thread Cert.DownRefIdeal.nD Cert.DownRefIdeal.τ).loc Cert.DownRefIdeal.main_arg4) = m' ((c.tc : Thread Cert.DownRefIdeal.nD Cert.DownRefIdeal.τ).loc Cert.DownRefIdeal.main_arg4))

def preserves_DownMod_DownModIdeal : Prop :=
  True

def algebraic_DownModIdeal_DownModRefIdeal [hDownModIdeal : Cert.DownModIdeal.Facts] [hDownModRefIdeal : Cert.DownModRefIdeal.Facts] : Prop :=
  ∀ (m : (ℓ : Loc Cert.DownModIdeal.nD Cert.DownModIdeal.τ Cert.DownModIdeal.sig) → Buf (Elt Ideal) ℓ) (g : Dev Cert.DownModIdeal.nD → PrngReg)
    (m' : (ℓ : Loc Cert.DownModRefIdeal.nD Cert.DownModRefIdeal.τ Cert.DownModRefIdeal.sig) → Buf (Elt Ideal) ℓ) (g' : Dev Cert.DownModRefIdeal.nD → PrngReg), Pre_DownModIdeal m →
    (∀ c : Dev Cert.DownModIdeal.nD,
      m' ((c.tc : Thread Cert.DownModRefIdeal.nD Cert.DownModRefIdeal.τ).loc Cert.DownModRefIdeal.main_arg0) = m ((c.tc : Thread Cert.DownModIdeal.nD Cert.DownModIdeal.τ).loc Cert.DownModIdeal.main_arg0)
      ∧ m' ((c.tc : Thread Cert.DownModRefIdeal.nD Cert.DownModRefIdeal.τ).loc Cert.DownModRefIdeal.main_arg1) = m ((c.tc : Thread Cert.DownModIdeal.nD Cert.DownModIdeal.τ).loc Cert.DownModIdeal.main_arg1)
      ∧ m' ((c.tc : Thread Cert.DownModRefIdeal.nD Cert.DownModRefIdeal.τ).loc Cert.DownModRefIdeal.main_arg2) = m ((c.tc : Thread Cert.DownModIdeal.nD Cert.DownModIdeal.τ).loc Cert.DownModIdeal.main_arg2)
      ∧ m' ((c.tc : Thread Cert.DownModRefIdeal.nD Cert.DownModRefIdeal.τ).loc Cert.DownModRefIdeal.main_arg3) = m ((c.tc : Thread Cert.DownModIdeal.nD Cert.DownModIdeal.τ).loc Cert.DownModIdeal.main_arg3)
      ∧ m' ((c.tc : Thread Cert.DownModRefIdeal.nD Cert.DownModRefIdeal.τ).loc Cert.DownModRefIdeal.main_arg4) = m ((c.tc : Thread Cert.DownModIdeal.nD Cert.DownModIdeal.τ).loc Cert.DownModIdeal.main_arg4)) →
    ∃ (v0 : (c : Dev Cert.DownModIdeal.nD) → Buf (Elt Ideal) ((c.tc : Thread Cert.DownModIdeal.nD Cert.DownModIdeal.τ).loc Cert.DownModIdeal.main_v2_0)) (v1 : (c : Dev Cert.DownModIdeal.nD) → Buf (Elt Ideal) ((c.tc : Thread Cert.DownModIdeal.nD Cert.DownModIdeal.τ).loc Cert.DownModIdeal.main_v2_1)),
      θ_run (Cert.DownModIdeal.defs (F := Ideal)) (onTc (τ := Cert.DownModIdeal.τ) (Cert.DownModIdeal.main (F := Ideal))) ⟨m, fun _ => 0, g⟩ (fun r => ∀ c : Dev Cert.DownModIdeal.nD,
          r.2.mem ((c.tc : Thread Cert.DownModIdeal.nD Cert.DownModIdeal.τ).loc Cert.DownModIdeal.main_v2_0) = v0 c
          ∧ r.2.mem ((c.tc : Thread Cert.DownModIdeal.nD Cert.DownModIdeal.τ).loc Cert.DownModIdeal.main_v2_1) = v1 c
          ∧ r.2.mem ((c.tc : Thread Cert.DownModIdeal.nD Cert.DownModIdeal.τ).loc Cert.DownModIdeal.main_arg0) = m ((c.tc : Thread Cert.DownModIdeal.nD Cert.DownModIdeal.τ).loc Cert.DownModIdeal.main_arg0)
          ∧ r.2.mem ((c.tc : Thread Cert.DownModIdeal.nD Cert.DownModIdeal.τ).loc Cert.DownModIdeal.main_arg1) = m ((c.tc : Thread Cert.DownModIdeal.nD Cert.DownModIdeal.τ).loc Cert.DownModIdeal.main_arg1)
          ∧ r.2.mem ((c.tc : Thread Cert.DownModIdeal.nD Cert.DownModIdeal.τ).loc Cert.DownModIdeal.main_arg2) = m ((c.tc : Thread Cert.DownModIdeal.nD Cert.DownModIdeal.τ).loc Cert.DownModIdeal.main_arg2)
          ∧ r.2.mem ((c.tc : Thread Cert.DownModIdeal.nD Cert.DownModIdeal.τ).loc Cert.DownModIdeal.main_arg3) = m ((c.tc : Thread Cert.DownModIdeal.nD Cert.DownModIdeal.τ).loc Cert.DownModIdeal.main_arg3)
          ∧ r.2.mem ((c.tc : Thread Cert.DownModIdeal.nD Cert.DownModIdeal.τ).loc Cert.DownModIdeal.main_arg4) = m ((c.tc : Thread Cert.DownModIdeal.nD Cert.DownModIdeal.τ).loc Cert.DownModIdeal.main_arg4))
      ∧ θ_run (Cert.DownModRefIdeal.defs (F := Ideal)) (onTc (τ := Cert.DownModRefIdeal.τ) (Cert.DownModRefIdeal.main (F := Ideal))) ⟨m', fun _ => 0, g'⟩ (fun r => ∀ c : Dev Cert.DownModRefIdeal.nD,
          r.2.mem ((c.tc : Thread Cert.DownModRefIdeal.nD Cert.DownModRefIdeal.τ).loc Cert.DownModRefIdeal.main_v40) = v0 c
          ∧ r.2.mem ((c.tc : Thread Cert.DownModRefIdeal.nD Cert.DownModRefIdeal.τ).loc Cert.DownModRefIdeal.main_v42) = v1 c
          ∧ r.2.mem ((c.tc : Thread Cert.DownModRefIdeal.nD Cert.DownModRefIdeal.τ).loc Cert.DownModRefIdeal.main_arg0) = m' ((c.tc : Thread Cert.DownModRefIdeal.nD Cert.DownModRefIdeal.τ).loc Cert.DownModRefIdeal.main_arg0)
          ∧ r.2.mem ((c.tc : Thread Cert.DownModRefIdeal.nD Cert.DownModRefIdeal.τ).loc Cert.DownModRefIdeal.main_arg1) = m' ((c.tc : Thread Cert.DownModRefIdeal.nD Cert.DownModRefIdeal.τ).loc Cert.DownModRefIdeal.main_arg1)
          ∧ r.2.mem ((c.tc : Thread Cert.DownModRefIdeal.nD Cert.DownModRefIdeal.τ).loc Cert.DownModRefIdeal.main_arg2) = m' ((c.tc : Thread Cert.DownModRefIdeal.nD Cert.DownModRefIdeal.τ).loc Cert.DownModRefIdeal.main_arg2)
          ∧ r.2.mem ((c.tc : Thread Cert.DownModRefIdeal.nD Cert.DownModRefIdeal.τ).loc Cert.DownModRefIdeal.main_arg3) = m' ((c.tc : Thread Cert.DownModRefIdeal.nD Cert.DownModRefIdeal.τ).loc Cert.DownModRefIdeal.main_arg3)
          ∧ r.2.mem ((c.tc : Thread Cert.DownModRefIdeal.nD Cert.DownModRefIdeal.τ).loc Cert.DownModRefIdeal.main_arg4) = m' ((c.tc : Thread Cert.DownModRefIdeal.nD Cert.DownModRefIdeal.τ).loc Cert.DownModRefIdeal.main_arg4))

def preserves_DownNext_DownNextIdeal : Prop :=
  True

def algebraic_DownNextIdeal_DownNextRefIdeal [hDownNextIdeal : Cert.DownNextIdeal.Facts] [hDownNextRefIdeal : Cert.DownNextRefIdeal.Facts] : Prop :=
  ∀ (m : (ℓ : Loc Cert.DownNextIdeal.nD Cert.DownNextIdeal.τ Cert.DownNextIdeal.sig) → Buf (Elt Ideal) ℓ) (g : Dev Cert.DownNextIdeal.nD → PrngReg)
    (m' : (ℓ : Loc Cert.DownNextRefIdeal.nD Cert.DownNextRefIdeal.τ Cert.DownNextRefIdeal.sig) → Buf (Elt Ideal) ℓ) (g' : Dev Cert.DownNextRefIdeal.nD → PrngReg), Pre_DownNextIdeal m →
    (∀ c : Dev Cert.DownNextIdeal.nD,
      m' ((c.tc : Thread Cert.DownNextRefIdeal.nD Cert.DownNextRefIdeal.τ).loc Cert.DownNextRefIdeal.main_arg0) = m ((c.tc : Thread Cert.DownNextIdeal.nD Cert.DownNextIdeal.τ).loc Cert.DownNextIdeal.main_arg0)
      ∧ m' ((c.tc : Thread Cert.DownNextRefIdeal.nD Cert.DownNextRefIdeal.τ).loc Cert.DownNextRefIdeal.main_arg1) = m ((c.tc : Thread Cert.DownNextIdeal.nD Cert.DownNextIdeal.τ).loc Cert.DownNextIdeal.main_arg1)
      ∧ m' ((c.tc : Thread Cert.DownNextRefIdeal.nD Cert.DownNextRefIdeal.τ).loc Cert.DownNextRefIdeal.main_arg2) = m ((c.tc : Thread Cert.DownNextIdeal.nD Cert.DownNextIdeal.τ).loc Cert.DownNextIdeal.main_arg2)
      ∧ m' ((c.tc : Thread Cert.DownNextRefIdeal.nD Cert.DownNextRefIdeal.τ).loc Cert.DownNextRefIdeal.main_arg3) = m ((c.tc : Thread Cert.DownNextIdeal.nD Cert.DownNextIdeal.τ).loc Cert.DownNextIdeal.main_arg3)
      ∧ m' ((c.tc : Thread Cert.DownNextRefIdeal.nD Cert.DownNextRefIdeal.τ).loc Cert.DownNextRefIdeal.main_arg4) = m ((c.tc : Thread Cert.DownNextIdeal.nD Cert.DownNextIdeal.τ).loc Cert.DownNextIdeal.main_arg4)
      ∧ m' ((c.tc : Thread Cert.DownNextRefIdeal.nD Cert.DownNextRefIdeal.τ).loc Cert.DownNextRefIdeal.main_arg5) = m ((c.tc : Thread Cert.DownNextIdeal.nD Cert.DownNextIdeal.τ).loc Cert.DownNextIdeal.main_arg5)) →
    ∃ (v0 : (c : Dev Cert.DownNextIdeal.nD) → Buf (Elt Ideal) ((c.tc : Thread Cert.DownNextIdeal.nD Cert.DownNextIdeal.τ).loc Cert.DownNextIdeal.main_v3_0)) (v1 : (c : Dev Cert.DownNextIdeal.nD) → Buf (Elt Ideal) ((c.tc : Thread Cert.DownNextIdeal.nD Cert.DownNextIdeal.τ).loc Cert.DownNextIdeal.main_v3_1)),
      θ_run (Cert.DownNextIdeal.defs (F := Ideal)) (onTc (τ := Cert.DownNextIdeal.τ) (Cert.DownNextIdeal.main (F := Ideal))) ⟨m, fun _ => 0, g⟩ (fun r => ∀ c : Dev Cert.DownNextIdeal.nD,
          r.2.mem ((c.tc : Thread Cert.DownNextIdeal.nD Cert.DownNextIdeal.τ).loc Cert.DownNextIdeal.main_v3_0) = v0 c
          ∧ r.2.mem ((c.tc : Thread Cert.DownNextIdeal.nD Cert.DownNextIdeal.τ).loc Cert.DownNextIdeal.main_v3_1) = v1 c
          ∧ r.2.mem ((c.tc : Thread Cert.DownNextIdeal.nD Cert.DownNextIdeal.τ).loc Cert.DownNextIdeal.main_arg0) = m ((c.tc : Thread Cert.DownNextIdeal.nD Cert.DownNextIdeal.τ).loc Cert.DownNextIdeal.main_arg0)
          ∧ r.2.mem ((c.tc : Thread Cert.DownNextIdeal.nD Cert.DownNextIdeal.τ).loc Cert.DownNextIdeal.main_arg1) = m ((c.tc : Thread Cert.DownNextIdeal.nD Cert.DownNextIdeal.τ).loc Cert.DownNextIdeal.main_arg1)
          ∧ r.2.mem ((c.tc : Thread Cert.DownNextIdeal.nD Cert.DownNextIdeal.τ).loc Cert.DownNextIdeal.main_arg2) = m ((c.tc : Thread Cert.DownNextIdeal.nD Cert.DownNextIdeal.τ).loc Cert.DownNextIdeal.main_arg2)
          ∧ r.2.mem ((c.tc : Thread Cert.DownNextIdeal.nD Cert.DownNextIdeal.τ).loc Cert.DownNextIdeal.main_arg3) = m ((c.tc : Thread Cert.DownNextIdeal.nD Cert.DownNextIdeal.τ).loc Cert.DownNextIdeal.main_arg3)
          ∧ r.2.mem ((c.tc : Thread Cert.DownNextIdeal.nD Cert.DownNextIdeal.τ).loc Cert.DownNextIdeal.main_arg4) = m ((c.tc : Thread Cert.DownNextIdeal.nD Cert.DownNextIdeal.τ).loc Cert.DownNextIdeal.main_arg4)
          ∧ r.2.mem ((c.tc : Thread Cert.DownNextIdeal.nD Cert.DownNextIdeal.τ).loc Cert.DownNextIdeal.main_arg5) = m ((c.tc : Thread Cert.DownNextIdeal.nD Cert.DownNextIdeal.τ).loc Cert.DownNextIdeal.main_arg5))
      ∧ θ_run (Cert.DownNextRefIdeal.defs (F := Ideal)) (onTc (τ := Cert.DownNextRefIdeal.τ) (Cert.DownNextRefIdeal.main (F := Ideal))) ⟨m', fun _ => 0, g'⟩ (fun r => ∀ c : Dev Cert.DownNextRefIdeal.nD,
          r.2.mem ((c.tc : Thread Cert.DownNextRefIdeal.nD Cert.DownNextRefIdeal.τ).loc Cert.DownNextRefIdeal.main_v50) = v0 c
          ∧ r.2.mem ((c.tc : Thread Cert.DownNextRefIdeal.nD Cert.DownNextRefIdeal.τ).loc Cert.DownNextRefIdeal.main_v52) = v1 c
          ∧ r.2.mem ((c.tc : Thread Cert.DownNextRefIdeal.nD Cert.DownNextRefIdeal.τ).loc Cert.DownNextRefIdeal.main_arg0) = m' ((c.tc : Thread Cert.DownNextRefIdeal.nD Cert.DownNextRefIdeal.τ).loc Cert.DownNextRefIdeal.main_arg0)
          ∧ r.2.mem ((c.tc : Thread Cert.DownNextRefIdeal.nD Cert.DownNextRefIdeal.τ).loc Cert.DownNextRefIdeal.main_arg1) = m' ((c.tc : Thread Cert.DownNextRefIdeal.nD Cert.DownNextRefIdeal.τ).loc Cert.DownNextRefIdeal.main_arg1)
          ∧ r.2.mem ((c.tc : Thread Cert.DownNextRefIdeal.nD Cert.DownNextRefIdeal.τ).loc Cert.DownNextRefIdeal.main_arg2) = m' ((c.tc : Thread Cert.DownNextRefIdeal.nD Cert.DownNextRefIdeal.τ).loc Cert.DownNextRefIdeal.main_arg2)
          ∧ r.2.mem ((c.tc : Thread Cert.DownNextRefIdeal.nD Cert.DownNextRefIdeal.τ).loc Cert.DownNextRefIdeal.main_arg3) = m' ((c.tc : Thread Cert.DownNextRefIdeal.nD Cert.DownNextRefIdeal.τ).loc Cert.DownNextRefIdeal.main_arg3)
          ∧ r.2.mem ((c.tc : Thread Cert.DownNextRefIdeal.nD Cert.DownNextRefIdeal.τ).loc Cert.DownNextRefIdeal.main_arg4) = m' ((c.tc : Thread Cert.DownNextRefIdeal.nD Cert.DownNextRefIdeal.τ).loc Cert.DownNextRefIdeal.main_arg4)
          ∧ r.2.mem ((c.tc : Thread Cert.DownNextRefIdeal.nD Cert.DownNextRefIdeal.τ).loc Cert.DownNextRefIdeal.main_arg5) = m' ((c.tc : Thread Cert.DownNextRefIdeal.nD Cert.DownNextRefIdeal.τ).loc Cert.DownNextRefIdeal.main_arg5))

def Claim : Prop :=
  ∃ (hKernel : Cert.Kernel.Facts) (hKernelIdeal : Cert.KernelIdeal.Facts) (hReferenceIdeal : Cert.ReferenceIdeal.Facts) (hSwiglu : Cert.Swiglu.Facts) (hSwigluIdeal : Cert.SwigluIdeal.Facts) (hSwigluRefIdeal : Cert.SwigluRefIdeal.Facts) (hGlu : Cert.Glu.Facts) (hGluIdeal : Cert.GluIdeal.Facts) (hGluRefIdeal : Cert.GluRefIdeal.Facts) (hProj : Cert.Proj.Facts) (hProjIdeal : Cert.ProjIdeal.Facts) (hProjRefIdeal : Cert.ProjRefIdeal.Facts) (hDown : Cert.Down.Facts) (hDownIdeal : Cert.DownIdeal.Facts) (hDownRefIdeal : Cert.DownRefIdeal.Facts) (hDownMod : Cert.DownMod.Facts) (hDownModIdeal : Cert.DownModIdeal.Facts) (hDownModRefIdeal : Cert.DownModRefIdeal.Facts) (hDownNext : Cert.DownNext.Facts) (hDownNextIdeal : Cert.DownNextIdeal.Facts) (hDownNextRefIdeal : Cert.DownNextRefIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Swiglu (hSwiglu := hSwiglu)
    ∧ quiescent_SwigluIdeal (hSwigluIdeal := hSwigluIdeal)
    ∧ quiescent_SwigluRefIdeal (hSwigluRefIdeal := hSwigluRefIdeal)
    ∧ quiescent_Glu (hGlu := hGlu)
    ∧ quiescent_GluIdeal (hGluIdeal := hGluIdeal)
    ∧ quiescent_GluRefIdeal (hGluRefIdeal := hGluRefIdeal)
    ∧ quiescent_Proj (hProj := hProj)
    ∧ quiescent_ProjIdeal (hProjIdeal := hProjIdeal)
    ∧ quiescent_ProjRefIdeal (hProjRefIdeal := hProjRefIdeal)
    ∧ quiescent_Down (hDown := hDown)
    ∧ quiescent_DownIdeal (hDownIdeal := hDownIdeal)
    ∧ quiescent_DownRefIdeal (hDownRefIdeal := hDownRefIdeal)
    ∧ quiescent_DownMod (hDownMod := hDownMod)
    ∧ quiescent_DownModIdeal (hDownModIdeal := hDownModIdeal)
    ∧ quiescent_DownModRefIdeal (hDownModRefIdeal := hDownModRefIdeal)
    ∧ quiescent_DownNext (hDownNext := hDownNext)
    ∧ quiescent_DownNextIdeal (hDownNextIdeal := hDownNextIdeal)
    ∧ quiescent_DownNextRefIdeal (hDownNextRefIdeal := hDownNextRefIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_Swiglu_SwigluIdeal
    ∧ algebraic_SwigluIdeal_SwigluRefIdeal (hSwigluIdeal := hSwigluIdeal) (hSwigluRefIdeal := hSwigluRefIdeal)
    ∧ preserves_Glu_GluIdeal
    ∧ algebraic_GluIdeal_GluRefIdeal (hGluIdeal := hGluIdeal) (hGluRefIdeal := hGluRefIdeal)
    ∧ preserves_Proj_ProjIdeal
    ∧ algebraic_ProjIdeal_ProjRefIdeal (hProjIdeal := hProjIdeal) (hProjRefIdeal := hProjRefIdeal)
    ∧ preserves_Down_DownIdeal
    ∧ algebraic_DownIdeal_DownRefIdeal (hDownIdeal := hDownIdeal) (hDownRefIdeal := hDownRefIdeal)
    ∧ preserves_DownMod_DownModIdeal
    ∧ algebraic_DownModIdeal_DownModRefIdeal (hDownModIdeal := hDownModIdeal) (hDownModRefIdeal := hDownModRefIdeal)
    ∧ preserves_DownNext_DownNextIdeal
    ∧ algebraic_DownNextIdeal_DownNextRefIdeal (hDownNextIdeal := hDownNextIdeal) (hDownNextRefIdeal := hDownNextRefIdeal)
-- ==== Pre_finite.lean ====
abbrev S8192x6144 : Shape := ⟨2, ![8192, 6144]⟩
abbrev S8192x32 : Shape := ⟨2, ![8192, 32]⟩
abbrev S2x16x1024 : Shape := ⟨3, ![2, 16, 1024]⟩
abbrev S2x1024 : Shape := ⟨2, ![2, 1024]⟩
abbrev S_ : Shape := ⟨0, ![]⟩

class Facts : Prop where
  bcast_S_S8192x6144 : S_.BroadcastsInDim S8192x6144 (![] : Fin 0 → Fin S8192x6144.rank)
  bcast_S_S8192x32 : S_.BroadcastsInDim S8192x32 (![] : Fin 0 → Fin S8192x32.rank)
  bcast_S_S2x16x1024 : S_.BroadcastsInDim S2x16x1024 (![] : Fin 0 → Fin S2x16x1024.rank)
  bcast_S_S2x1024 : S_.BroadcastsInDim S2x1024 (![] : Fin 0 → Fin S2x1024.rank)

variable [Facts]

def fn {F : FTy → Type} [FloatOps F] (main_arg0 : FVec F S8192x6144 .bf16) (main_arg1 : FVec F S8192x32 .f32) (main_arg2 : FVec F S2x16x1024 .f32) (main_arg3 : FVec F S2x1024 .f32) : IVec S8192x6144 1 × IVec S8192x32 1 × IVec S2x16x1024 1 × IVec S2x1024 1 :=
  let main_v0 : FVec F S8192x6144 .bf16 := Host.absf main_arg0
  let main_cst : FVec F S_ .bf16 := constant S_ .bf16 0x7F80#16
  let main_v1 : FVec F S8192x6144 .bf16 := broadcastInDim S8192x6144 ![] bcast_S_S8192x6144 main_cst
  let main_v2 : IVec S8192x6144 1 := cmpf .olt main_v0 main_v1
  let main_v3 : FVec F S8192x32 .f32 := Host.absf main_arg1
  let main_cst_0 : FVec F S_ .f32 := constant S_ .f32 0x7F800000#32
  let main_v4 : FVec F S8192x32 .f32 := broadcastInDim S8192x32 ![] bcast_S_S8192x32 main_cst_0
  let main_v5 : IVec S8192x32 1 := cmpf .olt main_v3 main_v4
  let main_v6 : FVec F S2x16x1024 .f32 := Host.absf main_arg2
  let main_cst_1 : FVec F S_ .f32 := constant S_ .f32 0x7F800000#32
  let main_v7 : FVec F S2x16x1024 .f32 := broadcastInDim S2x16x1024 ![] bcast_S_S2x16x1024 main_cst_1
  let main_v8 : IVec S2x16x1024 1 := cmpf .olt main_v6 main_v7
  let main_v9 : FVec F S2x1024 .f32 := Host.absf main_arg3
  let main_cst_2 : FVec F S_ .f32 := constant S_ .f32 0x7F800000#32
  let main_v10 : FVec F S2x1024 .f32 := broadcastInDim S2x1024 ![] bcast_S_S2x1024 main_cst_2
  let main_v11 : IVec S2x1024 1 := cmpf .olt main_v9 main_v10
  (main_v2, main_v5, main_v8, main_v11)
-- ==== Kernel.lean ====
abbrev S8192x6144 : Shape := ⟨2, ![8192, 6144]⟩
abbrev S8192x32 : Shape := ⟨2, ![8192, 32]⟩
abbrev S2x16x1024 : Shape := ⟨3, ![2, 16, 1024]⟩
abbrev S2x1024 : Shape := ⟨2, ![2, 1024]⟩
abbrev S2x1x1024 : Shape := ⟨3, ![2, 1, 1024]⟩
abbrev S8192x16 : Shape := ⟨2, ![8192, 16]⟩
abbrev S8192x2048 : Shape := ⟨2, ![8192, 2048]⟩
abbrev S256x1024 : Shape := ⟨2, ![256, 1024]⟩
abbrev S256x2048 : Shape := ⟨2, ![256, 2048]⟩
abbrev S256x16 : Shape := ⟨2, ![256, 16]⟩
abbrev S1x16x1024 : Shape := ⟨3, ![1, 16, 1024]⟩
abbrev S1x1x1024 : Shape := ⟨3, ![1, 1, 1024]⟩
abbrev S4x512x256 : Shape := ⟨3, ![4, 512, 256]⟩
abbrev S256x256 : Shape := ⟨2, ![256, 256]⟩
abbrev S256x512 : Shape := ⟨2, ![256, 512]⟩
abbrev S1x16x256 : Shape := ⟨3, ![1, 16, 256]⟩
abbrev S16x256 : Shape := ⟨2, ![16, 256]⟩
abbrev S1x1x256 : Shape := ⟨3, ![1, 1, 256]⟩
abbrev S1x256 : Shape := ⟨2, ![1, 256]⟩
abbrev S1x512x256 : Shape := ⟨3, ![1, 512, 256]⟩
abbrev S512x256 : Shape := ⟨2, ![512, 256]⟩
abbrev S128x256 : Shape := ⟨2, ![128, 256]⟩
abbrev S64x256 : Shape := ⟨2, ![64, 256]⟩
abbrev S32x256 : Shape := ⟨2, ![32, 256]⟩
abbrev S8x256 : Shape := ⟨2, ![8, 256]⟩

abbrev nBuf : Space → Nat
  | .hbm => 7
  | .vmem => 13
  | .smem => 0
  | _ => 0

abbrev bufTy : (tb : Table) → Fin (tcTables nBuf tb) → BufTy
  | .hbm, ⟨0, _⟩ => ⟨S8192x6144, .bf16⟩
  | .hbm, ⟨1, _⟩ => ⟨S8192x32, .f32⟩
  | .hbm, ⟨2, _⟩ => ⟨S2x16x1024, .f32⟩
  | .hbm, ⟨3, _⟩ => ⟨S2x1024, .f32⟩
  | .hbm, ⟨4, _⟩ => ⟨S2x1x1024, .f32⟩
  | .hbm, ⟨5, _⟩ => ⟨S8192x16, .f32⟩
  | .hbm, ⟨6, _⟩ => ⟨S8192x2048, .f32⟩
  | .local _ .vmem, ⟨0, _⟩ => ⟨S256x1024, .bf16⟩
  | .local _ .vmem, ⟨1, _⟩ => ⟨S256x1024, .bf16⟩
  | .local _ .vmem, ⟨2, _⟩ => ⟨S256x1024, .bf16⟩
  | .local _ .vmem, ⟨3, _⟩ => ⟨S256x1024, .bf16⟩
  | .local _ .vmem, ⟨4, _⟩ => ⟨S256x2048, .bf16⟩
  | .local _ .vmem, ⟨5, _⟩ => ⟨S256x2048, .bf16⟩
  | .local _ .vmem, ⟨6, _⟩ => ⟨S256x16, .f32⟩
  | .local _ .vmem, ⟨7, _⟩ => ⟨S256x16, .f32⟩
  | .local _ .vmem, ⟨8, _⟩ => ⟨S1x16x1024, .f32⟩
  | .local _ .vmem, ⟨9, _⟩ => ⟨S1x1x1024, .f32⟩
  | .local _ .vmem, ⟨10, _⟩ => ⟨S256x2048, .f32⟩
  | .local _ .vmem, ⟨11, _⟩ => ⟨S256x2048, .f32⟩
  | .local _ .vmem, ⟨12, _⟩ => ⟨S4x512x256, .f32⟩
  | _, _ => ⟨S8192x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c8_i32 : BitVec 32 := 8#32
  let v17 : BitVec 32 := Scalar.muli v16 c8_i32
  let v18 : BitVec 32 := Scalar.addi v17 arg1
  let c1_i32_5 : BitVec 32 := 1#32
  let c0_i32_6 : BitVec 32 := 0#32
  let v19 : BitVec 1 := Scalar.cmpi .eq c1_i32_5 c0_i32_6
  let c1_i32_7 : BitVec 32 := 1#32
  let v20 : BitVec 32 := Scalar.select v19 c1_i32_7 c1_i32_5
  let v21 : BitVec 32 := Scalar.remsi arg0 v20
  let c0_i32_8 : BitVec 32 := 0#32
  let v22 : BitVec 1 := Scalar.cmpi .ne v21 c0_i32_8
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let v26 : BitVec 1 := Scalar.andi v25 v22
  let v27 : BitVec 32 := Scalar.addi v21 v20
  let v28 : BitVec 32 := Scalar.select v26 v27 v21
  let c0_i32_11 : BitVec 32 := 0#32
  ![v18.toNat, v28.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c8_i32 : BitVec 32 := 8#32
  let v17 : BitVec 32 := Scalar.muli v16 c8_i32
  let v18 : BitVec 32 := Scalar.addi v17 arg1
  let c1_i32_5 : BitVec 32 := 1#32
  let c0_i32_6 : BitVec 32 := 0#32
  let v19 : BitVec 1 := Scalar.cmpi .eq c1_i32_5 c0_i32_6
  let c1_i32_7 : BitVec 32 := 1#32
  let v20 : BitVec 32 := Scalar.select v19 c1_i32_7 c1_i32_5
  let v21 : BitVec 32 := Scalar.remsi arg0 v20
  let c0_i32_8 : BitVec 32 := 0#32
  let v22 : BitVec 1 := Scalar.cmpi .ne v21 c0_i32_8
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let v26 : BitVec 1 := Scalar.andi v25 v22
  let v27 : BitVec 32 := Scalar.addi v21 v20
  let v28 : BitVec 32 := Scalar.select v26 v27 v21
  let c1_i32_11 : BitVec 32 := 1#32
  let v29 : BitVec 32 := Scalar.addi c1_i32_11 v28
  let c0_i32_12 : BitVec 32 := 0#32
  ![v18.toNat, v29.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c8_i32 : BitVec 32 := 8#32
  let v17 : BitVec 32 := Scalar.muli v16 c8_i32
  let v18 : BitVec 32 := Scalar.addi v17 arg1
  let c1_i32_5 : BitVec 32 := 1#32
  let c0_i32_6 : BitVec 32 := 0#32
  let v19 : BitVec 1 := Scalar.cmpi .eq c1_i32_5 c0_i32_6
  let c1_i32_7 : BitVec 32 := 1#32
  let v20 : BitVec 32 := Scalar.select v19 c1_i32_7 c1_i32_5
  let v21 : BitVec 32 := Scalar.remsi arg0 v20
  let c0_i32_8 : BitVec 32 := 0#32
  let v22 : BitVec 1 := Scalar.cmpi .ne v21 c0_i32_8
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let v26 : BitVec 1 := Scalar.andi v25 v22
  let v27 : BitVec 32 := Scalar.addi v21 v20
  let v28 : BitVec 32 := Scalar.select v26 v27 v21
  let c1_i32_11 : BitVec 32 := 1#32
  let v29 : BitVec 32 := Scalar.addi c1_i32_11 v28
  let c0_i32_12 : BitVec 32 := 0#32
  ![v18.toNat, v29.toNat]

def cc0_transform_3 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c8_i32 : BitVec 32 := 8#32
  let v17 : BitVec 32 := Scalar.muli v16 c8_i32
  let v18 : BitVec 32 := Scalar.addi v17 arg1
  let c0_i32_5 : BitVec 32 := 0#32
  let c0_i32_6 : BitVec 32 := 0#32
  ![v18.toNat, c0_i32_5.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c8_i32 : BitVec 32 := 8#32
  let v17 : BitVec 32 := Scalar.muli v16 c8_i32
  let v18 : BitVec 32 := Scalar.addi v17 arg1
  let c1_i32_5 : BitVec 32 := 1#32
  let c0_i32_6 : BitVec 32 := 0#32
  let v19 : BitVec 1 := Scalar.cmpi .eq c1_i32_5 c0_i32_6
  let c1_i32_7 : BitVec 32 := 1#32
  let v20 : BitVec 32 := Scalar.select v19 c1_i32_7 c1_i32_5
  let v21 : BitVec 32 := Scalar.remsi arg0 v20
  let c0_i32_8 : BitVec 32 := 0#32
  let v22 : BitVec 1 := Scalar.cmpi .ne v21 c0_i32_8
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let v26 : BitVec 1 := Scalar.andi v25 v22
  let v27 : BitVec 32 := Scalar.addi v21 v20
  let v28 : BitVec 32 := Scalar.select v26 v27 v21
  let c0_i32_11 : BitVec 32 := 0#32
  ![v18.toNat, v28.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x16 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S1x16x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== ReferenceIdeal.lean ====
abbrev S8192x6144 : Shape := ⟨2, ![8192, 6144]⟩
abbrev S8192x32 : Shape := ⟨2, ![8192, 32]⟩
abbrev S2x16x1024 : Shape := ⟨3, ![2, 16, 1024]⟩
abbrev S2x1024 : Shape := ⟨2, ![2, 1024]⟩
abbrev S4x2048x6144 : Shape := ⟨3, ![4, 2048, 6144]⟩
abbrev S4x2048x32 : Shape := ⟨3, ![4, 2048, 32]⟩
abbrev S4x2048x1024 : Shape := ⟨3, ![4, 2048, 1024]⟩
abbrev S4x2048x2048 : Shape := ⟨3, ![4, 2048, 2048]⟩
abbrev S4x2048x4x256 : Shape := ⟨4, ![4, 2048, 4, 256]⟩
abbrev S4x4x2048x256 : Shape := ⟨4, ![4, 4, 2048, 256]⟩
abbrev S_ : Shape := ⟨0, ![]⟩
abbrev S4x2048x4x512 : Shape := ⟨4, ![4, 2048, 4, 512]⟩
abbrev S4x4x2048x512 : Shape := ⟨4, ![4, 4, 2048, 512]⟩
abbrev S4x2048x16 : Shape := ⟨3, ![4, 2048, 16]⟩
abbrev S1x16x1024 : Shape := ⟨3, ![1, 16, 1024]⟩
abbrev S16x1024 : Shape := ⟨2, ![16, 1024]⟩
abbrev S1x1024 : Shape := ⟨2, ![1, 1024]⟩
abbrev S1024 : Shape := ⟨1, ![1024]⟩
abbrev S1x1x1024 : Shape := ⟨3, ![1, 1, 1024]⟩
abbrev S64 : Shape := ⟨1, ![64]⟩
abbrev S1x64 : Shape := ⟨2, ![1, 64]⟩
abbrev S64x1 : Shape := ⟨2, ![64, 1]⟩
abbrev S64x64 : Shape := ⟨2, ![64, 64]⟩
abbrev S4x4x256x512 : Shape := ⟨4, ![4, 4, 256, 512]⟩
abbrev S4x4x32x64x256 : Shape := ⟨5, ![4, 4, 32, 64, 256]⟩
abbrev S32x4x4x64x256 : Shape := ⟨5, ![32, 4, 4, 64, 256]⟩
abbrev S4x4x32x64x512 : Shape := ⟨5, ![4, 4, 32, 64, 512]⟩
abbrev S32x4x4x64x512 : Shape := ⟨5, ![32, 4, 4, 64, 512]⟩
abbrev S1x4x4x64x256 : Shape := ⟨5, ![1, 4, 4, 64, 256]⟩
abbrev S4x4x64x256 : Shape := ⟨4, ![4, 4, 64, 256]⟩
abbrev S1x4x4x64x512 : Shape := ⟨5, ![1, 4, 4, 64, 512]⟩
abbrev S4x4x64x512 : Shape := ⟨4, ![4, 4, 64, 512]⟩
abbrev S64x64x1 : Shape := ⟨3, ![64, 64, 1]⟩
abbrev S4x4x64x1x256 : Shape := ⟨5, ![4, 4, 64, 1, 256]⟩
abbrev S4x4x1x64x256 : Shape := ⟨5, ![4, 4, 1, 64, 256]⟩
abbrev S4x4x64x64x256 : Shape := ⟨5, ![4, 4, 64, 64, 256]⟩
abbrev S4x4x64x64 : Shape := ⟨4, ![4, 4, 64, 64]⟩
abbrev S4x4x1x256 : Shape := ⟨4, ![4, 4, 1, 256]⟩
abbrev S4x4x256 : Shape := ⟨3, ![4, 4, 256]⟩
abbrev S4x4x256x1 : Shape := ⟨4, ![4, 4, 256, 1]⟩
abbrev S8192x2048 : Shape := ⟨2, ![8192, 2048]⟩

abbrev nBuf : Space → Nat
  | .hbm => 152
  | .vmem => 0
  | .smem => 0
  | _ => 0

abbrev hbmTy0_0 (i : Nat) : BufTy := match i % 128 with
  | 0 => ⟨S8192x6144, .bf16⟩
  | 1 => ⟨S8192x32, .f32⟩
  | 2 => ⟨S2x16x1024, .f32⟩
  | 3 => ⟨S2x1024, .f32⟩
  | 4 => ⟨S8192x6144, .f32⟩
  | 5 => ⟨S4x2048x6144, .f32⟩
  | 6 => ⟨S4x2048x32, .f32⟩
  | 7 => ⟨S4x2048x1024, .f32⟩
  | 8 => ⟨S4x2048x1024, .f32⟩
  | 9 => ⟨S4x2048x2048, .f32⟩
  | 10 => ⟨S4x2048x2048, .f32⟩
  | 11 => ⟨S4x2048x4x256, .f32⟩
  | 12 => ⟨S4x4x2048x256, .f32⟩
  | 13 => ⟨S_, .f32⟩
  | 14 => ⟨S4x4x2048x256, .f32⟩
  | 15 => ⟨S4x4x2048x256, .f32⟩
  | 16 => ⟨S4x2048x4x256, .f32⟩
  | 17 => ⟨S4x4x2048x256, .f32⟩
  | 18 => ⟨S4x2048x4x512, .f32⟩
  | 19 => ⟨S4x4x2048x512, .f32⟩
  | 20 => ⟨S4x2048x16, .f32⟩
  | 21 => ⟨S1x16x1024, .f32⟩
  | 22 => ⟨S16x1024, .f32⟩
  | 23 => ⟨S4x2048x1024, .f32⟩
  | 24 => ⟨S1x1024, .f32⟩
  | 25 => ⟨S1024, .f32⟩
  | 26 => ⟨S1x1x1024, .f32⟩
  | 27 => ⟨S4x2048x1024, .f32⟩
  | 28 => ⟨S4x2048x1024, .f32⟩
  | 29 => ⟨S4x2048x1024, .f32⟩
  | 30 => ⟨S_, .f32⟩
  | 31 => ⟨S4x2048x1024, .f32⟩
  | 32 => ⟨S4x2048x1024, .f32⟩
  | 33 => ⟨S4x2048x1024, .f32⟩
  | 34 => ⟨S4x2048x1024, .f32⟩
  | 35 => ⟨S4x2048x1024, .i1⟩
  | 36 => ⟨S4x2048x1024, .f32⟩
  | 37 => ⟨S4x2048x1024, .f32⟩
  | 38 => ⟨S4x2048x1024, .f32⟩
  | 39 => ⟨S4x2048x1024, .f32⟩
  | 40 => ⟨S4x2048x1024, .f32⟩
  | 41 => ⟨S4x2048x1024, .f32⟩
  | 42 => ⟨S4x2048x1024, .f32⟩
  | 43 => ⟨S4x2048x1024, .f32⟩
  | 44 => ⟨S4x2048x1024, .f32⟩
  | 45 => ⟨S_, .f32⟩
  | 46 => ⟨S4x2048x1024, .f32⟩
  | 47 => ⟨S4x2048x1024, .f32⟩
  | 48 => ⟨S4x2048x4x256, .f32⟩
  | 49 => ⟨S4x4x2048x256, .f32⟩
  | 50 => ⟨S64, .i32⟩
  | 51 => ⟨S1x64, .i32⟩
  | 52 => ⟨S64x1, .i32⟩
  | 53 => ⟨S64x64, .i32⟩
  | 54 => ⟨S64x64, .i32⟩
  | 55 => ⟨S64x64, .i1⟩
  | 56 => ⟨S_, .f32⟩
  | 57 => ⟨S4x4x256x512, .f32⟩
  | 58 => ⟨S4x4x32x64x256, .f32⟩
  | 59 => ⟨S32x4x4x64x256, .f32⟩
  | 60 => ⟨S4x4x32x64x256, .f32⟩
  | 61 => ⟨S32x4x4x64x256, .f32⟩
  | 62 => ⟨S4x4x32x64x512, .f32⟩
  | 63 => ⟨S32x4x4x64x512, .f32⟩
  | 64 => ⟨S4x4x32x64x256, .f32⟩
  | 65 => ⟨S32x4x4x64x256, .f32⟩
  | 66 => ⟨S_, .f32⟩
  | 67 => ⟨S32x4x4x64x512, .f32⟩
  | 68 => ⟨S_, .i32⟩
  | 69 => ⟨S32x4x4x64x256, .f32⟩
  | 70 => ⟨S32x4x4x64x256, .f32⟩
  | 71 => ⟨S32x4x4x64x512, .f32⟩
  | 72 => ⟨S32x4x4x64x256, .f32⟩
  | 73 => ⟨S64x64, .i1⟩
  | 74 => ⟨S_, .i32⟩
  | 75 => ⟨S4x4x256x512, .f32⟩
  | 76 => ⟨S32x4x4x64x512, .f32⟩
  | 77 => ⟨S_, .i32⟩
  | 78 => ⟨S_, .i1⟩
  | 79 => ⟨S_, .i32⟩
  | 80 => ⟨S_, .i32⟩
  | 81 => ⟨S_, .i32⟩
  | 82 => ⟨S_, .i32⟩
  | 83 => ⟨S1x4x4x64x256, .f32⟩
  | 84 => ⟨S4x4x64x256, .f32⟩
  | 85 => ⟨S_, .i32⟩
  | 86 => ⟨S_, .i32⟩
  | 87 => ⟨S_, .i32⟩
  | 88 => ⟨S_, .i32⟩
  | 89 => ⟨S1x4x4x64x256, .f32⟩
  | 90 => ⟨S4x4x64x256, .f32⟩
  | 91 => ⟨S_, .i32⟩
  | 92 => ⟨S_, .i32⟩
  | 93 => ⟨S_, .i32⟩
  | 94 => ⟨S_, .i32⟩
  | 95 => ⟨S1x4x4x64x512, .f32⟩
  | 96 => ⟨S4x4x64x512, .f32⟩
  | 97 => ⟨S_, .i32⟩
  | 98 => ⟨S_, .i32⟩
  | 99 => ⟨S_, .i32⟩
  | 100 => ⟨S_, .i32⟩
  | 101 => ⟨S1x4x4x64x256, .f32⟩
  | 102 => ⟨S4x4x64x256, .f32⟩
  | 103 => ⟨S_, .f32⟩
  | 104 => ⟨S_, .f32⟩
  | 105 => ⟨S4x4x64x256, .f32⟩
  | 106 => ⟨S4x4x64x256, .f32⟩
  | 107 => ⟨S4x4x64x256, .f32⟩
  | 108 => ⟨S4x4x64x512, .f32⟩
  | 109 => ⟨S64x64x1, .i1⟩
  | 110 => ⟨S4x4x64x1x256, .f32⟩
  | 111 => ⟨S4x4x1x64x256, .f32⟩
  | 112 => ⟨S4x4x64x64x256, .f32⟩
  | 113 => ⟨S4x4x64x64x256, .f32⟩
  | 114 => ⟨S4x4x64x64x256, .f32⟩
  | 115 => ⟨S_, .f32⟩
  | 116 => ⟨S_, .f32⟩
  | 117 => ⟨S4x4x64x64x256, .i1⟩
  | 118 => ⟨S4x4x64x64x256, .f32⟩
  | 119 => ⟨S4x4x64x64x256, .f32⟩
  | 120 => ⟨S4x4x64x1x256, .f32⟩
  | 121 => ⟨S4x4x64x64x256, .f32⟩
  | 122 => ⟨S4x4x64x64x256, .f32⟩
  | 123 => ⟨S4x4x64x64x256, .f32⟩
  | 124 => ⟨S4x4x64x64, .f32⟩
  | 125 => ⟨S4x4x64x64, .f32⟩
  | 126 => ⟨S4x4x64x512, .f32⟩
  | 127 => ⟨S4x4x1x256, .f32⟩
  | _ => ⟨S8192x6144, .bf16⟩

abbrev hbmTy0_1 (i : Nat) : BufTy := match i % 128 with
  | 0 => ⟨S4x4x256, .f32⟩
  | 1 => ⟨S4x4x256, .f32⟩
  | 2 => ⟨S4x4x256x1, .f32⟩
  | 3 => ⟨S4x4x256x512, .f32⟩
  | 4 => ⟨S4x4x256x512, .f32⟩
  | 5 => ⟨S4x4x64x256, .f32⟩
  | 6 => ⟨S4x4x64x256, .f32⟩
  | 7 => ⟨S4x4x64x256, .f32⟩
  | 8 => ⟨S4x4x64x256, .f32⟩
  | 9 => ⟨S4x4x256x512, .f32⟩
  | 10 => ⟨S4x4x256x512, .f32⟩
  | 11 => ⟨S4x4x64x512, .f32⟩
  | 12 => ⟨S1x4x4x64x512, .f32⟩
  | 13 => ⟨S_, .i32⟩
  | 14 => ⟨S_, .i32⟩
  | 15 => ⟨S_, .i32⟩
  | 16 => ⟨S_, .i32⟩
  | 17 => ⟨S32x4x4x64x512, .f32⟩
  | 18 => ⟨S_, .i32⟩
  | 19 => ⟨S_, .i32⟩
  | 20 => ⟨S4x4x32x64x512, .f32⟩
  | 21 => ⟨S4x4x2048x512, .f32⟩
  | 22 => ⟨S4x2048x4x512, .f32⟩
  | 23 => ⟨S8192x2048, .f32⟩
  | _ => ⟨S8192x6144, .bf16⟩

abbrev hbmTy (i : Nat) : BufTy := match i / 128 with
  | 0 => hbmTy0_0 i
  | 1 => hbmTy0_1 i
  | _ => ⟨S8192x6144, .bf16⟩

abbrev bufTy : (tb : Table) → Fin (tcTables nBuf tb) → BufTy
  | .hbm, ⟨i, _⟩ => hbmTy i
  | _, _ => ⟨S8192x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_call0_cst : Ref sig .tc := ⟨.hbm, 30, rfl⟩
abbrev main_call0_v0 : Ref sig .tc := ⟨.hbm, 31, rfl⟩
abbrev main_call0_v1 : Ref sig .tc := ⟨.hbm, 32, rfl⟩
abbrev main_call0_v2 : Ref sig .tc := ⟨.hbm, 33, rfl⟩
abbrev main_call0_v3 : Ref sig .tc := ⟨.hbm, 34, rfl⟩
abbrev main_call0_v4 : Ref sig .tc := ⟨.hbm, 35, rfl⟩
abbrev main_call0_v5 : Ref sig .tc := ⟨.hbm, 36, rfl⟩
abbrev main_call0_v6 : Ref sig .tc := ⟨.hbm, 37, rfl⟩
abbrev main_call0_v7 : Ref sig .tc := ⟨.hbm, 38, rfl⟩
abbrev main_call0_v8 : Ref sig .tc := ⟨.hbm, 39, rfl⟩
abbrev main_call0_v9 : Ref sig .tc := ⟨.hbm, 40, rfl⟩
abbrev main_call0_v10 : Ref sig .tc := ⟨.hbm, 41, rfl⟩
abbrev main_call0_v11 : Ref sig .tc := ⟨.hbm, 42, rfl⟩
abbrev main_v25 : Ref sig .tc := ⟨.hbm, 43, rfl⟩
abbrev main_v26 : Ref sig .tc := ⟨.hbm, 44, rfl⟩
abbrev main_cst_0 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_cst_1 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_cst_2 : Ref sig .tc := ⟨.hbm, 66, rfl⟩
abbrev main_v46 : Ref sig .tc := ⟨.hbm, 67, rfl⟩
abbrev main_c : Ref sig .tc := ⟨.hbm, 68, rfl⟩
abbrev main_v47_0 : Ref sig .tc := ⟨.hbm, 69, rfl⟩
abbrev main_v47_1 : Ref sig .tc := ⟨.hbm, 70, rfl⟩
abbrev main_v47_2 : Ref sig .tc := ⟨.hbm, 71, rfl⟩
abbrev main_v47_3 : Ref sig .tc := ⟨.hbm, 72, rfl⟩
abbrev main_v47_4 : Ref sig .tc := ⟨.hbm, 73, rfl⟩
abbrev main_v47_5 : Ref sig .tc := ⟨.hbm, 74, rfl⟩
abbrev main_v47_6 : Ref sig .tc := ⟨.hbm, 75, rfl⟩
abbrev main_v47_7 : Ref sig .tc := ⟨.hbm, 76, rfl⟩
abbrev main_while0c_c_10 : Ref sig .tc := ⟨.hbm, 77, rfl⟩
abbrev main_while0c_v52 : Ref sig .tc := ⟨.hbm, 78, rfl⟩
abbrev main_while0b_call1_c : Ref sig .tc := ⟨.hbm, 79, rfl⟩
abbrev main_while0b_call1_c_0 : Ref sig .tc := ⟨.hbm, 80, rfl⟩
abbrev main_while0b_call1_c_1 : Ref sig .tc := ⟨.hbm, 81, rfl⟩
abbrev main_while0b_call1_c_2 : Ref sig .tc := ⟨.hbm, 82, rfl⟩
abbrev main_while0b_call1_v0 : Ref sig .tc := ⟨.hbm, 83, rfl⟩
abbrev main_while0b_v52 : Ref sig .tc := ⟨.hbm, 84, rfl⟩
abbrev main_while0b_call2_c : Ref sig .tc := ⟨.hbm, 85, rfl⟩
abbrev main_while0b_call2_c_0 : Ref sig .tc := ⟨.hbm, 86, rfl⟩
abbrev main_while0b_call2_c_1 : Ref sig .tc := ⟨.hbm, 87, rfl⟩
abbrev main_while0b_call2_c_2 : Ref sig .tc := ⟨.hbm, 88, rfl⟩
abbrev main_while0b_call2_v0 : Ref sig .tc := ⟨.hbm, 89, rfl⟩
abbrev main_while0b_v53 : Ref sig .tc := ⟨.hbm, 90, rfl⟩
abbrev main_while0b_call3_c : Ref sig .tc := ⟨.hbm, 91, rfl⟩
abbrev main_while0b_call3_c_0 : Ref sig .tc := ⟨.hbm, 92, rfl⟩
abbrev main_while0b_call3_c_1 : Ref sig .tc := ⟨.hbm, 93, rfl⟩
abbrev main_while0b_call3_c_2 : Ref sig .tc := ⟨.hbm, 94, rfl⟩
abbrev main_while0b_call3_v0 : Ref sig .tc := ⟨.hbm, 95, rfl⟩
abbrev main_while0b_v54 : Ref sig .tc := ⟨.hbm, 96, rfl⟩
abbrev main_while0b_call4_c : Ref sig .tc := ⟨.hbm, 97, rfl⟩
abbrev main_while0b_call4_c_0 : Ref sig .tc := ⟨.hbm, 98, rfl⟩
abbrev main_while0b_call4_c_1 : Ref sig .tc := ⟨.hbm, 99, rfl⟩
abbrev main_while0b_call4_c_2 : Ref sig .tc := ⟨.hbm, 100, rfl⟩
abbrev main_while0b_call4_v0 : Ref sig .tc := ⟨.hbm, 101, rfl⟩
abbrev main_while0b_v55 : Ref sig .tc := ⟨.hbm, 102, rfl⟩
abbrev main_while0b_call5_call0_cst : Ref sig .tc := ⟨.hbm, 103, rfl⟩
abbrev main_while0b_call5_call0_v0 : Ref sig .tc := ⟨.hbm, 104, rfl⟩
abbrev main_while0b_v56 : Ref sig .tc := ⟨.hbm, 105, rfl⟩
abbrev main_while0b_v57 : Ref sig .tc := ⟨.hbm, 106, rfl⟩
abbrev main_while0b_v58 : Ref sig .tc := ⟨.hbm, 107, rfl⟩
abbrev main_while0b_v59 : Ref sig .tc := ⟨.hbm, 108, rfl⟩
abbrev main_while0b_v60 : Ref sig .tc := ⟨.hbm, 109, rfl⟩
abbrev main_while0b_v61 : Ref sig .tc := ⟨.hbm, 110, rfl⟩
abbrev main_while0b_v62 : Ref sig .tc := ⟨.hbm, 111, rfl⟩
abbrev main_while0b_v63 : Ref sig .tc := ⟨.hbm, 112, rfl⟩
abbrev main_while0b_v64 : Ref sig .tc := ⟨.hbm, 113, rfl⟩
abbrev main_while0b_v65 : Ref sig .tc := ⟨.hbm, 114, rfl⟩
abbrev main_while0b_cst_10 : Ref sig .tc := ⟨.hbm, 115, rfl⟩
abbrev main_while0b_call6_v0 : Ref sig .tc := ⟨.hbm, 116, rfl⟩
abbrev main_while0b_call6_v1 : Ref sig .tc := ⟨.hbm, 117, rfl⟩
abbrev main_while0b_call6_v2 : Ref sig .tc := ⟨.hbm, 118, rfl⟩
abbrev main_while0b_v66 : Ref sig .tc := ⟨.hbm, 119, rfl⟩
abbrev main_while0b_v67 : Ref sig .tc := ⟨.hbm, 120, rfl⟩
abbrev main_while0b_v68 : Ref sig .tc := ⟨.hbm, 121, rfl⟩
abbrev main_while0b_v69 : Ref sig .tc := ⟨.hbm, 122, rfl⟩
abbrev main_while0b_v70 : Ref sig .tc := ⟨.hbm, 123, rfl⟩
abbrev main_while0b_v71 : Ref sig .tc := ⟨.hbm, 124, rfl⟩
abbrev main_while0b_v72 : Ref sig .tc := ⟨.hbm, 125, rfl⟩
abbrev main_while0b_v73 : Ref sig .tc := ⟨.hbm, 126, rfl⟩
abbrev main_while0b_v74 : Ref sig .tc := ⟨.hbm, 127, rfl⟩
abbrev main_while0b_v75 : Ref sig .tc := ⟨.hbm, 128, rfl⟩
abbrev main_while0b_v76 : Ref sig .tc := ⟨.hbm, 129, rfl⟩
abbrev main_while0b_v77 : Ref sig .tc := ⟨.hbm, 130, rfl⟩
abbrev main_while0b_v78 : Ref sig .tc := ⟨.hbm, 131, rfl⟩
abbrev main_while0b_v79 : Ref sig .tc := ⟨.hbm, 132, rfl⟩
abbrev main_while0b_v80 : Ref sig .tc := ⟨.hbm, 133, rfl⟩
abbrev main_while0b_v81 : Ref sig .tc := ⟨.hbm, 134, rfl⟩
abbrev main_while0b_v82 : Ref sig .tc := ⟨.hbm, 135, rfl⟩
abbrev main_while0b_v83 : Ref sig .tc := ⟨.hbm, 136, rfl⟩
abbrev main_while0b_v84 : Ref sig .tc := ⟨.hbm, 137, rfl⟩
abbrev main_while0b_v85 : Ref sig .tc := ⟨.hbm, 138, rfl⟩
abbrev main_while0b_v86 : Ref sig .tc := ⟨.hbm, 139, rfl⟩
abbrev main_while0b_call7_v0 : Ref sig .tc := ⟨.hbm, 140, rfl⟩
abbrev main_while0b_call7_c : Ref sig .tc := ⟨.hbm, 141, rfl⟩
abbrev main_while0b_call7_c_0 : Ref sig .tc := ⟨.hbm, 142, rfl⟩
abbrev main_while0b_call7_c_1 : Ref sig .tc := ⟨.hbm, 143, rfl⟩
abbrev main_while0b_call7_c_2 : Ref sig .tc := ⟨.hbm, 144, rfl⟩
abbrev main_while0b_v87 : Ref sig .tc := ⟨.hbm, 145, rfl⟩
abbrev main_while0b_c_11 : Ref sig .tc := ⟨.hbm, 146, rfl⟩
abbrev main_while0b_v88 : Ref sig .tc := ⟨.hbm, 147, rfl⟩
abbrev main_v48 : Ref sig .tc := ⟨.hbm, 148, rfl⟩
abbrev main_v49 : Ref sig .tc := ⟨.hbm, 149, rfl⟩
abbrev main_v50 : Ref sig .tc := ⟨.hbm, 150, rfl⟩
abbrev main_v51 : Ref sig .tc := ⟨.hbm, 151, rfl⟩

abbrev nD : Nat := 1
abbrev τ : Topo := Topo.v7x

variable {F : FTy → Type} [FloatOps F]

abbrev main_while0_count : Scf.Loop 32 := ⟨0#32, 32#32, 1#32⟩
-- ==== Swiglu.lean ====
abbrev S8192x2048 : Shape := ⟨2, ![8192, 2048]⟩
abbrev S4x2x2048x5504 : Shape := ⟨4, ![4, 2, 2048, 5504]⟩
abbrev S8192x5504 : Shape := ⟨2, ![8192, 5504]⟩
abbrev S2048x2048 : Shape := ⟨2, ![2048, 2048]⟩
abbrev S1x1x2048x512 : Shape := ⟨4, ![1, 1, 2048, 512]⟩
abbrev S2048x512 : Shape := ⟨2, ![2048, 512]⟩
abbrev S1024x2048 : Shape := ⟨2, ![1024, 2048]⟩
abbrev S1024x512 : Shape := ⟨2, ![1024, 512]⟩

abbrev nBuf : Space → Nat
  | .hbm => 4
  | .vmem => 10
  | .smem => 0
  | _ => 0

abbrev bufTy : (tb : Table) → Fin (tcTables nBuf tb) → BufTy
  | .hbm, ⟨0, _⟩ => ⟨S8192x2048, .bf16⟩
  | .hbm, ⟨1, _⟩ => ⟨S4x2x2048x5504, .f32⟩
  | .hbm, ⟨2, _⟩ => ⟨S4x2x2048x5504, .f32⟩
  | .hbm, ⟨3, _⟩ => ⟨S8192x5504, .bf16⟩
  | .local _ .vmem, ⟨0, _⟩ => ⟨S2048x2048, .bf16⟩
  | .local _ .vmem, ⟨1, _⟩ => ⟨S2048x2048, .bf16⟩
  | .local _ .vmem, ⟨2, _⟩ => ⟨S1x1x2048x512, .f32⟩
  | .local _ .vmem, ⟨3, _⟩ => ⟨S1x1x2048x512, .f32⟩
  | .local _ .vmem, ⟨4, _⟩ => ⟨S1x1x2048x512, .f32⟩
  | .local _ .vmem, ⟨5, _⟩ => ⟨S1x1x2048x512, .f32⟩
  | .local _ .vmem, ⟨6, _⟩ => ⟨S2048x512, .bf16⟩
  | .local _ .vmem, ⟨7, _⟩ => ⟨S2048x512, .bf16⟩
  | .local _ .vmem, ⟨8, _⟩ => ⟨S2048x512, .bf16⟩
  | .local _ .vmem, ⟨9, _⟩ => ⟨S2048x512, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![11, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  let c0_i32_2 : BitVec 32 := 0#32
  let c0_i32_3 : BitVec 32 := 0#32
  ![c0_i32_0.toNat, c0_i32_1.toNat, c0_i32_2.toNat, v0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  let c0_i32_2 : BitVec 32 := 0#32
  let c0_i32_3 : BitVec 32 := 0#32
  ![c0_i32_0.toNat, c0_i32_1.toNat, c0_i32_2.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x1x2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== SwigluRefIdeal.lean ====
abbrev S8192x2048 : Shape := ⟨2, ![8192, 2048]⟩
abbrev S4x2x2048x5504 : Shape := ⟨4, ![4, 2, 2048, 5504]⟩
abbrev S4x2048x2048 : Shape := ⟨3, ![4, 2048, 2048]⟩
abbrev S1x1x2048x5504 : Shape := ⟨4, ![1, 1, 2048, 5504]⟩
abbrev S2048x5504 : Shape := ⟨2, ![2048, 5504]⟩
abbrev S4x2048x5504 : Shape := ⟨3, ![4, 2048, 5504]⟩
abbrev S_ : Shape := ⟨0, ![]⟩
abbrev S8192x5504 : Shape := ⟨2, ![8192, 5504]⟩

abbrev nBuf : Space → Nat
  | .hbm => 23
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S4x2x2048x5504, .f32⟩
  | .hbm, ⟨2, _⟩ => ⟨S4x2x2048x5504, .f32⟩
  | .hbm, ⟨3, _⟩ => ⟨S8192x2048, .f32⟩
  | .hbm, ⟨4, _⟩ => ⟨S4x2048x2048, .f32⟩
  | .hbm, ⟨5, _⟩ => ⟨S1x1x2048x5504, .f32⟩
  | .hbm, ⟨6, _⟩ => ⟨S2048x5504, .f32⟩
  | .hbm, ⟨7, _⟩ => ⟨S4x2048x5504, .f32⟩
  | .hbm, ⟨8, _⟩ => ⟨S4x2048x5504, .f32⟩
  | .hbm, ⟨9, _⟩ => ⟨S4x2048x5504, .f32⟩
  | .hbm, ⟨10, _⟩ => ⟨S_, .f32⟩
  | .hbm, ⟨11, _⟩ => ⟨S4x2048x5504, .f32⟩
  | .hbm, ⟨12, _⟩ => ⟨S4x2048x5504, .f32⟩
  | .hbm, ⟨13, _⟩ => ⟨S_, .f32⟩
  | .hbm, ⟨14, _⟩ => ⟨S4x2048x5504, .f32⟩
  | .hbm, ⟨15, _⟩ => ⟨S4x2048x5504, .f32⟩
  | .hbm, ⟨16, _⟩ => ⟨S4x2048x5504, .f32⟩
  | .hbm, ⟨17, _⟩ => ⟨S1x1x2048x5504, .f32⟩
  | .hbm, ⟨18, _⟩ => ⟨S2048x5504, .f32⟩
  | .hbm, ⟨19, _⟩ => ⟨S4x2048x5504, .f32⟩
  | .hbm, ⟨20, _⟩ => ⟨S4x2048x5504, .f32⟩
  | .hbm, ⟨21, _⟩ => ⟨S8192x5504, .f32⟩
  | .hbm, ⟨22, _⟩ => ⟨S8192x5504, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_call0_v0 : Ref sig .tc := ⟨.hbm, 8, rfl⟩
abbrev main_call0_v1 : Ref sig .tc := ⟨.hbm, 9, rfl⟩
abbrev main_call0_cst : Ref sig .tc := ⟨.hbm, 10, rfl⟩
abbrev main_call0_v2 : Ref sig .tc := ⟨.hbm, 11, rfl⟩
abbrev main_call0_v3 : Ref sig .tc := ⟨.hbm, 12, rfl⟩
abbrev main_call0_cst_0 : Ref sig .tc := ⟨.hbm, 13, rfl⟩
abbrev main_call0_v4 : Ref sig .tc := ⟨.hbm, 14, rfl⟩
abbrev main_call0_v5 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩

abbrev nD : Nat := 1
abbrev τ : Topo := Topo.v7x

variable {F : FTy → Type} [FloatOps F]
-- ==== Glu.lean ====
abbrev S8192x2048 : Shape := ⟨2, ![8192, 2048]⟩
abbrev S2x2048x4096 : Shape := ⟨3, ![2, 2048, 4096]⟩
abbrev S2x4096 : Shape := ⟨2, ![2, 4096]⟩
abbrev S1x4096 : Shape := ⟨2, ![1, 4096]⟩
abbrev S4096 : Shape := ⟨1, ![4096]⟩
abbrev S2048x2048 : Shape := ⟨2, ![2048, 2048]⟩
abbrev S1x2048x512 : Shape := ⟨3, ![1, 2048, 512]⟩
abbrev S1x512 : Shape := ⟨2, ![1, 512]⟩
abbrev S2048x512 : Shape := ⟨2, ![2048, 512]⟩
abbrev S1024x2048 : Shape := ⟨2, ![1024, 2048]⟩
abbrev S1024x512 : Shape := ⟨2, ![1024, 512]⟩

abbrev nBuf : Space → Nat
  | .hbm => 7
  | .vmem => 14
  | .smem => 0
  | _ => 0

abbrev bufTy : (tb : Table) → Fin (tcTables nBuf tb) → BufTy
  | .hbm, ⟨0, _⟩ => ⟨S8192x2048, .bf16⟩
  | .hbm, ⟨1, _⟩ => ⟨S2x2048x4096, .f32⟩
  | .hbm, ⟨2, _⟩ => ⟨S2x4096, .f32⟩
  | .hbm, ⟨3, _⟩ => ⟨S1x4096, .f32⟩
  | .hbm, ⟨4, _⟩ => ⟨S4096, .f32⟩
  | .hbm, ⟨5, _⟩ => ⟨S1x4096, .f32⟩
  | .hbm, ⟨6, _⟩ => ⟨S8192x2048, .f32⟩
  | .local _ .vmem, ⟨0, _⟩ => ⟨S2048x2048, .bf16⟩
  | .local _ .vmem, ⟨1, _⟩ => ⟨S2048x2048, .bf16⟩
  | .local _ .vmem, ⟨2, _⟩ => ⟨S1x2048x512, .f32⟩
  | .local _ .vmem, ⟨3, _⟩ => ⟨S1x2048x512, .f32⟩
  | .local _ .vmem, ⟨4, _⟩ => ⟨S1x2048x512, .f32⟩
  | .local _ .vmem, ⟨5, _⟩ => ⟨S1x2048x512, .f32⟩
  | .local _ .vmem, ⟨6, _⟩ => ⟨S1x512, .f32⟩
  | .local _ .vmem, ⟨7, _⟩ => ⟨S1x512, .f32⟩
  | .local _ .vmem, ⟨8, _⟩ => ⟨S1x512, .f32⟩
  | .local _ .vmem, ⟨9, _⟩ => ⟨S1x512, .f32⟩
  | .local _ .vmem, ⟨10, _⟩ => ⟨S2048x512, .f32⟩
  | .local _ .vmem, ⟨11, _⟩ => ⟨S2048x512, .f32⟩
  | .local _ .vmem, ⟨12, _⟩ => ⟨S2048x512, .bf16⟩
  | .local _ .vmem, ⟨13, _⟩ => ⟨S2048x512, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  let c0_i32_2 : BitVec 32 := 0#32
  ![c0_i32_0.toNat, c0_i32_1.toNat, v0.toNat]

def cc0_transform_2 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.addi arg0 c4_i32
  let c0_i32 : BitVec 32 := 0#32
  let c0_i32_0 : BitVec 32 := 0#32
  let c0_i32_1 : BitVec 32 := 0#32
  ![c0_i32.toNat, c0_i32_0.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi arg0 c4_i32
  let c0_i32 : BitVec 32 := 0#32
  let c0_i32_0 : BitVec 32 := 0#32
  ![c0_i32.toNat, v0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S2048x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== GluRefIdeal.lean ====
abbrev S8192x2048 : Shape := ⟨2, ![8192, 2048]⟩
abbrev S2x2048x4096 : Shape := ⟨3, ![2, 2048, 4096]⟩
abbrev S2x4096 : Shape := ⟨2, ![2, 4096]⟩
abbrev S4x2048x2048 : Shape := ⟨3, ![4, 2048, 2048]⟩
abbrev S1x2048x4096 : Shape := ⟨3, ![1, 2048, 4096]⟩
abbrev S2048x4096 : Shape := ⟨2, ![2048, 4096]⟩
abbrev S4x2048x4096 : Shape := ⟨3, ![4, 2048, 4096]⟩
abbrev S1x4096 : Shape := ⟨2, ![1, 4096]⟩
abbrev S4096 : Shape := ⟨1, ![4096]⟩
abbrev S1x1x4096 : Shape := ⟨3, ![1, 1, 4096]⟩
abbrev S_ : Shape := ⟨0, ![]⟩

abbrev nBuf : Space → Nat
  | .hbm => 25
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2x2048x4096, .f32⟩
  | .hbm, ⟨2, _⟩ => ⟨S2x4096, .f32⟩
  | .hbm, ⟨3, _⟩ => ⟨S8192x2048, .f32⟩
  | .hbm, ⟨4, _⟩ => ⟨S4x2048x2048, .f32⟩
  | .hbm, ⟨5, _⟩ => ⟨S1x2048x4096, .f32⟩
  | .hbm, ⟨6, _⟩ => ⟨S2048x4096, .f32⟩
  | .hbm, ⟨7, _⟩ => ⟨S4x2048x4096, .f32⟩
  | .hbm, ⟨8, _⟩ => ⟨S1x4096, .f32⟩
  | .hbm, ⟨9, _⟩ => ⟨S4096, .f32⟩
  | .hbm, ⟨10, _⟩ => ⟨S1x1x4096, .f32⟩
  | .hbm, ⟨11, _⟩ => ⟨S4x2048x4096, .f32⟩
  | .hbm, ⟨12, _⟩ => ⟨S4x2048x4096, .f32⟩
  | .hbm, ⟨13, _⟩ => ⟨S4x2048x2048, .f32⟩
  | .hbm, ⟨14, _⟩ => ⟨S4x2048x2048, .f32⟩
  | .hbm, ⟨15, _⟩ => ⟨S4x2048x2048, .f32⟩
  | .hbm, ⟨16, _⟩ => ⟨S4x2048x2048, .f32⟩
  | .hbm, ⟨17, _⟩ => ⟨S_, .f32⟩
  | .hbm, ⟨18, _⟩ => ⟨S4x2048x2048, .f32⟩
  | .hbm, ⟨19, _⟩ => ⟨S4x2048x2048, .f32⟩
  | .hbm, ⟨20, _⟩ => ⟨S_, .f32⟩
  | .hbm, ⟨21, _⟩ => ⟨S4x2048x2048, .f32⟩
  | .hbm, ⟨22, _⟩ => ⟨S4x2048x2048, .f32⟩
  | .hbm, ⟨23, _⟩ => ⟨S4x2048x2048, .f32⟩
  | .hbm, ⟨24, _⟩ => ⟨S8192x2048, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_cst : Ref sig .tc := ⟨.hbm, 17, rfl⟩
abbrev main_v14 : Ref sig .tc := ⟨.hbm, 18, rfl⟩
abbrev main_v15 : Ref sig .tc := ⟨.hbm, 19, rfl⟩
abbrev main_cst_0 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩

abbrev nD : Nat := 1
abbrev τ : Topo := Topo.v7x

variable {F : FTy → Type} [FloatOps F]
-- ==== Proj.lean ====
abbrev S8192x2048 : Shape := ⟨2, ![8192, 2048]⟩
abbrev S1x2048x6144 : Shape := ⟨3, ![1, 2048, 6144]⟩
abbrev S8192x6144 : Shape := ⟨2, ![8192, 6144]⟩
abbrev S2048x2048 : Shape := ⟨2, ![2048, 2048]⟩
abbrev S1x2048x1024 : Shape := ⟨3, ![1, 2048, 1024]⟩
abbrev S2048x1024 : Shape := ⟨2, ![2048, 1024]⟩
abbrev S1024x2048 : Shape := ⟨2, ![1024, 2048]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S1x2048x6144, .f32⟩
  | .hbm, ⟨2, _⟩ => ⟨S8192x6144, .bf16⟩
  | .local _ .vmem, ⟨0, _⟩ => ⟨S2048x2048, .bf16⟩
  | .local _ .vmem, ⟨1, _⟩ => ⟨S2048x2048, .bf16⟩
  | .local _ .vmem, ⟨2, _⟩ => ⟨S1x2048x1024, .f32⟩
  | .local _ .vmem, ⟨3, _⟩ => ⟨S1x2048x1024, .f32⟩
  | .local _ .vmem, ⟨4, _⟩ => ⟨S2048x1024, .bf16⟩
  | .local _ .vmem, ⟨5, _⟩ => ⟨S2048x1024, .bf16⟩
  | .local _ .vmem, ⟨6, _⟩ => ⟨S2048x1024, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![6, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  let c0_i32_2 : BitVec 32 := 0#32
  ![c0_i32_0.toNat, c0_i32_1.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ProjRefIdeal.lean ====
abbrev S8192x2048 : Shape := ⟨2, ![8192, 2048]⟩
abbrev S1x2048x6144 : Shape := ⟨3, ![1, 2048, 6144]⟩
abbrev S4x2048x2048 : Shape := ⟨3, ![4, 2048, 2048]⟩
abbrev S2048x6144 : Shape := ⟨2, ![2048, 6144]⟩
abbrev S4x2048x6144 : Shape := ⟨3, ![4, 2048, 6144]⟩
abbrev S8192x6144 : Shape := ⟨2, ![8192, 6144]⟩

abbrev nBuf : Space → Nat
  | .hbm => 8
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S1x2048x6144, .f32⟩
  | .hbm, ⟨2, _⟩ => ⟨S8192x2048, .f32⟩
  | .hbm, ⟨3, _⟩ => ⟨S4x2048x2048, .f32⟩
  | .hbm, ⟨4, _⟩ => ⟨S2048x6144, .f32⟩
  | .hbm, ⟨5, _⟩ => ⟨S4x2048x6144, .f32⟩
  | .hbm, ⟨6, _⟩ => ⟨S8192x6144, .f32⟩
  | .hbm, ⟨7, _⟩ => ⟨S8192x6144, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== Down.lean ====
abbrev S8192x5504 : Shape := ⟨2, ![8192, 5504]⟩
abbrev S4x2x5504x2048 : Shape := ⟨4, ![4, 2, 5504, 2048]⟩
abbrev S8192x2048 : Shape := ⟨2, ![8192, 2048]⟩
abbrev S4x18432 : Shape := ⟨2, ![4, 18432]⟩
abbrev S2048 : Shape := ⟨1, ![2048]⟩
abbrev S4x9x1x2048 : Shape := ⟨4, ![4, 9, 1, 2048]⟩
abbrev S1x2048 : Shape := ⟨2, ![1, 2048]⟩
abbrev S256x5504 : Shape := ⟨2, ![256, 5504]⟩
abbrev S256x2048 : Shape := ⟨2, ![256, 2048]⟩
abbrev S1x1x1x2048 : Shape := ⟨4, ![1, 1, 1, 2048]⟩
abbrev S5504x2048 : Shape := ⟨2, ![5504, 2048]⟩
abbrev S4x128x2048 : Shape := ⟨3, ![4, 128, 2048]⟩
abbrev S4 : Shape := ⟨1, ![4]⟩
abbrev S2x256x2048 : Shape := ⟨3, ![2, 256, 2048]⟩
abbrev S1 : Shape := ⟨1, ![1]⟩
abbrev S_ : Shape := ⟨0, ![]⟩
abbrev S1x128x2048 : Shape := ⟨3, ![1, 128, 2048]⟩
abbrev S128x2048 : Shape := ⟨2, ![128, 2048]⟩
abbrev S1x1x128x2048 : Shape := ⟨4, ![1, 1, 128, 2048]⟩
abbrev S256x128 : Shape := ⟨2, ![256, 128]⟩
abbrev S1x256x2048 : Shape := ⟨3, ![1, 256, 2048]⟩
abbrev S256 : Shape := ⟨1, ![256]⟩
abbrev S256x1 : Shape := ⟨2, ![256, 1]⟩

abbrev nBuf : Space → Nat
  | .hbm => 8
  | .vmem => 12
  | .smem => 0
  | _ => 0

abbrev bufTy : (tb : Table) → Fin (tcTables nBuf tb) → BufTy
  | .hbm, ⟨0, _⟩ => ⟨S8192x5504, .bf16⟩
  | .hbm, ⟨1, _⟩ => ⟨S4x2x5504x2048, .f32⟩
  | .hbm, ⟨2, _⟩ => ⟨S8192x2048, .f32⟩
  | .hbm, ⟨3, _⟩ => ⟨S4x18432, .f32⟩
  | .hbm, ⟨4, _⟩ => ⟨S2048, .f32⟩
  | .hbm, ⟨5, _⟩ => ⟨S4x9x1x2048, .f32⟩
  | .hbm, ⟨6, _⟩ => ⟨S1x2048, .f32⟩
  | .hbm, ⟨7, _⟩ => ⟨S8192x2048, .f32⟩
  | .local _ .vmem, ⟨0, _⟩ => ⟨S256x5504, .bf16⟩
  | .local _ .vmem, ⟨1, _⟩ => ⟨S256x5504, .bf16⟩
  | .local _ .vmem, ⟨2, _⟩ => ⟨S256x2048, .f32⟩
  | .local _ .vmem, ⟨3, _⟩ => ⟨S256x2048, .f32⟩
  | .local _ .vmem, ⟨4, _⟩ => ⟨S1x1x1x2048, .f32⟩
  | .local _ .vmem, ⟨5, _⟩ => ⟨S1x1x1x2048, .f32⟩
  | .local _ .vmem, ⟨6, _⟩ => ⟨S1x2048, .f32⟩
  | .local _ .vmem, ⟨7, _⟩ => ⟨S256x2048, .f32⟩
  | .local _ .vmem, ⟨8, _⟩ => ⟨S256x2048, .f32⟩
  | .local _ .vmem, ⟨9, _⟩ => ⟨S5504x2048, .bf16⟩
  | .local _ .vmem, ⟨10, _⟩ => ⟨S4x128x2048, .f32⟩
  | .local _ .vmem, ⟨11, _⟩ => ⟨S2x256x2048, .f32⟩
  | _, _ => ⟨S8192x5504, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_scratch1 : Ref sig .tc := ⟨.vmem, 10, rfl⟩
abbrev cc0_scratch3 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![33], ![false]⟩

def k0_cond2 (i : grid0.Coords) : BitVec 1 :=
  let arg0 : BitVec 32 := BitVec.ofNat 32 (i 0).val
  let c0_i32_1 : BitVec 32 := 0#32
  let v3 : BitVec 1 := Scalar.cmpi .sgt arg0 c0_i32_1
  let c32_i32 : BitVec 32 := 32#32
  let v4 : BitVec 1 := Scalar.cmpi .slt arg0 c32_i32
  let v5 : BitVec 1 := Scalar.andi v3 v4
  let c2_i32 : BitVec 32 := 2#32
  let c0_i32_2 : BitVec 32 := 0#32
  let v6 : BitVec 1 := Scalar.cmpi .eq c2_i32 c0_i32_2
  let c1_i32 : BitVec 32 := 1#32
  let v7 : BitVec 32 := Scalar.select v6 c1_i32 c2_i32
  let v8 : BitVec 32 := Scalar.remsi arg0 v7
  let c0_i32_4 : BitVec 32 := 0#32
  let v10 : BitVec 1 := Scalar.cmpi .slt v8 c0_i32_4
  let c0_i32_5 : BitVec 32 := 0#32
  let v11 : BitVec 1 := Scalar.cmpi .slt v7 c0_i32_5
  let v12 : BitVec 1 := Scalar.xori v10 v11
  let c0_i32_3 : BitVec 32 := 0#32
  let v9 : BitVec 1 := Scalar.cmpi .ne v8 c0_i32_3
  let v13 : BitVec 1 := Scalar.andi v12 v9
  let v14 : BitVec 32 := Scalar.addi v8 v7
  let v15 : BitVec 32 := Scalar.select v13 v14 v8
  let c0_i32_6 : BitVec 32 := 0#32
  let v16 : BitVec 1 := Scalar.cmpi .eq v15 c0_i32_6
  let v17 : BitVec 1 := Scalar.andi v5 v16
  let v18 : BitVec 32 := Scalar.extui v17
  let c0_i32_7 : BitVec 32 := 0#32
  let v19 : BitVec 1 := Scalar.cmpi .ne v18 c0_i32_7
  v19

def k0_cond3 (i : grid0.Coords) : BitVec 1 :=
  let arg0 : BitVec 32 := BitVec.ofNat 32 (i 0).val
  let c32_i32_8 : BitVec 32 := 32#32
  let v20 : BitVec 1 := Scalar.cmpi .slt arg0 c32_i32_8
  let c2_i32_9 : BitVec 32 := 2#32
  let c0_i32_10 : BitVec 32 := 0#32
  let v21 : BitVec 1 := Scalar.cmpi .eq c2_i32_9 c0_i32_10
  let c1_i32_11 : BitVec 32 := 1#32
  let v22 : BitVec 32 := Scalar.select v21 c1_i32_11 c2_i32_9
  let v23 : BitVec 32 := Scalar.remsi arg0 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c1_i32_15 : BitVec 32 := 1#32
  let v31 : BitVec 1 := Scalar.cmpi .eq v30 c1_i32_15
  let v32 : BitVec 1 := Scalar.andi v20 v31
  let v33 : BitVec 32 := Scalar.extui v32
  let c0_i32_16 : BitVec 32 := 0#32
  let v34 : BitVec 1 := Scalar.cmpi .ne v33 c0_i32_16
  v34

def k0_cond4 (i : grid0.Coords) : BitVec 1 :=
  let arg0 : BitVec 32 := BitVec.ofNat 32 (i 0).val
  let c32_i32_17 : BitVec 32 := 32#32
  let v35 : BitVec 1 := Scalar.cmpi .eq arg0 c32_i32_17
  let v36 : BitVec 32 := Scalar.extui v35
  let c0_i32_18 : BitVec 32 := 0#32
  let v37 : BitVec 1 := Scalar.cmpi .ne v36 c0_i32_18
  v37

def cc0_transform_0 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_3 (i : grid0.Coords) : Fin 4 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c256_i32 : BitVec 32 := 256#32
  let v2 : BitVec 32 := Scalar.muli v1 c256_i32
  let c2048_i32 : BitVec 32 := 2048#32
  let v3 : BitVec 32 := Scalar.divsi v2 c2048_i32
  let c0_i32_0 : BitVec 32 := 0#32
  let v4 : BitVec 1 := Scalar.cmpi .sgt v2 c0_i32_0
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c0_i32_2 : BitVec 32 := 0#32
  let v9 : BitVec 1 := Scalar.cmpi .sgt c2048_i32 c0_i32_2
  let v10 : BitVec 32 := Scalar.extui v9
  let c0_i32_3 : BitVec 32 := 0#32
  let v11 : BitVec 1 := Scalar.cmpi .slt c2048_i32 c0_i32_3
  let v12 : BitVec 32 := Scalar.extui v11
  let v13 : BitVec 32 := Scalar.subi v10 v12
  let v14 : BitVec 1 := Scalar.cmpi .ne v8 v13
  let v15 : BitVec 32 := Scalar.remsi v2 c2048_i32
  let c0_i32_4 : BitVec 32 := 0#32
  let v16 : BitVec 1 := Scalar.cmpi .ne v15 c0_i32_4
  let v17 : BitVec 1 := Scalar.andi v14 v16
  let c1_i32_5 : BitVec 32 := 1#32
  let v18 : BitVec 32 := Scalar.subi v3 c1_i32_5
  let v19 : BitVec 32 := Scalar.select v17 v18 v3
  let c8_i32 : BitVec 32 := 8#32
  let c0_i32_6 : BitVec 32 := 0#32
  let c0_i32_7 : BitVec 32 := 0#32
  let c0_i32_8 : BitVec 32 := 0#32
  ![v19.toNat, c8_i32.toNat, c0_i32_6.toNat, c0_i32_7.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

abbrev stage0_0 : Fin 2 → Memref sig .tc .vmem S256x5504 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== DownRefIdeal.lean ====
abbrev S8192x5504 : Shape := ⟨2, ![8192, 5504]⟩
abbrev S4x2x5504x2048 : Shape := ⟨4, ![4, 2, 5504, 2048]⟩
abbrev S8192x2048 : Shape := ⟨2, ![8192, 2048]⟩
abbrev S4x18432 : Shape := ⟨2, ![4, 18432]⟩
abbrev S2048 : Shape := ⟨1, ![2048]⟩
abbrev S4x2048x5504 : Shape := ⟨3, ![4, 2048, 5504]⟩
abbrev S4x2048x2048 : Shape := ⟨3, ![4, 2048, 2048]⟩
abbrev S4x1x18432 : Shape := ⟨3, ![4, 1, 18432]⟩
abbrev S4x1x2048 : Shape := ⟨3, ![4, 1, 2048]⟩
abbrev S_ : Shape := ⟨0, ![]⟩
abbrev S1x1x5504x2048 : Shape := ⟨4, ![1, 1, 5504, 2048]⟩
abbrev S5504x2048 : Shape := ⟨2, ![5504, 2048]⟩
abbrev S4x2048 : Shape := ⟨2, ![4, 2048]⟩
abbrev S4x2048x1 : Shape := ⟨3, ![4, 2048, 1]⟩
abbrev S1x1x2048 : Shape := ⟨3, ![1, 1, 2048]⟩

abbrev nBuf : Space → Nat
  | .hbm => 44
  | .vmem => 0
  | .smem => 0
  | _ => 0

abbrev bufTy : (tb : Table) → Fin (tcTables nBuf tb) → BufTy
  | .hbm, ⟨0, _⟩ => ⟨S8192x5504, .bf16⟩
  | .hbm, ⟨1, _⟩ => ⟨S4x2x5504x2048, .f32⟩
  | .hbm, ⟨2, _⟩ => ⟨S8192x2048, .f32⟩
  | .hbm, ⟨3, _⟩ => ⟨S4x18432, .f32⟩
  | .hbm, ⟨4, _⟩ => ⟨S2048, .f32⟩
  | .hbm, ⟨5, _⟩ => ⟨S8192x5504, .f32⟩
  | .hbm, ⟨6, _⟩ => ⟨S4x2048x5504, .f32⟩
  | .hbm, ⟨7, _⟩ => ⟨S4x2048x2048, .f32⟩
  | .hbm, ⟨8, _⟩ => ⟨S4x1x18432, .f32⟩
  | .hbm, ⟨9, _⟩ => ⟨S4x1x2048, .f32⟩
  | .hbm, ⟨10, _⟩ => ⟨S4x1x2048, .f32⟩
  | .hbm, ⟨11, _⟩ => ⟨S4x1x2048, .f32⟩
  | .hbm, ⟨12, _⟩ => ⟨S4x1x2048, .f32⟩
  | .hbm, ⟨13, _⟩ => ⟨S4x1x2048, .f32⟩
  | .hbm, ⟨14, _⟩ => ⟨S4x1x2048, .f32⟩
  | .hbm, ⟨15, _⟩ => ⟨S4x1x2048, .f32⟩
  | .hbm, ⟨16, _⟩ => ⟨S4x1x2048, .f32⟩
  | .hbm, ⟨17, _⟩ => ⟨S4x1x2048, .f32⟩
  | .hbm, ⟨18, _⟩ => ⟨S_, .f32⟩
  | .hbm, ⟨19, _⟩ => ⟨S4x1x2048, .f32⟩
  | .hbm, ⟨20, _⟩ => ⟨S4x1x2048, .f32⟩
  | .hbm, ⟨21, _⟩ => ⟨S1x1x5504x2048, .f32⟩
  | .hbm, ⟨22, _⟩ => ⟨S5504x2048, .f32⟩
  | .hbm, ⟨23, _⟩ => ⟨S4x2048x2048, .f32⟩
  | .hbm, ⟨24, _⟩ => ⟨S4x2048x2048, .f32⟩
  | .hbm, ⟨25, _⟩ => ⟨S4x2048x2048, .f32⟩
  | .hbm, ⟨26, _⟩ => ⟨S4x2048x2048, .f32⟩
  | .hbm, ⟨27, _⟩ => ⟨S4x2048x2048, .f32⟩
  | .hbm, ⟨28, _⟩ => ⟨S_, .f32⟩
  | .hbm, ⟨29, _⟩ => ⟨S4x2048, .f32⟩
  | .hbm, ⟨30, _⟩ => ⟨S4x2048x1, .f32⟩
  | .hbm, ⟨31, _⟩ => ⟨S_, .f32⟩
  | .hbm, ⟨32, _⟩ => ⟨S4x2048x1, .f32⟩
  | .hbm, ⟨33, _⟩ => ⟨S4x2048x1, .f32⟩
  | .hbm, ⟨34, _⟩ => ⟨S_, .f32⟩
  | .hbm, ⟨35, _⟩ => ⟨S4x2048x1, .f32⟩
  | .hbm, ⟨36, _⟩ => ⟨S4x2048x1, .f32⟩
  | .hbm, ⟨37, _⟩ => ⟨S4x2048x1, .f32⟩
  | .hbm, ⟨38, _⟩ => ⟨S4x2048x2048, .f32⟩
  | .hbm, ⟨39, _⟩ => ⟨S4x2048x2048, .f32⟩
  | .hbm, ⟨40, _⟩ => ⟨S1x1x2048, .f32⟩
  | .hbm, ⟨41, _⟩ => ⟨S4x2048x2048, .f32⟩
  | .hbm, ⟨42, _⟩ => ⟨S4x2048x2048, .f32⟩
  | .hbm, ⟨43, _⟩ => ⟨S8192x2048, .f32⟩
  | _, _ => ⟨S8192x5504, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_cst_0 : Ref sig .tc := ⟨.hbm, 28, rfl⟩
abbrev main_v22 : Ref sig .tc := ⟨.hbm, 29, rfl⟩
abbrev main_v23 : Ref sig .tc := ⟨.hbm, 30, rfl⟩
abbrev main_cst_1 : Ref sig .tc := ⟨.hbm, 31, rfl⟩
abbrev main_v24 : Ref sig .tc := ⟨.hbm, 32, rfl⟩
abbrev main_v25 : Ref sig .tc := ⟨.hbm, 33, rfl⟩
abbrev main_cst_2 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩

abbrev nD : Nat := 1
abbrev τ : Topo := Topo.v7x

variable {F : FTy → Type} [FloatOps F]
-- ==== DownMod.lean ====
abbrev S8192x5504 : Shape := ⟨2, ![8192, 5504]⟩
abbrev S4x2x5504x2048 : Shape := ⟨4, ![4, 2, 5504, 2048]⟩
abbrev S8192x2048 : Shape := ⟨2, ![8192, 2048]⟩
abbrev S4x18432 : Shape := ⟨2, ![4, 18432]⟩
abbrev S2048 : Shape := ⟨1, ![2048]⟩
abbrev S4x9x1x2048 : Shape := ⟨4, ![4, 9, 1, 2048]⟩
abbrev S1x2048 : Shape := ⟨2, ![1, 2048]⟩
abbrev S256x5504 : Shape := ⟨2, ![256, 5504]⟩
abbrev S256x2048 : Shape := ⟨2, ![256, 2048]⟩
abbrev S1x1x1x2048 : Shape := ⟨4, ![1, 1, 1, 2048]⟩
abbrev S5504x2048 : Shape := ⟨2, ![5504, 2048]⟩
abbrev S4x128x2048 : Shape := ⟨3, ![4, 128, 2048]⟩
abbrev S4 : Shape := ⟨1, ![4]⟩
abbrev S2x256x2048 : Shape := ⟨3, ![2, 256, 2048]⟩
abbrev S1 : Shape := ⟨1, ![1]⟩
abbrev S_ : Shape := ⟨0, ![]⟩
abbrev S1x128x2048 : Shape := ⟨3, ![1, 128, 2048]⟩
abbrev S128x2048 : Shape := ⟨2, ![128, 2048]⟩
abbrev S1x1x128x2048 : Shape := ⟨4, ![1, 1, 128, 2048]⟩
abbrev S256x128 : Shape := ⟨2, ![256, 128]⟩
abbrev S1x256x2048 : Shape := ⟨3, ![1, 256, 2048]⟩
abbrev S256 : Shape := ⟨1, ![256]⟩
abbrev S256x1 : Shape := ⟨2, ![256, 1]⟩

abbrev nBuf : Space → Nat
  | .hbm => 9
  | .vmem => 18
  | .smem => 0
  | _ => 0

abbrev bufTy : (tb : Table) → Fin (tcTables nBuf tb) → BufTy
  | .hbm, ⟨0, _⟩ => ⟨S8192x5504, .bf16⟩
  | .hbm, ⟨1, _⟩ => ⟨S4x2x5504x2048, .f32⟩
  | .hbm, ⟨2, _⟩ => ⟨S8192x2048, .f32⟩
  | .hbm, ⟨3, _⟩ => ⟨S4x18432, .f32⟩
  | .hbm, ⟨4, _⟩ => ⟨S2048, .f32⟩
  | .hbm, ⟨5, _⟩ => ⟨S4x9x1x2048, .f32⟩
  | .hbm, ⟨6, _⟩ => ⟨S1x2048, .f32⟩
  | .hbm, ⟨7, _⟩ => ⟨S8192x2048, .f32⟩
  | .hbm, ⟨8, _⟩ => ⟨S8192x2048, .bf16⟩
  | .local _ .vmem, ⟨0, _⟩ => ⟨S256x5504, .bf16⟩
  | .local _ .vmem, ⟨1, _⟩ => ⟨S256x5504, .bf16⟩
  | .local _ .vmem, ⟨2, _⟩ => ⟨S256x2048, .f32⟩
  | .local _ .vmem, ⟨3, _⟩ => ⟨S256x2048, .f32⟩
  | .local _ .vmem, ⟨4, _⟩ => ⟨S1x1x1x2048, .f32⟩
  | .local _ .vmem, ⟨5, _⟩ => ⟨S1x1x1x2048, .f32⟩
  | .local _ .vmem, ⟨6, _⟩ => ⟨S1x2048, .f32⟩
  | .local _ .vmem, ⟨7, _⟩ => ⟨S1x1x1x2048, .f32⟩
  | .local _ .vmem, ⟨8, _⟩ => ⟨S1x1x1x2048, .f32⟩
  | .local _ .vmem, ⟨9, _⟩ => ⟨S1x1x1x2048, .f32⟩
  | .local _ .vmem, ⟨10, _⟩ => ⟨S1x1x1x2048, .f32⟩
  | .local _ .vmem, ⟨11, _⟩ => ⟨S256x2048, .f32⟩
  | .local _ .vmem, ⟨12, _⟩ => ⟨S256x2048, .f32⟩
  | .local _ .vmem, ⟨13, _⟩ => ⟨S256x2048, .bf16⟩
  | .local _ .vmem, ⟨14, _⟩ => ⟨S256x2048, .bf16⟩
  | .local _ .vmem, ⟨15, _⟩ => ⟨S5504x2048, .bf16⟩
  | .local _ .vmem, ⟨16, _⟩ => ⟨S4x128x2048, .f32⟩
  | .local _ .vmem, ⟨17, _⟩ => ⟨S2x256x2048, .f32⟩
  | _, _ => ⟨S8192x5504, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_scratch0 : Ref sig .tc := ⟨.vmem, 15, rfl⟩
abbrev cc0_scratch1 : Ref sig .tc := ⟨.vmem, 16, rfl⟩
abbrev cc0_scratch3 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨1, ![33], ![false]⟩

def k0_cond2 (i : grid0.Coords) : BitVec 1 :=
  let arg0 : BitVec 32 := BitVec.ofNat 32 (i 0).val
  let c0_i32_1 : BitVec 32 := 0#32
  let v3 : BitVec 1 := Scalar.cmpi .sgt arg0 c0_i32_1
  let c32_i32 : BitVec 32 := 32#32
  let v4 : BitVec 1 := Scalar.cmpi .slt arg0 c32_i32
  let v5 : BitVec 1 := Scalar.andi v3 v4
  let c2_i32 : BitVec 32 := 2#32
  let c0_i32_2 : BitVec 32 := 0#32
  let v6 : BitVec 1 := Scalar.cmpi .eq c2_i32 c0_i32_2
  let c1_i32 : BitVec 32 := 1#32
  let v7 : BitVec 32 := Scalar.select v6 c1_i32 c2_i32
  let v8 : BitVec 32 := Scalar.remsi arg0 v7
  let c0_i32_4 : BitVec 32 := 0#32
  let v10 : BitVec 1 := Scalar.cmpi .slt v8 c0_i32_4
  let c0_i32_5 : BitVec 32 := 0#32
  let v11 : BitVec 1 := Scalar.cmpi .slt v7 c0_i32_5
  let v12 : BitVec 1 := Scalar.xori v10 v11
  let c0_i32_3 : BitVec 32 := 0#32
  let v9 : BitVec 1 := Scalar.cmpi .ne v8 c0_i32_3
  let v13 : BitVec 1 := Scalar.andi v12 v9
  let v14 : BitVec 32 := Scalar.addi v8 v7
  let v15 : BitVec 32 := Scalar.select v13 v14 v8
  let c0_i32_6 : BitVec 32 := 0#32
  let v16 : BitVec 1 := Scalar.cmpi .eq v15 c0_i32_6
  let v17 : BitVec 1 := Scalar.andi v5 v16
  let v18 : BitVec 32 := Scalar.extui v17
  let c0_i32_7 : BitVec 32 := 0#32
  let v19 : BitVec 1 := Scalar.cmpi .ne v18 c0_i32_7
  v19

def k0_cond3 (i : grid0.Coords) : BitVec 1 :=
  let arg0 : BitVec 32 := BitVec.ofNat 32 (i 0).val
  let c32_i32_8 : BitVec 32 := 32#32
  let v20 : BitVec 1 := Scalar.cmpi .slt arg0 c32_i32_8
  let c2_i32_9 : BitVec 32 := 2#32
  let c0_i32_10 : BitVec 32 := 0#32
  let v21 : BitVec 1 := Scalar.cmpi .eq c2_i32_9 c0_i32_10
  let c1_i32_11 : BitVec 32 := 1#32
  let v22 : BitVec 32 := Scalar.select v21 c1_i32_11 c2_i32_9
  let v23 : BitVec 32 := Scalar.remsi arg0 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c1_i32_15 : BitVec 32 := 1#32
  let v31 : BitVec 1 := Scalar.cmpi .eq v30 c1_i32_15
  let v32 : BitVec 1 := Scalar.andi v20 v31
  let v33 : BitVec 32 := Scalar.extui v32
  let c0_i32_16 : BitVec 32 := 0#32
  let v34 : BitVec 1 := Scalar.cmpi .ne v33 c0_i32_16
  v34

def k0_cond4 (i : grid0.Coords) : BitVec 1 :=
  let arg0 : BitVec 32 := BitVec.ofNat 32 (i 0).val
  let c32_i32_17 : BitVec 32 := 32#32
  let v35 : BitVec 1 := Scalar.cmpi .eq arg0 c32_i32_17
  let v36 : BitVec 32 := Scalar.extui v35
  let c0_i32_18 : BitVec 32 := 0#32
  let v37 : BitVec 1 := Scalar.cmpi .ne v36 c0_i32_18
  v37

def cc0_transform_0 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_3 (i : grid0.Coords) : Fin 4 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c256_i32 : BitVec 32 := 256#32
  let v2 : BitVec 32 := Scalar.muli v1 c256_i32
  let c2048_i32 : BitVec 32 := 2048#32
  let v3 : BitVec 32 := Scalar.divsi v2 c2048_i32
  let c0_i32_0 : BitVec 32 := 0#32
  let v4 : BitVec 1 := Scalar.cmpi .sgt v2 c0_i32_0
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c0_i32_2 : BitVec 32 := 0#32
  let v9 : BitVec 1 := Scalar.cmpi .sgt c2048_i32 c0_i32_2
  let v10 : BitVec 32 := Scalar.extui v9
  let c0_i32_3 : BitVec 32 := 0#32
  let v11 : BitVec 1 := Scalar.cmpi .slt c2048_i32 c0_i32_3
  let v12 : BitVec 32 := Scalar.extui v11
  let v13 : BitVec 32 := Scalar.subi v10 v12
  let v14 : BitVec 1 := Scalar.cmpi .ne v8 v13
  let v15 : BitVec 32 := Scalar.remsi v2 c2048_i32
  let c0_i32_4 : BitVec 32 := 0#32
  let v16 : BitVec 1 := Scalar.cmpi .ne v15 c0_i32_4
  let v17 : BitVec 1 := Scalar.andi v14 v16
  let c1_i32_5 : BitVec 32 := 1#32
  let v18 : BitVec 32 := Scalar.subi v3 c1_i32_5
  let v19 : BitVec 32 := Scalar.select v17 v18 v3
  let c2_i32 : BitVec 32 := 2#32
  let c0_i32_6 : BitVec 32 := 0#32
  let c0_i32_7 : BitVec 32 := 0#32
  let c0_i32_8 : BitVec 32 := 0#32
  ![v19.toNat, c2_i32.toNat, c0_i32_6.toNat, c0_i32_7.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 4 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c256_i32 : BitVec 32 := 256#32
  let v2 : BitVec 32 := Scalar.muli v1 c256_i32
  let c2048_i32 : BitVec 32 := 2048#32
  let v3 : BitVec 32 := Scalar.divsi v2 c2048_i32
  let c0_i32_0 : BitVec 32 := 0#32
  let v4 : BitVec 1 := Scalar.cmpi .sgt v2 c0_i32_0
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c0_i32_2 : BitVec 32 := 0#32
  let v9 : BitVec 1 := Scalar.cmpi .sgt c2048_i32 c0_i32_2
  let v10 : BitVec 32 := Scalar.extui v9
  let c0_i32_3 : BitVec 32 := 0#32
  let v11 : BitVec 1 := Scalar.cmpi .slt c2048_i32 c0_i32_3
  let v12 : BitVec 32 := Scalar.extui v11
  let v13 : BitVec 32 := Scalar.subi v10 v12
  let v14 : BitVec 1 := Scalar.cmpi .ne v8 v13
  let v15 : BitVec 32 := Scalar.remsi v2 c2048_i32
  let c0_i32_4 : BitVec 32 := 0#32
  let v16 : BitVec 1 := Scalar.cmpi .ne v15 c0_i32_4
  let v17 : BitVec 1 := Scalar.andi v14 v16
  let c1_i32_5 : BitVec 32 := 1#32
  let v18 : BitVec 32 := Scalar.subi v3 c1_i32_5
  let v19 : BitVec 32 := Scalar.select v17 v18 v3
  let c3_i32 : BitVec 32 := 3#32
  let c0_i32_6 : BitVec 32 := 0#32
  let c0_i32_7 : BitVec 32 := 0#32
  let c0_i32_8 : BitVec 32 := 0#32
  ![v19.toNat, c3_i32.toNat, c0_i32_6.toNat, c0_i32_7.toNat]

def cc0_transform_6 (i : grid0.Coords) : Fin 4 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c256_i32 : BitVec 32 := 256#32
  let v2 : BitVec 32 := Scalar.muli v1 c256_i32
  let c2048_i32 : BitVec 32 := 2048#32
  let v3 : BitVec 32 := Scalar.divsi v2 c2048_i32
  let c0_i32_0 : BitVec 32 := 0#32
  let v4 : BitVec 1 := Scalar.cmpi .sgt v2 c0_i32_0
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c0_i32_2 : BitVec 32 := 0#32
  let v9 : BitVec 1 := Scalar.cmpi .sgt c2048_i32 c0_i32_2
  let v10 : BitVec 32 := Scalar.extui v9
  let c0_i32_3 : BitVec 32 := 0#32
  let v11 : BitVec 1 := Scalar.cmpi .slt c2048_i32 c0_i32_3
  let v12 : BitVec 32 := Scalar.extui v11
  let v13 : BitVec 32 := Scalar.subi v10 v12
  let v14 : BitVec 1 := Scalar.cmpi .ne v8 v13
  let v15 : BitVec 32 := Scalar.remsi v2 c2048_i32
  let c0_i32_4 : BitVec 32 := 0#32
  let v16 : BitVec 1 := Scalar.cmpi .ne v15 c0_i32_4
  let v17 : BitVec 1 := Scalar.andi v14 v16
  let c1_i32_5 : BitVec 32 := 1#32
  let v18 : BitVec 32 := Scalar.subi v3 c1_i32_5
  let v19 : BitVec 32 := Scalar.select v17 v18 v3
  let c4_i32 : BitVec 32 := 4#32
  let c0_i32_6 : BitVec 32 := 0#32
  let c0_i32_7 : BitVec 32 := 0#32
  let c0_i32_8 : BitVec 32 := 0#32
  ![v19.toNat, c4_i32.toNat, c0_i32_6.toNat, c0_i32_7.toNat]

def cc0_transform_7 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_8 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

abbrev stage0_0 : Fin 2 → Memref sig .tc .vmem S256x5504 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x1x1x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x1x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== DownModRefIdeal.lean ====
abbrev S8192x5504 : Shape := ⟨2, ![8192, 5504]⟩
abbrev S4x2x5504x2048 : Shape := ⟨4, ![4, 2, 5504, 2048]⟩
abbrev S8192x2048 : Shape := ⟨2, ![8192, 2048]⟩
abbrev S4x18432 : Shape := ⟨2, ![4, 18432]⟩
abbrev S2048 : Shape := ⟨1, ![2048]⟩
abbrev S4x2048x5504 : Shape := ⟨3, ![4, 2048, 5504]⟩
abbrev S4x2048x2048 : Shape := ⟨3, ![4, 2048, 2048]⟩
abbrev S4x1x18432 : Shape := ⟨3, ![4, 1, 18432]⟩
abbrev S4x1x2048 : Shape := ⟨3, ![4, 1, 2048]⟩
abbrev S_ : Shape := ⟨0, ![]⟩
abbrev S1x1x5504x2048 : Shape := ⟨4, ![1, 1, 5504, 2048]⟩
abbrev S5504x2048 : Shape := ⟨2, ![5504, 2048]⟩
abbrev S4x2048 : Shape := ⟨2, ![4, 2048]⟩
abbrev S4x2048x1 : Shape := ⟨3, ![4, 2048, 1]⟩
abbrev S1x1x2048 : Shape := ⟨3, ![1, 1, 2048]⟩

abbrev nBuf : Space → Nat
  | .hbm => 53
  | .vmem => 0
  | .smem => 0
  | _ => 0

abbrev bufTy : (tb : Table) → Fin (tcTables nBuf tb) → BufTy
  | .hbm, ⟨0, _⟩ => ⟨S8192x5504, .bf16⟩
  | .hbm, ⟨1, _⟩ => ⟨S4x2x5504x2048, .f32⟩
  | .hbm, ⟨2, _⟩ => ⟨S8192x2048, .f32⟩
  | .hbm, ⟨3, _⟩ => ⟨S4x18432, .f32⟩
  | .hbm, ⟨4, _⟩ => ⟨S2048, .f32⟩
  | .hbm, ⟨5, _⟩ => ⟨S8192x5504, .f32⟩
  | .hbm, ⟨6, _⟩ => ⟨S4x2048x5504, .f32⟩
  | .hbm, ⟨7, _⟩ => ⟨S4x2048x2048, .f32⟩
  | .hbm, ⟨8, _⟩ => ⟨S4x1x18432, .f32⟩
  | .hbm, ⟨9, _⟩ => ⟨S4x1x2048, .f32⟩
  | .hbm, ⟨10, _⟩ => ⟨S4x1x2048, .f32⟩
  | .hbm, ⟨11, _⟩ => ⟨S4x1x2048, .f32⟩
  | .hbm, ⟨12, _⟩ => ⟨S4x1x2048, .f32⟩
  | .hbm, ⟨13, _⟩ => ⟨S4x1x2048, .f32⟩
  | .hbm, ⟨14, _⟩ => ⟨S4x1x2048, .f32⟩
  | .hbm, ⟨15, _⟩ => ⟨S4x1x2048, .f32⟩
  | .hbm, ⟨16, _⟩ => ⟨S4x1x2048, .f32⟩
  | .hbm, ⟨17, _⟩ => ⟨S4x1x2048, .f32⟩
  | .hbm, ⟨18, _⟩ => ⟨S_, .f32⟩
  | .hbm, ⟨19, _⟩ => ⟨S4x1x2048, .f32⟩
  | .hbm, ⟨20, _⟩ => ⟨S4x1x2048, .f32⟩
  | .hbm, ⟨21, _⟩ => ⟨S1x1x5504x2048, .f32⟩
  | .hbm, ⟨22, _⟩ => ⟨S5504x2048, .f32⟩
  | .hbm, ⟨23, _⟩ => ⟨S4x2048x2048, .f32⟩
  | .hbm, ⟨24, _⟩ => ⟨S4x2048x2048, .f32⟩
  | .hbm, ⟨25, _⟩ => ⟨S4x2048x2048, .f32⟩
  | .hbm, ⟨26, _⟩ => ⟨S4x2048x2048, .f32⟩
  | .hbm, ⟨27, _⟩ => ⟨S4x2048x2048, .f32⟩
  | .hbm, ⟨28, _⟩ => ⟨S_, .f32⟩
  | .hbm, ⟨29, _⟩ => ⟨S4x2048, .f32⟩
  | .hbm, ⟨30, _⟩ => ⟨S4x2048x1, .f32⟩
  | .hbm, ⟨31, _⟩ => ⟨S_, .f32⟩
  | .hbm, ⟨32, _⟩ => ⟨S4x2048x1, .f32⟩
  | .hbm, ⟨33, _⟩ => ⟨S4x2048x1, .f32⟩
  | .hbm, ⟨34, _⟩ => ⟨S_, .f32⟩
  | .hbm, ⟨35, _⟩ => ⟨S4x2048x1, .f32⟩
  | .hbm, ⟨36, _⟩ => ⟨S4x2048x1, .f32⟩
  | .hbm, ⟨37, _⟩ => ⟨S4x2048x1, .f32⟩
  | .hbm, ⟨38, _⟩ => ⟨S4x2048x2048, .f32⟩
  | .hbm, ⟨39, _⟩ => ⟨S4x2048x2048, .f32⟩
  | .hbm, ⟨40, _⟩ => ⟨S1x1x2048, .f32⟩
  | .hbm, ⟨41, _⟩ => ⟨S4x2048x2048, .f32⟩
  | .hbm, ⟨42, _⟩ => ⟨S4x2048x2048, .f32⟩
  | .hbm, ⟨43, _⟩ => ⟨S_, .f32⟩
  | .hbm, ⟨44, _⟩ => ⟨S4x1x2048, .f32⟩
  | .hbm, ⟨45, _⟩ => ⟨S4x1x2048, .f32⟩
  | .hbm, ⟨46, _⟩ => ⟨S4x2048x2048, .f32⟩
  | .hbm, ⟨47, _⟩ => ⟨S4x2048x2048, .f32⟩
  | .hbm, ⟨48, _⟩ => ⟨S4x2048x2048, .f32⟩
  | .hbm, ⟨49, _⟩ => ⟨S4x2048x2048, .f32⟩
  | .hbm, ⟨50, _⟩ => ⟨S8192x2048, .f32⟩
  | .hbm, ⟨51, _⟩ => ⟨S8192x2048, .f32⟩
  | .hbm, ⟨52, _⟩ => ⟨S8192x2048, .bf16⟩
  | _, _ => ⟨S8192x5504, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_cst_0 : Ref sig .tc := ⟨.hbm, 28, rfl⟩
abbrev main_v22 : Ref sig .tc := ⟨.hbm, 29, rfl⟩
abbrev main_v23 : Ref sig .tc := ⟨.hbm, 30, rfl⟩
abbrev main_cst_1 : Ref sig .tc := ⟨.hbm, 31, rfl⟩
abbrev main_v24 : Ref sig .tc := ⟨.hbm, 32, rfl⟩
abbrev main_v25 : Ref sig .tc := ⟨.hbm, 33, rfl⟩
abbrev main_cst_2 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_cst_3 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩

abbrev nD : Nat := 1
abbrev τ : Topo := Topo.v7x

variable {F : FTy → Type} [FloatOps F]
-- ==== DownNext.lean ====
abbrev S8192x5504 : Shape := ⟨2, ![8192, 5504]⟩
abbrev S4x2x5504x2048 : Shape := ⟨4, ![4, 2, 5504, 2048]⟩
abbrev S8192x2048 : Shape := ⟨2, ![8192, 2048]⟩
abbrev S4x18432 : Shape := ⟨2, ![4, 18432]⟩
abbrev S2048 : Shape := ⟨1, ![2048]⟩
abbrev S4x9x1x2048 : Shape := ⟨4, ![4, 9, 1, 2048]⟩
abbrev S1x2048 : Shape := ⟨2, ![1, 2048]⟩
abbrev S256x5504 : Shape := ⟨2, ![256, 5504]⟩
abbrev S256x2048 : Shape := ⟨2, ![256, 2048]⟩
abbrev S1x1x1x2048 : Shape := ⟨4, ![1, 1, 1, 2048]⟩
abbrev S5504x2048 : Shape := ⟨2, ![5504, 2048]⟩
abbrev S4x128x2048 : Shape := ⟨3, ![4, 128, 2048]⟩
abbrev S4 : Shape := ⟨1, ![4]⟩
abbrev S2x256x2048 : Shape := ⟨3, ![2, 256, 2048]⟩
abbrev S1 : Shape := ⟨1, ![1]⟩
abbrev S_ : Shape := ⟨0, ![]⟩
abbrev S1x128x2048 : Shape := ⟨3, ![1, 128, 2048]⟩
abbrev S128x2048 : Shape := ⟨2, ![128, 2048]⟩
abbrev S1x1x128x2048 : Shape := ⟨4, ![1, 1, 128, 2048]⟩
abbrev S256x128 : Shape := ⟨2, ![256, 128]⟩
abbrev S1x256x2048 : Shape := ⟨3, ![1, 256, 2048]⟩
abbrev S256 : Shape := ⟨1, ![256]⟩
abbrev S256x1 : Shape := ⟨2, ![256, 1]⟩

abbrev nBuf : Space → Nat
  | .hbm => 11
  | .vmem => 18
  | .smem => 0
  | _ => 0

abbrev bufTy : (tb : Table) → Fin (tcTables nBuf tb) → BufTy
  | .hbm, ⟨0, _⟩ => ⟨S8192x5504, .bf16⟩
  | .hbm, ⟨1, _⟩ => ⟨S4x2x5504x2048, .f32⟩
  | .hbm, ⟨2, _⟩ => ⟨S8192x2048, .f32⟩
  | .hbm, ⟨3, _⟩ => ⟨S4x18432, .f32⟩
  | .hbm, ⟨4, _⟩ => ⟨S4x18432, .f32⟩
  | .hbm, ⟨5, _⟩ => ⟨S2048, .f32⟩
  | .hbm, ⟨6, _⟩ => ⟨S4x9x1x2048, .f32⟩
  | .hbm, ⟨7, _⟩ => ⟨S4x9x1x2048, .f32⟩
  | .hbm, ⟨8, _⟩ => ⟨S1x2048, .f32⟩
  | .hbm, ⟨9, _⟩ => ⟨S8192x2048, .f32⟩
  | .hbm, ⟨10, _⟩ => ⟨S8192x2048, .bf16⟩
  | .local _ .vmem, ⟨0, _⟩ => ⟨S256x5504, .bf16⟩
  | .local _ .vmem, ⟨1, _⟩ => ⟨S256x5504, .bf16⟩
  | .local _ .vmem, ⟨2, _⟩ => ⟨S256x2048, .f32⟩
  | .local _ .vmem, ⟨3, _⟩ => ⟨S256x2048, .f32⟩
  | .local _ .vmem, ⟨4, _⟩ => ⟨S1x1x1x2048, .f32⟩
  | .local _ .vmem, ⟨5, _⟩ => ⟨S1x1x1x2048, .f32⟩
  | .local _ .vmem, ⟨6, _⟩ => ⟨S1x2048, .f32⟩
  | .local _ .vmem, ⟨7, _⟩ => ⟨S1x1x1x2048, .f32⟩
  | .local _ .vmem, ⟨8, _⟩ => ⟨S1x1x1x2048, .f32⟩
  | .local _ .vmem, ⟨9, _⟩ => ⟨S1x1x1x2048, .f32⟩
  | .local _ .vmem, ⟨10, _⟩ => ⟨S1x1x1x2048, .f32⟩
  | .local _ .vmem, ⟨11, _⟩ => ⟨S256x2048, .f32⟩
  | .local _ .vmem, ⟨12, _⟩ => ⟨S256x2048, .f32⟩
  | .local _ .vmem, ⟨13, _⟩ => ⟨S256x2048, .bf16⟩
  | .local _ .vmem, ⟨14, _⟩ => ⟨S256x2048, .bf16⟩
  | .local _ .vmem, ⟨15, _⟩ => ⟨S5504x2048, .bf16⟩
  | .local _ .vmem, ⟨16, _⟩ => ⟨S4x128x2048, .f32⟩
  | .local _ .vmem, ⟨17, _⟩ => ⟨S2x256x2048, .f32⟩
  | _, _ => ⟨S8192x5504, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3_0 : Ref sig .tc := ⟨.hbm, 9, rfl⟩
abbrev main_v3_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_scratch0 : Ref sig .tc := ⟨.vmem, 15, rfl⟩
abbrev cc0_scratch1 : Ref sig .tc := ⟨.vmem, 16, rfl⟩
abbrev cc0_scratch3 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨1, ![33], ![false]⟩

def k0_cond2 (i : grid0.Coords) : BitVec 1 :=
  let arg0 : BitVec 32 := BitVec.ofNat 32 (i 0).val
  let c0_i32_1 : BitVec 32 := 0#32
  let v3 : BitVec 1 := Scalar.cmpi .sgt arg0 c0_i32_1
  let c32_i32 : BitVec 32 := 32#32
  let v4 : BitVec 1 := Scalar.cmpi .slt arg0 c32_i32
  let v5 : BitVec 1 := Scalar.andi v3 v4
  let c2_i32 : BitVec 32 := 2#32
  let c0_i32_2 : BitVec 32 := 0#32
  let v6 : BitVec 1 := Scalar.cmpi .eq c2_i32 c0_i32_2
  let c1_i32 : BitVec 32 := 1#32
  let v7 : BitVec 32 := Scalar.select v6 c1_i32 c2_i32
  let v8 : BitVec 32 := Scalar.remsi arg0 v7
  let c0_i32_4 : BitVec 32 := 0#32
  let v10 : BitVec 1 := Scalar.cmpi .slt v8 c0_i32_4
  let c0_i32_5 : BitVec 32 := 0#32
  let v11 : BitVec 1 := Scalar.cmpi .slt v7 c0_i32_5
  let v12 : BitVec 1 := Scalar.xori v10 v11
  let c0_i32_3 : BitVec 32 := 0#32
  let v9 : BitVec 1 := Scalar.cmpi .ne v8 c0_i32_3
  let v13 : BitVec 1 := Scalar.andi v12 v9
  let v14 : BitVec 32 := Scalar.addi v8 v7
  let v15 : BitVec 32 := Scalar.select v13 v14 v8
  let c0_i32_6 : BitVec 32 := 0#32
  let v16 : BitVec 1 := Scalar.cmpi .eq v15 c0_i32_6
  let v17 : BitVec 1 := Scalar.andi v5 v16
  let v18 : BitVec 32 := Scalar.extui v17
  let c0_i32_7 : BitVec 32 := 0#32
  let v19 : BitVec 1 := Scalar.cmpi .ne v18 c0_i32_7
  v19

def k0_cond3 (i : grid0.Coords) : BitVec 1 :=
  let arg0 : BitVec 32 := BitVec.ofNat 32 (i 0).val
  let c32_i32_8 : BitVec 32 := 32#32
  let v20 : BitVec 1 := Scalar.cmpi .slt arg0 c32_i32_8
  let c2_i32_9 : BitVec 32 := 2#32
  let c0_i32_10 : BitVec 32 := 0#32
  let v21 : BitVec 1 := Scalar.cmpi .eq c2_i32_9 c0_i32_10
  let c1_i32_11 : BitVec 32 := 1#32
  let v22 : BitVec 32 := Scalar.select v21 c1_i32_11 c2_i32_9
  let v23 : BitVec 32 := Scalar.remsi arg0 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c1_i32_15 : BitVec 32 := 1#32
  let v31 : BitVec 1 := Scalar.cmpi .eq v30 c1_i32_15
  let v32 : BitVec 1 := Scalar.andi v20 v31
  let v33 : BitVec 32 := Scalar.extui v32
  let c0_i32_16 : BitVec 32 := 0#32
  let v34 : BitVec 1 := Scalar.cmpi .ne v33 c0_i32_16
  v34

def k0_cond4 (i : grid0.Coords) : BitVec 1 :=
  let arg0 : BitVec 32 := BitVec.ofNat 32 (i 0).val
  let c32_i32_17 : BitVec 32 := 32#32
  let v35 : BitVec 1 := Scalar.cmpi .eq arg0 c32_i32_17
  let v36 : BitVec 32 := Scalar.extui v35
  let c0_i32_18 : BitVec 32 := 0#32
  let v37 : BitVec 1 := Scalar.cmpi .ne v36 c0_i32_18
  v37

def cc0_transform_0 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_3 (i : grid0.Coords) : Fin 4 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c256_i32 : BitVec 32 := 256#32
  let v2 : BitVec 32 := Scalar.muli v1 c256_i32
  let c2048_i32 : BitVec 32 := 2048#32
  let v3 : BitVec 32 := Scalar.divsi v2 c2048_i32
  let c0_i32_0 : BitVec 32 := 0#32
  let v4 : BitVec 1 := Scalar.cmpi .sgt v2 c0_i32_0
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c0_i32_2 : BitVec 32 := 0#32
  let v9 : BitVec 1 := Scalar.cmpi .sgt c2048_i32 c0_i32_2
  let v10 : BitVec 32 := Scalar.extui v9
  let c0_i32_3 : BitVec 32 := 0#32
  let v11 : BitVec 1 := Scalar.cmpi .slt c2048_i32 c0_i32_3
  let v12 : BitVec 32 := Scalar.extui v11
  let v13 : BitVec 32 := Scalar.subi v10 v12
  let v14 : BitVec 1 := Scalar.cmpi .ne v8 v13
  let v15 : BitVec 32 := Scalar.remsi v2 c2048_i32
  let c0_i32_4 : BitVec 32 := 0#32
  let v16 : BitVec 1 := Scalar.cmpi .ne v15 c0_i32_4
  let v17 : BitVec 1 := Scalar.andi v14 v16
  let c1_i32_5 : BitVec 32 := 1#32
  let v18 : BitVec 32 := Scalar.subi v3 c1_i32_5
  let v19 : BitVec 32 := Scalar.select v17 v18 v3
  let c8_i32 : BitVec 32 := 8#32
  let c0_i32_6 : BitVec 32 := 0#32
  let c0_i32_7 : BitVec 32 := 0#32
  let c0_i32_8 : BitVec 32 := 0#32
  ![v19.toNat, c8_i32.toNat, c0_i32_6.toNat, c0_i32_7.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 4 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c256_i32 : BitVec 32 := 256#32
  let v2 : BitVec 32 := Scalar.muli v1 c256_i32
  let c2048_i32 : BitVec 32 := 2048#32
  let v3 : BitVec 32 := Scalar.divsi v2 c2048_i32
  let c0_i32_0 : BitVec 32 := 0#32
  let v4 : BitVec 1 := Scalar.cmpi .sgt v2 c0_i32_0
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c0_i32_2 : BitVec 32 := 0#32
  let v9 : BitVec 1 := Scalar.cmpi .sgt c2048_i32 c0_i32_2
  let v10 : BitVec 32 := Scalar.extui v9
  let c0_i32_3 : BitVec 32 := 0#32
  let v11 : BitVec 1 := Scalar.cmpi .slt c2048_i32 c0_i32_3
  let v12 : BitVec 32 := Scalar.extui v11
  let v13 : BitVec 32 := Scalar.subi v10 v12
  let v14 : BitVec 1 := Scalar.cmpi .ne v8 v13
  let v15 : BitVec 32 := Scalar.remsi v2 c2048_i32
  let c0_i32_4 : BitVec 32 := 0#32
  let v16 : BitVec 1 := Scalar.cmpi .ne v15 c0_i32_4
  let v17 : BitVec 1 := Scalar.andi v14 v16
  let c1_i32_5 : BitVec 32 := 1#32
  let v18 : BitVec 32 := Scalar.subi v3 c1_i32_5
  let v19 : BitVec 32 := Scalar.select v17 v18 v3
  let c0_i32_6 : BitVec 32 := 0#32
  let c0_i32_7 : BitVec 32 := 0#32
  let c0_i32_8 : BitVec 32 := 0#32
  let c0_i32_9 : BitVec 32 := 0#32
  ![v19.toNat, c0_i32_6.toNat, c0_i32_7.toNat, c0_i32_8.toNat]

def cc0_transform_6 (i : grid0.Coords) : Fin 4 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c256_i32 : BitVec 32 := 256#32
  let v2 : BitVec 32 := Scalar.muli v1 c256_i32
  let c2048_i32 : BitVec 32 := 2048#32
  let v3 : BitVec 32 := Scalar.divsi v2 c2048_i32
  let c0_i32_0 : BitVec 32 := 0#32
  let v4 : BitVec 1 := Scalar.cmpi .sgt v2 c0_i32_0
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c0_i32_2 : BitVec 32 := 0#32
  let v9 : BitVec 1 := Scalar.cmpi .sgt c2048_i32 c0_i32_2
  let v10 : BitVec 32 := Scalar.extui v9
  let c0_i32_3 : BitVec 32 := 0#32
  let v11 : BitVec 1 := Scalar.cmpi .slt c2048_i32 c0_i32_3
  let v12 : BitVec 32 := Scalar.extui v11
  let v13 : BitVec 32 := Scalar.subi v10 v12
  let v14 : BitVec 1 := Scalar.cmpi .ne v8 v13
  let v15 : BitVec 32 := Scalar.remsi v2 c2048_i32
  let c0_i32_4 : BitVec 32 := 0#32
  let v16 : BitVec 1 := Scalar.cmpi .ne v15 c0_i32_4
  let v17 : BitVec 1 := Scalar.andi v14 v16
  let c1_i32_5 : BitVec 32 := 1#32
  let v18 : BitVec 32 := Scalar.subi v3 c1_i32_5
  let v19 : BitVec 32 := Scalar.select v17 v18 v3
  let c1_i32_6 : BitVec 32 := 1#32
  let c0_i32_7 : BitVec 32 := 0#32
  let c0_i32_8 : BitVec 32 := 0#32
  let c0_i32_9 : BitVec 32 := 0#32
  ![v19.toNat, c1_i32_6.toNat, c0_i32_7.toNat, c0_i32_8.toNat]

def cc0_transform_7 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_8 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

abbrev stage0_0 : Fin 2 → Memref sig .tc .vmem S256x5504 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x1x1x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x1x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== DownNextRefIdeal.lean ====
abbrev S8192x5504 : Shape := ⟨2, ![8192, 5504]⟩
abbrev S4x2x5504x2048 : Shape := ⟨4, ![4, 2, 5504, 2048]⟩
abbrev S8192x2048 : Shape := ⟨2, ![8192, 2048]⟩
abbrev S4x18432 : Shape := ⟨2, ![4, 18432]⟩
abbrev S2048 : Shape := ⟨1, ![2048]⟩
abbrev S4x2048x5504 : Shape := ⟨3, ![4, 2048, 5504]⟩
abbrev S4x2048x2048 : Shape := ⟨3, ![4, 2048, 2048]⟩
abbrev S4x1x18432 : Shape := ⟨3, ![4, 1, 18432]⟩
abbrev S4x1x2048 : Shape := ⟨3, ![4, 1, 2048]⟩
abbrev S_ : Shape := ⟨0, ![]⟩
abbrev S1x1x5504x2048 : Shape := ⟨4, ![1, 1, 5504, 2048]⟩
abbrev S5504x2048 : Shape := ⟨2, ![5504, 2048]⟩
abbrev S4x2048 : Shape := ⟨2, ![4, 2048]⟩
abbrev S4x2048x1 : Shape := ⟨3, ![4, 2048, 1]⟩
abbrev S1x1x2048 : Shape := ⟨3, ![1, 1, 2048]⟩

abbrev nBuf : Space → Nat
  | .hbm => 64
  | .vmem => 0
  | .smem => 0
  | _ => 0

abbrev bufTy : (tb : Table) → Fin (tcTables nBuf tb) → BufTy
  | .hbm, ⟨0, _⟩ => ⟨S8192x5504, .bf16⟩
  | .hbm, ⟨1, _⟩ => ⟨S4x2x5504x2048, .f32⟩
  | .hbm, ⟨2, _⟩ => ⟨S8192x2048, .f32⟩
  | .hbm, ⟨3, _⟩ => ⟨S4x18432, .f32⟩
  | .hbm, ⟨4, _⟩ => ⟨S4x18432, .f32⟩
  | .hbm, ⟨5, _⟩ => ⟨S2048, .f32⟩
  | .hbm, ⟨6, _⟩ => ⟨S8192x5504, .f32⟩
  | .hbm, ⟨7, _⟩ => ⟨S4x2048x5504, .f32⟩
  | .hbm, ⟨8, _⟩ => ⟨S4x2048x2048, .f32⟩
  | .hbm, ⟨9, _⟩ => ⟨S4x1x18432, .f32⟩
  | .hbm, ⟨10, _⟩ => ⟨S4x1x2048, .f32⟩
  | .hbm, ⟨11, _⟩ => ⟨S4x1x2048, .f32⟩
  | .hbm, ⟨12, _⟩ => ⟨S4x1x2048, .f32⟩
  | .hbm, ⟨13, _⟩ => ⟨S4x1x2048, .f32⟩
  | .hbm, ⟨14, _⟩ => ⟨S4x1x2048, .f32⟩
  | .hbm, ⟨15, _⟩ => ⟨S4x1x2048, .f32⟩
  | .hbm, ⟨16, _⟩ => ⟨S4x1x2048, .f32⟩
  | .hbm, ⟨17, _⟩ => ⟨S4x1x2048, .f32⟩
  | .hbm, ⟨18, _⟩ => ⟨S4x1x2048, .f32⟩
  | .hbm, ⟨19, _⟩ => ⟨S_, .f32⟩
  | .hbm, ⟨20, _⟩ => ⟨S4x1x2048, .f32⟩
  | .hbm, ⟨21, _⟩ => ⟨S4x1x2048, .f32⟩
  | .hbm, ⟨22, _⟩ => ⟨S1x1x5504x2048, .f32⟩
  | .hbm, ⟨23, _⟩ => ⟨S5504x2048, .f32⟩
  | .hbm, ⟨24, _⟩ => ⟨S4x2048x2048, .f32⟩
  | .hbm, ⟨25, _⟩ => ⟨S4x2048x2048, .f32⟩
  | .hbm, ⟨26, _⟩ => ⟨S4x2048x2048, .f32⟩
  | .hbm, ⟨27, _⟩ => ⟨S4x2048x2048, .f32⟩
  | .hbm, ⟨28, _⟩ => ⟨S4x1x18432, .f32⟩
  | .hbm, ⟨29, _⟩ => ⟨S4x1x2048, .f32⟩
  | .hbm, ⟨30, _⟩ => ⟨S4x1x2048, .f32⟩
  | .hbm, ⟨31, _⟩ => ⟨S4x1x2048, .f32⟩
  | .hbm, ⟨32, _⟩ => ⟨S4x1x2048, .f32⟩
  | .hbm, ⟨33, _⟩ => ⟨S4x1x2048, .f32⟩
  | .hbm, ⟨34, _⟩ => ⟨S4x1x2048, .f32⟩
  | .hbm, ⟨35, _⟩ => ⟨S4x1x2048, .f32⟩
  | .hbm, ⟨36, _⟩ => ⟨S4x1x2048, .f32⟩
  | .hbm, ⟨37, _⟩ => ⟨S4x1x2048, .f32⟩
  | .hbm, ⟨38, _⟩ => ⟨S4x2048x2048, .f32⟩
  | .hbm, ⟨39, _⟩ => ⟨S_, .f32⟩
  | .hbm, ⟨40, _⟩ => ⟨S4x2048, .f32⟩
  | .hbm, ⟨41, _⟩ => ⟨S4x2048x1, .f32⟩
  | .hbm, ⟨42, _⟩ => ⟨S_, .f32⟩
  | .hbm, ⟨43, _⟩ => ⟨S4x2048x1, .f32⟩
  | .hbm, ⟨44, _⟩ => ⟨S4x2048x1, .f32⟩
  | .hbm, ⟨45, _⟩ => ⟨S_, .f32⟩
  | .hbm, ⟨46, _⟩ => ⟨S4x2048x1, .f32⟩
  | .hbm, ⟨47, _⟩ => ⟨S4x2048x1, .f32⟩
  | .hbm, ⟨48, _⟩ => ⟨S4x2048x1, .f32⟩
  | .hbm, ⟨49, _⟩ => ⟨S4x2048x2048, .f32⟩
  | .hbm, ⟨50, _⟩ => ⟨S4x2048x2048, .f32⟩
  | .hbm, ⟨51, _⟩ => ⟨S1x1x2048, .f32⟩
  | .hbm, ⟨52, _⟩ => ⟨S4x2048x2048, .f32⟩
  | .hbm, ⟨53, _⟩ => ⟨S4x2048x2048, .f32⟩
  | .hbm, ⟨54, _⟩ => ⟨S_, .f32⟩
  | .hbm, ⟨55, _⟩ => ⟨S4x1x2048, .f32⟩
  | .hbm, ⟨56, _⟩ => ⟨S4x1x2048, .f32⟩
  | .hbm, ⟨57, _⟩ => ⟨S4x2048x2048, .f32⟩
  | .hbm, ⟨58, _⟩ => ⟨S4x2048x2048, .f32⟩
  | .hbm, ⟨59, _⟩ => ⟨S4x2048x2048, .f32⟩
  | .hbm, ⟨60, _⟩ => ⟨S4x2048x2048, .f32⟩
  | .hbm, ⟨61, _⟩ => ⟨S8192x2048, .f32⟩
  | .hbm, ⟨62, _⟩ => ⟨S8192x2048, .f32⟩
  | .hbm, ⟨63, _⟩ => ⟨S8192x2048, .bf16⟩
  | _, _ => ⟨S8192x5504, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_cst_0 : Ref sig .tc := ⟨.hbm, 39, rfl⟩
abbrev main_v32 : Ref sig .tc := ⟨.hbm, 40, rfl⟩
abbrev main_v33 : Ref sig .tc := ⟨.hbm, 41, rfl⟩
abbrev main_cst_1 : Ref sig .tc := ⟨.hbm, 42, rfl⟩
abbrev main_v34 : Ref sig .tc := ⟨.hbm, 43, rfl⟩
abbrev main_v35 : Ref sig .tc := ⟨.hbm, 44, rfl⟩
abbrev main_cst_2 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_cst_3 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩

abbrev nD : Nat := 1
abbrev τ : Topo := Topo.v7x

variable {F : FTy → Type} [FloatOps F]
-- ==== Proof.Head.lean ====
/- One head's share of a tile, written once: the masks over the tile's rows, the gate from the low-rank projection, its
   running sum down the tile, the scores level by level, the tile's output and the state handed on. The kernel's stored
   values are these, head by head (module `Point`). -/
module

public import proofs.«01_k».proof.Proof.Gen.KernelIdeal.Skeleton

@[expose] public section

set_option maxRecDepth 16384

noncomputable section

namespace Cert.GlaHead

open Idealize.ShloMosaic
open Cert.KernelIdeal Cert.KernelIdeal.Gen

variable {F : FTy → Type} [FloatOps F]

abbrev Tile (F : FTy → Type) [FloatOps F] := FVec F S256x256 .f32

/-! The masks. -/

abbrev rows : IVec S256x256 32 := iota .tc S256x256 32 [0] iota_S256x256_d0_w32
abbrev cols : IVec S256x256 32 := iota .tc S256x256 32 [1] iota_S256x256_d1_w32

def splat (b : BitVec 32) : Tile F := broadcast S256x256 (Scalar.ofBits .f32 b)

def tri : FVec F S256x256 .bf16 :=
  truncf .bf16 (select (cmpi .sle cols rows) (splat 0x3F800000#32) (splat (F := F) 0x00000000#32)) bitsLt_bf16_f32

def onDiag : IVec S256x256 1 := cmpi .eq rows cols

/-- Rows in the upper half of their block of `m + 1`, `w` the half. -/
def upper (m w : BitVec 32) : IVec S256x256 1 :=
  cmpi .sge (andi rows (broadcast S256x256 m)) (broadcast S256x256 w)

/-- Row and column in one block of `2 ^ sh`. -/
def sameBlock (sh : BitVec 32) : IVec S256x256 1 :=
  cmpi .eq (shrsi rows (broadcast S256x256 sh)) (shrsi cols (broadcast S256x256 sh))

def inFour : IVec S256x256 32 := andi rows (broadcast S256x256 3#32)

def zeroTile : Tile F := constant S256x256 .f32 0x00000000#32

/-! The gate and its running sum. -/

def rowTerm (zl : Vec F S256x16 .f32) (w : FVec F S16x256 .f32) : Tile F :=
  let zh := truncf .bf16 zl bitsLt_bf16_f32
  let zr := truncf .bf16 (subf zl (extf .f32 zh bitsLt_bf16_f32)) bitsLt_bf16_f32
  let wh := truncf .bf16 w bitsLt_bf16_f32
  let wr := truncf .bf16 (subf w (extf .f32 wh bitsLt_bf16_f32)) bitsLt_bf16_f32
  addf (matmul dot_S256x16_S16x256_S256x256_1_0_0_1_n_n none zh wh zeroTile)
    (addf (matmul dot_S256x16_S16x256_S256x256_1_0_0_1_n_n none zr wh zeroTile)
      (matmul dot_S256x16_S16x256_S256x256_1_0_0_1_n_n none zh wr zeroTile))

def logSig (z : Tile F) : Tile F :=
  mulf (subf (minimumf z (splat 0x00000000#32)) (log1p (exp (subf (splat 0x00000000#32) (absf z)))))
    (splat 0x3D800000#32)

def gate (zl : Vec F S256x16 .f32) (w : Vec F S1x16x256 .f32) (b : Vec F S1x1x256 .f32) : Tile F :=
  logSig (addf (rowTerm (shapeCast S256x16 zl shapeCasts_S256x16_S256x16) (shapeCast S16x256 w shapeCasts_S1x16x256_S16x256))
    (broadcastTo S256x256 (shapeCast S1x256 b shapeCasts_S1x1x256_S1x256) broadcasts_S1x256_S256x256))

def runSum (g : Tile F) : Tile F :=
  let p0 := truncf .bf16 g bitsLt_bf16_f32
  let g1 := subf g (extf .f32 p0 bitsLt_bf16_f32)
  let p1 := truncf .bf16 g1 bitsLt_bf16_f32
  let p2 := truncf .bf16 (subf g1 (extf .f32 p1 bitsLt_bf16_f32)) bitsLt_bf16_f32
  addf (addf (addf (splat 0x00000000#32) (matmul dot_S256x256_S256x256_S256x256_1_0_0_1_n_n none tri p0 zeroTile))
    (matmul dot_S256x256_S256x256_S256x256_1_0_0_1_n_n none tri p1 zeroTile))
    (matmul dot_S256x256_S256x256_S256x256_1_0_0_1_n_n none tri p2 zeroTile)

/-! The scores. -/

def pair (q k mq mk : Tile F) : Tile F :=
  matmul dot_S256x256_S256x256_S256x256_1_1_0_0_n_n none (truncf .bf16 (mulf q mq) bitsLt_bf16_f32)
    (truncf .bf16 (mulf k mk) bitsLt_bf16_f32) zeroTile

def level (q k cum ref : Tile F) (up : IVec S256x256 1) : Tile F :=
  let d := subf cum ref
  let e := exp (select up d (subf (splat 0x00000000#32) d))
  pair q k (select up e (splat 0x00000000#32)) (select up (splat 0x00000000#32) e)

theorem sliceRow (o : ℕ) (h : o < 256) : S256x256.Slices ![o, 0] S1x256 :=
  ⟨rfl, Fin.forall_fin_two.mpr ⟨h, Nat.le_refl 256⟩⟩

/-- Row `o` of a tile. -/
def row (x : Tile F) (o : ℕ) (h : o < 256) : FVec F S1x256 .f32 := extractStridedSlice S1x256 ![o, 0] x (sliceRow o h)

/-- Row 127 everywhere. -/
def ref128 (x : Tile F) : Tile F :=
  broadcastTo S256x256 (shapeCast S1x256 (row x 127 (by decide)) shapeCasts_S1x256_S1x256) broadcasts_S1x256_S256x256

/-- Row `63` of each block of 128 throughout that block. -/
def ref64 (x : Tile F) : Tile F :=
  concatenate S256x256 0 (List.ofFn fun n : Fin 2 => ⟨S128x256, broadcastTo S128x256
    (shapeCast S1x256 (row x (128 * n.val + 63) (by omega)) shapeCasts_S1x256_S1x256) broadcasts_S1x256_S128x256⟩) concatenates_S128x256_S128x256_S256x256_d0

/-- Row `31` of each block of 64 throughout that block. -/
def ref32 (x : Tile F) : Tile F :=
  concatenate S256x256 0 (List.ofFn fun n : Fin 4 => ⟨S64x256, broadcastTo S64x256
    (shapeCast S1x256 (row x (64 * n.val + 31) (by omega)) shapeCasts_S1x256_S1x256) broadcasts_S1x256_S64x256⟩) concatenates_S64x256_S64x256_S64x256_S64x256_S256x256_d0

/-- Row `15` of each block of 32 throughout that block. -/
def ref16 (x : Tile F) : Tile F :=
  concatenate S256x256 0 (List.ofFn fun n : Fin 8 => ⟨S32x256, broadcastTo S32x256
    (shapeCast S1x256 (row x (32 * n.val + 15) (by omega)) shapeCasts_S1x256_S1x256) broadcasts_S1x256_S32x256⟩) concatenates_S32x256_S32x256_S32x256_S32x256_S32x256_S32x256_S32x256_S32x256_S256x256_d0

/-- Row `7` of each block of 16 throughout that block. -/
def ref8 (x : Tile F) : Tile F :=
  concatenate S256x256 0 (List.ofFn fun n : Fin 16 => ⟨S16x256, broadcastTo S16x256
    (shapeCast S1x256 (row x (16 * n.val + 7) (by omega)) shapeCasts_S1x256_S1x256) broadcasts_S1x256_S16x256⟩) concatenates_S16x256_S16x256_S16x256_S16x256_S16x256_S16x256_S16x256_S16x256_S16x256_S16x256_S16x256_S16x256_S16x256_S16x256_S16x256_S16x256_S256x256_d0

/-- Row `3` of each block of 8 throughout that block. -/
def ref4 (x : Tile F) : Tile F :=
  concatenate S256x256 0 (List.ofFn fun n : Fin 32 => ⟨S8x256, broadcastTo S8x256
    (shapeCast S1x256 (row x (8 * n.val + 3) (by omega)) shapeCasts_S1x256_S1x256) broadcasts_S1x256_S8x256⟩) concatenates_S8x256_S8x256_S8x256_S8x256_S8x256_S8x256_S8x256_S8x256_S8x256_S8x256_S8x256_S8x256_S8x256_S8x256_S8x256_S8x256_S8x256_S8x256_S8x256_S8x256_S8x256_S8x256_S8x256_S8x256_S8x256_S8x256_S8x256_S8x256_S8x256_S8x256_S8x256_S8x256_S256x256_d0

def scores4 (q k cum : Tile F) : Tile F :=
  select (sameBlock 3#32) (level q k cum (ref4 cum) (upper 7#32 4#32)) <|
  select (sameBlock 4#32) (level q k cum (ref8 cum) (upper 15#32 8#32)) <|
  select (sameBlock 5#32) (level q k cum (ref16 cum) (upper 31#32 16#32)) <|
  select (sameBlock 6#32) (level q k cum (ref32 cum) (upper 63#32 32#32)) <|
  select (sameBlock 7#32) (level q k cum (ref64 cum) (upper 127#32 64#32)) <|
  addf (splat 0x00000000#32) (level q k cum (ref128 cum) (upper 255#32 128#32))

def isR4 (n : BitVec 32) : IVec S256x256 1 := cmpi .eq inFour (broadcast S256x256 n)

def scores2 (q k g : Tile F) : Tile F :=
  let eg := exp g
  pair q k
    (select (isR4 2#32) eg (select (isR4 3#32) (mulf eg (dynamicRotate 0 1#32 none eg rotates_S256x256_d0)) (splat 0x00000000#32)))
    (select (isR4 1#32) (splat 0x3F800000#32)
      (select (isR4 0#32) (dynamicRotate 0 255#32 none eg rotates_S256x256_d0) (splat 0x00000000#32)))

def scores1 (q k g : Tile F) : Tile F :=
  pair q k (select (upper 1#32 1#32) (exp g) (splat 0x00000000#32))
    (select (upper 1#32 1#32) (splat 0x00000000#32) (splat 0x3F800000#32))

def scores (q k g cum : Tile F) : Tile F :=
  select onDiag (matmul dot_S256x256_S256x256_S256x256_1_1_0_0_n_n none (truncf .bf16 q bitsLt_bf16_f32)
    (truncf .bf16 k bitsLt_bf16_f32) zeroTile) <|
  select (sameBlock 1#32) (scores1 q k g) <|
  select (sameBlock 2#32) (scores2 q k g) (scores4 q k cum)

/-! The tile's output and the state handed on. -/

def outOf (q k g cum : Tile F) (v : Vec F S256x512 .bf16) (st : FVec F S512x256 .f32) : FVec F S256x512 .f32 :=
  addf (matmul dot_S256x256_S512x256_S256x512_1_1_0_0_n_n none (truncf .bf16 (mulf q (exp cum)) bitsLt_bf16_f32)
      (truncf .bf16 st bitsLt_bf16_f32) (constant S256x512 .f32 0x00000000#32))
    (matmul dot_S256x256_S256x512_S256x512_1_0_0_1_n_n none (truncf .bf16 (scores q k g cum) bitsLt_bf16_f32) v
      (constant S256x512 .f32 0x00000000#32))

def stateOf (k cum : Tile F) (v : Vec F S256x512 .bf16) (st : FVec F S512x256 .f32) : FVec F S512x256 .f32 :=
  let tot := row cum 255 (by decide)
  addf (mulf st (broadcastTo S512x256 (exp tot) broadcasts_S1x256_S512x256))
    (matmul dot_S256x512_S256x256_S512x256_0_0_1_1_n_n none v
      (truncf .bf16 (mulf k (exp (subf (broadcastTo S256x256 tot broadcasts_S1x256_S256x256) cum))) bitsLt_bf16_f32)
      (constant S512x256 .f32 0x00000000#32))

def qOf (q : Vec F S256x256 .bf16) : Tile F := mulf (extf .f32 q bitsLt_bf16_f32) (splat 0x3D800000#32)
def kOf (k : Vec F S256x256 .bf16) : Tile F := extf .f32 k bitsLt_bf16_f32

/-- A head's output on a tile, from the blocks it reads and the state it finds. -/
def out (q k : Vec F S256x256 .bf16) (v : Vec F S256x512 .bf16) (zl : Vec F S256x16 .f32) (w : Vec F S1x16x256 .f32)
    (b : Vec F S1x1x256 .f32) (st : Vec F S1x512x256 .f32) : FVec F S256x512 .f32 :=
  outOf (qOf q) (kOf k) (gate zl w b) (runSum (gate zl w b)) v (shapeCast S512x256 st shapeCasts_S1x512x256_S512x256)

/-- The state a head leaves. -/
def state (k : Vec F S256x256 .bf16) (v : Vec F S256x512 .bf16) (zl : Vec F S256x16 .f32) (w : Vec F S1x16x256 .f32)
    (b : Vec F S1x1x256 .f32) (st : Vec F S1x512x256 .f32) : FVec F S1x512x256 .f32 :=
  shapeCast S1x512x256 (stateOf (kOf k) (runSum (gate zl w b)) v (shapeCast S512x256 st shapeCasts_S1x512x256_S512x256))
    shapeCasts_S512x256_S1x512x256

end Cert.GlaHead

end
-- ==== Proof.Point.lean ====
/- What one grid point's stores leave, case by case: on each head's columns of the output block the head's output, on each
   head's plane of the scratch the state it hands on, both of `GlaHead`; at a batch's first tile the state found is zero. -/
module

public import proofs.«01_k».proof.Proof.Gen.KernelIdeal.Value
public import proofs.«01_k».proof.Proof.Head
public import Idealize.ShloMosaic.Lib.WritesUnit

@[expose] public section

set_option maxRecDepth 16384

noncomputable section

namespace Cert.GlaPoint

open Idealize.ShloMosaic Idealize.ShloMosaic.TcCoe Idealize.ShloMosaic.Tactic
open Cert.KernelIdeal Cert.KernelIdeal.Gen

variable {F : FTy → Type} [FloatOps F]

/-! The rectangles of head `h`. -/

def rq (h : Fin 4) : Rect S256x1024 := Rect.unit (s := S256x1024) ![0, 256 * h.val] S256x256.size
  (Fin.forall_fin_two.mpr ⟨Nat.le_refl 256, by show 256 * h.val + 256 ≤ 1024; omega⟩)
def rv (h : Fin 4) : Rect S256x2048 := Rect.unit (s := S256x2048) ![0, 512 * h.val] S256x512.size
  (Fin.forall_fin_two.mpr ⟨Nat.le_refl 256, by show 512 * h.val + 512 ≤ 2048; omega⟩)
def rw (h : Fin 4) : Rect S1x16x1024 := Rect.unit (s := S1x16x1024) ![0, 0, 256 * h.val] S1x16x256.size
  (fun a => by fin_cases a; exacts [Nat.le_refl 1, Nat.le_refl 16, by show 256 * h.val + 256 ≤ 1024; omega])
def rb (h : Fin 4) : Rect S1x1x1024 := Rect.unit (s := S1x1x1024) ![0, 0, 256 * h.val] S1x1x256.size
  (fun a => by fin_cases a; exacts [Nat.le_refl 1, Nat.le_refl 1, by show 256 * h.val + 256 ≤ 1024; omega])
def rs (h : Fin 4) : Rect S4x512x256 := Rect.unit (s := S4x512x256) ![h.val, 0, 0] S1x512x256.size
  (fun a => by fin_cases a; exacts [by show h.val + 1 ≤ 4; omega, Nat.le_refl 512, Nat.le_refl 256])

/-- Head `h`'s output on a point's blocks, from the state plane `s`. -/
def hOut (x0 x1 : Vec F S256x1024 .bf16) (x2 : Vec F S256x2048 .bf16) (x3 : Vec F S256x16 .f32) (x4 : Vec F S1x16x1024 .f32)
    (x5 : Vec F S1x1x1024 .f32) (h : Fin 4) (s : Vec F S1x512x256 .f32) : FVec F S256x512 .f32 :=
  GlaHead.out (View.ld x0 (rq h)) (View.ld x1 (rq h)) (View.ld x2 (rv h)) x3 (View.ld x4 (rw h)) (View.ld x5 (rb h)) s

/-- The state plane head `h` leaves. -/
def hState (x1 : Vec F S256x1024 .bf16) (x2 : Vec F S256x2048 .bf16) (x3 : Vec F S256x16 .f32) (x4 : Vec F S1x16x1024 .f32)
    (x5 : Vec F S1x1x1024 .f32) (h : Fin 4) (s : Vec F S1x512x256 .f32) : FVec F S1x512x256 .f32 :=
  GlaHead.state (View.ld x1 (rq h)) (View.ld x2 (rv h)) x3 (View.ld x4 (rw h)) (View.ld x5 (rb h)) s

theorem off2 : (![0, 0] : Fin 2 → Nat) = fun _ => 0 := funext fun a => by fin_cases a <;> rfl

variable (c : Dev nD) (i : grid0.Coords) (arg2 : Memref sig .tc .vmem S256x1024 .bf16) (harg2 : arg2.IsWhole) (arg3 : Memref sig .tc .vmem S256x1024 .bf16) (harg3 : arg3.IsWhole) (arg4 : Memref sig .tc .vmem S256x2048 .bf16) (harg4 : arg4.IsWhole) (arg5 : Memref sig .tc .vmem S256x16 .f32) (harg5 : arg5.IsWhole) (arg6 : Memref sig .tc .vmem S1x16x1024 .f32) (harg6 : arg6.IsWhole) (arg7 : Memref sig .tc .vmem S1x1x1024 .f32) (harg7 : arg7.IsWhole) (arg8 : Memref sig .tc .vmem S256x2048 .f32) (harg8 : arg8.IsWhole) (arg9 : Memref sig .tc .vmem S4x512x256 .f32) (harg9 : arg9.IsWhole)
    (x0 x1 : Vec F S256x1024 .bf16) (x2 : Vec F S256x2048 .bf16) (x3 : Vec F S256x16 .f32)
    (x4 : Vec F S1x16x1024 .f32) (x5 : Vec F S1x1x1024 .f32) (xs0 : Vec F S4x512x256 .f32)

theorem piecesB (hc0 : ¬cond0_0 i) :
    (kernelRun0_B c i arg2 harg2 arg3 harg3 arg4 harg4 arg5 harg5 arg6 harg6 arg7 harg7 arg8 harg8 arg9 harg9 hc0 x0 x1 x2 x3 x4 x5 xs0).1
      = [⟨rv 3, hOut x0 x1 x2 x3 x4 x5 3 (View.ld xs0 (rs 3))⟩, ⟨rv 2, hOut x0 x1 x2 x3 x4 x5 2 (View.ld xs0 (rs 2))⟩, ⟨rv 1, hOut x0 x1 x2 x3 x4 x5 1 (View.ld xs0 (rs 1))⟩, ⟨rv 0, hOut x0 x1 x2 x3 x4 x5 0 (View.ld xs0 (rs 0))⟩]
    ∧ (kernelRun0_B c i arg2 harg2 arg3 harg3 arg4 harg4 arg5 harg5 arg6 harg6 arg7 harg7 arg8 harg8 arg9 harg9 hc0 x0 x1 x2 x3 x4 x5 xs0).2.1
      = [⟨rs 3, hState x1 x2 x3 x4 x5 3 (View.ld xs0 (rs 3))⟩, ⟨rs 2, hState x1 x2 x3 x4 x5 2 (View.ld xs0 (rs 2))⟩, ⟨rs 1, hState x1 x2 x3 x4 x5 1 (View.ld xs0 (rs 1))⟩, ⟨rs 0, hState x1 x2 x3 x4 x5 0 (View.ld xs0 (rs 0))⟩] := by
  unfold kernelRun0_B
  dsimp only
  sl_unfold_words
  simp only [View.readAt_eq_ld, harg2.read_unread, harg3.read_unread, harg4.read_unread, harg5.read_unread,
    harg6.read_unread, harg7.read_unread, harg9.read_unread, View.ld_unit_zero (S := S256x16) off2]
  exact ⟨rfl, rfl⟩

/-! At a batch's first tile. -/

abbrev zeroSt : Vec F S4x512x256 .f32 := k0_pay2 (F := F)

theorem rs_disjoint {h h' : Fin 4} (hne : h ≠ h') (x : S1x512x256.Idx) : (rs h).emb x ∉ (rs h').set := by
  have e0 : (((rs h).emb x) 0).val = h.val + 1 * (x 0).val := rfl
  have x0 : (x 0).val < 1 := (x 0).isLt
  intro hm
  have h0 := (Rect.mem_set_unit).mp hm 0
  have h1 : h'.val ≤ (((rs h).emb x) 0).val ∧ (((rs h).emb x) 0).val < h'.val + 1 := h0
  rw [e0] at h1
  exact hne (Fin.ext (by omega))

theorem rv_disjoint {h h' : Fin 4} (hne : h ≠ h') (x : S256x512.Idx) : (rv h).emb x ∉ (rv h').set := by
  have e0 : (((rv h).emb x) 1).val = 512 * h.val + 1 * (x 1).val := rfl
  have x0 : (x 1).val < 512 := (x 1).isLt
  intro hm
  have h0 := (Rect.mem_set_unit).mp hm 1
  have h1 : 512 * h'.val ≤ (((rv h).emb x) 1).val ∧ (((rv h).emb x) 1).val < 512 * h'.val + 512 := h0
  rw [e0] at h1
  exact hne (Fin.ext (by omega))

theorem covZero (v : View sig .tc .vmem S4x512x256 .f32) (inb) (z : Vec F S4x512x256 .f32) (h : Fin 4) :
    v.readCov [(⟨Rect.unit (s := S4x512x256) ![0, 0, 0] S4x512x256.size inb, z⟩ : View.Piece (Elt F) S4x512x256 .f32)] (rs h).toLoadRect
      = View.ld z (rs h) := by
  rw [View.readCov_eq_canon', View.canon_unit_zero (S := S4x512x256) (funext fun a => by fin_cases a <;> rfl)]

theorem covOther (v : View sig .tc .vmem S4x512x256 .f32) {h h' : Fin 4} (hne : h ≠ h') (p : Vec F S1x512x256 .f32)
    (L : List (View.Piece (Elt F) S4x512x256 .f32)) :
    v.readCov ((⟨rs h', p⟩ : View.Piece (Elt F) S4x512x256 .f32) :: L) (rs h).toLoadRect = v.readCov L (rs h).toLoadRect := by
  rw [View.readCov_eq_canon', View.readCov_eq_canon']
  funext x
  exact View.canon_cons_of_not_mem _ L (rs_disjoint hne x)

/-- The states a batch's first tile leaves, head after head, over the zeroed scratch. -/
def stA (L : List (View.Piece (Elt F) S4x512x256 .f32)) (h : Fin 4) : List (View.Piece (Elt F) S4x512x256 .f32) :=
  ⟨rs h, hState x1 x2 x3 x4 x5 h (arg9.view.readCov L (rs h).toLoadRect)⟩ :: L

def zeroPiece : View.Piece (Elt F) S4x512x256 .f32 :=
  ⟨Rect.unit (s := S4x512x256) ![0, 0, 0] S4x512x256.size inb_S4x512x256_S4x512x256_0_0_0, zeroSt⟩

def stA' (h : Fin 4) : View.Piece (Elt F) S4x512x256 .f32 := ⟨rs h, hState x1 x2 x3 x4 x5 h (View.ld zeroSt (rs h))⟩

theorem before1 : stA arg9 x1 x2 x3 x4 x5 [zeroPiece] 0 = [stA' x1 x2 x3 x4 x5 0, zeroPiece] := by
  unfold stA stA'
  rw [show arg9.view.readCov [zeroPiece (F := F)] (rs 0).toLoadRect = View.ld zeroSt (rs 0) from covZero _ _ _ _]

theorem before2 : stA arg9 x1 x2 x3 x4 x5 [stA' x1 x2 x3 x4 x5 0, zeroPiece] 1 = [stA' x1 x2 x3 x4 x5 1, stA' x1 x2 x3 x4 x5 0, zeroPiece] := by
  unfold stA
  rw [show arg9.view.readCov [stA' x1 x2 x3 x4 x5 0, zeroPiece] (rs 1).toLoadRect = View.ld zeroSt (rs 1) from
    (covOther (h := 1) (h' := 0) _ (by decide) _ _).trans (covZero _ _ _ _)]
  rfl

theorem before3 : stA arg9 x1 x2 x3 x4 x5 [stA' x1 x2 x3 x4 x5 1, stA' x1 x2 x3 x4 x5 0, zeroPiece] 2
    = [stA' x1 x2 x3 x4 x5 2, stA' x1 x2 x3 x4 x5 1, stA' x1 x2 x3 x4 x5 0, zeroPiece] := by
  unfold stA
  rw [show arg9.view.readCov [stA' x1 x2 x3 x4 x5 1, stA' x1 x2 x3 x4 x5 0, zeroPiece] (rs 2).toLoadRect = View.ld zeroSt (rs 2) from
    (covOther (h := 2) (h' := 1) _ (by decide) _ _).trans ((covOther (h := 2) (h' := 0) _ (by decide) _ _).trans (covZero _ _ _ _))]
  rfl

theorem before4 : stA arg9 x1 x2 x3 x4 x5 [stA' x1 x2 x3 x4 x5 2, stA' x1 x2 x3 x4 x5 1, stA' x1 x2 x3 x4 x5 0, zeroPiece] 3
    = [stA' x1 x2 x3 x4 x5 3, stA' x1 x2 x3 x4 x5 2, stA' x1 x2 x3 x4 x5 1, stA' x1 x2 x3 x4 x5 0, zeroPiece] := by
  unfold stA
  rw [show arg9.view.readCov [stA' x1 x2 x3 x4 x5 2, stA' x1 x2 x3 x4 x5 1, stA' x1 x2 x3 x4 x5 0, zeroPiece] (rs 3).toLoadRect = View.ld zeroSt (rs 3) from
    (covOther (h := 3) (h' := 2) _ (by decide) _ _).trans ((covOther (h := 3) (h' := 1) _ (by decide) _ _).trans
      ((covOther (h := 3) (h' := 0) _ (by decide) _ _).trans (covZero _ _ _ _)))]
  rfl

/-- The output piece of head `h` over whatever the scratch then holds. -/
def outA (L : List (View.Piece (Elt F) S4x512x256 .f32)) (h : Fin 4) : View.Piece (Elt F) S256x2048 .f32 :=
  ⟨rv h, hOut x0 x1 x2 x3 x4 x5 h (arg9.view.readCov L (rs h).toLoadRect)⟩

def outA' (h : Fin 4) : View.Piece (Elt F) S256x2048 .f32 := ⟨rv h, hOut x0 x1 x2 x3 x4 x5 h (View.ld zeroSt (rs h))⟩

theorem rawA (hc0 : cond0_0 i) :
    (kernelRun0_A c i arg2 harg2 arg3 harg3 arg4 harg4 arg5 harg5 arg6 harg6 arg7 harg7 arg8 harg8 arg9 harg9 hc0 x0 x1 x2 x3 x4 x5).1
      = [outA arg9 x0 x1 x2 x3 x4 x5 (stA arg9 x1 x2 x3 x4 x5 (stA arg9 x1 x2 x3 x4 x5 (stA arg9 x1 x2 x3 x4 x5 [zeroPiece] 0) 1) 2) 3,
         outA arg9 x0 x1 x2 x3 x4 x5 (stA arg9 x1 x2 x3 x4 x5 (stA arg9 x1 x2 x3 x4 x5 [zeroPiece] 0) 1) 2,
         outA arg9 x0 x1 x2 x3 x4 x5 (stA arg9 x1 x2 x3 x4 x5 [zeroPiece] 0) 1,
         outA arg9 x0 x1 x2 x3 x4 x5 [zeroPiece] 0]
    ∧ (kernelRun0_A c i arg2 harg2 arg3 harg3 arg4 harg4 arg5 harg5 arg6 harg6 arg7 harg7 arg8 harg8 arg9 harg9 hc0 x0 x1 x2 x3 x4 x5).2.1
      = stA arg9 x1 x2 x3 x4 x5 (stA arg9 x1 x2 x3 x4 x5 (stA arg9 x1 x2 x3 x4 x5 (stA arg9 x1 x2 x3 x4 x5 [zeroPiece] 0) 1) 2) 3 := by
  unfold kernelRun0_A
  dsimp only
  sl_unfold_words
  simp only [View.readAt_eq_ld, harg2.read_unread, harg3.read_unread, harg4.read_unread, harg5.read_unread,
    harg6.read_unread, harg7.read_unread, View.ld_unit_zero (S := S256x16) off2]
  exact ⟨rfl, rfl⟩

theorem piecesA (hc0 : cond0_0 i) :
    (kernelRun0_A c i arg2 harg2 arg3 harg3 arg4 harg4 arg5 harg5 arg6 harg6 arg7 harg7 arg8 harg8 arg9 harg9 hc0 x0 x1 x2 x3 x4 x5).1
      = [outA' x0 x1 x2 x3 x4 x5 3, outA' x0 x1 x2 x3 x4 x5 2, outA' x0 x1 x2 x3 x4 x5 1, outA' x0 x1 x2 x3 x4 x5 0]
    ∧ (kernelRun0_A c i arg2 harg2 arg3 harg3 arg4 harg4 arg5 harg5 arg6 harg6 arg7 harg7 arg8 harg8 arg9 harg9 hc0 x0 x1 x2 x3 x4 x5).2.1
      = [stA' x1 x2 x3 x4 x5 3, stA' x1 x2 x3 x4 x5 2, stA' x1 x2 x3 x4 x5 1, stA' x1 x2 x3 x4 x5 0, zeroPiece] := by
  obtain ⟨ho, hs⟩ := rawA c i arg2 harg2 arg3 harg3 arg4 harg4 arg5 harg5 arg6 harg6 arg7 harg7 arg8 harg8 arg9 harg9 x0 x1 x2 x3 x4 x5 hc0
  rw [before1, before2, before3, before4] at hs
  rw [before1, before2, before3] at ho
  refine ⟨ho.trans ?_, hs⟩
  have e0 : outA arg9 x0 x1 x2 x3 x4 x5 [zeroPiece] 0 = outA' x0 x1 x2 x3 x4 x5 0 := by
    unfold outA
    rw [show arg9.view.readCov [zeroPiece (F := F)] (rs 0).toLoadRect = View.ld zeroSt (rs 0) from covZero _ _ _ _]; rfl
  have e1 : outA arg9 x0 x1 x2 x3 x4 x5 [stA' x1 x2 x3 x4 x5 0, zeroPiece] 1 = outA' x0 x1 x2 x3 x4 x5 1 := by
    unfold outA
    rw [show arg9.view.readCov [stA' x1 x2 x3 x4 x5 0, zeroPiece] (rs 1).toLoadRect = View.ld zeroSt (rs 1) from
      (covOther (h := 1) (h' := 0) _ (by decide) _ _).trans (covZero _ _ _ _)]; rfl
  have e2 : outA arg9 x0 x1 x2 x3 x4 x5 [stA' x1 x2 x3 x4 x5 1, stA' x1 x2 x3 x4 x5 0, zeroPiece] 2 = outA' x0 x1 x2 x3 x4 x5 2 := by
    unfold outA
    rw [show arg9.view.readCov [stA' x1 x2 x3 x4 x5 1, stA' x1 x2 x3 x4 x5 0, zeroPiece] (rs 2).toLoadRect = View.ld zeroSt (rs 2) from
      (covOther (h := 2) (h' := 1) _ (by decide) _ _).trans ((covOther (h := 2) (h' := 0) _ (by decide) _ _).trans (covZero _ _ _ _))]; rfl
  have e3 : outA arg9 x0 x1 x2 x3 x4 x5 [stA' x1 x2 x3 x4 x5 2, stA' x1 x2 x3 x4 x5 1, stA' x1 x2 x3 x4 x5 0, zeroPiece] 3 = outA' x0 x1 x2 x3 x4 x5 3 := by
    unfold outA
    rw [show arg9.view.readCov [stA' x1 x2 x3 x4 x5 2, stA' x1 x2 x3 x4 x5 1, stA' x1 x2 x3 x4 x5 0, zeroPiece] (rs 3).toLoadRect = View.ld zeroSt (rs 3) from
      (covOther (h := 3) (h' := 2) _ (by decide) _ _).trans ((covOther (h := 3) (h' := 1) _ (by decide) _ _).trans
        ((covOther (h := 3) (h' := 0) _ (by decide) _ _).trans (covZero _ _ _ _)))]; rfl
  rw [e0, e1, e2, e3]

/-! The blocks a point leaves, read on head `h`'s part. -/

theorem heads_skip {h h' : Fin 4} (hne : h ≠ h') (w : Vec F S256x512 .f32) (L : List (View.Piece (Elt F) S256x2048 .f32)) (x : S256x512.Idx) :
    View.canon ((⟨rv h', w⟩ : View.Piece (Elt F) S256x2048 .f32) :: L) ((rv h).emb x) = View.canon L ((rv h).emb x) :=
  View.canon_cons_of_not_mem _ L (rv_disjoint hne x)

theorem heads_hit (h : Fin 4) (w : Vec F S256x512 .f32) (L : List (View.Piece (Elt F) S256x2048 .f32)) (x : S256x512.Idx) :
    View.canon ((⟨rv h, w⟩ : View.Piece (Elt F) S256x2048 .f32) :: L) ((rv h).emb x) = w x :=
  View.canon_cons_emb (rv h) w L x

theorem canon_heads (w : Fin 4 → Vec F S256x512 .f32) (L : List (View.Piece (Elt F) S256x2048 .f32)) (h : Fin 4) (x : S256x512.Idx) :
    View.canon ((⟨rv 3, w 3⟩ : View.Piece (Elt F) S256x2048 .f32) :: ⟨rv 2, w 2⟩ :: ⟨rv 1, w 1⟩ :: ⟨rv 0, w 0⟩ :: L) ((rv h).emb x) = w h x := by
  have key : h = 0 ∨ h = 1 ∨ h = 2 ∨ h = 3 := by revert h; decide
  rcases key with e | e | e | e
  · subst e; exact (heads_skip (h := 0) (h' := 3) (by decide) (w 3) _ x).trans ((heads_skip (h := 0) (h' := 2) (by decide) (w 2) _ x).trans ((heads_skip (h := 0) (h' := 1) (by decide) (w 1) _ x).trans (heads_hit 0 (w 0) _ x)))
  · subst e; exact (heads_skip (h := 1) (h' := 3) (by decide) (w 3) _ x).trans ((heads_skip (h := 1) (h' := 2) (by decide) (w 2) _ x).trans (heads_hit 1 (w 1) _ x))
  · subst e; exact (heads_skip (h := 2) (h' := 3) (by decide) (w 3) _ x).trans (heads_hit 2 (w 2) _ x)
  · subst e; exact heads_hit 3 (w 3) _ x

theorem planes_skip {h h' : Fin 4} (hne : h ≠ h') (w : Vec F S1x512x256 .f32) (L : List (View.Piece (Elt F) S4x512x256 .f32)) (x : S1x512x256.Idx) :
    View.canon ((⟨rs h', w⟩ : View.Piece (Elt F) S4x512x256 .f32) :: L) ((rs h).emb x) = View.canon L ((rs h).emb x) :=
  View.canon_cons_of_not_mem _ L (rs_disjoint hne x)

theorem planes_hit (h : Fin 4) (w : Vec F S1x512x256 .f32) (L : List (View.Piece (Elt F) S4x512x256 .f32)) (x : S1x512x256.Idx) :
    View.canon ((⟨rs h, w⟩ : View.Piece (Elt F) S4x512x256 .f32) :: L) ((rs h).emb x) = w x :=
  View.canon_cons_emb (rs h) w L x

theorem canon_planes (w : Fin 4 → Vec F S1x512x256 .f32) (L : List (View.Piece (Elt F) S4x512x256 .f32)) (h : Fin 4) (x : S1x512x256.Idx) :
    View.canon ((⟨rs 3, w 3⟩ : View.Piece (Elt F) S4x512x256 .f32) :: ⟨rs 2, w 2⟩ :: ⟨rs 1, w 1⟩ :: ⟨rs 0, w 0⟩ :: L) ((rs h).emb x) = w h x := by
  have key : h = 0 ∨ h = 1 ∨ h = 2 ∨ h = 3 := by revert h; decide
  rcases key with e | e | e | e
  · subst e; exact (planes_skip (h := 0) (h' := 3) (by decide) (w 3) _ x).trans ((planes_skip (h := 0) (h' := 2) (by decide) (w 2) _ x).trans ((planes_skip (h := 0) (h' := 1) (by decide) (w 1) _ x).trans (planes_hit 0 (w 0) _ x)))
  · subst e; exact (planes_skip (h := 1) (h' := 3) (by decide) (w 3) _ x).trans ((planes_skip (h := 1) (h' := 2) (by decide) (w 2) _ x).trans (planes_hit 1 (w 1) _ x))
  · subst e; exact (planes_skip (h := 2) (h' := 3) (by decide) (w 3) _ x).trans (planes_hit 2 (w 2) _ x)
  · subst e; exact planes_hit 3 (w 3) _ x

theorem outB (hc0 : ¬cond0_0 i) (h : Fin 4) :
    View.ld (out0_B_6 c i arg2 harg2 arg3 harg3 arg4 harg4 arg5 harg5 arg6 harg6 arg7 harg7 arg8 harg8 arg9 harg9 hc0 x0 x1 x2 x3 x4 x5 xs0) (rv h)
      = hOut x0 x1 x2 x3 x4 x5 h (View.ld xs0 (rs h)) := by
  funext x
  show out0_B_6 c i arg2 harg2 arg3 harg3 arg4 harg4 arg5 harg5 arg6 harg6 arg7 harg7 arg8 harg8 arg9 harg9 hc0 x0 x1 x2 x3 x4 x5 xs0 ((rv h).emb x) = _
  unfold out0_B_6
  rw [View.read_writes_junk_eq_canon, (piecesB c i arg2 harg2 arg3 harg3 arg4 harg4 arg5 harg5 arg6 harg6 arg7 harg7 arg8 harg8 arg9 harg9 x0 x1 x2 x3 x4 x5 xs0 hc0).1]
  exact canon_heads (fun h => hOut x0 x1 x2 x3 x4 x5 h (View.ld xs0 (rs h))) [] h x

theorem soutB (hc0 : ¬cond0_0 i) (h : Fin 4) :
    View.ld (sout0_B_0 c i arg2 harg2 arg3 harg3 arg4 harg4 arg5 harg5 arg6 harg6 arg7 harg7 arg8 harg8 arg9 harg9 hc0 x0 x1 x2 x3 x4 x5 xs0) (rs h)
      = hState x1 x2 x3 x4 x5 h (View.ld xs0 (rs h)) := by
  funext x
  show sout0_B_0 c i arg2 harg2 arg3 harg3 arg4 harg4 arg5 harg5 arg6 harg6 arg7 harg7 arg8 harg8 arg9 harg9 hc0 x0 x1 x2 x3 x4 x5 xs0 ((rs h).emb x) = _
  unfold sout0_B_0
  rw [View.read_writes_junk_eq_canon, (piecesB c i arg2 harg2 arg3 harg3 arg4 harg4 arg5 harg5 arg6 harg6 arg7 harg7 arg8 harg8 arg9 harg9 x0 x1 x2 x3 x4 x5 xs0 hc0).2]
  exact canon_planes (fun h => hState x1 x2 x3 x4 x5 h (View.ld xs0 (rs h))) [] h x

theorem outA_eq (hc0 : cond0_0 i) (h : Fin 4) :
    View.ld (out0_A_6 c i arg2 harg2 arg3 harg3 arg4 harg4 arg5 harg5 arg6 harg6 arg7 harg7 arg8 harg8 arg9 harg9 hc0 x0 x1 x2 x3 x4 x5) (rv h)
      = hOut x0 x1 x2 x3 x4 x5 h (View.ld zeroSt (rs h)) := by
  funext x
  show out0_A_6 c i arg2 harg2 arg3 harg3 arg4 harg4 arg5 harg5 arg6 harg6 arg7 harg7 arg8 harg8 arg9 harg9 hc0 x0 x1 x2 x3 x4 x5 ((rv h).emb x) = _
  unfold out0_A_6
  rw [View.read_writes_junk_eq_canon, (piecesA c i arg2 harg2 arg3 harg3 arg4 harg4 arg5 harg5 arg6 harg6 arg7 harg7 arg8 harg8 arg9 harg9 x0 x1 x2 x3 x4 x5 hc0).1]
  exact canon_heads (fun h => hOut x0 x1 x2 x3 x4 x5 h (View.ld zeroSt (rs h))) [] h x

theorem soutA (hc0 : cond0_0 i) (h : Fin 4) :
    View.ld (sout0_A_0 c i arg2 harg2 arg3 harg3 arg4 harg4 arg5 harg5 arg6 harg6 arg7 harg7 arg8 harg8 arg9 harg9 hc0 x0 x1 x2 x3 x4 x5) (rs h)
      = hState x1 x2 x3 x4 x5 h (View.ld zeroSt (rs h)) := by
  funext x
  show sout0_A_0 c i arg2 harg2 arg3 harg3 arg4 harg4 arg5 harg5 arg6 harg6 arg7 harg7 arg8 harg8 arg9 harg9 hc0 x0 x1 x2 x3 x4 x5 ((rs h).emb x) = _
  unfold sout0_A_0
  rw [View.read_writes_junk_eq_canon, (piecesA c i arg2 harg2 arg3 harg3 arg4 harg4 arg5 harg5 arg6 harg6 arg7 harg7 arg8 harg8 arg9 harg9 x0 x1 x2 x3 x4 x5 hc0).2]
  exact canon_planes (fun h => hState x1 x2 x3 x4 x5 h (View.ld zeroSt (rs h))) [zeroPiece] h x

end Cert.GlaPoint

end
-- ==== Proof.Maths.lean ====
/- The mathematics, over the reals: what the recurrence computes at one token of one head, and that it may be computed chunk
   by chunk, for chunks of any length. -/
module

public import Mathlib.Analysis.SpecialFunctions.Exp
public import Mathlib.Algebra.BigOperators.Fin

@[expose] public section

noncomputable section

namespace Cert.GlaMath

open Finset

variable {D E : Type} [Fintype D]

/-- The logarithm of the decay of the first `n` tokens. -/
def cumul (g : ℕ → D → ℝ) (n : ℕ) (d : D) : ℝ := ∑ i ∈ range n, g i d

/-- The output at token `t`: every token up to it, weighted by its key's match with the query, decayed since. -/
def outAt (q k g : ℕ → D → ℝ) (v : ℕ → E → ℝ) (t : ℕ) (e : E) : ℝ :=
  ∑ s ∈ range (t + 1), (∑ d, q t d * k s d * Real.exp (cumul g (t + 1) d - cumul g (s + 1) d)) * v s e

/-- The state after `n` tokens. -/
def stateAt (k g : ℕ → D → ℝ) (v : ℕ → E → ℝ) (n : ℕ) (d : D) (e : E) : ℝ :=
  ∑ s ∈ range n, k s d * v s e * Real.exp (cumul g n d - cumul g (s + 1) d)

/-- The running sum inside a chunk of `R` values. -/
def run {R : ℕ} (g : Fin R → D → ℝ) (p : Fin R) (d : D) : ℝ := ∑ i : Fin R, if i ≤ p then g i d else 0

/-- The sum of a chunk. -/
def total {R : ℕ} (g : Fin R → D → ℝ) (d : D) : ℝ := ∑ i : Fin R, g i d

/-- The chunk of `R` tokens from token `n`. -/
abbrev chunk {A : Type} (R n : ℕ) (x : ℕ → A) : Fin R → A := fun i => x (n + i.val)

theorem run_chunk (R n : ℕ) (g : ℕ → D → ℝ) (p : Fin R) (d : D) :
    run (chunk R n g) p d = cumul g (n + p.val + 1) d - cumul g n d := by
  have h : run (chunk R n g) p d = ∑ i ∈ range R, if i ≤ p.val then g (n + i) d else 0 :=
    Fin.sum_univ_eq_sum_range (fun i => if i ≤ p.val then g (n + i) d else 0) R
  rw [h, ← sum_filter, show (range R).filter (fun i => i ≤ p.val) = range (p.val + 1) from ?_]
  · unfold cumul
    rw [add_assoc, sum_range_add (fun i => g i d) n (p.val + 1)]; ring
  · ext i; have := p.isLt; simp only [mem_filter, mem_range]; omega

theorem total_chunk (R n : ℕ) (g : ℕ → D → ℝ) (d : D) :
    total (chunk R n g) d = cumul g (n + R) d - cumul g n d := by
  have h : total (chunk R n g) d = ∑ i ∈ range R, g (n + i) d := Fin.sum_univ_eq_sum_range (fun i => g (n + i) d) R
  unfold cumul
  rw [h, sum_range_add]; ring

/-- A chunk's output from the state before it. -/
def chunkOut {R : ℕ} (q k g : Fin R → D → ℝ) (v : Fin R → E → ℝ) (st : D → E → ℝ) (p : Fin R) (e : E) : ℝ :=
  (∑ d, q p d * Real.exp (run g p d) * st d e)
    + ∑ s : Fin R, (if s ≤ p then ∑ d, q p d * k s d * Real.exp (run g p d - run g s d) else 0) * v s e

/-- The state after a chunk. -/
def chunkState {R : ℕ} (k g : Fin R → D → ℝ) (v : Fin R → E → ℝ) (st : D → E → ℝ) (d : D) (e : E) : ℝ :=
  st d e * Real.exp (total g d) + ∑ s : Fin R, k s d * Real.exp (total g d - run g s d) * v s e

theorem chunkState_eq (R n : ℕ) (k g : ℕ → D → ℝ) (v : ℕ → E → ℝ) (d : D) (e : E) :
    chunkState (chunk R n k) (chunk R n g) (chunk R n v) (stateAt k g v n) d e = stateAt k g v (n + R) d e := by
  unfold chunkState
  have h : ∑ s : Fin R, chunk R n k s d * Real.exp (total (chunk R n g) d - run (chunk R n g) s d) * chunk R n v s e
      = ∑ s ∈ range R, k (n + s) d * v (n + s) e * Real.exp (cumul g (n + R) d - cumul g (n + s + 1) d) := by
    rw [← Fin.sum_univ_eq_sum_range (fun s => k (n + s) d * v (n + s) e * Real.exp (cumul g (n + R) d - cumul g (n + s + 1) d))]
    refine sum_congr rfl fun s _ => ?_
    rw [run_chunk, total_chunk]
    rw [show cumul g (n + R) d - cumul g n d - (cumul g (n + s.val + 1) d - cumul g n d)
      = cumul g (n + R) d - cumul g (n + s.val + 1) d by ring]
    show k (n + s.val) d * _ * v (n + s.val) e = _
    ring
  rw [h, total_chunk]
  unfold stateAt
  rw [sum_range_add, sum_mul]
  congr 1
  refine sum_congr rfl fun s _ => ?_
  rw [mul_assoc, ← Real.exp_add]
  congr 2; ring

theorem chunkOut_eq (R n : ℕ) (q k g : ℕ → D → ℝ) (v : ℕ → E → ℝ) (p : Fin R) (e : E) :
    chunkOut (chunk R n q) (chunk R n k) (chunk R n g) (chunk R n v) (stateAt k g v n) p e = outAt q k g v (n + p.val) e := by
  unfold chunkOut
  have h : ∑ s : Fin R, (if s ≤ p then ∑ d, chunk R n q p d * chunk R n k s d * Real.exp (run (chunk R n g) p d - run (chunk R n g) s d)
        else 0) * chunk R n v s e
      = ∑ s ∈ range (p.val + 1), (∑ d, q (n + p.val) d * k (n + s) d
          * Real.exp (cumul g (n + p.val + 1) d - cumul g (n + s + 1) d)) * v (n + s) e := by
    have h1 : ∑ s : Fin R, (if s ≤ p then ∑ d, chunk R n q p d * chunk R n k s d * Real.exp (run (chunk R n g) p d - run (chunk R n g) s d)
        else 0) * chunk R n v s e
        = ∑ s : Fin R, if s.val ≤ p.val then (∑ d, q (n + p.val) d * k (n + s.val) d
          * Real.exp (cumul g (n + p.val + 1) d - cumul g (n + s.val + 1) d)) * v (n + s.val) e else 0 := by
      refine sum_congr rfl fun s _ => ?_
      by_cases hs : s ≤ p
      · rw [if_pos hs, if_pos (show s.val ≤ p.val from hs)]
        congr 1
        refine sum_congr rfl fun d _ => ?_
        rw [run_chunk, run_chunk]
        rw [show cumul g (n + p.val + 1) d - cumul g n d - (cumul g (n + s.val + 1) d - cumul g n d)
          = cumul g (n + p.val + 1) d - cumul g (n + s.val + 1) d by ring]
      · rw [if_neg hs, if_neg (show ¬ s.val ≤ p.val from hs), zero_mul]
    rw [h1, Fin.sum_univ_eq_sum_range (fun s => if s ≤ p.val then (∑ d, q (n + p.val) d * k (n + s) d
          * Real.exp (cumul g (n + p.val + 1) d - cumul g (n + s + 1) d)) * v (n + s) e else 0) R, ← sum_filter,
      show (range R).filter (fun i => i ≤ p.val) = range (p.val + 1) from ?_]
    ext i; have := p.isLt; simp only [mem_filter, mem_range]; omega
  rw [h]
  unfold outAt
  rw [add_assoc n, sum_range_add (fun s => (∑ d, q (n + p.val) d * k s d * Real.exp (cumul g (n + (p.val + 1)) d - cumul g (s + 1) d)) * v s e)
    n (p.val + 1)]
  refine congrArg₂ (· + ·) ?_ rfl
  unfold stateAt
  simp_rw [mul_sum, sum_mul]
  rw [sum_comm]
  refine sum_congr rfl fun s _ => ?_
  refine sum_congr rfl fun d _ => ?_
  rw [run_chunk]
  rw [show cumul g (n + (p.val + 1)) d - cumul g (s + 1) d
    = (cumul g (n + p.val + 1) d - cumul g n d) + (cumul g n d - cumul g (s + 1) d) by rw [add_assoc n]; ring, Real.exp_add]
  show q (n + p.val) d * _ * _ = _
  ring

end Cert.GlaMath

end
-- ==== Proof.HeadReal.lean ====
/- One head's share of a tile on real inputs: the extended reals never leave the real line, so each definition of `GlaHead`
   is a real formula. -/
module

public import proofs.«01_k».proof.Proof.Head
public import proofs.«01_k».proof.Proof.Maths
public import Mathlib.Analysis.SpecialFunctions.Log.Basic
public import Idealize.ShloMosaic.Lib.Pointwise
public import Idealize.ShloMosaic.Lib.IdealHost
public import Idealize.ShloMosaic.Lib.KernelVsHost
public import Idealize.ShloMosaic.Lib.Pipeline.Value

@[expose] public section

set_option maxRecDepth 16384

noncomputable section

namespace Cert.GlaHeadReal

open Idealize.ShloMosaic
open Cert.KernelIdeal Cert.KernelIdeal.Gen Cert.GlaHead

/-- The vector holds the real numbers `f`. -/
def Is {n m : ℕ} {φ : FTy} (x : FVec Ideal ⟨2, ![n, m]⟩ φ) (f : Fin n → Fin m → ℝ) : Prop :=
  ∀ p d, x (ix2 p d) = ((f p d : ℝ) : EReal)

theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem coe_sub_self (r : ℝ) : (r : EReal) - (r : EReal) = 0 := by rw [← EReal.coe_sub, sub_self, EReal.coe_zero]

theorem sixteenth : Ideal.ofBits FTy.f32 0x3D800000#32 = ((1 / 16 : ℝ) : EReal) := by
  simp [Ideal.ofBits, Ideal.ieee, -EReal.coe_mul]; norm_num

theorem sixteen : Ideal.ofBits FTy.f32 0x41800000#32 = ((16 : ℝ) : EReal) := by
  simp [Ideal.ofBits, Ideal.ieee, -EReal.coe_mul]; norm_num

theorem exp_is (r : ℝ) : Ideal.exp (r : EReal) = ((Real.exp r : ℝ) : EReal) := rfl

theorem log1p_exp (r : ℝ) : Ideal.log1p ((Real.exp r : ℝ) : EReal) = ((Real.log (1 + Real.exp r) : ℝ) : EReal) := by
  show Ideal.log (1 + ((Real.exp r : ℝ) : EReal)) = _
  rw [← EReal.coe_one, ← EReal.coe_add]
  exact (Ideal.log_coe ..).trans (if_neg (not_le.mpr (by positivity)))

theorem abs_is (r : ℝ) : max (r : EReal) (-(r : EReal)) = ((|r| : ℝ) : EReal) := by
  rw [← EReal.coe_neg]; exact (EReal.coe_strictMono.monotone.map_max).symm

/-- The log of the sigmoid over the gate's temperature. -/
def decay (z : ℝ) : ℝ := (min z 0 - Real.log (1 + Real.exp (-|z|))) * (1 / 16)

abbrev R2 := Fin 256 → Fin 256 → ℝ

theorem select_is {n m : ℕ} {φ : FTy} {c : IVec ⟨2, ![n, m]⟩ 1} {x y : FVec Ideal ⟨2, ![n, m]⟩ φ} {a b : Fin n → Fin m → ℝ}
    (P : Fin n → Fin m → Prop) [∀ t s, Decidable (P t s)] (hc : ∀ t s, c (ix2 t s) = 1 ↔ P t s) (hx : Is x a) (hy : Is y b) :
    Is (select c x y) fun t s => if P t s then a t s else b t s := by
  intro t s
  show (if c (ix2 t s) = 1 then x (ix2 t s) else y (ix2 t s)) = _
  by_cases h : P t s
  · rw [if_pos ((hc t s).mpr h), hx t s]; simp only [if_pos h]
  · rw [if_neg (fun h' => h ((hc t s).mp h')), hy t s]; simp only [if_neg h]

theorem zero_is : Is (splat (F := Ideal) 0x00000000#32) fun _ _ => 0 := by
  intro t s; pointwise [splat]; simp

theorem one_is : Is (splat (F := Ideal) 0x3F800000#32) fun _ _ => 1 := by
  intro t s; pointwise [splat]; simp

theorem pair_is {q k mq mk : Tile Ideal} {a b c e : R2} (hq : Is q a) (hk : Is k b) (hc : Is mq c) (he : Is mk e) :
    Is (pair q k mq mk) fun t s => ∑ d, (a t d * c t d) * (b s d * e s d) := by
  intro t s
  pointwise [pair, zeroTile]
  rw [coe_sum]
  refine Finset.sum_congr rfl fun d _ => ?_
  rw [hq t d, hk s d, hc t d, he s d]
  simp only [EReal.coe_mul]

theorem rowTerm_is {zl : FVec Ideal S256x16 .f32} {w : FVec Ideal S16x256 .f32} {a : Fin 256 → Fin 16 → ℝ} {b : Fin 16 → Fin 256 → ℝ}
    (hz : Is zl a) (hw : Is w b) : Is (rowTerm zl w) fun p d => ∑ r, a p r * b r d := by
  intro t s
  pointwise [rowTerm, zeroTile]
  rw [coe_sum]
  have e1 : ∑ x, (zl (ix2 t x) - zl (ix2 t x)) * w (ix2 x s) = 0 :=
    Finset.sum_eq_zero fun x _ => by rw [hz t x, coe_sub_self, zero_mul]
  have e2 : ∑ x, zl (ix2 t x) * (w (ix2 x s) - w (ix2 x s)) = 0 :=
    Finset.sum_eq_zero fun x _ => by rw [hw x s, coe_sub_self, mul_zero]
  rw [e1, e2, add_zero, add_zero]
  refine Finset.sum_congr rfl fun d _ => ?_
  rw [hz t d, hw d s, EReal.coe_mul]

theorem logSig_is {z : Tile Ideal} {a : R2} (hz : Is z a) : Is (logSig z) fun p d => decay (a p d) := by
  intro t s
  pointwise [logSig, splat]
  rw [sixteenth, hz t s, Ideal.absf_def, abs_is, zero_sub, ← EReal.coe_neg, exp_is, log1p_exp, ← EReal.coe_zero,
    ← EReal.coe_strictMono.monotone.map_min, ← EReal.coe_sub, ← EReal.coe_mul]
  rfl

/-! The masks. -/

theorem ofNat_inj (t s : Fin 256) (a b : ℕ) (ha : a < 256) (hb : b < 256) : (BitVec.ofNat 32 a = BitVec.ofNat 32 b) ↔ a = b := by
  constructor
  · intro h
    have := congrArg BitVec.toNat h
    rw [BitVec.toNat_ofNat, BitVec.toNat_ofNat, Nat.mod_eq_of_lt (by omega), Nat.mod_eq_of_lt (by omega)] at this
    exact this
  · rintro rfl; rfl

theorem bit_iff (b : Bool) : BitVec.ofBool b = 1 ↔ b = true := by cases b <;> decide

theorem toInt_small : ∀ t : Fin 256, (BitVec.ofNat 32 t.val).toInt = (t.val : ℤ) := by decide +kernel

theorem onDiag_iff (t s : Fin 256) : onDiag (ix2 t s) = 1 ↔ t = s := by
  pointwise [onDiag]
  show BitVec.ofBool (BitVec.ofNat 32 t.val == BitVec.ofNat 32 s.val) = 1 ↔ _
  rw [bit_iff, beq_iff_eq, ofNat_inj t s _ _ t.isLt s.isLt, Fin.ext_iff]

theorem tri_is : Is (tri (F := Ideal)) fun p d => if d ≤ p then 1 else 0 := by
  have h := select_is (c := cmpi .sle cols rows) (fun p d : Fin 256 => d ≤ p) (fun p d => by
    pointwise []
    show BitVec.ofBool ((BitVec.ofNat 32 d.val).sle (BitVec.ofNat 32 p.val)) = 1 ↔ _
    rw [bit_iff, BitVec.sle, decide_eq_true_iff, toInt_small, toInt_small]
    exact Int.ofNat_le) one_is zero_is
  intro p d
  exact h p d

theorem upper128_iff (t s : Fin 256) : upper 255#32 128#32 (ix2 t s) = 1 ↔ 128 ≤ t.val % 256 := by
  have h : ∀ t : Fin 256, IntOp.cmpi .sge (IntOp.andi (BitVec.ofNat 32 t.val) 255#32) 128#32 = 1 ↔ 128 ≤ t.val % 256 := by
    decide +kernel
  pointwise [upper]
  exact h t

theorem upper64_iff (t s : Fin 256) : upper 127#32 64#32 (ix2 t s) = 1 ↔ 64 ≤ t.val % 128 := by
  have h : ∀ t : Fin 256, IntOp.cmpi .sge (IntOp.andi (BitVec.ofNat 32 t.val) 127#32) 64#32 = 1 ↔ 64 ≤ t.val % 128 := by
    decide +kernel
  pointwise [upper]
  exact h t

theorem upper32_iff (t s : Fin 256) : upper 63#32 32#32 (ix2 t s) = 1 ↔ 32 ≤ t.val % 64 := by
  have h : ∀ t : Fin 256, IntOp.cmpi .sge (IntOp.andi (BitVec.ofNat 32 t.val) 63#32) 32#32 = 1 ↔ 32 ≤ t.val % 64 := by
    decide +kernel
  pointwise [upper]
  exact h t

theorem upper16_iff (t s : Fin 256) : upper 31#32 16#32 (ix2 t s) = 1 ↔ 16 ≤ t.val % 32 := by
  have h : ∀ t : Fin 256, IntOp.cmpi .sge (IntOp.andi (BitVec.ofNat 32 t.val) 31#32) 16#32 = 1 ↔ 16 ≤ t.val % 32 := by
    decide +kernel
  pointwise [upper]
  exact h t

theorem upper8_iff (t s : Fin 256) : upper 15#32 8#32 (ix2 t s) = 1 ↔ 8 ≤ t.val % 16 := by
  have h : ∀ t : Fin 256, IntOp.cmpi .sge (IntOp.andi (BitVec.ofNat 32 t.val) 15#32) 8#32 = 1 ↔ 8 ≤ t.val % 16 := by
    decide +kernel
  pointwise [upper]
  exact h t

theorem upper4_iff (t s : Fin 256) : upper 7#32 4#32 (ix2 t s) = 1 ↔ 4 ≤ t.val % 8 := by
  have h : ∀ t : Fin 256, IntOp.cmpi .sge (IntOp.andi (BitVec.ofNat 32 t.val) 7#32) 4#32 = 1 ↔ 4 ≤ t.val % 8 := by
    decide +kernel
  pointwise [upper]
  exact h t

theorem upper1_iff (t s : Fin 256) : upper 1#32 1#32 (ix2 t s) = 1 ↔ 1 ≤ t.val % 2 := by
  have h : ∀ t : Fin 256, IntOp.cmpi .sge (IntOp.andi (BitVec.ofNat 32 t.val) 1#32) 1#32 = 1 ↔ 1 ≤ t.val % 2 := by
    decide +kernel
  pointwise [upper]
  exact h t

theorem same1_iff (t s : Fin 256) : sameBlock 1#32 (ix2 t s) = 1 ↔ t.val / 2 = s.val / 2 := by
  have h : ∀ t : Fin 256, IntOp.shrsi ArithUnit.vector (BitVec.ofNat 32 t.val) 1#32 = BitVec.ofNat 32 (t.val / 2) := by
    decide +kernel
  pointwise [sameBlock]
  show BitVec.ofBool (IntOp.shrsi ArithUnit.vector (BitVec.ofNat 32 t.val) 1#32
    == IntOp.shrsi ArithUnit.vector (BitVec.ofNat 32 s.val) 1#32) = 1 ↔ _
  rw [bit_iff, beq_iff_eq, h, h, ofNat_inj t s _ _ (by omega) (by omega)]

theorem same2_iff (t s : Fin 256) : sameBlock 2#32 (ix2 t s) = 1 ↔ t.val / 4 = s.val / 4 := by
  have h : ∀ t : Fin 256, IntOp.shrsi ArithUnit.vector (BitVec.ofNat 32 t.val) 2#32 = BitVec.ofNat 32 (t.val / 4) := by
    decide +kernel
  pointwise [sameBlock]
  show BitVec.ofBool (IntOp.shrsi ArithUnit.vector (BitVec.ofNat 32 t.val) 2#32
    == IntOp.shrsi ArithUnit.vector (BitVec.ofNat 32 s.val) 2#32) = 1 ↔ _
  rw [bit_iff, beq_iff_eq, h, h, ofNat_inj t s _ _ (by omega) (by omega)]

theorem same3_iff (t s : Fin 256) : sameBlock 3#32 (ix2 t s) = 1 ↔ t.val / 8 = s.val / 8 := by
  have h : ∀ t : Fin 256, IntOp.shrsi ArithUnit.vector (BitVec.ofNat 32 t.val) 3#32 = BitVec.ofNat 32 (t.val / 8) := by
    decide +kernel
  pointwise [sameBlock]
  show BitVec.ofBool (IntOp.shrsi ArithUnit.vector (BitVec.ofNat 32 t.val) 3#32
    == IntOp.shrsi ArithUnit.vector (BitVec.ofNat 32 s.val) 3#32) = 1 ↔ _
  rw [bit_iff, beq_iff_eq, h, h, ofNat_inj t s _ _ (by omega) (by omega)]

theorem same4_iff (t s : Fin 256) : sameBlock 4#32 (ix2 t s) = 1 ↔ t.val / 16 = s.val / 16 := by
  have h : ∀ t : Fin 256, IntOp.shrsi ArithUnit.vector (BitVec.ofNat 32 t.val) 4#32 = BitVec.ofNat 32 (t.val / 16) := by
    decide +kernel
  pointwise [sameBlock]
  show BitVec.ofBool (IntOp.shrsi ArithUnit.vector (BitVec.ofNat 32 t.val) 4#32
    == IntOp.shrsi ArithUnit.vector (BitVec.ofNat 32 s.val) 4#32) = 1 ↔ _
  rw [bit_iff, beq_iff_eq, h, h, ofNat_inj t s _ _ (by omega) (by omega)]

theorem same5_iff (t s : Fin 256) : sameBlock 5#32 (ix2 t s) = 1 ↔ t.val / 32 = s.val / 32 := by
  have h : ∀ t : Fin 256, IntOp.shrsi ArithUnit.vector (BitVec.ofNat 32 t.val) 5#32 = BitVec.ofNat 32 (t.val / 32) := by
    decide +kernel
  pointwise [sameBlock]
  show BitVec.ofBool (IntOp.shrsi ArithUnit.vector (BitVec.ofNat 32 t.val) 5#32
    == IntOp.shrsi ArithUnit.vector (BitVec.ofNat 32 s.val) 5#32) = 1 ↔ _
  rw [bit_iff, beq_iff_eq, h, h, ofNat_inj t s _ _ (by omega) (by omega)]

theorem same6_iff (t s : Fin 256) : sameBlock 6#32 (ix2 t s) = 1 ↔ t.val / 64 = s.val / 64 := by
  have h : ∀ t : Fin 256, IntOp.shrsi ArithUnit.vector (BitVec.ofNat 32 t.val) 6#32 = BitVec.ofNat 32 (t.val / 64) := by
    decide +kernel
  pointwise [sameBlock]
  show BitVec.ofBool (IntOp.shrsi ArithUnit.vector (BitVec.ofNat 32 t.val) 6#32
    == IntOp.shrsi ArithUnit.vector (BitVec.ofNat 32 s.val) 6#32) = 1 ↔ _
  rw [bit_iff, beq_iff_eq, h, h, ofNat_inj t s _ _ (by omega) (by omega)]

theorem same7_iff (t s : Fin 256) : sameBlock 7#32 (ix2 t s) = 1 ↔ t.val / 128 = s.val / 128 := by
  have h : ∀ t : Fin 256, IntOp.shrsi ArithUnit.vector (BitVec.ofNat 32 t.val) 7#32 = BitVec.ofNat 32 (t.val / 128) := by
    decide +kernel
  pointwise [sameBlock]
  show BitVec.ofBool (IntOp.shrsi ArithUnit.vector (BitVec.ofNat 32 t.val) 7#32
    == IntOp.shrsi ArithUnit.vector (BitVec.ofNat 32 s.val) 7#32) = 1 ↔ _
  rw [bit_iff, beq_iff_eq, h, h, ofNat_inj t s _ _ (by omega) (by omega)]

theorem isR4_0 (t s : Fin 256) : isR4 0#32 (ix2 t s) = 1 ↔ t.val % 4 = 0 := by
  have h : ∀ t : Fin 256, IntOp.cmpi .eq (IntOp.andi (BitVec.ofNat 32 t.val) 3#32) 0#32 = 1 ↔ t.val % 4 = 0 := by
    decide +kernel
  pointwise [isR4, inFour]
  exact h t

theorem isR4_1 (t s : Fin 256) : isR4 1#32 (ix2 t s) = 1 ↔ t.val % 4 = 1 := by
  have h : ∀ t : Fin 256, IntOp.cmpi .eq (IntOp.andi (BitVec.ofNat 32 t.val) 3#32) 1#32 = 1 ↔ t.val % 4 = 1 := by
    decide +kernel
  pointwise [isR4, inFour]
  exact h t

theorem isR4_2 (t s : Fin 256) : isR4 2#32 (ix2 t s) = 1 ↔ t.val % 4 = 2 := by
  have h : ∀ t : Fin 256, IntOp.cmpi .eq (IntOp.andi (BitVec.ofNat 32 t.val) 3#32) 2#32 = 1 ↔ t.val % 4 = 2 := by
    decide +kernel
  pointwise [isR4, inFour]
  exact h t

theorem isR4_3 (t s : Fin 256) : isR4 3#32 (ix2 t s) = 1 ↔ t.val % 4 = 3 := by
  have h : ∀ t : Fin 256, IntOp.cmpi .eq (IntOp.andi (BitVec.ofNat 32 t.val) 3#32) 3#32 = 1 ↔ t.val % 4 = 3 := by
    decide +kernel
  pointwise [isR4, inFour]
  exact h t

/-! The reference rows. -/

theorem ref128_is {x : Tile Ideal} {a : R2} (hx : Is x a) :
    Is (ref128 x) fun t d => a ⟨256 * (t.val / 256) + 127, by omega⟩ d := by
  intro t s
  pointwise [ref128, row]
  have e : (127 : Fin 256) = ⟨256 * (t.val / 256) + 127, by omega⟩ := Fin.ext (by show 127 = 256 * (t.val / 256) + 127; omega)
  rw [← e]; exact hx _ s

theorem ref64_is {x : Tile Ideal} {a : R2} (hx : Is x a) :
    Is (ref64 x) fun t d => a ⟨128 * (t.val / 128) + 63, by omega⟩ d := by
  intro t s
  unfold ref64
  refine (concatenate_ofFn_apply (t := S256x256) (s₁ := S128x256) 0 _ _ rfl 128 rfl (ix2 t s) ⟨t.val / 128, by omega⟩ rfl (ix2 ⟨t.val % 128, by omega⟩ s) rfl ?_).trans ?_
  · intro b hb; have : b = 1 := by revert b; decide
    subst this; rfl
  · pointwise [row]
    exact hx ⟨128 * (t.val / 128) + 63, by omega⟩ s

theorem ref32_is {x : Tile Ideal} {a : R2} (hx : Is x a) :
    Is (ref32 x) fun t d => a ⟨64 * (t.val / 64) + 31, by omega⟩ d := by
  intro t s
  unfold ref32
  refine (concatenate_ofFn_apply (t := S256x256) (s₁ := S64x256) 0 _ _ rfl 64 rfl (ix2 t s) ⟨t.val / 64, by omega⟩ rfl (ix2 ⟨t.val % 64, by omega⟩ s) rfl ?_).trans ?_
  · intro b hb; have : b = 1 := by revert b; decide
    subst this; rfl
  · pointwise [row]
    exact hx ⟨64 * (t.val / 64) + 31, by omega⟩ s

theorem ref16_is {x : Tile Ideal} {a : R2} (hx : Is x a) :
    Is (ref16 x) fun t d => a ⟨32 * (t.val / 32) + 15, by omega⟩ d := by
  intro t s
  unfold ref16
  refine (concatenate_ofFn_apply (t := S256x256) (s₁ := S32x256) 0 _ _ rfl 32 rfl (ix2 t s) ⟨t.val / 32, by omega⟩ rfl (ix2 ⟨t.val % 32, by omega⟩ s) rfl ?_).trans ?_
  · intro b hb; have : b = 1 := by revert b; decide
    subst this; rfl
  · pointwise [row]
    exact hx ⟨32 * (t.val / 32) + 15, by omega⟩ s

theorem ref8_is {x : Tile Ideal} {a : R2} (hx : Is x a) :
    Is (ref8 x) fun t d => a ⟨16 * (t.val / 16) + 7, by omega⟩ d := by
  intro t s
  unfold ref8
  refine (concatenate_ofFn_apply (t := S256x256) (s₁ := S16x256) 0 _ _ rfl 16 rfl (ix2 t s) ⟨t.val / 16, by omega⟩ rfl (ix2 ⟨t.val % 16, by omega⟩ s) rfl ?_).trans ?_
  · intro b hb; have : b = 1 := by revert b; decide
    subst this; rfl
  · pointwise [row]
    exact hx ⟨16 * (t.val / 16) + 7, by omega⟩ s

theorem ref4_is {x : Tile Ideal} {a : R2} (hx : Is x a) :
    Is (ref4 x) fun t d => a ⟨8 * (t.val / 8) + 3, by omega⟩ d := by
  intro t s
  unfold ref4
  refine (concatenate_ofFn_apply (t := S256x256) (s₁ := S8x256) 0 _ _ rfl 8 rfl (ix2 t s) ⟨t.val / 8, by omega⟩ rfl (ix2 ⟨t.val % 8, by omega⟩ s) rfl ?_).trans ?_
  · intro b hb; have : b = 1 := by revert b; decide
    subst this; rfl
  · pointwise [row]
    exact hx ⟨8 * (t.val / 8) + 3, by omega⟩ s

/-! The scores. -/

theorem level_is {q k cum ref : Tile Ideal} {a b c r : R2} {up : IVec S256x256 1} (P : Fin 256 → Prop) [∀ t, Decidable (P t)]
    (hq : Is q a) (hk : Is k b) (hc : Is cum c) (hr : Is ref r) (hu : ∀ t s, up (ix2 t s) = 1 ↔ P t) :
    Is (level q k cum ref up) fun t s => ∑ d, (a t d * (if P t then Real.exp (c t d - r t d) else 0))
      * (b s d * (if P s then 0 else Real.exp (-(c s d - r s d)))) := by
  have hd : Is (subf cum ref) fun t d => c t d - r t d := by
    intro t d; pointwise []; rw [hc t d, hr t d, EReal.coe_sub]
  have hn : Is (subf (splat 0x00000000#32) (subf cum ref)) fun t d => -(c t d - r t d) := by
    intro t d; pointwise [splat]; rw [hc t d, hr t d, zero_sub, EReal.coe_neg, EReal.coe_sub]
  have he : Is (exp (select up (subf cum ref) (subf (splat 0x00000000#32) (subf cum ref))))
      fun t d => Real.exp (if P t then c t d - r t d else -(c t d - r t d)) := by
    intro t d
    have := select_is (fun t _ => P t) hu hd hn t d
    show Ideal.exp (select up _ _ (ix2 t d)) = _
    rw [this, exp_is]
  have h := pair_is hq hk (select_is (fun t _ => P t) hu he zero_is) (select_is (fun t _ => P t) hu zero_is he)
  intro t s
  refine (h t s).trans (congrArg _ (Finset.sum_congr rfl fun d _ => ?_))
  by_cases hp : P t <;> by_cases hs : P s <;> simp [hp, hs]

/-- What a score is to be. -/
def score (a b c : R2) (t s : Fin 256) : ℝ :=
  if s ≤ t then ∑ d, a t d * b s d * Real.exp (c t d - c s d) else 0

/-- The level of half-width `w` is right where its blocks of `2 w` hold both tokens and its halves do not. -/
theorem level_score (w : ℕ) (a b c r : R2) (t s : Fin 256) (hw : 0 < w) (h2 : t.val / (2 * w) = s.val / (2 * w)) (h1 : t.val / w ≠ s.val / w)
    (hr : ∀ d, r t d = r s d) :
    (∑ d, (a t d * (if w ≤ t.val % (2 * w) then Real.exp (c t d - r t d) else 0))
      * (b s d * (if w ≤ s.val % (2 * w) then 0 else Real.exp (-(c s d - r s d))))) = score a b c t s := by
  have half : ∀ n : ℕ, n / w = 2 * (n / (2 * w)) + if w ≤ n % (2 * w) then 1 else 0 := by
    intro n
    have e : n = 2 * w * (n / (2 * w)) + n % (2 * w) := (Nat.div_add_mod n (2 * w)).symm
    have hlt : n % (2 * w) < 2 * w := Nat.mod_lt _ (by omega)
    generalize n % (2 * w) = m at *
    generalize n / (2 * w) = k at *
    subst e
    rw [show 2 * w * k + m = m + w * (2 * k) by ring, Nat.add_mul_div_left _ _ hw]
    split
    · next h => rw [Nat.div_eq_of_lt_le (k := 1) (by omega) (by omega)]; omega
    · next h => rw [Nat.div_eq_of_lt (by omega)]; omega
  have ht := half t.val
  have hs := half s.val
  rw [h2] at ht
  unfold score
  by_cases pt : w ≤ t.val % (2 * w) <;> by_cases ps : w ≤ s.val % (2 * w)
  · rw [if_pos pt] at ht; rw [if_pos ps] at hs; omega
  · rw [if_pos pt] at ht; rw [if_neg ps] at hs
    have hst : s ≤ t := by
      by_contra hlt
      have : t.val / w ≤ s.val / w := Nat.div_le_div_right (by have := not_le.mp hlt; exact le_of_lt this)
      omega
    rw [if_pos hst]
    refine Finset.sum_congr rfl fun d _ => ?_
    rw [if_pos pt, if_neg ps, hr d, show c t d - c s d = (c t d - r s d) + (-(c s d - r s d)) by ring, Real.exp_add]
    ring
  · rw [if_neg pt] at ht; rw [if_pos ps] at hs
    have hst : ¬ s ≤ t := by
      intro hle
      have : s.val / w ≤ t.val / w := Nat.div_le_div_right hle
      omega
    rw [if_neg hst]
    exact Finset.sum_eq_zero fun d _ => by rw [if_neg pt]; ring
  · rw [if_neg pt] at ht; rw [if_neg ps] at hs; omega

theorem run_succ (g : R2) (p q : Fin 256) (h : p.val = q.val + 1) (d : Fin 256) : GlaMath.run g p d = GlaMath.run g q d + g p d := by
  unfold GlaMath.run
  rw [show g p d = ∑ i : Fin 256, if i = p then g i d else 0 by simp, ← Finset.sum_add_distrib]
  refine Finset.sum_congr rfl fun i _ => ?_
  by_cases h1 : i ≤ q
  · rw [if_pos h1, if_pos (show i ≤ p from Fin.le_def.mpr (by have := Fin.le_def.mp h1; omega)), if_neg (fun e => by
      subst e; have := Fin.le_def.mp h1; omega), add_zero]
  · by_cases h2 : i = p
    · subst h2; rw [if_neg h1, if_pos le_rfl, if_pos rfl, zero_add]
    · rw [if_neg h1, if_neg h2, if_neg (fun e => h2 (Fin.ext (by have := Fin.le_def.mp e; have := Fin.lt_def.mp (not_le.mp h1); omega))), add_zero]

theorem exp_tile {x : Tile Ideal} {a : R2} (hx : Is x a) : Is (exp x) fun t d => Real.exp (a t d) := by
  intro t d; show Ideal.exp (x (ix2 t d)) = _; rw [hx t d, exp_is]

theorem scores1_is {q k g : Tile Ideal} {a b c : R2} (hq : Is q a) (hk : Is k b) (hg : Is g c) :
    Is (scores1 q k g) fun t s => ∑ d, (a t d * (if 1 ≤ t.val % 2 then Real.exp (c t d) else 0))
      * (b s d * (if 1 ≤ s.val % 2 then 0 else 1)) :=
  pair_is hq hk (select_is (fun t _ => 1 ≤ t.val % 2) upper1_iff (exp_tile hg) zero_is)
    (select_is (fun t _ => 1 ≤ t.val % 2) upper1_iff zero_is one_is)

/-- The row before and the row after, round the tile. -/
def prev (t : Fin 256) : Fin 256 := ⟨(t.val + 255) % 256, by omega⟩
def next (t : Fin 256) : Fin 256 := ⟨(t.val + 1) % 256, by omega⟩

theorem rot1_is {x : Tile Ideal} {a : R2} (hx : Is x a) :
    Is (dynamicRotate 0 1#32 none x rotates_S256x256_d0) fun t d => a (prev t) d := by
  intro t d
  pointwise []
  exact hx _ d

theorem rot255_is {x : Tile Ideal} {a : R2} (hx : Is x a) :
    Is (dynamicRotate 0 255#32 none x rotates_S256x256_d0) fun t d => a (next t) d := by
  intro t d
  pointwise []
  exact (congrArg (fun i => x (ix2 i d)) (Fin.ext (by show (t.val + 256 - 255) % 256 = (t.val + 1) % 256; omega))).trans (hx _ d)

theorem mul_is {x y : Tile Ideal} {a b : R2} (hx : Is x a) (hy : Is y b) : Is (mulf x y) fun t d => a t d * b t d := by
  intro t d; pointwise []; rw [hx t d, hy t d, EReal.coe_mul]

theorem scores2_is {q k g : Tile Ideal} {a b c : R2} (hq : Is q a) (hk : Is k b) (hg : Is g c) :
    Is (scores2 q k g) fun t s => ∑ d,
      (a t d * (if t.val % 4 = 2 then Real.exp (c t d) else if t.val % 4 = 3 then Real.exp (c t d) * Real.exp (c (prev t) d) else 0))
      * (b s d * (if s.val % 4 = 1 then 1 else if s.val % 4 = 0 then Real.exp (c (next s) d) else 0)) :=
  pair_is hq hk
    (select_is (fun t _ => t.val % 4 = 2) isR4_2 (exp_tile hg) (select_is (fun t _ => t.val % 4 = 3) isR4_3
      (mul_is (exp_tile hg) (rot1_is (exp_tile hg))) zero_is))
    (select_is (fun t _ => t.val % 4 = 1) isR4_1 one_is (select_is (fun t _ => t.val % 4 = 0) isR4_0 (rot255_is (exp_tile hg)) zero_is))

theorem score1 (a b g : R2) (t s : Fin 256) (h2 : t.val / 2 = s.val / 2) (h1 : t ≠ s) :
    (∑ d, (a t d * (if 1 ≤ t.val % 2 then Real.exp (g t d) else 0)) * (b s d * (if 1 ≤ s.val % 2 then 0 else 1)))
      = score a b (GlaMath.run g) t s := by
  have h1' : t.val ≠ s.val := fun e => h1 (Fin.ext e)
  unfold score
  by_cases pt : 1 ≤ t.val % 2
  · have hst : s ≤ t := Fin.le_def.mpr (by omega)
    rw [if_pos hst]
    refine Finset.sum_congr rfl fun d _ => ?_
    rw [if_pos pt, if_neg (by omega), run_succ g t s (by omega) d, add_sub_cancel_left]; ring
  · have hst : ¬ s ≤ t := fun e => by have := Fin.le_def.mp e; omega
    rw [if_neg hst]
    exact Finset.sum_eq_zero fun d _ => by rw [if_neg pt]; ring

theorem score2 (a b g : R2) (t s : Fin 256) (h2 : t.val / 4 = s.val / 4) (h1 : t.val / 2 ≠ s.val / 2) :
    (∑ d, (a t d * (if t.val % 4 = 2 then Real.exp (g t d) else if t.val % 4 = 3 then Real.exp (g t d) * Real.exp (g (prev t) d) else 0))
      * (b s d * (if s.val % 4 = 1 then 1 else if s.val % 4 = 0 then Real.exp (g (next s) d) else 0)))
      = score a b (GlaMath.run g) t s := by
  have tl := t.isLt
  have sl := s.isLt
  unfold score
  by_cases pt : 2 ≤ t.val % 4
  · have hst : s ≤ t := Fin.le_def.mpr (by omega)
    rw [if_pos hst]
    refine Finset.sum_congr rfl fun d _ => ?_
    have hp : (prev t).val = t.val - 1 := by show (t.val + 255) % 256 = _; omega
    have hn : (next s).val = s.val + 1 := by show (s.val + 1) % 256 = _; omega
    have e1 : GlaMath.run g (next s) d = GlaMath.run g s d + g (next s) d := run_succ g _ _ hn d
    have e2 : GlaMath.run g t d = GlaMath.run g (prev t) d + g t d := run_succ g _ _ (by omega) d
    by_cases c2 : t.val % 4 = 2
    · rw [if_pos c2]
      by_cases d1 : s.val % 4 = 1
      · rw [if_pos d1, run_succ g t s (by omega) d, add_sub_cancel_left]; ring
      · rw [if_neg d1, if_pos (by omega)]
        have e3 : prev t = next s := Fin.ext (by omega)
        rw [e2, e3, e1, show GlaMath.run g s d + g (next s) d + g t d - GlaMath.run g s d = g t d + g (next s) d by ring, Real.exp_add]; ring
    · rw [if_neg c2, if_pos (by omega)]
      have e4 : GlaMath.run g (prev t) d = GlaMath.run g (prev (prev t)) d + g (prev t) d := run_succ g _ _ (by
        show (prev t).val = ((prev t).val + 255) % 256 + 1; omega) d
      have hpp : (prev (prev t)).val = t.val - 2 := by show ((prev t).val + 255) % 256 = _; omega
      by_cases d1 : s.val % 4 = 1
      · rw [if_pos d1]
        have e3 : prev (prev t) = s := Fin.ext (by omega)
        rw [e2, e4, e3, show GlaMath.run g s d + g (prev t) d + g t d - GlaMath.run g s d = g t d + g (prev t) d by ring, Real.exp_add]; ring
      · rw [if_neg d1, if_pos (by omega)]
        have e3 : prev (prev t) = next s := Fin.ext (by omega)
        rw [e2, e4, e3, e1, show GlaMath.run g s d + g (next s) d + g (prev t) d + g t d - GlaMath.run g s d
          = (g t d + g (prev t) d) + g (next s) d by ring, Real.exp_add, Real.exp_add]; ring
  · have hst : ¬ s ≤ t := fun e => by have := Fin.le_def.mp e; omega
    rw [if_neg hst]
    exact Finset.sum_eq_zero fun d _ => by rw [if_neg (by omega), if_neg (by omega)]; ring

/-- What is wanted of a table of scores: that it is right wherever the blocks of `w` part the tokens. -/
def RightOff (w : ℕ) (x : Tile Ideal) (a b c : R2) : Prop :=
  ∀ t s : Fin 256, t.val / w ≠ s.val / w → x (ix2 t s) = ((score a b c t s : ℝ) : EReal)

theorem select_right {w w2 : ℕ} {c : IVec S256x256 1} {x y : Tile Ideal} {a b e : R2} (hc : ∀ t s, c (ix2 t s) = 1 ↔ t.val / w2 = s.val / w2)
    (hx : ∀ t s : Fin 256, t.val / w2 = s.val / w2 → t.val / w ≠ s.val / w → x (ix2 t s) = ((score a b e t s : ℝ) : EReal))
    (hy : RightOff w2 y a b e) : RightOff w (select c x y) a b e := by
  intro t s h1
  show (if c (ix2 t s) = 1 then x (ix2 t s) else y (ix2 t s)) = _
  by_cases h : t.val / w2 = s.val / w2
  · rw [if_pos ((hc t s).mpr h)]; exact hx t s h h1
  · rw [if_neg (fun h' => h ((hc t s).mp h'))]; exact hy t s h

theorem level_right (w : ℕ) (hw : 0 < w) {q k cum ref : Tile Ideal} {a b c r : R2} {up : IVec S256x256 1}
    (hq : Is q a) (hk : Is k b) (hc : Is cum c) (hr : Is ref r) (hu : ∀ t s, up (ix2 t s) = 1 ↔ w ≤ t.val % (2 * w))
    (hrr : ∀ t s : Fin 256, t.val / (2 * w) = s.val / (2 * w) → ∀ d, r t d = r s d) (t s : Fin 256)
    (h2 : t.val / (2 * w) = s.val / (2 * w)) (h1 : t.val / w ≠ s.val / w) :
    level q k cum ref up (ix2 t s) = ((score a b c t s : ℝ) : EReal) := by
  exact (level_is (fun t => w ≤ t.val % (2 * w)) hq hk hc hr hu t s).trans (congrArg _ (level_score w a b c r t s hw h2 h1 (hrr t s h2)))

theorem ref_same {B o : ℕ} (a : R2) (ho : ∀ t : Fin 256, B * (t.val / B) + o < 256) (t s : Fin 256) (h : t.val / B = s.val / B) (d : Fin 256) :
    a ⟨B * (t.val / B) + o, ho t⟩ d = a ⟨B * (s.val / B) + o, ho s⟩ d := by
  congr 1; exact Fin.ext (by show B * (t.val / B) + o = B * (s.val / B) + o; rw [h])

theorem scores4_right {q k cum : Tile Ideal} {a b c : R2} (hq : Is q a) (hk : Is k b) (hc : Is cum c) :
    RightOff 4 (scores4 q k cum) a b c := by
  unfold scores4
  refine select_right (w2 := 8) same3_iff (level_right 4 (by decide) hq hk hc (ref4_is hc) upper4_iff
    (fun t s h d => ref_same (B := 8) c _ t s h d)) ?_
  refine select_right (w2 := 16) same4_iff (level_right 8 (by decide) hq hk hc (ref8_is hc) upper8_iff
    (fun t s h d => ref_same (B := 16) c _ t s h d)) ?_
  refine select_right (w2 := 32) same5_iff (level_right 16 (by decide) hq hk hc (ref16_is hc) upper16_iff
    (fun t s h d => ref_same (B := 32) c _ t s h d)) ?_
  refine select_right (w2 := 64) same6_iff (level_right 32 (by decide) hq hk hc (ref32_is hc) upper32_iff
    (fun t s h d => ref_same (B := 64) c _ t s h d)) ?_
  refine select_right (w2 := 128) same7_iff (level_right 64 (by decide) hq hk hc (ref64_is hc) upper64_iff
    (fun t s h d => ref_same (B := 128) c _ t s h d)) ?_
  intro t s h1
  have h := level_right 128 (by decide) hq hk hc (ref128_is hc) upper128_iff
    (fun t s h d => ref_same (B := 256) c _ t s h d) t s (by omega) h1
  show splat 0x00000000#32 (ix2 t s) + level q k cum (ref128 cum) (upper 255#32 128#32) (ix2 t s) = _
  rw [h, zero_is t s, EReal.coe_zero, zero_add]

/-- The scores of a tile. -/
theorem scores_is {q k g cum : Tile Ideal} {a b c : R2} (hq : Is q a) (hk : Is k b) (hg : Is g c) (hc : Is cum (GlaMath.run c)) :
    Is (scores q k g cum) (score a b (GlaMath.run c)) := by
  have h4 := scores4_right hq hk hc
  have h2 : RightOff 2 (select (sameBlock 2#32) (scores2 q k g) (scores4 q k cum)) a b (GlaMath.run c) :=
    select_right (w2 := 4) same2_iff (fun t s e1 e2 => (scores2_is hq hk hg t s).trans (congrArg _ (score2 a b c t s e1 e2))) h4
  have h1 : RightOff 1 (select (sameBlock 1#32) (scores1 q k g) (select (sameBlock 2#32) (scores2 q k g) (scores4 q k cum))) a b (GlaMath.run c) :=
    select_right (w2 := 2) same1_iff (fun t s e1 e2 =>
      (scores1_is hq hk hg t s).trans (congrArg _ (score1 a b c t s e1 (fun e => e2 (by rw [e]))))) h2
  intro t s
  unfold scores
  show (if onDiag (ix2 t s) = 1 then _ else _) = _
  by_cases h : t = s
  · rw [if_pos ((onDiag_iff t s).mpr h)]
    subst h
    pointwise [zeroTile]
    unfold score
    rw [if_pos le_rfl, coe_sum]
    refine Finset.sum_congr rfl fun d _ => ?_
    rw [hq t d, hk t d, sub_self, Real.exp_zero, mul_one, EReal.coe_mul]
  · rw [if_neg (fun h' => h ((onDiag_iff t s).mp h'))]
    exact h1 t s (fun e => h (Fin.ext (by omega)))

/-! The running sum, the output, the state. -/

theorem runSum_is {g : Tile Ideal} {c : R2} (hg : Is g c) : Is (runSum g) (GlaMath.run c) := by
  intro t s
  pointwise [runSum, splat, zeroTile]
  have e1 : ∑ x, tri (F := Ideal) (ix2 t x) * (g (ix2 x s) - g (ix2 x s)) = 0 :=
    Finset.sum_eq_zero fun x _ => by rw [hg x s, coe_sub_self, mul_zero]
  have e2 : ∑ x, tri (F := Ideal) (ix2 t x) * (g (ix2 x s) - g (ix2 x s) - (g (ix2 x s) - g (ix2 x s))) = 0 :=
    Finset.sum_eq_zero fun x _ => by rw [hg x s, coe_sub_self, sub_zero, mul_zero]
  rw [e1, e2, add_zero, add_zero]
  unfold GlaMath.run
  rw [coe_sum]
  refine Finset.sum_congr rfl fun x _ => ?_
  rw [tri_is t x, hg x s, ← EReal.coe_mul, ite_mul, one_mul, zero_mul]

theorem outOf_is {q k g cum : Tile Ideal} {v : Vec Ideal S256x512 .bf16} {st : FVec Ideal S512x256 .f32} {a b c : R2}
    {y : Fin 256 → Fin 512 → ℝ} {z : Fin 512 → Fin 256 → ℝ} (hq : Is q a) (hk : Is k b) (hg : Is g c) (hc : Is cum (GlaMath.run c))
    (hv : Is (φ := .bf16) v y) (hs : Is st z) :
    Is (outOf q k g cum v st) (GlaMath.chunkOut a b c y fun d e => z e d) := by
  have hsc := scores_is hq hk hg hc
  intro t e
  pointwise [outOf]
  unfold GlaMath.chunkOut
  rw [EReal.coe_add, coe_sum, coe_sum]
  refine congrArg₂ (· + ·) ?_ ?_
  · refine Finset.sum_congr rfl fun d _ => ?_
    rw [hq t d, hc t d, exp_is, hs e d, EReal.coe_mul, EReal.coe_mul]
  · refine Finset.sum_congr rfl fun s _ => ?_
    rw [hsc t s, hv s e, EReal.coe_mul]; rfl

theorem stateOf_is {k cum : Tile Ideal} {v : Vec Ideal S256x512 .bf16} {st : FVec Ideal S512x256 .f32} {b c : R2}
    {y : Fin 256 → Fin 512 → ℝ} {z : Fin 512 → Fin 256 → ℝ} (hk : Is k b) (hc : Is cum (GlaMath.run c))
    (hv : Is (φ := .bf16) v y) (hs : Is st z) :
    Is (stateOf k cum v st) fun e d => GlaMath.chunkState b c y (fun d e => z e d) d e := by
  have htot : ∀ d, GlaMath.run c 255 d = GlaMath.total c d := fun d =>
    Finset.sum_congr rfl fun i _ => if_pos (Fin.le_def.mpr (by have := i.isLt; show i.val ≤ 255; omega))
  intro e d
  pointwise [stateOf, row]
  unfold GlaMath.chunkState
  rw [EReal.coe_add, coe_sum, hs e d, hc 255 d, htot, exp_is, EReal.coe_mul]
  refine congrArg₂ (· + ·) rfl (Finset.sum_congr rfl fun s _ => ?_)
  rw [hv s e, hk s d, hc s d, ← EReal.coe_sub, exp_is, EReal.coe_mul, EReal.coe_mul]
  exact mul_comm _ _

theorem gate_is {zl : Vec Ideal S256x16 .f32} {w : Vec Ideal S1x16x256 .f32} {b : Vec Ideal S1x1x256 .f32} {a : Fin 256 → Fin 16 → ℝ}
    {c : Fin 16 → Fin 256 → ℝ} {e : Fin 256 → ℝ} (hz : Is (φ := .f32) zl a) (hw : ∀ r d, w (ix3 0 r d) = ((c r d : ℝ) : EReal))
    (hb : ∀ d, b (ix3 0 0 d) = ((e d : ℝ) : EReal)) :
    Is (gate zl w b) fun p d => decay ((∑ r, a p r * c r d) + e d) := by
  unfold gate
  refine logSig_is (a := fun p d => (∑ r, a p r * c r d) + e d) ?_
  have h1 : Is (φ := .f32) (shapeCast S256x16 (zl : FVec Ideal S256x16 .f32) shapeCasts_S256x16_S256x16) a := by
    intro p r; pointwise []; exact hz p r
  have h2 : Is (φ := .f32) (shapeCast S16x256 (w : FVec Ideal S1x16x256 .f32) shapeCasts_S1x16x256_S16x256) c := by
    intro p r; pointwise []; exact hw p r
  have h3 := rowTerm_is h1 h2
  intro p d
  have h4 : broadcastTo S256x256 (shapeCast S1x256 b shapeCasts_S1x1x256_S1x256) broadcasts_S1x256_S256x256 (ix2 p d) = b (ix3 0 0 d) := by
    pointwise []
  show rowTerm (F := Ideal) _ _ (ix2 p d) + broadcastTo S256x256 _ _ (ix2 p d) = _
  rw [h4, h3 p d, hb d, EReal.coe_add]

end Cert.GlaHeadReal

end
-- ==== Proof.Blocks.lean ====
/- The blocks the kernel's windows take at a grid point, read off the arguments. -/
module

public import proofs.«01_k».proof.Proof.Point
public import proofs.«01_k».proof.Proof.HeadReal

@[expose] public section

set_option maxRecDepth 16384

noncomputable section

namespace Cert.GlaBlocks

open Idealize.ShloMosaic Idealize.ShloMosaic.TcCoe Idealize.ShloMosaic.Tactic
open Cert.KernelIdeal Cert.KernelIdeal.Gen

variable {F : FTy → Type} [FloatOps F]
variable (m : (ℓ : Loc nD τ sig) → Buf (Elt F) ℓ)

/-- The slice of the low-rank projection the region finds. -/
theorem V_low (c : Dev nD) : V m c main_v1 = (extractStridedSlice S8192x16 ![0, 0] (m ((c : Thread nD τ).loc main_arg1))
    slices_S8192x32_S8192x16_0_0 : Vec F S8192x16 .f32) := by
  simp only [V, hostOps0, List.flatten_cons, List.flatten_nil, List.append_nil, List.cons_append, List.nil_append, StableHlo.after_cons, StableHlo.after_nil]
  rfl

/-- The reshaped bias the region finds. -/
theorem V_bias (c : Dev nD) : V m c main_v0 = (shapeCast S2x1x1024 (m ((c : Thread nD τ).loc main_arg3))
    shapeCasts_S2x1024_S2x1x1024 : Vec F S2x1x1024 .f32) := by
  simp only [V, hostOps0, List.flatten_cons, List.flatten_nil, List.append_nil, List.cons_append, List.nil_append, StableHlo.after_cons, StableHlo.after_nil]
  rfl

theorem index_facts : ∀ t : Fin cfg0.N, win0_0.index t (0 : Fin 2) = t.val ∧ win0_0.index t (1 : Fin 2) = 0
    ∧ win0_1.index t (0 : Fin 2) = t.val ∧ win0_1.index t (1 : Fin 2) = 1
    ∧ win0_2.index t (0 : Fin 2) = t.val ∧ win0_2.index t (1 : Fin 2) = 1
    ∧ win0_3.index t (0 : Fin 2) = t.val ∧ win0_3.index t (1 : Fin 2) = 0
    ∧ win0_4.index t (0 : Fin 3) = 0 ∧ win0_4.index t (1 : Fin 3) = 0 ∧ win0_4.index t (2 : Fin 3) = 0
    ∧ win0_5.index t (0 : Fin 3) = 0 ∧ win0_5.index t (1 : Fin 3) = 0 ∧ win0_5.index t (2 : Fin 3) = 0 :=
  (by decide +kernel : ∀ t : Fin grid0.N, _)

theorem bound (t : Fin cfg0.N) : t.val < 32 := lt_of_lt_of_eq t.isLt (show cfg0.N = 32 from N_0)

abbrev rowOf (t : Fin cfg0.N) (p : Fin 256) : Fin 8192 := ⟨256 * t.val + p.val, by have := bound t; omega⟩

theorem blk0 (c : Dev nD) (t : Fin cfg0.N) (p : Fin 256) (d : Fin 1024) :
    (iblk m c 0 t : Vec F S256x1024 .bf16) (ix2 p d) = m ((c : Thread nD τ).loc main_arg0) (ix2 (rowOf t p) ⟨d.val, by omega⟩) := by
  obtain ⟨e0, e1, -⟩ := index_facts t
  show V m c main_arg0 (((cfg0.win 0).blk t).view.emb (ix2 p d)) = _
  rw [V_main_arg0]
  refine congrArg _ (funext fun a => Fin.ext ?_)
  match a with
  | ⟨0, _⟩ => show win0_0.index t (0 : Fin 2) * 256 + 1 * p.val = 256 * t.val + p.val; rw [e0]; ring
  | ⟨1, _⟩ => show win0_0.index t (1 : Fin 2) * 1024 + 1 * d.val = d.val; rw [e1]; ring

theorem blk1 (c : Dev nD) (t : Fin cfg0.N) (p : Fin 256) (d : Fin 1024) :
    (iblk m c 1 t : Vec F S256x1024 .bf16) (ix2 p d) = m ((c : Thread nD τ).loc main_arg0) (ix2 (rowOf t p) ⟨1024 + d.val, by omega⟩) := by
  obtain ⟨-, -, e0, e1, -⟩ := index_facts t
  show V m c main_arg0 (((cfg0.win 1).blk t).view.emb (ix2 p d)) = _
  rw [V_main_arg0]
  refine congrArg _ (funext fun a => Fin.ext ?_)
  match a with
  | ⟨0, _⟩ => show win0_1.index t (0 : Fin 2) * 256 + 1 * p.val = 256 * t.val + p.val; rw [e0]; ring
  | ⟨1, _⟩ => show win0_1.index t (1 : Fin 2) * 1024 + 1 * d.val = 1024 + d.val; rw [e1]; ring

theorem blk2 (c : Dev nD) (t : Fin cfg0.N) (p : Fin 256) (d : Fin 2048) :
    (iblk m c 2 t : Vec F S256x2048 .bf16) (ix2 p d) = m ((c : Thread nD τ).loc main_arg0) (ix2 (rowOf t p) ⟨2048 + d.val, by omega⟩) := by
  obtain ⟨-, -, -, -, e0, e1, -⟩ := index_facts t
  show V m c main_arg0 (((cfg0.win 2).blk t).view.emb (ix2 p d)) = _
  rw [V_main_arg0]
  refine congrArg _ (funext fun a => Fin.ext ?_)
  match a with
  | ⟨0, _⟩ => show win0_2.index t (0 : Fin 2) * 256 + 1 * p.val = 256 * t.val + p.val; rw [e0]; ring
  | ⟨1, _⟩ => show win0_2.index t (1 : Fin 2) * 2048 + 1 * d.val = 2048 + d.val; rw [e1]; ring

theorem blk3 (c : Dev nD) (t : Fin cfg0.N) (p : Fin 256) (r : Fin 16) :
    (iblk m c 3 t : Vec F S256x16 .f32) (ix2 p r) = m ((c : Thread nD τ).loc main_arg1) (ix2 (rowOf t p) ⟨r.val, by omega⟩) := by
  obtain ⟨-, -, -, -, -, -, e0, e1, -⟩ := index_facts t
  have hb : ((cfg0.win 3).blk t).view.emb (ix2 p r) = (ix2 (rowOf t p) r : S8192x16.Idx) := by
    refine funext fun a => Fin.ext ?_
    match a with
    | ⟨0, _⟩ => show win0_3.index t (0 : Fin 2) * 256 + 1 * p.val = 256 * t.val + p.val; rw [e0]; ring
    | ⟨1, _⟩ => show win0_3.index t (1 : Fin 2) * 16 + 1 * r.val = r.val; rw [e1]; ring
  show V m c main_v1 (((cfg0.win 3).blk t).view.emb (ix2 p r)) = _
  rw [V_low, hb]
  pointwise []

theorem blk4 (c : Dev nD) (t : Fin cfg0.N) (r : Fin 16) (d : Fin 1024) :
    (iblk m c 4 t : Vec F S1x16x1024 .f32) (ix3 0 r d) = m ((c : Thread nD τ).loc main_arg2) (ix3 0 r d) := by
  obtain ⟨-, -, -, -, -, -, -, -, e0, e1, e2, -⟩ := index_facts t
  show V m c main_arg2 (((cfg0.win 4).blk t).view.emb (ix3 0 r d)) = _
  rw [V_main_arg2]
  refine congrArg _ (funext fun a => Fin.ext ?_)
  match a with
  | ⟨0, _⟩ => show win0_4.index t (0 : Fin 3) * 1 + 1 * 0 = 0; rw [e0]
  | ⟨1, _⟩ => show win0_4.index t (1 : Fin 3) * 16 + 1 * r.val = r.val; rw [e1]; ring
  | ⟨2, _⟩ => show win0_4.index t (2 : Fin 3) * 1024 + 1 * d.val = d.val; rw [e2]; ring

theorem blk5 (c : Dev nD) (t : Fin cfg0.N) (d : Fin 1024) :
    (iblk m c 5 t : Vec F S1x1x1024 .f32) (ix3 0 0 d) = m ((c : Thread nD τ).loc main_arg3) (ix2 0 d) := by
  obtain ⟨-, -, -, -, -, -, -, -, -, -, -, e0, e1, e2⟩ := index_facts t
  have hb : ((cfg0.win 5).blk t).view.emb (ix3 0 0 d) = (ix3 0 0 d : S2x1x1024.Idx) := by
    refine funext fun a => Fin.ext ?_
    match a with
    | ⟨0, _⟩ => show win0_5.index t (0 : Fin 3) * 1 + 1 * 0 = 0; rw [e0]
    | ⟨1, _⟩ => show win0_5.index t (1 : Fin 3) * 1 + 1 * 0 = 0; rw [e1]
    | ⟨2, _⟩ => show win0_5.index t (2 : Fin 3) * 1024 + 1 * d.val = d.val; rw [e2]; ring
  show V m c main_v0 (((cfg0.win 5).blk t).view.emb (ix3 0 0 d)) = _
  rw [V_bias, hb]
  pointwise []

end Cert.GlaBlocks

end
-- ==== Proof.Data.lean ====
/- The arguments as real numbers, and each head's queries, keys, values and decays, of one batch, token by token. -/
module

public import proofs.«01_k».proof.Proof.HeadReal

@[expose] public section

noncomputable section

namespace Cert.GlaData

open Idealize.ShloMosaic Idealize.ShloMosaic.TcCoe

/-- The arguments' entries: the projection, the low-rank gate projection, its second factor and the bias. -/
structure Reals where
  p : ℕ → ℕ → ℝ
  z : ℕ → ℕ → ℝ
  w : ℕ → ℕ → ℕ → ℝ
  b : ℕ → ℕ → ℝ

/-- The four arrays hold these numbers. -/
structure Holds (r : Reals) (a0 : FVec Ideal ⟨2, ![8192, 6144]⟩ .bf16) (a1 : FVec Ideal ⟨2, ![8192, 32]⟩ .f32)
    (a2 : FVec Ideal ⟨3, ![2, 16, 1024]⟩ .f32) (a3 : FVec Ideal ⟨2, ![2, 1024]⟩ .f32) : Prop where
  p : ∀ i j, a0 (ix2 i j) = ((r.p i.val j.val : ℝ) : EReal)
  z : ∀ i j, a1 (ix2 i j) = ((r.z i.val j.val : ℝ) : EReal)
  w : ∀ i j k, a2 (ix3 i j k) = ((r.w i.val j.val k.val : ℝ) : EReal)
  b : ∀ i j, a3 (ix2 i j) = ((r.b i.val j.val : ℝ) : EReal)

variable (r : Reals)

/-- Row of the arrays of token `n` of batch `c`. -/
abbrev row (c n : ℕ) : ℕ := 2048 * c + n

def q (c h : ℕ) (n : ℕ) (d : Fin 256) : ℝ := r.p (row c n) (256 * h + d.val) * (1 / 16)
def k (c h : ℕ) (n : ℕ) (d : Fin 256) : ℝ := r.p (row c n) (1024 + (256 * h + d.val))
def v (c h : ℕ) (n : ℕ) (e : Fin 512) : ℝ := r.p (row c n) (2048 + (512 * h + e.val))
def pre (c h : ℕ) (n : ℕ) (d : Fin 256) : ℝ := (∑ i : Fin 16, r.z (row c n) i.val * r.w 0 i.val (256 * h + d.val)) + r.b 0 (256 * h + d.val)
def g (c h : ℕ) (n : ℕ) (d : Fin 256) : ℝ := GlaHeadReal.decay (pre r c h n d)

/-- The recurrence's output at token `n` of batch `c`, head `h`. -/
def outAt (c h n : ℕ) (e : Fin 512) : ℝ := GlaMath.outAt (q r c h) (k r c h) (g r c h) (v r c h) n e

/-- Its state after `n` tokens. -/
def stateAt (c h n : ℕ) (d : Fin 256) (e : Fin 512) : ℝ := GlaMath.stateAt (k r c h) (g r c h) (v r c h) n d e

end Cert.GlaData

end
-- ==== Proof.KernelVal.lean ====
/- What the kernel leaves: tile after tile its scratch holds the recurrence's state, so its output is the recurrence's. -/
module

public import proofs.«01_k».proof.Proof.Blocks
public import proofs.«01_k».proof.Proof.Data

@[expose] public section

set_option maxRecDepth 16384

noncomputable section

namespace Cert.GlaKernel

open Idealize.ShloMosaic Idealize.ShloMosaic.TcCoe Idealize.ShloMosaic.Tactic
open Cert.KernelIdeal Cert.KernelIdeal.Gen Cert.GlaPoint Cert.GlaBlocks Cert.GlaData
open Cert.GlaHeadReal (Is)

/-! One head's loads. -/

section loads
variable {F : FTy → Type} [FloatOps F]

theorem ld_q (x : Vec F S256x1024 .bf16) (h : Fin 4) (p d : Fin 256) :
    View.ld x (rq h) (ix2 p d) = x (ix2 p ⟨256 * h.val + d.val, by omega⟩) := by
  refine congrArg x (funext fun a => Fin.ext ?_)
  match a with
  | ⟨0, _⟩ => show 0 + 1 * p.val = p.val; ring
  | ⟨1, _⟩ => show 256 * h.val + 1 * d.val = 256 * h.val + d.val; ring

theorem ld_v (x : Vec F S256x2048 .bf16) (h : Fin 4) (p : Fin 256) (e : Fin 512) :
    View.ld x (rv h) (ix2 p e) = x (ix2 p ⟨512 * h.val + e.val, by omega⟩) := by
  refine congrArg x (funext fun a => Fin.ext ?_)
  match a with
  | ⟨0, _⟩ => show 0 + 1 * p.val = p.val; ring
  | ⟨1, _⟩ => show 512 * h.val + 1 * e.val = 512 * h.val + e.val; ring

theorem ld_o (x : Vec F S256x2048 .f32) (h : Fin 4) (p : Fin 256) (e : Fin 512) :
    View.ld x (rv h) (ix2 p e) = x (ix2 p ⟨512 * h.val + e.val, by omega⟩) := by
  refine congrArg x (funext fun a => Fin.ext ?_)
  match a with
  | ⟨0, _⟩ => show 0 + 1 * p.val = p.val; ring
  | ⟨1, _⟩ => show 512 * h.val + 1 * e.val = 512 * h.val + e.val; ring

theorem ld_w (x : Vec F S1x16x1024 .f32) (h : Fin 4) (i : Fin 16) (d : Fin 256) :
    View.ld x (rw h) (ix3 0 i d) = x (ix3 0 i ⟨256 * h.val + d.val, by omega⟩) := by
  refine congrArg x (funext fun a => Fin.ext ?_)
  match a with
  | ⟨0, _⟩ => show 0 + 1 * 0 = 0; rfl
  | ⟨1, _⟩ => show 0 + 1 * i.val = i.val; ring
  | ⟨2, _⟩ => show 256 * h.val + 1 * d.val = 256 * h.val + d.val; ring

theorem ld_b (x : Vec F S1x1x1024 .f32) (h : Fin 4) (d : Fin 256) :
    View.ld x (rb h) (ix3 0 0 d) = x (ix3 0 0 ⟨256 * h.val + d.val, by omega⟩) := by
  refine congrArg x (funext fun a => Fin.ext ?_)
  match a with
  | ⟨0, _⟩ => show 0 + 1 * 0 = 0; rfl
  | ⟨1, _⟩ => show 0 + 1 * 0 = 0; rfl
  | ⟨2, _⟩ => show 256 * h.val + 1 * d.val = 256 * h.val + d.val; ring

end loads

variable (m : (ℓ : Loc nD τ sig) → Buf (Elt Ideal) ℓ) (c : Dev nD) (r : Reals)

/-- The launched arguments hold the numbers `r`. -/
abbrev ArgsHold : Prop := Holds r (m ((c : Thread nD τ).loc main_arg0)) (m ((c : Thread nD τ).loc main_arg1))
  (m ((c : Thread nD τ).loc main_arg2)) (m ((c : Thread nD τ).loc main_arg3))

/-- The plane holds the state after `n` tokens. -/
def StateIs (b h n : ℕ) (s : Vec Ideal S1x512x256 .f32) : Prop :=
  ∀ (e : Fin 512) (d : Fin 256), s (ix3 0 e d) = ((stateAt r b h n d e : ℝ) : EReal)

variable {m c r}

theorem rows (t : Fin cfg0.N) (p : ℕ) : 256 * t.val + p = row (t.val / 8) (256 * (t.val % 8) + p) := by
  unfold row; omega

theorem plane (x : FVec Ideal S512x256 .f32) (e : Fin 512) (d : Fin 256) :
    shapeCast S1x512x256 x shapeCasts_S512x256_S1x512x256 (ix3 0 e d) = x (ix2 e d) := by
  pointwise []

section tile
variable (hA : ArgsHold m c r) (t : Fin cfg0.N) (h : Fin 4)
include hA

theorem q_is : Is (GlaHead.qOf (F := Ideal) (View.ld (iblk m c 0 t : Vec Ideal S256x1024 .bf16) (rq h)))
    (GlaMath.chunk 256 (256 * (t.val % 8)) (q r (t.val / 8) h.val)) := by
  intro p d
  have e : View.ld (iblk m c 0 t : Vec Ideal S256x1024 .bf16) (rq h) (ix2 p d)
      = ((r.p (256 * t.val + p.val) (256 * h.val + d.val) : ℝ) : EReal) :=
    (ld_q _ h p d).trans ((blk0 m c t p _).trans (hA.p _ _))
  refine Eq.trans (congrArg (fun x : EReal => x * Ideal.ofBits FTy.f32 0x3D800000#32) e) ?_
  show _ * Ideal.ofBits FTy.f32 0x3D800000#32 = _
  rw [GlaHeadReal.sixteenth, ← EReal.coe_mul, rows]
  rfl

theorem k_is : Is (GlaHead.kOf (F := Ideal) (View.ld (iblk m c 1 t : Vec Ideal S256x1024 .bf16) (rq h)))
    (GlaMath.chunk 256 (256 * (t.val % 8)) (k r (t.val / 8) h.val)) := by
  intro p d
  have e : View.ld (iblk m c 1 t : Vec Ideal S256x1024 .bf16) (rq h) (ix2 p d)
      = ((r.p (256 * t.val + p.val) (1024 + (256 * h.val + d.val)) : ℝ) : EReal) :=
    (ld_q _ h p d).trans ((blk1 m c t p _).trans (hA.p _ _))
  show View.ld (iblk m c 1 t : Vec Ideal S256x1024 .bf16) (rq h) (ix2 p d) = _
  rw [e, rows]
  rfl

theorem v_is : Is (φ := .bf16) (View.ld (iblk m c 2 t : Vec Ideal S256x2048 .bf16) (rv h))
    (GlaMath.chunk 256 (256 * (t.val % 8)) (v r (t.val / 8) h.val)) := by
  intro p d
  have e : View.ld (iblk m c 2 t : Vec Ideal S256x2048 .bf16) (rv h) (ix2 p d)
      = ((r.p (256 * t.val + p.val) (2048 + (512 * h.val + d.val)) : ℝ) : EReal) :=
    (ld_v _ h p d).trans ((blk2 m c t p _).trans (hA.p _ _))
  refine Eq.trans e ?_
  rw [rows]
  rfl

theorem g_is : Is (GlaHead.gate (F := Ideal) (iblk m c 3 t : Vec Ideal S256x16 .f32) (View.ld (iblk m c 4 t : Vec Ideal S1x16x1024 .f32) (rw h))
      (View.ld (iblk m c 5 t : Vec Ideal S1x1x1024 .f32) (rb h)))
    (GlaMath.chunk 256 (256 * (t.val % 8)) (g r (t.val / 8) h.val)) := by
  have hg := GlaHeadReal.gate_is (zl := iblk m c 3 t) (w := View.ld (iblk m c 4 t : Vec Ideal S1x16x1024 .f32) (rw h))
    (b := View.ld (iblk m c 5 t : Vec Ideal S1x1x1024 .f32) (rb h))
    (a := fun p i => r.z (row (t.val / 8) (256 * (t.val % 8) + p.val)) i.val)
    (c := fun i d => r.w 0 i.val (256 * h.val + d.val)) (e := fun d => r.b 0 (256 * h.val + d.val))
    (fun p i => (blk3 m c t p i).trans ((hA.z _ _).trans (congrArg (fun n => ((r.z n i.val : ℝ) : EReal)) (rows t p.val))))
    (fun i d => (ld_w _ h i d).trans ((blk4 m c t i _).trans (hA.w _ _ _)))
    (fun d => (ld_b _ h d).trans ((blk5 m c t _).trans (hA.b _ _)))
  exact hg

theorem out_is (s : Vec Ideal S1x512x256 .f32) (hs : StateIs r (t.val / 8) h.val (256 * (t.val % 8)) s) :
    Is (hOut (F := Ideal) (iblk m c 0 t) (iblk m c 1 t) (iblk m c 2 t) (iblk m c 3 t) (iblk m c 4 t) (iblk m c 5 t) h s)
      fun p e => outAt r (t.val / 8) h.val (256 * (t.val % 8) + p.val) e := by
  have hst : Is (φ := .f32) (shapeCast S512x256 (s : FVec Ideal S1x512x256 .f32) shapeCasts_S1x512x256_S512x256)
      fun e d => stateAt r (t.val / 8) h.val (256 * (t.val % 8)) d e := by
    intro e d; pointwise []; exact hs e d
  have hg := g_is hA t h
  intro p e
  have := GlaHeadReal.outOf_is (q_is hA t h) (k_is hA t h) hg (GlaHeadReal.runSum_is hg) (v_is hA t h) hst p e
  exact this.trans (congrArg _ (GlaMath.chunkOut_eq 256 _ _ _ _ _ p e))

theorem state_is (s : Vec Ideal S1x512x256 .f32) (hs : StateIs r (t.val / 8) h.val (256 * (t.val % 8)) s) :
    StateIs r (t.val / 8) h.val (256 * (t.val % 8) + 256)
      (hState (F := Ideal) (iblk m c 1 t) (iblk m c 2 t) (iblk m c 3 t) (iblk m c 4 t) (iblk m c 5 t) h s) := by
  have hst : Is (φ := .f32) (shapeCast S512x256 (s : FVec Ideal S1x512x256 .f32) shapeCasts_S1x512x256_S512x256)
      fun e d => stateAt r (t.val / 8) h.val (256 * (t.val % 8)) d e := by
    intro e d; pointwise []; exact hs e d
  have hg := g_is hA t h
  intro e d
  have := GlaHeadReal.stateOf_is (k_is hA t h) (GlaHeadReal.runSum_is hg) (v_is hA t h) hst e d
  refine Eq.trans ?_ (this.trans (congrArg _ (GlaMath.chunkState_eq 256 _ _ _ _ d e)))
  exact plane _ e d

end tile

/-- The zeroed scratch holds the state before the first token. -/
theorem zero_is (b : ℕ) (h : Fin 4) : StateIs r b h.val 0 (View.ld (zeroSt (F := Ideal)) (rs h)) := by
  intro e d
  show zeroSt (F := Ideal) ((rs h).emb (ix3 0 e d)) = _
  have : stateAt r b h.val 0 d e = 0 := by unfold stateAt GlaMath.stateAt; exact Finset.sum_range_zero _
  rw [this]
  unfold zeroSt k0_pay2
  pointwise []
  simp

/-- Tile by tile. -/
theorem tiles (hA : ArgsHold m c r) : ∀ (n : ℕ) (hn : n < cfg0.N) (h : Fin 4),
    Is (φ := .f32) (View.ld (outsAt0 m c n hn).1 (rv h)) (fun p e => outAt r (n / 8) h.val (256 * (n % 8) + p.val) e)
    ∧ StateIs r (n / 8) h.val (256 * (n % 8) + 256) (View.ld (outsAt0 m c n hn).2 (rs h)) := by
  intro n
  induction n with
  | zero =>
    intro hn h
    have e := outsAt0_A m c ⟨0, hn⟩ rfl
    have hz := zero_is (r := r) 0 h
    rw [show outsAt0 m c 0 hn = _ from e]
    refine ⟨?_, ?_⟩
    · rw [outA_eq]; exact out_is hA ⟨0, hn⟩ h _ hz
    · rw [soutA]; exact state_is hA ⟨0, hn⟩ h _ hz
  | succ n ih =>
    intro hn h
    by_cases h0 : (n + 1) % 8 = 0
    · have e := outsAt0_A m c ⟨n + 1, hn⟩ h0
      have hz : StateIs r ((n + 1) / 8) h.val (256 * ((n + 1) % 8)) (View.ld (zeroSt (F := Ideal)) (rs h)) := by
        rw [h0]; exact zero_is _ h
      rw [show outsAt0 m c (n + 1) hn = _ from e]
      refine ⟨?_, ?_⟩
      · rw [outA_eq]; exact out_is hA ⟨n + 1, hn⟩ h _ hz
      · rw [soutA]; exact state_is hA ⟨n + 1, hn⟩ h _ hz
    · have e := outsAt0_B m c ⟨n + 1, hn⟩ h0
      have hz : StateIs r ((n + 1) / 8) h.val (256 * ((n + 1) % 8)) (View.ld (outsAt0 m c n (Nat.lt_of_succ_lt hn)).2 (rs h)) := by
        have := (ih (Nat.lt_of_succ_lt hn) h).2
        rw [show (n + 1) / 8 = n / 8 by omega, show 256 * ((n + 1) % 8) = 256 * (n % 8) + 256 by omega]
        exact this
      rw [show outsAt0 m c (n + 1) hn = _ from e]
      refine ⟨?_, ?_⟩
      · rw [outB]; exact out_is hA ⟨n + 1, hn⟩ h _ hz
      · rw [soutB]; exact state_is hA ⟨n + 1, hn⟩ h _ hz

theorem pt_eq (b : Fin 4) (n : Fin 2048) (h : Fin 4) (e : Fin 512) (i : S8192x2048.Idx)
    (h0 : (i 0).val = 2048 * b.val + n.val) (h1 : (i 1).val = 512 * h.val + e.val) : Value.pt6Of i = 8 * b.val + n.val / 256 := by
  show 1 * ((i 0).val / 256 - 0) + 1 * ((i 1).val / 2048 - 0) = _
  rw [h0, h1]; omega

theorem loc_eq (b : Fin 4) (n : Fin 2048) (h : Fin 4) (e : Fin 512) (i : S8192x2048.Idx)
    (h0 : (i 0).val = 2048 * b.val + n.val) (h1 : (i 1).val = 512 * h.val + e.val) :
    Value.loc6Of i = ix2 (⟨n.val % 256, by omega⟩ : Fin 256) (⟨512 * h.val + e.val, by omega⟩ : Fin 2048) := by
  funext a; apply Fin.ext
  match a with
  | ⟨0, _⟩ => show (i 0).val % 256 = n.val % 256; rw [h0]; omega
  | ⟨1, _⟩ => show (i 1).val % 2048 = 512 * h.val + e.val; rw [h1]; omega

/-- The kernel's result: the recurrence's output at each token and head. -/
theorem result (hA : ArgsHold m c r) (b : Fin 4) (n : Fin 2048) (h : Fin 4) (e : Fin 512) (i : S8192x2048.Idx)
    (h0 : (i 0).val = 2048 * b.val + n.val) (h1 : (i 1).val = 512 * h.val + e.val) :
    Value.G6 m c i = ((outAt r b.val h.val n.val e : ℝ) : EReal) := by
  have hN : cfg0.N = 32 := N_0
  have hp := pt_eq b n h e i h0 h1
  have ht : 8 * b.val + n.val / 256 < cfg0.N := by rw [hN]; omega
  have ht' : Value.pt6Of i < cfg0.N := lt_of_eq_of_lt hp ht
  unfold Value.G6
  rw [dif_pos ht', loc_eq b n h e i h0 h1, ← Value.outsAt0_sweep m c _ ht']
  generalize Value.pt6Of i = t at *
  subst hp
  have hT := (tiles hA _ ht h).1 ⟨n.val % 256, by omega⟩ e
  refine (ld_o _ h ⟨n.val % 256, by omega⟩ e).symm.trans (hT.trans ?_)
  have e1 : (8 * b.val + n.val / 256) / 8 = b.val := by omega
  have e2 : 256 * ((8 * b.val + n.val / 256) % 8) + n.val % 256 = n.val := by omega
  show ((outAt r ((8 * b.val + n.val / 256) / 8) h.val (256 * ((8 * b.val + n.val / 256) % 8) + n.val % 256) e : ℝ) : EReal) = _
  rw [e1, e2]

end Cert.GlaKernel

end
-- ==== Proof.RefLoop.lean ====
/- The reference's run stated over one trip of its scan (`Step`): after the loop the output buffer is the output field of the
   state reached by thirty-two trips from the initial one. -/
module

public import proofs.«01_k».proof.Proof.Gen.ReferenceIdeal.Run
public import proofs.«01_k».proof.Proof.Gen.ReferenceIdeal.Step

@[expose] public section

set_option maxRecDepth 16384

noncomputable section

namespace Cert.GlaRefLoop

open Idealize.ShloMosaic Idealize.ShloMosaic.TcCoe Idealize.SL.Sem Idealize.ShloMosaic.StableHlo
open Cert.ReferenceIdeal Cert.ReferenceIdeal.Gen Cert.ReferenceIdeal.Value
open Cert.ReferenceIdeal.Step (State step init)

variable {F : FTy → Type} [FloatOps F]

/-- The scan's carried values and its inputs, as the buffers of a valuation hold them. -/
def carried (V : Valuation τ sig (Elt F)) : State F where
  main_v47_6 := V (Proc.devRef .tc main_v47_6)
  main_v47_7 := V (Proc.devRef .tc main_v47_7)
  main_v47_0 := V (Proc.devRef .tc main_v47_0)
  main_v47_1 := V (Proc.devRef .tc main_v47_1)
  main_v47_2 := V (Proc.devRef .tc main_v47_2)
  main_v47_3 := V (Proc.devRef .tc main_v47_3)

/-- The valuation stands before trip `j`: its counter is `j` and the causal mask is the one computed ahead of the loop. -/
def Before (V : Valuation τ sig (Elt F)) (j : ℕ) : Prop :=
  V (Proc.devRef .tc main_v47_5) = constantI S_ 32 (BitVec.ofNat 32 j)
    ∧ V (Proc.devRef .tc main_v47_4) = Cert.ReferenceIdeal.Step.K_main_v36 (F := F)

variable {V : Valuation τ sig (Elt F)} {j : ℕ}

theorem state_next (h : Before V j) : step_main_v47_6 V = (step j (carried V)).main_v47_6 := by
  unfold step_main_v47_6 res_main_while0b_v74 res_main_while0b_v53 res_main_while0b_v56 res_main_while0b_v54
  rw [h.1]
  rfl

theorem output_next (h : Before V j) : step_main_v47_7 V = (step j (carried V)).main_v47_7 := by
  unfold step_main_v47_7 res_main_while0b_v52 res_main_while0b_v53 res_main_while0b_v56 res_main_while0b_v54
  rw [h.1, h.2]
  rfl

theorem counter_next (h : Before V j) : step_main_v47_5 V = constantI S_ 32 (BitVec.ofNat 32 (j + 1)) := by
  unfold step_main_v47_5
  rw [h.1]
  funext i
  show BitVec.ofNat 32 j + 1#32 = BitVec.ofNat 32 (j + 1)
  simp only [BitVec.ofNat_add]

/-- A trip takes the carried values to their next, and leaves the scan's inputs, the mask and the next number. -/
theorem trip (h : Before V j) : Before (STEP V) (j + 1) ∧ carried (STEP V) = step j (carried V) := by
  refine ⟨⟨(STEP_main_v47_5 V).trans (counter_next h), (STEP_main_v47_4 V).trans h.2⟩, ?_⟩
  unfold carried
  rw [STEP_main_v47_6 V, STEP_main_v47_7 V, STEP_main_v47_0 V, STEP_main_v47_1 V, STEP_main_v47_2 V, STEP_main_v47_3 V,
    state_next h, output_next h]
  rfl

variable (m : (ℓ : Loc nD τ sig) → Buf (Elt F) ℓ) (c : Dev nD)

/-- What the scan starts from. -/
abbrev start : State F :=
  init (m ((c.tc : Thread nD τ).loc main_arg0)) (m ((c.tc : Thread nD τ).loc main_arg1))
    (m ((c.tc : Thread nD τ).loc main_arg2)) (m ((c.tc : Thread nD τ).loc main_arg3))

/-- The carried values ahead of trip `n`. -/
def trips (s : State F) : ℕ → State F
  | 0 => s
  | n + 1 => step n (trips s n)

set_option maxRecDepth 65536 in
set_option maxHeartbeats 400000 in
theorem entry : Before (entryContents preI m c) 0 ∧ carried (entryContents preI m c) = start m c := by
  refine ⟨⟨?_, ?_⟩, ?_⟩
  · simp only [entryContents, afterL_cons, afterL_nil]; after_reads_simp; rfl
  · simp only [entryContents, afterL_cons, afterL_nil]; after_reads_simp; rfl
  · simp only [carried, entryContents, afterL_cons, afterL_nil]; after_reads_simp; rfl

theorem after_trips (k : ℕ) : Before (STEP^[k] (entryContents preI m c)) k
    ∧ carried (STEP^[k] (entryContents preI m c)) = trips (start m c) k := by
  induction k with
  | zero => exact entry m c
  | succ k ih =>
    rw [Function.iterate_succ_apply']
    have h := trip ih.1
    exact ⟨h.1, h.2.trans (by rw [ih.2]; rfl)⟩

theorem result (W : Valuation τ sig (Elt F)) :
    out_main_v51 W = Cert.ReferenceIdeal.Step.R_main_v51 (carried W) := by
  unfold out_main_v51 Cert.ReferenceIdeal.Step.R_main_v51
  rfl

/-- Every fair execution of the reference ends with its result read off the thirty-second state, its arguments unchanged. -/
theorem run (ρ : Dev nD → PrngReg) :
    θ_run (defs (F := F)) (onTc (τ := τ) (main (F := F))) ⟨m, fun _ => 0, ρ⟩ fun r => ∀ c : Dev nD,
      r.2.mem ((c.tc : Thread nD τ).loc main_v51) = Cert.ReferenceIdeal.Step.R_main_v51 (trips (start m c) 32)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨(h c).1.trans ((result _).trans (congrArg _ (after_trips m c 32).2)), (h c).2⟩) (Value.run m ρ)

end Cert.GlaRefLoop

end
-- ==== Proof.RefVal.lean ====
/- The reference on real inputs: its chunks, one trip of its loop, and all of them, hold the recurrence's numbers. -/
module

public import proofs.«01_k».proof.Proof.RefLoop
public import proofs.«01_k».proof.Proof.Data

@[expose] public section

set_option maxRecDepth 16384

noncomputable section

namespace Cert.GlaRef

open Idealize.ShloMosaic Idealize.ShloMosaic.TcCoe
open Cert.ReferenceIdeal Cert.ReferenceIdeal.Gen Cert.ReferenceIdeal.Step Cert.GlaData Cert.GlaHeadReal

/-! A running sum along the third axis. -/

theorem foldl_add {M : ℕ} (f : Fin M → EReal) (v : EReal) :
    (List.finRange M).foldl (fun r n => r + f n) v = v + ∑ n, f n := by
  rw [Fin.sum_univ_def]
  generalize List.finRange M = l
  induction l generalizing v with
  | nil => simp
  | cons a l ih => rw [List.foldl_cons, ih, List.map_cons, List.sum_cons, add_assoc]

theorem prefix_sum (f : ℕ → EReal) (p : Fin 64) :
    ∑ n : Fin 64, (if 63 ≤ p.val + n.val then f (p.val + n.val - 63) else 0) = ∑ i : Fin 64, if i ≤ p then f i.val else 0 := by
  have hp := p.isLt
  have l : ∑ n : Fin 64, (if 63 ≤ p.val + n.val then f (p.val + n.val - 63) else 0)
      = ∑ n ∈ Finset.range 64, (if 63 ≤ p.val + n then f (p.val + n - 63) else 0) :=
    (Finset.sum_range fun n => if 63 ≤ p.val + n then f (p.val + n - 63) else 0).symm
  have r : ∑ i : Fin 64, (if i ≤ p then f i.val else 0) = ∑ i ∈ Finset.range 64, if i ≤ p.val then f i else 0 :=
    (Finset.sum_range fun i => if i ≤ p.val then f i else 0).symm
  rw [l, r]
  have e1 : ∑ n ∈ Finset.range ((63 - p.val) + (p.val + 1)), (if 63 ≤ p.val + n then f (p.val + n - 63) else 0)
      = ∑ i ∈ Finset.range (p.val + 1), f i := by
    rw [Finset.sum_range_add, Finset.sum_eq_zero fun x hx => if_neg (by have := Finset.mem_range.1 hx; omega), zero_add]
    refine Finset.sum_congr rfl fun x _ => ?_
    rw [if_pos (by omega), show p.val + (63 - p.val + x) - 63 = x by omega]
  have e2 : ∑ i ∈ Finset.range ((p.val + 1) + (63 - p.val)), (if i ≤ p.val then f i else 0)
      = ∑ i ∈ Finset.range (p.val + 1), f i := by
    rw [Finset.sum_range_add, Finset.sum_congr (g := f) rfl fun x hx => if_pos (by have := Finset.mem_range.1 hx; omega),
      Finset.sum_eq_zero (s := Finset.range (63 - p.val)) fun x hx => if_neg (by omega), add_zero]
  rw [show (63 - p.val) + (p.val + 1) = 64 by omega] at e1
  rw [show (p.val + 1) + (63 - p.val) = 64 by omega] at e2
  rw [e1, e2]

theorem window_coords (n : Fin (⟨4, ![1, 1, 64, 1]⟩ : Shape).numel) :
    let i := (⟨4, ![1, 1, 64, 1]⟩ : Shape).rowMajor.symm n
    (i 0).val = 0 ∧ (i 1).val = 0 ∧ (i 2).val = n.val ∧ (i 3).val = 0 := by
  intro i
  have h0 : (i 0).val < 1 := (i 0).isLt
  have h1 : (i 1).val < 1 := (i 1).isLt
  have h2 : (i 2).val < 64 := (i 2).isLt
  have h3 : (i 3).val < 1 := (i 3).isLt
  have e : ((⟨4, ![1, 1, 64, 1]⟩ : Shape).rowMajor i).val = n.val := congrArg Fin.val (Equiv.apply_symm_apply _ n)
  rw [Shape.rowMajor_val_four] at e
  simp at e
  omega

theorem window_numel : (⟨4, ![1, 1, 64, 1]⟩ : Shape).numel = 64 := by decide

/-- The window sum that writes a cumulative sum. -/
theorem cumsum_apply {B H D : ℕ} (x : FVec Ideal ⟨4, ![B, H, 64, D]⟩ .f32) (init : FVec Ideal S_ .f32)
    (h : (⟨4, ![B, H, 64, D]⟩ : Shape).ReduceWindows ![1, 1, 64, 1] ![1, 1, 1, 1] ![0, 0, 63, 0] ![0, 0, 0, 0] ⟨4, ![B, H, 64, D]⟩)
    (hu : 0 < S_.numel) (h0 : init (Shape.Idx.first hu) = 0) (b : Fin B) (c : Fin H) (p : Fin 64) (d : Fin D) :
    Host.reduceWindowAdd ![1, 1, 64, 1] ![1, 1, 1, 1] ![0, 0, 63, 0] ![0, 0, 0, 0] x init h hu (ix4 b c p d)
      = ∑ i : Fin 64, if i ≤ p then x (ix4 b c i d) else 0 := by
  let f : ℕ → EReal := fun n => if hn : n < 64 then x (ix4 b c ⟨n, hn⟩ d) else 0
  have hf : ∀ i : Fin 64, f i.val = x (ix4 b c i d) := fun i => dif_pos i.isLt
  have hp := p.isLt
  refine (foldl_add _ _).trans ?_
  refine Eq.trans (b := (0 : EReal) + ∑ n : Fin 64, if 63 ≤ p.val + n.val then f (p.val + n.val - 63) else 0) ?_ ?_
  · refine congrArg₂ (· + ·) h0 ?_
    refine Fintype.sum_equiv (finCongr window_numel) _ _ fun n => ?_
    have hn : n.val < 64 := Nat.lt_of_lt_of_eq n.isLt window_numel
    obtain ⟨w0, w1, w2, w3⟩ := window_coords n
    refine Eq.trans ?_ (show (if 63 ≤ p.val + n.val then f (p.val + n.val - 63) else 0) = _ from rfl)
    dsimp only
    split
    · next hin =>
      have h2 := hin 2
      change 63 ≤ p.val * 1 + ((⟨4, ![1, 1, 64, 1]⟩ : Shape).rowMajor.symm n 2).val ∧ _ at h2
      rw [w2] at h2
      rw [if_pos (by omega)]
      refine Eq.trans (congrArg x (funext fun a => Fin.ext ?_)) (hf ⟨p.val + n.val - 63, by omega⟩).symm
      match a with
      | ⟨0, _⟩ => show b.val * 1 + ((⟨4, ![1, 1, 64, 1]⟩ : Shape).rowMajor.symm n 0).val - 0 = b.val; omega
      | ⟨1, _⟩ => show c.val * 1 + ((⟨4, ![1, 1, 64, 1]⟩ : Shape).rowMajor.symm n 1).val - 0 = c.val; omega
      | ⟨2, _⟩ => show p.val * 1 + ((⟨4, ![1, 1, 64, 1]⟩ : Shape).rowMajor.symm n 2).val - 63 = p.val + n.val - 63; omega
      | ⟨3, _⟩ => show d.val * 1 + ((⟨4, ![1, 1, 64, 1]⟩ : Shape).rowMajor.symm n 3).val - 0 = d.val; omega
    · next hin =>
      rw [if_neg fun hle => hin fun a => ?_]
      · exact h0
      · have hb := b.isLt
        have hc := c.isLt
        have hd := d.isLt
        match a with
        | ⟨0, _⟩ =>
          show 0 ≤ b.val * 1 + ((⟨4, ![1, 1, 64, 1]⟩ : Shape).rowMajor.symm n 0).val
            ∧ b.val * 1 + ((⟨4, ![1, 1, 64, 1]⟩ : Shape).rowMajor.symm n 0).val - 0 < B
          omega
        | ⟨1, _⟩ =>
          show 0 ≤ c.val * 1 + ((⟨4, ![1, 1, 64, 1]⟩ : Shape).rowMajor.symm n 1).val
            ∧ c.val * 1 + ((⟨4, ![1, 1, 64, 1]⟩ : Shape).rowMajor.symm n 1).val - 0 < H
          omega
        | ⟨2, _⟩ =>
          show 63 ≤ p.val * 1 + ((⟨4, ![1, 1, 64, 1]⟩ : Shape).rowMajor.symm n 2).val
            ∧ p.val * 1 + ((⟨4, ![1, 1, 64, 1]⟩ : Shape).rowMajor.symm n 2).val - 63 < 64
          omega
        | ⟨3, _⟩ =>
          show 0 ≤ d.val * 1 + ((⟨4, ![1, 1, 64, 1]⟩ : Shape).rowMajor.symm n 3).val
            ∧ d.val * 1 + ((⟨4, ![1, 1, 64, 1]⟩ : Shape).rowMajor.symm n 3).val - 0 < D
          omega
  · rw [zero_add, prefix_sum]
    exact Finset.sum_congr rfl fun i _ => by rw [hf i]

/-! The chunks the loop reads. -/

section Chunks

variable {r : Reals} {a0 : FVec Ideal S8192x6144 .bf16} {a1 : FVec Ideal S8192x32 .f32} {a2 : FVec Ideal S2x16x1024 .f32}
  {a3 : FVec Ideal S2x1024 .f32}

theorem chunk_q (hA : Holds r a0 a1 a2 a3) (j : Fin 32) (b h : Fin 4) (i : Fin 64) (d : Fin 256) :
    A_main_v39 (F := Ideal) a0 a1 a2 a3 (ix5 j b h i d) = ((GlaData.q r b.val h.val (64 * j.val + i.val) d : ℝ) : EReal) := by
  pointwise [A_main_v39, A_main_v38, A_main_v10, A_main_v8, A_main_v7, A_main_v3, A_main_v1, A_main_v0, K_main_v9, K_main_cst]
  rw [hA.p, sixteenth, ← EReal.coe_mul]
  unfold GlaData.q
  simp only [row, EReal.coe_eq_coe_iff]
  rw [show b.val * 2048 + (j.val * 64 + i.val) = 2048 * b.val + (64 * j.val + i.val) by omega,
    show h.val * 256 + d.val = 256 * h.val + d.val by omega]

theorem chunk_k (hA : Holds r a0 a1 a2 a3) (j : Fin 32) (b h : Fin 4) (i : Fin 64) (d : Fin 256) :
    A_main_v41 (F := Ideal) a0 a1 a2 a3 (ix5 j b h i d) = ((GlaData.k r b.val h.val (64 * j.val + i.val) d : ℝ) : EReal) := by
  pointwise [A_main_v41, A_main_v40, A_main_v12, A_main_v11, A_main_v4, A_main_v1, A_main_v0]
  rw [hA.p]
  unfold GlaData.k
  simp only [row, EReal.coe_eq_coe_iff]
  rw [show b.val * 2048 + (j.val * 64 + i.val) = 2048 * b.val + (64 * j.val + i.val) by omega,
    show 1024 + (h.val * 256 + d.val) = 1024 + (256 * h.val + d.val) by omega]

theorem chunk_v (hA : Holds r a0 a1 a2 a3) (j : Fin 32) (b h : Fin 4) (i : Fin 64) (d : Fin 512) :
    A_main_v43 (F := Ideal) a0 a1 a2 a3 (ix5 j b h i d) = ((GlaData.v r b.val h.val (64 * j.val + i.val) d : ℝ) : EReal) := by
  pointwise [A_main_v43, A_main_v42, A_main_v14, A_main_v13, A_main_v5, A_main_v1, A_main_v0]
  rw [hA.p]
  unfold GlaData.v
  simp only [row, EReal.coe_eq_coe_iff]
  rw [show b.val * 2048 + (j.val * 64 + i.val) = 2048 * b.val + (64 * j.val + i.val) by omega,
    show 2048 + (h.val * 512 + d.val) = 2048 + (512 * h.val + d.val) by omega]

theorem pre_is (hA : Holds r a0 a1 a2 a3) (b h : Fin 4) (n : Fin 2048) (d : Fin 256) (c : Fin 1024) (hc : c.val = 256 * h.val + d.val) :
    A_main_v23 (F := Ideal) a0 a1 a2 a3 (ix3 b n c) = ((pre r b.val h.val n.val d : ℝ) : EReal) := by
  pointwise [A_main_v23, A_main_v22, A_main_v21, A_main_v20, A_main_v19, A_main_v18, A_main_v17, A_main_v16, A_main_v15, A_main_v2]
  rw [hA.b]
  simp only [hA.z, hA.w, ← EReal.coe_mul]
  rw [← coe_sum, ← EReal.coe_add]
  unfold pre
  simp only [row, EReal.coe_eq_coe_iff, hc]
  rw [show b.val * 2048 + n.val = 2048 * b.val + n.val by omega]
  rfl

theorem neg_soft (z : ℝ) : -(max (-z) 0 + Real.log (1 + Real.exp (-|(-z)|))) * (16 : ℝ)⁻¹ = decay z := by
  unfold decay
  rw [abs_neg, show max (-z) 0 = -min z 0 by rw [← neg_zero, max_neg_neg, neg_zero]]
  ring

theorem decay_is (hA : Holds r a0 a1 a2 a3) (b h : Fin 4) (n : Fin 2048) (d : Fin 256) (c : Fin 1024) (hc : c.val = 256 * h.val + d.val) :
    A_main_v28 (F := Ideal) a0 a1 a2 a3 (ix3 b n c) = ((GlaData.g r b.val h.val n.val d : ℝ) : EReal) := by
  pointwise [A_main_v28, A_main_v26, A_main_v25, A_main_call0_v4, A_main_call0_v6, A_main_call0_v11, A_main_call0_v3, A_main_call0_v1,
    A_main_call0_v10, A_main_call0_v9, A_main_call0_v8, A_main_call0_v7, A_main_v24, K_main_v27, K_main_cst_0, K_main_call0_v0,
    K_main_call0_v2, K_main_call0_v5, K_main_call0_cst]
  rw [pre_is hA b h n d c hc, if_neg (fun hne => hne rfl), sixteen, ← EReal.coe_neg, Ideal.absf_def, abs_is, ← EReal.coe_neg, exp_is, log1p_exp,
    ← EReal.coe_zero, ← EReal.coe_strictMono.monotone.map_max, ← EReal.coe_add, ← EReal.coe_neg]
  unfold Ideal.div
  rw [if_neg (by rw [← EReal.coe_zero, EReal.coe_eq_coe_iff]; norm_num), ← EReal.coe_inv, ← EReal.coe_mul]
  unfold GlaData.g
  rw [neg_soft]

theorem chunk_g (hA : Holds r a0 a1 a2 a3) (j : Fin 32) (b h : Fin 4) (i : Fin 64) (d : Fin 256) :
    A_main_v45 (F := Ideal) a0 a1 a2 a3 (ix5 j b h i d) = ((GlaData.g r b.val h.val (64 * j.val + i.val) d : ℝ) : EReal) := by
  pointwise [A_main_v45, A_main_v44, A_main_v30, A_main_v29]
  have hj := j.isLt
  have hi := i.isLt
  refine (decay_is hA b h ⟨j.val * 64 + i.val, by omega⟩ d ⟨h.val * 256 + d.val, by have := h.isLt; have := d.isLt; omega⟩ (by show h.val * 256 + d.val = _; omega)).trans ?_
  show ((GlaData.g r b.val h.val (j.val * 64 + i.val) d : ℝ) : EReal) = _
  rw [show j.val * 64 + i.val = 64 * j.val + i.val by omega]

end Chunks

/-- A state of the loop whose four operands hold the chunks. -/
structure Reads (r : Reals) (s : State Ideal) : Prop where
  q : ∀ (j : Fin 32) (b h : Fin 4) (i : Fin 64) (d : Fin 256), s.main_v47_0 (ix5 j b h i d) = ((GlaData.q r b.val h.val (64 * j.val + i.val) d : ℝ) : EReal)
  k : ∀ (j : Fin 32) (b h : Fin 4) (i : Fin 64) (d : Fin 256), s.main_v47_1 (ix5 j b h i d) = ((GlaData.k r b.val h.val (64 * j.val + i.val) d : ℝ) : EReal)
  v : ∀ (j : Fin 32) (b h : Fin 4) (i : Fin 64) (e : Fin 512), s.main_v47_2 (ix5 j b h i e) = ((GlaData.v r b.val h.val (64 * j.val + i.val) e : ℝ) : EReal)
  g : ∀ (j : Fin 32) (b h : Fin 4) (i : Fin 64) (d : Fin 256), s.main_v47_3 (ix5 j b h i d) = ((GlaData.g r b.val h.val (64 * j.val + i.val) d : ℝ) : EReal)

/-- A state after `n` trips. -/
structure After (r : Reals) (n : ℕ) (s : State Ideal) : Prop where
  reads : Reads r s
  state : ∀ (b h : Fin 4) (d : Fin 256) (e : Fin 512), s.main_v47_6 (ix4 b h d e) = ((stateAt r b.val h.val (64 * n) d e : ℝ) : EReal)
  rows : ∀ (j : Fin 32), j.val < n → ∀ (b h : Fin 4) (i : Fin 64) (e : Fin 512),
    s.main_v47_7 (ix5 j b h i e) = ((GlaData.outAt r b.val h.val (64 * j.val + i.val) e : ℝ) : EReal)

/-! The rows a trip reads and writes. -/

theorem toInt_trip : ∀ j : Fin 32, (BitVec.ofNat 32 j.val).toInt = ((j.val : ℕ) : ℤ) := by decide +kernel

/-- The start indices of trip `j`: row `j`, and the whole of every other axis. -/
def starts (j : ℕ) : Fin 5 → ℤ := fun k =>
  ((![constantI S_ 32 (BitVec.ofNat 32 j), constantI S_ 32 0#32, constantI S_ 32 0#32, constantI S_ 32 0#32, constantI S_ 32 0#32]
    : Fin 5 → IVec S_ 32) k (Shape.Idx.first h_S_)).toInt

theorem start256 (j : Fin 32) (ht : S1x4x4x64x256.rank = S32x4x4x64x256.rank) :
    Host.clampedStart S32x4x4x64x256 S1x4x4x64x256 ht (starts j.val) (0 : Fin 5) = j.val
    ∧ ∀ a : Fin 5, a ≠ 0 → Host.clampedStart S32x4x4x64x256 S1x4x4x64x256 ht (starts j.val) a = 0 := by
  have hj := j.isLt
  refine ⟨Host.clampedStart_of_le ht _ _ j.val (toInt_trip j) (by show j.val + 1 ≤ 32; omega), fun a ha => ?_⟩
  match a with
  | ⟨0, _⟩ => exact absurd rfl ha
  | ⟨1, _⟩ => exact Host.clampedStart_of_le ht _ _ 0 (by rfl) (by show 0 + 4 ≤ 4; omega)
  | ⟨2, _⟩ => exact Host.clampedStart_of_le ht _ _ 0 (by rfl) (by show 0 + 4 ≤ 4; omega)
  | ⟨3, _⟩ => exact Host.clampedStart_of_le ht _ _ 0 (by rfl) (by show 0 + 64 ≤ 64; omega)
  | ⟨4, _⟩ => exact Host.clampedStart_of_le ht _ _ 0 (by rfl) (by show 0 + 256 ≤ 256; omega)

theorem slice256 (x : FVec Ideal S32x4x4x64x256 .f32) (j : Fin 32) (hs : S32x4x4x64x256.Slices (fun _ => 0) S1x4x4x64x256)
    (b h : Fin 4) (i : Fin 64) (d : Fin 256) :
    Host.dynamicSlice S1x4x4x64x256 x (starts j.val) hs (ix5 0 b h i d) = x (ix5 j b h i d) := by
  obtain ⟨s0, s1⟩ := start256 j hs.1
  refine (Host.dynamicSlice_apply x _ hs _).trans (congrArg x ((Shape.Idx.norm_def _).trans (funext fun a => Fin.ext ?_)))
  match a with
  | ⟨0, _⟩ => show Host.clampedStart S32x4x4x64x256 S1x4x4x64x256 hs.1 (starts j.val) (0 : Fin 5) + 0 = j.val; rw [s0]; rfl
  | ⟨1, _⟩ => show Host.clampedStart S32x4x4x64x256 S1x4x4x64x256 hs.1 (starts j.val) (1 : Fin 5) + b.val = b.val; rw [s1 1 (by decide), Nat.zero_add]
  | ⟨2, _⟩ => show Host.clampedStart S32x4x4x64x256 S1x4x4x64x256 hs.1 (starts j.val) (2 : Fin 5) + h.val = h.val; rw [s1 2 (by decide), Nat.zero_add]
  | ⟨3, _⟩ => show Host.clampedStart S32x4x4x64x256 S1x4x4x64x256 hs.1 (starts j.val) (3 : Fin 5) + i.val = i.val; rw [s1 3 (by decide), Nat.zero_add]
  | ⟨4, _⟩ => show Host.clampedStart S32x4x4x64x256 S1x4x4x64x256 hs.1 (starts j.val) (4 : Fin 5) + d.val = d.val; rw [s1 4 (by decide), Nat.zero_add]

theorem start512 (j : Fin 32) (ht : S1x4x4x64x512.rank = S32x4x4x64x512.rank) :
    Host.clampedStart S32x4x4x64x512 S1x4x4x64x512 ht (starts j.val) (0 : Fin 5) = j.val
    ∧ ∀ a : Fin 5, a ≠ 0 → Host.clampedStart S32x4x4x64x512 S1x4x4x64x512 ht (starts j.val) a = 0 := by
  have hj := j.isLt
  refine ⟨Host.clampedStart_of_le ht _ _ j.val (toInt_trip j) (by show j.val + 1 ≤ 32; omega), fun a ha => ?_⟩
  match a with
  | ⟨0, _⟩ => exact absurd rfl ha
  | ⟨1, _⟩ => exact Host.clampedStart_of_le ht _ _ 0 (by rfl) (by show 0 + 4 ≤ 4; omega)
  | ⟨2, _⟩ => exact Host.clampedStart_of_le ht _ _ 0 (by rfl) (by show 0 + 4 ≤ 4; omega)
  | ⟨3, _⟩ => exact Host.clampedStart_of_le ht _ _ 0 (by rfl) (by show 0 + 64 ≤ 64; omega)
  | ⟨4, _⟩ => exact Host.clampedStart_of_le ht _ _ 0 (by rfl) (by show 0 + 512 ≤ 512; omega)

theorem slice512 (x : FVec Ideal S32x4x4x64x512 .f32) (j : Fin 32) (hs : S32x4x4x64x512.Slices (fun _ => 0) S1x4x4x64x512)
    (b h : Fin 4) (i : Fin 64) (d : Fin 512) :
    Host.dynamicSlice S1x4x4x64x512 x (starts j.val) hs (ix5 0 b h i d) = x (ix5 j b h i d) := by
  obtain ⟨s0, s1⟩ := start512 j hs.1
  refine (Host.dynamicSlice_apply x _ hs _).trans (congrArg x ((Shape.Idx.norm_def _).trans (funext fun a => Fin.ext ?_)))
  match a with
  | ⟨0, _⟩ => show Host.clampedStart S32x4x4x64x512 S1x4x4x64x512 hs.1 (starts j.val) (0 : Fin 5) + 0 = j.val; rw [s0]; rfl
  | ⟨1, _⟩ => show Host.clampedStart S32x4x4x64x512 S1x4x4x64x512 hs.1 (starts j.val) (1 : Fin 5) + b.val = b.val; rw [s1 1 (by decide), Nat.zero_add]
  | ⟨2, _⟩ => show Host.clampedStart S32x4x4x64x512 S1x4x4x64x512 hs.1 (starts j.val) (2 : Fin 5) + h.val = h.val; rw [s1 2 (by decide), Nat.zero_add]
  | ⟨3, _⟩ => show Host.clampedStart S32x4x4x64x512 S1x4x4x64x512 hs.1 (starts j.val) (3 : Fin 5) + i.val = i.val; rw [s1 3 (by decide), Nat.zero_add]
  | ⟨4, _⟩ => show Host.clampedStart S32x4x4x64x512 S1x4x4x64x512 hs.1 (starts j.val) (4 : Fin 5) + d.val = d.val; rw [s1 4 (by decide), Nat.zero_add]

theorem update (x : FVec Ideal S32x4x4x64x512 .f32) (u : FVec Ideal S1x4x4x64x512 .f32) (j l : Fin 32)
    (hs : S32x4x4x64x512.Slices (fun _ => 0) S1x4x4x64x512) (b h : Fin 4) (i : Fin 64) (d : Fin 512) :
    Host.dynamicUpdateSlice x u (starts j.val) hs (ix5 l b h i d) = if l = j then u (ix5 0 b h i d) else x (ix5 l b h i d) := by
  obtain ⟨s0, s1⟩ := start512 j hs.1
  refine (Host.dynamicUpdateSlice_apply x u _ hs _).trans ?_
  split
  · next hin =>
    have h0 := hin (0 : Fin 5)
    change Host.clampedStart S32x4x4x64x512 S1x4x4x64x512 hs.1 (starts j.val) (0 : Fin 5) ≤ l.val
      ∧ l.val < Host.clampedStart S32x4x4x64x512 S1x4x4x64x512 hs.1 (starts j.val) (0 : Fin 5) + 1 at h0
    rw [s0] at h0
    rw [if_pos (Fin.ext (by omega))]
    refine congrArg u ((Shape.Idx.norm_def _).trans (funext fun a => Fin.ext ?_))
    match a with
    | ⟨0, _⟩ => show l.val - Host.clampedStart S32x4x4x64x512 S1x4x4x64x512 hs.1 (starts j.val) (0 : Fin 5) = 0; rw [s0]; omega
    | ⟨1, _⟩ => show b.val - Host.clampedStart S32x4x4x64x512 S1x4x4x64x512 hs.1 (starts j.val) (1 : Fin 5) = b.val; rw [s1 1 (by decide), Nat.sub_zero]
    | ⟨2, _⟩ => show h.val - Host.clampedStart S32x4x4x64x512 S1x4x4x64x512 hs.1 (starts j.val) (2 : Fin 5) = h.val; rw [s1 2 (by decide), Nat.sub_zero]
    | ⟨3, _⟩ => show i.val - Host.clampedStart S32x4x4x64x512 S1x4x4x64x512 hs.1 (starts j.val) (3 : Fin 5) = i.val; rw [s1 3 (by decide), Nat.sub_zero]
    | ⟨4, _⟩ => show d.val - Host.clampedStart S32x4x4x64x512 S1x4x4x64x512 hs.1 (starts j.val) (4 : Fin 5) = d.val; rw [s1 4 (by decide), Nat.sub_zero]
  · next hin =>
    rw [if_neg fun hl => hin fun a => ?_]
    subst hl
    match a with
    | ⟨0, _⟩ =>
      show Host.clampedStart S32x4x4x64x512 S1x4x4x64x512 hs.1 (starts l.val) (0 : Fin 5) ≤ l.val
        ∧ l.val < Host.clampedStart S32x4x4x64x512 S1x4x4x64x512 hs.1 (starts l.val) (0 : Fin 5) + 1
      rw [s0]; omega

    | ⟨1, _⟩ =>
      show Host.clampedStart S32x4x4x64x512 S1x4x4x64x512 hs.1 (starts l.val) (1 : Fin 5) ≤ b.val
        ∧ b.val < Host.clampedStart S32x4x4x64x512 S1x4x4x64x512 hs.1 (starts l.val) (1 : Fin 5) + 4
      rw [s1 1 (by decide)]; have := b.isLt; omega
    | ⟨2, _⟩ =>
      show Host.clampedStart S32x4x4x64x512 S1x4x4x64x512 hs.1 (starts l.val) (2 : Fin 5) ≤ h.val
        ∧ h.val < Host.clampedStart S32x4x4x64x512 S1x4x4x64x512 hs.1 (starts l.val) (2 : Fin 5) + 4
      rw [s1 2 (by decide)]; have := h.isLt; omega
    | ⟨3, _⟩ =>
      show Host.clampedStart S32x4x4x64x512 S1x4x4x64x512 hs.1 (starts l.val) (3 : Fin 5) ≤ i.val
        ∧ i.val < Host.clampedStart S32x4x4x64x512 S1x4x4x64x512 hs.1 (starts l.val) (3 : Fin 5) + 64
      rw [s1 3 (by decide)]; have := i.isLt; omega
    | ⟨4, _⟩ =>
      show Host.clampedStart S32x4x4x64x512 S1x4x4x64x512 hs.1 (starts l.val) (4 : Fin 5) ≤ d.val
        ∧ d.val < Host.clampedStart S32x4x4x64x512 S1x4x4x64x512 hs.1 (starts l.val) (4 : Fin 5) + 512
      rw [s1 4 (by decide)]; have := d.isLt; omega

/-! One trip. -/

section Trip

variable {r : Reals} {s : State Ideal} (j : Fin 32) (b h : Fin 4)

theorem trip_q (hr : Reads r s) (i : Fin 64) (d : Fin 256) :
    b5 (F := Ideal) j.val s (ix4 b h i d) = ((GlaMath.chunk 64 (64 * j.val) (GlaData.q r b.val h.val) i d : ℝ) : EReal) := by
  have e : b5 (F := Ideal) j.val s (ix4 b h i d) = b4 (F := Ideal) j.val s (ix5 0 b h i d) := by
    pointwise [b5]
  exact e.trans ((slice256 s.main_v47_0 j _ b h i d).trans (hr.q j b h i d))

theorem trip_k (hr : Reads r s) (i : Fin 64) (d : Fin 256) :
    b11 (F := Ideal) j.val s (ix4 b h i d) = ((GlaMath.chunk 64 (64 * j.val) (GlaData.k r b.val h.val) i d : ℝ) : EReal) := by
  have e : b11 (F := Ideal) j.val s (ix4 b h i d) = b10 (F := Ideal) j.val s (ix5 0 b h i d) := by
    pointwise [b11]
  exact e.trans ((slice256 s.main_v47_1 j _ b h i d).trans (hr.k j b h i d))

theorem trip_v (hr : Reads r s) (i : Fin 64) (d : Fin 512) :
    b17 (F := Ideal) j.val s (ix4 b h i d) = ((GlaMath.chunk 64 (64 * j.val) (GlaData.v r b.val h.val) i d : ℝ) : EReal) := by
  have e : b17 (F := Ideal) j.val s (ix4 b h i d) = b16 (F := Ideal) j.val s (ix5 0 b h i d) := by
    pointwise [b17]
  exact e.trans ((slice512 s.main_v47_2 j _ b h i d).trans (hr.v j b h i d))

theorem trip_g (hr : Reads r s) (i : Fin 64) (d : Fin 256) :
    b23 (F := Ideal) j.val s (ix4 b h i d) = ((GlaMath.chunk 64 (64 * j.val) (GlaData.g r b.val h.val) i d : ℝ) : EReal) := by
  have e : b23 (F := Ideal) j.val s (ix4 b h i d) = b22 (F := Ideal) j.val s (ix5 0 b h i d) := by
    pointwise [b23]
  exact e.trans ((slice256 s.main_v47_3 j _ b h i d).trans (hr.g j b h i d))

theorem trip_run (hr : Reads r s) (i : Fin 64) (d : Fin 256) :
    b26 (F := Ideal) j.val s (ix4 b h i d) = ((GlaMath.run (GlaMath.chunk 64 (64 * j.val) (GlaData.g r b.val h.val)) i d : ℝ) : EReal) := by
  refine (cumsum_apply (b23 j.val s) (b25 j.val s) _ _ (by pointwise [b25, b24]) b h i d).trans ?_
  unfold GlaMath.run
  rw [coe_sum]
  refine Finset.sum_congr rfl fun x _ => ?_
  rw [trip_g j b h hr x d]
  by_cases hx : x ≤ i
  · simp only [if_pos hx]
  · simp only [if_neg hx, EReal.coe_zero]

theorem mask_iff (t u : Fin 64) : K_main_v36 (F := Ideal) (ix2 t u) = 1 ↔ u ≤ t := by
  have e : ∀ x : Fin 64, (BitVec.ofNat 32 x.val).toInt = (x.val : ℤ) := by decide +kernel
  pointwise [K_main_v36, K_main_v35, K_main_v34, K_main_v33, K_main_v32, K_main_v31]
  show BitVec.ofBool ((BitVec.ofNat 32 u.val).sle (BitVec.ofNat 32 t.val)) = 1 ↔ _
  rw [bit_iff, BitVec.sle, decide_eq_true_iff, e, e]
  exact Int.ofNat_le

theorem minus_inf : Ideal.ofBits FTy.f32 0xFF800000#32 = (⊥ : EReal) := by
  simp [Ideal.ofBits, Ideal.ieee]

theorem trip_pair (hr : Reads r s) (t u : Fin 64) :
    b45 (F := Ideal) j.val s (ix4 b h u t) = (((if u ≤ t then ∑ d : Fin 256,
      GlaMath.chunk 64 (64 * j.val) (GlaData.q r b.val h.val) t d * GlaMath.chunk 64 (64 * j.val) (GlaData.k r b.val h.val) u d
        * Real.exp (GlaMath.run (GlaMath.chunk 64 (64 * j.val) (GlaData.g r b.val h.val)) t d
          - GlaMath.run (GlaMath.chunk 64 (64 * j.val) (GlaData.g r b.val h.val)) u d) else 0) : ℝ) : EReal) := by
  pointwise [b45, b44, b43, b42, b41, b40, b39, b37, b36, b38, b35, b34, b33, b32, b31, b30]
  by_cases hut : u ≤ t
  · rw [if_pos hut, coe_sum]
    refine Finset.sum_congr rfl fun d _ => ?_
    rw [trip_k j b h hr, trip_q j b h hr, trip_run j b h hr, trip_run j b h hr]
    unfold Scalar.select
    rw [if_pos ((mask_iff t u).mpr hut), ← EReal.coe_sub, exp_is, ← EReal.coe_mul, ← EReal.coe_mul]
    rw [EReal.coe_eq_coe_iff]
    ring
  · rw [if_neg hut, EReal.coe_zero]
    refine Finset.sum_eq_zero fun d _ => ?_
    unfold Scalar.select
    rw [if_neg (fun hm => hut ((mask_iff t u).mp hm)), minus_inf]
    show _ * (_ * (0 : EReal)) = 0
    rw [mul_zero, mul_zero]

theorem trip_out (hs : After r j.val s) (i : Fin 64) (e : Fin 512) :
    b60 (F := Ideal) j.val s (ix4 b h i e) = ((GlaData.outAt r b.val h.val (64 * j.val + i.val) e : ℝ) : EReal) := by
  have hr := hs.reads
  pointwise [b60, b29, b28, b27, b47, b46]
  refine Eq.trans ?_ (congrArg _ (GlaMath.chunkOut_eq 64 (64 * j.val) (GlaData.q r b.val h.val) (GlaData.k r b.val h.val)
    (GlaData.g r b.val h.val) (GlaData.v r b.val h.val) i e))
  unfold GlaMath.chunkOut
  rw [EReal.coe_add, coe_sum, coe_sum]
  refine congrArg₂ (· + ·) (Finset.sum_congr rfl fun d _ => ?_) (Finset.sum_congr rfl fun u _ => ?_)
  · rw [trip_q j b h hr, trip_run j b h hr, hs.state b h d e, exp_is, ← EReal.coe_mul, ← EReal.coe_mul]
    rfl
  · rw [trip_pair j b h hr i u, trip_v j b h hr u e, ← EReal.coe_mul]

theorem run_last {R : ℕ} (g : Fin (R + 1) → Fin 256 → ℝ) (d : Fin 256) : GlaMath.run g (Fin.last R) d = GlaMath.total g d := by
  unfold GlaMath.run GlaMath.total
  exact Finset.sum_congr rfl fun i _ => if_pos (Fin.le_last i)

theorem trip_state (hs : After r j.val s) (d : Fin 256) (e : Fin 512) :
    b59 (F := Ideal) j.val s (ix4 b h d e) = ((stateAt r b.val h.val (64 * (j.val + 1)) d e : ℝ) : EReal) := by
  have hr := hs.reads
  pointwise [b59, b58, b57, b56, b55, b54, b53, b52, b51, b50, b49, b48]
  refine Eq.trans ?_ (congrArg _ (GlaMath.chunkState_eq 64 (64 * j.val) (GlaData.k r b.val h.val) (GlaData.g r b.val h.val)
    (GlaData.v r b.val h.val) d e))
  unfold GlaMath.chunkState
  have l : b26 (F := Ideal) j.val s (ix4 b h 63 d)
      = ((GlaMath.total (GlaMath.chunk 64 (64 * j.val) (GlaData.g r b.val h.val)) d : ℝ) : EReal) :=
    (trip_run j b h hr 63 d).trans (congrArg _ (run_last _ d))
  rw [EReal.coe_add, coe_sum, l]
  refine congrArg₂ (· + ·) ?_ (Finset.sum_congr rfl fun u _ => ?_)
  · rw [hs.state b h d e, exp_is, ← EReal.coe_mul, mul_comm]
    rfl
  · rw [trip_k j b h hr, trip_run j b h hr, trip_v j b h hr u e, ← EReal.coe_sub, exp_is, ← EReal.coe_mul, ← EReal.coe_mul]

end Trip

theorem after_step {r : Reals} {s : State Ideal} (j : Fin 32) (hs : After r j.val s) : After r (j.val + 1) (step j.val s) where
  reads := ⟨hs.reads.q, hs.reads.k, hs.reads.v, hs.reads.g⟩
  state := fun b h d e => trip_state j b h hs d e
  rows := fun l hl b h i e => by
    refine (update s.main_v47_7 (b61 j.val s) j l updateFits_S32x4x4x64x512_S1x4x4x64x512 b h i e).trans ?_
    by_cases hlj : l = j
    · rw [if_pos hlj, hlj]
      have e1 : b61 (F := Ideal) j.val s (ix5 0 b h i e) = b60 (F := Ideal) j.val s (ix4 b h i e) := by pointwise [b61]
      exact e1.trans (trip_out j b h hs i e)
    · rw [if_neg hlj]
      exact hs.rows l (by have : l.val ≠ j.val := fun h => hlj (Fin.ext h); omega) b h i e

theorem after_trips {r : Reals} {s : State Ideal} (hs : After r 0 s) : ∀ n : ℕ, n ≤ 32 → After r n (GlaRefLoop.trips s n)
  | 0, _ => hs
  | n + 1, hn => after_step ⟨n, by omega⟩ (after_trips hs n (by omega))

theorem after_init {r : Reals} {a0 : FVec Ideal S8192x6144 .bf16} {a1 : FVec Ideal S8192x32 .f32} {a2 : FVec Ideal S2x16x1024 .f32}
    {a3 : FVec Ideal S2x1024 .f32} (hA : Holds r a0 a1 a2 a3) : After r 0 (init a0 a1 a2 a3) where
  reads := ⟨chunk_q hA, chunk_k hA, chunk_v hA, chunk_g hA⟩
  state := fun b h d e => by
    show K_main_v37 (F := Ideal) (ix4 b h d e) = _
    pointwise [K_main_v37, K_main_cst_1]
    simp [stateAt, GlaMath.stateAt]
  rows := fun _ h => absurd h (Nat.not_lt_zero _)

/-- The reference's result at a token and a value column. -/
theorem result {r : Reals} {s : State Ideal} (hs : After r 32 s) (b : Fin 4) (n : Fin 2048) (h : Fin 4) (e : Fin 512) (i : S8192x2048.Idx)
    (h0 : (i 0).val = 2048 * b.val + n.val) (h1 : (i 1).val = 512 * h.val + e.val) :
    R_main_v51 (F := Ideal) s i = ((GlaData.outAt r b.val h.val n.val e : ℝ) : EReal) := by
  have hn := n.isLt
  have he := e.isLt
  have hi : i = ix2 (i 0) (i 1) := by funext a; match a with | ⟨0, _⟩ => rfl | ⟨1, _⟩ => rfl
  rw [hi]
  generalize i 0 = x at h0
  generalize i 1 = y at h1
  pointwise [R_main_v51]
  refine (hs.rows _ (by show x.val % 2048 / 64 < 32; omega) _ _ _ _).trans ?_
  have key : ∀ (c c' g g' t t' : ℕ) (f f' : Fin 512), c = c' → g = g' → t = t' → f = f' →
      ((GlaData.outAt r c g t f : ℝ) : EReal) = ((GlaData.outAt r c' g' t' f' : ℝ) : EReal) := by
    rintro _ _ _ _ _ _ _ _ rfl rfl rfl rfl; rfl
  exact key _ _ _ _ _ _ _ _ (by show x.val / 2048 = b.val; omega) (by show y.val / 512 = h.val; omega)
    (by show 64 * (x.val % 2048 / 64) + x.val % 2048 % 64 = n.val; omega) (Fin.ext (by show y.val % 512 = e.val; omega))

end Cert.GlaRef

end
-- ==== Proof.Equal.lean ====
/- Finite arguments are real numbers, and on them the kernel's result and the reference's are the same array. -/
module

public import proofs.«01_k».proof.Defs
public import proofs.«01_k».proof.Proof.KernelVal
public import proofs.«01_k».proof.Proof.RefVal
public import proofs.«01_k».proof.Proof.Gen.Pre_finite

@[expose] public section

set_option maxRecDepth 16384

noncomputable section

namespace Cert.GlaEqual

open Idealize.ShloMosaic Idealize.ShloMosaic.TcCoe Cert.GlaData

theorem inf_f32 : Ideal.ofBits FTy.f32 0x7F800000#32 = (⊤ : EReal) := by simp [Ideal.ofBits, Ideal.ieee]

theorem inf_bf16 : Ideal.ofBits FTy.bf16 0x7F80#16 = (⊤ : EReal) := by simp [Ideal.ofBits, Ideal.ieee]

/-- A number of absolute value below infinity is real. -/
theorem real_of_lt (x : EReal) (h : Ideal.cmp .olt (max x (-x)) ⊤ = 1) : x = ((x.toReal : ℝ) : EReal) := by
  have h' : max x (-x) < ⊤ := by
    by_contra hn
    have : Ideal.cmp .olt (max x (-x)) ⊤ = 0 := by
      show BitVec.ofBool (decide (max x (-x) < ⊤)) = 0
      rw [decide_eq_false hn]; rfl
    rw [this] at h
    exact absurd h (by decide)
  refine (EReal.coe_toReal ?_ ?_).symm
  · rintro rfl; simp at h'
  · rintro rfl; simp at h'

/-- The numbers four arrays hold. -/
def realsOf (a0 : FVec Ideal ⟨2, ![8192, 6144]⟩ .bf16) (a1 : FVec Ideal ⟨2, ![8192, 32]⟩ .f32) (a2 : FVec Ideal ⟨3, ![2, 16, 1024]⟩ .f32)
    (a3 : FVec Ideal ⟨2, ![2, 1024]⟩ .f32) : Reals where
  p := fun i j => if h : i < 8192 ∧ j < 6144 then (a0 (ix2 ⟨i, h.1⟩ ⟨j, h.2⟩) : EReal).toReal else 0
  z := fun i j => if h : i < 8192 ∧ j < 32 then (a1 (ix2 ⟨i, h.1⟩ ⟨j, h.2⟩) : EReal).toReal else 0
  w := fun i j k => if h : i < 2 ∧ j < 16 ∧ k < 1024 then (a2 (ix3 ⟨i, h.1⟩ ⟨j, h.2.1⟩ ⟨k, h.2.2⟩) : EReal).toReal else 0
  b := fun i j => if h : i < 2 ∧ j < 1024 then (a3 (ix2 ⟨i, h.1⟩ ⟨j, h.2⟩) : EReal).toReal else 0

theorem holds (a0 : FVec Ideal ⟨2, ![8192, 6144]⟩ .bf16) (a1 : FVec Ideal ⟨2, ![8192, 32]⟩ .f32) (a2 : FVec Ideal ⟨3, ![2, 16, 1024]⟩ .f32)
    (a3 : FVec Ideal ⟨2, ![2, 1024]⟩ .f32) (h0 : (Pre_finite.fn a0 a1 a2 a3).1 = fun _ => 1#1)
    (h1 : (Pre_finite.fn a0 a1 a2 a3).2.1 = fun _ => 1#1) (h2 : (Pre_finite.fn a0 a1 a2 a3).2.2.1 = fun _ => 1#1)
    (h3 : (Pre_finite.fn a0 a1 a2 a3).2.2.2 = fun _ => 1#1) : Holds (realsOf a0 a1 a2 a3) a0 a1 a2 a3 where
  p := fun i j => by
    have e : (realsOf a0 a1 a2 a3).p i.val j.val = (a0 (ix2 i j) : EReal).toReal := dif_pos ⟨i.isLt, j.isLt⟩
    rw [e]
    exact real_of_lt _ ((congrArg (Ideal.cmp .olt _) inf_bf16).symm.trans (congrFun h0 (ix2 i j)))
  z := fun i j => by
    have e : (realsOf a0 a1 a2 a3).z i.val j.val = (a1 (ix2 i j) : EReal).toReal := dif_pos ⟨i.isLt, j.isLt⟩
    rw [e]
    exact real_of_lt _ ((congrArg (Ideal.cmp .olt _) inf_f32).symm.trans (congrFun h1 (ix2 i j)))
  w := fun i j k => by
    have e : (realsOf a0 a1 a2 a3).w i.val j.val k.val = (a2 (ix3 i j k) : EReal).toReal := dif_pos ⟨i.isLt, j.isLt, k.isLt⟩
    rw [e]
    exact real_of_lt _ ((congrArg (Ideal.cmp .olt _) inf_f32).symm.trans (congrFun h2 (ix3 i j k)))
  b := fun i j => by
    have e : (realsOf a0 a1 a2 a3).b i.val j.val = (a3 (ix2 i j) : EReal).toReal := dif_pos ⟨i.isLt, j.isLt⟩
    rw [e]
    exact real_of_lt _ ((congrArg (Ideal.cmp .olt _) inf_f32).symm.trans (congrFun h3 (ix2 i j)))

/-- Both programs' results, on arguments that hold real numbers. -/
theorem same {r : Reals} {m : (ℓ : Loc KernelIdeal.nD KernelIdeal.τ KernelIdeal.sig) → Buf (Elt Ideal) ℓ} {c : Dev KernelIdeal.nD}
    (hA : GlaKernel.ArgsHold m c r) {s : ReferenceIdeal.Step.State Ideal} (hs : GlaRef.After r 32 s) :
    ReferenceIdeal.Step.R_main_v51 s = KernelIdeal.Value.G6 m c := by
  funext i
  have h0 : (i 0).val < 8192 := (i 0).isLt
  have h1 : (i 1).val < 2048 := (i 1).isLt
  exact (GlaRef.result hs ⟨(i 0).val / 2048, by omega⟩ ⟨(i 0).val % 2048, by omega⟩ ⟨(i 1).val / 512, by omega⟩ ⟨(i 1).val % 512, by omega⟩ i
    (by show (i 0).val = 2048 * ((i 0).val / 2048) + (i 0).val % 2048; omega)
    (by show (i 1).val = 512 * ((i 1).val / 512) + (i 1).val % 512; omega)).trans
    (GlaKernel.result hA ⟨(i 0).val / 2048, by omega⟩ ⟨(i 0).val % 2048, by omega⟩ ⟨(i 1).val / 512, by omega⟩ ⟨(i 1).val % 512, by omega⟩ i
    (by show (i 0).val = 2048 * ((i 0).val / 2048) + (i 0).val % 2048; omega)
    (by show (i 1).val = 512 * ((i 1).val / 512) + (i 1).val % 512; omega)).symm

end Cert.GlaEqual

end
-- ==== Proof.SwigluBody.lean ====
/- The body of the gate-and-up call at one grid point, run on buffers it may be given: the two weight blocks are
   rounded into scratch where the row block is the first one, and then two halves of the output block are written. -/
module

public import proofs.«01_k».proof.Proof.Gen.SwigluIdeal.Frame
public import proofs.«01_k».proof.Proof.Gen.SwigluIdeal.Skeleton
public import Idealize.ShloMosaic.Lib.Claim
public import Idealize.ShloMosaic.Lib.Pipeline.Value

@[expose] public section

set_option maxRecDepth 16384

noncomputable section

namespace Cert.SwigluRun

open Cert.SwigluIdeal Cert.SwigluIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-- The body's test: the second grid coordinate is zero. -/
abbrev firstRow (i : grid0.Coords) : Prop :=
  (Scalar.cmpi .ne (Scalar.extui (Scalar.cmpi .eq (BitVec.ofNat 32 (i 1).val) 0#32)) 0#32) = 1#1

/-- The test holds at every fourth point. -/
theorem firstRow_iff : ∀ t : Fin cfg0.N, firstRow (grid0.coords t) ↔ t.val % 4 = 0 :=
  (fun t => by
    have ht : t.val < 44 := Nat.lt_of_lt_of_eq t.isLt N_0
    have e1 : (grid0.coords t 1).val = t.val / 1 % 4 := Pipeline.Grid.coords_val t 1 (by decide) rfl
    simp only [firstRow, e1]
    word_cmp
   : ∀ t : Fin grid0.N, firstRow (grid0.coords t) ↔ t.val % 4 = 0)

/-- What the two stores leave in the output block: rows 1024 and on, and the rows before them, each computed from the
    same rows of `x` and from both scratch blocks. -/
def outPieces (x : Vec F S2048x2048 .bf16) (s0 s1 : Vec F S2048x512 .bf16) : List (View.Piece (Elt F) S2048x512 .bf16) :=
  [⟨Rect.unit (s := S2048x512) ![1024, 0] S1024x512.size inb_S2048x512_S1024x512_1024_0,
      k0_pay4 (View.ld x (Rect.unit (s := S2048x2048) ![1024, 0] S1024x2048.size inb_S2048x2048_S1024x2048_1024_0)) s0 s1⟩,
    ⟨Rect.unit (s := S2048x512) ![0, 0] S1024x512.size inb_S2048x512_S1024x512_0_0,
      k0_pay3 (View.ld x (Rect.unit (s := S2048x2048) ![0, 0] S1024x2048.size inb_S2048x2048_S1024x2048_0_0)) s0 s1⟩]

/-- The output block. -/
def outOf (x : Vec F S2048x2048 .bf16) (s0 s1 : Vec F S2048x512 .bf16) : Vec F S2048x512 .bf16 :=
  View.canon (outPieces x s0 s1)

/-- The two row ranges fill the block. -/
theorem outPieces_cover (x : Vec F S2048x2048 .bf16) (s0 s1 : Vec F S2048x512 .bf16) (y : S2048x512.Idx) :
    ∃ p ∈ outPieces x s0 s1, y ∈ p.1.set :=
  View.cover_of_tiledL (outPieces x s0 s1) ![1024, 512] (by sl_kernel_rfl) y

set_option maxHeartbeats 1000000 in
/-- At a point where the test fails the body keeps the scratch blocks and writes the output block from them. -/
noncomputable def runB (c : Dev nD) (i : grid0.Coords) (arg2 : Memref sig .tc .vmem S2048x2048 .bf16) (harg2 : arg2.IsWhole)
    (arg3 : Memref sig .tc .vmem S1x1x2048x512 .f32) (harg3 : arg3.IsWhole) (arg4 : Memref sig .tc .vmem S1x1x2048x512 .f32) (harg4 : arg4.IsWhole)
    (arg5 : Memref sig .tc .vmem S2048x512 .bf16) (harg5 : arg5.IsWhole) (arg6 : Memref sig .tc .vmem S2048x512 .bf16) (harg6 : arg6.IsWhole)
    (arg7 : Memref sig .tc .vmem S2048x512 .bf16) (harg7 : arg7.IsWhole) (hc0 : ¬firstRow i)
    (x0 : Vec F S2048x2048 .bf16) (x1 x2 : Vec F S1x1x2048x512 .f32) (s0 s1 : Vec F S2048x512 .bf16) :
    { L3 : List (View.Piece (Elt F) S2048x512 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ (∃ d, owns (c : Thread nD τ) arg5 fullShare d) ∗ owns (c : Thread nD τ) arg6 fullShare s0 ∗ owns (c : Thread nD τ) arg7 fullShare s1
            ∗ (iprop(owns (c : Thread nD τ) arg2 fullShare x0 ∗ owns (c : Thread nD τ) arg3 fullShare x1 ∗ owns (c : Thread nD τ) arg4 fullShare x2
                ∗ (∃ f, arg5.view.loc (c : Thread nD τ) ↦[arg5.view.set]{fullShare} arg5.view.writes (Elt F) f L3)
                ∗ owns (c : Thread nD τ) arg6 fullShare s0 ∗ owns (c : Thread nD τ) arg7 fullShare s1) -∗ K ⟨⟩))
          ⊢ wp frame (wpE (defs₀ (F := F)) Variants.none c none) E
              (cc0_mm_swiglu i arg2 harg2 arg3 harg3 arg4 harg4 arg5 harg5 arg6 harg6 arg7 harg7) K } := by
  refine ⟨?_, fun E K => ?run⟩
  case run =>
    simp only [cc0_mm_swiglu_eq_skeleton]; unfold cc0_mm_swiglu_skel
    unfold owns
    iintro ⟨⟨%f0, %hf0, H0⟩, ⟨%f1, %hf1, H1⟩, ⟨%f2, %hf2, H2⟩, ⟨%d3, %f3, -, H3⟩, ⟨%fs0, %hfs0, HS0⟩, ⟨%fs1, %hfs1, HS1⟩, Hk⟩
    obtain rfl := harg2.eq_unread hf0; obtain rfl := harg3.eq_unread hf1; obtain rfl := harg4.eq_unread hf2
    obtain rfl := harg6.eq_unread hfs0; obtain rfl := harg7.eq_unread hfs1
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [HS0]
    · iexists _; isplitr; · ipureintro; exact harg6.read_unread _
      iexact HS0
    iexists _; isplitr; · ipureintro; exact harg7.read_unread _
    iexact HS1

set_option maxHeartbeats 1000000 in
/-- At a point where the test holds the body fills the scratch blocks from the weight blocks, whatever they held, and
    writes the output block from them. -/
noncomputable def runA (c : Dev nD) (i : grid0.Coords) (arg2 : Memref sig .tc .vmem S2048x2048 .bf16) (harg2 : arg2.IsWhole)
    (arg3 : Memref sig .tc .vmem S1x1x2048x512 .f32) (harg3 : arg3.IsWhole) (arg4 : Memref sig .tc .vmem S1x1x2048x512 .f32) (harg4 : arg4.IsWhole)
    (arg5 : Memref sig .tc .vmem S2048x512 .bf16) (harg5 : arg5.IsWhole) (arg6 : Memref sig .tc .vmem S2048x512 .bf16) (harg6 : arg6.IsWhole)
    (arg7 : Memref sig .tc .vmem S2048x512 .bf16) (harg7 : arg7.IsWhole) (hc0 : firstRow i)
    (x0 : Vec F S2048x2048 .bf16) (x1 x2 : Vec F S1x1x2048x512 .f32) :
    Σ' (L3 : List (View.Piece (Elt F) S2048x512 .bf16)), Σ' (LS0 : List (View.Piece (Elt F) S2048x512 .bf16)),
    { LS1 : List (View.Piece (Elt F) S2048x512 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ (∃ d, owns (c : Thread nD τ) arg5 fullShare d) ∗ (∃ d, owns (c : Thread nD τ) arg6 fullShare d) ∗ (∃ d, owns (c : Thread nD τ) arg7 fullShare d)
            ∗ (iprop(owns (c : Thread nD τ) arg2 fullShare x0 ∗ owns (c : Thread nD τ) arg3 fullShare x1 ∗ owns (c : Thread nD τ) arg4 fullShare x2
                ∗ (∃ f, arg5.view.loc (c : Thread nD τ) ↦[arg5.view.set]{fullShare} arg5.view.writes (Elt F) f L3)
                ∗ (∃ f, arg6.view.loc (c : Thread nD τ) ↦[arg6.view.set]{fullShare} arg6.view.writes (Elt F) f LS0)
                ∗ (∃ f, arg7.view.loc (c : Thread nD τ) ↦[arg7.view.set]{fullShare} arg7.view.writes (Elt F) f LS1)) -∗ K ⟨⟩))
          ⊢ wp frame (wpE (defs₀ (F := F)) Variants.none c none) E
              (cc0_mm_swiglu i arg2 harg2 arg3 harg3 arg4 harg4 arg5 harg5 arg6 harg6 arg7 harg7) K } := by
  refine ⟨?_, ?_, ?_, fun E K => ?run⟩
  case run =>
    simp only [cc0_mm_swiglu_eq_skeleton]; unfold cc0_mm_swiglu_skel
    unfold owns
    iintro ⟨⟨%f0, %hf0, H0⟩, ⟨%f1, %hf1, H1⟩, ⟨%f2, %hf2, H2⟩, ⟨%d3, %f3, -, H3⟩, ⟨%ds0, %fs0, -, HS0⟩, ⟨%ds1, %fs1, -, HS1⟩, Hk⟩
    obtain rfl := harg2.eq_unread hf0; obtain rfl := harg3.eq_unread hf1; obtain rfl := harg4.eq_unread hf2
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [HS0]; · iexists _; iexact HS0
    iexists _; iexact HS1

theorem zero2 : (![0, 0] : Fin S2048x512.rank → Nat) = fun _ => 0 := by
  funext a; match a with | ⟨0, _⟩ => rfl | ⟨1, _⟩ => rfl
theorem zero4 : (![0, 0, 0, 0] : Fin S1x1x2048x512.rank → Nat) = fun _ => 0 := by
  funext a; match a with | ⟨0, _⟩ => rfl | ⟨1, _⟩ => rfl | ⟨2, _⟩ => rfl | ⟨3, _⟩ => rfl

section
variable (c : Dev nD) (i : grid0.Coords) (arg2 : Memref sig .tc .vmem S2048x2048 .bf16) (harg2 : arg2.IsWhole)
    (arg3 : Memref sig .tc .vmem S1x1x2048x512 .f32) (harg3 : arg3.IsWhole) (arg4 : Memref sig .tc .vmem S1x1x2048x512 .f32) (harg4 : arg4.IsWhole)
    (arg5 : Memref sig .tc .vmem S2048x512 .bf16) (harg5 : arg5.IsWhole) (arg6 : Memref sig .tc .vmem S2048x512 .bf16) (harg6 : arg6.IsWhole)
    (arg7 : Memref sig .tc .vmem S2048x512 .bf16) (harg7 : arg7.IsWhole)
    (x0 : Vec F S2048x2048 .bf16) (x1 x2 : Vec F S1x1x2048x512 .f32) (s0 s1 : Vec F S2048x512 .bf16)

/-- The stores found in the second case are the two of `outPieces`. -/
theorem runB_pieces (hc0 : ¬firstRow i) :
    (runB c i arg2 harg2 arg3 harg3 arg4 harg4 arg5 harg5 arg6 harg6 arg7 harg7 hc0 x0 x1 x2 s0 s1).1 = outPieces x0 s0 s1 := by
  unfold runB; dsimp only
  sl_unfold_words
  simp only [View.readAt_eq_ld, harg2.read_unread, harg6.read_unread, harg7.read_unread]
  rw [View.ld_unit_zero (S := S2048x512) zero2, View.ld_unit_zero (S := S2048x512) zero2]
  rfl

/-- The stores found in the first case: each scratch block whole, and the two of `outPieces` over them. -/
theorem runA_pieces (hc0 : firstRow i) :
    (runA c i arg2 harg2 arg3 harg3 arg4 harg4 arg5 harg5 arg6 harg6 arg7 harg7 hc0 x0 x1 x2).1 = outPieces x0 (k0_pay1 x1) (k0_pay2 x2)
      ∧ (runA c i arg2 harg2 arg3 harg3 arg4 harg4 arg5 harg5 arg6 harg6 arg7 harg7 hc0 x0 x1 x2).2.1
        = [⟨Rect.unit (s := S2048x512) ![0, 0] S2048x512.size inb_S2048x512_S2048x512_0_0, k0_pay1 x1⟩]
      ∧ (runA c i arg2 harg2 arg3 harg3 arg4 harg4 arg5 harg5 arg6 harg6 arg7 harg7 hc0 x0 x1 x2).2.2.1
        = [⟨Rect.unit (s := S2048x512) ![0, 0] S2048x512.size inb_S2048x512_S2048x512_0_0, k0_pay2 x2⟩] := by
  unfold runA; dsimp only
  sl_unfold_words
  simp only [View.readAt_eq_ld, harg2.read_unread, harg3.read_unread, harg4.read_unread]
  rw [View.ld_unit_zero (S := S1x1x2048x512) zero4, View.ld_unit_zero (S := S1x1x2048x512) zero4,
    View.readCov_unit_zero (S := S2048x512) _ zero2, View.readCov_unit_zero (S := S2048x512) _ zero2]
  exact ⟨rfl, rfl, rfl⟩
end

end Cert.SwigluRun

end
-- ==== Proof.SwigluFrame.lean ====
/- The frame of the gate-and-up call: the run over the grid, with the output's contents either left open or named. -/
module

public import proofs.«01_k».proof.Proof.SwigluBody
public import Idealize.ShloMosaic.Lib.Pointwise

@[expose] public section

set_option maxRecDepth 16384

noncomputable section

namespace Cert.SwigluRun

open Cert.SwigluIdeal Cert.SwigluIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationLoose cellOf)

variable {F : FTy → Type} [FloatOps F]

local notation "𝕄" => MT nD τ sig Unit (Elt F) ℕ (UR sig nD τ) ℕ

section
variable (c : Dev nD) (i : grid0.Coords) (arg2 : Memref sig .tc .vmem S2048x2048 .bf16) (harg2 : arg2.IsWhole)
    (arg3 : Memref sig .tc .vmem S1x1x2048x512 .f32) (harg3 : arg3.IsWhole) (arg4 : Memref sig .tc .vmem S1x1x2048x512 .f32) (harg4 : arg4.IsWhole)
    (arg5 : Memref sig .tc .vmem S2048x512 .bf16) (harg5 : arg5.IsWhole) (arg6 : Memref sig .tc .vmem S2048x512 .bf16) (harg6 : arg6.IsWhole)
    (arg7 : Memref sig .tc .vmem S2048x512 .bf16) (harg7 : arg7.IsWhole)
    (x0 : Vec F S2048x2048 .bf16) (x1 x2 : Vec F S1x1x2048x512 .f32) (s0 s1 : Vec F S2048x512 .bf16)

/-- The body where the test fails, its output block named. -/
theorem bodyB (hc0 : ¬firstRow i) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d) ∗ owns (c : Thread nD τ) arg6 fullShare s0 ∗ owns (c : Thread nD τ) arg7 fullShare s1
        ∗ (iprop(owns (c : Thread nD τ) arg2 fullShare x0 ∗ owns (c : Thread nD τ) arg3 fullShare x1 ∗ owns (c : Thread nD τ) arg4 fullShare x2
            ∗ owns (c : Thread nD τ) arg5 fullShare (outOf x0 s0 s1)
            ∗ owns (c : Thread nD τ) arg6 fullShare s0 ∗ owns (c : Thread nD τ) arg7 fullShare s1) -∗ K ⟨⟩))
      ⊢ wp frame (wpE (defs₀ (F := F)) Variants.none c none) Set.univ
          (cc0_mm_swiglu i arg2 harg2 arg3 harg3 arg4 harg4 arg5 harg5 arg6 harg6 arg7 harg7) K := by
  iintro ⟨H0, H1, H2, H3, HS0, HS1, Hk⟩
  iapply ((runB c i arg2 harg2 arg3 harg3 arg4 harg4 arg5 harg5 arg6 harg6 arg7 harg7 hc0 x0 x1 x2 s0 s1).2 Set.univ K)
  isplitl [H0]; · iexact H0
  isplitl [H1]; · iexact H1
  isplitl [H2]; · iexact H2
  isplitl [H3]; · iexact H3
  isplitl [HS0]; · iexact HS0
  isplitl [HS1]; · iexact HS1
  iintro ⟨H0, H1, H2, ⟨%e3, H3⟩, HS0, HS1⟩
  iapply Hk
  isplitl [H0]; · iexact H0
  isplitl [H1]; · iexact H1
  isplitl [H2]; · iexact H2
  isplitl [H3]
  · unfold owns; iexists _; isplitr
    swap; · iexact H3
    ipureintro
    rw [runB_pieces, View.read_writes_eq_canon _ _ _ (outPieces_cover x0 s0 s1)]; rfl
  isplitl [HS0]; · iexact HS0
  iexact HS1

theorem whole_cover (w : Vec F S2048x512 .bf16) (y : S2048x512.Idx) :
    ∃ p ∈ [(⟨Rect.unit (s := S2048x512) ![0, 0] S2048x512.size inb_S2048x512_S2048x512_0_0, w⟩ : View.Piece (Elt F) S2048x512 .bf16)],
      y ∈ p.1.set :=
  View.cover_of_tiledL [(⟨Rect.unit (s := S2048x512) ![0, 0] S2048x512.size inb_S2048x512_S2048x512_0_0, w⟩ : View.Piece (Elt F) S2048x512 .bf16)]
    ![2048, 512] (by sl_kernel_rfl) y

/-- The body where the test holds, its output block and the scratch blocks named. -/
theorem bodyA (hc0 : firstRow i) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d) ∗ (∃ d, owns (c : Thread nD τ) arg6 fullShare d) ∗ (∃ d, owns (c : Thread nD τ) arg7 fullShare d)
        ∗ (iprop(owns (c : Thread nD τ) arg2 fullShare x0 ∗ owns (c : Thread nD τ) arg3 fullShare x1 ∗ owns (c : Thread nD τ) arg4 fullShare x2
            ∗ owns (c : Thread nD τ) arg5 fullShare (outOf x0 (k0_pay1 x1) (k0_pay2 x2))
            ∗ owns (c : Thread nD τ) arg6 fullShare (k0_pay1 x1) ∗ owns (c : Thread nD τ) arg7 fullShare (k0_pay2 x2)) -∗ K ⟨⟩))
      ⊢ wp frame (wpE (defs₀ (F := F)) Variants.none c none) Set.univ
          (cc0_mm_swiglu i arg2 harg2 arg3 harg3 arg4 harg4 arg5 harg5 arg6 harg6 arg7 harg7) K := by
  obtain ⟨p0, p1, p2⟩ := runA_pieces c i arg2 harg2 arg3 harg3 arg4 harg4 arg5 harg5 arg6 harg6 arg7 harg7 x0 x1 x2 hc0
  iintro ⟨H0, H1, H2, H3, HS0, HS1, Hk⟩
  iapply ((runA c i arg2 harg2 arg3 harg3 arg4 harg4 arg5 harg5 arg6 harg6 arg7 harg7 hc0 x0 x1 x2).2.2.2 Set.univ K)
  isplitl [H0]; · iexact H0
  isplitl [H1]; · iexact H1
  isplitl [H2]; · iexact H2
  isplitl [H3]; · iexact H3
  isplitl [HS0]; · iexact HS0
  isplitl [HS1]; · iexact HS1
  iintro ⟨H0, H1, H2, ⟨%e3, H3⟩, ⟨%e4, HS0⟩, ⟨%e5, HS1⟩⟩
  iapply Hk
  isplitl [H0]; · iexact H0
  isplitl [H1]; · iexact H1
  isplitl [H2]; · iexact H2
  isplitl [H3]
  · unfold owns; iexists _; isplitr
    swap; · iexact H3
    ipureintro
    rw [p0, View.read_writes_eq_canon _ _ _ (outPieces_cover x0 (k0_pay1 x1) (k0_pay2 x2))]; rfl
  isplitl [HS0]
  · unfold owns; iexists _; isplitr
    swap; · iexact HS0
    ipureintro
    rw [p1, View.read_writes_eq_canon _ _ _ (whole_cover (k0_pay1 x1)), View.canon_unit_zero (S := S2048x512) zero2]
  unfold owns; iexists _; isplitr
  swap; · iexact HS1
  ipureintro
  rw [p2, View.read_writes_eq_canon _ _ _ (whole_cover (k0_pay2 x2)), View.canon_unit_zero (S := S2048x512) zero2]
end

variable (m : (ℓ : Loc nD τ sig) → Buf (Elt F) ℓ) (ρ : Dev nD → PrngReg)

/-- A weight block's buffer holds the block number `j` of the weight array at every column inside the array; past the
    array's last column nothing is said of it. -/
def Holds (A : Vec F S4x2x2048x5504 .f32) (j : ℕ) (W : Vec F S1x1x2048x512 .f32) : Prop :=
  ∀ (k : Fin 2048) (q : Fin 512) (h : 512 * j + q.val < 5504),
    W (ix4 (0 : Fin 1) (0 : Fin 1) k q) = A (ix4 (0 : Fin 4) (0 : Fin 2) k ⟨512 * j + q.val, h⟩)

theorem idx_facts : ∀ t : Fin cfg0.N, win0_0.index t (0 : Fin 2) = t.val % 4 ∧ win0_0.index t (1 : Fin 2) = 0
    ∧ win0_1.index t (0 : Fin 4) = 0 ∧ win0_1.index t (1 : Fin 4) = 0 ∧ win0_1.index t (2 : Fin 4) = 0 ∧ win0_1.index t (3 : Fin 4) = t.val / 4
    ∧ win0_2.index t (0 : Fin 4) = 0 ∧ win0_2.index t (1 : Fin 4) = 0 ∧ win0_2.index t (2 : Fin 4) = 0 ∧ win0_2.index t (3 : Fin 4) = t.val / 4
    ∧ win0_3.index t (0 : Fin 2) = t.val % 4 ∧ win0_3.index t (1 : Fin 2) = t.val / 4 :=
  (by decide +kernel : ∀ t : Fin grid0.N, _)

/-- How much of each block lies inside its array: everything but on the last column block, of which 384 columns do. -/
theorem size_facts : ∀ t : Fin cfg0.N,
    (win0_1.xsize (grid0.coords t) (0 : Fin 4) = 1 ∧ win0_1.xsize (grid0.coords t) (1 : Fin 4) = 1 ∧ win0_1.xsize (grid0.coords t) (2 : Fin 4) = 2048
      ∧ win0_1.xsize (grid0.coords t) (3 : Fin 4) = min 512 (5504 - 512 * (t.val / 4)))
    ∧ (win0_2.xsize (grid0.coords t) (0 : Fin 4) = 1 ∧ win0_2.xsize (grid0.coords t) (1 : Fin 4) = 1 ∧ win0_2.xsize (grid0.coords t) (2 : Fin 4) = 2048
      ∧ win0_2.xsize (grid0.coords t) (3 : Fin 4) = min 512 (5504 - 512 * (t.val / 4)))
    ∧ (win0_3.xsize (grid0.coords t) (0 : Fin 2) = 2048 ∧ win0_3.xsize (grid0.coords t) (1 : Fin 2) = min 512 (5504 - 512 * (t.val / 4))) :=
  (by decide +kernel : ∀ t : Fin grid0.N, _)

theorem bound (t : Fin cfg0.N) : t.val < 44 := lt_of_lt_of_eq t.isLt (show cfg0.N = 44 from N_0)

theorem holds_fill1 (c : Dev nD) (t : Fin cfg0.N) (d : Vec F S1x1x2048x512 .f32) :
    Holds (m ((c : Thread nD τ).loc main_arg1)) (t.val / 4) (win0_1.fill (grid0.coords t) d (iblk m c 1 t)) := by
  intro k q h
  obtain ⟨⟨e0, e1, e2, e3⟩, -, -⟩ := size_facts t
  obtain ⟨-, -, i0, i1, i2, i3, -⟩ := idx_facts t
  have hm : win0_1.moved (grid0.coords t) (ix4 (0 : Fin 1) (0 : Fin 1) k q) = true := by
    refine (win0_1.moved_iff _ _).mpr fun a => ?_
    match a with
    | ⟨0, _⟩ => show (0 : ℕ) < win0_1.xsize (grid0.coords t) (0 : Fin 4); rw [e0]; exact Nat.one_pos
    | ⟨1, _⟩ => show (0 : ℕ) < win0_1.xsize (grid0.coords t) (1 : Fin 4); rw [e1]; exact Nat.one_pos
    | ⟨2, _⟩ => show k.val < win0_1.xsize (grid0.coords t) (2 : Fin 4); rw [e2]; exact k.isLt
    | ⟨3, _⟩ => show q.val < win0_1.xsize (grid0.coords t) (3 : Fin 4); rw [e3]; have := q.isLt; omega
  unfold Pipeline.Window.fill; rw [dif_pos hm]
  show V m c main_arg1 (((cfg0.win 1).blk t).view.emb _) = _
  rw [V_main_arg1]
  refine congrArg _ (funext fun a => Fin.ext ?_)
  match a with
  | ⟨0, _⟩ => show win0_1.index t (0 : Fin 4) * 1 + 1 * 0 = 0; rw [i0]
  | ⟨1, _⟩ => show win0_1.index t (1 : Fin 4) * 1 + 1 * 0 = 0; rw [i1]
  | ⟨2, _⟩ => show win0_1.index t (2 : Fin 4) * 2048 + 1 * k.val = k.val; rw [i2]; omega
  | ⟨3, _⟩ => show win0_1.index t (3 : Fin 4) * 512 + 1 * q.val = 512 * (t.val / 4) + q.val; rw [i3]; omega

theorem holds_fill2 (c : Dev nD) (t : Fin cfg0.N) (d : Vec F S1x1x2048x512 .f32) :
    Holds (m ((c : Thread nD τ).loc main_arg2)) (t.val / 4) (win0_2.fill (grid0.coords t) d (iblk m c 2 t)) := by
  intro k q h
  obtain ⟨-, ⟨e0, e1, e2, e3⟩, -⟩ := size_facts t
  obtain ⟨-, -, -, -, -, -, i0, i1, i2, i3, -⟩ := idx_facts t
  have hm : win0_2.moved (grid0.coords t) (ix4 (0 : Fin 1) (0 : Fin 1) k q) = true := by
    refine (win0_2.moved_iff _ _).mpr fun a => ?_
    match a with
    | ⟨0, _⟩ => show (0 : ℕ) < win0_2.xsize (grid0.coords t) (0 : Fin 4); rw [e0]; exact Nat.one_pos
    | ⟨1, _⟩ => show (0 : ℕ) < win0_2.xsize (grid0.coords t) (1 : Fin 4); rw [e1]; exact Nat.one_pos
    | ⟨2, _⟩ => show k.val < win0_2.xsize (grid0.coords t) (2 : Fin 4); rw [e2]; exact k.isLt
    | ⟨3, _⟩ => show q.val < win0_2.xsize (grid0.coords t) (3 : Fin 4); rw [e3]; have := q.isLt; omega
  unfold Pipeline.Window.fill; rw [dif_pos hm]
  show V m c main_arg2 (((cfg0.win 2).blk t).view.emb _) = _
  rw [V_main_arg2]
  refine congrArg _ (funext fun a => Fin.ext ?_)
  match a with
  | ⟨0, _⟩ => show win0_2.index t (0 : Fin 4) * 1 + 1 * 0 = 0; rw [i0]
  | ⟨1, _⟩ => show win0_2.index t (1 : Fin 4) * 1 + 1 * 0 = 0; rw [i1]
  | ⟨2, _⟩ => show win0_2.index t (2 : Fin 4) * 2048 + 1 * k.val = k.val; rw [i2]; omega
  | ⟨3, _⟩ => show win0_2.index t (3 : Fin 4) * 512 + 1 * q.val = 512 * (t.val / 4) + q.val; rw [i3]; omega

abbrev sc0 : Memref sig .tc .vmem S2048x512 .bf16 := Memref.whole cc0_scratch0
abbrev sc1 : Memref sig .tc .vmem S2048x512 .bf16 := Memref.whole cc0_scratch1

/-- What the region is handed: both scratch blocks at some contents, and the generator's register. -/
theorem start_eq (c : Dev nD) :
    (Pipeline.ΦA spec0 c : sProp 𝕄)
      = iprop(iprop((∃ d, owns (c : Thread nD τ) sc0 fullShare d) ∗ (∃ d, owns (c : Thread nD τ) sc1 fullShare d)) ∗ (∃ r, prngReg c r)) := by
  unfold Pipeline.ΦA; rw [scopedRest0_eq]; simp only [sc0, sc1, owns_whole]; try rfl

/-- Before a point inside a column block: the scratch blocks hold the rounded weight blocks. -/
def Carried (c : Dev nD) (n : ℕ) : sProp 𝕄 :=
  iprop((∃ W1 W2, ⌜Holds (m ((c : Thread nD τ).loc main_arg1)) (n / 4) W1 ∧ Holds (m ((c : Thread nD τ).loc main_arg2)) (n / 4) W2⌝
      ∗ owns (c : Thread nD τ) sc0 fullShare (k0_pay1 W1) ∗ owns (c : Thread nD τ) sc1 fullShare (k0_pay2 W2)) ∗ (∃ r, prngReg c r))

/-- The invariant before point `n`. -/
def Inv (c : Dev nD) (n : ℕ) : sProp 𝕄 :=
  if n % 4 = 0 then Pipeline.ΦA spec0 c else Carried m c n

theorem Inv_first (c : Dev nD) (n : ℕ) (h : n % 4 = 0) : Inv m c n = Pipeline.ΦA spec0 c := if_pos h
theorem Inv_later (c : Dev nD) (n : ℕ) (h : ¬n % 4 = 0) : Inv m c n = Carried m c n := if_neg h

/-- The scratch blocks after a point give the invariant of the next. -/
theorem Inv_succ (c : Dev nD) (n : ℕ) (W1 W2 : Vec F S1x1x2048x512 .f32)
    (h1 : Holds (m ((c : Thread nD τ).loc main_arg1)) (n / 4) W1) (h2 : Holds (m ((c : Thread nD τ).loc main_arg2)) (n / 4) W2) :
    iprop((owns (c : Thread nD τ) sc0 fullShare (k0_pay1 W1) ∗ owns (c : Thread nD τ) sc1 fullShare (k0_pay2 W2)) ∗ (∃ r, prngReg c r))
      ⊢ Inv m c (n + 1) := by
  by_cases h : (n + 1) % 4 = 0
  · rw [Inv_first m c _ h, start_eq]
    iintro ⟨⟨H0, H1⟩, Hg⟩
    isplitl [H0 H1]
    · isplitl [H0]
      · iexists _; iexact H0
      iexists _; iexact H1
    iexact Hg
  · rw [Inv_later m c _ h]
    have e : (n + 1) / 4 = n / 4 := by omega
    unfold Carried; rw [e]
    iintro ⟨⟨H0, H1⟩, Hg⟩
    isplitl [H0 H1]
    · iexists W1; iexists W2
      isplitr; · ipureintro; exact ⟨h1, h2⟩
      isplitl [H0]; · iexact H0
      iexact H1
    iexact Hg

/-- The body at any point: from the invariant and buffers that hold the point's blocks to the next point's invariant,
    the output block computed from the row block and from weight blocks that hold the point's. -/
theorem point (c : Dev nD) (t : Fin cfg0.N) (x0 : Vec F S2048x2048 .bf16) (x1 x2 : Vec F S1x1x2048x512 .f32)
    (h1 : Holds (m ((c : Thread nD τ).loc main_arg1)) (t.val / 4) x1) (h2 : Holds (m ((c : Thread nD τ).loc main_arg2)) (t.val / 4) x2)
    (K : PUnit → sProp 𝕄) :
    iprop(Inv m c t.val ∗ owns (c : Thread nD τ) (st0_0 t) fullShare x0 ∗ owns (c : Thread nD τ) (st0_1 t) fullShare x1
        ∗ owns (c : Thread nD τ) (st0_2 t) fullShare x2 ∗ (∃ d, owns (c : Thread nD τ) (st0_3 t) fullShare d)
        ∗ (iprop(Inv m c (t.val + 1) ∗ owns (c : Thread nD τ) (st0_0 t) fullShare x0 ∗ owns (c : Thread nD τ) (st0_1 t) fullShare x1
            ∗ owns (c : Thread nD τ) (st0_2 t) fullShare x2
            ∗ (∃ W1 W2, ⌜Holds (m ((c : Thread nD τ).loc main_arg1)) (t.val / 4) W1 ∧ Holds (m ((c : Thread nD τ).loc main_arg2)) (t.val / 4) W2⌝
                ∗ owns (c : Thread nD τ) (st0_3 t) fullShare (outOf x0 (k0_pay1 W1) (k0_pay2 W2)))) -∗ K ⟨⟩))
      ⊢ wp frame (wpE (defs₀ (F := F)) Variants.none c none) Set.univ (bodyAt0 t) K := by
  unfold bodyAt0
  by_cases h0 : t.val % 4 = 0
  · rw [Inv_first m c _ h0, start_eq]
    iintro ⟨⟨⟨HS0, HS1⟩, Hg⟩, H0, H1, H2, H3, Hk⟩
    iapply (bodyA c (grid0.coords t) _ _ _ _ _ _ _ _ _ _ _ _ x0 x1 x2 ((firstRow_iff t).mpr h0) K)
    isplitl [H0]; · iexact H0
    isplitl [H1]; · iexact H1
    isplitl [H2]; · iexact H2
    isplitl [H3]; · iexact H3
    isplitl [HS0]; · iexact HS0
    isplitl [HS1]; · iexact HS1
    iintro ⟨H0, H1, H2, H3, HS0, HS1⟩
    iapply Hk
    isplitl [HS0 HS1 Hg]
    · iapply (Inv_succ m c t.val x1 x2 h1 h2)
      isplitl [HS0 HS1]
      · isplitl [HS0]; · iexact HS0
        iexact HS1
      iexact Hg
    isplitl [H0]; · iexact H0
    isplitl [H1]; · iexact H1
    isplitl [H2]; · iexact H2
    iexists x1; iexists x2
    isplitr; · ipureintro; exact ⟨h1, h2⟩
    iexact H3
  · rw [Inv_later m c _ h0]; unfold Carried
    iintro ⟨⟨⟨%W1, %W2, %hW, HS0, HS1⟩, Hg⟩, H0, H1, H2, H3, Hk⟩
    iapply (bodyB c (grid0.coords t) _ _ _ _ _ _ _ _ _ _ _ _ x0 x1 x2 (k0_pay1 W1) (k0_pay2 W2) (fun h => h0 ((firstRow_iff t).mp h)) K)
    isplitl [H0]; · iexact H0
    isplitl [H1]; · iexact H1
    isplitl [H2]; · iexact H2
    isplitl [H3]; · iexact H3
    isplitl [HS0]; · iexact HS0
    isplitl [HS1]; · iexact HS1
    iintro ⟨H0, H1, H2, H3, HS0, HS1⟩
    iapply Hk
    isplitl [HS0 HS1 Hg]
    · iapply (Inv_succ m c t.val W1 W2 hW.1 hW.2)
      isplitl [HS0 HS1]
      · isplitl [HS0]; · iexact HS0
        iexact HS1
      iexact Hg
    isplitl [H0]; · iexact H0
    isplitl [H1]; · iexact H1
    isplitl [H2]; · iexact H2
    iexists W1; iexists W2
    isplitr; · ipureintro; exact hW
    iexact H3

variable (G : Dev nD → Vec F S8192x5504 .bf16)

/-- The proof data for a stated output array `G`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => win0_1.fill (grid0.coords t) (fun _ => Scalar.ofBits .f32 0#32) (iblk m c 1 t)
    | ⟨2, _⟩ => win0_2.fill (grid0.coords t) (fun _ => Scalar.ofBits .f32 0#32) (iblk m c 2 t)
    | ⟨3, _⟩ => win0_3.fill (grid0.coords t) (fun _ => Scalar.ofBits .bf16 0#16) (((cfg0.win 3).blk t).view.read (Elt F) (G c))
  Φ t := Inv m c t.val
  q _ := fullShare
  owed _ := 0

theorem A_eq (c : Dev nD) (w : Fin cfg0.W) : (dats m G 0 c).A w = V m c (Pipeline.arrRef spec0 w) := by
  dsimp only [dats]

theorem after_0 (c : Dev nD) (t : Fin cfg0.N) : (dats m G 0 c).after 0 t = iblk m c 0 t := by dsimp only [dats]
theorem after_1 (c : Dev nD) (t : Fin cfg0.N) : (dats m G 0 c).after 1 t
    = win0_1.fill (grid0.coords t) (fun _ => Scalar.ofBits .f32 0#32) (iblk m c 1 t) := by dsimp only [dats]
theorem after_2 (c : Dev nD) (t : Fin cfg0.N) : (dats m G 0 c).after 2 t
    = win0_2.fill (grid0.coords t) (fun _ => Scalar.ofBits .f32 0#32) (iblk m c 2 t) := by dsimp only [dats]
theorem after_3 (c : Dev nD) (t : Fin cfg0.N) : (dats m G 0 c).after 3 t
    = win0_3.fill (grid0.coords t) (fun _ => Scalar.ofBits .bf16 0#16) (((cfg0.win 3).blk t).view.read (Elt F) (G c)) := by dsimp only [dats]

theorem clip_eq1 : ∀ t t' : Fin cfg0.N, win0_1.index t = win0_1.index t' → win0_1.clip (grid0.coords t) = win0_1.clip (grid0.coords t') :=
  fun t t' h => congrArg (fun x : Fin 4 → ℕ => fun a : Fin 4 => Pipeline.Clip.of (x a) (S1x1x2048x512.size a) (S4x2x2048x5504.size a)) h

theorem clip_eq2 : ∀ t t' : Fin cfg0.N, win0_2.index t = win0_2.index t' → win0_2.clip (grid0.coords t) = win0_2.clip (grid0.coords t') :=
  fun t t' h => congrArg (fun x : Fin 4 → ℕ => fun a : Fin 4 => Pipeline.Clip.of (x a) (S1x1x2048x512.size a) (S4x2x2048x5504.size a)) h

theorem before_0 (c : Dev nD) (t : Fin cfg0.N) (d) : (dats m G 0 c).before 0 t d = iblk m c 0 t :=
  before0_0_of m (dats m G 0 c) (A_eq m G c 0) (fun _ => rfl) t d

theorem before_1 (c : Dev nD) (t : Fin cfg0.N) (d) : (dats m G 0 c).before 1 t d = win0_1.fill (grid0.coords t) d (iblk m c 1 t) := by
  have hb : ∀ t, (dats m G 0 c).blockOf 1 t = iblk m c 1 t := fun t => by
    unfold Dat.blockOf iblk; rw [A_eq m G c 1]
  have ha : ∀ t, (cfg0.win 1).cut (cfg0.grid.coords t) ((dats m G 0 c).after 1 t) = (dats m G 0 c).blockOf 1 t := fun t => by
    rw [hb, after_1]; exact win0_1.cut_fill (grid0.coords t) _ _
  rw [(dats m G 0 c).before_in_eq_fetched 1 rfl (fun _ => rfl) clip_eq1 ha t d]
  unfold Dat.fetched; rw [hb]

theorem before_2 (c : Dev nD) (t : Fin cfg0.N) (d) : (dats m G 0 c).before 2 t d = win0_2.fill (grid0.coords t) d (iblk m c 2 t) := by
  have hb : ∀ t, (dats m G 0 c).blockOf 2 t = iblk m c 2 t := fun t => by
    unfold Dat.blockOf iblk; rw [A_eq m G c 2]
  have ha : ∀ t, (cfg0.win 2).cut (cfg0.grid.coords t) ((dats m G 0 c).after 2 t) = (dats m G 0 c).blockOf 2 t := fun t => by
    rw [hb, after_2]; exact win0_2.cut_fill (grid0.coords t) _ _
  rw [(dats m G 0 c).before_in_eq_fetched 2 rfl (fun _ => rfl) clip_eq2 ha t d]
  unfold Dat.fetched; rw [hb]

theorem row_eq (t : Fin cfg0.N) :
    defs₀ (F := F) .tc cfg0.body (cfg0.bodyArgs t (cfg0.slots t)) = bodyAt0 t := by
  unfold defs₀; rw [Defs.onTc_tc]

theorem phi_in (c : Dev nD) : Pipeline.ΦA spec0 c ⊢ (dats m G 0 c).Φ 0 := by
  rw [show (dats m G 0 c).Φ 0 = Inv m c 0 from rfl, Inv_first m c 0 rfl]

theorem phi_out (c : Dev nD) : (dats m G 0 c).Φ (Fin.last cfg0.N) ⊢ Pipeline.ΦA spec0 c := by
  rw [show (dats m G 0 c).Φ (Fin.last cfg0.N) = Inv m c cfg0.N from rfl, Inv_first m c cfg0.N (by rw [show cfg0.N = 44 from N_0])]

/-- The output window is the one whose contents are left open. -/
abbrev openOut : Fin cfg0.W → Bool :=
  fun | 0 => false | 1 => false | 2 => false | 3 => true | ⟨_ + 4, h⟩ => absurd h (Nat.not_lt.2 (Nat.le_add_left _ _))

/-- The body obligation with the output's contents left open. -/
theorem obligation_open (c : Dev nD) :
    BodyObligationLoose (dats m G 0 c) (defs₀ (F := F)) Variants.none () Set.univ openOut := fun t => by
  rw [bigSep_W0, bigSep_W0, row_eq]
  simp only [openOut]
  rw [show (dats m G 0 c).Φ t.castSucc = Inv m c t.val from rfl, show (dats m G 0 c).Φ t.succ = Inv m c (t.val + 1) from rfl,
    show (dats m G 0 c).owesAt () t.succ = (dats m G 0 c).owesAt () t.castSucc from rfl]
  iintro ⟨HI, Ho, ⟨%d0, H0⟩, ⟨%d1, H1⟩, ⟨%d2, H2⟩, H3⟩
  rw [before_0 m G c t d0, before_1 m G c t d1, before_2 m G c t d2]
  iapply (point m c t (iblk m c 0 t) _ _ (holds_fill1 m c t d1) (holds_fill2 m c t d2) _)
  isplitl [HI]; · iexact HI
  isplitl [H0]; · iexact H0
  isplitl [H1]; · iexact H1
  isplitl [H2]; · iexact H2
  isplitl [H3]; · iexact H3
  iintro ⟨HI, H0, H1, H2, ⟨%W1, %W2, %hW, H3⟩⟩
  rw [after_0, after_1, after_2]
  isplitl [HI]; · iexact HI
  isplitl [Ho]; · iexact Ho
  isplitl [H0]; · iexact H0
  isplitl [H1]
  · iexists d1
    rw [show (cfg0.win 1).cut (cfg0.grid.coords t) (win0_1.fill (grid0.coords t) (fun _ => Scalar.ofBits .f32 0#32) (iblk m c 1 t)) = iblk m c 1 t
      from win0_1.cut_fill (grid0.coords t) _ _]
    iexact H1
  isplitl [H2]
  · iexists d2
    rw [show (cfg0.win 2).cut (cfg0.grid.coords t) (win0_2.fill (grid0.coords t) (fun _ => Scalar.ofBits .f32 0#32) (iblk m c 2 t)) = iblk m c 2 t
      from win0_2.cut_fill (grid0.coords t) _ _]
    iexact H2
  iexists _; iexact H3

/-- What the output block must be on its part inside the array for the output to end at `G`. -/
def Computes : Prop :=
  ∀ (c : Dev nD) (t : Fin cfg0.N) (W1 W2 : Vec F S1x1x2048x512 .f32), Holds (m ((c : Thread nD τ).loc main_arg1)) (t.val / 4) W1 →
    Holds (m ((c : Thread nD τ).loc main_arg2)) (t.val / 4) W2 →
    win0_3.cut (grid0.coords t) (outOf (iblk m c 0 t) (k0_pay1 W1) (k0_pay2 W2)) = ((cfg0.win 3).blk t).view.read (Elt F) (G c)

/-- The body obligation with the output at `G`. -/
theorem obligation (hG : Computes m G) (c : Dev nD) :
    BodyObligationLoose (dats m G 0 c) (defs₀ (F := F)) Variants.none () Set.univ := fun t => by
  rw [bigSep_W0, bigSep_W0, row_eq]
  simp only
  rw [show (dats m G 0 c).Φ t.castSucc = Inv m c t.val from rfl, show (dats m G 0 c).Φ t.succ = Inv m c (t.val + 1) from rfl,
    show (dats m G 0 c).owesAt () t.succ = (dats m G 0 c).owesAt () t.castSucc from rfl]
  iintro ⟨HI, Ho, ⟨%d0, H0⟩, ⟨%d1, H1⟩, ⟨%d2, H2⟩, ⟨%d3, H3⟩⟩
  rw [before_0 m G c t d0, before_1 m G c t d1, before_2 m G c t d2]
  iapply (point m c t (iblk m c 0 t) _ _ (holds_fill1 m c t d1) (holds_fill2 m c t d2) _)
  isplitl [HI]; · iexact HI
  isplitl [H0]; · iexact H0
  isplitl [H1]; · iexact H1
  isplitl [H2]; · iexact H2
  isplitl [H3]; · iexists _; iexact H3
  iintro ⟨HI, H0, H1, H2, ⟨%W1, %W2, %hW, H3⟩⟩
  rw [after_0, after_1, after_2, after_3]
  isplitl [HI]; · iexact HI
  isplitl [Ho]; · iexact Ho
  isplitl [H0]; · iexact H0
  isplitl [H1]
  · iexists d1
    rw [show (cfg0.win 1).cut (cfg0.grid.coords t) (win0_1.fill (grid0.coords t) (fun _ => Scalar.ofBits .f32 0#32) (iblk m c 1 t)) = iblk m c 1 t
      from win0_1.cut_fill (grid0.coords t) _ _]
    iexact H1
  isplitl [H2]
  · iexists d2
    rw [show (cfg0.win 2).cut (cfg0.grid.coords t) (win0_2.fill (grid0.coords t) (fun _ => Scalar.ofBits .f32 0#32) (iblk m c 2 t)) = iblk m c 2 t
      from win0_2.cut_fill (grid0.coords t) _ _]
    iexact H2
  iexists (outOf (iblk m c 0 t) (k0_pay1 W1) (k0_pay2 W2))
  rw [show (cfg0.win 3).cut (cfg0.grid.coords t) (win0_3.fill (grid0.coords t) (fun _ => Scalar.ofBits .bf16 0#16) (((cfg0.win 3).blk t).view.read (Elt F) (G c)))
      = win0_3.cut (grid0.coords t) (outOf (iblk m c 0 t) (k0_pay1 W1) (k0_pay2 W2))
    from (win0_3.cut_fill (grid0.coords t) _ _).trans (hG c t W1 W2 hW.1 hW.2).symm]
  rw [show (cfg0.win 3).fill (cfg0.grid.coords t) (outOf (iblk m c 0 t) (k0_pay1 W1) (k0_pay2 W2))
        (win0_3.cut (grid0.coords t) (outOf (iblk m c 0 t) (k0_pay1 W1) (k0_pay2 W2)))
      = outOf (iblk m c 0 t) (k0_pay1 W1) (k0_pay2 W2) from win0_3.fill_cut (grid0.coords t) _]
  iexact H3

/-- Any output array, for the frame, which does not read it. -/
abbrev anyOut : Dev nD → Vec F S8192x5504 .bf16 := fun _ _ => Scalar.ofBits .bf16 0#16

set_option backward.isDefEq.respectTransparency.types false in
theorem run_open : θ_run defs (onTc (τ := τ) (main (F := F))) (s₀ m ρ) (fun r =>
    RDat.FramePost cfg0 (fun c => (dats m anyOut 0 c).toRForget openOut) (V m) r ∧ r.2.sem = fun _ => 0) :=
  Pipeline.θ_run_frame_track_forget (Q' := _) cfgs (dats m anyOut) (0 : Fin 1) launch0 defs₀ Variants.none openOut m ρ main
    (hbody := fun c => obligation_open m anyOut c) (hshare := fun c w => by unfold Dat.share; dsimp only [dats]; split <;> rfl)
    (howed := fun _ _ => rfl) (V := V m) (hmain := hmain m Variants.none) (hA := A_eq m anyOut) (hin := phi_in m anyOut) (hout := phi_out m anyOut)

/-- The frame: the arguments end as launched and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun r h => ⟨fun c => ⟨(h.1.arr_in c 0 rfl).trans (A_eq m anyOut c 0),
      (h.1.arr_in c 1 rfl).trans (A_eq m anyOut c 1), (h.1.arr_in c 2 rfl).trans (A_eq m anyOut c 2)⟩, h.2⟩) (run_open m ρ)

set_option backward.isDefEq.respectTransparency.types false in
theorem run_named (hG : Computes m G) : θ_run defs (onTc (τ := τ) (main (F := F))) (s₀ m ρ) (Pipeline.FramePost cfgs (dats m G) 0 (V m)) :=
  Pipeline.θ_run_frame_track cfgs (dats m G) (0 : Fin 1) launch0 defs₀ Variants.none m ρ main
    (hbody := fun c => obligation m G hG c) (hshare := fun c w => by unfold Dat.share; dsimp only [dats]; split <;> rfl)
    (howed := fun _ _ => rfl) (V := V m) (hmain := hmain m Variants.none) (hA := A_eq m G) (hin := phi_in m G) (hout := phi_out m G)

/-- The output's blocks fill its array. -/
theorem out_cover (i : S8192x5504.Idx) : ∃ t : Fin cfg0.N, (cfg0.win 3).flush t = true ∧ i ∈ ((cfg0.win 3).blk t).view.set := by
  have hi0 : (i 0).val < 8192 := (i 0).isLt
  have hi1 : (i 1).val < 5504 := (i 1).isLt
  have ht : 4 * ((i 1).val / 512) + (i 0).val / 2048 < cfg0.N := by rw [show cfg0.N = 44 from N_0]; omega
  refine ⟨⟨_, ht⟩, flush0_3 _, ?_⟩
  obtain ⟨-, -, s0, s1⟩ := size_facts ⟨_, ht⟩
  obtain ⟨-, -, -, -, -, -, -, -, -, -, i0, i1⟩ := idx_facts ⟨_, ht⟩
  generalize hT : (⟨_, ht⟩ : Fin cfg0.N) = T at *
  have hv : T.val = 4 * ((i 1).val / 512) + (i 0).val / 2048 := by rw [← hT]
  rw [View.set_slice_whole, Rect.mem_set_unit]
  intro a
  match a with
  | ⟨0, _⟩ =>
    show win0_3.index T (0 : Fin 2) * 2048 ≤ (i 0).val ∧ (i 0).val < win0_3.index T (0 : Fin 2) * 2048 + win0_3.xsize (grid0.coords T) (0 : Fin 2)
    rw [i0, s0]; omega
  | ⟨1, _⟩ =>
    show win0_3.index T (1 : Fin 2) * 512 ≤ (i 1).val ∧ (i 1).val < win0_3.index T (1 : Fin 2) * 512 + win0_3.xsize (grid0.coords T) (1 : Fin 2)
    rw [i1, s1]; omega

/-- So the output array ends at `G`. -/
theorem out_eq (c : Dev nD) : (dats m G 0 c).arrAt 3 cfg0.N = G c :=
  (dats m G 0 c).arrAt_eq_of_cover 3 (G c)
    (fun t _ => by
      show (cfg0.win 3).cut (grid0.coords t) ((dats m G 0 c).after 3 t) = _
      rw [after_3]; exact win0_3.cut_fill (grid0.coords t) _ _)
    (fun i => out_cover i)

/-- The run with the output named. -/
theorem run (hG : Computes m G) : θ_run defs (onTc (τ := τ) (main (F := F))) ⟨m, fun _ => 0, ρ⟩ fun r => ∀ c : Dev nD,
      r.2.mem ((c : Thread nD τ).loc main_v0) = G c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨((h c).1 3).trans (out_eq m G c),
      ((h c).1 0).trans (((dats m G 0 c).arrAt_in 0 rfl _).trans (A_eq m G c 0)),
      ((h c).1 1).trans (((dats m G 0 c).arrAt_in 1 rfl _).trans (A_eq m G c 1)),
      ((h c).1 2).trans (((dats m G 0 c).arrAt_in 2 rfl _).trans (A_eq m G c 2))⟩)
    (run_named m ρ G hG)

end Cert.SwigluRun

end
-- ==== Proof.Dots.lean ====
module

public import Idealize.ShloMosaic.Lib.Pointwise
public import Idealize.ShloMosaic.Lib.IdealHost
public import Idealize.ShloMosaic.Lib.KernelVsHost
public import Idealize.ShloMosaic.Lib.Pipeline.Value

@[expose] public section
set_option maxRecDepth 16384

/-!
Products of two matrices over the extended reals: what a kernel's matrix product into a zero accumulator reads at an
element. And a block of 2048 rows written in two halves, read at an element. The calls that multiply matrices share both.
-/

noncomputable section
namespace Cert.Dots
open Idealize.ShloMosaic

/-- At (r, c) a kernel's product is the sum over the contracted coordinate. -/
theorem product_apply {M K N : Nat} {φ ψ : FTy}
    (d : DotDims (⟨2, ![M, K]⟩ : Shape) (⟨2, ![K, N]⟩ : Shape) (⟨2, ![M, N]⟩ : Shape))
    (hd : d = DotDims.plain M K N)
    (lhs : FVec Ideal (⟨2, ![M, K]⟩ : Shape) φ) (rhs : FVec Ideal (⟨2, ![K, N]⟩ : Shape) ψ) (r : Fin M) (c : Fin N) :
    (matmul d none lhs rhs (constant (⟨2, ![M, N]⟩ : Shape) .f32 0x00000000#32) : FVec Ideal _ .f32) (ix2 r c)
      = ∑ k : Fin K, lhs (ix2 r k) * rhs (ix2 k c) := by
  subst hd
  refine (Ideal.matmul_constant_zero_apply _ _ lhs rhs (ix2 r c)).trans ?_
  rw [← Equiv.sum_comp (ValueIdx.contrEquiv1 (DotDims.plain M K N) K rfl rfl).symm]
  refine Finset.sum_congr rfl fun k _ => ?_
  have hk := ValueIdx.contrEquiv1_symm_val (DotDims.plain M K N) K rfl rfl k
  have hl : (DotDims.plain M K N).lhsIdx (ix2 r c) ((ValueIdx.contrEquiv1 (DotDims.plain M K N) K rfl rfl).symm k) = ix2 r k :=
    funext fun a => Fin.ext (by match a with | ⟨0, _⟩ => rfl | ⟨1, _⟩ => exact hk)
  have hr : (DotDims.plain M K N).rhsIdx (ix2 r c) ((ValueIdx.contrEquiv1 (DotDims.plain M K N) K rfl rfl).symm k) = ix2 k c :=
    funext fun a => Fin.ext (by match a with | ⟨0, _⟩ => exact hk | ⟨1, _⟩ => rfl)
  rw [hl, hr]

section
variable {F : FTy → Type} [FloatOps F] {N : Nat} {e : EltTy}
  (i1 : ∀ a, (![1024, 0] : Fin 2 → Nat) a + (⟨2, ![1024, N]⟩ : Shape).size a ≤ (⟨2, ![2048, N]⟩ : Shape).size a)
  (i0 : ∀ a, (![0, 0] : Fin 2 → Nat) a + (⟨2, ![1024, N]⟩ : Shape).size a ≤ (⟨2, ![2048, N]⟩ : Shape).size a)

/-- Rows 1024 and on hold the piece stored there. -/
theorem canon_low (A B : Vec F (⟨2, ![1024, N]⟩ : Shape) e) (p : Fin 2048) (q : Fin N) (p' : Fin 1024) (h : p.val = 1024 + p'.val) :
    (View.canon [(⟨Rect.unit (s := (⟨2, ![2048, N]⟩ : Shape)) ![1024, 0] (⟨2, ![1024, N]⟩ : Shape).size i1, A⟩ : View.Piece (Elt F) _ e),
      ⟨Rect.unit (s := (⟨2, ![2048, N]⟩ : Shape)) ![0, 0] (⟨2, ![1024, N]⟩ : Shape).size i0, B⟩] : Vec F (⟨2, ![2048, N]⟩ : Shape) e) (ix2 p q)
      = A (ix2 p' q) := by
  have eq : (ix2 p q : (⟨2, ![2048, N]⟩ : Shape).Idx) = (Rect.unit (s := (⟨2, ![2048, N]⟩ : Shape)) ![1024, 0] (⟨2, ![1024, N]⟩ : Shape).size i1).emb
      (ix2 p' q) := funext fun a => Fin.ext (by
    match a with
    | ⟨0, _⟩ => show p.val = 1024 + 1 * p'.val; omega
    | ⟨1, _⟩ => show q.val = 0 + 1 * q.val; omega)
  rw [eq]
  exact View.canon_cons_emb (Val := Elt F) (e := e) (Rect.unit (s := (⟨2, ![2048, N]⟩ : Shape)) ![1024, 0] (⟨2, ![1024, N]⟩ : Shape).size i1) A _ _

/-- And the rows before hold the other. -/
theorem canon_high (A B : Vec F (⟨2, ![1024, N]⟩ : Shape) e) (p : Fin 2048) (q : Fin N) (p' : Fin 1024) (h : p.val = p'.val) :
    (View.canon [(⟨Rect.unit (s := (⟨2, ![2048, N]⟩ : Shape)) ![1024, 0] (⟨2, ![1024, N]⟩ : Shape).size i1, A⟩ : View.Piece (Elt F) _ e),
      ⟨Rect.unit (s := (⟨2, ![2048, N]⟩ : Shape)) ![0, 0] (⟨2, ![1024, N]⟩ : Shape).size i0, B⟩] : Vec F (⟨2, ![2048, N]⟩ : Shape) e) (ix2 p q)
      = B (ix2 p' q) := by
  have hp := p'.isLt
  have hn : (ix2 p q : (⟨2, ![2048, N]⟩ : Shape).Idx) ∉ (Rect.unit (s := (⟨2, ![2048, N]⟩ : Shape)) ![1024, 0] (⟨2, ![1024, N]⟩ : Shape).size i1).set := by
    rw [Rect.mem_set_unit]
    intro hh
    have h0 : 1024 ≤ p.val := (hh (0 : Fin 2)).1
    omega
  have eq : (ix2 p q : (⟨2, ![2048, N]⟩ : Shape).Idx) = (Rect.unit (s := (⟨2, ![2048, N]⟩ : Shape)) ![0, 0] (⟨2, ![1024, N]⟩ : Shape).size i0).emb
      (ix2 p' q) := funext fun a => Fin.ext (by
    match a with
    | ⟨0, _⟩ => show p.val = 0 + 1 * p'.val; omega
    | ⟨1, _⟩ => show q.val = 0 + 1 * q.val; omega)
  refine (View.canon_cons_of_not_mem (Val := Elt F) (e := e) ⟨_, A⟩ _ hn).trans ?_
  rw [eq]
  exact View.canon_cons_emb (Val := Elt F) (e := e) (Rect.unit (s := (⟨2, ![2048, N]⟩ : Shape)) ![0, 0] (⟨2, ![1024, N]⟩ : Shape).size i0) B _ _

/-- The rows from 1024 on of a block. -/
theorem ld_low (x : Vec F (⟨2, ![2048, N]⟩ : Shape) e) (p : Fin 2048) (q : Fin N) (p' : Fin 1024) (h : p.val = 1024 + p'.val) :
    View.ld (Val := Elt F) (e' := e) x (Rect.unit (s := (⟨2, ![2048, N]⟩ : Shape)) ![1024, 0] (⟨2, ![1024, N]⟩ : Shape).size i1) (ix2 p' q) = x (ix2 p q) := by
  refine congrArg x (funext fun a => Fin.ext ?_)
  match a with
  | ⟨0, _⟩ => show 1024 + 1 * p'.val = p.val; omega
  | ⟨1, _⟩ => show 0 + 1 * q.val = q.val; omega

/-- The rows before. -/
theorem ld_high (x : Vec F (⟨2, ![2048, N]⟩ : Shape) e) (p : Fin 2048) (q : Fin N) (p' : Fin 1024) (h : p.val = p'.val) :
    View.ld (Val := Elt F) (e' := e) x (Rect.unit (s := (⟨2, ![2048, N]⟩ : Shape)) ![0, 0] (⟨2, ![1024, N]⟩ : Shape).size i0) (ix2 p' q) = x (ix2 p q) := by
  refine congrArg x (funext fun a => Fin.ext ?_)
  match a with
  | ⟨0, _⟩ => show 0 + 1 * p'.val = p.val; omega
  | ⟨1, _⟩ => show 0 + 1 * q.val = q.val; omega
end

end Cert.Dots
-- ==== Proof.SwigluEqual.lean ====
/- The gate-and-up call over the extended reals: every element of its result, of the kernel and of the reference, is
   silu(row · gate column) · (row · up column). -/
module

public import proofs.«01_k».proof.Proof.SwigluFrame
public import proofs.«01_k».proof.Proof.Dots
public import proofs.«01_k».proof.Proof.Gen.SwigluRefIdeal.Read
public import proofs.«01_k».proof.Proof.Gen.SwigluRefIdeal.Run

@[expose] public section

set_option maxRecDepth 16384

noncomputable section

namespace Cert.SwigluEqual

open Idealize.ShloMosaic Idealize.ShloMosaic.TcCoe Idealize.ShloMosaic.Tactic
open Cert.SwigluIdeal Cert.SwigluIdeal.Gen Cert.SwigluRun

/-- silu(a) · b, silu(a) being a · (1 / (1 + exp(-a))). -/
def gated (a b : EReal) : EReal := a * Ideal.logistic a * b

/-- A row of `h` times a column of the first layer's first matrix in `w`. -/
def rowCol (h : FVec Ideal S8192x2048 .bf16) (w : FVec Ideal S4x2x2048x5504 .f32) (r : Fin 8192) (c : Fin 5504) : EReal :=
  ∑ k : Fin 2048, h (ix2 r k) * w (ix4 (0 : Fin 4) (0 : Fin 2) k c)

/-- The result both sides compute. -/
def result (h : FVec Ideal S8192x2048 .bf16) (w u : FVec Ideal S4x2x2048x5504 .f32) : FVec Ideal S8192x5504 .bf16 :=
  fun y => gated (rowCol h w (y 0) (y 1)) (rowCol h u (y 0) (y 1))

theorem pay1_apply (W : Vec Ideal S1x1x2048x512 .f32) (k : Fin 2048) (q : Fin 512) :
    (k0_pay1 W : FVec Ideal S2048x512 .bf16) (ix2 k q) = W (ix4 (0 : Fin 1) (0 : Fin 1) k q) := by
  pointwise [k0_pay1]

theorem pay2_apply (W : Vec Ideal S1x1x2048x512 .f32) (k : Fin 2048) (q : Fin 512) :
    (k0_pay2 W : FVec Ideal S2048x512 .bf16) (ix2 k q) = W (ix4 (0 : Fin 1) (0 : Fin 1) k q) := by
  pointwise [k0_pay2]

theorem pay3_apply (a : FVec Ideal S1024x2048 .bf16) (s0 s1 : FVec Ideal S2048x512 .bf16) (p : Fin 1024) (q : Fin 512) :
    (k0_pay3 a s0 s1 : FVec Ideal S1024x512 .bf16) (ix2 p q)
      = gated (∑ k : Fin 2048, a (ix2 p k) * s0 (ix2 k q)) (∑ k : Fin 2048, a (ix2 p k) * s1 (ix2 k q)) := by
  rw [← Dots.product_apply dot_S1024x2048_S2048x512_S1024x512_1_0_0_1_n_n rfl a s0 p q,
    ← Dots.product_apply dot_S1024x2048_S2048x512_S1024x512_1_0_0_1_n_n rfl a s1 p q]
  unfold k0_pay3
  generalize matmul dot_S1024x2048_S2048x512_S1024x512_1_0_0_1_n_n none a s0 _ = y0
  generalize matmul dot_S1024x2048_S2048x512_S1024x512_1_0_0_1_n_n none a s1 _ = y1
  pointwise []
  rfl

theorem pay4_eq (a : Vec Ideal S1024x2048 .bf16) (s0 s1 : Vec Ideal S2048x512 .bf16) : k0_pay4 a s0 s1 = k0_pay3 a s0 s1 := rfl

/-- The output block at an element. -/
theorem outOf_apply (x : FVec Ideal S2048x2048 .bf16) (s0 s1 : FVec Ideal S2048x512 .bf16) (p : Fin 2048) (q : Fin 512) :
    (outOf (F := Ideal) x s0 s1 : FVec Ideal S2048x512 .bf16) (ix2 p q)
      = gated (∑ k : Fin 2048, x (ix2 p k) * s0 (ix2 k q)) (∑ k : Fin 2048, x (ix2 p k) * s1 (ix2 k q)) := by
  unfold outOf outPieces
  have hp := p.isLt
  by_cases h : 1024 ≤ p.val
  · have hv : p.val = 1024 + (p.val - 1024) := by omega
    refine (Dots.canon_low (F := Ideal) _ _ _ _ p q ⟨p.val - 1024, by omega⟩ hv).trans ?_
    rw [pay4_eq, pay3_apply]
    have ex := fun k : Fin 2048 => Dots.ld_low (F := Ideal) (e := .bf16) inb_S2048x2048_S1024x2048_1024_0 x p k ⟨p.val - 1024, by omega⟩ hv
    exact congrArg₂ gated (Finset.sum_congr rfl fun k _ => congrArg (fun a : EReal => a * s0 (ix2 k q)) (ex k))
      (Finset.sum_congr rfl fun k _ => congrArg (fun a : EReal => a * s1 (ix2 k q)) (ex k))
  · refine (Dots.canon_high (F := Ideal) _ _ _ _ p q ⟨p.val, by omega⟩ rfl).trans ?_
    rw [pay3_apply]
    have ex := fun k : Fin 2048 => Dots.ld_high (F := Ideal) (e := .bf16) inb_S2048x2048_S1024x2048_0_0 x p k ⟨p.val, by omega⟩ rfl
    exact congrArg₂ gated (Finset.sum_congr rfl fun k _ => congrArg (fun a : EReal => a * s0 (ix2 k q)) (ex k))
      (Finset.sum_congr rfl fun k _ => congrArg (fun a : EReal => a * s1 (ix2 k q)) (ex k))

section
variable (m : (ℓ : Loc nD τ sig) → Buf (Elt Ideal) ℓ)

/-- The rows of `h` a point reads. -/
theorem rows_apply (c : Dev nD) (t : Fin cfg0.N) (p k : Fin 2048) (r : Fin 8192) (hr : r.val = 2048 * (t.val % 4) + p.val) :
    (iblk m c 0 t : Vec Ideal S2048x2048 .bf16) (ix2 p k) = m ((c : Thread nD τ).loc main_arg0) (ix2 r k) := by
  obtain ⟨e0, e1, -⟩ := idx_facts t
  show V m c main_arg0 (((cfg0.win 0).blk t).view.emb (ix2 p k)) = _
  rw [V_main_arg0]
  refine congrArg _ (funext fun a => Fin.ext ?_)
  match a with
  | ⟨0, _⟩ => show win0_0.index t (0 : Fin 2) * 2048 + 1 * p.val = r.val; rw [e0, hr]; omega
  | ⟨1, _⟩ => show win0_0.index t (1 : Fin 2) * 2048 + 1 * k.val = k.val; rw [e1]; omega

/-- The kernel's result. -/
def G (c : Dev nD) : Vec Ideal S8192x5504 .bf16 :=
  result (m ((c : Thread nD τ).loc main_arg0)) (m ((c : Thread nD τ).loc main_arg1)) (m ((c : Thread nD τ).loc main_arg2))

theorem computes : Computes m (G m) := by
  intro c t W1 W2 h1 h2
  obtain ⟨-, -, x0, x1⟩ := size_facts t
  obtain ⟨-, -, -, -, -, -, -, -, -, -, i0, i1⟩ := idx_facts t
  have ht := bound t
  funext j
  have l0 : (j 0).val < 2048 := lt_of_lt_of_eq (j 0).isLt x0
  have l1 : (j 1).val < min 512 (5504 - 512 * (t.val / 4)) := lt_of_lt_of_eq (j 1).isLt x1
  have ej : win0_3.xinj (grid0.coords t) j = (ix2 (⟨(j 0).val, l0⟩ : Fin 2048) (⟨(j 1).val, by omega⟩ : Fin 512) : S2048x512.Idx) :=
    funext fun a => Fin.ext (by match a with | ⟨0, _⟩ => rfl | ⟨1, _⟩ => rfl)
  have ei : ((cfg0.win 3).blk t).view.emb j
      = (ix2 (⟨2048 * (t.val % 4) + (j 0).val, by omega⟩ : Fin 8192) (⟨512 * (t.val / 4) + (j 1).val, by omega⟩ : Fin 5504) : S8192x5504.Idx) := by
    refine funext fun a => Fin.ext ?_
    match a with
    | ⟨0, _⟩ => show win0_3.index t (0 : Fin 2) * 2048 + 1 * (j 0).val = 2048 * (t.val % 4) + (j 0).val; rw [i0]; omega
    | ⟨1, _⟩ => show win0_3.index t (1 : Fin 2) * 512 + 1 * (j 1).val = 512 * (t.val / 4) + (j 1).val; rw [i1]; omega
  show outOf (iblk m c 0 t) (k0_pay1 W1) (k0_pay2 W2) (win0_3.xinj (grid0.coords t) j) = G m c (((cfg0.win 3).blk t).view.emb j)
  rw [ej, ei]
  refine (outOf_apply _ _ _ _ _).trans ?_
  have hc : 512 * (t.val / 4) + (j 1).val < 5504 := by omega
  exact congrArg₂ gated
    (Finset.sum_congr rfl fun k _ => congrArg₂ (fun a b : EReal => a * b) (rows_apply m c t _ k _ rfl) ((pay1_apply W1 k _).trans (h1 k _ hc)))
    (Finset.sum_congr rfl fun k _ => congrArg₂ (fun a b : EReal => a * b) (rows_apply m c t _ k _ rfl) ((pay2_apply W2 k _).trans (h2 k _ hc)))

end

section
open Cert.SwigluRefIdeal.Read

/-- A product of the reference at an element. -/
theorem ref_gate (x0 : FVec Ideal S8192x2048 .bf16) (x1 : FVec Ideal S4x2x2048x5504 .f32) (r : Fin 8192) (q : Fin 5504)
    (i : Cert.SwigluRefIdeal.S4x2048x5504.Idx) (h : (i 0).val * 2048 + (i 1).val = r.val) (hq : (i 2).val = q.val) :
    val_main_v4 (F := Ideal) x0 x1 i = rowCol x0 x1 r q := by
  rw [val_main_v4_apply]
  refine Finset.sum_congr rfl fun k _ => ?_
  rw [val_main_v1_apply, val_main_v3_apply, val_main_v2_apply]
  have hk : k.val < 2048 := k.isLt
  have hq' : q.val < 5504 := q.isLt
  refine congrArg₂ (· * ·) (congrArg x0 (funext fun a => Fin.ext ?_)) (congrArg x1 (funext fun a => Fin.ext ?_))
  · match a with
    | ⟨0, _⟩ => show (((i 0).val * 2048 + (i 1).val) * 2048 + k.val) / 2048 = r.val; omega
    | ⟨1, _⟩ => show (((i 0).val * 2048 + (i 1).val) * 2048 + k.val) % 2048 = k.val; omega
  · match a with
    | ⟨0, _⟩ => rfl
    | ⟨1, _⟩ => rfl
    | ⟨2, _⟩ => show (k.val * 5504 + (i 2).val) / 5504 % 2048 = k.val; omega
    | ⟨3, _⟩ => show (k.val * 5504 + (i 2).val) % 5504 = q.val; omega

/-- The two products differ in the matrix alone. -/
theorem ref_up (x0 : FVec Ideal S8192x2048 .bf16) (x2 : FVec Ideal S4x2x2048x5504 .f32) :
    val_main_v8 (F := Ideal) x0 x2 = val_main_v4 (F := Ideal) x0 x2 := rfl

/-- The reference's result. -/
theorem ref_eq (x0 : FVec Ideal S8192x2048 .bf16) (x1 x2 : FVec Ideal S4x2x2048x5504 .f32) :
    val_main_v11 (F := Ideal) x0 x1 x2 = result x0 x1 x2 := by
  funext y
  have h0 : (y 0).val < 8192 := (y 0).isLt
  have h1 : (y 1).val < 5504 := (y 1).isLt
  have key := ref_gate x0 x1 (y 0) (y 1) (idx_main_v10 y) (by
      show ((y 0).val * 5504 + (y 1).val) / 11272192 * 2048 + ((y 0).val * 5504 + (y 1).val) / 5504 % 2048 = (y 0).val; omega)
    (by show ((y 0).val * 5504 + (y 1).val) % 5504 = (y 1).val; omega)
  have key' := ref_gate x0 x2 (y 0) (y 1) (idx_main_v10 y) (by
      show ((y 0).val * 5504 + (y 1).val) / 11272192 * 2048 + ((y 0).val * 5504 + (y 1).val) / 5504 % 2048 = (y 0).val; omega)
    (by show ((y 0).val * 5504 + (y 1).val) % 5504 = (y 1).val; omega)
  rw [val_main_v11_apply, val_main_v10_apply, val_main_v9_apply, val_main_v5_apply, ref_up, key', val_main_call0_v5_apply,
    val_main_call0_v4_apply, val_main_call0_v3_apply, val_main_call0_v2_apply, val_main_call0_v1_apply, val_main_call0_v0_apply,
    val_main_call0_cst_apply, val_main_call0_cst_0_apply, key]
  pointwise []
  rfl

end

end Cert.SwigluEqual

end
-- ==== Proof.GluEqual.lean ====
/- The gated-projection call: what each grid point leaves, the two weight blocks in scratch being those of the point's
   column block; and over the extended reals the result, of the kernel and of the reference: (row · left column + bias)
   times the logistic of (row · right column + bias). -/
module

public import proofs.«01_k».proof.Proof.Gen.GluIdeal.Value
public import proofs.«01_k».proof.Proof.Dots
public import proofs.«01_k».proof.Proof.Gen.GluRefIdeal.Read
public import proofs.«01_k».proof.Proof.Gen.GluRefIdeal.Run
public import Idealize.ShloMosaic.Lib.WritesUnit

@[expose] public section

set_option maxRecDepth 16384

noncomputable section

namespace Cert.GluEqual

open Idealize.ShloMosaic Idealize.ShloMosaic.TcCoe Idealize.ShloMosaic.Tactic
open Cert.GluIdeal Cert.GluIdeal.Gen

section
variable {F : FTy → Type} [FloatOps F]

/-- The two stores of the output block, from the rows `x`, the two scratch blocks and the two bias blocks. -/
def outPieces (x : Vec F S2048x2048 .bf16) (s0 s1 : Vec F S2048x512 .bf16) (b0 b1 : Vec F S1x512 .f32) : List (View.Piece (Elt F) S2048x512 .f32) :=
  [⟨Rect.unit (s := S2048x512) ![1024, 0] S1024x512.size inb_S2048x512_S1024x512_1024_0,
      k0_pay1 (k0_pay5 (View.ld x (Rect.unit (s := S2048x2048) ![1024, 0] S1024x2048.size inb_S2048x2048_S1024x2048_1024_0)) s0 b0)
        (k0_pay6 (View.ld x (Rect.unit (s := S2048x2048) ![1024, 0] S1024x2048.size inb_S2048x2048_S1024x2048_1024_0)) s1) b1⟩,
    ⟨Rect.unit (s := S2048x512) ![0, 0] S1024x512.size inb_S2048x512_S1024x512_0_0,
      k0_pay4 (View.ld x (Rect.unit (s := S2048x2048) ![0, 0] S1024x2048.size inb_S2048x2048_S1024x2048_0_0)) s0 b0 s1 b1⟩]

theorem zero2 : (![0, 0] : Fin S2048x512.rank → Nat) = fun _ => 0 := by
  funext a; match a with | ⟨0, _⟩ => rfl | ⟨1, _⟩ => rfl
theorem zero2' : (![0, 0] : Fin S1x512.rank → Nat) = fun _ => 0 := by
  funext a; match a with | ⟨0, _⟩ => rfl | ⟨1, _⟩ => rfl
theorem zero3 : (![0, 0, 0] : Fin S1x2048x512.rank → Nat) = fun _ => 0 := by
  funext a; match a with | ⟨0, _⟩ => rfl | ⟨1, _⟩ => rfl | ⟨2, _⟩ => rfl

variable (c : Dev nD) (i : grid0.Coords) (arg2 : Memref sig .tc .vmem S2048x2048 .bf16) (harg2 : arg2.IsWhole)
  (arg3 : Memref sig .tc .vmem S1x2048x512 .f32) (harg3 : arg3.IsWhole) (arg4 : Memref sig .tc .vmem S1x2048x512 .f32) (harg4 : arg4.IsWhole)
  (arg5 : Memref sig .tc .vmem S1x512 .f32) (harg5 : arg5.IsWhole) (arg6 : Memref sig .tc .vmem S1x512 .f32) (harg6 : arg6.IsWhole)
  (arg7 : Memref sig .tc .vmem S2048x512 .f32) (harg7 : arg7.IsWhole) (arg8 : Memref sig .tc .vmem S2048x512 .bf16) (harg8 : arg8.IsWhole)
  (arg9 : Memref sig .tc .vmem S2048x512 .bf16) (harg9 : arg9.IsWhole)
  (x0 : Vec F S2048x2048 .bf16) (x1 x2 : Vec F S1x2048x512 .f32) (x3 x4 : Vec F S1x512 .f32) (s0 s1 : Vec F S2048x512 .bf16)

theorem outB (hc0 : ¬cond0_0 i) :
    out0_B_5 c i arg2 harg2 arg3 harg3 arg4 harg4 arg5 harg5 arg6 harg6 arg7 harg7 arg8 harg8 arg9 harg9 hc0 x0 x1 x2 x3 x4 s0 s1
      = View.canon (outPieces x0 s0 s1 x3 x4) := by
  unfold out0_B_5
  rw [View.read_writes_junk_eq_canon]
  refine congrArg _ ?_
  unfold kernelRun0_B; dsimp only
  sl_unfold_words
  simp only [View.readAt_eq_ld, harg2.read_unread, harg3.read_unread, harg4.read_unread, harg5.read_unread, harg6.read_unread,
    harg8.read_unread, harg9.read_unread, View.ld_unit_zero (S := S2048x512) zero2, View.ld_unit_zero (S := S1x512) zero2']
  rfl

theorem piecesA (hc0 : cond0_0 i) :
    (kernelRun0_A c i arg2 harg2 arg3 harg3 arg4 harg4 arg5 harg5 arg6 harg6 arg7 harg7 arg8 harg8 arg9 harg9 hc0 x0 x1 x2 x3 x4).1
        = outPieces x0 (k0_pay2 x1) (k0_pay3 x2) x3 x4
      ∧ (kernelRun0_A c i arg2 harg2 arg3 harg3 arg4 harg4 arg5 harg5 arg6 harg6 arg7 harg7 arg8 harg8 arg9 harg9 hc0 x0 x1 x2 x3 x4).2.1
        = [⟨Rect.unit (s := S2048x512) ![0, 0] S2048x512.size inb_S2048x512_S2048x512_0_0, k0_pay2 x1⟩]
      ∧ (kernelRun0_A c i arg2 harg2 arg3 harg3 arg4 harg4 arg5 harg5 arg6 harg6 arg7 harg7 arg8 harg8 arg9 harg9 hc0 x0 x1 x2 x3 x4).2.2.1
        = [⟨Rect.unit (s := S2048x512) ![0, 0] S2048x512.size inb_S2048x512_S2048x512_0_0, k0_pay3 x2⟩] := by
  unfold kernelRun0_A; dsimp only
  sl_unfold_words
  simp only [View.readAt_eq_ld, harg2.read_unread, harg3.read_unread, harg4.read_unread, harg5.read_unread, harg6.read_unread,
    View.ld_unit_zero (S := S1x2048x512) zero3, View.ld_unit_zero (S := S1x512) zero2', View.readCov_unit_zero (S := S2048x512) _ zero2]
  exact ⟨rfl, trivial, trivial⟩

theorem outA (hc0 : cond0_0 i) :
    out0_A_5 c i arg2 harg2 arg3 harg3 arg4 harg4 arg5 harg5 arg6 harg6 arg7 harg7 arg8 harg8 arg9 harg9 hc0 x0 x1 x2 x3 x4
      = View.canon (outPieces x0 (k0_pay2 x1) (k0_pay3 x2) x3 x4) := by
  unfold out0_A_5
  rw [View.read_writes_junk_eq_canon]
  exact congrArg _ (piecesA c i arg2 harg2 arg3 harg3 arg4 harg4 arg5 harg5 arg6 harg6 arg7 harg7 arg8 harg8 arg9 harg9 x0 x1 x2 x3 x4 hc0).1

theorem scratchA (hc0 : cond0_0 i) :
    sout0_A_0 c i arg2 harg2 arg3 harg3 arg4 harg4 arg5 harg5 arg6 harg6 arg7 harg7 arg8 harg8 arg9 harg9 hc0 x0 x1 x2 x3 x4 = k0_pay2 x1 := by
  unfold sout0_A_0
  rw [View.read_writes_junk_eq_canon,
    (piecesA c i arg2 harg2 arg3 harg3 arg4 harg4 arg5 harg5 arg6 harg6 arg7 harg7 arg8 harg8 arg9 harg9 x0 x1 x2 x3 x4 hc0).2.1]
  exact View.canon_unit_zero (Val := Elt F) (e := .bf16) (S := S2048x512) zero2 _ _

theorem scratchA' (hc0 : cond0_0 i) :
    sout0_A_1 c i arg2 harg2 arg3 harg3 arg4 harg4 arg5 harg5 arg6 harg6 arg7 harg7 arg8 harg8 arg9 harg9 hc0 x0 x1 x2 x3 x4 = k0_pay3 x2 := by
  unfold sout0_A_1
  rw [View.read_writes_junk_eq_canon,
    (piecesA c i arg2 harg2 arg3 harg3 arg4 harg4 arg5 harg5 arg6 harg6 arg7 harg7 arg8 harg8 arg9 harg9 x0 x1 x2 x3 x4 hc0).2.2]
  exact View.canon_unit_zero (Val := Elt F) (e := .bf16) (S := S2048x512) zero2 _ _
end

section
variable {F : FTy → Type} [FloatOps F]
variable (m : (ℓ : Loc nD τ sig) → Buf (Elt F) ℓ)

theorem bound (t : Fin cfg0.N) : t.val < 16 := lt_of_lt_of_eq t.isLt (show cfg0.N = 16 from N_0)

theorem idx_facts : ∀ t : Fin cfg0.N, win0_0.index t (0 : Fin 2) = t.val % 4 ∧ win0_0.index t (1 : Fin 2) = 0
    ∧ win0_1.index t (0 : Fin 3) = 0 ∧ win0_1.index t (1 : Fin 3) = 0 ∧ win0_1.index t (2 : Fin 3) = t.val / 4
    ∧ win0_2.index t (0 : Fin 3) = 0 ∧ win0_2.index t (1 : Fin 3) = 0 ∧ win0_2.index t (2 : Fin 3) = t.val / 4 + 4
    ∧ win0_3.index t (0 : Fin 2) = 0 ∧ win0_3.index t (1 : Fin 2) = t.val / 4
    ∧ win0_4.index t (0 : Fin 2) = 0 ∧ win0_4.index t (1 : Fin 2) = t.val / 4 + 4
    ∧ win0_5.index t (0 : Fin 2) = t.val % 4 ∧ win0_5.index t (1 : Fin 2) = t.val / 4 :=
  (by decide +kernel : ∀ t : Fin grid0.N, _)

/-- The left weight block of points of one column block is the same. -/
theorem left_eq (c : Dev nD) (t t' : Fin cfg0.N) (h : t.val / 4 = t'.val / 4) : iblk m c 1 t = iblk m c 1 t' := by
  obtain ⟨-, -, a0, a1, a2, -⟩ := idx_facts t
  obtain ⟨-, -, b0, b1, b2, -⟩ := idx_facts t'
  funext y
  show V m c main_arg1 (((cfg0.win 1).blk t).view.emb y) = V m c main_arg1 (((cfg0.win 1).blk t').view.emb y)
  refine congrArg _ (funext fun a => Fin.ext ?_)
  match a with
  | ⟨0, _⟩ => show win0_1.index t (0 : Fin 3) * 1 + 1 * (y 0).val = win0_1.index t' (0 : Fin 3) * 1 + 1 * (y 0).val; rw [a0, b0]
  | ⟨1, _⟩ => show win0_1.index t (1 : Fin 3) * 2048 + 1 * (y 1).val = win0_1.index t' (1 : Fin 3) * 2048 + 1 * (y 1).val; rw [a1, b1]
  | ⟨2, _⟩ => show win0_1.index t (2 : Fin 3) * 512 + 1 * (y 2).val = win0_1.index t' (2 : Fin 3) * 512 + 1 * (y 2).val; rw [a2, b2, h]

/-- And the right one. -/
theorem right_eq (c : Dev nD) (t t' : Fin cfg0.N) (h : t.val / 4 = t'.val / 4) : iblk m c 2 t = iblk m c 2 t' := by
  obtain ⟨-, -, -, -, -, a0, a1, a2, -⟩ := idx_facts t
  obtain ⟨-, -, -, -, -, b0, b1, b2, -⟩ := idx_facts t'
  funext y
  show V m c main_arg1 (((cfg0.win 2).blk t).view.emb y) = V m c main_arg1 (((cfg0.win 2).blk t').view.emb y)
  refine congrArg _ (funext fun a => Fin.ext ?_)
  match a with
  | ⟨0, _⟩ => show win0_2.index t (0 : Fin 3) * 1 + 1 * (y 0).val = win0_2.index t' (0 : Fin 3) * 1 + 1 * (y 0).val; rw [a0, b0]
  | ⟨1, _⟩ => show win0_2.index t (1 : Fin 3) * 2048 + 1 * (y 1).val = win0_2.index t' (1 : Fin 3) * 2048 + 1 * (y 1).val; rw [a1, b1]
  | ⟨2, _⟩ => show win0_2.index t (2 : Fin 3) * 512 + 1 * (y 2).val = win0_2.index t' (2 : Fin 3) * 512 + 1 * (y 2).val; rw [a2, b2, h]

/-- After every point the two scratch blocks hold the point's weight blocks, rounded. -/
theorem scratch_eq (c : Dev nD) : ∀ (n : ℕ) (t : Fin cfg0.N), t.val = n →
    (outsAt0 m c t.val t.isLt).2.1 = k0_pay2 (iblk m c 1 t) ∧ (outsAt0 m c t.val t.isLt).2.2 = k0_pay3 (iblk m c 2 t) := by
  intro n
  induction n with
  | zero =>
    intro t h
    have h0 : t.val % 4 = 0 := by omega
    rw [outsAt0_A m c t h0]
    dsimp only; rw [scratchA, scratchA']; exact ⟨rfl, rfl⟩
  | succ n ih =>
    intro t h
    by_cases h0 : t.val % 4 = 0
    · rw [outsAt0_A m c t h0]
      dsimp only; rw [scratchA, scratchA']; exact ⟨rfl, rfl⟩
    · have hl : t.val - 1 < cfg0.N := Nat.lt_of_le_of_lt (Nat.sub_le _ _) t.isLt
      have hq : t.val / 4 = (t.val - 1) / 4 := by omega
      rw [outsAt0_B m c t h0, left_eq m c t ⟨t.val - 1, hl⟩ hq, right_eq m c t ⟨t.val - 1, hl⟩ hq]
      exact ih ⟨t.val - 1, hl⟩ (by show t.val - 1 = n; omega)

/-- So what a point leaves in the output block is computed from its own blocks. -/
theorem out_eq (c : Dev nD) (t : Fin cfg0.N) :
    (outsAt0 m c t.val t.isLt).1
      = View.canon (outPieces (iblk m c 0 t) (k0_pay2 (iblk m c 1 t)) (k0_pay3 (iblk m c 2 t)) (iblk m c 3 t) (iblk m c 4 t)) := by
  by_cases h0 : t.val % 4 = 0
  · rw [outsAt0_A m c t h0]
    dsimp only; rw [outA]
  · have hl : t.val - 1 < cfg0.N := Nat.lt_of_le_of_lt (Nat.sub_le _ _) t.isLt
    have hq : (t.val - 1) / 4 = t.val / 4 := by omega
    rw [outsAt0_B m c t h0]
    dsimp only; rw [outB]
    obtain ⟨e0, e1⟩ := scratch_eq m c (t.val - 1) ⟨t.val - 1, hl⟩ rfl
    rw [e0, e1, left_eq m c ⟨t.val - 1, hl⟩ t hq, right_eq m c ⟨t.val - 1, hl⟩ t hq]

/-- The bias row the region finds: the first row of the argument. -/
theorem V_bias (c : Dev nD) : V m c main_v2 = (shapeCast S1x4096 (shapeCast S4096 (extractStridedSlice S1x4096 ![0, 0]
    (m ((c : Thread nD τ).loc main_arg2)) slices_S2x4096_S1x4096_0_0 : Vec F S1x4096 .f32) shapeCasts_S1x4096_S4096 : Vec F S4096 .f32)
    shapeCasts_S4096_S1x4096 : Vec F S1x4096 .f32) := by
  simp only [V, hostOps0, List.flatten_cons, List.flatten_nil, List.append_nil, List.cons_append, List.nil_append, StableHlo.after_cons, StableHlo.after_nil]
  rfl

theorem rows_apply (c : Dev nD) (t : Fin cfg0.N) (p k : Fin 2048) (r : Fin 8192) (hr : r.val = 2048 * (t.val % 4) + p.val) :
    (iblk m c 0 t : Vec F S2048x2048 .bf16) (ix2 p k) = m ((c : Thread nD τ).loc main_arg0) (ix2 r k) := by
  obtain ⟨e0, e1, -⟩ := idx_facts t
  show V m c main_arg0 (((cfg0.win 0).blk t).view.emb (ix2 p k)) = _
  rw [V_main_arg0]
  refine congrArg _ (funext fun a => Fin.ext ?_)
  match a with
  | ⟨0, _⟩ => show win0_0.index t (0 : Fin 2) * 2048 + 1 * p.val = r.val; rw [e0, hr]; omega
  | ⟨1, _⟩ => show win0_0.index t (1 : Fin 2) * 2048 + 1 * k.val = k.val; rw [e1]; omega

theorem left_apply (c : Dev nD) (t : Fin cfg0.N) (k : Fin 2048) (q : Fin 512) (s : Fin 4096) (hs : s.val = 512 * (t.val / 4) + q.val) :
    (iblk m c 1 t : Vec F S1x2048x512 .f32) (ix3 (0 : Fin 1) k q) = m ((c : Thread nD τ).loc main_arg1) (ix3 (0 : Fin 2) k s) := by
  obtain ⟨-, -, e0, e1, e2, -⟩ := idx_facts t
  show V m c main_arg1 (((cfg0.win 1).blk t).view.emb (ix3 (0 : Fin 1) k q)) = _
  rw [V_main_arg1]
  refine congrArg _ (funext fun a => Fin.ext ?_)
  match a with
  | ⟨0, _⟩ => show win0_1.index t (0 : Fin 3) * 1 + 1 * 0 = 0; rw [e0]
  | ⟨1, _⟩ => show win0_1.index t (1 : Fin 3) * 2048 + 1 * k.val = k.val; rw [e1]; omega
  | ⟨2, _⟩ => show win0_1.index t (2 : Fin 3) * 512 + 1 * q.val = s.val; rw [e2, hs]; omega

theorem right_apply (c : Dev nD) (t : Fin cfg0.N) (k : Fin 2048) (q : Fin 512) (s : Fin 4096) (hs : s.val = 2048 + (512 * (t.val / 4) + q.val)) :
    (iblk m c 2 t : Vec F S1x2048x512 .f32) (ix3 (0 : Fin 1) k q) = m ((c : Thread nD τ).loc main_arg1) (ix3 (0 : Fin 2) k s) := by
  obtain ⟨-, -, -, -, -, e0, e1, e2, -⟩ := idx_facts t
  show V m c main_arg1 (((cfg0.win 2).blk t).view.emb (ix3 (0 : Fin 1) k q)) = _
  rw [V_main_arg1]
  refine congrArg _ (funext fun a => Fin.ext ?_)
  match a with
  | ⟨0, _⟩ => show win0_2.index t (0 : Fin 3) * 1 + 1 * 0 = 0; rw [e0]
  | ⟨1, _⟩ => show win0_2.index t (1 : Fin 3) * 2048 + 1 * k.val = k.val; rw [e1]; omega
  | ⟨2, _⟩ => show win0_2.index t (2 : Fin 3) * 512 + 1 * q.val = s.val; rw [e2, hs]; omega

/-- An element of the bias row. -/
theorem V_bias_apply (c : Dev nD) (s : Fin 4096) :
    V m c main_v2 (ix2 (0 : Fin 1) s : S1x4096.Idx) = m ((c : Thread nD τ).loc main_arg2) (ix2 (0 : Fin 2) s) := by
  rw [V_bias]
  pointwise []

theorem leftBias_apply (c : Dev nD) (t : Fin cfg0.N) (q : Fin 512) (s : Fin 4096) (hs : s.val = 512 * (t.val / 4) + q.val) :
    (iblk m c 3 t : Vec F S1x512 .f32) (ix2 (0 : Fin 1) q) = m ((c : Thread nD τ).loc main_arg2) (ix2 (0 : Fin 2) s) := by
  obtain ⟨-, -, -, -, -, -, -, -, e0, e1, -⟩ := idx_facts t
  have hb : ((cfg0.win 3).blk t).view.emb (ix2 (0 : Fin 1) q) = (ix2 (0 : Fin 1) s : S1x4096.Idx) := by
    refine funext fun a => Fin.ext ?_
    match a with
    | ⟨0, _⟩ => show win0_3.index t (0 : Fin 2) * 1 + 1 * 0 = 0; rw [e0]
    | ⟨1, _⟩ => show win0_3.index t (1 : Fin 2) * 512 + 1 * q.val = s.val; rw [e1, hs]; omega
  show V m c main_v2 (((cfg0.win 3).blk t).view.emb (ix2 (0 : Fin 1) q)) = _
  rw [hb]
  exact V_bias_apply m c s

theorem rightBias_apply (c : Dev nD) (t : Fin cfg0.N) (q : Fin 512) (s : Fin 4096) (hs : s.val = 2048 + (512 * (t.val / 4) + q.val)) :
    (iblk m c 4 t : Vec F S1x512 .f32) (ix2 (0 : Fin 1) q) = m ((c : Thread nD τ).loc main_arg2) (ix2 (0 : Fin 2) s) := by
  obtain ⟨-, -, -, -, -, -, -, -, -, -, e0, e1, -⟩ := idx_facts t
  have hb : ((cfg0.win 4).blk t).view.emb (ix2 (0 : Fin 1) q) = (ix2 (0 : Fin 1) s : S1x4096.Idx) := by
    refine funext fun a => Fin.ext ?_
    match a with
    | ⟨0, _⟩ => show win0_4.index t (0 : Fin 2) * 1 + 1 * 0 = 0; rw [e0]
    | ⟨1, _⟩ => show win0_4.index t (1 : Fin 2) * 512 + 1 * q.val = s.val; rw [e1, hs]; omega
  show V m c main_v2 (((cfg0.win 4).blk t).view.emb (ix2 (0 : Fin 1) q)) = _
  rw [hb]
  exact V_bias_apply m c s

end

/-- A times the logistic of B. -/
def gated (a b : EReal) : EReal := a * Ideal.logistic b

/-- A row times a column plus the column's bias. -/
def rowCol (h : FVec Ideal S8192x2048 .bf16) (w : FVec Ideal S2x2048x4096 .f32) (b : FVec Ideal S2x4096 .f32) (r : Fin 8192) (s : Fin 4096) : EReal :=
  (∑ k : Fin 2048, (h (ix2 r k) * w (ix3 (0 : Fin 2) k s) : EReal)) + b (ix2 (0 : Fin 2) s)

/-- The result both sides compute. -/
def result (h : FVec Ideal S8192x2048 .bf16) (w : FVec Ideal S2x2048x4096 .f32) (b : FVec Ideal S2x4096 .f32) : FVec Ideal S8192x2048 .f32 :=
  fun y => gated (rowCol h w b (y 0) ⟨(y 1).val, by have h1 : (y 1).val < 2048 := (y 1).isLt; omega⟩)
    (rowCol h w b (y 0) ⟨2048 + (y 1).val, by have h1 : (y 1).val < 2048 := (y 1).isLt; omega⟩)

theorem pay2_apply (W : Vec Ideal S1x2048x512 .f32) (k : Fin 2048) (q : Fin 512) :
    (k0_pay2 W : FVec Ideal S2048x512 .bf16) (ix2 k q) = W (ix3 (0 : Fin 1) k q) := by
  pointwise [k0_pay2]

theorem pay3_apply (W : Vec Ideal S1x2048x512 .f32) (k : Fin 2048) (q : Fin 512) :
    (k0_pay3 W : FVec Ideal S2048x512 .bf16) (ix2 k q) = W (ix3 (0 : Fin 1) k q) := by
  pointwise [k0_pay3]

theorem pay4_apply (a : FVec Ideal S1024x2048 .bf16) (s0 s1 : FVec Ideal S2048x512 .bf16) (b0 b1 : FVec Ideal S1x512 .f32) (p : Fin 1024) (q : Fin 512) :
    (k0_pay4 a s0 b0 s1 b1 : FVec Ideal S1024x512 .f32) (ix2 p q)
      = gated ((∑ k : Fin 2048, a (ix2 p k) * s0 (ix2 k q)) + b0 (ix2 (0 : Fin 1) q)) ((∑ k : Fin 2048, a (ix2 p k) * s1 (ix2 k q)) + b1 (ix2 (0 : Fin 1) q)) := by
  rw [← Dots.product_apply dot_S1024x2048_S2048x512_S1024x512_1_0_0_1_n_n rfl a s0 p q,
    ← Dots.product_apply dot_S1024x2048_S2048x512_S1024x512_1_0_0_1_n_n rfl a s1 p q]
  unfold k0_pay4
  generalize matmul dot_S1024x2048_S2048x512_S1024x512_1_0_0_1_n_n none a s0 _ = y0
  generalize matmul dot_S1024x2048_S2048x512_S1024x512_1_0_0_1_n_n none a s1 _ = y1
  pointwise []
  rfl

theorem pay1_eq (a : FVec Ideal S1024x2048 .bf16) (s0 s1 : FVec Ideal S2048x512 .bf16) (b0 b1 : FVec Ideal S1x512 .f32) :
    k0_pay1 (F := Ideal) (k0_pay5 a s0 b0) (k0_pay6 a s1) b1 = k0_pay4 (F := Ideal) a s0 b0 s1 b1 := rfl

theorem block_apply (x : FVec Ideal S2048x2048 .bf16) (s0 s1 : FVec Ideal S2048x512 .bf16) (b0 b1 : FVec Ideal S1x512 .f32) (p : Fin 2048) (q : Fin 512) :
    (View.canon (outPieces (F := Ideal) x s0 s1 b0 b1) : FVec Ideal S2048x512 .f32) (ix2 p q)
      = gated ((∑ k : Fin 2048, x (ix2 p k) * s0 (ix2 k q)) + b0 (ix2 (0 : Fin 1) q)) ((∑ k : Fin 2048, x (ix2 p k) * s1 (ix2 k q)) + b1 (ix2 (0 : Fin 1) q)) := by
  unfold outPieces
  have hp := p.isLt
  by_cases h : 1024 ≤ p.val
  · have hv : p.val = 1024 + (p.val - 1024) := by omega
    refine (Dots.canon_low (F := Ideal) _ _ _ _ p q ⟨p.val - 1024, by omega⟩ hv).trans ?_
    rw [pay1_eq, pay4_apply]
    have ex := fun k : Fin 2048 => Dots.ld_low (F := Ideal) (e := .bf16) inb_S2048x2048_S1024x2048_1024_0 x p k ⟨p.val - 1024, by omega⟩ hv
    exact congrArg₂ gated
      (congrArg (fun a : EReal => a + b0 (ix2 (0 : Fin 1) q)) (Finset.sum_congr rfl fun k _ => congrArg (fun a : EReal => a * s0 (ix2 k q)) (ex k)))
      (congrArg (fun a : EReal => a + b1 (ix2 (0 : Fin 1) q)) (Finset.sum_congr rfl fun k _ => congrArg (fun a : EReal => a * s1 (ix2 k q)) (ex k)))
  · refine (Dots.canon_high (F := Ideal) _ _ _ _ p q ⟨p.val, by omega⟩ rfl).trans ?_
    rw [pay4_apply]
    have ex := fun k : Fin 2048 => Dots.ld_high (F := Ideal) (e := .bf16) inb_S2048x2048_S1024x2048_0_0 x p k ⟨p.val, by omega⟩ rfl
    exact congrArg₂ gated
      (congrArg (fun a : EReal => a + b0 (ix2 (0 : Fin 1) q)) (Finset.sum_congr rfl fun k _ => congrArg (fun a : EReal => a * s0 (ix2 k q)) (ex k)))
      (congrArg (fun a : EReal => a + b1 (ix2 (0 : Fin 1) q)) (Finset.sum_congr rfl fun k _ => congrArg (fun a : EReal => a * s1 (ix2 k q)) (ex k)))

section
variable (m : (ℓ : Loc nD τ sig) → Buf (Elt Ideal) ℓ)

/-- Each point writes its block of the result. -/
theorem flushed_eq (c : Dev nD) (t : Fin cfg0.N) :
    (dats m 0 c).flushed 5 t = ((cfg0.win 5).blk t).view.read (Elt Ideal)
      (result (m ((c : Thread nD τ).loc main_arg0)) (m ((c : Thread nD τ).loc main_arg1)) (m ((c : Thread nD τ).loc main_arg2))) := by
  rw [Cert.GluIdeal.Value.flushed5, out_eq]
  obtain ⟨-, -, -, -, -, -, -, -, -, -, -, -, i0, i1⟩ := idx_facts t
  have ht := bound t
  funext j
  have l0 : (j 0).val < 2048 := (j 0).isLt
  have l1 : (j 1).val < 512 := (j 1).isLt
  have ej : (cfg0.win 5).xinj (grid0.coords t) j = (ix2 (⟨(j 0).val, l0⟩ : Fin 2048) (⟨(j 1).val, l1⟩ : Fin 512) : S2048x512.Idx) :=
    funext fun a => Fin.ext (by match a with | ⟨0, _⟩ => rfl | ⟨1, _⟩ => rfl)
  have ei : ((cfg0.win 5).blk t).view.emb j
      = (ix2 (⟨2048 * (t.val % 4) + (j 0).val, by omega⟩ : Fin 8192) (⟨512 * (t.val / 4) + (j 1).val, by omega⟩ : Fin 2048) : S8192x2048.Idx) := by
    refine funext fun a => Fin.ext ?_
    match a with
    | ⟨0, _⟩ => show win0_5.index t (0 : Fin 2) * 2048 + 1 * (j 0).val = 2048 * (t.val % 4) + (j 0).val; rw [i0]; omega
    | ⟨1, _⟩ => show win0_5.index t (1 : Fin 2) * 512 + 1 * (j 1).val = 512 * (t.val / 4) + (j 1).val; rw [i1]; omega
  show View.canon (outPieces (F := Ideal) (iblk m c 0 t) (k0_pay2 (iblk m c 1 t)) (k0_pay3 (iblk m c 2 t)) (iblk m c 3 t) (iblk m c 4 t)) ((cfg0.win 5).xinj (grid0.coords t) j)
    = result (m ((c : Thread nD τ).loc main_arg0)) (m ((c : Thread nD τ).loc main_arg1)) (m ((c : Thread nD τ).loc main_arg2)) (((cfg0.win 5).blk t).view.emb j)
  rw [ej, ei]
  refine (block_apply _ _ _ _ _ _ _).trans ?_
  exact congrArg₂ gated
    (congrArg₂ (fun a b : EReal => a + b) (Finset.sum_congr rfl fun k _ => congrArg₂ (fun a b : EReal => a * b) (rows_apply m c t _ k _ rfl)
      ((pay2_apply _ k _).trans (left_apply m c t k _ _ rfl))) (leftBias_apply m c t _ _ rfl))
    (congrArg₂ (fun a b : EReal => a + b) (Finset.sum_congr rfl fun k _ => congrArg₂ (fun a b : EReal => a * b) (rows_apply m c t _ k _ rfl)
      ((pay3_apply _ k _).trans (right_apply m c t k _ _ rfl))) (rightBias_apply m c t _ _ rfl))

/-- The array after the run. -/
theorem final (c : Dev nD) : (dats m 0 c).arrAt 5 cfg0.N
    = result (m ((c : Thread nD τ).loc main_arg0)) (m ((c : Thread nD τ).loc main_arg1)) (m ((c : Thread nD τ).loc main_arg2)) :=
  (dats m 0 c).arrAt_eq_of_cover 5 _ (fun t _ => flushed_eq m c t) (fun i => (Cert.GluIdeal.Value.covered_iff5 i).2 (by
    have h0 : (i 0).val < 8192 := (i 0).isLt; have h1 : (i 1).val < 2048 := (i 1).isLt; omega))

end

section
open Cert.GluRefIdeal.Read

/-- The reference's biased product at an element. -/
theorem ref_dot (x0 : FVec Ideal S8192x2048 .bf16) (x1 : FVec Ideal S2x2048x4096 .f32) (x2 : FVec Ideal S2x4096 .f32) (r : Fin 8192) (s : Fin 4096)
    (i : Cert.GluRefIdeal.S4x2048x4096.Idx) (h : (i 0).val * 2048 + (i 1).val = r.val) (hs : (i 2).val = s.val) :
    val_main_v9 (F := Ideal) x0 x1 x2 i = rowCol x0 x1 x2 r s := by
  rw [val_main_v9_apply, val_main_v4_apply, val_main_v8_apply, val_main_v7_apply, val_main_v6_apply, val_main_v5_apply]
  have hs' : s.val < 4096 := s.isLt
  refine congrArg₂ (fun a b : EReal => a + b) (Finset.sum_congr rfl fun k _ => ?_) (congrArg x2 (funext fun a => Fin.ext ?_))
  · rw [val_main_v1_apply, val_main_v3_apply, val_main_v2_apply]
    have hk : k.val < 2048 := k.isLt
    refine congrArg₂ (fun a b : EReal => a * b) (congrArg x0 (funext fun a => Fin.ext ?_)) (congrArg x1 (funext fun a => Fin.ext ?_))
    · match a with
      | ⟨0, _⟩ => show (((i 0).val * 2048 + (i 1).val) * 2048 + k.val) / 2048 = r.val; omega
      | ⟨1, _⟩ => show (((i 0).val * 2048 + (i 1).val) * 2048 + k.val) % 2048 = k.val; omega
    · match a with
      | ⟨0, _⟩ => rfl
      | ⟨1, _⟩ => show (k.val * 4096 + (i 2).val) / 4096 % 2048 = k.val; omega
      | ⟨2, _⟩ => show (k.val * 4096 + (i 2).val) % 4096 = s.val; omega
  · match a with
    | ⟨0, _⟩ => rfl
    | ⟨1, _⟩ => show (i 2).val % 4096 = s.val; omega

/-- The reference's result. -/
theorem ref_eq (x0 : FVec Ideal S8192x2048 .bf16) (x1 : FVec Ideal S2x2048x4096 .f32) (x2 : FVec Ideal S2x4096 .f32) :
    val_main_v19 (F := Ideal) x0 x1 x2 = result x0 x1 x2 := by
  funext y
  have h0 : (y 0).val < 8192 := (y 0).isLt
  have h1 : (y 1).val < 2048 := (y 1).isLt
  have key := ref_dot x0 x1 x2 (y 0) ⟨(y 1).val, by omega⟩ (idx_main_v10 (idx_main_v19 y)) (by
      show ((y 0).val * 2048 + (y 1).val) / 4194304 * 2048 + ((y 0).val * 2048 + (y 1).val) / 2048 % 2048 = (y 0).val; omega)
    (by show ((y 0).val * 2048 + (y 1).val) % 2048 = (y 1).val; omega)
  have key' := ref_dot x0 x1 x2 (y 0) ⟨2048 + (y 1).val, by omega⟩ (idx_main_v11 (idx_main_v19 y)) (by
      show ((y 0).val * 2048 + (y 1).val) / 4194304 * 2048 + ((y 0).val * 2048 + (y 1).val) / 2048 % 2048 = (y 0).val; omega)
    (by show 2048 + ((y 0).val * 2048 + (y 1).val) % 2048 = 2048 + (y 1).val; omega)
  rw [val_main_v19_apply, val_main_v18_apply, val_main_v10_apply, val_main_v17_apply, val_main_v16_apply, val_main_v15_apply,
    val_main_v14_apply, val_main_v13_apply, val_main_v12_apply, val_main_v11_apply, val_main_cst_apply, val_main_cst_0_apply, key, key']
  pointwise []
  rfl

end

end Cert.GluEqual

end
-- ==== Proof.ProjEqual.lean ====
/- The input-projection call: what each grid point leaves, the weight block in scratch being that of the point's column
   block; and over the extended reals the result, of the kernel and of the reference, as rows times columns. -/
module

public import proofs.«01_k».proof.Proof.Gen.ProjIdeal.Value
public import proofs.«01_k».proof.Proof.Dots
public import proofs.«01_k».proof.Proof.Gen.ProjRefIdeal.Read
public import proofs.«01_k».proof.Proof.Gen.ProjRefIdeal.Run
public import Idealize.ShloMosaic.Lib.WritesUnit

@[expose] public section

set_option maxRecDepth 16384

noncomputable section

namespace Cert.ProjEqual

open Idealize.ShloMosaic Idealize.ShloMosaic.TcCoe Idealize.ShloMosaic.Tactic
open Cert.ProjIdeal Cert.ProjIdeal.Gen

section
variable {F : FTy → Type} [FloatOps F]

/-- The two stores of the output block, from the rows `x` and the scratch `s`. -/
def outPieces (x : Vec F S2048x2048 .bf16) (s : Vec F S2048x1024 .bf16) : List (View.Piece (Elt F) S2048x1024 .bf16) :=
  [⟨Rect.unit (s := S2048x1024) ![1024, 0] S1024x1024.size inb_S2048x1024_S1024x1024_1024_0,
      k0_pay3 (View.ld x (Rect.unit (s := S2048x2048) ![1024, 0] S1024x2048.size inb_S2048x2048_S1024x2048_1024_0)) s⟩,
    ⟨Rect.unit (s := S2048x1024) ![0, 0] S1024x1024.size inb_S2048x1024_S1024x1024_0_0,
      k0_pay2 (View.ld x (Rect.unit (s := S2048x2048) ![0, 0] S1024x2048.size inb_S2048x2048_S1024x2048_0_0)) s⟩]

theorem zero2 : (![0, 0] : Fin S2048x1024.rank → Nat) = fun _ => 0 := by
  funext a; match a with | ⟨0, _⟩ => rfl | ⟨1, _⟩ => rfl
theorem zero3 : (![0, 0, 0] : Fin S1x2048x1024.rank → Nat) = fun _ => 0 := by
  funext a; match a with | ⟨0, _⟩ => rfl | ⟨1, _⟩ => rfl | ⟨2, _⟩ => rfl

variable (c : Dev nD) (i : grid0.Coords) (arg2 : Memref sig .tc .vmem S2048x2048 .bf16) (harg2 : arg2.IsWhole)
  (arg3 : Memref sig .tc .vmem S1x2048x1024 .f32) (harg3 : arg3.IsWhole) (arg4 : Memref sig .tc .vmem S2048x1024 .bf16) (harg4 : arg4.IsWhole)
  (arg5 : Memref sig .tc .vmem S2048x1024 .bf16) (harg5 : arg5.IsWhole)
  (x0 : Vec F S2048x2048 .bf16) (x1 : Vec F S1x2048x1024 .f32) (s : Vec F S2048x1024 .bf16)

theorem outB (hc0 : ¬cond0_0 i) :
    out0_B_2 c i arg2 harg2 arg3 harg3 arg4 harg4 arg5 harg5 hc0 x0 x1 s = View.canon (outPieces x0 s) := by
  unfold out0_B_2
  rw [View.read_writes_junk_eq_canon]
  refine congrArg _ ?_
  unfold kernelRun0_B; dsimp only
  sl_unfold_words
  simp only [View.readAt_eq_ld, harg2.read_unread, harg3.read_unread, harg5.read_unread]
  rw [View.ld_unit_zero (S := S2048x1024) zero2]
  rfl

theorem piecesA (hc0 : cond0_0 i) :
    (kernelRun0_A c i arg2 harg2 arg3 harg3 arg4 harg4 arg5 harg5 hc0 x0 x1).1 = outPieces x0 (k0_pay1 x1)
      ∧ (kernelRun0_A c i arg2 harg2 arg3 harg3 arg4 harg4 arg5 harg5 hc0 x0 x1).2.1
        = [⟨Rect.unit (s := S2048x1024) ![0, 0] S2048x1024.size inb_S2048x1024_S2048x1024_0_0, k0_pay1 x1⟩] := by
  unfold kernelRun0_A; dsimp only
  sl_unfold_words
  simp only [View.readAt_eq_ld, harg2.read_unread, harg3.read_unread]
  rw [View.ld_unit_zero (S := S1x2048x1024) zero3, View.readCov_unit_zero (S := S2048x1024) _ zero2]
  exact ⟨rfl, rfl⟩

theorem outA (hc0 : cond0_0 i) :
    out0_A_2 c i arg2 harg2 arg3 harg3 arg4 harg4 arg5 harg5 hc0 x0 x1 = View.canon (outPieces x0 (k0_pay1 x1)) := by
  unfold out0_A_2
  rw [View.read_writes_junk_eq_canon]
  exact congrArg _ (piecesA c i arg2 harg2 arg3 harg3 arg4 harg4 arg5 harg5 x0 x1 hc0).1

theorem scratchA (hc0 : cond0_0 i) :
    sout0_A_0 c i arg2 harg2 arg3 harg3 arg4 harg4 arg5 harg5 hc0 x0 x1 = k0_pay1 x1 := by
  unfold sout0_A_0
  rw [View.read_writes_junk_eq_canon, (piecesA c i arg2 harg2 arg3 harg3 arg4 harg4 arg5 harg5 x0 x1 hc0).2]
  exact View.canon_unit_zero (Val := Elt F) (e := .bf16) (S := S2048x1024) zero2 _ _
end

section
variable {F : FTy → Type} [FloatOps F]
variable (m : (ℓ : Loc nD τ sig) → Buf (Elt F) ℓ)

theorem bound (t : Fin cfg0.N) : t.val < 24 := lt_of_lt_of_eq t.isLt (show cfg0.N = 24 from N_0)

theorem idx_facts : ∀ t : Fin cfg0.N, win0_0.index t (0 : Fin 2) = t.val % 4 ∧ win0_0.index t (1 : Fin 2) = 0
    ∧ win0_1.index t (0 : Fin 3) = 0 ∧ win0_1.index t (1 : Fin 3) = 0 ∧ win0_1.index t (2 : Fin 3) = t.val / 4
    ∧ win0_2.index t (0 : Fin 2) = t.val % 4 ∧ win0_2.index t (1 : Fin 2) = t.val / 4 :=
  (by decide +kernel : ∀ t : Fin grid0.N, _)

/-- The weight block of points of one column block is the same. -/
theorem weight_eq (c : Dev nD) (t t' : Fin cfg0.N) (h : t.val / 4 = t'.val / 4) : iblk m c 1 t = iblk m c 1 t' := by
  obtain ⟨-, -, a0, a1, a2, -⟩ := idx_facts t
  obtain ⟨-, -, b0, b1, b2, -⟩ := idx_facts t'
  funext y
  show V m c main_arg1 (((cfg0.win 1).blk t).view.emb y) = V m c main_arg1 (((cfg0.win 1).blk t').view.emb y)
  refine congrArg _ (funext fun a => Fin.ext ?_)
  match a with
  | ⟨0, _⟩ => show win0_1.index t (0 : Fin 3) * 1 + 1 * (y 0).val = win0_1.index t' (0 : Fin 3) * 1 + 1 * (y 0).val; rw [a0, b0]
  | ⟨1, _⟩ => show win0_1.index t (1 : Fin 3) * 2048 + 1 * (y 1).val = win0_1.index t' (1 : Fin 3) * 2048 + 1 * (y 1).val; rw [a1, b1]
  | ⟨2, _⟩ => show win0_1.index t (2 : Fin 3) * 1024 + 1 * (y 2).val = win0_1.index t' (2 : Fin 3) * 1024 + 1 * (y 2).val; rw [a2, b2, h]

/-- After every point the scratch holds the point's weight block, rounded. -/
theorem scratch_eq (c : Dev nD) : ∀ (n : ℕ) (t : Fin cfg0.N), t.val = n → (outsAt0 m c t.val t.isLt).2 = k0_pay1 (iblk m c 1 t) := by
  intro n
  induction n with
  | zero =>
    intro t h
    have h0 : t.val % 4 = 0 := by omega
    rw [outsAt0_A m c t h0]
    dsimp only; rw [scratchA]
  | succ n ih =>
    intro t h
    by_cases h0 : t.val % 4 = 0
    · rw [outsAt0_A m c t h0]
      dsimp only; rw [scratchA]
    · have hl : t.val - 1 < cfg0.N := Nat.lt_of_le_of_lt (Nat.sub_le _ _) t.isLt
      rw [outsAt0_B m c t h0]
      refine ((ih ⟨t.val - 1, hl⟩ (by show t.val - 1 = n; omega)).trans ?_)
      rw [weight_eq m c ⟨t.val - 1, hl⟩ t (by show (t.val - 1) / 4 = t.val / 4; omega)]

/-- So what a point leaves in the output block is computed from its own blocks. -/
theorem out_eq (c : Dev nD) (t : Fin cfg0.N) :
    (outsAt0 m c t.val t.isLt).1 = View.canon (outPieces (iblk m c 0 t) (k0_pay1 (iblk m c 1 t))) := by
  by_cases h0 : t.val % 4 = 0
  · rw [outsAt0_A m c t h0]
    dsimp only; rw [outA]
  · have hl : t.val - 1 < cfg0.N := Nat.lt_of_le_of_lt (Nat.sub_le _ _) t.isLt
    rw [outsAt0_B m c t h0]
    dsimp only; rw [outB]
    rw [scratch_eq m c (t.val - 1) ⟨t.val - 1, hl⟩ rfl, weight_eq m c ⟨t.val - 1, hl⟩ t (by show (t.val - 1) / 4 = t.val / 4; omega)]

end

/-- Rows times columns. -/
def result (h : FVec Ideal S8192x2048 .bf16) (w : FVec Ideal S1x2048x6144 .f32) : FVec Ideal S8192x6144 .bf16 :=
  fun y => ∑ k : Fin 2048, (h (ix2 (y 0) k) * w (ix3 (0 : Fin 1) k (y 1)) : EReal)

theorem pay1_apply (W : Vec Ideal S1x2048x1024 .f32) (k : Fin 2048) (q : Fin 1024) :
    (k0_pay1 W : FVec Ideal S2048x1024 .bf16) (ix2 k q) = W (ix3 (0 : Fin 1) k q) := by
  pointwise [k0_pay1]

theorem pay2_apply (a : FVec Ideal S1024x2048 .bf16) (s : FVec Ideal S2048x1024 .bf16) (p q : Fin 1024) :
    (k0_pay2 a s : FVec Ideal S1024x1024 .bf16) (ix2 p q) = ∑ k : Fin 2048, a (ix2 p k) * s (ix2 k q) :=
  Dots.product_apply dot_S1024x2048_S2048x1024_S1024x1024_1_0_0_1_n_n rfl a s p q

theorem pay3_eq (a : Vec Ideal S1024x2048 .bf16) (s : Vec Ideal S2048x1024 .bf16) : k0_pay3 a s = k0_pay2 a s := rfl

theorem block_apply (x : FVec Ideal S2048x2048 .bf16) (s : FVec Ideal S2048x1024 .bf16) (p : Fin 2048) (q : Fin 1024) :
    (View.canon (outPieces (F := Ideal) x s) : FVec Ideal S2048x1024 .bf16) (ix2 p q) = ∑ k : Fin 2048, x (ix2 p k) * s (ix2 k q) := by
  unfold outPieces
  have hp := p.isLt
  by_cases h : 1024 ≤ p.val
  · have hv : p.val = 1024 + (p.val - 1024) := by omega
    refine (Dots.canon_low (F := Ideal) _ _ _ _ p q ⟨p.val - 1024, by omega⟩ hv).trans ?_
    rw [pay3_eq, pay2_apply]
    exact Finset.sum_congr rfl fun k _ => congrArg (fun a : EReal => a * s (ix2 k q))
      (Dots.ld_low (F := Ideal) (e := .bf16) inb_S2048x2048_S1024x2048_1024_0 x p k ⟨p.val - 1024, by omega⟩ hv)
  · refine (Dots.canon_high (F := Ideal) _ _ _ _ p q ⟨p.val, by omega⟩ rfl).trans ?_
    rw [pay2_apply]
    exact Finset.sum_congr rfl fun k _ => congrArg (fun a : EReal => a * s (ix2 k q))
      (Dots.ld_high (F := Ideal) (e := .bf16) inb_S2048x2048_S1024x2048_0_0 x p k ⟨p.val, by omega⟩ rfl)

section
variable (m : (ℓ : Loc nD τ sig) → Buf (Elt Ideal) ℓ)

theorem rows_apply (c : Dev nD) (t : Fin cfg0.N) (p k : Fin 2048) (r : Fin 8192) (hr : r.val = 2048 * (t.val % 4) + p.val) :
    (iblk m c 0 t : Vec Ideal S2048x2048 .bf16) (ix2 p k) = m ((c : Thread nD τ).loc main_arg0) (ix2 r k) := by
  obtain ⟨e0, e1, -⟩ := idx_facts t
  show V m c main_arg0 (((cfg0.win 0).blk t).view.emb (ix2 p k)) = _
  rw [V_main_arg0]
  refine congrArg _ (funext fun a => Fin.ext ?_)
  match a with
  | ⟨0, _⟩ => show win0_0.index t (0 : Fin 2) * 2048 + 1 * p.val = r.val; rw [e0, hr]; omega
  | ⟨1, _⟩ => show win0_0.index t (1 : Fin 2) * 2048 + 1 * k.val = k.val; rw [e1]; omega

theorem cols_apply (c : Dev nD) (t : Fin cfg0.N) (k : Fin 2048) (q : Fin 1024) (s : Fin 6144) (hs : s.val = 1024 * (t.val / 4) + q.val) :
    (iblk m c 1 t : Vec Ideal S1x2048x1024 .f32) (ix3 (0 : Fin 1) k q) = m ((c : Thread nD τ).loc main_arg1) (ix3 (0 : Fin 1) k s) := by
  obtain ⟨-, -, e0, e1, e2, -⟩ := idx_facts t
  show V m c main_arg1 (((cfg0.win 1).blk t).view.emb (ix3 (0 : Fin 1) k q)) = _
  rw [V_main_arg1]
  refine congrArg _ (funext fun a => Fin.ext ?_)
  match a with
  | ⟨0, _⟩ => show win0_1.index t (0 : Fin 3) * 1 + 1 * 0 = 0; rw [e0]
  | ⟨1, _⟩ => show win0_1.index t (1 : Fin 3) * 2048 + 1 * k.val = k.val; rw [e1]; omega
  | ⟨2, _⟩ => show win0_1.index t (2 : Fin 3) * 1024 + 1 * q.val = s.val; rw [e2, hs]; omega

/-- Each point writes its block of the result. -/
theorem flushed_eq (c : Dev nD) (t : Fin cfg0.N) :
    (dats m 0 c).flushed 2 t = ((cfg0.win 2).blk t).view.read (Elt Ideal)
      (result (m ((c : Thread nD τ).loc main_arg0)) (m ((c : Thread nD τ).loc main_arg1))) := by
  rw [Cert.ProjIdeal.Value.flushed2, out_eq]
  obtain ⟨-, -, -, -, -, i0, i1⟩ := idx_facts t
  have ht := bound t
  funext j
  have l0 : (j 0).val < 2048 := (j 0).isLt
  have l1 : (j 1).val < 1024 := (j 1).isLt
  have ej : (cfg0.win 2).xinj (grid0.coords t) j = (ix2 (⟨(j 0).val, l0⟩ : Fin 2048) (⟨(j 1).val, l1⟩ : Fin 1024) : S2048x1024.Idx) :=
    funext fun a => Fin.ext (by match a with | ⟨0, _⟩ => rfl | ⟨1, _⟩ => rfl)
  have ei : ((cfg0.win 2).blk t).view.emb j
      = (ix2 (⟨2048 * (t.val % 4) + (j 0).val, by omega⟩ : Fin 8192) (⟨1024 * (t.val / 4) + (j 1).val, by omega⟩ : Fin 6144) : S8192x6144.Idx) := by
    refine funext fun a => Fin.ext ?_
    match a with
    | ⟨0, _⟩ => show win0_2.index t (0 : Fin 2) * 2048 + 1 * (j 0).val = 2048 * (t.val % 4) + (j 0).val; rw [i0]; omega
    | ⟨1, _⟩ => show win0_2.index t (1 : Fin 2) * 1024 + 1 * (j 1).val = 1024 * (t.val / 4) + (j 1).val; rw [i1]; omega
  show View.canon (outPieces (F := Ideal) (iblk m c 0 t) (k0_pay1 (iblk m c 1 t))) ((cfg0.win 2).xinj (grid0.coords t) j)
    = result (m ((c : Thread nD τ).loc main_arg0)) (m ((c : Thread nD τ).loc main_arg1)) (((cfg0.win 2).blk t).view.emb j)
  rw [ej, ei]
  refine (block_apply _ _ _ _).trans ?_
  exact Finset.sum_congr rfl fun k _ => congrArg₂ (fun a b : EReal => a * b) (rows_apply m c t _ k _ rfl)
    ((pay1_apply _ k _).trans (cols_apply m c t k _ _ rfl))

/-- The array after the run. -/
theorem final (c : Dev nD) :
    (dats m 0 c).arrAt 2 cfg0.N = result (m ((c : Thread nD τ).loc main_arg0)) (m ((c : Thread nD τ).loc main_arg1)) :=
  (dats m 0 c).arrAt_eq_of_cover 2 _ (fun t _ => flushed_eq m c t) (fun i => (Cert.ProjIdeal.Value.covered_iff2 i).2 (by
    have h0 : (i 0).val < 8192 := (i 0).isLt; have h1 : (i 1).val < 6144 := (i 1).isLt; omega))

end

section
open Cert.ProjRefIdeal.Read

/-- The reference's result. -/
theorem ref_eq (x0 : FVec Ideal S8192x2048 .bf16) (x1 : FVec Ideal S1x2048x6144 .f32) :
    val_main_v5 (F := Ideal) x0 x1 = result x0 x1 := by
  funext y
  have h0 : (y 0).val < 8192 := (y 0).isLt
  have h1 : (y 1).val < 6144 := (y 1).isLt
  rw [val_main_v5_apply, val_main_v4_apply, val_main_v3_apply]
  refine Finset.sum_congr rfl fun k _ => ?_
  have hk : k.val < 2048 := k.isLt
  rw [val_main_v1_apply, val_main_v2_apply]
  refine congrArg₂ (fun a b : EReal => a * b) (congrArg x0 (funext fun a => Fin.ext ?_)) (congrArg x1 (funext fun a => Fin.ext ?_))
  · match a with
    | ⟨0, _⟩ => show ((((y 0).val * 6144 + (y 1).val) / 12582912 * 2048 + ((y 0).val * 6144 + (y 1).val) / 6144 % 2048) * 2048 + k.val) / 2048 = (y 0).val; omega
    | ⟨1, _⟩ => show ((((y 0).val * 6144 + (y 1).val) / 12582912 * 2048 + ((y 0).val * 6144 + (y 1).val) / 6144 % 2048) * 2048 + k.val) % 2048 = k.val; omega
  · match a with
    | ⟨0, _⟩ => rfl
    | ⟨1, _⟩ => show (k.val * 6144 + ((y 0).val * 6144 + (y 1).val) % 6144) / 6144 % 2048 = k.val; omega
    | ⟨2, _⟩ => show (k.val * 6144 + ((y 0).val * 6144 + (y 1).val) % 6144) % 6144 = (y 1).val; omega

end

end Cert.ProjEqual

end
-- ==== Proof.DownBody.lean ====
/- The down-projection call's first grid point: its program as a sequence of chunks, and what one chunk does. -/
module

public import proofs.«01_k».proof.Proof.Gen.DownIdeal.Frame
public import proofs.«01_k».proof.Proof.Gen.DownIdeal.Skeleton
public import Idealize.ShloMosaic.Lib.Claim
public import Idealize.ShloMosaic.Lib.Pipeline.Value

@[expose] public section

set_option maxRecDepth 16384

noncomputable section

namespace Cert.DownRun

open Cert.DownIdeal Cert.DownIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-- The weights in HBM, and the body's scratch: the rounded weights, the four staging slots, the two products. -/
abbrev wtM : Memref sig .tc .hbm S4x2x5504x2048 .f32 := Memref.whole main_arg1
abbrev wbM : Memref sig .tc .vmem S5504x2048 .bf16 := Memref.whole cc0_scratch0
abbrev stM : Memref sig .tc .vmem S4x128x2048 .f32 := Memref.whole cc0_scratch1
abbrev yM : Memref sig .tc .vmem S2x256x2048 .f32 := Memref.whole cc0_scratch3
theorem hwb : wbM.IsWhole := Memref.isWhole_whole _
theorem hst : stM.IsWhole := Memref.isWhole_whole _
theorem hy : yM.IsWhole := Memref.isWhole_whole _
theorem hwt : wtM.IsWhole := Memref.isWhole_whole _

theorem inbSlot (s : Fin 4) : ∀ a, (![s.val, 0, 0] : Fin 3 → ℕ) a + S1x128x2048.size a ≤ S4x128x2048.size a := by
  intro a; have := s.isLt
  match a with
  | ⟨0, _⟩ => show s.val + 1 ≤ 4; omega
  | ⟨1, _⟩ => show 0 + 128 ≤ 128; omega
  | ⟨2, _⟩ => show 0 + 2048 ≤ 2048; omega
theorem inbBlk (c : ℕ) : ∀ a, (![3, 1, 128 * (c % 43), 0] : Fin 4 → ℕ) a + S1x1x128x2048.size a ≤ S4x2x5504x2048.size a := by
  intro a; have := Nat.mod_lt c (show 43 > 0 by decide)
  match a with
  | ⟨0, _⟩ => show 3 + 1 ≤ 4; omega
  | ⟨1, _⟩ => show 1 + 1 ≤ 2; omega
  | ⟨2, _⟩ => show 128 * (c % 43) + 128 ≤ 5504; omega
  | ⟨3, _⟩ => show 0 + 2048 ≤ 2048; omega
theorem inbCell (s : Fin 4) : ∀ a, (![s.val] : Fin 1 → ℕ) a + S1.size a ≤ S4.size a := by
  intro a; have := s.isLt
  match a with
  | ⟨0, _⟩ => show s.val + 1 ≤ 4; omega
theorem inbRow (c : ℕ) : ∀ a, (![128 * (c % 43), 0] : Fin 2 → ℕ) a + S128x2048.size a ≤ S5504x2048.size a := by
  intro a; have := Nat.mod_lt c (show 43 > 0 by decide)
  match a with
  | ⟨0, _⟩ => show 128 * (c % 43) + 128 ≤ 5504; omega
  | ⟨1, _⟩ => show 0 + 2048 ≤ 2048; omega
theorem inbCol (c : ℕ) : ∀ a, (![0, 128 * (c % 43)] : Fin 2 → ℕ) a + S256x128.size a ≤ S256x5504.size a := by
  intro a; have := Nat.mod_lt c (show 43 > 0 by decide)
  match a with
  | ⟨0, _⟩ => show 0 + 256 ≤ 256; omega
  | ⟨1, _⟩ => show 128 * (c % 43) + 128 ≤ 5504; omega

abbrev rSlot (s : Fin 4) : Rect S4x128x2048 := Rect.unit (s := S4x128x2048) ![s.val, 0, 0] S1x128x2048.size (inbSlot s)
abbrev rBlk (c : ℕ) : Rect S4x2x5504x2048 := Rect.unit (s := S4x2x5504x2048) ![3, 1, 128 * (c % 43), 0] S1x1x128x2048.size (inbBlk c)
abbrev rRow (c : ℕ) : Rect S5504x2048 := Rect.unit (s := S5504x2048) ![128 * (c % 43), 0] S128x2048.size (inbRow c)
abbrev rCol (c : ℕ) : Rect S256x5504 := Rect.unit (s := S256x5504) ![0, 128 * (c % 43)] S256x128.size (inbCol c)
abbrev rY0 : Rect S2x256x2048 := Rect.unit (s := S2x256x2048) ![0, 0, 0] S1x256x2048.size inb_S2x256x2048_S1x256x2048_0_0_0
abbrev rY1 : Rect S2x256x2048 := Rect.unit (s := S2x256x2048) ![1, 0, 0] S1x256x2048.size inb_S2x256x2048_S1x256x2048_1_0_0

/-- Staging slot `s`, weight block `c` and the slot's transfer cell. -/
abbrev slotM (s : Fin 4) : Memref sig .tc .vmem S128x2048 .f32 :=
  (stM.slice (rSlot s) (fun _ => rfl)).squeeze S128x2048 squeezes_S1x128x2048_S128x2048
abbrev blkM (c : ℕ) : Memref sig .tc .hbm S128x2048 .f32 :=
  (wtM.slice (rBlk c) (fun _ => rfl)).squeeze S128x2048 squeezes_S1x1x128x2048_S128x2048
abbrev cell (s : Fin 4) : DmaSem sig :=
  ((cc0_scratch2.slice (Rect.unit (s := S4) ![s.val] S1.size (inbCell s)) : DmaSems sig S1).squeeze S_ squeezes_S1_S_).sem

theorem packedRow (c : ℕ) : (rRow c).PackedRows (EltTy.packing .bf16) := by
  have h : ∀ k : Fin 43, (Rect.unit (s := S5504x2048) ![128 * k.val, 0] S128x2048.size
      (by have := inbRow k.val; rwa [Nat.mod_eq_of_lt k.isLt] at this)).PackedRows (EltTy.packing .bf16) := by decide
  exact h ⟨c % 43, Nat.mod_lt _ (by decide)⟩

/-- The program's own steps: starting the transfer of block `c` into slot `s`. -/
def issue (s : Fin 4) (c : ℕ) : Prog (TpuEff nD τ sig (Elt F) Λ₀ .tc) PUnit :=
  Prog.lift (.enqueueDma (blkM c) (.here (slotM s)) (.dma (cell s)) ((View.wordExact_bits rfl).reshape _ _) ((View.wordExact_bits rfl).reshape _ _) ⟨Or.inl rfl, trivial⟩)

/-- Keeping block `c`, loaded as `v`, rounded. -/
def keep (c : ℕ) (v : Vec F S1x128x2048 .f32) : Prog (TpuEff nD τ sig (Elt F) Λ₀ .tc) PUnit := do
  let _w : Vec F S128x2048 .bf16 ← Prog.lift (.load wbM (rRow c).toLoadRect (View.loadsAt_vmem h_S128x2048))
  Prog.lift (.store wbM (rRow c) (k0_pay6 v) Finset.univ (View.stores_vmem h_S128x2048 (hwb.storeExact_slice rfl _ (packedRow c)) (fun _ => rfl)) (.inl rfl))

/-- Waiting for block `c` in slot `s`, and loading it. -/
def fetch (s : Fin 4) (c : ℕ) : Prog (TpuEff nD τ sig (Elt F) Λ₀ .tc) (Vec F S1x128x2048 .f32) := do
  Prog.lift (.waitDma2 (cell s) (blkM c) (slotM s) ((View.wordExact_bits rfl).reshape _ _) ((View.wordExact_bits rfl).reshape _ _))
  Prog.lift (.load stM (rSlot s).toLoadRect (View.loadsAt_vmem h_S1x128x2048))

/-- Adding block `c`'s product to the running product. -/
def add (arg1 : Memref sig .tc .vmem S256x5504 .bf16) (c : ℕ) (v : Vec F S1x128x2048 .f32) : Prog (TpuEff nD τ sig (Elt F) Λ₀ .tc) PUnit := do
  let a : Vec F S256x128 .bf16 ← Prog.lift (.load arg1 (rCol c).toLoadRect (View.loadsAt_vmem h_S256x128))
  let y : Vec F S1x256x2048 .f32 ← Prog.lift (.load yM rY0.toLoadRect (View.loadsAt_vmem h_S1x256x2048))
  let _z : Vec F S1x256x2048 .f32 ← Prog.lift (.load yM rY0.toLoadRect (View.loadsAt_vmem h_S1x256x2048))
  Prog.lift (.store yM rY0 (k0_pay7 v a y) Finset.univ (View.stores_vmem_bits_univ h_S1x256x2048 rfl) (.inl rfl))

/-- Starting the running product from block 0. -/
def start (arg1 : Memref sig .tc .vmem S256x5504 .bf16) (v : Vec F S1x128x2048 .f32) : Prog (TpuEff nD τ sig (Elt F) Λ₀ .tc) PUnit := do
  let a : Vec F S256x128 .bf16 ← Prog.lift (.load arg1 (rCol 0).toLoadRect (View.loadsAt_vmem h_S256x128))
  let _y : Vec F S1x256x2048 .f32 ← Prog.lift (.load yM rY0.toLoadRect (View.loadsAt_vmem h_S1x256x2048))
  Prog.lift (.store yM rY0 (k0_pay4 v a) Finset.univ (View.stores_vmem_bits_univ h_S1x256x2048 rfl) (.inl rfl))

def issues : Prog (TpuEff nD τ sig (Elt F) Λ₀ .tc) PUnit := do
  issue 0 0; issue 1 1; issue 2 2; issue 3 3
def chunk0 (arg1 : Memref sig .tc .vmem S256x5504 .bf16) : Prog (TpuEff nD τ sig (Elt F) Λ₀ .tc) PUnit := do
  let v ← fetch 0 0
  keep 0 v
  issue 0 4
  start arg1 v
def chunk (arg1 : Memref sig .tc .vmem S256x5504 .bf16) (s : Fin 4) (c : ℕ) : Prog (TpuEff nD τ sig (Elt F) Λ₀ .tc) PUnit := do
  let v ← fetch s c
  keep c v
  issue s (c + 4)
  add arg1 c v
def last (arg1 : Memref sig .tc .vmem S256x5504 .bf16) (s : Fin 4) (c : ℕ) : Prog (TpuEff nD τ sig (Elt F) Λ₀ .tc) PUnit := do
  let v ← fetch s c
  keep c v
  add arg1 c v

/-- The first point: four transfers started, 39 chunks each of which starts the transfer four blocks on, four chunks more. -/
def most (arg1 : Memref sig .tc .vmem S256x5504 .bf16) : Prog (TpuEff nD τ sig (Elt F) Λ₀ .tc) PUnit := do
  issues
  chunk0 arg1
  chunk arg1 1 1
  chunk arg1 2 2
  chunk arg1 3 3
  chunk arg1 0 4
  chunk arg1 1 5
  chunk arg1 2 6
  chunk arg1 3 7
  chunk arg1 0 8
  chunk arg1 1 9
  chunk arg1 2 10
  chunk arg1 3 11
  chunk arg1 0 12
  chunk arg1 1 13
  chunk arg1 2 14
  chunk arg1 3 15
  chunk arg1 0 16
  chunk arg1 1 17
  chunk arg1 2 18
  chunk arg1 3 19
  chunk arg1 0 20
  chunk arg1 1 21
  chunk arg1 2 22
  chunk arg1 3 23
  chunk arg1 0 24
  chunk arg1 1 25
  chunk arg1 2 26
  chunk arg1 3 27
  chunk arg1 0 28
  chunk arg1 1 29
  chunk arg1 2 30
  chunk arg1 3 31
  chunk arg1 0 32
  chunk arg1 1 33
  chunk arg1 2 34
  chunk arg1 3 35
  chunk arg1 0 36
  chunk arg1 1 37
  chunk arg1 2 38
  pure ⟨⟩
def rest (arg1 : Memref sig .tc .vmem S256x5504 .bf16) : Prog (TpuEff nD τ sig (Elt F) Λ₀ .tc) PUnit := do
  last arg1 3 39
  last arg1 0 40
  last arg1 1 41
  last arg1 2 42
def product (arg1 : Memref sig .tc .vmem S256x5504 .bf16) : Prog (TpuEff nD τ sig (Elt F) Λ₀ .tc) PUnit := do
  most arg1
  rest arg1

theorem inbY (b : Fin 2) : ∀ a, (![b.val, 0, 0] : Fin 3 → ℕ) a + S1x256x2048.size a ≤ S2x256x2048.size a := by
  intro a; have := b.isLt
  match a with
  | ⟨0, _⟩ => show b.val + 1 ≤ 2; omega
  | ⟨1, _⟩ => show 0 + 256 ≤ 256; omega
  | ⟨2, _⟩ => show 0 + 2048 ≤ 2048; omega
abbrev rY (b : Fin 2) : Rect S2x256x2048 := Rect.unit (s := S2x256x2048) ![b.val, 0, 0] S1x256x2048.size (inbY b)

/-- Writing the output block from product `b`. -/
def emit (arg3 : Memref sig .tc .vmem S256x2048 .f32) (arg4 : Memref sig .tc .vmem S1x1x1x2048 .f32)
    (arg5 : Memref sig .tc .vmem S1x2048 .f32) (arg6 : Memref sig .tc .vmem S256x2048 .f32) (b : Fin 2) : Prog (TpuEff nD τ sig (Elt F) Λ₀ .tc) PUnit := do
  let y : Vec F S1x256x2048 .f32 ← Prog.lift (.load yM (rY b).toLoadRect (View.loadsAt_vmem h_S1x256x2048))
  let x : Vec F S256x2048 .f32 ← Prog.lift (.load arg3 (Rect.unit (s := S256x2048) ![0, 0] S256x2048.size inb_S256x2048_S256x2048_0_0).toLoadRect (View.loadsAt_vmem h_S256x2048))
  let gt : Vec F S1x1x1x2048 .f32 ← Prog.lift (.load arg4 (Rect.unit (s := S1x1x1x2048) ![0, 0, 0, 0] S1x1x1x2048.size inb_S1x1x1x2048_S1x1x1x2048_0_0_0_0).toLoadRect (View.loadsAt_vmem h_S1x1x1x2048))
  let g : Vec F S1x2048 .f32 ← Prog.lift (.load arg5 (Rect.unit (s := S1x2048) ![0, 0] S1x2048.size inb_S1x2048_S1x2048_0_0).toLoadRect (View.loadsAt_vmem h_S1x2048))
  let _o : Vec F S256x2048 .f32 ← Prog.lift (.load arg6 (Rect.unit (s := S256x2048) ![0, 0] S256x2048.size inb_S256x2048_S256x2048_0_0).toLoadRect (View.loadsAt_vmem h_S256x2048))
  Prog.lift (.store arg6 (Rect.unit (s := S256x2048) ![0, 0] S256x2048.size inb_S256x2048_S256x2048_0_0) (k0_pay132 y x gt g) Finset.univ (View.stores_vmem_bits_univ h_S256x2048 rfl) (.inl rfl))

/-- Computing product `b` from the rounded weights. -/
def compute (arg1 : Memref sig .tc .vmem S256x5504 .bf16) (b : Fin 2) : Prog (TpuEff nD τ sig (Elt F) Λ₀ .tc) PUnit := do
  let a : Vec F S256x5504 .bf16 ← Prog.lift (.load arg1 (Rect.unit (s := S256x5504) ![0, 0] S256x5504.size inb_S256x5504_S256x5504_0_0).toLoadRect (View.loadsAt_vmem h_S256x5504))
  let w : Vec F S5504x2048 .bf16 ← Prog.lift (.load wbM (Rect.unit (s := S5504x2048) ![0, 0] S5504x2048.size inb_S5504x2048_S5504x2048_0_0).toLoadRect (View.loadsAt_vmem h_S5504x2048))
  let _y : Vec F S1x256x2048 .f32 ← Prog.lift (.load yM (rY b).toLoadRect (View.loadsAt_vmem h_S1x256x2048))
  Prog.lift (.store yM (rY b) (k0_pay133 a w) Finset.univ (View.stores_vmem_bits_univ h_S1x256x2048 rfl) (.inl rfl))

/-- The body's first test. -/
abbrev atZero (i : grid0.Coords) : Prop :=
  (Scalar.cmpi .ne (Scalar.extui (Scalar.cmpi .eq (BitVec.ofNat 32 (i 0).val) 0#32)) 0#32) = 1#1

section
variable (i : grid0.Coords) (arg1 : Memref sig .tc .vmem S256x5504 .bf16) (harg1 : arg1.IsWhole)
  (arg3 : Memref sig .tc .vmem S256x2048 .f32) (harg3 : arg3.IsWhole) (arg4 : Memref sig .tc .vmem S1x1x1x2048 .f32) (harg4 : arg4.IsWhole)
  (arg5 : Memref sig .tc .vmem S1x2048 .f32) (harg5 : arg5.IsWhole) (arg6 : Memref sig .tc .vmem S256x2048 .f32) (harg6 : arg6.IsWhole)

theorem part1_eq : k0_part1 (F := F) i arg1 harg1 wtM hwt arg3 harg3 arg4 harg4 arg5 harg5 arg6 harg6 wbM hwb stM hst cc0_scratch2 yM hy = issues := rfl
theorem part2_eq : k0_part2 (F := F) i arg1 harg1 wtM hwt arg3 harg3 arg4 harg4 arg5 harg5 arg6 harg6 wbM hwb stM hst cc0_scratch2 yM hy = chunk0 arg1 := rfl
theorem part3_eq : k0_part3 (F := F) i arg1 harg1 wtM hwt arg3 harg3 arg4 harg4 arg5 harg5 arg6 harg6 wbM hwb stM hst cc0_scratch2 yM hy = chunk arg1 1 1 := rfl
theorem part4_eq : k0_part4 (F := F) i arg1 harg1 wtM hwt arg3 harg3 arg4 harg4 arg5 harg5 arg6 harg6 wbM hwb stM hst cc0_scratch2 yM hy = chunk arg1 2 2 := rfl
theorem part5_eq : k0_part5 (F := F) i arg1 harg1 wtM hwt arg3 harg3 arg4 harg4 arg5 harg5 arg6 harg6 wbM hwb stM hst cc0_scratch2 yM hy = chunk arg1 3 3 := rfl
theorem part6_eq : k0_part6 (F := F) i arg1 harg1 wtM hwt arg3 harg3 arg4 harg4 arg5 harg5 arg6 harg6 wbM hwb stM hst cc0_scratch2 yM hy = chunk arg1 0 4 := rfl
theorem part7_eq : k0_part7 (F := F) i arg1 harg1 wtM hwt arg3 harg3 arg4 harg4 arg5 harg5 arg6 harg6 wbM hwb stM hst cc0_scratch2 yM hy = chunk arg1 1 5 := rfl
theorem part8_eq : k0_part8 (F := F) i arg1 harg1 wtM hwt arg3 harg3 arg4 harg4 arg5 harg5 arg6 harg6 wbM hwb stM hst cc0_scratch2 yM hy = chunk arg1 2 6 := rfl
theorem part9_eq : k0_part9 (F := F) i arg1 harg1 wtM hwt arg3 harg3 arg4 harg4 arg5 harg5 arg6 harg6 wbM hwb stM hst cc0_scratch2 yM hy = chunk arg1 3 7 := rfl
theorem part10_eq : k0_part10 (F := F) i arg1 harg1 wtM hwt arg3 harg3 arg4 harg4 arg5 harg5 arg6 harg6 wbM hwb stM hst cc0_scratch2 yM hy = chunk arg1 0 8 := rfl
theorem part11_eq : k0_part11 (F := F) i arg1 harg1 wtM hwt arg3 harg3 arg4 harg4 arg5 harg5 arg6 harg6 wbM hwb stM hst cc0_scratch2 yM hy = chunk arg1 1 9 := rfl
theorem part12_eq : k0_part12 (F := F) i arg1 harg1 wtM hwt arg3 harg3 arg4 harg4 arg5 harg5 arg6 harg6 wbM hwb stM hst cc0_scratch2 yM hy = chunk arg1 2 10 := rfl
theorem part13_eq : k0_part13 (F := F) i arg1 harg1 wtM hwt arg3 harg3 arg4 harg4 arg5 harg5 arg6 harg6 wbM hwb stM hst cc0_scratch2 yM hy = chunk arg1 3 11 := rfl
theorem part14_eq : k0_part14 (F := F) i arg1 harg1 wtM hwt arg3 harg3 arg4 harg4 arg5 harg5 arg6 harg6 wbM hwb stM hst cc0_scratch2 yM hy = chunk arg1 0 12 := rfl
theorem part15_eq : k0_part15 (F := F) i arg1 harg1 wtM hwt arg3 harg3 arg4 harg4 arg5 harg5 arg6 harg6 wbM hwb stM hst cc0_scratch2 yM hy = chunk arg1 1 13 := rfl
theorem part16_eq : k0_part16 (F := F) i arg1 harg1 wtM hwt arg3 harg3 arg4 harg4 arg5 harg5 arg6 harg6 wbM hwb stM hst cc0_scratch2 yM hy = chunk arg1 2 14 := rfl
theorem part17_eq : k0_part17 (F := F) i arg1 harg1 wtM hwt arg3 harg3 arg4 harg4 arg5 harg5 arg6 harg6 wbM hwb stM hst cc0_scratch2 yM hy = chunk arg1 3 15 := rfl
theorem part18_eq : k0_part18 (F := F) i arg1 harg1 wtM hwt arg3 harg3 arg4 harg4 arg5 harg5 arg6 harg6 wbM hwb stM hst cc0_scratch2 yM hy = chunk arg1 0 16 := rfl
theorem part19_eq : k0_part19 (F := F) i arg1 harg1 wtM hwt arg3 harg3 arg4 harg4 arg5 harg5 arg6 harg6 wbM hwb stM hst cc0_scratch2 yM hy = chunk arg1 1 17 := rfl
theorem part20_eq : k0_part20 (F := F) i arg1 harg1 wtM hwt arg3 harg3 arg4 harg4 arg5 harg5 arg6 harg6 wbM hwb stM hst cc0_scratch2 yM hy = chunk arg1 2 18 := rfl
theorem part21_eq : k0_part21 (F := F) i arg1 harg1 wtM hwt arg3 harg3 arg4 harg4 arg5 harg5 arg6 harg6 wbM hwb stM hst cc0_scratch2 yM hy = chunk arg1 3 19 := rfl
theorem part22_eq : k0_part22 (F := F) i arg1 harg1 wtM hwt arg3 harg3 arg4 harg4 arg5 harg5 arg6 harg6 wbM hwb stM hst cc0_scratch2 yM hy = chunk arg1 0 20 := rfl
theorem part23_eq : k0_part23 (F := F) i arg1 harg1 wtM hwt arg3 harg3 arg4 harg4 arg5 harg5 arg6 harg6 wbM hwb stM hst cc0_scratch2 yM hy = chunk arg1 1 21 := rfl
theorem part24_eq : k0_part24 (F := F) i arg1 harg1 wtM hwt arg3 harg3 arg4 harg4 arg5 harg5 arg6 harg6 wbM hwb stM hst cc0_scratch2 yM hy = chunk arg1 2 22 := rfl
theorem part25_eq : k0_part25 (F := F) i arg1 harg1 wtM hwt arg3 harg3 arg4 harg4 arg5 harg5 arg6 harg6 wbM hwb stM hst cc0_scratch2 yM hy = chunk arg1 3 23 := rfl
theorem part26_eq : k0_part26 (F := F) i arg1 harg1 wtM hwt arg3 harg3 arg4 harg4 arg5 harg5 arg6 harg6 wbM hwb stM hst cc0_scratch2 yM hy = chunk arg1 0 24 := rfl
theorem part27_eq : k0_part27 (F := F) i arg1 harg1 wtM hwt arg3 harg3 arg4 harg4 arg5 harg5 arg6 harg6 wbM hwb stM hst cc0_scratch2 yM hy = chunk arg1 1 25 := rfl
theorem part28_eq : k0_part28 (F := F) i arg1 harg1 wtM hwt arg3 harg3 arg4 harg4 arg5 harg5 arg6 harg6 wbM hwb stM hst cc0_scratch2 yM hy = chunk arg1 2 26 := rfl
theorem part29_eq : k0_part29 (F := F) i arg1 harg1 wtM hwt arg3 harg3 arg4 harg4 arg5 harg5 arg6 harg6 wbM hwb stM hst cc0_scratch2 yM hy = chunk arg1 3 27 := rfl
theorem part30_eq : k0_part30 (F := F) i arg1 harg1 wtM hwt arg3 harg3 arg4 harg4 arg5 harg5 arg6 harg6 wbM hwb stM hst cc0_scratch2 yM hy = chunk arg1 0 28 := rfl
theorem part31_eq : k0_part31 (F := F) i arg1 harg1 wtM hwt arg3 harg3 arg4 harg4 arg5 harg5 arg6 harg6 wbM hwb stM hst cc0_scratch2 yM hy = chunk arg1 1 29 := rfl
theorem part32_eq : k0_part32 (F := F) i arg1 harg1 wtM hwt arg3 harg3 arg4 harg4 arg5 harg5 arg6 harg6 wbM hwb stM hst cc0_scratch2 yM hy = chunk arg1 2 30 := rfl
theorem part33_eq : k0_part33 (F := F) i arg1 harg1 wtM hwt arg3 harg3 arg4 harg4 arg5 harg5 arg6 harg6 wbM hwb stM hst cc0_scratch2 yM hy = chunk arg1 3 31 := rfl
theorem part34_eq : k0_part34 (F := F) i arg1 harg1 wtM hwt arg3 harg3 arg4 harg4 arg5 harg5 arg6 harg6 wbM hwb stM hst cc0_scratch2 yM hy = chunk arg1 0 32 := rfl
theorem part35_eq : k0_part35 (F := F) i arg1 harg1 wtM hwt arg3 harg3 arg4 harg4 arg5 harg5 arg6 harg6 wbM hwb stM hst cc0_scratch2 yM hy = chunk arg1 1 33 := rfl
theorem part36_eq : k0_part36 (F := F) i arg1 harg1 wtM hwt arg3 harg3 arg4 harg4 arg5 harg5 arg6 harg6 wbM hwb stM hst cc0_scratch2 yM hy = chunk arg1 2 34 := rfl
theorem part37_eq : k0_part37 (F := F) i arg1 harg1 wtM hwt arg3 harg3 arg4 harg4 arg5 harg5 arg6 harg6 wbM hwb stM hst cc0_scratch2 yM hy = chunk arg1 3 35 := rfl
theorem part38_eq : k0_part38 (F := F) i arg1 harg1 wtM hwt arg3 harg3 arg4 harg4 arg5 harg5 arg6 harg6 wbM hwb stM hst cc0_scratch2 yM hy = chunk arg1 0 36 := rfl
theorem part39_eq : k0_part39 (F := F) i arg1 harg1 wtM hwt arg3 harg3 arg4 harg4 arg5 harg5 arg6 harg6 wbM hwb stM hst cc0_scratch2 yM hy = chunk arg1 1 37 := rfl
theorem part40_eq : k0_part40 (F := F) i arg1 harg1 wtM hwt arg3 harg3 arg4 harg4 arg5 harg5 arg6 harg6 wbM hwb stM hst cc0_scratch2 yM hy = chunk arg1 2 38 := rfl

/-- The first point's program. -/
theorem body_first (h1 : atZero i) (h2 : ¬k0_cond2 i = 1#1) (h3 : ¬k0_cond3 i = 1#1) (h4 : ¬k0_cond4 i = 1#1) :
    cc0_mm_resid (F := F) i arg1 harg1 wtM hwt arg3 harg3 arg4 harg4 arg5 harg5 arg6 harg6 wbM hwb stM hst cc0_scratch2 yM hy = product arg1 := by
  unfold cc0_mm_resid k0_part44 k0_part43
  dsimp only
  simp only [dif_pos h1, dif_neg h2, dif_neg h3, dif_neg h4, part1_eq, part2_eq, part3_eq, part4_eq, part5_eq, part6_eq, part7_eq, part8_eq, part9_eq, part10_eq, part11_eq, part12_eq, part13_eq, part14_eq, part15_eq, part16_eq, part17_eq, part18_eq, part19_eq, part20_eq, part21_eq, part22_eq, part23_eq, part24_eq, part25_eq, part26_eq, part27_eq, part28_eq, part29_eq, part30_eq, part31_eq, part32_eq, part33_eq, part34_eq, part35_eq, part36_eq, part37_eq, part38_eq, part39_eq, part40_eq]
  simp only [product, most, bind_assoc, pure_bind]
  rfl

/-- An even point's program. -/
theorem body_even (h1 : ¬atZero i) (h2 : k0_cond2 i = 1#1) (h3 : ¬k0_cond3 i = 1#1) (h4 : ¬k0_cond4 i = 1#1) :
    cc0_mm_resid (F := F) i arg1 harg1 wtM hwt arg3 harg3 arg4 harg4 arg5 harg5 arg6 harg6 wbM hwb stM hst cc0_scratch2 yM hy = (do emit arg3 arg4 arg5 arg6 1; compute arg1 0) := by
  unfold cc0_mm_resid k0_part44
  dsimp only
  simp only [dif_neg h1, dif_pos h2, dif_neg h3, dif_neg h4]
  rfl

/-- An odd point's program. -/
theorem body_odd (h1 : ¬atZero i) (h2 : ¬k0_cond2 i = 1#1) (h3 : k0_cond3 i = 1#1) (h4 : ¬k0_cond4 i = 1#1) :
    cc0_mm_resid (F := F) i arg1 harg1 wtM hwt arg3 harg3 arg4 harg4 arg5 harg5 arg6 harg6 wbM hwb stM hst cc0_scratch2 yM hy = (do emit arg3 arg4 arg5 arg6 0; compute arg1 1) := by
  unfold cc0_mm_resid k0_part44
  dsimp only
  simp only [dif_neg h1, dif_neg h2, dif_pos h3, dif_neg h4]
  rfl

/-- The last point's program. -/
theorem body_last (h1 : ¬atZero i) (h2 : ¬k0_cond2 i = 1#1) (h3 : ¬k0_cond3 i = 1#1) (h4 : k0_cond4 i = 1#1) :
    cc0_mm_resid (F := F) i arg1 harg1 wtM hwt arg3 harg3 arg4 harg4 arg5 harg5 arg6 harg6 wbM hwb stM hst cc0_scratch2 yM hy = emit arg3 arg4 arg5 arg6 1 := by
  unfold cc0_mm_resid k0_part44
  dsimp only
  simp only [dif_neg h1, dif_neg h2, dif_neg h3, dif_pos h4]
  rfl
end

end Cert.DownRun

end
-- ==== Proof.DownChunk.lean ====
/- What one chunk of the down-projection call's first point does. -/
module

public import proofs.«01_k».proof.Proof.DownBody
public import Idealize.ShloMosaic.Lib.Ring
public import Idealize.ShloMosaic.Lib.WritesUnit

@[expose] public section

set_option maxRecDepth 16384

noncomputable section

namespace Cert.DownRun

open Cert.DownIdeal Cert.DownIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (Pipeline.UD sig nD τ) ℕ

local notation "EC" => (countersEmb (U := Pipeline.UD sig nD τ) : UEmb Counters 𝕄)

abbrev T (c : Dev nD) : Thread nD τ := (c : Thread nD τ)

/-- Chunk `k`'s transfer into slot `s`, in flight from the weights `W` held at share `q`. -/
def Fly (c : Dev nD) (q : PosShare TreeShare) (W : Buf (Elt F) (wtM.view.loc (T c))) (s : Fin 4) (k : ℕ) : sProp 𝕄 :=
  iprop(∃ fd : Buf (Elt F) ((slotM s).view.loc (T c)),
    Transfers.Flight EC (T c) (.dma (cell s)) () (slotM s).view.dmaCredit
      iprop(((slotM s).view.loc (T c) ↦[(slotM s).view.set]{fullShare} (slotM s).view.write (Elt F) fd ((blkM k).view.read (Elt F) W) Finset.univ)
        ∗ ((blkM k).view.loc (T c) ↦[(blkM k).view.set]{q} W))
      ∗ (wtM.view.loc (T c) ↦[Finset.univ \ (blkM k).view.set]{q} W))

/-- Slot `s` with nothing in flight. -/
def Free (c : Dev nD) (q : PosShare TreeShare) (W : Buf (Elt F) (wtM.view.loc (T c))) (s : Fin 4) : sProp 𝕄 :=
  iprop((∃ fd : Buf (Elt F) ((slotM s).view.loc (T c)), (slotM s).view.loc (T c) ↦[(slotM s).view.set]{fullShare} fd)
    ∗ semVal (T c, SemLoc.dma (cell s)) 0 ∗ (wtM.view.loc (T c) ↦{q} W))

theorem credit_pos (s : Fin 4) : 0 < (slotM s).view.dmaCredit := (by decide : 0 < (slotM 0).view.dmaCredit)

set_option maxHeartbeats 1000000 in
theorem issue_wp (c : Dev nD) (q : PosShare TreeShare) (W : Buf (Elt F) (wtM.view.loc (T c))) (s : Fin 4) (k : ℕ) (K : PUnit → sProp 𝕄) :
    iprop(Free c q W s ∗ (Fly c q W s k -∗ K ⟨⟩))
      ⊢ wp frame (wpE (defs₀ (F := F)) Variants.none (T c) none) Set.univ (issue s k) K := by
  unfold Free issue
  iintro ⟨⟨⟨%fd, Hs⟩, Hv, Hw⟩, HK⟩
  ihave Hw' := (pointsTo_split_subset (Finset.subset_univ (blkM k).view.set)).1 $$ Hw
  icases Hw' with ⟨Hb, Hr⟩
  iapply (Transfers.wp_dmaLocal EC Variants.none (T c) none (src := blkM k) (dst := slotM s) () (slotM s).view.dmaCredit rfl (credit_pos s) subset_rfl) $$ [Hb Hs Hv]
  · isplitl [Hb]; · iexact Hb
    isplitl [Hs]; · iexact Hs
    iexact Hv
  iintro Hf
  sl_step
  iapply HK
  unfold Fly
  iexists fd
  isplitl [Hf]; · iexact Hf
  iexact Hr

/-- Block `k` of the weights, and it rounded. -/
def wblk {c : Dev nD} (W : Buf (Elt F) (wtM.view.loc (T c))) (k : ℕ) : FVec F S128x2048 .f32 := (blkM k).view.read (Elt F) W
def rblk {c : Dev nD} (W : Buf (Elt F) (wtM.view.loc (T c))) (k : ℕ) : FVec F S128x2048 .bf16 := truncf .bf16 (wblk W k) bitsLt_bf16_f32

/-- The rounded weights' first `k` blocks are in place. -/
def wbOK {c : Dev nD} (W : Buf (Elt F) (wtM.view.loc (T c))) (k : ℕ) (w : Vec F S5504x2048 .bf16) : Prop :=
  ∀ j, j < k → View.ld w (rRow j) = rblk W j

theorem set_slot (s : Fin 4) : stM.view.setOn (rSlot s).toLoadRect.set ⊆ (slotM s).view.set := by
  rw [show (slotM s).view.set = (stM.view.slice (rSlot s)).set from View.set_reshape _ _, View.set_slice]
  exact subset_rfl

theorem slot_read {c : Dev nD} (s : Fin 4) (f : Buf (Elt F) ((slotM s).view.loc (T c))) :
    shapeCast S128x2048 (stM.view.readAt (Elt F) (rSlot s).toLoadRect f) shapeCasts_S1x128x2048_S128x2048 = (slotM s).view.read (Elt F) f := rfl

theorem ld_row (w : Vec F S5504x2048 .bf16) (j : ℕ) (x : S128x2048.Idx) (y : S5504x2048.Idx)
    (h0 : (y 0).val = 128 * (j % 43) + (x 0).val) (h1 : (y 1).val = (x 1).val) : View.ld w (rRow j) x = w y := by
  rw [View.ld_unit]
  show w _ = w y
  congr 1
  funext a
  match a with
  | ⟨0, _⟩ => exact Fin.ext h0.symm
  | ⟨1, _⟩ => exact Fin.ext ((Nat.zero_add _).trans h1.symm)

/-- Storing block `k` keeps the earlier ones. -/
theorem wbOK_step {c : Dev nD} (W : Buf (Elt F) (wtM.view.loc (T c))) (k : ℕ) (hk : k < 43) (f : wbM.view.ty.Contents (Elt F))
    (h : wbOK W k (wbM.view.read (Elt F) f)) :
    wbOK W (k + 1) (wbM.view.read (Elt F) (wbM.view.writes (Elt F) f [⟨rRow k, rblk W k⟩])) := by
  intro j hj
  funext x
  have hj43 : j < 43 := by omega
  have hx := (x 0).isLt
  have hx' : (x 0).val < 128 := hx
  have hy : 128 * j + (x 0).val < 5504 := by omega
  have hjm : j % 43 = j := Nat.mod_eq_of_lt hj43
  have hkm : k % 43 = k := Nat.mod_eq_of_lt hk
  rw [ld_row _ j x (fun a => match a with | ⟨0, _⟩ => ⟨128 * j + (x 0).val, hy⟩ | ⟨1, _⟩ => x 1) (by rw [hjm]) rfl]
  by_cases e : j = k
  · subst e
    refine View.read_writes_cons_unit_of_mem (off' := ![128 * (j % 43), 0]) wbM.view f (inbRow j) (rblk W j) [] _ x rfl (fun a => ?_)
    match a with
    | ⟨0, _⟩ => show 128 * j + (x 0).val = 128 * (j % 43) + (x 0).val; rw [hjm]
    | ⟨1, _⟩ => exact (Nat.zero_add _).symm
  · have hjk : j < k := by omega
    rw [View.read_writes_cons_unit_of_not_mem (off' := ![128 * (k % 43), 0]) wbM.view f (inbRow k) (rblk W k) [] _ rfl 0
      (Or.inl (by show 128 * j + (x 0).val < 128 * (k % 43); rw [hkm]; omega))]
    rw [← h j hjk]
    exact (ld_row _ j x (fun a => match a with | ⟨0, _⟩ => ⟨128 * j + (x 0).val, hy⟩ | ⟨1, _⟩ => x 1) (by rw [hjm]) rfl).symm

/-- The rounded weights' scratch with its first `k` blocks in place. -/
def Wb (c : Dev nD) (W : Buf (Elt F) (wtM.view.loc (T c))) (k : ℕ) : sProp 𝕄 :=
  iprop(∃ f : Buf (Elt F) (wbM.view.loc (T c)), ⌜wbOK W k (wbM.view.read (Elt F) f)⌝ ∗ (wbM.view.loc (T c) ↦[wbM.view.set]{fullShare} f))

theorem pay6_of {c : Dev nD} (W : Buf (Elt F) (wtM.view.loc (T c))) (k : ℕ) (v : Vec F S1x128x2048 .f32)
    (hv : shapeCast S128x2048 v shapeCasts_S1x128x2048_S128x2048 = wblk W k) : k0_pay6 v = rblk W k := by
  unfold k0_pay6 k0_pay5 rblk
  dsimp only
  rw [hv]
  exact shapeCast_self _ _

set_option maxHeartbeats 1000000 in
theorem keep_wp (c : Dev nD) (W : Buf (Elt F) (wtM.view.loc (T c))) (k : ℕ) (hk : k < 43) (v : Vec F S1x128x2048 .f32)
    (hv : shapeCast S128x2048 v shapeCasts_S1x128x2048_S128x2048 = wblk W k) (K : PUnit → sProp 𝕄) :
    iprop(Wb c W k ∗ (Wb c W (k + 1) -∗ K ⟨⟩))
      ⊢ wp frame (wpE (defs₀ (F := F)) Variants.none (T c) none) Set.univ (keep k v) K := by
  unfold Wb keep
  iintro ⟨⟨%fb, %hb, HB⟩, HK⟩
  rw [pay6_of W k v hv]
  iapply (wp_load Variants.none (T c) none Set.univ (m := wbM) (r := (rRow k).toLoadRect) (S := wbM.view.set) (View.setOn_subset_set _ _)) $$ HB
  iintro HB
  iapply (wp_store Variants.none (T c) none Set.univ (m := wbM) (r := rRow k) (S := wbM.view.set) (Memref.setOn_access_subset _ _ _)) $$ HB
  iintro HB
  sl_step
  iapply HK
  iexists _
  isplitr; swap; · iexact HB
  ipureintro
  exact wbOK_step W k hk fb hb

set_option maxHeartbeats 1000000 in
theorem fetch_wp (c : Dev nD) (q : PosShare TreeShare) (W : Buf (Elt F) (wtM.view.loc (T c))) (s : Fin 4) (k : ℕ)
    (K : Vec F S1x128x2048 .f32 → sProp 𝕄) :
    iprop(Fly c q W s k ∗ (∃ O, owes (T c) 0 O)
        ∗ (∀ v, ⌜shapeCast S128x2048 v shapeCasts_S1x128x2048_S128x2048 = wblk W k⌝ -∗ Free c q W s -∗ (∃ O, owes (T c) 0 O) -∗ K v))
      ⊢ wp frame (wpE (defs₀ (F := F)) Variants.none (T c) none) Set.univ (fetch s k) K := by
  unfold Fly fetch
  iintro ⟨⟨%fd, Hf, Hr⟩, ⟨%O, HO⟩, HK⟩
  iapply (Transfers.wp_waitLocal EC Variants.none (T c) none (srcw := blkM k) (dstw := slotM s) () rfl) $$ [Hf HO]
  · isplitl [Hf]; · iexact Hf
    iexact HO
  iintro ⟨⟨Hs, Hb⟩, Hv, HO⟩
  ihave Hw := (pointsTo_split_subset (ℓ := wtM.view.loc (T c)) (q := q) (f := W) (Finset.subset_univ ((blkM k).view.set : Finset (Idx (wtM.view.loc (T c)))))).2 $$ [Hb Hr]
  · isplitl [Hb]; · iexact Hb
    iexact Hr
  iapply (wp_load Variants.none (T c) none Set.univ (m := stM) (r := (rSlot s).toLoadRect) (S := (slotM s).view.set) (set_slot s)) $$ Hs
  iintro Hs
  sl_step
  iapply HK $$ [] [Hs Hv Hw] [HO]
  · ipureintro
    exact (slot_read (c := c) s _).trans (View.read_write_univ _ _)
  · unfold Free
    isplitl [Hs]; · iexists _; iexact Hs
    isplitl [Hv]; · iexact Hv
    iexact Hw
  · iexists _; iexact HO

/-- Block `k`'s product, and the running product after block `k`. -/
def part {c : Dev nD} (x : Vec F S256x5504 .bf16) (W : Buf (Elt F) (wtM.view.loc (T c))) (k : ℕ) : FVec F S256x2048 .f32 :=
  matmul dot_S256x128_S128x2048_S256x2048_1_0_0_1_n_n none (View.ld x (rCol k)) (rblk W k) (constant S256x2048 .f32 0x00000000#32)
def acc {c : Dev nD} (x : Vec F S256x5504 .bf16) (W : Buf (Elt F) (wtM.view.loc (T c))) : ℕ → FVec F S256x2048 .f32
  | 0 => part x W 0
  | k + 1 => addf (acc x W k) (part x W (k + 1))

/-- The products' scratch, its first product `y`. -/
def Y (c : Dev nD) (b : Fin 2) (y : FVec F S256x2048 .f32) : sProp 𝕄 :=
  iprop(∃ f : Buf (Elt F) (yM.view.loc (T c)),
    ⌜View.ld (yM.view.read (Elt F) f) (rY b) = shapeCast S1x256x2048 y shapeCasts_S256x2048_S1x256x2048⌝ ∗ (yM.view.loc (T c) ↦[yM.view.set]{fullShare} f))
def Yany (c : Dev nD) : sProp 𝕄 := iprop(∃ f : Buf (Elt F) (yM.view.loc (T c)), (yM.view.loc (T c) ↦[yM.view.set]{fullShare} f))

theorem Y_any (c : Dev nD) (b : Fin 2) (y : FVec F S256x2048 .f32) : (Y c b y : sProp 𝕄) ⊢ Yany c := by
  unfold Y Yany
  iintro ⟨%f, -, H⟩
  iexists f; iexact H

/-- A store of a whole product is read back as stored. -/
theorem y_store (b : Fin 2) (f : yM.view.ty.Contents (Elt F)) (p : Vec F S1x256x2048 .f32) :
    View.ld (yM.view.read (Elt F) (yM.view.writes (Elt F) f [⟨rY b, p⟩])) (rY b) = p := by
  funext x
  exact View.read_writes_cons_emb yM.view f (rY b) p [] x

theorem pay4_eq {c : Dev nD} (x : Vec F S256x5504 .bf16) (W : Buf (Elt F) (wtM.view.loc (T c))) (v : Vec F S1x128x2048 .f32)
    (hv : shapeCast S128x2048 v shapeCasts_S1x128x2048_S128x2048 = wblk W 0) :
    k0_pay4 v (View.ld x (rCol 0)) = shapeCast S1x256x2048 (acc x W 0) shapeCasts_S256x2048_S1x256x2048 := by
  unfold k0_pay4 k0_pay2
  dsimp only
  rw [hv]
  rfl

theorem pay7_eq {c : Dev nD} (x : Vec F S256x5504 .bf16) (W : Buf (Elt F) (wtM.view.loc (T c))) (k : ℕ) (v : Vec F S1x128x2048 .f32)
    (hv : shapeCast S128x2048 v shapeCasts_S1x128x2048_S128x2048 = wblk W (k + 1)) :
    k0_pay7 v (View.ld x (rCol (k + 1))) (shapeCast S1x256x2048 (acc x W k) shapeCasts_S256x2048_S1x256x2048)
      = shapeCast S1x256x2048 (acc x W (k + 1)) shapeCasts_S256x2048_S1x256x2048 := by
  unfold k0_pay7 k0_pay5
  dsimp only
  rw [hv, shapeCast_shapeCast]
  rfl

set_option maxHeartbeats 1000000 in
theorem add_wp (c : Dev nD) (arg1 : Memref sig .tc .vmem S256x5504 .bf16) (harg1 : arg1.IsWhole) (x : Vec F S256x5504 .bf16)
    (W : Buf (Elt F) (wtM.view.loc (T c))) (k : ℕ) (v : Vec F S1x128x2048 .f32)
    (hv : shapeCast S128x2048 v shapeCasts_S1x128x2048_S128x2048 = wblk W (k + 1)) (K : PUnit → sProp 𝕄) :
    iprop(owns (T c) arg1 fullShare x ∗ Y c 0 (acc x W k) ∗ (owns (T c) arg1 fullShare x -∗ Y c 0 (acc x W (k + 1)) -∗ K ⟨⟩))
      ⊢ wp frame (wpE (defs₀ (F := F)) Variants.none (T c) none) Set.univ (add arg1 (k + 1) v) K := by
  unfold Y owns add
  iintro ⟨⟨%f0, %hf0, H0⟩, ⟨%fy, %hy, HY⟩, HK⟩
  iapply (wp_load Variants.none (T c) none Set.univ (m := arg1) (r := (rCol (k + 1)).toLoadRect) (S := arg1.view.set) (View.setOn_subset_set _ _)) $$ H0
  iintro H0
  iapply (wp_load Variants.none (T c) none Set.univ (m := yM) (r := rY0.toLoadRect) (S := yM.view.set) (View.setOn_subset_set _ _)) $$ HY
  iintro HY
  iapply (wp_load Variants.none (T c) none Set.univ (m := yM) (r := rY0.toLoadRect) (S := yM.view.set) (View.setOn_subset_set _ _)) $$ HY
  iintro HY
  rw [View.readAt_eq_ld, View.readAt_eq_ld, hf0, show View.ld (yM.view.read (Elt F) fy) rY0 = _ from hy, pay7_eq x W k v hv]
  iapply (wp_store Variants.none (T c) none Set.univ (m := yM) (r := rY0) (S := yM.view.set) (Memref.setOn_access_subset _ _ _)) $$ HY
  iintro HY
  sl_step
  iapply HK $$ [H0] [HY]
  · iexists _
    isplitr; swap; · iexact H0
    ipureintro; exact hf0
  · iexists _
    isplitr; swap; · iexact HY
    ipureintro
    exact y_store 0 fy _

set_option maxHeartbeats 1000000 in
theorem start_wp (c : Dev nD) (arg1 : Memref sig .tc .vmem S256x5504 .bf16) (harg1 : arg1.IsWhole) (x : Vec F S256x5504 .bf16)
    (W : Buf (Elt F) (wtM.view.loc (T c))) (v : Vec F S1x128x2048 .f32)
    (hv : shapeCast S128x2048 v shapeCasts_S1x128x2048_S128x2048 = wblk W 0) (K : PUnit → sProp 𝕄) :
    iprop(owns (T c) arg1 fullShare x ∗ Yany c ∗ (owns (T c) arg1 fullShare x -∗ Y c 0 (acc x W 0) -∗ K ⟨⟩))
      ⊢ wp frame (wpE (defs₀ (F := F)) Variants.none (T c) none) Set.univ (start arg1 v) K := by
  unfold Y Yany owns start
  iintro ⟨⟨%f0, %hf0, H0⟩, ⟨%fy, HY⟩, HK⟩
  iapply (wp_load Variants.none (T c) none Set.univ (m := arg1) (r := (rCol 0).toLoadRect) (S := arg1.view.set) (View.setOn_subset_set _ _)) $$ H0
  iintro H0
  iapply (wp_load Variants.none (T c) none Set.univ (m := yM) (r := rY0.toLoadRect) (S := yM.view.set) (View.setOn_subset_set _ _)) $$ HY
  iintro HY
  rw [View.readAt_eq_ld, View.readAt_eq_ld, hf0, pay4_eq x W v hv]
  iapply (wp_store Variants.none (T c) none Set.univ (m := yM) (r := rY0) (S := yM.view.set) (Memref.setOn_access_subset _ _ _)) $$ HY
  iintro HY
  sl_step
  iapply HK $$ [H0] [HY]
  · iexists _
    isplitr; swap; · iexact H0
    ipureintro; exact hf0
  · iexists _
    isplitr; swap; · iexact HY
    ipureintro
    exact y_store 0 fy _

end Cert.DownRun

end
-- ==== Proof.DownProduct.lean ====
/- What the down-projection call's first point does: the weights rounded into their scratch, and the first product. -/
module

public import proofs.«01_k».proof.Proof.DownChunk

@[expose] public section

set_option maxRecDepth 16384

noncomputable section

namespace Cert.DownRun

open Cert.DownIdeal Cert.DownIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-- What the point holds beside the slots after block `k`. -/
def Core (c : Dev nD) (arg1 : Memref sig .tc .vmem S256x5504 .bf16) (x : Vec F S256x5504 .bf16) (W : Buf (Elt F) (wtM.view.loc (T c))) (k : ℕ) : sProp 𝕄 :=
  iprop(owns (T c) arg1 fullShare x ∗ Y c 0 (acc x W k) ∗ Wb c W (k + 1) ∗ (∃ O, owes (T c) 0 O))

theorem chunk0_wp (c : Dev nD) (q : PosShare TreeShare) (arg1 : Memref sig .tc .vmem S256x5504 .bf16) (harg1 : arg1.IsWhole) (x : Vec F S256x5504 .bf16)
    (W : Buf (Elt F) (wtM.view.loc (T c))) (K : PUnit → sProp 𝕄) :
    iprop((owns (T c) arg1 fullShare x ∗ Yany c ∗ Wb c W 0 ∗ (∃ O, owes (T c) 0 O)) ∗ Fly c q W 0 0
        ∗ (Core c arg1 x W 0 -∗ Fly c q W 0 4 -∗ K ⟨⟩))
      ⊢ wp frame (wpE (defs₀ (F := F)) Variants.none (T c) none) Set.univ (chunk0 arg1) K := by
  unfold chunk0 Core
  simp only [wp_bind]
  iintro ⟨⟨H1, HY, HB, HO⟩, HF, HK⟩
  iapply (fetch_wp c q W 0 0)
  isplitl [HF]; · iexact HF
  isplitl [HO]; · iexact HO
  iintro %v %hv HF HO
  iapply (keep_wp c W 0 (by decide) v hv)
  isplitl [HB]; · iexact HB
  iintro HB
  iapply (issue_wp c q W 0 4)
  isplitl [HF]; · iexact HF
  iintro HF
  iapply (start_wp c arg1 harg1 x W v hv)
  isplitl [H1]; · iexact H1
  isplitl [HY]; · iexact HY
  iintro H1 HY
  iapply HK $$ [H1 HY HB HO] HF
  isplitl [H1]; · iexact H1
  isplitl [HY]; · iexact HY
  isplitl [HB]; · iexact HB
  iexact HO

theorem chunk_wp (c : Dev nD) (q : PosShare TreeShare) (arg1 : Memref sig .tc .vmem S256x5504 .bf16) (harg1 : arg1.IsWhole) (x : Vec F S256x5504 .bf16)
    (W : Buf (Elt F) (wtM.view.loc (T c))) (s : Fin 4) (k : ℕ) (hk : k + 1 < 43) (K : PUnit → sProp 𝕄) :
    iprop(Core c arg1 x W k ∗ Fly c q W s (k + 1) ∗ (Core c arg1 x W (k + 1) -∗ Fly c q W s (k + 1 + 4) -∗ K ⟨⟩))
      ⊢ wp frame (wpE (defs₀ (F := F)) Variants.none (T c) none) Set.univ (chunk arg1 s (k + 1)) K := by
  unfold chunk Core
  simp only [wp_bind]
  iintro ⟨⟨H1, HY, HB, HO⟩, HF, HK⟩
  iapply (fetch_wp c q W s (k + 1))
  isplitl [HF]; · iexact HF
  isplitl [HO]; · iexact HO
  iintro %v %hv HF HO
  iapply (keep_wp c W (k + 1) hk v hv)
  isplitl [HB]; · iexact HB
  iintro HB
  iapply (issue_wp c q W s (k + 1 + 4))
  isplitl [HF]; · iexact HF
  iintro HF
  iapply (add_wp c arg1 harg1 x W k v hv)
  isplitl [H1]; · iexact H1
  isplitl [HY]; · iexact HY
  iintro H1 HY
  iapply HK $$ [H1 HY HB HO] HF
  isplitl [H1]; · iexact H1
  isplitl [HY]; · iexact HY
  isplitl [HB]; · iexact HB
  iexact HO

theorem last_wp (c : Dev nD) (q : PosShare TreeShare) (arg1 : Memref sig .tc .vmem S256x5504 .bf16) (harg1 : arg1.IsWhole) (x : Vec F S256x5504 .bf16)
    (W : Buf (Elt F) (wtM.view.loc (T c))) (s : Fin 4) (k : ℕ) (hk : k + 1 < 43) (K : PUnit → sProp 𝕄) :
    iprop(Core c arg1 x W k ∗ Fly c q W s (k + 1) ∗ (Core c arg1 x W (k + 1) -∗ Free c q W s -∗ K ⟨⟩))
      ⊢ wp frame (wpE (defs₀ (F := F)) Variants.none (T c) none) Set.univ (last arg1 s (k + 1)) K := by
  unfold last Core
  simp only [wp_bind]
  iintro ⟨⟨H1, HY, HB, HO⟩, HF, HK⟩
  iapply (fetch_wp c q W s (k + 1))
  isplitl [HF]; · iexact HF
  isplitl [HO]; · iexact HO
  iintro %v %hv HF HO
  iapply (keep_wp c W (k + 1) hk v hv)
  isplitl [HB]; · iexact HB
  iintro HB
  iapply (add_wp c arg1 harg1 x W k v hv)
  isplitl [H1]; · iexact H1
  isplitl [HY]; · iexact HY
  iintro H1 HY
  iapply HK $$ [H1 HY HB HO] HF
  isplitl [H1]; · iexact H1
  isplitl [HY]; · iexact HY
  isplitl [HB]; · iexact HB
  iexact HO

/-- The four slots, slot `s` at its own share, with the transfers given. -/
def Four (c : Dev nD) (q : Fin 4 → PosShare TreeShare) (W : Buf (Elt F) (wtM.view.loc (T c))) (k0 k1 k2 k3 : ℕ) : sProp 𝕄 :=
  iprop(Fly c (q 0) W 0 k0 ∗ Fly c (q 1) W 1 k1 ∗ Fly c (q 2) W 2 k2 ∗ Fly c (q 3) W 3 k3)

/-- Four chunks in a row, the slots in turn from slot 1. -/
theorem round_wp (c : Dev nD) (q : Fin 4 → PosShare TreeShare) (arg1 : Memref sig .tc .vmem S256x5504 .bf16) (harg1 : arg1.IsWhole) (x : Vec F S256x5504 .bf16)
    (W : Buf (Elt F) (wtM.view.loc (T c))) (k : ℕ) (hk : k + 4 < 43)
    (P : Prog (TpuEff nD τ sig (Elt F) Λ₀ .tc) PUnit) (K : PUnit → sProp 𝕄) :
    iprop((Core c arg1 x W k ∗ Four c q W (k + 4) (k + 1) (k + 2) (k + 3)) ∗ ((Core c arg1 x W (k + 4) ∗ Four c q W (k + 8) (k + 5) (k + 6) (k + 7)) -∗
          wp frame (wpE (defs₀ (F := F)) Variants.none (T c) none) Set.univ P K))
      ⊢ wp frame (wpE (defs₀ (F := F)) Variants.none (T c) none) Set.univ
          (do chunk arg1 1 (k + 1); chunk arg1 2 (k + 2); chunk arg1 3 (k + 3); chunk arg1 0 (k + 4); P) K := by
  unfold Four
  simp only [wp_bind]
  iintro ⟨⟨HC, HF0, HF1, HF2, HF3⟩, HK⟩
  iapply (chunk_wp c (q 1) arg1 harg1 x W 1 k (by omega))
  isplitl [HC]; · iexact HC
  isplitl [HF1]; · iexact HF1
  iintro HC HF1
  iapply (chunk_wp c (q 2) arg1 harg1 x W 2 (k + 1) (by omega))
  isplitl [HC]; · iexact HC
  isplitl [HF2]; · iexact HF2
  iintro HC HF2
  iapply (chunk_wp c (q 3) arg1 harg1 x W 3 (k + 2) (by omega))
  isplitl [HC]; · iexact HC
  isplitl [HF3]; · iexact HF3
  iintro HC HF3
  iapply (chunk_wp c (q 0) arg1 harg1 x W 0 (k + 3) (by omega))
  isplitl [HC]; · iexact HC
  isplitl [HF0]; · iexact HF0
  iintro HC HF0
  iapply HK
  isplitl [HC]; · iexact HC
  isplitl [HF0]; · iexact HF0
  isplitl [HF1]; · iexact HF1
  isplitl [HF2]; · iexact HF2
  iexact HF3

theorem most_wp (c : Dev nD) (q : Fin 4 → PosShare TreeShare) (arg1 : Memref sig .tc .vmem S256x5504 .bf16) (harg1 : arg1.IsWhole) (x : Vec F S256x5504 .bf16)
    (W : Buf (Elt F) (wtM.view.loc (T c))) (K : PUnit → sProp 𝕄) :
    iprop((owns (T c) arg1 fullShare x ∗ Yany c ∗ Wb c W 0 ∗ (∃ O, owes (T c) 0 O))
        ∗ (Free c (q 0) W 0 ∗ Free c (q 1) W 1 ∗ Free c (q 2) W 2 ∗ Free c (q 3) W 3)
        ∗ ((Core c arg1 x W 38 ∗ Four c q W 40 41 42 39) -∗ K ⟨⟩))
      ⊢ wp frame (wpE (defs₀ (F := F)) Variants.none (T c) none) Set.univ (most arg1) K := by
  unfold most issues
  simp only [bind_assoc]
  iintro ⟨HC, ⟨H0, H1, H2, H3⟩, HK⟩
  rw [wp_bind]
  iapply (issue_wp c (q 0) W 0 0)
  isplitl [H0]; · iexact H0
  iintro H0
  rw [wp_bind]
  iapply (issue_wp c (q 1) W 1 1)
  isplitl [H1]; · iexact H1
  iintro H1
  rw [wp_bind]
  iapply (issue_wp c (q 2) W 2 2)
  isplitl [H2]; · iexact H2
  iintro H2
  rw [wp_bind]
  iapply (issue_wp c (q 3) W 3 3)
  isplitl [H3]; · iexact H3
  iintro H3
  rw [wp_bind]
  iapply (chunk0_wp c (q 0) arg1 harg1 x W)
  isplitl [HC]; · iexact HC
  isplitl [H0]; · iexact H0
  iintro HC H0
  ihave H : iprop(Core c arg1 x W 0 ∗ Four c q W 4 1 2 3) $$ [HC H0 H1 H2 H3]
  · unfold Four
    isplitl [HC]; · iexact HC
    isplitl [H0]; · iexact H0
    isplitl [H1]; · iexact H1
    isplitl [H2]; · iexact H2
    iexact H3
  iapply (round_wp c q arg1 harg1 x W 0 (by decide))
  isplitl [H]; · iexact H
  iintro H
  iapply (round_wp c q arg1 harg1 x W 4 (by decide))
  isplitl [H]; · iexact H
  iintro H
  iapply (round_wp c q arg1 harg1 x W 8 (by decide))
  isplitl [H]; · iexact H
  iintro H
  iapply (round_wp c q arg1 harg1 x W 12 (by decide))
  isplitl [H]; · iexact H
  iintro H
  iapply (round_wp c q arg1 harg1 x W 16 (by decide))
  isplitl [H]; · iexact H
  iintro H
  iapply (round_wp c q arg1 harg1 x W 20 (by decide))
  isplitl [H]; · iexact H
  iintro H
  iapply (round_wp c q arg1 harg1 x W 24 (by decide))
  isplitl [H]; · iexact H
  iintro H
  iapply (round_wp c q arg1 harg1 x W 28 (by decide))
  isplitl [H]; · iexact H
  iintro H
  iapply (round_wp c q arg1 harg1 x W 32 (by decide))
  isplitl [H]; · iexact H
  iintro H
  unfold Four
  icases H with ⟨HC, H0, H1, H2, H3⟩
  rw [wp_bind]
  iapply (chunk_wp c (q 1) arg1 harg1 x W 1 36 (by decide))
  isplitl [HC]; · iexact HC
  isplitl [H1]; · iexact H1
  iintro HC H1
  rw [wp_bind]
  iapply (chunk_wp c (q 2) arg1 harg1 x W 2 37 (by decide))
  isplitl [HC]; · iexact HC
  isplitl [H2]; · iexact H2
  iintro HC H2
  sl_step
  iapply HK
  isplitl [HC]; · iexact HC
  isplitl [H0]; · iexact H0
  isplitl [H1]; · iexact H1
  isplitl [H2]; · iexact H2
  iexact H3

/-- The first point, all four slots free before and after. -/
theorem product_wp (c : Dev nD) (q : Fin 4 → PosShare TreeShare) (arg1 : Memref sig .tc .vmem S256x5504 .bf16) (harg1 : arg1.IsWhole) (x : Vec F S256x5504 .bf16)
    (W : Buf (Elt F) (wtM.view.loc (T c))) (K : PUnit → sProp 𝕄) :
    iprop((owns (T c) arg1 fullShare x ∗ Yany c ∗ Wb c W 0 ∗ (∃ O, owes (T c) 0 O))
        ∗ (Free c (q 0) W 0 ∗ Free c (q 1) W 1 ∗ Free c (q 2) W 2 ∗ Free c (q 3) W 3)
        ∗ (Core c arg1 x W 42 -∗ (Free c (q 0) W 0 ∗ Free c (q 1) W 1 ∗ Free c (q 2) W 2 ∗ Free c (q 3) W 3) -∗ K ⟨⟩))
      ⊢ wp frame (wpE (defs₀ (F := F)) Variants.none (T c) none) Set.univ (product arg1) K := by
  unfold product rest
  iintro ⟨HC, HF, HK⟩
  rw [wp_bind]
  iapply (most_wp c q arg1 harg1 x W)
  isplitl [HC]; · iexact HC
  isplitl [HF]; · iexact HF
  unfold Four
  iintro ⟨HC, H0, H1, H2, H3⟩
  rw [wp_bind]
  iapply (last_wp c (q 3) arg1 harg1 x W 3 38 (by decide))
  isplitl [HC]; · iexact HC
  isplitl [H3]; · iexact H3
  iintro HC H3
  rw [wp_bind]
  iapply (last_wp c (q 0) arg1 harg1 x W 0 39 (by decide))
  isplitl [HC]; · iexact HC
  isplitl [H0]; · iexact H0
  iintro HC H0
  rw [wp_bind]
  iapply (last_wp c (q 1) arg1 harg1 x W 1 40 (by decide))
  isplitl [HC]; · iexact HC
  isplitl [H1]; · iexact H1
  iintro HC H1
  iapply (last_wp c (q 2) arg1 harg1 x W 2 41 (by decide))
  isplitl [HC]; · iexact HC
  isplitl [H2]; · iexact H2
  iintro HC H2
  iapply HK $$ HC [H0 H1 H2 H3]
  isplitl [H0]; · iexact H0
  isplitl [H1]; · iexact H1
  isplitl [H2]; · iexact H2
  iexact H3

end Cert.DownRun

end
-- ==== Proof.DownPoint.lean ====
/- What the down-projection call's later points do: an output block from the product before, and the next product. -/
module

public import proofs.«01_k».proof.Proof.DownProduct

@[expose] public section

set_option maxRecDepth 16384

noncomputable section

namespace Cert.DownRun

open Cert.DownIdeal Cert.DownIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-- The rounded weights, whole. -/
def wbw {c : Dev nD} (W : Buf (Elt F) (wtM.view.loc (T c))) : Vec F S5504x2048 .bf16 := fun y =>
  rblk W ((y 0).val / 128) (fun a => match a with
    | ⟨0, _⟩ => (⟨(y 0).val % 128, Nat.mod_lt _ (by decide)⟩ : Fin 128)
    | ⟨1, _⟩ => y 1)

theorem wb_all {c : Dev nD} (W : Buf (Elt F) (wtM.view.loc (T c))) (w : Vec F S5504x2048 .bf16) (h : wbOK W 43 w) : w = wbw W := by
  funext y
  have hy : (y 0).val < 5504 := (y 0).isLt
  have hj : (y 0).val / 128 < 43 := by omega
  unfold wbw
  rw [← h _ hj]
  refine (ld_row w _ _ y ?_ rfl).symm
  show (y 0).val = 128 * (((y 0).val / 128) % 43) + (y 0).val % 128
  rw [Nat.mod_eq_of_lt hj]
  omega

theorem Wb_all (c : Dev nD) (W : Buf (Elt F) (wtM.view.loc (T c))) : (Wb c W 43 : sProp 𝕄) ⊢ owns (T c) wbM fullShare (wbw W) := by
  unfold Wb owns
  iintro ⟨%f, %h, H⟩
  iexists f
  isplitr; swap; · iexact H
  ipureintro; exact wb_all W _ h

/-- The product of an input block with the whole of the weights. -/
def full (x : Vec F S256x5504 .bf16) (w : Vec F S5504x2048 .bf16) : FVec F S256x2048 .f32 :=
  matmul dot_S256x5504_S5504x2048_S256x2048_1_0_0_1_n_n none x w (constant S256x2048 .f32 0x00000000#32)

theorem pay133_eq (x : Vec F S256x5504 .bf16) (w : Vec F S5504x2048 .bf16) :
    k0_pay133 x w = shapeCast S1x256x2048 (full x w) shapeCasts_S256x2048_S1x256x2048 := rfl

/-- The output block. -/
def outv (y : FVec F S256x2048 .f32) (x : Vec F S256x2048 .f32) (gt : Vec F S1x1x1x2048 .f32) (g : Vec F S1x2048 .f32) : Vec F S256x2048 .f32 :=
  k0_pay132 (shapeCast S1x256x2048 y shapeCasts_S256x2048_S1x256x2048) x gt g

theorem out_store (arg6 : Memref sig .tc .vmem S256x2048 .f32) (f : arg6.view.ty.Contents (Elt F)) (p : Vec F S256x2048 .f32) :
    arg6.view.read (Elt F) (arg6.view.writes (Elt F) f [⟨Rect.unit (s := S256x2048) ![0, 0] S256x2048.size inb_S256x2048_S256x2048_0_0, p⟩]) = p := by
  funext x
  refine View.read_writes_cons_unit_of_mem (off' := ![0, 0]) arg6.view f inb_S256x2048_S256x2048_0_0 p [] x x rfl (fun a => ?_)
  match a with
  | ⟨0, _⟩ => exact (Nat.zero_add _).symm
  | ⟨1, _⟩ => exact (Nat.zero_add _).symm

set_option maxHeartbeats 1000000 in
theorem emit_wp (c : Dev nD) (arg3 : Memref sig .tc .vmem S256x2048 .f32) (arg4 : Memref sig .tc .vmem S1x1x1x2048 .f32)
    (arg5 : Memref sig .tc .vmem S1x2048 .f32) (arg6 : Memref sig .tc .vmem S256x2048 .f32) (b : Fin 2) (y : FVec F S256x2048 .f32)
    (x : Vec F S256x2048 .f32) (gt : Vec F S1x1x1x2048 .f32) (g : Vec F S1x2048 .f32) (d : Vec F S256x2048 .f32) (K : PUnit → sProp 𝕄) :
    iprop(Y c b y ∗ owns (T c) arg3 fullShare x ∗ owns (T c) arg4 fullShare gt ∗ owns (T c) arg5 fullShare g ∗ owns (T c) arg6 fullShare d
        ∗ (Y c b y -∗ owns (T c) arg3 fullShare x -∗ owns (T c) arg4 fullShare gt -∗ owns (T c) arg5 fullShare g
            -∗ owns (T c) arg6 fullShare (outv y x gt g) -∗ K ⟨⟩))
      ⊢ wp frame (wpE (defs₀ (F := F)) Variants.none (T c) none) Set.univ (emit arg3 arg4 arg5 arg6 b) K := by
  unfold Y owns emit
  iintro ⟨⟨%fy, %hy, HY⟩, ⟨%f3, %h3, H3⟩, ⟨%f4, %h4, H4⟩, ⟨%f5, %h5, H5⟩, ⟨%f6, %h6, H6⟩, HK⟩
  iapply (wp_load Variants.none (T c) none Set.univ (m := yM) (r := (rY b).toLoadRect) (S := yM.view.set) (View.setOn_subset_set _ _)) $$ HY
  iintro HY
  iapply (wp_load Variants.none (T c) none Set.univ (m := arg3) (S := arg3.view.set) (View.setOn_subset_set _ _)) $$ H3
  iintro H3
  iapply (wp_load Variants.none (T c) none Set.univ (m := arg4) (S := arg4.view.set) (View.setOn_subset_set _ _)) $$ H4
  iintro H4
  iapply (wp_load Variants.none (T c) none Set.univ (m := arg5) (S := arg5.view.set) (View.setOn_subset_set _ _)) $$ H5
  iintro H5
  iapply (wp_load Variants.none (T c) none Set.univ (m := arg6) (S := arg6.view.set) (View.setOn_subset_set _ _)) $$ H6
  iintro H6
  rw [View.readAt_eq_ld, View.readAt_eq_ld, View.readAt_eq_ld, View.readAt_eq_ld, View.readAt_eq_ld]
  rw [hy, h3, h4, h5, View.ld_unit_zero (by funext a; match a with | ⟨0, _⟩ => rfl | ⟨1, _⟩ => rfl) inb_S256x2048_S256x2048_0_0 x,
    View.ld_unit_zero (by funext a; match a with | ⟨0, _⟩ => rfl | ⟨1, _⟩ => rfl | ⟨2, _⟩ => rfl | ⟨3, _⟩ => rfl) inb_S1x1x1x2048_S1x1x1x2048_0_0_0_0 gt,
    View.ld_unit_zero (by funext a; match a with | ⟨0, _⟩ => rfl | ⟨1, _⟩ => rfl) inb_S1x2048_S1x2048_0_0 g]
  iapply (wp_store Variants.none (T c) none Set.univ (m := arg6) (r := Rect.unit (s := S256x2048) ![0, 0] S256x2048.size inb_S256x2048_S256x2048_0_0) (S := arg6.view.set) (Memref.setOn_access_subset _ _ _)) $$ H6
  iintro H6
  sl_step
  iapply HK $$ [HY] [H3] [H4] [H5] [H6]
  · iexists _
    isplitr; swap; · iexact HY
    ipureintro; exact hy
  · iexists _
    isplitr; swap; · iexact H3
    ipureintro; exact h3
  · iexists _
    isplitr; swap; · iexact H4
    ipureintro; exact h4
  · iexists _
    isplitr; swap; · iexact H5
    ipureintro; exact h5
  · iexists _
    isplitr; swap; · iexact H6
    ipureintro; exact out_store arg6 f6 _

set_option maxHeartbeats 1000000 in
theorem compute_wp (c : Dev nD) (arg1 : Memref sig .tc .vmem S256x5504 .bf16) (b : Fin 2) (x : Vec F S256x5504 .bf16)
    (w : Vec F S5504x2048 .bf16) (K : PUnit → sProp 𝕄) :
    iprop(Yany c ∗ owns (T c) arg1 fullShare x ∗ owns (T c) wbM fullShare w
        ∗ (Y c b (full x w) -∗ owns (T c) arg1 fullShare x -∗ owns (T c) wbM fullShare w -∗ K ⟨⟩))
      ⊢ wp frame (wpE (defs₀ (F := F)) Variants.none (T c) none) Set.univ (compute arg1 b) K := by
  unfold Y Yany owns compute
  iintro ⟨⟨%fy, HY⟩, ⟨%f1, %h1, H1⟩, ⟨%fw, %hw, HW⟩, HK⟩
  iapply (wp_load Variants.none (T c) none Set.univ (m := arg1) (S := arg1.view.set) (View.setOn_subset_set _ _)) $$ H1
  iintro H1
  iapply (wp_load Variants.none (T c) none Set.univ (m := wbM) (S := wbM.view.set) (View.setOn_subset_set _ _)) $$ HW
  iintro HW
  iapply (wp_load Variants.none (T c) none Set.univ (m := yM) (r := (rY b).toLoadRect) (S := yM.view.set) (View.setOn_subset_set _ _)) $$ HY
  iintro HY
  rw [View.readAt_eq_ld, View.readAt_eq_ld, View.readAt_eq_ld]
  rw [h1, hw, View.ld_unit_zero (by funext a; match a with | ⟨0, _⟩ => rfl | ⟨1, _⟩ => rfl) inb_S256x5504_S256x5504_0_0 x,
    View.ld_unit_zero (by funext a; match a with | ⟨0, _⟩ => rfl | ⟨1, _⟩ => rfl) inb_S5504x2048_S5504x2048_0_0 w, pay133_eq]
  iapply (wp_store Variants.none (T c) none Set.univ (m := yM) (r := rY b) (S := yM.view.set) (Memref.setOn_access_subset _ _ _)) $$ HY
  iintro HY
  sl_step
  iapply HK $$ [HY] [H1] [HW]
  · iexists _
    isplitr; swap; · iexact HY
    ipureintro; exact y_store b fy _
  · iexists _
    isplitr; swap; · iexact H1
    ipureintro; exact h1
  · iexists _
    isplitr; swap; · iexact HW
    ipureintro; exact hw

end Cert.DownRun

end
-- ==== Proof.DownFrame.lean ====
/- The down-projection call's run over its grid: the invariant between points, and the frame with the output named. -/
module

public import proofs.«01_k».proof.Proof.DownPoint
public import proofs.«01_k».proof.Proof.Gen.DownIdeal.Frame

@[expose] public section

set_option maxRecDepth 16384

noncomputable section

namespace Cert.DownRun

open Cert.DownIdeal Cert.DownIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- The kind of each point. -/
theorem kinds : ∀ t : Fin cfg0.N,
    (t.val = 0 → atZero (grid0.coords t) ∧ ¬k0_cond2 (grid0.coords t) = 1#1 ∧ ¬k0_cond3 (grid0.coords t) = 1#1 ∧ ¬k0_cond4 (grid0.coords t) = 1#1)
    ∧ (t.val ≠ 0 ∧ t.val ≠ 32 ∧ t.val % 2 = 0 → ¬atZero (grid0.coords t) ∧ k0_cond2 (grid0.coords t) = 1#1 ∧ ¬k0_cond3 (grid0.coords t) = 1#1 ∧ ¬k0_cond4 (grid0.coords t) = 1#1)
    ∧ (t.val % 2 = 1 → ¬atZero (grid0.coords t) ∧ ¬k0_cond2 (grid0.coords t) = 1#1 ∧ k0_cond3 (grid0.coords t) = 1#1 ∧ ¬k0_cond4 (grid0.coords t) = 1#1)
    ∧ (t.val = 32 → ¬atZero (grid0.coords t) ∧ ¬k0_cond2 (grid0.coords t) = 1#1 ∧ ¬k0_cond3 (grid0.coords t) = 1#1 ∧ k0_cond4 (grid0.coords t) = 1#1) :=
  (by decide +kernel : ∀ t : Fin grid0.N, _)

theorem idle_at : ∀ t : Fin cfg0.N, idle0 4 (grid0.coords t) = decide (t.val = 0) :=
  (by decide +kernel : ∀ t : Fin grid0.N, idle0 4 (grid0.coords t) = decide (t.val = 0))
theorem flush_at : ∀ t : Fin cfg0.N, (win0 4).flush t = !decide (t.val = 0) :=
  (by decide +kernel : ∀ t : Fin grid0.N, win0_4.flush t = !decide (t.val = 0))

theorem bound (t : Fin cfg0.N) : t.val < 33 := lt_of_lt_of_eq t.isLt (show cfg0.N = 33 from N_0)

/-- Point `n`. -/
def pt (n : ℕ) : Fin cfg0.N := ⟨n % 33, lt_of_lt_of_eq (Nat.mod_lt _ (by decide)) (show cfg0.N = 33 from N_0).symm⟩
theorem pt_val (t : Fin cfg0.N) : pt t.val = t := Fin.ext (Nat.mod_eq_of_lt (bound t))

/-- The weights as the region finds them. -/
abbrev Wt (c : Dev nD) : Buf (Elt F) (wtM.view.loc (T c)) := V m c main_arg1

/-- Point `n`'s product. -/
def prod (c : Dev nD) (n : ℕ) : FVec F S256x2048 .f32 :=
  if n = 0 then acc (iblk m c 0 (pt n)) (Wt m c) 42 else full (iblk m c 0 (pt n)) (wbw (Wt m c))

/-! ## The scratch, the semaphores and the weights between the points -/

abbrev osem0 : Fin 4 → SemLoc sig := fun j => (![SemLoc.dma 9, SemLoc.dma 10, SemLoc.dma 11, SemLoc.dma 12] : Fin 4 → SemLoc sig) j
theorem ownSemFacts0 : Pipeline.OwnSemFacts spec0 osem0 := by decide
def H0 : Finset (Ref sig .tc) := {main_arg1}
theorem H0_sub : H0 ⊆ Pipeline.restRefs sig spec0 := by decide

theorem sems_eq (c : Dev nD) :
    (Pipeline.ownSems0 (Ix := Unit) (Name := ℕ) (U := Pipeline.UD sig nD τ) (Lvl := ℕ) (Val := Elt F) (τ := τ) osem0 c : sProp 𝕄)
      = iprop(semVal (T c, SemLoc.dma (cell 0)) 0 ∗ semVal (T c, SemLoc.dma (cell 1)) 0
          ∗ semVal (T c, SemLoc.dma (cell 2)) 0 ∗ semVal (T c, SemLoc.dma (cell 3)) 0) := by
  rw [Pipeline.ownSems0_eq_of_list c osem0 [0, 1, 2, 3] (by decide) (by decide)]; rfl

theorem hbm_eq (c : Dev nD) :
    (bigSep H0 (fun b => ((c : Thread nD τ).loc b) ↦{fullShare} V m c b) : sProp 𝕄) = (wtM.view.loc (T c) ↦{fullShare} Wt m c) := by
  rw [BI.bigSep_eq_bigSepL_of_eq [main_arg1] (by decide) (by decide)]; rfl

/-- The slots' sets tile the scratch. -/
abbrev sset (s : Fin 4) : Finset (Idx (stM.view.loc (T (0 : Dev nD)))) := (rSlot s).set
theorem sset_disjoint : ∀ s s' : Fin 4, s ≠ s' → Disjoint (rSlot s).set (rSlot s').set :=
  fun s s' h => Ring.lead_disjoint (s := S4x128x2048) (NB := 4) (0 : Fin 3) 1 (fun b => ![b.val, 0, 0]) S1x128x2048.size inbSlot
    (fun b => (Nat.one_mul _).symm) rfl s s' h
theorem sset_cover : Finset.univ.biUnion (fun s : Fin 4 => (rSlot s).set) = Finset.univ :=
  Ring.lead_cover (s := S4x128x2048) (NB := 4) (0 : Fin 3) 1 (fun b => ![b.val, 0, 0]) S1x128x2048.size inbSlot
    (fun b => (Nat.one_mul _).symm) (fun b a h => by match a with | ⟨0, _⟩ => exact absurd rfl h | ⟨1, _⟩ => rfl | ⟨2, _⟩ => rfl) rfl
    (fun a h => by match a with | ⟨0, _⟩ => exact absurd rfl h | ⟨1, _⟩ => rfl | ⟨2, _⟩ => rfl) rfl
theorem slot_set (s : Fin 4) : (slotM s).view.set = (rSlot s).set := (View.set_reshape _ _).trans (View.set_slice_whole _ _)

def Slots (c : Dev nD) : sProp 𝕄 :=
  iprop((∃ f : Buf (Elt F) (stM.view.loc (T c)), stM.view.loc (T c) ↦{fullShare} f)
    ∗ (semVal (T c, SemLoc.dma (cell 0)) 0 ∗ semVal (T c, SemLoc.dma (cell 1)) 0
          ∗ semVal (T c, SemLoc.dma (cell 2)) 0 ∗ semVal (T c, SemLoc.dma (cell 3)) 0)
    ∗ (wtM.view.loc (T c) ↦{fullShare} Wt m c))

/-- Each slot's share of the weights. -/
def qs : Fin 4 → PosShare TreeShare := ![fullShare.left.left, fullShare.left.right, fullShare.right.left, fullShare.right.right]

def Frees (c : Dev nD) : sProp 𝕄 :=
  iprop(Free c (qs 0) (Wt m c) 0 ∗ Free c (qs 1) (Wt m c) 1 ∗ Free c (qs 2) (Wt m c) 2 ∗ Free c (qs 3) (Wt m c) 3)

theorem sep4 (Φ : Fin 4 → sProp 𝕄) : bigSep Finset.univ Φ = iprop(Φ 0 ∗ Φ 1 ∗ Φ 2 ∗ Φ 3) :=
  bigSep_univ_eq_bigSepL [(0 : Fin 4), 1, 2, 3] (by decide) (by decide) Φ

theorem stage_split (c : Dev nD) :
    (iprop(∃ f : Buf (Elt F) (stM.view.loc (T c)), stM.view.loc (T c) ↦{fullShare} f) : sProp 𝕄)
      ⊢ iprop((∃ f : Buf (Elt F) (stM.view.loc (T c)), stM.view.loc (T c) ↦[(rSlot 0).set]{fullShare} f)
          ∗ (∃ f : Buf (Elt F) (stM.view.loc (T c)), stM.view.loc (T c) ↦[(rSlot 1).set]{fullShare} f)
          ∗ (∃ f : Buf (Elt F) (stM.view.loc (T c)), stM.view.loc (T c) ↦[(rSlot 2).set]{fullShare} f)
          ∗ (∃ f : Buf (Elt F) (stM.view.loc (T c)), stM.view.loc (T c) ↦[(rSlot 3).set]{fullShare} f)) := by
  iintro ⟨%f, H⟩
  ihave H' := (Entails.of_eq ((Ring.pointsTo_blocks (ℓ := stM.view.loc (T c)) (q := fullShare) (fun s : Fin 4 => (rSlot s).set) sset_disjoint sset_cover f).trans (sep4 _))) $$ H
  icases H' with ⟨H0, H1, H2, H3⟩
  isplitl [H0]; · iexists f; iexact H0
  isplitl [H1]; · iexists f; iexact H1
  isplitl [H2]; · iexists f; iexact H2
  iexists f; iexact H3

theorem frees_in (c : Dev nD) : (Slots m c : sProp 𝕄) ⊢ Frees m c := by
  unfold Slots Frees Free
  iintro ⟨Hst, ⟨Hv0, Hv1, Hv2, Hv3⟩, Hw⟩
  ihave Hs := (stage_split c) $$ Hst
  ihave Hw2 := (pointsTo_share (PosShare.mem_left_op_right fullShare)).1 $$ Hw
  icases Hw2 with ⟨Hl, Hr⟩
  ihave Hl2 := (pointsTo_share (PosShare.mem_left_op_right fullShare.left)).1 $$ Hl
  icases Hl2 with ⟨Hw0, Hw1⟩
  ihave Hr2 := (pointsTo_share (PosShare.mem_left_op_right fullShare.right)).1 $$ Hr
  icases Hr2 with ⟨Hw2, Hw3⟩
  rw [slot_set 0, slot_set 1, slot_set 2, slot_set 3]
  icases Hs with ⟨Hs0, Hs1, Hs2, Hs3⟩
  isplitl [Hs0 Hv0 Hw0]
  · isplitl [Hs0]; · iexact Hs0
    isplitl [Hv0]; · iexact Hv0
    iexact Hw0
  isplitl [Hs1 Hv1 Hw1]
  · isplitl [Hs1]; · iexact Hs1
    isplitl [Hv1]; · iexact Hv1
    iexact Hw1
  isplitl [Hs2 Hv2 Hw2]
  · isplitl [Hs2]; · iexact Hs2
    isplitl [Hv2]; · iexact Hv2
    iexact Hw2
  isplitl [Hs3]; · iexact Hs3
  isplitl [Hv3]; · iexact Hv3
  iexact Hw3

theorem frees_out (c : Dev nD) : (Frees m c : sProp 𝕄) ⊢ Slots m c := by
  unfold Slots Frees Free
  rw [slot_set 0, slot_set 1, slot_set 2, slot_set 3]
  iintro ⟨⟨Hs0, Hv0, Hw0⟩, ⟨Hs1, Hv1, Hw1⟩, ⟨Hs2, Hv2, Hw2⟩, ⟨Hs3, Hv3, Hw3⟩⟩
  isplitl [Hs0 Hs1 Hs2 Hs3]
  · iapply (Ring.pointsTo_blocks_join_exists (ℓ := stM.view.loc (T c)) (q := fullShare) (fun s : Fin 4 => (rSlot s).set) sset_disjoint sset_cover stM.view.junk)
    rw [sep4]
    isplitl [Hs0]; · iexact Hs0
    isplitl [Hs1]; · iexact Hs1
    isplitl [Hs2]; · iexact Hs2
    iexact Hs3
  isplitl [Hv0 Hv1 Hv2 Hv3]
  · isplitl [Hv0]; · iexact Hv0
    isplitl [Hv1]; · iexact Hv1
    isplitl [Hv2]; · iexact Hv2
    iexact Hv3
  iapply (pointsTo_share (PosShare.mem_left_op_right fullShare)).2
  isplitl [Hw0 Hw1]
  · iapply (pointsTo_share (PosShare.mem_left_op_right fullShare.left)).2
    isplitl [Hw0]; · iexact Hw0
    iexact Hw1
  iapply (pointsTo_share (PosShare.mem_left_op_right fullShare.right)).2
  isplitl [Hw2]; · iexact Hw2
  iexact Hw3

/-- What the region is handed. -/
theorem start_eq (c : Dev nD) :
    (Pipeline.ΦD osem0 spec0 H0 (V m) c : sProp 𝕄)
      ⊣⊢ iprop((Yany c ∗ (∃ d, owns (T c) wbM fullShare d)) ∗ Slots m c ∗ (∃ r, prngReg c r)) := by
  rw [Pipeline.ΦD_eq, scopedRest0_eq, sems_eq, hbm_eq]
  unfold Yany Slots
  simp only [owns_whole]
  rw [show yM.view.set = Finset.univ from View.set_whole _]
  constructor
  · iintro ⟨⟨HB, HS, HY⟩, Hg, Hv, Hw⟩
    isplitl [HB HY]
    · isplitl [HY]; · iexact HY
      iexact HB
    isplitr [Hg]; swap; · iexact Hg
    isplitl [HS]; · iexact HS
    isplitl [Hv]; · iexact Hv
    iexact Hw
  · iintro ⟨⟨HY, HB⟩, ⟨HS, Hv, Hw⟩, Hg⟩
    isplitl [HB HS HY]
    · isplitl [HB]; · iexact HB
      isplitl [HS]; · iexact HS
      iexact HY
    isplitl [Hg]; · iexact Hg
    isplitl [Hv]; · iexact Hv
    iexact Hw

/-! ## The invariant -/

/-- Before a point after the first: the rounded weights, and the product of the point before. -/
def Later (c : Dev nD) (n : ℕ) : sProp 𝕄 :=
  iprop((∃ (b : Fin 2) (y : FVec F S256x2048 .f32), ⌜n < 33 → b.val = (n - 1) % 2 ∧ y = prod m c (n - 1)⌝ ∗ Y c b y)
    ∗ owns (T c) wbM fullShare (wbw (Wt m c)) ∗ Slots m c ∗ (∃ r, prngReg c r))

def Inv (c : Dev nD) (n : ℕ) : sProp 𝕄 := if n = 0 then Pipeline.ΦD osem0 spec0 H0 (V m) c else Later m c n

theorem Inv_zero (c : Dev nD) : Inv m c 0 = Pipeline.ΦD osem0 spec0 H0 (V m) c := if_pos rfl
theorem Inv_pos (c : Dev nD) (n : ℕ) (h : n ≠ 0) : Inv m c n = Later m c n := if_neg h

theorem later_out (c : Dev nD) (n : ℕ) : (Later m c n : sProp 𝕄) ⊢ Pipeline.ΦD osem0 spec0 H0 (V m) c := by
  refine BIBase.Entails.trans ?_ (start_eq m c).2
  unfold Later
  iintro ⟨⟨%b, %y, -, HY⟩, HB, HS, Hg⟩
  isplitl [HY HB]
  · isplitl [HY]; · iapply (Y_any c b y); iexact HY
    iexists _; iexact HB
  isplitl [HS]; · iexact HS
  iexact Hg

theorem Wb_zero (c : Dev nD) : (iprop(∃ d, owns (T c) wbM fullShare d) : sProp 𝕄) ⊢ Wb c (Wt m c) 0 := by
  unfold Wb owns
  iintro ⟨%d, %f, -, H⟩
  iexists f
  isplitr; swap; · iexact H
  ipureintro; intro j hj; exact absurd hj (Nat.not_lt_zero j)

/-- The output block of a point after the first. -/
def outAt (c : Dev nD) (t : Fin cfg0.N) : Vec F S256x2048 .f32 := outv (prod m c (t.val - 1)) (iblk m c 1 t) (iblk m c 2 t) (iblk m c 3 t)

/-- The first point. -/
theorem point_first (c : Dev nD) (t : Fin cfg0.N) (h : t.val = 0) (K : PUnit → sProp 𝕄) :
    iprop(Pipeline.ΦD osem0 spec0 H0 (V m) c ∗ (∃ O, owes (T c) 0 O) ∗ owns (c : Thread nD τ) (st0_0 t) fullShare (iblk m c 0 t)
        ∗ (Later m c 1 -∗ (∃ O, owes (T c) 0 O) -∗ owns (c : Thread nD τ) (st0_0 t) fullShare (iblk m c 0 t) -∗ K ⟨⟩))
      ⊢ wp frame (wpE (defs₀ (F := F)) Variants.none c none) Set.univ (bodyAt0 t) K := by
  obtain ⟨h1, h2, h3, h4⟩ := (kinds t).1 h
  refine BIBase.Entails.trans (sep_mono (start_eq m c).1 .rfl) ?_
  unfold bodyAt0
  rw [body_first (grid0.coords t) _ _ _ _ _ _ _ _ _ _ h1 h2 h3 h4]
  iintro ⟨⟨⟨HY, HB⟩, HS, Hg⟩, HO, H0, HK⟩
  ihave HB' := (Wb_zero m c) $$ HB
  ihave HF := (frees_in m c) $$ HS
  iapply (product_wp c qs (st0_0 t) (hstage0_0 ((cfg0.slots t 0).cast nbuf0_0)) (iblk m c 0 t) (Wt m c) K)
  isplitl [HY HB' HO H0]
  · isplitl [H0]; · iexact H0
    isplitl [HY]; · iexact HY
    isplitl [HB']; · iexact HB'
    iexact HO
  isplitl [HF]; · unfold Frees; iexact HF
  unfold Core
  iintro ⟨H0, HY, HB, HO⟩ HF
  iapply HK $$ [HY HB HF Hg] HO H0
  unfold Later
  isplitl [HY]
  · iexists (0 : Fin 2); iexists _
    isplitr; swap; · iexact HY
    ipureintro; intro _; refine ⟨rfl, ?_⟩
    unfold prod
    rw [if_pos rfl, show pt 0 = t from Fin.ext h.symm]
  isplitl [HB]; · iapply (Wb_all c (Wt m c)); iexact HB
  isplitl [HF]; · iapply (frees_out m c); unfold Frees; iexact HF
  iexact Hg

/-- A point that emits product `b` and computes the other. -/
theorem point_mid (c : Dev nD) (t : Fin cfg0.N) (h0 : t.val ≠ 0) (hN : t.val ≠ 32) (b b' : Fin 2) (hb : b.val = (t.val - 1) % 2) (hb' : b'.val = t.val % 2)
    (d : Vec F S256x2048 .f32) (K : PUnit → sProp 𝕄) :
    iprop(Later m c t.val ∗ owns (c : Thread nD τ) (st0_0 t) fullShare (iblk m c 0 t) ∗ owns (c : Thread nD τ) (st0_1 t) fullShare (iblk m c 1 t)
        ∗ owns (c : Thread nD τ) (st0_2 t) fullShare (iblk m c 2 t) ∗ owns (c : Thread nD τ) (st0_3 t) fullShare (iblk m c 3 t)
        ∗ owns (c : Thread nD τ) (st0_4 t) fullShare d
        ∗ (Later m c (t.val + 1) -∗ owns (c : Thread nD τ) (st0_0 t) fullShare (iblk m c 0 t) -∗ owns (c : Thread nD τ) (st0_1 t) fullShare (iblk m c 1 t)
            -∗ owns (c : Thread nD τ) (st0_2 t) fullShare (iblk m c 2 t) -∗ owns (c : Thread nD τ) (st0_3 t) fullShare (iblk m c 3 t)
            -∗ owns (c : Thread nD τ) (st0_4 t) fullShare (outAt m c t) -∗ K ⟨⟩))
      ⊢ wp frame (wpE (defs₀ (F := F)) Variants.none c none) Set.univ (do emit (st0_1 t) (st0_2 t) (st0_3 t) (st0_4 t) b; compute (st0_0 t) b') K := by
  unfold Later
  rw [wp_bind]
  iintro ⟨⟨⟨%e, %y, %hy, HY⟩, HB, HS, Hg⟩, H0, H1, H2, H3, H4, HK⟩
  obtain ⟨he, rfl⟩ := hy (bound t)
  obtain rfl : e = b := Fin.ext (he.trans hb.symm)
  iapply (emit_wp c (st0_1 t) (st0_2 t) (st0_3 t) (st0_4 t) e (prod m c (t.val - 1)) (iblk m c 1 t) (iblk m c 2 t) (iblk m c 3 t) d)
  isplitl [HY]; · iexact HY
  isplitl [H1]; · iexact H1
  isplitl [H2]; · iexact H2
  isplitl [H3]; · iexact H3
  isplitl [H4]; · iexact H4
  iintro HY H1 H2 H3 H4
  iapply (compute_wp c (st0_0 t) b' (iblk m c 0 t) (wbw (Wt m c)))
  isplitl [HY]; · iapply (Y_any c e _); iexact HY
  isplitl [H0]; · iexact H0
  isplitl [HB]; · iexact HB
  iintro HY H0 HB
  iapply HK $$ [HY HB HS Hg] H0 H1 H2 H3 [H4]
  · isplitl [HY]
    · iexists b'; iexists _
      isplitr; swap; · iexact HY
      ipureintro; intro _; refine ⟨by rw [hb', Nat.add_sub_cancel], ?_⟩
      unfold prod
      rw [Nat.add_sub_cancel, if_neg h0, pt_val]
    isplitl [HB]; · iexact HB
    isplitl [HS]; · iexact HS
    iexact Hg
  · unfold outAt; iexact H4

/-- The last point. -/
theorem point_last (c : Dev nD) (t : Fin cfg0.N) (hN : t.val = 32) (d : Vec F S256x2048 .f32) (K : PUnit → sProp 𝕄) :
    iprop(Later m c t.val ∗ owns (c : Thread nD τ) (st0_0 t) fullShare (iblk m c 0 t) ∗ owns (c : Thread nD τ) (st0_1 t) fullShare (iblk m c 1 t)
        ∗ owns (c : Thread nD τ) (st0_2 t) fullShare (iblk m c 2 t) ∗ owns (c : Thread nD τ) (st0_3 t) fullShare (iblk m c 3 t)
        ∗ owns (c : Thread nD τ) (st0_4 t) fullShare d
        ∗ (Later m c (t.val + 1) -∗ owns (c : Thread nD τ) (st0_0 t) fullShare (iblk m c 0 t) -∗ owns (c : Thread nD τ) (st0_1 t) fullShare (iblk m c 1 t)
            -∗ owns (c : Thread nD τ) (st0_2 t) fullShare (iblk m c 2 t) -∗ owns (c : Thread nD τ) (st0_3 t) fullShare (iblk m c 3 t)
            -∗ owns (c : Thread nD τ) (st0_4 t) fullShare (outAt m c t) -∗ K ⟨⟩))
      ⊢ wp frame (wpE (defs₀ (F := F)) Variants.none c none) Set.univ (emit (st0_1 t) (st0_2 t) (st0_3 t) (st0_4 t) 1) K := by
  unfold Later
  iintro ⟨⟨⟨%e, %y, %hy, HY⟩, HB, HS, Hg⟩, H0, H1, H2, H3, H4, HK⟩
  obtain ⟨he, rfl⟩ := hy (bound t)
  obtain rfl : e = 1 := Fin.ext (by rw [he, hN]; rfl)
  iapply (emit_wp c (st0_1 t) (st0_2 t) (st0_3 t) (st0_4 t) 1 (prod m c (t.val - 1)) (iblk m c 1 t) (iblk m c 2 t) (iblk m c 3 t) d)
  isplitl [HY]; · iexact HY
  isplitl [H1]; · iexact H1
  isplitl [H2]; · iexact H2
  isplitl [H3]; · iexact H3
  isplitl [H4]; · iexact H4
  iintro HY H1 H2 H3 H4
  iapply HK $$ [HY HB HS Hg] H0 H1 H2 H3 [H4]
  · isplitl [HY]
    · iexists (1 : Fin 2); iexists _
      isplitr; swap; · iexact HY
      ipureintro; intro h; omega
    isplitl [HB]; · iexact HB
    isplitl [HS]; · iexact HS
    iexact Hg
  · unfold outAt; iexact H4

/-- Any point after the first. -/
theorem point_later (c : Dev nD) (t : Fin cfg0.N) (h0 : t.val ≠ 0) (d : Vec F S256x2048 .f32) (K : PUnit → sProp 𝕄) :
    iprop(Later m c t.val ∗ owns (c : Thread nD τ) (st0_0 t) fullShare (iblk m c 0 t) ∗ owns (c : Thread nD τ) (st0_1 t) fullShare (iblk m c 1 t)
        ∗ owns (c : Thread nD τ) (st0_2 t) fullShare (iblk m c 2 t) ∗ owns (c : Thread nD τ) (st0_3 t) fullShare (iblk m c 3 t)
        ∗ owns (c : Thread nD τ) (st0_4 t) fullShare d
        ∗ (Later m c (t.val + 1) -∗ owns (c : Thread nD τ) (st0_0 t) fullShare (iblk m c 0 t) -∗ owns (c : Thread nD τ) (st0_1 t) fullShare (iblk m c 1 t)
            -∗ owns (c : Thread nD τ) (st0_2 t) fullShare (iblk m c 2 t) -∗ owns (c : Thread nD τ) (st0_3 t) fullShare (iblk m c 3 t)
            -∗ owns (c : Thread nD τ) (st0_4 t) fullShare (outAt m c t) -∗ K ⟨⟩))
      ⊢ wp frame (wpE (defs₀ (F := F)) Variants.none c none) Set.univ (bodyAt0 t) K := by
  unfold bodyAt0
  obtain ⟨-, k2, k3, k4⟩ := kinds t
  by_cases hN : t.val = 32
  · obtain ⟨h1, h2, h3, h4⟩ := k4 hN
    rw [body_last (grid0.coords t) _ _ _ _ _ _ _ _ _ _ h1 h2 h3 h4]
    exact point_last m c t hN d K
  rcases Nat.mod_two_eq_zero_or_one t.val with hp | hp
  · obtain ⟨h1, h2, h3, h4⟩ := k2 ⟨h0, hN, hp⟩
    rw [body_even (grid0.coords t) _ _ _ _ _ _ _ _ _ _ h1 h2 h3 h4]
    exact point_mid m c t h0 hN 1 0 (by show 1 = _; omega) hp.symm d K
  · obtain ⟨h1, h2, h3, h4⟩ := k3 hp
    rw [body_odd (grid0.coords t) _ _ _ _ _ _ _ _ _ _ h1 h2 h3 h4]
    exact point_mid m c t h0 hN 0 1 (by show 0 = _; omega) hp.symm d K

/-! ## The run -/

def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outAt m c t
  Φ t := Inv m c t.val
  q _ := fullShare
  owed _ := 0

theorem A_eq (c : Dev nD) (w : Fin cfg0.W) : (dats m 0 c).A w = V m c (Pipeline.arrRef spec0 w) := by dsimp only [dats]
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = outAt m c t := by dsimp only [dats]

theorem before_0 (c : Dev nD) (t : Fin cfg0.N) (d) : (dats m 0 c).before 0 t d = iblk m c 0 t :=
  ((dats m 0 c).before_in_eq_fetched 0 rfl (fun _ => rfl) (fun _ _ _ => rfl)
    (fun t => by rw [after_0]; unfold Dat.blockOf iblk; rw [A_eq]; try rfl) t d).trans (by unfold Dat.fetched Dat.blockOf iblk; rw [A_eq]; try rfl)
theorem before_1 (c : Dev nD) (t : Fin cfg0.N) (d) : (dats m 0 c).before 1 t d = iblk m c 1 t :=
  ((dats m 0 c).before_in_eq_fetched 1 rfl (fun _ => rfl) (fun _ _ _ => rfl)
    (fun t => by rw [after_1]; unfold Dat.blockOf iblk; rw [A_eq]; try rfl) t d).trans (by unfold Dat.fetched Dat.blockOf iblk; rw [A_eq]; try rfl)
theorem before_2 (c : Dev nD) (t : Fin cfg0.N) (d) : (dats m 0 c).before 2 t d = iblk m c 2 t :=
  ((dats m 0 c).before_in_eq_fetched 2 rfl (fun _ => rfl) (fun _ _ _ => rfl)
    (fun t => by rw [after_2]; unfold Dat.blockOf iblk; rw [A_eq]; try rfl) t d).trans (by unfold Dat.fetched Dat.blockOf iblk; rw [A_eq]; try rfl)
theorem before_3 (c : Dev nD) (t : Fin cfg0.N) (d) : (dats m 0 c).before 3 t d = iblk m c 3 t :=
  ((dats m 0 c).before_in_eq_fetched 3 rfl (fun _ => rfl) (fun _ _ _ => rfl)
    (fun t => by rw [after_3]; unfold Dat.blockOf iblk; rw [A_eq]; try rfl) t d).trans (by unfold Dat.fetched Dat.blockOf iblk; rw [A_eq]; try rfl)

theorem row_eq (t : Fin cfg0.N) : defs₀ (F := F) .tc cfg0.body (cfg0.bodyArgs t (cfg0.slots t)) = bodyAt0 t := by
  unfold defs₀; rw [Defs.onTc_tc]

theorem obligation (c : Dev nD) : BodyObligationLoose (dats m 0 c) (defs₀ (F := F)) Variants.none () Set.univ := fun t => by
  rw [bigSep_W0, bigSep_W0, row_eq]
  simp only
  rw [show (dats m 0 c).Φ t.castSucc = Inv m c t.val from rfl, show (dats m 0 c).Φ t.succ = Inv m c (t.val + 1) from rfl, Inv_pos m c _ (Nat.succ_ne_zero _)]
  unfold Dat.owesAt Pipeline.owesWithin
  rw [show (dats m 0 c).owed t.castSucc = 0 from rfl, show (dats m 0 c).owed t.succ = 0 from rfl]
  by_cases h0 : t.val = 0
  · rw [show idle0 4 (grid0.coords t) = true from by rw [idle_at, h0]; rfl, show (win0 4).flush t = false from by rw [flush_at, h0]; rfl,
      show Inv m c t.val = Pipeline.ΦD osem0 spec0 H0 (V m) c from by rw [h0, Inv_zero], show Later m c t.val.succ = Later m c 1 from by rw [h0]]
    simp only
    iintro ⟨HI, ⟨%O, -, HO⟩, ⟨%d0, H0⟩, ⟨%d1, H1⟩, ⟨%d2, H2⟩, ⟨%d3, H3⟩, H4⟩
    rw [before_0 m c t d0, before_1 m c t d1, before_2 m c t d2, before_3 m c t d3, after_0, after_1, after_2, after_3]
    iapply (point_first m c t h0 _)
    isplitl [HI]; · iexact HI
    isplitl [HO]; · iexists O; iexact HO
    isplitl [H0]; · iexact H0
    iintro HI ⟨%O', HO⟩ H0
    isplitl [HI]; · iexact HI
    isplitl [HO]
    · iexists O'; isplitr; · ipureintro; exact fun _ _ => Or.inl trivial
      iexact HO
    isplitl [H0]; · iexact H0
    isplitl [H1]; · iexact H1
    isplitl [H2]; · iexact H2
    isplitl [H3]; · iexact H3
    iexact H4
  · rw [show idle0 4 (grid0.coords t) = false from by rw [idle_at]; exact decide_eq_false h0, Inv_pos m c _ h0]
    simp only
    iintro ⟨HI, HO, ⟨%d0, H0⟩, ⟨%d1, H1⟩, ⟨%d2, H2⟩, ⟨%d3, H3⟩, ⟨%d4, H4⟩⟩
    rw [before_0 m c t d0, before_1 m c t d1, before_2 m c t d2, before_3 m c t d3, after_0, after_1, after_2, after_3, after_4]
    iapply (point_later m c t h0 _ _)
    isplitl [HI]; · iexact HI
    isplitl [H0]; · iexact H0
    isplitl [H1]; · iexact H1
    isplitl [H2]; · iexact H2
    isplitl [H3]; · iexact H3
    isplitl [H4]; · iexact H4
    iintro HI H0 H1 H2 H3 H4
    isplitl [HI]; · iexact HI
    isplitl [HO]; · iexact HO
    isplitl [H0]; · iexact H0
    isplitl [H1]; · iexact H1
    isplitl [H2]; · iexact H2
    isplitl [H3]; · iexact H3
    iexact H4

set_option maxHeartbeats 800000 in
theorem main_upto (𝒱₀ : Variants) : Pipeline.HMain (Ix := Unit) (Name := ℕ) (U := Pipeline.UD sig nD τ) (Lvl := ℕ) cfgs 0 defs₀ 𝒱₀ m (main (F := F)) (V m) :=
  Pipeline.hmain_prefix cfgs 0 defs₀ 𝒱₀ m main hostOps0 hostOps0_sub hostOps0_fresh main_chain

set_option backward.isDefEq.respectTransparency.types false in
theorem run : θ_run defs (onTc (τ := τ) (main (F := F))) (s₀ m ρ)
    (fun r => Pipeline.FramePost cfgs (dats m) 0 (V m) r ∧ r.2.sem = fun _ => 0) :=
  Pipeline.θ_run_frame_dma (Q' := _) cfgs (dats m) (0 : Fin 1) launch0 osem0 defs₀ Variants.none ownSemFacts0 H0 H0_sub m ρ main
    (hbody := obligation m) (hshare := fun c => (dats m 0 c).share_full fun _ => rfl) (howed := fun _ _ => rfl) (V := V m)
    (hmain := main_upto m Variants.none) (hA := A_eq m)
    (hin := fun c => by rw [show (dats m 0 c).Φ 0 = Inv m c 0 from rfl, Inv_zero])
    (hout := fun c => by
      rw [show (dats m 0 c).Φ (Fin.last cfg0.N) = Inv m c cfg0.N from rfl, Inv_pos m c _ (by rw [show cfg0.N = 33 from N_0]; decide)]
      exact later_out m c _)

/-- The run with the output named: it ends at what the points left, and the arguments as launched. -/
theorem named : θ_run defs (onTc (τ := τ) (main (F := F))) ⟨m, fun _ => 0, ρ⟩ (fun r => (∀ c : Dev nD,
      r.2.mem ((c.tc : Thread nD τ).loc main_v2) = (dats m 0 c).arrAt 4 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨fun c => ⟨(h.1 c).1 4,
      ((h.1 c).1 0).trans (((dats m 0 c).arrAt_in 0 rfl _).trans ((A_eq m c 0).trans (V_main_arg0 m c))),
      ((h.1 c).2 main_arg1 (Pipeline.mem_restRefs_of main_arg1 (by decide) (by decide))).trans (V_main_arg1 m c),
      ((h.1 c).1 1).trans (((dats m 0 c).arrAt_in 1 rfl _).trans ((A_eq m c 1).trans (V_main_arg2 m c))),
      ((h.1 c).2 main_arg3 (Pipeline.mem_restRefs_of main_arg3 (by decide) (by decide))).trans (V_main_arg3 m c),
      ((h.1 c).2 main_arg4 (Pipeline.mem_restRefs_of main_arg4 (by decide) (by decide))).trans (V_main_arg4 m c)⟩, h.2⟩) (run m ρ)

/-- The frame: the arguments end as launched and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨fun c => (h.1 c).2, h.2⟩) (named m ρ)

end Cert.DownRun

end
-- ==== Proof.DownEqual.lean ====
/- The down-projection call over the extended reals: the result, of the kernel and of the reference, as the root-mean-square
   norm of x + (gate / 2) · (rows times columns). -/
module

public import proofs.«01_k».proof.Proof.DownFrame
public import proofs.«01_k».proof.Proof.Dots
public import proofs.«01_k».proof.Proof.Gen.DownRefIdeal.Read
public import proofs.«01_k».proof.Proof.Gen.DownRefIdeal.Run

@[expose] public section

set_option maxRecDepth 16384

noncomputable section

namespace Cert.DownEqual

open Idealize.ShloMosaic Idealize.ShloMosaic.TcCoe Idealize.ShloMosaic.Tactic
open Cert.DownIdeal Cert.DownIdeal.Gen Cert.DownRun

/-- A half, the row length and the norm's small addend. -/
abbrev half : EReal := Scalar.ofBits (F := Ideal) .f32 0x3F000000#32
abbrev width : EReal := Scalar.ofBits (F := Ideal) .f32 0x45000000#32
abbrev small : EReal := Scalar.ofBits (F := Ideal) .f32 0x358637BD#32

/-- A row scaled by the reciprocal root of its mean square, and by `g`. -/
def normed (row : Fin 2048 → EReal) (g : EReal) (q : Fin 2048) : EReal :=
  row q * FloatOps.rsqrt (F := Ideal) (φ := .f32) (FloatOps.divf (F := Ideal) (φ := .f32) (∑ k : Fin 2048, row k * row k) width + small) * g

/-- The sum before the norm, at row `r` and column `q`. -/
def resid (act : FVec Ideal S8192x5504 .bf16) (w : FVec Ideal S4x2x5504x2048 .f32) (x : FVec Ideal S8192x2048 .f32)
    (mods : FVec Ideal S4x18432 .f32) (r : Fin 8192) (q : Fin 2048) : EReal :=
  x (ix2 r q) + half * mods (ix2 (⟨r.val / 2048, by have := r.isLt; omega⟩ : Fin 4) (⟨16384 + q.val, by have := q.isLt; omega⟩ : Fin 18432))
    * ∑ k : Fin 5504, act (ix2 r k) * w (ix4 (3 : Fin 4) (1 : Fin 2) k q)

/-- The call's result. -/
def result (act : FVec Ideal S8192x5504 .bf16) (w : FVec Ideal S4x2x5504x2048 .f32) (x : FVec Ideal S8192x2048 .f32)
    (mods : FVec Ideal S4x18432 .f32) (g : FVec Ideal S2048 .f32) : FVec Ideal S8192x2048 .f32 :=
  fun y => normed (resid act w x mods (y 0)) (g (ix1 (y 1))) (y 1)

/-! ## The products -/

section
variable {c : Dev nD} (x : FVec Ideal S256x5504 .bf16) (W : Buf (Elt Ideal) (wtM.view.loc (T c)))

/-- A block of the rounded weights reads the weights. -/
theorem rblk_apply (k : ℕ) (hk : k < 43) (p : Fin 128) (q : Fin 2048) :
    (rblk W k : FVec Ideal S128x2048 .bf16) (ix2 p q)
      = (W : FVec Ideal S4x2x5504x2048 .f32) (ix4 (3 : Fin 4) (1 : Fin 2) (⟨128 * k + p.val, by have := p.isLt; omega⟩ : Fin 5504) q) := by
  have hc : S1x1x128x2048.ShapeCasts S128x2048 := rfl
  refine (congrFun (Memref.read_squeeze_slice wtM (rBlk k) (fun _ => rfl) squeezes_S1x1x128x2048_S128x2048 hc W) (ix2 p q)).trans ?_
  refine (shapeCast_apply _ hc (ix2 p q) (ix4 (0 : Fin 1) (0 : Fin 1) p q) ?_).trans ?_
  · rw [Shape.rowMajor_val_four, Shape.rowMajor_val_two]
    show ((0 * 1 + 0) * 128 + p.val) * 2048 + q.val = p.val * 2048 + q.val
    omega
  refine congrArg W (funext fun a => Fin.ext ?_)
  have hm : k % 43 = k := Nat.mod_eq_of_lt hk
  match a with
  | ⟨0, _⟩ => rfl
  | ⟨1, _⟩ => rfl
  | ⟨2, _⟩ => show 128 * (k % 43) + 1 * p.val = 128 * k + p.val; rw [hm]; omega
  | ⟨3, _⟩ => show 0 + 1 * q.val = q.val; omega

/-- The summand of the whole product, at any number. -/
def term (p : Fin 256) (q : Fin 2048) (n : ℕ) : EReal :=
  if h : n < 5504 then x (ix2 p (⟨n, h⟩ : Fin 5504)) * (W : FVec Ideal S4x2x5504x2048 .f32) (ix4 (3 : Fin 4) (1 : Fin 2) (⟨n, h⟩ : Fin 5504) q) else 0

theorem part_apply (k : ℕ) (hk : k < 43) (p : Fin 256) (q : Fin 2048) :
    (part x W k : FVec Ideal S256x2048 .f32) (ix2 p q) = ∑ n ∈ Finset.range 128, term x W p q (128 * k + n) := by
  unfold part
  rw [Dots.product_apply dot_S256x128_S128x2048_S256x2048_1_0_0_1_n_n rfl, Finset.sum_range]
  refine Finset.sum_congr rfl fun n _ => ?_
  have hn := n.isLt
  have hm : k % 43 = k := Nat.mod_eq_of_lt hk
  rw [rblk_apply W k hk, term, dif_pos (by omega)]
  refine congrArg (fun a : EReal => a * _) (congrArg x (funext fun a => Fin.ext ?_))
  match a with
  | ⟨0, _⟩ => show 0 + 1 * p.val = p.val; omega
  | ⟨1, _⟩ => show 128 * (k % 43) + 1 * n.val = 128 * k + n.val; rw [hm]; omega

theorem acc_apply (p : Fin 256) (q : Fin 2048) : ∀ k, k < 43 →
    (acc x W k : FVec Ideal S256x2048 .f32) (ix2 p q) = ∑ n ∈ Finset.range (128 * (k + 1)), term x W p q n
  | 0, _ => by
    show (part x W 0 : FVec Ideal S256x2048 .f32) (ix2 p q) = _
    rw [part_apply x W 0 (by decide)]
    refine Finset.sum_congr rfl fun n _ => congrArg _ (by omega)
  | k + 1, hk => by
    show (acc x W k : FVec Ideal S256x2048 .f32) (ix2 p q) + (part x W (k + 1) : FVec Ideal S256x2048 .f32) (ix2 p q) = _
    rw [acc_apply p q k (by omega), part_apply x W (k + 1) hk, show 128 * (k + 1 + 1) = 128 * (k + 1) + 128 from rfl, Finset.sum_range_add]

/-- The first point's product, block by block, -/
theorem blocks_apply (p : Fin 256) (q : Fin 2048) :
    (acc x W 42 : FVec Ideal S256x2048 .f32) (ix2 p q)
      = ∑ k : Fin 5504, x (ix2 p k) * (W : FVec Ideal S4x2x5504x2048 .f32) (ix4 (3 : Fin 4) (1 : Fin 2) k q) := by
  rw [acc_apply x W p q 42 (by decide), show 128 * (42 + 1) = 5504 from rfl, Finset.sum_range]
  exact Finset.sum_congr rfl fun k _ => dif_pos k.isLt

/-- and the later points', whole. -/
theorem full_apply (p : Fin 256) (q : Fin 2048) :
    (full x (wbw W) : FVec Ideal S256x2048 .f32) (ix2 p q)
      = ∑ k : Fin 5504, x (ix2 p k) * (W : FVec Ideal S4x2x5504x2048 .f32) (ix4 (3 : Fin 4) (1 : Fin 2) k q) := by
  unfold full
  rw [Dots.product_apply dot_S256x5504_S5504x2048_S256x2048_1_0_0_1_n_n rfl]
  refine Finset.sum_congr rfl fun k _ => congrArg (fun a : EReal => x (ix2 p k) * a) ?_
  have hk := k.isLt
  show (rblk W (k.val / 128) : FVec Ideal S128x2048 .bf16) _ = _
  refine Eq.trans (congrArg _ ?_) ((rblk_apply W (k.val / 128) (by omega) (⟨k.val % 128, Nat.mod_lt _ (by decide)⟩ : Fin 128) q).trans ?_)
  · funext a
    match a with
    | ⟨0, _⟩ => rfl
    | ⟨1, _⟩ => rfl
  · refine congrArg _ (congrArg (fun n : Fin 5504 => ix4 (3 : Fin 4) (1 : Fin 2) n q) (Fin.ext ?_))
    show 128 * (k.val / 128) + k.val % 128 = k.val; omega
end

/-! ## The output block -/

section
variable (y x : FVec Ideal S256x2048 .f32) (gt : FVec Ideal S1x1x1x2048 .f32) (g : FVec Ideal S1x2048 .f32)

/-- The block before the norm. -/
def before : FVec Ideal S256x2048 .f32 :=
  addf x (mulf (broadcastTo S256x2048 (mulf (broadcast S1x2048 (Scalar.ofBits (F := Ideal) .f32 0x3F000000#32))
    (shapeCast S1x2048 gt shapeCasts_S1x1x1x2048_S1x2048)) broadcasts_S1x2048_S256x2048) y)

theorem before_apply (p : Fin 256) (q : Fin 2048) :
    before y x gt (ix2 p q) = x (ix2 p q) + half * gt (ix4 (0 : Fin 1) (0 : Fin 1) (0 : Fin 1) q) * y (ix2 p q) := by
  pointwise [before]

/-- The norm of a block. -/
def after (b : FVec Ideal S256x2048 .f32) : FVec Ideal S256x2048 .f32 :=
  mulf (mulf b (broadcastTo S256x2048 (rsqrt (addf (divf (shapeCast S256x1 (multiReduction .add [1] S256 (mulf b b) 0x00000000#32
      reduces_S256x2048_S256 (.inl rfl) rfl) shapeCasts_S256_S256x1) (broadcast S256x1 (Scalar.ofBits (F := Ideal) .f32 0x45000000#32)))
      (broadcast S256x1 (Scalar.ofBits (F := Ideal) .f32 0x358637BD#32)))) broadcasts_S256x1_S256x2048))
    (broadcastTo S256x2048 g broadcasts_S1x2048_S256x2048)

theorem after_apply (b : FVec Ideal S256x2048 .f32) (p : Fin 256) (q : Fin 2048) :
    after g b (ix2 p q) = normed (fun k => b (ix2 p k)) (g (ix2 (0 : Fin 1) q)) q := by
  pointwise [after]
  rfl

theorem outv_eq : outv (F := Ideal) y x gt g = after g (before y x gt) := by
  unfold outv k0_pay132
  rw [shapeCast_shapeCast, shapeCast_self]
  rfl
end

/-! ## The array -/

section
variable (m : (ℓ : Loc nD τ sig) → Buf (Elt Ideal) ℓ)

theorem idx_facts : ∀ t : Fin cfg0.N, win0_0.index t (0 : Fin 2) = min t.val 31 ∧ win0_0.index t (1 : Fin 2) = 0
    ∧ win0_1.index t (0 : Fin 2) = t.val - 1 ∧ win0_1.index t (1 : Fin 2) = 0
    ∧ win0_2.index t (0 : Fin 4) = (t.val - 1) / 8 ∧ win0_2.index t (1 : Fin 4) = 8 ∧ win0_2.index t (2 : Fin 4) = 0 ∧ win0_2.index t (3 : Fin 4) = 0
    ∧ win0_3.index t (0 : Fin 2) = 0 ∧ win0_3.index t (1 : Fin 2) = 0
    ∧ win0_4.index t (0 : Fin 2) = t.val - 1 ∧ win0_4.index t (1 : Fin 2) = 0 :=
  (by decide +kernel : ∀ t : Fin grid0.N, _)

/-- The modulation and the scale as the region finds them. -/
theorem V_mods (c : Dev nD) : V m c main_v0
    = (shapeCast S4x9x1x2048 (m ((c : Thread nD τ).loc main_arg3) : FVec Ideal S4x18432 .f32) shapeCasts_S4x18432_S4x9x1x2048 : FVec Ideal S4x9x1x2048 .f32) := by
  simp only [V, hostOps0, List.flatten_cons, List.flatten_nil, List.append_nil, List.cons_append, List.nil_append, StableHlo.after_cons, StableHlo.after_nil]
  rfl
theorem V_scale (c : Dev nD) : V m c main_v1
    = (shapeCast S1x2048 (m ((c : Thread nD τ).loc main_arg4) : FVec Ideal S2048 .f32) shapeCasts_S2048_S1x2048 : FVec Ideal S1x2048 .f32) := by
  simp only [V, hostOps0, List.flatten_cons, List.flatten_nil, List.append_nil, List.cons_append, List.nil_append, StableHlo.after_cons, StableHlo.after_nil]
  rfl

theorem act_apply (c : Dev nD) (t : Fin cfg0.N) (p : Fin 256) (k : Fin 5504) (r : Fin 8192) (hr : r.val = 256 * min t.val 31 + p.val) :
    (iblk m c 0 t : Vec Ideal S256x5504 .bf16) (ix2 p k) = m ((c : Thread nD τ).loc main_arg0) (ix2 r k) := by
  obtain ⟨e0, e1, -⟩ := idx_facts t
  show V m c main_arg0 (((cfg0.win 0).blk t).view.emb (ix2 p k)) = _
  rw [V_main_arg0]
  refine congrArg _ (funext fun a => Fin.ext ?_)
  match a with
  | ⟨0, _⟩ => show win0_0.index t (0 : Fin 2) * 256 + 1 * p.val = r.val; rw [e0, hr]; omega
  | ⟨1, _⟩ => show win0_0.index t (1 : Fin 2) * 5504 + 1 * k.val = k.val; rw [e1]; omega

theorem x_apply (c : Dev nD) (t : Fin cfg0.N) (p : Fin 256) (q : Fin 2048) (r : Fin 8192) (hr : r.val = 256 * (t.val - 1) + p.val) :
    (iblk m c 1 t : Vec Ideal S256x2048 .f32) (ix2 p q) = m ((c : Thread nD τ).loc main_arg2) (ix2 r q) := by
  obtain ⟨-, -, e0, e1, -⟩ := idx_facts t
  show V m c main_arg2 (((cfg0.win 1).blk t).view.emb (ix2 p q)) = _
  rw [V_main_arg2]
  refine congrArg _ (funext fun a => Fin.ext ?_)
  match a with
  | ⟨0, _⟩ => show win0_1.index t (0 : Fin 2) * 256 + 1 * p.val = r.val; rw [e0, hr]; omega
  | ⟨1, _⟩ => show win0_1.index t (1 : Fin 2) * 2048 + 1 * q.val = q.val; rw [e1]; omega

theorem mods_apply (c : Dev nD) (t : Fin cfg0.N) (q : Fin 2048) (b : Fin 4) (hb : b.val = (t.val - 1) / 8) (s : Fin 18432) (hs : s.val = 16384 + q.val) :
    (iblk m c 2 t : Vec Ideal S1x1x1x2048 .f32) (ix4 (0 : Fin 1) (0 : Fin 1) (0 : Fin 1) q) = m ((c : Thread nD τ).loc main_arg3) (ix2 b s) := by
  obtain ⟨-, -, -, -, e0, e1, e2, e3, -⟩ := idx_facts t
  have hq := q.isLt
  show V m c main_v0 (((cfg0.win 2).blk t).view.emb (ix4 (0 : Fin 1) (0 : Fin 1) (0 : Fin 1) q)) = _
  rw [V_mods]
  have e : ((cfg0.win 2).blk t).view.emb (ix4 (0 : Fin 1) (0 : Fin 1) (0 : Fin 1) q) = (ix4 b (8 : Fin 9) (0 : Fin 1) q : S4x9x1x2048.Idx) := by
    refine funext fun a => Fin.ext ?_
    match a with
    | ⟨0, _⟩ => show win0_2.index t (0 : Fin 4) * 1 + 1 * 0 = b.val; rw [e0, hb]; omega
    | ⟨1, _⟩ => show win0_2.index t (1 : Fin 4) * 1 + 1 * 0 = 8; rw [e1]
    | ⟨2, _⟩ => show win0_2.index t (2 : Fin 4) * 1 + 1 * 0 = 0; rw [e2]
    | ⟨3, _⟩ => show win0_2.index t (3 : Fin 4) * 2048 + 1 * q.val = q.val; rw [e3]; omega
  rw [e]
  refine shapeCast_apply _ _ _ (ix2 b s) ?_
  rw [Shape.rowMajor_val_two, Shape.rowMajor_val_four]
  show b.val * 18432 + s.val = ((b.val * 9 + 8) * 1 + 0) * 2048 + q.val
  omega

theorem scale_apply (c : Dev nD) (t : Fin cfg0.N) (q : Fin 2048) :
    (iblk m c 3 t : Vec Ideal S1x2048 .f32) (ix2 (0 : Fin 1) q) = m ((c : Thread nD τ).loc main_arg4) (ix1 q) := by
  obtain ⟨-, -, -, -, -, -, -, -, e0, e1, -⟩ := idx_facts t
  show V m c main_v1 (((cfg0.win 3).blk t).view.emb (ix2 (0 : Fin 1) q)) = _
  rw [V_scale]
  have e : ((cfg0.win 3).blk t).view.emb (ix2 (0 : Fin 1) q) = (ix2 (0 : Fin 1) q : S1x2048.Idx) := by
    refine funext fun a => Fin.ext ?_
    match a with
    | ⟨0, _⟩ => show win0_3.index t (0 : Fin 2) * 1 + 1 * 0 = 0; rw [e0]
    | ⟨1, _⟩ => show win0_3.index t (1 : Fin 2) * 2048 + 1 * q.val = q.val; rw [e1]; omega
  rw [e]
  refine shapeCast_apply _ _ _ (ix1 q) ?_
  rw [Shape.rowMajor_val_one, Shape.rowMajor_val_two]
  show q.val = 0 * 2048 + q.val
  omega

/-- A point's product: the rows of its block times the columns. -/
theorem prod_apply (c : Dev nD) (n : ℕ) (hn : n < 32) (p : Fin 256) (q : Fin 2048) (r : Fin 8192) (hr : r.val = 256 * n + p.val)
    (act : FVec Ideal S8192x5504 .bf16) (ha : m ((c : Thread nD τ).loc main_arg0) = act)
    (w : FVec Ideal S4x2x5504x2048 .f32) (he : m ((c : Thread nD τ).loc main_arg1) = w) :
    DownRun.prod m c n (ix2 p q) = ∑ k : Fin 5504, act (ix2 r k) * w (ix4 (3 : Fin 4) (1 : Fin 2) k q) := by
  subst ha he
  have hw : Wt m c = m ((c : Thread nD τ).loc main_arg1) := V_main_arg1 m c
  have hv : (pt n).val = n := Nat.mod_eq_of_lt (by omega)
  have hx : ∀ k : Fin 5504, (iblk m c 0 (pt n) : Vec Ideal S256x5504 .bf16) (ix2 p k) = m ((c : Thread nD τ).loc main_arg0) (ix2 r k) :=
    fun k => act_apply m c (pt n) p k r (by rw [hv, hr]; omega)
  unfold DownRun.prod
  rw [hw]
  by_cases h : n = 0
  · rw [if_pos h, blocks_apply]
    exact Finset.sum_congr rfl fun k _ => congrArg (fun a : EReal => a * _) (hx k)
  · rw [if_neg h, full_apply]
    exact Finset.sum_congr rfl fun k _ => congrArg (fun a : EReal => a * _) (hx k)

/-- The result at the arguments. -/
abbrev out (c : Dev nD) : FVec Ideal S8192x2048 .f32 :=
  result (m ((c : Thread nD τ).loc main_arg0)) (m ((c : Thread nD τ).loc main_arg1)) (m ((c : Thread nD τ).loc main_arg2))
    (m ((c : Thread nD τ).loc main_arg3)) (m ((c : Thread nD τ).loc main_arg4))

theorem outAt_apply (c : Dev nD) (t : Fin cfg0.N) (h : t.val ≠ 0) (p : Fin 256) (q : Fin 2048) (r : Fin 8192) (hr : r.val = 256 * (t.val - 1) + p.val) :
    outAt m c t (ix2 p q) = out m c (ix2 r q) := by
  have ht := bound t
  have hp := p.isLt
  unfold outAt
  rw [outv_eq, after_apply, scale_apply]
  refine congrArg (fun f => normed f _ q) (funext fun k => ?_)
  have hk := k.isLt
  rw [before_apply, x_apply m c t p k r hr, prod_apply m c (t.val - 1) (by omega) p k r hr _ rfl _ rfl,
    mods_apply m c t k (⟨r.val / 2048, by omega⟩ : Fin 4) (by show r.val / 2048 = _; omega) (⟨16384 + k.val, by omega⟩ : Fin 18432) rfl]
  rfl

/-- Each flushed block is its block of the result. -/
theorem flushed_eq (c : Dev nD) (t : Fin cfg0.N) (hf : (cfg0.win 4).flush t = true) :
    (dats m 0 c).flushed 4 t = ((cfg0.win 4).blk t).view.read (Elt Ideal) (out m c) := by
  have h : t.val ≠ 0 := by
    intro h
    have e := flush_at t
    rw [show (win0 4).flush t = true from hf, h] at e
    exact absurd e (by decide)
  have ht := bound t
  obtain ⟨-, -, -, -, -, -, -, -, -, -, i0, i1⟩ := idx_facts t
  show (cfg0.win 4).cut (grid0.coords t) ((dats m 0 c).after 4 t) = _
  rw [after_4]
  funext j
  have l0 : (j 0).val < 256 := (j 0).isLt
  have l1 : (j 1).val < 2048 := (j 1).isLt
  have ej : (cfg0.win 4).xinj (grid0.coords t) j = (ix2 (⟨(j 0).val, l0⟩ : Fin 256) (⟨(j 1).val, l1⟩ : Fin 2048) : S256x2048.Idx) :=
    funext fun a => Fin.ext (by match a with | ⟨0, _⟩ => rfl | ⟨1, _⟩ => rfl)
  have ei : ((cfg0.win 4).blk t).view.emb j
      = (ix2 (⟨256 * (t.val - 1) + (j 0).val, by omega⟩ : Fin 8192) (⟨(j 1).val, l1⟩ : Fin 2048) : S8192x2048.Idx) := by
    refine funext fun a => Fin.ext ?_
    match a with
    | ⟨0, _⟩ => show win0_4.index t (0 : Fin 2) * 256 + 1 * (j 0).val = 256 * (t.val - 1) + (j 0).val; rw [i0]; omega
    | ⟨1, _⟩ => show win0_4.index t (1 : Fin 2) * 2048 + 1 * (j 1).val = (j 1).val; rw [i1]; omega
  show outAt m c t ((cfg0.win 4).xinj (grid0.coords t) j) = out m c (((cfg0.win 4).blk t).view.emb j)
  rw [ej, ei]
  exact outAt_apply m c t h _ _ _ rfl

/-- The flushed blocks fill the array. -/
theorem cover (i : S8192x2048.Idx) : ∃ t : Fin cfg0.N, (cfg0.win 4).flush t = true ∧ i ∈ ((cfg0.win 4).blk t).view.set := by
  have hi0 : (i 0).val < 8192 := (i 0).isLt
  have hi1 : (i 1).val < 2048 := (i 1).isLt
  have ht : (i 0).val / 256 + 1 < cfg0.N := by rw [show cfg0.N = 33 from N_0]; omega
  generalize hT : (⟨_, ht⟩ : Fin cfg0.N) = t
  have hv : t.val = (i 0).val / 256 + 1 := by rw [← hT]
  refine ⟨t, (flush_at t).trans (by rw [hv]; rfl), ?_⟩
  obtain ⟨-, -, -, -, -, -, -, -, -, -, i0, i1⟩ := idx_facts t
  rw [View.set_slice_whole, Rect.mem_set_unit]
  intro a
  match a with
  | ⟨0, _⟩ =>
    show win0_4.index t (0 : Fin 2) * 256 ≤ (i 0).val ∧ (i 0).val < win0_4.index t (0 : Fin 2) * 256 + 256
    rw [i0]; omega
  | ⟨1, _⟩ =>
    show win0_4.index t (1 : Fin 2) * 2048 ≤ (i 1).val ∧ (i 1).val < win0_4.index t (1 : Fin 2) * 2048 + 2048
    rw [i1]; omega

/-- The array after the run. -/
theorem final (c : Dev nD) : (dats m 0 c).arrAt 4 cfg0.N = out m c :=
  (dats m 0 c).arrAt_eq_of_cover 4 (out m c) (fun t ht => flushed_eq m c t ht) cover

end

/-! ## The reference -/

section
open Cert.DownRefIdeal.Read

theorem ref_resid (x0 : FVec Ideal S8192x5504 .bf16) (x1 : FVec Ideal S4x2x5504x2048 .f32) (x2 : FVec Ideal S8192x2048 .f32)
    (x3 : FVec Ideal S4x18432 .f32) (r : Fin 8192) (q : Fin 2048) (i : Cert.DownRefIdeal.S4x2048x2048.Idx)
    (h0 : (i 0).val = r.val / 2048) (h1 : (i 1).val = r.val % 2048) (h2 : (i 2).val = q.val) :
    val_main_v20 (F := Ideal) x0 x1 x2 x3 i = resid x0 x1 x2 x3 r q := by
  have hr := r.isLt
  have hq := q.isLt
  rw [val_main_v20_apply, val_main_v2_apply, val_main_v19_apply, val_main_v18_apply, val_main_v14_apply, val_main_v13_apply, val_main_cst_apply,
    val_main_v12_apply, val_main_v3_apply, val_main_v17_apply]
  refine congrArg₂ (fun a b : EReal => a + b) (congrArg x2 (funext fun a => Fin.ext ?_))
    (congrArg₂ (fun a b : EReal => a * b) (congrArg (fun a : EReal => half * a) (congrArg x3 (funext fun a => Fin.ext ?_)))
      (Finset.sum_congr rfl fun k _ => ?_))
  · match a with
    | ⟨0, _⟩ => show (((i 0).val * 2048 + (i 1).val) * 2048 + (i 2).val) / 2048 = r.val; omega
    | ⟨1, _⟩ => show (((i 0).val * 2048 + (i 1).val) * 2048 + (i 2).val) % 2048 = q.val; omega
  · match a with
    | ⟨0, _⟩ => exact h0
    | ⟨1, _⟩ => show 16384 + (i 2).val = 16384 + q.val; omega
  · have hk := k.isLt
    rw [val_main_v1_apply, val_main_v0_apply, val_main_v16_apply, val_main_v15_apply]
    refine congrArg₂ (fun a b : EReal => a * b) (congrArg x0 (funext fun a => Fin.ext ?_)) (congrArg x1 (funext fun a => Fin.ext ?_))
    · match a with
      | ⟨0, _⟩ => show (((i 0).val * 2048 + (i 1).val) * 5504 + k.val) / 5504 = r.val; omega
      | ⟨1, _⟩ => show (((i 0).val * 2048 + (i 1).val) * 5504 + k.val) % 5504 = k.val; omega
    · match a with
      | ⟨0, _⟩ => rfl
      | ⟨1, _⟩ => rfl
      | ⟨2, _⟩ => show (k.val * 2048 + (i 2).val) / 2048 % 5504 = k.val; omega
      | ⟨3, _⟩ => show (k.val * 2048 + (i 2).val) % 2048 = q.val; omega

/-- The reference's result. -/
theorem ref_eq (x0 : FVec Ideal S8192x5504 .bf16) (x1 : FVec Ideal S4x2x5504x2048 .f32) (x2 : FVec Ideal S8192x2048 .f32)
    (x3 : FVec Ideal S4x18432 .f32) (x4 : FVec Ideal S2048 .f32) :
    val_main_v34 (F := Ideal) x0 x1 x2 x3 x4 = result x0 x1 x2 x3 x4 := by
  refine funext fun (y : S8192x2048.Idx) => ?_
  have h0 : (y 0).val < 8192 := (y 0).isLt
  have h1 : (y 1).val < 2048 := (y 1).isLt
  rw [val_main_v34_apply, val_main_v33_apply, val_main_v30_apply, val_main_v29_apply, val_main_v28_apply, val_main_v27_apply, val_main_v25_apply,
    val_main_v26_apply, val_main_cst_2_apply, val_main_v24_apply, val_main_cst_1_apply, val_main_v23_apply, val_main_v22_apply,
    val_main_cst_0_apply, val_main_v32_apply, val_main_v31_apply]
  rw [ref_resid x0 x1 x2 x3 (y 0) (y 1) (idx_main_v34 y)
    (by show ((y 0).val * 2048 + (y 1).val) / 4194304 = (y 0).val / 2048; omega)
    (by show ((y 0).val * 2048 + (y 1).val) / 2048 % 2048 = (y 0).val % 2048; omega)
    (by show ((y 0).val * 2048 + (y 1).val) % 2048 = (y 1).val; omega)]
  have hs : ∀ k : Fin 2048, val_main_v21 (F := Ideal) x0 x1 x2 x3 (idx_main_v22 (idx_main_v23 (idx_main_v29 (idx_main_v34 y))) k)
      = resid x0 x1 x2 x3 (y 0) k * resid x0 x1 x2 x3 (y 0) k := fun k => by
    rw [val_main_v21_apply, ref_resid x0 x1 x2 x3 (y 0) k _
      (by show ((y 0).val * 2048 + (y 1).val) / 4194304 = (y 0).val / 2048; omega)
      (by show ((y 0).val * 2048 + (y 1).val) / 2048 % 2048 = (y 0).val % 2048; omega) rfl]
    rfl
  rw [Finset.sum_congr rfl fun k _ => hs k]
  have hz : (FloatOps.ofBits (F := Ideal) .f32 0x00000000#32 : EReal) = 0 := Ideal.ofBits_zero_f32
  rw [hz, zero_add]
  have hg : x4 (idx_main_v31 (idx_main_v32 (idx_main_v34 y))) = x4 (ix1 (y 1)) := congrArg x4 (funext fun a => Fin.ext (by
    match a with
    | ⟨0, _⟩ => show ((y 0).val * 2048 + (y 1).val) % 2048 = (y 1).val; omega))
  rw [hg]
  rfl
end

end Cert.DownEqual

end
-- ==== Proof.DownModBody.lean ====
/- The first down-projection call's first grid point: its program as a sequence of chunks, and what one chunk does. -/
module

public import proofs.«01_k».proof.Proof.Gen.DownModIdeal.Frame
public import proofs.«01_k».proof.Proof.Gen.DownModIdeal.Skeleton
public import Idealize.ShloMosaic.Lib.Claim
public import Idealize.ShloMosaic.Lib.Pipeline.Value

@[expose] public section

set_option maxRecDepth 16384

noncomputable section

namespace Cert.DownModRun

open Cert.DownModIdeal Cert.DownModIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-- The weights in HBM, and the body's scratch: the rounded weights, the four staging slots, the two products. -/
abbrev wtM : Memref sig .tc .hbm S4x2x5504x2048 .f32 := Memref.whole main_arg1
abbrev wbM : Memref sig .tc .vmem S5504x2048 .bf16 := Memref.whole cc0_scratch0
abbrev stM : Memref sig .tc .vmem S4x128x2048 .f32 := Memref.whole cc0_scratch1
abbrev yM : Memref sig .tc .vmem S2x256x2048 .f32 := Memref.whole cc0_scratch3
theorem hwb : wbM.IsWhole := Memref.isWhole_whole _
theorem hst : stM.IsWhole := Memref.isWhole_whole _
theorem hy : yM.IsWhole := Memref.isWhole_whole _
theorem hwt : wtM.IsWhole := Memref.isWhole_whole _

theorem inbSlot (s : Fin 4) : ∀ a, (![s.val, 0, 0] : Fin 3 → ℕ) a + S1x128x2048.size a ≤ S4x128x2048.size a := by
  intro a; have := s.isLt
  match a with
  | ⟨0, _⟩ => show s.val + 1 ≤ 4; omega
  | ⟨1, _⟩ => show 0 + 128 ≤ 128; omega
  | ⟨2, _⟩ => show 0 + 2048 ≤ 2048; omega
theorem inbBlk (c : ℕ) : ∀ a, (![0, 0, 128 * (c % 43), 0] : Fin 4 → ℕ) a + S1x1x128x2048.size a ≤ S4x2x5504x2048.size a := by
  intro a; have := Nat.mod_lt c (show 43 > 0 by decide)
  match a with
  | ⟨0, _⟩ => show 0 + 1 ≤ 4; omega
  | ⟨1, _⟩ => show 0 + 1 ≤ 2; omega
  | ⟨2, _⟩ => show 128 * (c % 43) + 128 ≤ 5504; omega
  | ⟨3, _⟩ => show 0 + 2048 ≤ 2048; omega
theorem inbCell (s : Fin 4) : ∀ a, (![s.val] : Fin 1 → ℕ) a + S1.size a ≤ S4.size a := by
  intro a; have := s.isLt
  match a with
  | ⟨0, _⟩ => show s.val + 1 ≤ 4; omega
theorem inbRow (c : ℕ) : ∀ a, (![128 * (c % 43), 0] : Fin 2 → ℕ) a + S128x2048.size a ≤ S5504x2048.size a := by
  intro a; have := Nat.mod_lt c (show 43 > 0 by decide)
  match a with
  | ⟨0, _⟩ => show 128 * (c % 43) + 128 ≤ 5504; omega
  | ⟨1, _⟩ => show 0 + 2048 ≤ 2048; omega
theorem inbCol (c : ℕ) : ∀ a, (![0, 128 * (c % 43)] : Fin 2 → ℕ) a + S256x128.size a ≤ S256x5504.size a := by
  intro a; have := Nat.mod_lt c (show 43 > 0 by decide)
  match a with
  | ⟨0, _⟩ => show 0 + 256 ≤ 256; omega
  | ⟨1, _⟩ => show 128 * (c % 43) + 128 ≤ 5504; omega

abbrev rSlot (s : Fin 4) : Rect S4x128x2048 := Rect.unit (s := S4x128x2048) ![s.val, 0, 0] S1x128x2048.size (inbSlot s)
abbrev rBlk (c : ℕ) : Rect S4x2x5504x2048 := Rect.unit (s := S4x2x5504x2048) ![0, 0, 128 * (c % 43), 0] S1x1x128x2048.size (inbBlk c)
abbrev rRow (c : ℕ) : Rect S5504x2048 := Rect.unit (s := S5504x2048) ![128 * (c % 43), 0] S128x2048.size (inbRow c)
abbrev rCol (c : ℕ) : Rect S256x5504 := Rect.unit (s := S256x5504) ![0, 128 * (c % 43)] S256x128.size (inbCol c)
abbrev rY0 : Rect S2x256x2048 := Rect.unit (s := S2x256x2048) ![0, 0, 0] S1x256x2048.size inb_S2x256x2048_S1x256x2048_0_0_0
abbrev rY1 : Rect S2x256x2048 := Rect.unit (s := S2x256x2048) ![1, 0, 0] S1x256x2048.size inb_S2x256x2048_S1x256x2048_1_0_0

/-- Staging slot `s`, weight block `c` and the slot's transfer cell. -/
abbrev slotM (s : Fin 4) : Memref sig .tc .vmem S128x2048 .f32 :=
  (stM.slice (rSlot s) (fun _ => rfl)).squeeze S128x2048 squeezes_S1x128x2048_S128x2048
abbrev blkM (c : ℕ) : Memref sig .tc .hbm S128x2048 .f32 :=
  (wtM.slice (rBlk c) (fun _ => rfl)).squeeze S128x2048 squeezes_S1x1x128x2048_S128x2048
abbrev cell (s : Fin 4) : DmaSem sig :=
  ((cc0_scratch2.slice (Rect.unit (s := S4) ![s.val] S1.size (inbCell s)) : DmaSems sig S1).squeeze S_ squeezes_S1_S_).sem

theorem packedRow (c : ℕ) : (rRow c).PackedRows (EltTy.packing .bf16) := by
  have h : ∀ k : Fin 43, (Rect.unit (s := S5504x2048) ![128 * k.val, 0] S128x2048.size
      (by have := inbRow k.val; rwa [Nat.mod_eq_of_lt k.isLt] at this)).PackedRows (EltTy.packing .bf16) := by decide
  exact h ⟨c % 43, Nat.mod_lt _ (by decide)⟩

/-- The program's own steps: starting the transfer of block `c` into slot `s`. -/
def issue (s : Fin 4) (c : ℕ) : Prog (TpuEff nD τ sig (Elt F) Λ₀ .tc) PUnit :=
  Prog.lift (.enqueueDma (blkM c) (.here (slotM s)) (.dma (cell s)) ((View.wordExact_bits rfl).reshape _ _) ((View.wordExact_bits rfl).reshape _ _) ⟨Or.inl rfl, trivial⟩)

/-- Keeping block `c`, loaded as `v`, rounded. -/
def keep (c : ℕ) (v : Vec F S1x128x2048 .f32) : Prog (TpuEff nD τ sig (Elt F) Λ₀ .tc) PUnit := do
  let _w : Vec F S128x2048 .bf16 ← Prog.lift (.load wbM (rRow c).toLoadRect (View.loadsAt_vmem h_S128x2048))
  Prog.lift (.store wbM (rRow c) (k0_pay6 v) Finset.univ (View.stores_vmem h_S128x2048 (hwb.storeExact_slice rfl _ (packedRow c)) (fun _ => rfl)) (.inl rfl))

/-- Waiting for block `c` in slot `s`, and loading it. -/
def fetch (s : Fin 4) (c : ℕ) : Prog (TpuEff nD τ sig (Elt F) Λ₀ .tc) (Vec F S1x128x2048 .f32) := do
  Prog.lift (.waitDma2 (cell s) (blkM c) (slotM s) ((View.wordExact_bits rfl).reshape _ _) ((View.wordExact_bits rfl).reshape _ _))
  Prog.lift (.load stM (rSlot s).toLoadRect (View.loadsAt_vmem h_S1x128x2048))

/-- Adding block `c`'s product to the running product. -/
def add (arg1 : Memref sig .tc .vmem S256x5504 .bf16) (c : ℕ) (v : Vec F S1x128x2048 .f32) : Prog (TpuEff nD τ sig (Elt F) Λ₀ .tc) PUnit := do
  let a : Vec F S256x128 .bf16 ← Prog.lift (.load arg1 (rCol c).toLoadRect (View.loadsAt_vmem h_S256x128))
  let y : Vec F S1x256x2048 .f32 ← Prog.lift (.load yM rY0.toLoadRect (View.loadsAt_vmem h_S1x256x2048))
  let _z : Vec F S1x256x2048 .f32 ← Prog.lift (.load yM rY0.toLoadRect (View.loadsAt_vmem h_S1x256x2048))
  Prog.lift (.store yM rY0 (k0_pay7 v a y) Finset.univ (View.stores_vmem_bits_univ h_S1x256x2048 rfl) (.inl rfl))

/-- Starting the running product from block 0. -/
def start (arg1 : Memref sig .tc .vmem S256x5504 .bf16) (v : Vec F S1x128x2048 .f32) : Prog (TpuEff nD τ sig (Elt F) Λ₀ .tc) PUnit := do
  let a : Vec F S256x128 .bf16 ← Prog.lift (.load arg1 (rCol 0).toLoadRect (View.loadsAt_vmem h_S256x128))
  let _y : Vec F S1x256x2048 .f32 ← Prog.lift (.load yM rY0.toLoadRect (View.loadsAt_vmem h_S1x256x2048))
  Prog.lift (.store yM rY0 (k0_pay4 v a) Finset.univ (View.stores_vmem_bits_univ h_S1x256x2048 rfl) (.inl rfl))

def issues : Prog (TpuEff nD τ sig (Elt F) Λ₀ .tc) PUnit := do
  issue 0 0; issue 1 1; issue 2 2; issue 3 3
def chunk0 (arg1 : Memref sig .tc .vmem S256x5504 .bf16) : Prog (TpuEff nD τ sig (Elt F) Λ₀ .tc) PUnit := do
  let v ← fetch 0 0
  keep 0 v
  issue 0 4
  start arg1 v
def chunk (arg1 : Memref sig .tc .vmem S256x5504 .bf16) (s : Fin 4) (c : ℕ) : Prog (TpuEff nD τ sig (Elt F) Λ₀ .tc) PUnit := do
  let v ← fetch s c
  keep c v
  issue s (c + 4)
  add arg1 c v
def last (arg1 : Memref sig .tc .vmem S256x5504 .bf16) (s : Fin 4) (c : ℕ) : Prog (TpuEff nD τ sig (Elt F) Λ₀ .tc) PUnit := do
  let v ← fetch s c
  keep c v
  add arg1 c v

/-- The first point: four transfers started, 39 chunks each of which starts the transfer four blocks on, four chunks more. -/
def most (arg1 : Memref sig .tc .vmem S256x5504 .bf16) : Prog (TpuEff nD τ sig (Elt F) Λ₀ .tc) PUnit := do
  issues
  chunk0 arg1
  chunk arg1 1 1
  chunk arg1 2 2
  chunk arg1 3 3
  chunk arg1 0 4
  chunk arg1 1 5
  chunk arg1 2 6
  chunk arg1 3 7
  chunk arg1 0 8
  chunk arg1 1 9
  chunk arg1 2 10
  chunk arg1 3 11
  chunk arg1 0 12
  chunk arg1 1 13
  chunk arg1 2 14
  chunk arg1 3 15
  chunk arg1 0 16
  chunk arg1 1 17
  chunk arg1 2 18
  chunk arg1 3 19
  chunk arg1 0 20
  chunk arg1 1 21
  chunk arg1 2 22
  chunk arg1 3 23
  chunk arg1 0 24
  chunk arg1 1 25
  chunk arg1 2 26
  chunk arg1 3 27
  chunk arg1 0 28
  chunk arg1 1 29
  chunk arg1 2 30
  chunk arg1 3 31
  chunk arg1 0 32
  chunk arg1 1 33
  chunk arg1 2 34
  chunk arg1 3 35
  chunk arg1 0 36
  chunk arg1 1 37
  chunk arg1 2 38
  pure ⟨⟩
def rest (arg1 : Memref sig .tc .vmem S256x5504 .bf16) : Prog (TpuEff nD τ sig (Elt F) Λ₀ .tc) PUnit := do
  last arg1 3 39
  last arg1 0 40
  last arg1 1 41
  last arg1 2 42
def product (arg1 : Memref sig .tc .vmem S256x5504 .bf16) : Prog (TpuEff nD τ sig (Elt F) Λ₀ .tc) PUnit := do
  most arg1
  rest arg1

theorem inbY (b : Fin 2) : ∀ a, (![b.val, 0, 0] : Fin 3 → ℕ) a + S1x256x2048.size a ≤ S2x256x2048.size a := by
  intro a; have := b.isLt
  match a with
  | ⟨0, _⟩ => show b.val + 1 ≤ 2; omega
  | ⟨1, _⟩ => show 0 + 256 ≤ 256; omega
  | ⟨2, _⟩ => show 0 + 2048 ≤ 2048; omega
abbrev rY (b : Fin 2) : Rect S2x256x2048 := Rect.unit (s := S2x256x2048) ![b.val, 0, 0] S1x256x2048.size (inbY b)

/-- The sum, and its modulated norm rounded. -/
def sum1 (y : Vec F S1x256x2048 .f32) (x : Vec F S256x2048 .f32) (gt : Vec F S1x1x1x2048 .f32) : FVec F S256x2048 .f32 :=
  addf x (mulf (broadcastTo S256x2048 (mulf (broadcast S1x2048 (Scalar.ofBits .f32 0x3F000000#32))
    (shapeCast S1x2048 gt shapeCasts_S1x1x1x2048_S1x2048)) broadcasts_S1x2048_S256x2048) (shapeCast S256x2048 y shapeCasts_S1x256x2048_S256x2048))
def mod1 (b : FVec F S256x2048 .f32) (g : Vec F S1x2048 .f32) (sh sc : Vec F S1x1x1x2048 .f32) : FVec F S256x2048 .bf16 :=
  truncf .bf16 (addf (mulf (mulf (mulf b (broadcastTo S256x2048 (rsqrt (addf (divf (shapeCast S256x1 (multiReduction .add [1] S256 (mulf b b) 0x00000000#32
      reduces_S256x2048_S256 (.inl rfl) rfl) shapeCasts_S256_S256x1) (broadcast S256x1 (Scalar.ofBits .f32 0x45000000#32)))
      (broadcast S256x1 (Scalar.ofBits .f32 0x358637BD#32)))) broadcasts_S256x1_S256x2048))
    (broadcastTo S256x2048 (shapeCast S1x2048 g shapeCasts_S1x2048_S1x2048) broadcasts_S1x2048_S256x2048))
    (broadcastTo S256x2048 (addf (broadcast S1x2048 (Scalar.ofBits .f32 0x3F800000#32)) (shapeCast S1x2048 sc shapeCasts_S1x1x1x2048_S1x2048)) broadcasts_S1x2048_S256x2048))
    (broadcastTo S256x2048 (shapeCast S1x2048 sh shapeCasts_S1x1x1x2048_S1x2048) broadcasts_S1x2048_S256x2048)) bitsLt_bf16_f32

/-- Writing the two output blocks from product `b`. -/
def emit (arg3 : Memref sig .tc .vmem S256x2048 .f32) (arg4 : Memref sig .tc .vmem S1x1x1x2048 .f32)
    (arg5 : Memref sig .tc .vmem S1x2048 .f32) (arg6 arg7 : Memref sig .tc .vmem S1x1x1x2048 .f32)
    (arg8 : Memref sig .tc .vmem S256x2048 .f32) (arg9 : Memref sig .tc .vmem S256x2048 .bf16) (harg9 : arg9.IsWhole) (b : Fin 2) : Prog (TpuEff nD τ sig (Elt F) Λ₀ .tc) PUnit := do
  let y : Vec F S1x256x2048 .f32 ← Prog.lift (.load yM (rY b).toLoadRect (View.loadsAt_vmem h_S1x256x2048))
  let x : Vec F S256x2048 .f32 ← Prog.lift (.load arg3 (Rect.unit (s := S256x2048) ![0, 0] S256x2048.size inb_S256x2048_S256x2048_0_0).toLoadRect (View.loadsAt_vmem h_S256x2048))
  let gt : Vec F S1x1x1x2048 .f32 ← Prog.lift (.load arg4 (Rect.unit (s := S1x1x1x2048) ![0, 0, 0, 0] S1x1x1x2048.size inb_S1x1x1x2048_S1x1x1x2048_0_0_0_0).toLoadRect (View.loadsAt_vmem h_S1x1x1x2048))
  let _o : Vec F S256x2048 .f32 ← Prog.lift (.load arg8 (Rect.unit (s := S256x2048) ![0, 0] S256x2048.size inb_S256x2048_S256x2048_0_0).toLoadRect (View.loadsAt_vmem h_S256x2048))
  Prog.lift (.store arg8 (Rect.unit (s := S256x2048) ![0, 0] S256x2048.size inb_S256x2048_S256x2048_0_0) (sum1 y x gt) Finset.univ (View.stores_vmem_bits_univ h_S256x2048 rfl) (.inl rfl))
  let g : Vec F S1x2048 .f32 ← Prog.lift (.load arg5 (Rect.unit (s := S1x2048) ![0, 0] S1x2048.size inb_S1x2048_S1x2048_0_0).toLoadRect (View.loadsAt_vmem h_S1x2048))
  let sh : Vec F S1x1x1x2048 .f32 ← Prog.lift (.load arg6 (Rect.unit (s := S1x1x1x2048) ![0, 0, 0, 0] S1x1x1x2048.size inb_S1x1x1x2048_S1x1x1x2048_0_0_0_0).toLoadRect (View.loadsAt_vmem h_S1x1x1x2048))
  let sc : Vec F S1x1x1x2048 .f32 ← Prog.lift (.load arg7 (Rect.unit (s := S1x1x1x2048) ![0, 0, 0, 0] S1x1x1x2048.size inb_S1x1x1x2048_S1x1x1x2048_0_0_0_0).toLoadRect (View.loadsAt_vmem h_S1x1x1x2048))
  let _p : Vec F S256x2048 .bf16 ← Prog.lift (.load arg9 (Rect.unit (s := S256x2048) ![0, 0] S256x2048.size inb_S256x2048_S256x2048_0_0).toLoadRect (View.loadsAt_vmem h_S256x2048))
  Prog.lift (.store arg9 (Rect.unit (s := S256x2048) ![0, 0] S256x2048.size inb_S256x2048_S256x2048_0_0) (mod1 (sum1 y x gt) g sh sc) Finset.univ (View.stores_vmem h_S256x2048 (harg9.storeExact_slice rfl _ packedbf16_S256x2048_S256x2048_0_0) (fun _ => rfl)) (.inl rfl))

/-- A block's product with the whole of the weights. -/
def pay (a : Vec F S256x5504 .bf16) (w : Vec F S5504x2048 .bf16) : FVec F S1x256x2048 .f32 :=
  shapeCast S1x256x2048 (matmul dot_S256x5504_S5504x2048_S256x2048_1_0_0_1_n_n none a w (constant S256x2048 .f32 0x00000000#32)) shapeCasts_S256x2048_S1x256x2048

/-- Computing product `b` from the rounded weights. -/
def compute (arg1 : Memref sig .tc .vmem S256x5504 .bf16) (b : Fin 2) : Prog (TpuEff nD τ sig (Elt F) Λ₀ .tc) PUnit := do
  let a : Vec F S256x5504 .bf16 ← Prog.lift (.load arg1 (Rect.unit (s := S256x5504) ![0, 0] S256x5504.size inb_S256x5504_S256x5504_0_0).toLoadRect (View.loadsAt_vmem h_S256x5504))
  let w : Vec F S5504x2048 .bf16 ← Prog.lift (.load wbM (Rect.unit (s := S5504x2048) ![0, 0] S5504x2048.size inb_S5504x2048_S5504x2048_0_0).toLoadRect (View.loadsAt_vmem h_S5504x2048))
  let _y : Vec F S1x256x2048 .f32 ← Prog.lift (.load yM (rY b).toLoadRect (View.loadsAt_vmem h_S1x256x2048))
  Prog.lift (.store yM (rY b) (pay a w) Finset.univ (View.stores_vmem_bits_univ h_S1x256x2048 rfl) (.inl rfl))

/-- The body's first test. -/
abbrev atZero (i : grid0.Coords) : Prop :=
  (Scalar.cmpi .ne (Scalar.extui (Scalar.cmpi .eq (BitVec.ofNat 32 (i 0).val) 0#32)) 0#32) = 1#1

section
variable (i : grid0.Coords) (arg1 : Memref sig .tc .vmem S256x5504 .bf16) (harg1 : arg1.IsWhole)
  (arg3 : Memref sig .tc .vmem S256x2048 .f32) (harg3 : arg3.IsWhole) (arg4 : Memref sig .tc .vmem S1x1x1x2048 .f32) (harg4 : arg4.IsWhole)
  (arg5 : Memref sig .tc .vmem S1x2048 .f32) (harg5 : arg5.IsWhole) (arg6 : Memref sig .tc .vmem S1x1x1x2048 .f32) (harg6 : arg6.IsWhole)
  (arg7 : Memref sig .tc .vmem S1x1x1x2048 .f32) (harg7 : arg7.IsWhole) (arg8 : Memref sig .tc .vmem S256x2048 .f32) (harg8 : arg8.IsWhole)
  (arg9 : Memref sig .tc .vmem S256x2048 .bf16) (harg9 : arg9.IsWhole)

theorem part1_eq : k0_part1 (F := F) i arg1 harg1 wtM hwt arg3 harg3 arg4 harg4 arg5 harg5 arg6 harg6 arg7 harg7 arg8 harg8 arg9 harg9 wbM hwb stM hst cc0_scratch2 yM hy = issues := rfl
theorem part2_eq : k0_part2 (F := F) i arg1 harg1 wtM hwt arg3 harg3 arg4 harg4 arg5 harg5 arg6 harg6 arg7 harg7 arg8 harg8 arg9 harg9 wbM hwb stM hst cc0_scratch2 yM hy = chunk0 arg1 := rfl
theorem part3_eq : k0_part3 (F := F) i arg1 harg1 wtM hwt arg3 harg3 arg4 harg4 arg5 harg5 arg6 harg6 arg7 harg7 arg8 harg8 arg9 harg9 wbM hwb stM hst cc0_scratch2 yM hy = chunk arg1 1 1 := rfl
theorem part4_eq : k0_part4 (F := F) i arg1 harg1 wtM hwt arg3 harg3 arg4 harg4 arg5 harg5 arg6 harg6 arg7 harg7 arg8 harg8 arg9 harg9 wbM hwb stM hst cc0_scratch2 yM hy = chunk arg1 2 2 := rfl
theorem part5_eq : k0_part5 (F := F) i arg1 harg1 wtM hwt arg3 harg3 arg4 harg4 arg5 harg5 arg6 harg6 arg7 harg7 arg8 harg8 arg9 harg9 wbM hwb stM hst cc0_scratch2 yM hy = chunk arg1 3 3 := rfl
theorem part6_eq : k0_part6 (F := F) i arg1 harg1 wtM hwt arg3 harg3 arg4 harg4 arg5 harg5 arg6 harg6 arg7 harg7 arg8 harg8 arg9 harg9 wbM hwb stM hst cc0_scratch2 yM hy = chunk arg1 0 4 := rfl
theorem part7_eq : k0_part7 (F := F) i arg1 harg1 wtM hwt arg3 harg3 arg4 harg4 arg5 harg5 arg6 harg6 arg7 harg7 arg8 harg8 arg9 harg9 wbM hwb stM hst cc0_scratch2 yM hy = chunk arg1 1 5 := rfl
theorem part8_eq : k0_part8 (F := F) i arg1 harg1 wtM hwt arg3 harg3 arg4 harg4 arg5 harg5 arg6 harg6 arg7 harg7 arg8 harg8 arg9 harg9 wbM hwb stM hst cc0_scratch2 yM hy = chunk arg1 2 6 := rfl
theorem part9_eq : k0_part9 (F := F) i arg1 harg1 wtM hwt arg3 harg3 arg4 harg4 arg5 harg5 arg6 harg6 arg7 harg7 arg8 harg8 arg9 harg9 wbM hwb stM hst cc0_scratch2 yM hy = chunk arg1 3 7 := rfl
theorem part10_eq : k0_part10 (F := F) i arg1 harg1 wtM hwt arg3 harg3 arg4 harg4 arg5 harg5 arg6 harg6 arg7 harg7 arg8 harg8 arg9 harg9 wbM hwb stM hst cc0_scratch2 yM hy = chunk arg1 0 8 := rfl
theorem part11_eq : k0_part11 (F := F) i arg1 harg1 wtM hwt arg3 harg3 arg4 harg4 arg5 harg5 arg6 harg6 arg7 harg7 arg8 harg8 arg9 harg9 wbM hwb stM hst cc0_scratch2 yM hy = chunk arg1 1 9 := rfl
theorem part12_eq : k0_part12 (F := F) i arg1 harg1 wtM hwt arg3 harg3 arg4 harg4 arg5 harg5 arg6 harg6 arg7 harg7 arg8 harg8 arg9 harg9 wbM hwb stM hst cc0_scratch2 yM hy = chunk arg1 2 10 := rfl
theorem part13_eq : k0_part13 (F := F) i arg1 harg1 wtM hwt arg3 harg3 arg4 harg4 arg5 harg5 arg6 harg6 arg7 harg7 arg8 harg8 arg9 harg9 wbM hwb stM hst cc0_scratch2 yM hy = chunk arg1 3 11 := rfl
theorem part14_eq : k0_part14 (F := F) i arg1 harg1 wtM hwt arg3 harg3 arg4 harg4 arg5 harg5 arg6 harg6 arg7 harg7 arg8 harg8 arg9 harg9 wbM hwb stM hst cc0_scratch2 yM hy = chunk arg1 0 12 := rfl
theorem part15_eq : k0_part15 (F := F) i arg1 harg1 wtM hwt arg3 harg3 arg4 harg4 arg5 harg5 arg6 harg6 arg7 harg7 arg8 harg8 arg9 harg9 wbM hwb stM hst cc0_scratch2 yM hy = chunk arg1 1 13 := rfl
theorem part16_eq : k0_part16 (F := F) i arg1 harg1 wtM hwt arg3 harg3 arg4 harg4 arg5 harg5 arg6 harg6 arg7 harg7 arg8 harg8 arg9 harg9 wbM hwb stM hst cc0_scratch2 yM hy = chunk arg1 2 14 := rfl
theorem part17_eq : k0_part17 (F := F) i arg1 harg1 wtM hwt arg3 harg3 arg4 harg4 arg5 harg5 arg6 harg6 arg7 harg7 arg8 harg8 arg9 harg9 wbM hwb stM hst cc0_scratch2 yM hy = chunk arg1 3 15 := rfl
theorem part18_eq : k0_part18 (F := F) i arg1 harg1 wtM hwt arg3 harg3 arg4 harg4 arg5 harg5 arg6 harg6 arg7 harg7 arg8 harg8 arg9 harg9 wbM hwb stM hst cc0_scratch2 yM hy = chunk arg1 0 16 := rfl
theorem part19_eq : k0_part19 (F := F) i arg1 harg1 wtM hwt arg3 harg3 arg4 harg4 arg5 harg5 arg6 harg6 arg7 harg7 arg8 harg8 arg9 harg9 wbM hwb stM hst cc0_scratch2 yM hy = chunk arg1 1 17 := rfl
theorem part20_eq : k0_part20 (F := F) i arg1 harg1 wtM hwt arg3 harg3 arg4 harg4 arg5 harg5 arg6 harg6 arg7 harg7 arg8 harg8 arg9 harg9 wbM hwb stM hst cc0_scratch2 yM hy = chunk arg1 2 18 := rfl
theorem part21_eq : k0_part21 (F := F) i arg1 harg1 wtM hwt arg3 harg3 arg4 harg4 arg5 harg5 arg6 harg6 arg7 harg7 arg8 harg8 arg9 harg9 wbM hwb stM hst cc0_scratch2 yM hy = chunk arg1 3 19 := rfl
theorem part22_eq : k0_part22 (F := F) i arg1 harg1 wtM hwt arg3 harg3 arg4 harg4 arg5 harg5 arg6 harg6 arg7 harg7 arg8 harg8 arg9 harg9 wbM hwb stM hst cc0_scratch2 yM hy = chunk arg1 0 20 := rfl
theorem part23_eq : k0_part23 (F := F) i arg1 harg1 wtM hwt arg3 harg3 arg4 harg4 arg5 harg5 arg6 harg6 arg7 harg7 arg8 harg8 arg9 harg9 wbM hwb stM hst cc0_scratch2 yM hy = chunk arg1 1 21 := rfl
theorem part24_eq : k0_part24 (F := F) i arg1 harg1 wtM hwt arg3 harg3 arg4 harg4 arg5 harg5 arg6 harg6 arg7 harg7 arg8 harg8 arg9 harg9 wbM hwb stM hst cc0_scratch2 yM hy = chunk arg1 2 22 := rfl
theorem part25_eq : k0_part25 (F := F) i arg1 harg1 wtM hwt arg3 harg3 arg4 harg4 arg5 harg5 arg6 harg6 arg7 harg7 arg8 harg8 arg9 harg9 wbM hwb stM hst cc0_scratch2 yM hy = chunk arg1 3 23 := rfl
theorem part26_eq : k0_part26 (F := F) i arg1 harg1 wtM hwt arg3 harg3 arg4 harg4 arg5 harg5 arg6 harg6 arg7 harg7 arg8 harg8 arg9 harg9 wbM hwb stM hst cc0_scratch2 yM hy = chunk arg1 0 24 := rfl
theorem part27_eq : k0_part27 (F := F) i arg1 harg1 wtM hwt arg3 harg3 arg4 harg4 arg5 harg5 arg6 harg6 arg7 harg7 arg8 harg8 arg9 harg9 wbM hwb stM hst cc0_scratch2 yM hy = chunk arg1 1 25 := rfl
theorem part28_eq : k0_part28 (F := F) i arg1 harg1 wtM hwt arg3 harg3 arg4 harg4 arg5 harg5 arg6 harg6 arg7 harg7 arg8 harg8 arg9 harg9 wbM hwb stM hst cc0_scratch2 yM hy = chunk arg1 2 26 := rfl
theorem part29_eq : k0_part29 (F := F) i arg1 harg1 wtM hwt arg3 harg3 arg4 harg4 arg5 harg5 arg6 harg6 arg7 harg7 arg8 harg8 arg9 harg9 wbM hwb stM hst cc0_scratch2 yM hy = chunk arg1 3 27 := rfl
theorem part30_eq : k0_part30 (F := F) i arg1 harg1 wtM hwt arg3 harg3 arg4 harg4 arg5 harg5 arg6 harg6 arg7 harg7 arg8 harg8 arg9 harg9 wbM hwb stM hst cc0_scratch2 yM hy = chunk arg1 0 28 := rfl
theorem part31_eq : k0_part31 (F := F) i arg1 harg1 wtM hwt arg3 harg3 arg4 harg4 arg5 harg5 arg6 harg6 arg7 harg7 arg8 harg8 arg9 harg9 wbM hwb stM hst cc0_scratch2 yM hy = chunk arg1 1 29 := rfl
theorem part32_eq : k0_part32 (F := F) i arg1 harg1 wtM hwt arg3 harg3 arg4 harg4 arg5 harg5 arg6 harg6 arg7 harg7 arg8 harg8 arg9 harg9 wbM hwb stM hst cc0_scratch2 yM hy = chunk arg1 2 30 := rfl
theorem part33_eq : k0_part33 (F := F) i arg1 harg1 wtM hwt arg3 harg3 arg4 harg4 arg5 harg5 arg6 harg6 arg7 harg7 arg8 harg8 arg9 harg9 wbM hwb stM hst cc0_scratch2 yM hy = chunk arg1 3 31 := rfl
theorem part34_eq : k0_part34 (F := F) i arg1 harg1 wtM hwt arg3 harg3 arg4 harg4 arg5 harg5 arg6 harg6 arg7 harg7 arg8 harg8 arg9 harg9 wbM hwb stM hst cc0_scratch2 yM hy = chunk arg1 0 32 := rfl
theorem part35_eq : k0_part35 (F := F) i arg1 harg1 wtM hwt arg3 harg3 arg4 harg4 arg5 harg5 arg6 harg6 arg7 harg7 arg8 harg8 arg9 harg9 wbM hwb stM hst cc0_scratch2 yM hy = chunk arg1 1 33 := rfl
theorem part36_eq : k0_part36 (F := F) i arg1 harg1 wtM hwt arg3 harg3 arg4 harg4 arg5 harg5 arg6 harg6 arg7 harg7 arg8 harg8 arg9 harg9 wbM hwb stM hst cc0_scratch2 yM hy = chunk arg1 2 34 := rfl
theorem part37_eq : k0_part37 (F := F) i arg1 harg1 wtM hwt arg3 harg3 arg4 harg4 arg5 harg5 arg6 harg6 arg7 harg7 arg8 harg8 arg9 harg9 wbM hwb stM hst cc0_scratch2 yM hy = chunk arg1 3 35 := rfl
theorem part38_eq : k0_part38 (F := F) i arg1 harg1 wtM hwt arg3 harg3 arg4 harg4 arg5 harg5 arg6 harg6 arg7 harg7 arg8 harg8 arg9 harg9 wbM hwb stM hst cc0_scratch2 yM hy = chunk arg1 0 36 := rfl
theorem part39_eq : k0_part39 (F := F) i arg1 harg1 wtM hwt arg3 harg3 arg4 harg4 arg5 harg5 arg6 harg6 arg7 harg7 arg8 harg8 arg9 harg9 wbM hwb stM hst cc0_scratch2 yM hy = chunk arg1 1 37 := rfl
theorem part40_eq : k0_part40 (F := F) i arg1 harg1 wtM hwt arg3 harg3 arg4 harg4 arg5 harg5 arg6 harg6 arg7 harg7 arg8 harg8 arg9 harg9 wbM hwb stM hst cc0_scratch2 yM hy = chunk arg1 2 38 := rfl

/-- The first point's program. -/
theorem body_first (h1 : atZero i) (h2 : ¬k0_cond2 i = 1#1) (h3 : ¬k0_cond3 i = 1#1) (h4 : ¬k0_cond4 i = 1#1) :
    cc0_mm_resid (F := F) i arg1 harg1 wtM hwt arg3 harg3 arg4 harg4 arg5 harg5 arg6 harg6 arg7 harg7 arg8 harg8 arg9 harg9 wbM hwb stM hst cc0_scratch2 yM hy = product arg1 := by
  unfold cc0_mm_resid k0_part47 k0_part43
  dsimp only
  simp only [dif_pos h1, dif_neg h2, dif_neg h3, dif_neg h4, part1_eq, part2_eq, part3_eq, part4_eq, part5_eq, part6_eq, part7_eq, part8_eq, part9_eq, part10_eq, part11_eq, part12_eq, part13_eq, part14_eq, part15_eq, part16_eq, part17_eq, part18_eq, part19_eq, part20_eq, part21_eq, part22_eq, part23_eq, part24_eq, part25_eq, part26_eq, part27_eq, part28_eq, part29_eq, part30_eq, part31_eq, part32_eq, part33_eq, part34_eq, part35_eq, part36_eq, part37_eq, part38_eq, part39_eq, part40_eq]
  simp only [product, most, bind_assoc, pure_bind]
  rfl

/-- An even point's program. -/
theorem body_even (h1 : ¬atZero i) (h2 : k0_cond2 i = 1#1) (h3 : ¬k0_cond3 i = 1#1) (h4 : ¬k0_cond4 i = 1#1) :
    cc0_mm_resid (F := F) i arg1 harg1 wtM hwt arg3 harg3 arg4 harg4 arg5 harg5 arg6 harg6 arg7 harg7 arg8 harg8 arg9 harg9 wbM hwb stM hst cc0_scratch2 yM hy = (do emit arg3 arg4 arg5 arg6 arg7 arg8 arg9 harg9 1; compute arg1 0) := by
  unfold cc0_mm_resid k0_part47
  dsimp only
  simp only [dif_neg h1, dif_pos h2, dif_neg h3, dif_neg h4]
  rfl

/-- An odd point's program. -/
theorem body_odd (h1 : ¬atZero i) (h2 : ¬k0_cond2 i = 1#1) (h3 : k0_cond3 i = 1#1) (h4 : ¬k0_cond4 i = 1#1) :
    cc0_mm_resid (F := F) i arg1 harg1 wtM hwt arg3 harg3 arg4 harg4 arg5 harg5 arg6 harg6 arg7 harg7 arg8 harg8 arg9 harg9 wbM hwb stM hst cc0_scratch2 yM hy = (do emit arg3 arg4 arg5 arg6 arg7 arg8 arg9 harg9 0; compute arg1 1) := by
  unfold cc0_mm_resid k0_part47
  dsimp only
  simp only [dif_neg h1, dif_neg h2, dif_pos h3, dif_neg h4]
  rfl

/-- The last point's program. -/
theorem body_last (h1 : ¬atZero i) (h2 : ¬k0_cond2 i = 1#1) (h3 : ¬k0_cond3 i = 1#1) (h4 : k0_cond4 i = 1#1) :
    cc0_mm_resid (F := F) i arg1 harg1 wtM hwt arg3 harg3 arg4 harg4 arg5 harg5 arg6 harg6 arg7 harg7 arg8 harg8 arg9 harg9 wbM hwb stM hst cc0_scratch2 yM hy = emit arg3 arg4 arg5 arg6 arg7 arg8 arg9 harg9 1 := by
  unfold cc0_mm_resid k0_part47
  dsimp only
  simp only [dif_neg h1, dif_neg h2, dif_neg h3, dif_pos h4]
  rfl
end

end Cert.DownModRun

end
-- ==== Proof.DownModChunk.lean ====
/- What one chunk of the first down-projection call's first point does. -/
module

public import proofs.«01_k».proof.Proof.DownModBody
public import Idealize.ShloMosaic.Lib.Ring
public import Idealize.ShloMosaic.Lib.WritesUnit

@[expose] public section

set_option maxRecDepth 16384

noncomputable section

namespace Cert.DownModRun

open Cert.DownModIdeal Cert.DownModIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (Pipeline.UD sig nD τ) ℕ

local notation "EC" => (countersEmb (U := Pipeline.UD sig nD τ) : UEmb Counters 𝕄)

abbrev T (c : Dev nD) : Thread nD τ := (c : Thread nD τ)

/-- Chunk `k`'s transfer into slot `s`, in flight from the weights `W` held at share `q`. -/
def Fly (c : Dev nD) (q : PosShare TreeShare) (W : Buf (Elt F) (wtM.view.loc (T c))) (s : Fin 4) (k : ℕ) : sProp 𝕄 :=
  iprop(∃ fd : Buf (Elt F) ((slotM s).view.loc (T c)),
    Transfers.Flight EC (T c) (.dma (cell s)) () (slotM s).view.dmaCredit
      iprop(((slotM s).view.loc (T c) ↦[(slotM s).view.set]{fullShare} (slotM s).view.write (Elt F) fd ((blkM k).view.read (Elt F) W) Finset.univ)
        ∗ ((blkM k).view.loc (T c) ↦[(blkM k).view.set]{q} W))
      ∗ (wtM.view.loc (T c) ↦[Finset.univ \ (blkM k).view.set]{q} W))

/-- Slot `s` with nothing in flight. -/
def Free (c : Dev nD) (q : PosShare TreeShare) (W : Buf (Elt F) (wtM.view.loc (T c))) (s : Fin 4) : sProp 𝕄 :=
  iprop((∃ fd : Buf (Elt F) ((slotM s).view.loc (T c)), (slotM s).view.loc (T c) ↦[(slotM s).view.set]{fullShare} fd)
    ∗ semVal (T c, SemLoc.dma (cell s)) 0 ∗ (wtM.view.loc (T c) ↦{q} W))

theorem credit_pos (s : Fin 4) : 0 < (slotM s).view.dmaCredit := (by decide : 0 < (slotM 0).view.dmaCredit)

set_option maxHeartbeats 1000000 in
theorem issue_wp (c : Dev nD) (q : PosShare TreeShare) (W : Buf (Elt F) (wtM.view.loc (T c))) (s : Fin 4) (k : ℕ) (K : PUnit → sProp 𝕄) :
    iprop(Free c q W s ∗ (Fly c q W s k -∗ K ⟨⟩))
      ⊢ wp frame (wpE (defs₀ (F := F)) Variants.none (T c) none) Set.univ (issue s k) K := by
  unfold Free issue
  iintro ⟨⟨⟨%fd, Hs⟩, Hv, Hw⟩, HK⟩
  ihave Hw' := (pointsTo_split_subset (Finset.subset_univ (blkM k).view.set)).1 $$ Hw
  icases Hw' with ⟨Hb, Hr⟩
  iapply (Transfers.wp_dmaLocal EC Variants.none (T c) none (src := blkM k) (dst := slotM s) () (slotM s).view.dmaCredit rfl (credit_pos s) subset_rfl) $$ [Hb Hs Hv]
  · isplitl [Hb]; · iexact Hb
    isplitl [Hs]; · iexact Hs
    iexact Hv
  iintro Hf
  sl_step
  iapply HK
  unfold Fly
  iexists fd
  isplitl [Hf]; · iexact Hf
  iexact Hr

/-- Block `k` of the weights, and it rounded. -/
def wblk {c : Dev nD} (W : Buf (Elt F) (wtM.view.loc (T c))) (k : ℕ) : FVec F S128x2048 .f32 := (blkM k).view.read (Elt F) W
def rblk {c : Dev nD} (W : Buf (Elt F) (wtM.view.loc (T c))) (k : ℕ) : FVec F S128x2048 .bf16 := truncf .bf16 (wblk W k) bitsLt_bf16_f32

/-- The rounded weights' first `k` blocks are in place. -/
def wbOK {c : Dev nD} (W : Buf (Elt F) (wtM.view.loc (T c))) (k : ℕ) (w : Vec F S5504x2048 .bf16) : Prop :=
  ∀ j, j < k → View.ld w (rRow j) = rblk W j

theorem set_slot (s : Fin 4) : stM.view.setOn (rSlot s).toLoadRect.set ⊆ (slotM s).view.set := by
  rw [show (slotM s).view.set = (stM.view.slice (rSlot s)).set from View.set_reshape _ _, View.set_slice]
  exact subset_rfl

theorem slot_read {c : Dev nD} (s : Fin 4) (f : Buf (Elt F) ((slotM s).view.loc (T c))) :
    shapeCast S128x2048 (stM.view.readAt (Elt F) (rSlot s).toLoadRect f) shapeCasts_S1x128x2048_S128x2048 = (slotM s).view.read (Elt F) f := rfl

theorem ld_row (w : Vec F S5504x2048 .bf16) (j : ℕ) (x : S128x2048.Idx) (y : S5504x2048.Idx)
    (h0 : (y 0).val = 128 * (j % 43) + (x 0).val) (h1 : (y 1).val = (x 1).val) : View.ld w (rRow j) x = w y := by
  rw [View.ld_unit]
  show w _ = w y
  congr 1
  funext a
  match a with
  | ⟨0, _⟩ => exact Fin.ext h0.symm
  | ⟨1, _⟩ => exact Fin.ext ((Nat.zero_add _).trans h1.symm)

/-- Storing block `k` keeps the earlier ones. -/
theorem wbOK_step {c : Dev nD} (W : Buf (Elt F) (wtM.view.loc (T c))) (k : ℕ) (hk : k < 43) (f : wbM.view.ty.Contents (Elt F))
    (h : wbOK W k (wbM.view.read (Elt F) f)) :
    wbOK W (k + 1) (wbM.view.read (Elt F) (wbM.view.writes (Elt F) f [⟨rRow k, rblk W k⟩])) := by
  intro j hj
  funext x
  have hj43 : j < 43 := by omega
  have hx := (x 0).isLt
  have hx' : (x 0).val < 128 := hx
  have hy : 128 * j + (x 0).val < 5504 := by omega
  have hjm : j % 43 = j := Nat.mod_eq_of_lt hj43
  have hkm : k % 43 = k := Nat.mod_eq_of_lt hk
  rw [ld_row _ j x (fun a => match a with | ⟨0, _⟩ => ⟨128 * j + (x 0).val, hy⟩ | ⟨1, _⟩ => x 1) (by rw [hjm]) rfl]
  by_cases e : j = k
  · subst e
    refine View.read_writes_cons_unit_of_mem (off' := ![128 * (j % 43), 0]) wbM.view f (inbRow j) (rblk W j) [] _ x rfl (fun a => ?_)
    match a with
    | ⟨0, _⟩ => show 128 * j + (x 0).val = 128 * (j % 43) + (x 0).val; rw [hjm]
    | ⟨1, _⟩ => exact (Nat.zero_add _).symm
  · have hjk : j < k := by omega
    rw [View.read_writes_cons_unit_of_not_mem (off' := ![128 * (k % 43), 0]) wbM.view f (inbRow k) (rblk W k) [] _ rfl 0
      (Or.inl (by show 128 * j + (x 0).val < 128 * (k % 43); rw [hkm]; omega))]
    rw [← h j hjk]
    exact (ld_row _ j x (fun a => match a with | ⟨0, _⟩ => ⟨128 * j + (x 0).val, hy⟩ | ⟨1, _⟩ => x 1) (by rw [hjm]) rfl).symm

/-- The rounded weights' scratch with its first `k` blocks in place. -/
def Wb (c : Dev nD) (W : Buf (Elt F) (wtM.view.loc (T c))) (k : ℕ) : sProp 𝕄 :=
  iprop(∃ f : Buf (Elt F) (wbM.view.loc (T c)), ⌜wbOK W k (wbM.view.read (Elt F) f)⌝ ∗ (wbM.view.loc (T c) ↦[wbM.view.set]{fullShare} f))

theorem pay6_of {c : Dev nD} (W : Buf (Elt F) (wtM.view.loc (T c))) (k : ℕ) (v : Vec F S1x128x2048 .f32)
    (hv : shapeCast S128x2048 v shapeCasts_S1x128x2048_S128x2048 = wblk W k) : k0_pay6 v = rblk W k := by
  unfold k0_pay6 k0_pay5 rblk
  dsimp only
  rw [hv]
  exact shapeCast_self _ _

set_option maxHeartbeats 1000000 in
theorem keep_wp (c : Dev nD) (W : Buf (Elt F) (wtM.view.loc (T c))) (k : ℕ) (hk : k < 43) (v : Vec F S1x128x2048 .f32)
    (hv : shapeCast S128x2048 v shapeCasts_S1x128x2048_S128x2048 = wblk W k) (K : PUnit → sProp 𝕄) :
    iprop(Wb c W k ∗ (Wb c W (k + 1) -∗ K ⟨⟩))
      ⊢ wp frame (wpE (defs₀ (F := F)) Variants.none (T c) none) Set.univ (keep k v) K := by
  unfold Wb keep
  iintro ⟨⟨%fb, %hb, HB⟩, HK⟩
  rw [pay6_of W k v hv]
  iapply (wp_load Variants.none (T c) none Set.univ (m := wbM) (r := (rRow k).toLoadRect) (S := wbM.view.set) (View.setOn_subset_set _ _)) $$ HB
  iintro HB
  iapply (wp_store Variants.none (T c) none Set.univ (m := wbM) (r := rRow k) (S := wbM.view.set) (Memref.setOn_access_subset _ _ _)) $$ HB
  iintro HB
  sl_step
  iapply HK
  iexists _
  isplitr; swap; · iexact HB
  ipureintro
  exact wbOK_step W k hk fb hb

set_option maxHeartbeats 1000000 in
theorem fetch_wp (c : Dev nD) (q : PosShare TreeShare) (W : Buf (Elt F) (wtM.view.loc (T c))) (s : Fin 4) (k : ℕ)
    (K : Vec F S1x128x2048 .f32 → sProp 𝕄) :
    iprop(Fly c q W s k ∗ (∃ O, owes (T c) 0 O)
        ∗ (∀ v, ⌜shapeCast S128x2048 v shapeCasts_S1x128x2048_S128x2048 = wblk W k⌝ -∗ Free c q W s -∗ (∃ O, owes (T c) 0 O) -∗ K v))
      ⊢ wp frame (wpE (defs₀ (F := F)) Variants.none (T c) none) Set.univ (fetch s k) K := by
  unfold Fly fetch
  iintro ⟨⟨%fd, Hf, Hr⟩, ⟨%O, HO⟩, HK⟩
  iapply (Transfers.wp_waitLocal EC Variants.none (T c) none (srcw := blkM k) (dstw := slotM s) () rfl) $$ [Hf HO]
  · isplitl [Hf]; · iexact Hf
    iexact HO
  iintro ⟨⟨Hs, Hb⟩, Hv, HO⟩
  ihave Hw := (pointsTo_split_subset (ℓ := wtM.view.loc (T c)) (q := q) (f := W) (Finset.subset_univ ((blkM k).view.set : Finset (Idx (wtM.view.loc (T c)))))).2 $$ [Hb Hr]
  · isplitl [Hb]; · iexact Hb
    iexact Hr
  iapply (wp_load Variants.none (T c) none Set.univ (m := stM) (r := (rSlot s).toLoadRect) (S := (slotM s).view.set) (set_slot s)) $$ Hs
  iintro Hs
  sl_step
  iapply HK $$ [] [Hs Hv Hw] [HO]
  · ipureintro
    exact (slot_read (c := c) s _).trans (View.read_write_univ _ _)
  · unfold Free
    isplitl [Hs]; · iexists _; iexact Hs
    isplitl [Hv]; · iexact Hv
    iexact Hw
  · iexists _; iexact HO

/-- Block `k`'s product, and the running product after block `k`. -/
def part {c : Dev nD} (x : Vec F S256x5504 .bf16) (W : Buf (Elt F) (wtM.view.loc (T c))) (k : ℕ) : FVec F S256x2048 .f32 :=
  matmul dot_S256x128_S128x2048_S256x2048_1_0_0_1_n_n none (View.ld x (rCol k)) (rblk W k) (constant S256x2048 .f32 0x00000000#32)
def acc {c : Dev nD} (x : Vec F S256x5504 .bf16) (W : Buf (Elt F) (wtM.view.loc (T c))) : ℕ → FVec F S256x2048 .f32
  | 0 => part x W 0
  | k + 1 => addf (acc x W k) (part x W (k + 1))

/-- The products' scratch, its first product `y`. -/
def Y (c : Dev nD) (b : Fin 2) (y : FVec F S256x2048 .f32) : sProp 𝕄 :=
  iprop(∃ f : Buf (Elt F) (yM.view.loc (T c)),
    ⌜View.ld (yM.view.read (Elt F) f) (rY b) = shapeCast S1x256x2048 y shapeCasts_S256x2048_S1x256x2048⌝ ∗ (yM.view.loc (T c) ↦[yM.view.set]{fullShare} f))
def Yany (c : Dev nD) : sProp 𝕄 := iprop(∃ f : Buf (Elt F) (yM.view.loc (T c)), (yM.view.loc (T c) ↦[yM.view.set]{fullShare} f))

theorem Y_any (c : Dev nD) (b : Fin 2) (y : FVec F S256x2048 .f32) : (Y c b y : sProp 𝕄) ⊢ Yany c := by
  unfold Y Yany
  iintro ⟨%f, -, H⟩
  iexists f; iexact H

/-- A store of a whole product is read back as stored. -/
theorem y_store (b : Fin 2) (f : yM.view.ty.Contents (Elt F)) (p : Vec F S1x256x2048 .f32) :
    View.ld (yM.view.read (Elt F) (yM.view.writes (Elt F) f [⟨rY b, p⟩])) (rY b) = p := by
  funext x
  exact View.read_writes_cons_emb yM.view f (rY b) p [] x

theorem pay4_eq {c : Dev nD} (x : Vec F S256x5504 .bf16) (W : Buf (Elt F) (wtM.view.loc (T c))) (v : Vec F S1x128x2048 .f32)
    (hv : shapeCast S128x2048 v shapeCasts_S1x128x2048_S128x2048 = wblk W 0) :
    k0_pay4 v (View.ld x (rCol 0)) = shapeCast S1x256x2048 (acc x W 0) shapeCasts_S256x2048_S1x256x2048 := by
  unfold k0_pay4 k0_pay2
  dsimp only
  rw [hv]
  rfl

theorem pay7_eq {c : Dev nD} (x : Vec F S256x5504 .bf16) (W : Buf (Elt F) (wtM.view.loc (T c))) (k : ℕ) (v : Vec F S1x128x2048 .f32)
    (hv : shapeCast S128x2048 v shapeCasts_S1x128x2048_S128x2048 = wblk W (k + 1)) :
    k0_pay7 v (View.ld x (rCol (k + 1))) (shapeCast S1x256x2048 (acc x W k) shapeCasts_S256x2048_S1x256x2048)
      = shapeCast S1x256x2048 (acc x W (k + 1)) shapeCasts_S256x2048_S1x256x2048 := by
  unfold k0_pay7 k0_pay5
  dsimp only
  rw [hv, shapeCast_shapeCast]
  rfl

set_option maxHeartbeats 1000000 in
theorem add_wp (c : Dev nD) (arg1 : Memref sig .tc .vmem S256x5504 .bf16) (harg1 : arg1.IsWhole) (x : Vec F S256x5504 .bf16)
    (W : Buf (Elt F) (wtM.view.loc (T c))) (k : ℕ) (v : Vec F S1x128x2048 .f32)
    (hv : shapeCast S128x2048 v shapeCasts_S1x128x2048_S128x2048 = wblk W (k + 1)) (K : PUnit → sProp 𝕄) :
    iprop(owns (T c) arg1 fullShare x ∗ Y c 0 (acc x W k) ∗ (owns (T c) arg1 fullShare x -∗ Y c 0 (acc x W (k + 1)) -∗ K ⟨⟩))
      ⊢ wp frame (wpE (defs₀ (F := F)) Variants.none (T c) none) Set.univ (add arg1 (k + 1) v) K := by
  unfold Y owns add
  iintro ⟨⟨%f0, %hf0, H0⟩, ⟨%fy, %hy, HY⟩, HK⟩
  iapply (wp_load Variants.none (T c) none Set.univ (m := arg1) (r := (rCol (k + 1)).toLoadRect) (S := arg1.view.set) (View.setOn_subset_set _ _)) $$ H0
  iintro H0
  iapply (wp_load Variants.none (T c) none Set.univ (m := yM) (r := rY0.toLoadRect) (S := yM.view.set) (View.setOn_subset_set _ _)) $$ HY
  iintro HY
  iapply (wp_load Variants.none (T c) none Set.univ (m := yM) (r := rY0.toLoadRect) (S := yM.view.set) (View.setOn_subset_set _ _)) $$ HY
  iintro HY
  rw [View.readAt_eq_ld, View.readAt_eq_ld, hf0, show View.ld (yM.view.read (Elt F) fy) rY0 = _ from hy, pay7_eq x W k v hv]
  iapply (wp_store Variants.none (T c) none Set.univ (m := yM) (r := rY0) (S := yM.view.set) (Memref.setOn_access_subset _ _ _)) $$ HY
  iintro HY
  sl_step
  iapply HK $$ [H0] [HY]
  · iexists _
    isplitr; swap; · iexact H0
    ipureintro; exact hf0
  · iexists _
    isplitr; swap; · iexact HY
    ipureintro
    exact y_store 0 fy _

set_option maxHeartbeats 1000000 in
theorem start_wp (c : Dev nD) (arg1 : Memref sig .tc .vmem S256x5504 .bf16) (harg1 : arg1.IsWhole) (x : Vec F S256x5504 .bf16)
    (W : Buf (Elt F) (wtM.view.loc (T c))) (v : Vec F S1x128x2048 .f32)
    (hv : shapeCast S128x2048 v shapeCasts_S1x128x2048_S128x2048 = wblk W 0) (K : PUnit → sProp 𝕄) :
    iprop(owns (T c) arg1 fullShare x ∗ Yany c ∗ (owns (T c) arg1 fullShare x -∗ Y c 0 (acc x W 0) -∗ K ⟨⟩))
      ⊢ wp frame (wpE (defs₀ (F := F)) Variants.none (T c) none) Set.univ (start arg1 v) K := by
  unfold Y Yany owns start
  iintro ⟨⟨%f0, %hf0, H0⟩, ⟨%fy, HY⟩, HK⟩
  iapply (wp_load Variants.none (T c) none Set.univ (m := arg1) (r := (rCol 0).toLoadRect) (S := arg1.view.set) (View.setOn_subset_set _ _)) $$ H0
  iintro H0
  iapply (wp_load Variants.none (T c) none Set.univ (m := yM) (r := rY0.toLoadRect) (S := yM.view.set) (View.setOn_subset_set _ _)) $$ HY
  iintro HY
  rw [View.readAt_eq_ld, View.readAt_eq_ld, hf0, pay4_eq x W v hv]
  iapply (wp_store Variants.none (T c) none Set.univ (m := yM) (r := rY0) (S := yM.view.set) (Memref.setOn_access_subset _ _ _)) $$ HY
  iintro HY
  sl_step
  iapply HK $$ [H0] [HY]
  · iexists _
    isplitr; swap; · iexact H0
    ipureintro; exact hf0
  · iexists _
    isplitr; swap; · iexact HY
    ipureintro
    exact y_store 0 fy _

end Cert.DownModRun

end
-- ==== Proof.DownModProduct.lean ====
/- What the first down-projection call's first point does: the weights rounded into their scratch, and the first product. -/
module

public import proofs.«01_k».proof.Proof.DownModChunk

@[expose] public section

set_option maxRecDepth 16384

noncomputable section

namespace Cert.DownModRun

open Cert.DownModIdeal Cert.DownModIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-- What the point holds beside the slots after block `k`. -/
def Core (c : Dev nD) (arg1 : Memref sig .tc .vmem S256x5504 .bf16) (x : Vec F S256x5504 .bf16) (W : Buf (Elt F) (wtM.view.loc (T c))) (k : ℕ) : sProp 𝕄 :=
  iprop(owns (T c) arg1 fullShare x ∗ Y c 0 (acc x W k) ∗ Wb c W (k + 1) ∗ (∃ O, owes (T c) 0 O))

theorem chunk0_wp (c : Dev nD) (q : PosShare TreeShare) (arg1 : Memref sig .tc .vmem S256x5504 .bf16) (harg1 : arg1.IsWhole) (x : Vec F S256x5504 .bf16)
    (W : Buf (Elt F) (wtM.view.loc (T c))) (K : PUnit → sProp 𝕄) :
    iprop((owns (T c) arg1 fullShare x ∗ Yany c ∗ Wb c W 0 ∗ (∃ O, owes (T c) 0 O)) ∗ Fly c q W 0 0
        ∗ (Core c arg1 x W 0 -∗ Fly c q W 0 4 -∗ K ⟨⟩))
      ⊢ wp frame (wpE (defs₀ (F := F)) Variants.none (T c) none) Set.univ (chunk0 arg1) K := by
  unfold chunk0 Core
  simp only [wp_bind]
  iintro ⟨⟨H1, HY, HB, HO⟩, HF, HK⟩
  iapply (fetch_wp c q W 0 0)
  isplitl [HF]; · iexact HF
  isplitl [HO]; · iexact HO
  iintro %v %hv HF HO
  iapply (keep_wp c W 0 (by decide) v hv)
  isplitl [HB]; · iexact HB
  iintro HB
  iapply (issue_wp c q W 0 4)
  isplitl [HF]; · iexact HF
  iintro HF
  iapply (start_wp c arg1 harg1 x W v hv)
  isplitl [H1]; · iexact H1
  isplitl [HY]; · iexact HY
  iintro H1 HY
  iapply HK $$ [H1 HY HB HO] HF
  isplitl [H1]; · iexact H1
  isplitl [HY]; · iexact HY
  isplitl [HB]; · iexact HB
  iexact HO

theorem chunk_wp (c : Dev nD) (q : PosShare TreeShare) (arg1 : Memref sig .tc .vmem S256x5504 .bf16) (harg1 : arg1.IsWhole) (x : Vec F S256x5504 .bf16)
    (W : Buf (Elt F) (wtM.view.loc (T c))) (s : Fin 4) (k : ℕ) (hk : k + 1 < 43) (K : PUnit → sProp 𝕄) :
    iprop(Core c arg1 x W k ∗ Fly c q W s (k + 1) ∗ (Core c arg1 x W (k + 1) -∗ Fly c q W s (k + 1 + 4) -∗ K ⟨⟩))
      ⊢ wp frame (wpE (defs₀ (F := F)) Variants.none (T c) none) Set.univ (chunk arg1 s (k + 1)) K := by
  unfold chunk Core
  simp only [wp_bind]
  iintro ⟨⟨H1, HY, HB, HO⟩, HF, HK⟩
  iapply (fetch_wp c q W s (k + 1))
  isplitl [HF]; · iexact HF
  isplitl [HO]; · iexact HO
  iintro %v %hv HF HO
  iapply (keep_wp c W (k + 1) hk v hv)
  isplitl [HB]; · iexact HB
  iintro HB
  iapply (issue_wp c q W s (k + 1 + 4))
  isplitl [HF]; · iexact HF
  iintro HF
  iapply (add_wp c arg1 harg1 x W k v hv)
  isplitl [H1]; · iexact H1
  isplitl [HY]; · iexact HY
  iintro H1 HY
  iapply HK $$ [H1 HY HB HO] HF
  isplitl [H1]; · iexact H1
  isplitl [HY]; · iexact HY
  isplitl [HB]; · iexact HB
  iexact HO

theorem last_wp (c : Dev nD) (q : PosShare TreeShare) (arg1 : Memref sig .tc .vmem S256x5504 .bf16) (harg1 : arg1.IsWhole) (x : Vec F S256x5504 .bf16)
    (W : Buf (Elt F) (wtM.view.loc (T c))) (s : Fin 4) (k : ℕ) (hk : k + 1 < 43) (K : PUnit → sProp 𝕄) :
    iprop(Core c arg1 x W k ∗ Fly c q W s (k + 1) ∗ (Core c arg1 x W (k + 1) -∗ Free c q W s -∗ K ⟨⟩))
      ⊢ wp frame (wpE (defs₀ (F := F)) Variants.none (T c) none) Set.univ (last arg1 s (k + 1)) K := by
  unfold last Core
  simp only [wp_bind]
  iintro ⟨⟨H1, HY, HB, HO⟩, HF, HK⟩
  iapply (fetch_wp c q W s (k + 1))
  isplitl [HF]; · iexact HF
  isplitl [HO]; · iexact HO
  iintro %v %hv HF HO
  iapply (keep_wp c W (k + 1) hk v hv)
  isplitl [HB]; · iexact HB
  iintro HB
  iapply (add_wp c arg1 harg1 x W k v hv)
  isplitl [H1]; · iexact H1
  isplitl [HY]; · iexact HY
  iintro H1 HY
  iapply HK $$ [H1 HY HB HO] HF
  isplitl [H1]; · iexact H1
  isplitl [HY]; · iexact HY
  isplitl [HB]; · iexact HB
  iexact HO

/-- The four slots, slot `s` at its own share, with the transfers given. -/
def Four (c : Dev nD) (q : Fin 4 → PosShare TreeShare) (W : Buf (Elt F) (wtM.view.loc (T c))) (k0 k1 k2 k3 : ℕ) : sProp 𝕄 :=
  iprop(Fly c (q 0) W 0 k0 ∗ Fly c (q 1) W 1 k1 ∗ Fly c (q 2) W 2 k2 ∗ Fly c (q 3) W 3 k3)

/-- Four chunks in a row, the slots in turn from slot 1. -/
theorem round_wp (c : Dev nD) (q : Fin 4 → PosShare TreeShare) (arg1 : Memref sig .tc .vmem S256x5504 .bf16) (harg1 : arg1.IsWhole) (x : Vec F S256x5504 .bf16)
    (W : Buf (Elt F) (wtM.view.loc (T c))) (k : ℕ) (hk : k + 4 < 43)
    (P : Prog (TpuEff nD τ sig (Elt F) Λ₀ .tc) PUnit) (K : PUnit → sProp 𝕄) :
    iprop((Core c arg1 x W k ∗ Four c q W (k + 4) (k + 1) (k + 2) (k + 3)) ∗ ((Core c arg1 x W (k + 4) ∗ Four c q W (k + 8) (k + 5) (k + 6) (k + 7)) -∗
          wp frame (wpE (defs₀ (F := F)) Variants.none (T c) none) Set.univ P K))
      ⊢ wp frame (wpE (defs₀ (F := F)) Variants.none (T c) none) Set.univ
          (do chunk arg1 1 (k + 1); chunk arg1 2 (k + 2); chunk arg1 3 (k + 3); chunk arg1 0 (k + 4); P) K := by
  unfold Four
  simp only [wp_bind]
  iintro ⟨⟨HC, HF0, HF1, HF2, HF3⟩, HK⟩
  iapply (chunk_wp c (q 1) arg1 harg1 x W 1 k (by omega))
  isplitl [HC]; · iexact HC
  isplitl [HF1]; · iexact HF1
  iintro HC HF1
  iapply (chunk_wp c (q 2) arg1 harg1 x W 2 (k + 1) (by omega))
  isplitl [HC]; · iexact HC
  isplitl [HF2]; · iexact HF2
  iintro HC HF2
  iapply (chunk_wp c (q 3) arg1 harg1 x W 3 (k + 2) (by omega))
  isplitl [HC]; · iexact HC
  isplitl [HF3]; · iexact HF3
  iintro HC HF3
  iapply (chunk_wp c (q 0) arg1 harg1 x W 0 (k + 3) (by omega))
  isplitl [HC]; · iexact HC
  isplitl [HF0]; · iexact HF0
  iintro HC HF0
  iapply HK
  isplitl [HC]; · iexact HC
  isplitl [HF0]; · iexact HF0
  isplitl [HF1]; · iexact HF1
  isplitl [HF2]; · iexact HF2
  iexact HF3

theorem most_wp (c : Dev nD) (q : Fin 4 → PosShare TreeShare) (arg1 : Memref sig .tc .vmem S256x5504 .bf16) (harg1 : arg1.IsWhole) (x : Vec F S256x5504 .bf16)
    (W : Buf (Elt F) (wtM.view.loc (T c))) (K : PUnit → sProp 𝕄) :
    iprop((owns (T c) arg1 fullShare x ∗ Yany c ∗ Wb c W 0 ∗ (∃ O, owes (T c) 0 O))
        ∗ (Free c (q 0) W 0 ∗ Free c (q 1) W 1 ∗ Free c (q 2) W 2 ∗ Free c (q 3) W 3)
        ∗ ((Core c arg1 x W 38 ∗ Four c q W 40 41 42 39) -∗ K ⟨⟩))
      ⊢ wp frame (wpE (defs₀ (F := F)) Variants.none (T c) none) Set.univ (most arg1) K := by
  unfold most issues
  simp only [bind_assoc]
  iintro ⟨HC, ⟨H0, H1, H2, H3⟩, HK⟩
  rw [wp_bind]
  iapply (issue_wp c (q 0) W 0 0)
  isplitl [H0]; · iexact H0
  iintro H0
  rw [wp_bind]
  iapply (issue_wp c (q 1) W 1 1)
  isplitl [H1]; · iexact H1
  iintro H1
  rw [wp_bind]
  iapply (issue_wp c (q 2) W 2 2)
  isplitl [H2]; · iexact H2
  iintro H2
  rw [wp_bind]
  iapply (issue_wp c (q 3) W 3 3)
  isplitl [H3]; · iexact H3
  iintro H3
  rw [wp_bind]
  iapply (chunk0_wp c (q 0) arg1 harg1 x W)
  isplitl [HC]; · iexact HC
  isplitl [H0]; · iexact H0
  iintro HC H0
  ihave H : iprop(Core c arg1 x W 0 ∗ Four c q W 4 1 2 3) $$ [HC H0 H1 H2 H3]
  · unfold Four
    isplitl [HC]; · iexact HC
    isplitl [H0]; · iexact H0
    isplitl [H1]; · iexact H1
    isplitl [H2]; · iexact H2
    iexact H3
  iapply (round_wp c q arg1 harg1 x W 0 (by decide))
  isplitl [H]; · iexact H
  iintro H
  iapply (round_wp c q arg1 harg1 x W 4 (by decide))
  isplitl [H]; · iexact H
  iintro H
  iapply (round_wp c q arg1 harg1 x W 8 (by decide))
  isplitl [H]; · iexact H
  iintro H
  iapply (round_wp c q arg1 harg1 x W 12 (by decide))
  isplitl [H]; · iexact H
  iintro H
  iapply (round_wp c q arg1 harg1 x W 16 (by decide))
  isplitl [H]; · iexact H
  iintro H
  iapply (round_wp c q arg1 harg1 x W 20 (by decide))
  isplitl [H]; · iexact H
  iintro H
  iapply (round_wp c q arg1 harg1 x W 24 (by decide))
  isplitl [H]; · iexact H
  iintro H
  iapply (round_wp c q arg1 harg1 x W 28 (by decide))
  isplitl [H]; · iexact H
  iintro H
  iapply (round_wp c q arg1 harg1 x W 32 (by decide))
  isplitl [H]; · iexact H
  iintro H
  unfold Four
  icases H with ⟨HC, H0, H1, H2, H3⟩
  rw [wp_bind]
  iapply (chunk_wp c (q 1) arg1 harg1 x W 1 36 (by decide))
  isplitl [HC]; · iexact HC
  isplitl [H1]; · iexact H1
  iintro HC H1
  rw [wp_bind]
  iapply (chunk_wp c (q 2) arg1 harg1 x W 2 37 (by decide))
  isplitl [HC]; · iexact HC
  isplitl [H2]; · iexact H2
  iintro HC H2
  sl_step
  iapply HK
  isplitl [HC]; · iexact HC
  isplitl [H0]; · iexact H0
  isplitl [H1]; · iexact H1
  isplitl [H2]; · iexact H2
  iexact H3

/-- The first point, all four slots free before and after. -/
theorem product_wp (c : Dev nD) (q : Fin 4 → PosShare TreeShare) (arg1 : Memref sig .tc .vmem S256x5504 .bf16) (harg1 : arg1.IsWhole) (x : Vec F S256x5504 .bf16)
    (W : Buf (Elt F) (wtM.view.loc (T c))) (K : PUnit → sProp 𝕄) :
    iprop((owns (T c) arg1 fullShare x ∗ Yany c ∗ Wb c W 0 ∗ (∃ O, owes (T c) 0 O))
        ∗ (Free c (q 0) W 0 ∗ Free c (q 1) W 1 ∗ Free c (q 2) W 2 ∗ Free c (q 3) W 3)
        ∗ (Core c arg1 x W 42 -∗ (Free c (q 0) W 0 ∗ Free c (q 1) W 1 ∗ Free c (q 2) W 2 ∗ Free c (q 3) W 3) -∗ K ⟨⟩))
      ⊢ wp frame (wpE (defs₀ (F := F)) Variants.none (T c) none) Set.univ (product arg1) K := by
  unfold product rest
  iintro ⟨HC, HF, HK⟩
  rw [wp_bind]
  iapply (most_wp c q arg1 harg1 x W)
  isplitl [HC]; · iexact HC
  isplitl [HF]; · iexact HF
  unfold Four
  iintro ⟨HC, H0, H1, H2, H3⟩
  rw [wp_bind]
  iapply (last_wp c (q 3) arg1 harg1 x W 3 38 (by decide))
  isplitl [HC]; · iexact HC
  isplitl [H3]; · iexact H3
  iintro HC H3
  rw [wp_bind]
  iapply (last_wp c (q 0) arg1 harg1 x W 0 39 (by decide))
  isplitl [HC]; · iexact HC
  isplitl [H0]; · iexact H0
  iintro HC H0
  rw [wp_bind]
  iapply (last_wp c (q 1) arg1 harg1 x W 1 40 (by decide))
  isplitl [HC]; · iexact HC
  isplitl [H1]; · iexact H1
  iintro HC H1
  iapply (last_wp c (q 2) arg1 harg1 x W 2 41 (by decide))
  isplitl [HC]; · iexact HC
  isplitl [H2]; · iexact H2
  iintro HC H2
  iapply HK $$ HC [H0 H1 H2 H3]
  isplitl [H0]; · iexact H0
  isplitl [H1]; · iexact H1
  isplitl [H2]; · iexact H2
  iexact H3

end Cert.DownModRun

end
-- ==== Proof.DownModPoint.lean ====
/- What the first down-projection call's later points do: an output block from the product before, and the next product. -/
module

public import proofs.«01_k».proof.Proof.DownModProduct

@[expose] public section

set_option maxRecDepth 16384

noncomputable section

namespace Cert.DownModRun

open Cert.DownModIdeal Cert.DownModIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-- The rounded weights, whole. -/
def wbw {c : Dev nD} (W : Buf (Elt F) (wtM.view.loc (T c))) : Vec F S5504x2048 .bf16 := fun y =>
  rblk W ((y 0).val / 128) (fun a => match a with
    | ⟨0, _⟩ => (⟨(y 0).val % 128, Nat.mod_lt _ (by decide)⟩ : Fin 128)
    | ⟨1, _⟩ => y 1)

theorem wb_all {c : Dev nD} (W : Buf (Elt F) (wtM.view.loc (T c))) (w : Vec F S5504x2048 .bf16) (h : wbOK W 43 w) : w = wbw W := by
  funext y
  have hy : (y 0).val < 5504 := (y 0).isLt
  have hj : (y 0).val / 128 < 43 := by omega
  unfold wbw
  rw [← h _ hj]
  refine (ld_row w _ _ y ?_ rfl).symm
  show (y 0).val = 128 * (((y 0).val / 128) % 43) + (y 0).val % 128
  rw [Nat.mod_eq_of_lt hj]
  omega

theorem Wb_all (c : Dev nD) (W : Buf (Elt F) (wtM.view.loc (T c))) : (Wb c W 43 : sProp 𝕄) ⊢ owns (T c) wbM fullShare (wbw W) := by
  unfold Wb owns
  iintro ⟨%f, %h, H⟩
  iexists f
  isplitr; swap; · iexact H
  ipureintro; exact wb_all W _ h

/-- The product of an input block with the whole of the weights. -/
def full (x : Vec F S256x5504 .bf16) (w : Vec F S5504x2048 .bf16) : FVec F S256x2048 .f32 :=
  matmul dot_S256x5504_S5504x2048_S256x2048_1_0_0_1_n_n none x w (constant S256x2048 .f32 0x00000000#32)

theorem pay_eq (x : Vec F S256x5504 .bf16) (w : Vec F S5504x2048 .bf16) :
    pay x w = shapeCast S1x256x2048 (full x w) shapeCasts_S256x2048_S1x256x2048 := rfl

/-- The two output blocks: the sum, and its modulated norm. -/
def sumv (y : FVec F S256x2048 .f32) (x : Vec F S256x2048 .f32) (gt : Vec F S1x1x1x2048 .f32) : Vec F S256x2048 .f32 :=
  sum1 (shapeCast S1x256x2048 y shapeCasts_S256x2048_S1x256x2048) x gt
def modv (y : FVec F S256x2048 .f32) (x : Vec F S256x2048 .f32) (gt : Vec F S1x1x1x2048 .f32) (g : Vec F S1x2048 .f32)
    (sh sc : Vec F S1x1x1x2048 .f32) : Vec F S256x2048 .bf16 :=
  mod1 (sumv y x gt) g sh sc

theorem out_store {φ : EltTy} (arg : Memref sig .tc .vmem S256x2048 φ) (f : arg.view.ty.Contents (Elt F)) (p : Vec F S256x2048 φ) :
    arg.view.read (Elt F) (arg.view.writes (Elt F) f [⟨Rect.unit (s := S256x2048) ![0, 0] S256x2048.size inb_S256x2048_S256x2048_0_0, p⟩]) = p := by
  funext x
  refine View.read_writes_cons_unit_of_mem (off' := ![0, 0]) arg.view f inb_S256x2048_S256x2048_0_0 p [] x x rfl (fun a => ?_)
  match a with
  | ⟨0, _⟩ => exact (Nat.zero_add _).symm
  | ⟨1, _⟩ => exact (Nat.zero_add _).symm

theorem z2 : (![0, 0] : Fin 2 → ℕ) = fun _ => 0 := by funext a; match a with | ⟨0, _⟩ => rfl | ⟨1, _⟩ => rfl
theorem z4 : (![0, 0, 0, 0] : Fin 4 → ℕ) = fun _ => 0 := by funext a; match a with | ⟨0, _⟩ => rfl | ⟨1, _⟩ => rfl | ⟨2, _⟩ => rfl | ⟨3, _⟩ => rfl

set_option maxHeartbeats 2000000 in
theorem emit_wp (c : Dev nD) (arg3 : Memref sig .tc .vmem S256x2048 .f32) (arg4 : Memref sig .tc .vmem S1x1x1x2048 .f32)
    (arg5 : Memref sig .tc .vmem S1x2048 .f32) (arg6 arg7 : Memref sig .tc .vmem S1x1x1x2048 .f32)
    (arg8 : Memref sig .tc .vmem S256x2048 .f32) (arg9 : Memref sig .tc .vmem S256x2048 .bf16) (harg9 : arg9.IsWhole) (b : Fin 2) (y : FVec F S256x2048 .f32)
    (x : Vec F S256x2048 .f32) (gt : Vec F S1x1x1x2048 .f32) (g : Vec F S1x2048 .f32) (sh sc : Vec F S1x1x1x2048 .f32)
    (d : Vec F S256x2048 .f32) (e : Vec F S256x2048 .bf16) (K : PUnit → sProp 𝕄) :
    iprop(Y c b y ∗ owns (T c) arg3 fullShare x ∗ owns (T c) arg4 fullShare gt ∗ owns (T c) arg5 fullShare g ∗ owns (T c) arg6 fullShare sh
        ∗ owns (T c) arg7 fullShare sc ∗ owns (T c) arg8 fullShare d ∗ owns (T c) arg9 fullShare e
        ∗ (Y c b y -∗ owns (T c) arg3 fullShare x -∗ owns (T c) arg4 fullShare gt -∗ owns (T c) arg5 fullShare g
            -∗ owns (T c) arg6 fullShare sh -∗ owns (T c) arg7 fullShare sc
            -∗ owns (T c) arg8 fullShare (sumv y x gt) -∗ owns (T c) arg9 fullShare (modv y x gt g sh sc) -∗ K ⟨⟩))
      ⊢ wp frame (wpE (defs₀ (F := F)) Variants.none (T c) none) Set.univ (emit arg3 arg4 arg5 arg6 arg7 arg8 arg9 harg9 b) K := by
  unfold Y owns emit
  iintro ⟨⟨%fy, %hy, HY⟩, ⟨%f3, %h3, H3⟩, ⟨%f4, %h4, H4⟩, ⟨%f5, %h5, H5⟩, ⟨%f6, %h6, H6⟩, ⟨%f7, %h7, H7⟩, ⟨%f8, %h8, H8⟩, ⟨%f9, %h9, H9⟩, HK⟩
  iapply (wp_load Variants.none (T c) none Set.univ (m := yM) (r := (rY b).toLoadRect) (S := yM.view.set) (View.setOn_subset_set _ _)) $$ HY
  iintro HY
  iapply (wp_load Variants.none (T c) none Set.univ (m := arg3) (S := arg3.view.set) (View.setOn_subset_set _ _)) $$ H3
  iintro H3
  iapply (wp_load Variants.none (T c) none Set.univ (m := arg4) (S := arg4.view.set) (View.setOn_subset_set _ _)) $$ H4
  iintro H4
  iapply (wp_load Variants.none (T c) none Set.univ (m := arg8) (S := arg8.view.set) (View.setOn_subset_set _ _)) $$ H8
  iintro H8
  rw [View.readAt_eq_ld, View.readAt_eq_ld, View.readAt_eq_ld, View.readAt_eq_ld]
  rw [hy, h3, h4, View.ld_unit_zero z2 inb_S256x2048_S256x2048_0_0 x, View.ld_unit_zero z4 inb_S1x1x1x2048_S1x1x1x2048_0_0_0_0 gt]
  iapply (wp_store Variants.none (T c) none Set.univ (m := arg8) (r := Rect.unit (s := S256x2048) ![0, 0] S256x2048.size inb_S256x2048_S256x2048_0_0) (S := arg8.view.set) (Memref.setOn_access_subset _ _ _)) $$ H8
  iintro H8
  iapply (wp_load Variants.none (T c) none Set.univ (m := arg5) (S := arg5.view.set) (View.setOn_subset_set _ _)) $$ H5
  iintro H5
  iapply (wp_load Variants.none (T c) none Set.univ (m := arg6) (S := arg6.view.set) (View.setOn_subset_set _ _)) $$ H6
  iintro H6
  iapply (wp_load Variants.none (T c) none Set.univ (m := arg7) (S := arg7.view.set) (View.setOn_subset_set _ _)) $$ H7
  iintro H7
  iapply (wp_load Variants.none (T c) none Set.univ (m := arg9) (S := arg9.view.set) (View.setOn_subset_set _ _)) $$ H9
  iintro H9
  rw [View.readAt_eq_ld, View.readAt_eq_ld, View.readAt_eq_ld, View.readAt_eq_ld]
  rw [h5, h6, h7, View.ld_unit_zero z2 inb_S1x2048_S1x2048_0_0 g, View.ld_unit_zero z4 inb_S1x1x1x2048_S1x1x1x2048_0_0_0_0 sh,
    View.ld_unit_zero z4 inb_S1x1x1x2048_S1x1x1x2048_0_0_0_0 sc]
  iapply (wp_store Variants.none (T c) none Set.univ (m := arg9) (r := Rect.unit (s := S256x2048) ![0, 0] S256x2048.size inb_S256x2048_S256x2048_0_0) (S := arg9.view.set) (Memref.setOn_access_subset _ _ _)) $$ H9
  iintro H9
  sl_step
  iapply HK $$ [HY] [H3] [H4] [H5] [H6] [H7] [H8] [H9]
  · iexists _
    isplitr; swap; · iexact HY
    ipureintro; exact hy
  · iexists _
    isplitr; swap; · iexact H3
    ipureintro; exact h3
  · iexists _
    isplitr; swap; · iexact H4
    ipureintro; exact h4
  · iexists _
    isplitr; swap; · iexact H5
    ipureintro; exact h5
  · iexists _
    isplitr; swap; · iexact H6
    ipureintro; exact h6
  · iexists _
    isplitr; swap; · iexact H7
    ipureintro; exact h7
  · iexists _
    isplitr; swap; · iexact H8
    ipureintro; exact out_store arg8 f8 _
  · iexists _
    isplitr; swap; · iexact H9
    ipureintro; exact out_store arg9 f9 _

set_option maxHeartbeats 1000000 in
theorem compute_wp (c : Dev nD) (arg1 : Memref sig .tc .vmem S256x5504 .bf16) (b : Fin 2) (x : Vec F S256x5504 .bf16)
    (w : Vec F S5504x2048 .bf16) (K : PUnit → sProp 𝕄) :
    iprop(Yany c ∗ owns (T c) arg1 fullShare x ∗ owns (T c) wbM fullShare w
        ∗ (Y c b (full x w) -∗ owns (T c) arg1 fullShare x -∗ owns (T c) wbM fullShare w -∗ K ⟨⟩))
      ⊢ wp frame (wpE (defs₀ (F := F)) Variants.none (T c) none) Set.univ (compute arg1 b) K := by
  unfold Y Yany owns compute
  iintro ⟨⟨%fy, HY⟩, ⟨%f1, %h1, H1⟩, ⟨%fw, %hw, HW⟩, HK⟩
  iapply (wp_load Variants.none (T c) none Set.univ (m := arg1) (S := arg1.view.set) (View.setOn_subset_set _ _)) $$ H1
  iintro H1
  iapply (wp_load Variants.none (T c) none Set.univ (m := wbM) (S := wbM.view.set) (View.setOn_subset_set _ _)) $$ HW
  iintro HW
  iapply (wp_load Variants.none (T c) none Set.univ (m := yM) (r := (rY b).toLoadRect) (S := yM.view.set) (View.setOn_subset_set _ _)) $$ HY
  iintro HY
  rw [View.readAt_eq_ld, View.readAt_eq_ld, View.readAt_eq_ld]
  rw [h1, hw, View.ld_unit_zero (by funext a; match a with | ⟨0, _⟩ => rfl | ⟨1, _⟩ => rfl) inb_S256x5504_S256x5504_0_0 x,
    View.ld_unit_zero (by funext a; match a with | ⟨0, _⟩ => rfl | ⟨1, _⟩ => rfl) inb_S5504x2048_S5504x2048_0_0 w, pay_eq]
  iapply (wp_store Variants.none (T c) none Set.univ (m := yM) (r := rY b) (S := yM.view.set) (Memref.setOn_access_subset _ _ _)) $$ HY
  iintro HY
  sl_step
  iapply HK $$ [HY] [H1] [HW]
  · iexists _
    isplitr; swap; · iexact HY
    ipureintro; exact y_store b fy _
  · iexists _
    isplitr; swap; · iexact H1
    ipureintro; exact h1
  · iexists _
    isplitr; swap; · iexact HW
    ipureintro; exact hw

end Cert.DownModRun

end
-- ==== Proof.DownModFrame.lean ====
/- The first down-projection call's run over its grid: the invariant between points, and the frame with the outputs named. -/
module

public import proofs.«01_k».proof.Proof.DownModPoint
public import proofs.«01_k».proof.Proof.Gen.DownModIdeal.Frame

@[expose] public section

set_option maxRecDepth 16384

noncomputable section

namespace Cert.DownModRun

open Cert.DownModIdeal Cert.DownModIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- The kind of each point. -/
theorem kinds : ∀ t : Fin cfg0.N,
    (t.val = 0 → atZero (grid0.coords t) ∧ ¬k0_cond2 (grid0.coords t) = 1#1 ∧ ¬k0_cond3 (grid0.coords t) = 1#1 ∧ ¬k0_cond4 (grid0.coords t) = 1#1)
    ∧ (t.val ≠ 0 ∧ t.val ≠ 32 ∧ t.val % 2 = 0 → ¬atZero (grid0.coords t) ∧ k0_cond2 (grid0.coords t) = 1#1 ∧ ¬k0_cond3 (grid0.coords t) = 1#1 ∧ ¬k0_cond4 (grid0.coords t) = 1#1)
    ∧ (t.val % 2 = 1 → ¬atZero (grid0.coords t) ∧ ¬k0_cond2 (grid0.coords t) = 1#1 ∧ k0_cond3 (grid0.coords t) = 1#1 ∧ ¬k0_cond4 (grid0.coords t) = 1#1)
    ∧ (t.val = 32 → ¬atZero (grid0.coords t) ∧ ¬k0_cond2 (grid0.coords t) = 1#1 ∧ ¬k0_cond3 (grid0.coords t) = 1#1 ∧ k0_cond4 (grid0.coords t) = 1#1) :=
  (by decide +kernel : ∀ t : Fin grid0.N, _)

/-- The output windows skip the first point, as one condition for both. -/
theorem idle_at6 : ∀ t : Fin cfg0.N, idle0 6 (grid0.coords t) = decide (t.val = 0) :=
  (by decide +kernel : ∀ t : Fin grid0.N, idle0 6 (grid0.coords t) = decide (t.val = 0))
theorem flush_at6 : ∀ t : Fin cfg0.N, (win0 6).flush t = !decide (t.val = 0) :=
  (by decide +kernel : ∀ t : Fin grid0.N, win0_6.flush t = !decide (t.val = 0))
theorem flush_at7 : ∀ t : Fin cfg0.N, (win0 7).flush t = !decide (t.val = 0) :=
  (by decide +kernel : ∀ t : Fin grid0.N, win0_7.flush t = !decide (t.val = 0))

theorem bound (t : Fin cfg0.N) : t.val < 33 := lt_of_lt_of_eq t.isLt (show cfg0.N = 33 from N_0)

/-- Point `n`. -/
def pt (n : ℕ) : Fin cfg0.N := ⟨n % 33, lt_of_lt_of_eq (Nat.mod_lt _ (by decide)) (show cfg0.N = 33 from N_0).symm⟩
theorem pt_val (t : Fin cfg0.N) : pt t.val = t := Fin.ext (Nat.mod_eq_of_lt (bound t))

/-- The weights as the region finds them. -/
abbrev Wt (c : Dev nD) : Buf (Elt F) (wtM.view.loc (T c)) := V m c main_arg1

/-- Point `n`'s product. -/
def prod (c : Dev nD) (n : ℕ) : FVec F S256x2048 .f32 :=
  if n = 0 then acc (iblk m c 0 (pt n)) (Wt m c) 42 else full (iblk m c 0 (pt n)) (wbw (Wt m c))

/-! ## The scratch, the semaphores and the weights between the points -/

abbrev osem0 : Fin 4 → SemLoc sig := fun j => (![SemLoc.dma 15, SemLoc.dma 16, SemLoc.dma 17, SemLoc.dma 18] : Fin 4 → SemLoc sig) j
theorem ownSemFacts0 : Pipeline.OwnSemFacts spec0 osem0 := by decide
def H0 : Finset (Ref sig .tc) := {main_arg1}
theorem H0_sub : H0 ⊆ Pipeline.restRefs sig spec0 := by decide

theorem sems_eq (c : Dev nD) :
    (Pipeline.ownSems0 (Ix := Unit) (Name := ℕ) (U := Pipeline.UD sig nD τ) (Lvl := ℕ) (Val := Elt F) (τ := τ) osem0 c : sProp 𝕄)
      = iprop(semVal (T c, SemLoc.dma (cell 0)) 0 ∗ semVal (T c, SemLoc.dma (cell 1)) 0
          ∗ semVal (T c, SemLoc.dma (cell 2)) 0 ∗ semVal (T c, SemLoc.dma (cell 3)) 0) := by
  rw [Pipeline.ownSems0_eq_of_list c osem0 [0, 1, 2, 3] (by decide) (by decide)]; rfl

theorem hbm_eq (c : Dev nD) :
    (bigSep H0 (fun b => ((c : Thread nD τ).loc b) ↦{fullShare} V m c b) : sProp 𝕄) = (wtM.view.loc (T c) ↦{fullShare} Wt m c) := by
  rw [BI.bigSep_eq_bigSepL_of_eq [main_arg1] (by decide) (by decide)]; rfl

/-- The slots' sets tile the scratch. -/
abbrev sset (s : Fin 4) : Finset (Idx (stM.view.loc (T (0 : Dev nD)))) := (rSlot s).set
theorem sset_disjoint : ∀ s s' : Fin 4, s ≠ s' → Disjoint (rSlot s).set (rSlot s').set :=
  fun s s' h => Ring.lead_disjoint (s := S4x128x2048) (NB := 4) (0 : Fin 3) 1 (fun b => ![b.val, 0, 0]) S1x128x2048.size inbSlot
    (fun b => (Nat.one_mul _).symm) rfl s s' h
theorem sset_cover : Finset.univ.biUnion (fun s : Fin 4 => (rSlot s).set) = Finset.univ :=
  Ring.lead_cover (s := S4x128x2048) (NB := 4) (0 : Fin 3) 1 (fun b => ![b.val, 0, 0]) S1x128x2048.size inbSlot
    (fun b => (Nat.one_mul _).symm) (fun b a h => by match a with | ⟨0, _⟩ => exact absurd rfl h | ⟨1, _⟩ => rfl | ⟨2, _⟩ => rfl) rfl
    (fun a h => by match a with | ⟨0, _⟩ => exact absurd rfl h | ⟨1, _⟩ => rfl | ⟨2, _⟩ => rfl) rfl
theorem slot_set (s : Fin 4) : (slotM s).view.set = (rSlot s).set := (View.set_reshape _ _).trans (View.set_slice_whole _ _)

def Slots (c : Dev nD) : sProp 𝕄 :=
  iprop((∃ f : Buf (Elt F) (stM.view.loc (T c)), stM.view.loc (T c) ↦{fullShare} f)
    ∗ (semVal (T c, SemLoc.dma (cell 0)) 0 ∗ semVal (T c, SemLoc.dma (cell 1)) 0
          ∗ semVal (T c, SemLoc.dma (cell 2)) 0 ∗ semVal (T c, SemLoc.dma (cell 3)) 0)
    ∗ (wtM.view.loc (T c) ↦{fullShare} Wt m c))

/-- Each slot's share of the weights. -/
def qs : Fin 4 → PosShare TreeShare := ![fullShare.left.left, fullShare.left.right, fullShare.right.left, fullShare.right.right]

def Frees (c : Dev nD) : sProp 𝕄 :=
  iprop(Free c (qs 0) (Wt m c) 0 ∗ Free c (qs 1) (Wt m c) 1 ∗ Free c (qs 2) (Wt m c) 2 ∗ Free c (qs 3) (Wt m c) 3)

theorem sep4 (Φ : Fin 4 → sProp 𝕄) : bigSep Finset.univ Φ = iprop(Φ 0 ∗ Φ 1 ∗ Φ 2 ∗ Φ 3) :=
  bigSep_univ_eq_bigSepL [(0 : Fin 4), 1, 2, 3] (by decide) (by decide) Φ

theorem stage_split (c : Dev nD) :
    (iprop(∃ f : Buf (Elt F) (stM.view.loc (T c)), stM.view.loc (T c) ↦{fullShare} f) : sProp 𝕄)
      ⊢ iprop((∃ f : Buf (Elt F) (stM.view.loc (T c)), stM.view.loc (T c) ↦[(rSlot 0).set]{fullShare} f)
          ∗ (∃ f : Buf (Elt F) (stM.view.loc (T c)), stM.view.loc (T c) ↦[(rSlot 1).set]{fullShare} f)
          ∗ (∃ f : Buf (Elt F) (stM.view.loc (T c)), stM.view.loc (T c) ↦[(rSlot 2).set]{fullShare} f)
          ∗ (∃ f : Buf (Elt F) (stM.view.loc (T c)), stM.view.loc (T c) ↦[(rSlot 3).set]{fullShare} f)) := by
  iintro ⟨%f, H⟩
  ihave H' := (Entails.of_eq ((Ring.pointsTo_blocks (ℓ := stM.view.loc (T c)) (q := fullShare) (fun s : Fin 4 => (rSlot s).set) sset_disjoint sset_cover f).trans (sep4 _))) $$ H
  icases H' with ⟨H0, H1, H2, H3⟩
  isplitl [H0]; · iexists f; iexact H0
  isplitl [H1]; · iexists f; iexact H1
  isplitl [H2]; · iexists f; iexact H2
  iexists f; iexact H3

theorem frees_in (c : Dev nD) : (Slots m c : sProp 𝕄) ⊢ Frees m c := by
  unfold Slots Frees Free
  iintro ⟨Hst, ⟨Hv0, Hv1, Hv2, Hv3⟩, Hw⟩
  ihave Hs := (stage_split c) $$ Hst
  ihave Hw2 := (pointsTo_share (PosShare.mem_left_op_right fullShare)).1 $$ Hw
  icases Hw2 with ⟨Hl, Hr⟩
  ihave Hl2 := (pointsTo_share (PosShare.mem_left_op_right fullShare.left)).1 $$ Hl
  icases Hl2 with ⟨Hw0, Hw1⟩
  ihave Hr2 := (pointsTo_share (PosShare.mem_left_op_right fullShare.right)).1 $$ Hr
  icases Hr2 with ⟨Hw2, Hw3⟩
  rw [slot_set 0, slot_set 1, slot_set 2, slot_set 3]
  icases Hs with ⟨Hs0, Hs1, Hs2, Hs3⟩
  isplitl [Hs0 Hv0 Hw0]
  · isplitl [Hs0]; · iexact Hs0
    isplitl [Hv0]; · iexact Hv0
    iexact Hw0
  isplitl [Hs1 Hv1 Hw1]
  · isplitl [Hs1]; · iexact Hs1
    isplitl [Hv1]; · iexact Hv1
    iexact Hw1
  isplitl [Hs2 Hv2 Hw2]
  · isplitl [Hs2]; · iexact Hs2
    isplitl [Hv2]; · iexact Hv2
    iexact Hw2
  isplitl [Hs3]; · iexact Hs3
  isplitl [Hv3]; · iexact Hv3
  iexact Hw3

theorem frees_out (c : Dev nD) : (Frees m c : sProp 𝕄) ⊢ Slots m c := by
  unfold Slots Frees Free
  rw [slot_set 0, slot_set 1, slot_set 2, slot_set 3]
  iintro ⟨⟨Hs0, Hv0, Hw0⟩, ⟨Hs1, Hv1, Hw1⟩, ⟨Hs2, Hv2, Hw2⟩, ⟨Hs3, Hv3, Hw3⟩⟩
  isplitl [Hs0 Hs1 Hs2 Hs3]
  · iapply (Ring.pointsTo_blocks_join_exists (ℓ := stM.view.loc (T c)) (q := fullShare) (fun s : Fin 4 => (rSlot s).set) sset_disjoint sset_cover stM.view.junk)
    rw [sep4]
    isplitl [Hs0]; · iexact Hs0
    isplitl [Hs1]; · iexact Hs1
    isplitl [Hs2]; · iexact Hs2
    iexact Hs3
  isplitl [Hv0 Hv1 Hv2 Hv3]
  · isplitl [Hv0]; · iexact Hv0
    isplitl [Hv1]; · iexact Hv1
    isplitl [Hv2]; · iexact Hv2
    iexact Hv3
  iapply (pointsTo_share (PosShare.mem_left_op_right fullShare)).2
  isplitl [Hw0 Hw1]
  · iapply (pointsTo_share (PosShare.mem_left_op_right fullShare.left)).2
    isplitl [Hw0]; · iexact Hw0
    iexact Hw1
  iapply (pointsTo_share (PosShare.mem_left_op_right fullShare.right)).2
  isplitl [Hw2]; · iexact Hw2
  iexact Hw3

/-- What the region is handed. -/
theorem start_eq (c : Dev nD) :
    (Pipeline.ΦD osem0 spec0 H0 (V m) c : sProp 𝕄)
      ⊣⊢ iprop((Yany c ∗ (∃ d, owns (T c) wbM fullShare d)) ∗ Slots m c ∗ (∃ r, prngReg c r)) := by
  rw [Pipeline.ΦD_eq, scopedRest0_eq, sems_eq, hbm_eq]
  unfold Yany Slots
  simp only [owns_whole]
  rw [show yM.view.set = Finset.univ from View.set_whole _]
  constructor
  · iintro ⟨⟨HB, HS, HY⟩, Hg, Hv, Hw⟩
    isplitl [HB HY]
    · isplitl [HY]; · iexact HY
      iexact HB
    isplitr [Hg]; swap; · iexact Hg
    isplitl [HS]; · iexact HS
    isplitl [Hv]; · iexact Hv
    iexact Hw
  · iintro ⟨⟨HY, HB⟩, ⟨HS, Hv, Hw⟩, Hg⟩
    isplitl [HB HS HY]
    · isplitl [HB]; · iexact HB
      isplitl [HS]; · iexact HS
      iexact HY
    isplitl [Hg]; · iexact Hg
    isplitl [Hv]; · iexact Hv
    iexact Hw

/-! ## The invariant -/

/-- Before a point after the first: the rounded weights, and the product of the point before. -/
def Later (c : Dev nD) (n : ℕ) : sProp 𝕄 :=
  iprop((∃ (b : Fin 2) (y : FVec F S256x2048 .f32), ⌜n < 33 → b.val = (n - 1) % 2 ∧ y = prod m c (n - 1)⌝ ∗ Y c b y)
    ∗ owns (T c) wbM fullShare (wbw (Wt m c)) ∗ Slots m c ∗ (∃ r, prngReg c r))

def Inv (c : Dev nD) (n : ℕ) : sProp 𝕄 := if n = 0 then Pipeline.ΦD osem0 spec0 H0 (V m) c else Later m c n

theorem Inv_zero (c : Dev nD) : Inv m c 0 = Pipeline.ΦD osem0 spec0 H0 (V m) c := if_pos rfl
theorem Inv_pos (c : Dev nD) (n : ℕ) (h : n ≠ 0) : Inv m c n = Later m c n := if_neg h

theorem later_out (c : Dev nD) (n : ℕ) : (Later m c n : sProp 𝕄) ⊢ Pipeline.ΦD osem0 spec0 H0 (V m) c := by
  refine BIBase.Entails.trans ?_ (start_eq m c).2
  unfold Later
  iintro ⟨⟨%b, %y, -, HY⟩, HB, HS, Hg⟩
  isplitl [HY HB]
  · isplitl [HY]; · iapply (Y_any c b y); iexact HY
    iexists _; iexact HB
  isplitl [HS]; · iexact HS
  iexact Hg

theorem Wb_zero (c : Dev nD) : (iprop(∃ d, owns (T c) wbM fullShare d) : sProp 𝕄) ⊢ Wb c (Wt m c) 0 := by
  unfold Wb owns
  iintro ⟨%d, %f, -, H⟩
  iexists f
  isplitr; swap; · iexact H
  ipureintro; intro j hj; exact absurd hj (Nat.not_lt_zero j)

/-- The output blocks of a point after the first. -/
def sumAt (c : Dev nD) (t : Fin cfg0.N) : Vec F S256x2048 .f32 := sumv (prod m c (t.val - 1)) (iblk m c 1 t) (iblk m c 2 t)
def modAt (c : Dev nD) (t : Fin cfg0.N) : Vec F S256x2048 .bf16 :=
  modv (prod m c (t.val - 1)) (iblk m c 1 t) (iblk m c 2 t) (iblk m c 3 t) (iblk m c 4 t) (iblk m c 5 t)

/-- The first point. -/
theorem point_first (c : Dev nD) (t : Fin cfg0.N) (h : t.val = 0) (K : PUnit → sProp 𝕄) :
    iprop(Pipeline.ΦD osem0 spec0 H0 (V m) c ∗ (∃ O, owes (T c) 0 O) ∗ owns (c : Thread nD τ) (st0_0 t) fullShare (iblk m c 0 t)
        ∗ (Later m c 1 -∗ (∃ O, owes (T c) 0 O) -∗ owns (c : Thread nD τ) (st0_0 t) fullShare (iblk m c 0 t) -∗ K ⟨⟩))
      ⊢ wp frame (wpE (defs₀ (F := F)) Variants.none c none) Set.univ (bodyAt0 t) K := by
  obtain ⟨h1, h2, h3, h4⟩ := (kinds t).1 h
  refine BIBase.Entails.trans (sep_mono (start_eq m c).1 .rfl) ?_
  unfold bodyAt0
  rw [body_first (grid0.coords t) _ _ _ _ _ _ _ _ _ _ _ _ _ _ _ _ h1 h2 h3 h4]
  iintro ⟨⟨⟨HY, HB⟩, HS, Hg⟩, HO, H0, HK⟩
  ihave HB' := (Wb_zero m c) $$ HB
  ihave HF := (frees_in m c) $$ HS
  iapply (product_wp c qs (st0_0 t) (hstage0_0 ((cfg0.slots t 0).cast nbuf0_0)) (iblk m c 0 t) (Wt m c) K)
  isplitl [HY HB' HO H0]
  · isplitl [H0]; · iexact H0
    isplitl [HY]; · iexact HY
    isplitl [HB']; · iexact HB'
    iexact HO
  isplitl [HF]; · unfold Frees; iexact HF
  unfold Core
  iintro ⟨H0, HY, HB, HO⟩ HF
  iapply HK $$ [HY HB HF Hg] HO H0
  unfold Later
  isplitl [HY]
  · iexists (0 : Fin 2); iexists _
    isplitr; swap; · iexact HY
    ipureintro; intro _; refine ⟨rfl, ?_⟩
    unfold prod
    rw [if_pos rfl, show pt 0 = t from Fin.ext h.symm]
  isplitl [HB]; · iapply (Wb_all c (Wt m c)); iexact HB
  isplitl [HF]; · iapply (frees_out m c); unfold Frees; iexact HF
  iexact Hg

/-- A point that emits product `b` and computes the other. -/
theorem point_mid (c : Dev nD) (t : Fin cfg0.N) (h0 : t.val ≠ 0) (hN : t.val ≠ 32) (b b' : Fin 2) (hb : b.val = (t.val - 1) % 2) (hb' : b'.val = t.val % 2)
    (d : Vec F S256x2048 .f32) (d7 : Vec F S256x2048 .bf16) (K : PUnit → sProp 𝕄) :
    iprop(Later m c t.val ∗ owns (c : Thread nD τ) (st0_0 t) fullShare (iblk m c 0 t) ∗ owns (c : Thread nD τ) (st0_1 t) fullShare (iblk m c 1 t)
        ∗ owns (c : Thread nD τ) (st0_2 t) fullShare (iblk m c 2 t) ∗ owns (c : Thread nD τ) (st0_3 t) fullShare (iblk m c 3 t)
        ∗ owns (c : Thread nD τ) (st0_4 t) fullShare (iblk m c 4 t) ∗ owns (c : Thread nD τ) (st0_5 t) fullShare (iblk m c 5 t)
        ∗ owns (c : Thread nD τ) (st0_6 t) fullShare d ∗ owns (c : Thread nD τ) (st0_7 t) fullShare d7
        ∗ (Later m c (t.val + 1) -∗ owns (c : Thread nD τ) (st0_0 t) fullShare (iblk m c 0 t) -∗ owns (c : Thread nD τ) (st0_1 t) fullShare (iblk m c 1 t)
            -∗ owns (c : Thread nD τ) (st0_2 t) fullShare (iblk m c 2 t) -∗ owns (c : Thread nD τ) (st0_3 t) fullShare (iblk m c 3 t)
            -∗ owns (c : Thread nD τ) (st0_4 t) fullShare (iblk m c 4 t) -∗ owns (c : Thread nD τ) (st0_5 t) fullShare (iblk m c 5 t)
            -∗ owns (c : Thread nD τ) (st0_6 t) fullShare (sumAt m c t) -∗ owns (c : Thread nD τ) (st0_7 t) fullShare (modAt m c t) -∗ K ⟨⟩))
      ⊢ wp frame (wpE (defs₀ (F := F)) Variants.none c none) Set.univ (do emit (st0_1 t) (st0_2 t) (st0_3 t) (st0_4 t) (st0_5 t) (st0_6 t) (st0_7 t) (hstage0_7 ((cfg0.slots t 7).cast nbuf0_7)) b; compute (st0_0 t) b') K := by
  unfold Later
  rw [wp_bind]
  iintro ⟨⟨⟨%e, %y, %hy, HY⟩, HB, HS, Hg⟩, H0, H1, H2, H3, H4, H5, H6, H7, HK⟩
  obtain ⟨he, rfl⟩ := hy (bound t)
  obtain rfl : e = b := Fin.ext (he.trans hb.symm)
  iapply (emit_wp c (st0_1 t) (st0_2 t) (st0_3 t) (st0_4 t) (st0_5 t) (st0_6 t) (st0_7 t) (hstage0_7 ((cfg0.slots t 7).cast nbuf0_7)) e (prod m c (t.val - 1))
    (iblk m c 1 t) (iblk m c 2 t) (iblk m c 3 t) (iblk m c 4 t) (iblk m c 5 t) d d7)
  isplitl [HY]; · iexact HY
  isplitl [H1]; · iexact H1
  isplitl [H2]; · iexact H2
  isplitl [H3]; · iexact H3
  isplitl [H4]; · iexact H4
  isplitl [H5]; · iexact H5
  isplitl [H6]; · iexact H6
  isplitl [H7]; · iexact H7
  iintro HY H1 H2 H3 H4 H5 H6 H7
  iapply (compute_wp c (st0_0 t) b' (iblk m c 0 t) (wbw (Wt m c)))
  isplitl [HY]; · iapply (Y_any c e _); iexact HY
  isplitl [H0]; · iexact H0
  isplitl [HB]; · iexact HB
  iintro HY H0 HB
  iapply HK $$ [HY HB HS Hg] H0 H1 H2 H3 H4 H5 [H6] [H7]
  · isplitl [HY]
    · iexists b'; iexists _
      isplitr; swap; · iexact HY
      ipureintro; intro _; refine ⟨by rw [hb', Nat.add_sub_cancel], ?_⟩
      unfold prod
      rw [Nat.add_sub_cancel, if_neg h0, pt_val]
    isplitl [HB]; · iexact HB
    isplitl [HS]; · iexact HS
    iexact Hg
  · unfold sumAt; iexact H6
  · unfold modAt; iexact H7

/-- The last point. -/
theorem point_last (c : Dev nD) (t : Fin cfg0.N) (hN : t.val = 32) (d : Vec F S256x2048 .f32) (d7 : Vec F S256x2048 .bf16) (K : PUnit → sProp 𝕄) :
    iprop(Later m c t.val ∗ owns (c : Thread nD τ) (st0_0 t) fullShare (iblk m c 0 t) ∗ owns (c : Thread nD τ) (st0_1 t) fullShare (iblk m c 1 t)
        ∗ owns (c : Thread nD τ) (st0_2 t) fullShare (iblk m c 2 t) ∗ owns (c : Thread nD τ) (st0_3 t) fullShare (iblk m c 3 t)
        ∗ owns (c : Thread nD τ) (st0_4 t) fullShare (iblk m c 4 t) ∗ owns (c : Thread nD τ) (st0_5 t) fullShare (iblk m c 5 t)
        ∗ owns (c : Thread nD τ) (st0_6 t) fullShare d ∗ owns (c : Thread nD τ) (st0_7 t) fullShare d7
        ∗ (Later m c (t.val + 1) -∗ owns (c : Thread nD τ) (st0_0 t) fullShare (iblk m c 0 t) -∗ owns (c : Thread nD τ) (st0_1 t) fullShare (iblk m c 1 t)
            -∗ owns (c : Thread nD τ) (st0_2 t) fullShare (iblk m c 2 t) -∗ owns (c : Thread nD τ) (st0_3 t) fullShare (iblk m c 3 t)
            -∗ owns (c : Thread nD τ) (st0_4 t) fullShare (iblk m c 4 t) -∗ owns (c : Thread nD τ) (st0_5 t) fullShare (iblk m c 5 t)
            -∗ owns (c : Thread nD τ) (st0_6 t) fullShare (sumAt m c t) -∗ owns (c : Thread nD τ) (st0_7 t) fullShare (modAt m c t) -∗ K ⟨⟩))
      ⊢ wp frame (wpE (defs₀ (F := F)) Variants.none c none) Set.univ (emit (st0_1 t) (st0_2 t) (st0_3 t) (st0_4 t) (st0_5 t) (st0_6 t) (st0_7 t) (hstage0_7 ((cfg0.slots t 7).cast nbuf0_7)) 1) K := by
  unfold Later
  iintro ⟨⟨⟨%e, %y, %hy, HY⟩, HB, HS, Hg⟩, H0, H1, H2, H3, H4, H5, H6, H7, HK⟩
  obtain ⟨he, rfl⟩ := hy (bound t)
  obtain rfl : e = 1 := Fin.ext (by rw [he, hN]; rfl)
  iapply (emit_wp c (st0_1 t) (st0_2 t) (st0_3 t) (st0_4 t) (st0_5 t) (st0_6 t) (st0_7 t) (hstage0_7 ((cfg0.slots t 7).cast nbuf0_7)) 1 (prod m c (t.val - 1))
    (iblk m c 1 t) (iblk m c 2 t) (iblk m c 3 t) (iblk m c 4 t) (iblk m c 5 t) d d7)
  isplitl [HY]; · iexact HY
  isplitl [H1]; · iexact H1
  isplitl [H2]; · iexact H2
  isplitl [H3]; · iexact H3
  isplitl [H4]; · iexact H4
  isplitl [H5]; · iexact H5
  isplitl [H6]; · iexact H6
  isplitl [H7]; · iexact H7
  iintro HY H1 H2 H3 H4 H5 H6 H7
  iapply HK $$ [HY HB HS Hg] H0 H1 H2 H3 H4 H5 [H6] [H7]
  · isplitl [HY]
    · iexists (1 : Fin 2); iexists _
      isplitr; swap; · iexact HY
      ipureintro; intro h; omega
    isplitl [HB]; · iexact HB
    isplitl [HS]; · iexact HS
    iexact Hg
  · unfold sumAt; iexact H6
  · unfold modAt; iexact H7

/-- Any point after the first. -/
theorem point_later (c : Dev nD) (t : Fin cfg0.N) (h0 : t.val ≠ 0) (d : Vec F S256x2048 .f32) (d7 : Vec F S256x2048 .bf16) (K : PUnit → sProp 𝕄) :
    iprop(Later m c t.val ∗ owns (c : Thread nD τ) (st0_0 t) fullShare (iblk m c 0 t) ∗ owns (c : Thread nD τ) (st0_1 t) fullShare (iblk m c 1 t)
        ∗ owns (c : Thread nD τ) (st0_2 t) fullShare (iblk m c 2 t) ∗ owns (c : Thread nD τ) (st0_3 t) fullShare (iblk m c 3 t)
        ∗ owns (c : Thread nD τ) (st0_4 t) fullShare (iblk m c 4 t) ∗ owns (c : Thread nD τ) (st0_5 t) fullShare (iblk m c 5 t)
        ∗ owns (c : Thread nD τ) (st0_6 t) fullShare d ∗ owns (c : Thread nD τ) (st0_7 t) fullShare d7
        ∗ (Later m c (t.val + 1) -∗ owns (c : Thread nD τ) (st0_0 t) fullShare (iblk m c 0 t) -∗ owns (c : Thread nD τ) (st0_1 t) fullShare (iblk m c 1 t)
            -∗ owns (c : Thread nD τ) (st0_2 t) fullShare (iblk m c 2 t) -∗ owns (c : Thread nD τ) (st0_3 t) fullShare (iblk m c 3 t)
            -∗ owns (c : Thread nD τ) (st0_4 t) fullShare (iblk m c 4 t) -∗ owns (c : Thread nD τ) (st0_5 t) fullShare (iblk m c 5 t)
            -∗ owns (c : Thread nD τ) (st0_6 t) fullShare (sumAt m c t) -∗ owns (c : Thread nD τ) (st0_7 t) fullShare (modAt m c t) -∗ K ⟨⟩))
      ⊢ wp frame (wpE (defs₀ (F := F)) Variants.none c none) Set.univ (bodyAt0 t) K := by
  unfold bodyAt0
  obtain ⟨-, k2, k3, k4⟩ := kinds t
  by_cases hN : t.val = 32
  · obtain ⟨h1, h2, h3, h4⟩ := k4 hN
    rw [body_last (grid0.coords t) _ _ _ _ _ _ _ _ _ _ _ _ _ _ _ _ h1 h2 h3 h4]
    exact point_last m c t hN d d7 K
  rcases Nat.mod_two_eq_zero_or_one t.val with hp | hp
  · obtain ⟨h1, h2, h3, h4⟩ := k2 ⟨h0, hN, hp⟩
    rw [body_even (grid0.coords t) _ _ _ _ _ _ _ _ _ _ _ _ _ _ _ _ h1 h2 h3 h4]
    exact point_mid m c t h0 hN 1 0 (by show 1 = _; omega) hp.symm d d7 K
  · obtain ⟨h1, h2, h3, h4⟩ := k3 hp
    rw [body_odd (grid0.coords t) _ _ _ _ _ _ _ _ _ _ _ _ _ _ _ _ h1 h2 h3 h4]
    exact point_mid m c t h0 hN 0 1 (by show 0 = _; omega) hp.symm d d7 K

/-! ## The run -/

def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => sumAt m c t
    | ⟨7, _⟩ => modAt m c t
  Φ t := Inv m c t.val
  q := Pipeline.shareOf spec0
  owed _ := 0

theorem A_eq (c : Dev nD) (w : Fin cfg0.W) : (dats m 0 c).A w = V m c (Pipeline.arrRef spec0 w) := by dsimp only [dats]
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = sumAt m c t := by dsimp only [dats]
theorem after_7 (c : Dev nD) (t : Fin cfg0.N) : (dats m 0 c).after 7 t = modAt m c t := by dsimp only [dats]

theorem before_0 (c : Dev nD) (t : Fin cfg0.N) (d) : (dats m 0 c).before 0 t d = iblk m c 0 t :=
  ((dats m 0 c).before_in_eq_fetched 0 rfl (fun _ => rfl) (fun _ _ _ => rfl)
    (fun t => by rw [after_0]; unfold Dat.blockOf iblk; rw [A_eq]; try rfl) t d).trans (by unfold Dat.fetched Dat.blockOf iblk; rw [A_eq]; try rfl)
theorem before_1 (c : Dev nD) (t : Fin cfg0.N) (d) : (dats m 0 c).before 1 t d = iblk m c 1 t :=
  ((dats m 0 c).before_in_eq_fetched 1 rfl (fun _ => rfl) (fun _ _ _ => rfl)
    (fun t => by rw [after_1]; unfold Dat.blockOf iblk; rw [A_eq]; try rfl) t d).trans (by unfold Dat.fetched Dat.blockOf iblk; rw [A_eq]; try rfl)
theorem before_2 (c : Dev nD) (t : Fin cfg0.N) (d) : (dats m 0 c).before 2 t d = iblk m c 2 t :=
  ((dats m 0 c).before_in_eq_fetched 2 rfl (fun _ => rfl) (fun _ _ _ => rfl)
    (fun t => by rw [after_2]; unfold Dat.blockOf iblk; rw [A_eq]; try rfl) t d).trans (by unfold Dat.fetched Dat.blockOf iblk; rw [A_eq]; try rfl)
theorem before_3 (c : Dev nD) (t : Fin cfg0.N) (d) : (dats m 0 c).before 3 t d = iblk m c 3 t :=
  ((dats m 0 c).before_in_eq_fetched 3 rfl (fun _ => rfl) (fun _ _ _ => rfl)
    (fun t => by rw [after_3]; unfold Dat.blockOf iblk; rw [A_eq]; try rfl) t d).trans (by unfold Dat.fetched Dat.blockOf iblk; rw [A_eq]; try rfl)
theorem before_4 (c : Dev nD) (t : Fin cfg0.N) (d) : (dats m 0 c).before 4 t d = iblk m c 4 t :=
  ((dats m 0 c).before_in_eq_fetched 4 rfl (fun _ => rfl) (fun _ _ _ => rfl)
    (fun t => by rw [after_4]; unfold Dat.blockOf iblk; rw [A_eq]; try rfl) t d).trans (by unfold Dat.fetched Dat.blockOf iblk; rw [A_eq]; try rfl)
theorem before_5 (c : Dev nD) (t : Fin cfg0.N) (d) : (dats m 0 c).before 5 t d = iblk m c 5 t :=
  ((dats m 0 c).before_in_eq_fetched 5 rfl (fun _ => rfl) (fun _ _ _ => rfl)
    (fun t => by rw [after_5]; unfold Dat.blockOf iblk; rw [A_eq]; try rfl) t d).trans (by unfold Dat.fetched Dat.blockOf iblk; rw [A_eq]; try rfl)

theorem row_eq (t : Fin cfg0.N) : defs₀ (F := F) .tc cfg0.body (cfg0.bodyArgs t (cfg0.slots t)) = bodyAt0 t := by
  unfold defs₀; rw [Defs.onTc_tc]

theorem obligation (c : Dev nD) : BodyObligationLoose (dats m 0 c) (defs₀ (F := F)) Variants.none () Set.univ := fun t => by
  rw [bigSep_W0, bigSep_W0, row_eq]
  simp only
  rw [show (dats m 0 c).Φ t.castSucc = Inv m c t.val from rfl, show (dats m 0 c).Φ t.succ = Inv m c (t.val + 1) from rfl, Inv_pos m c _ (Nat.succ_ne_zero _)]
  unfold Dat.owesAt Pipeline.owesWithin
  rw [show (dats m 0 c).owed t.castSucc = 0 from rfl, show (dats m 0 c).owed t.succ = 0 from rfl]
  by_cases h0 : t.val = 0
  · rw [show idle0 6 (grid0.coords t) = true from by rw [idle_at6, h0]; rfl, show (win0 6).flush t = false from by rw [flush_at6, h0]; rfl,
      show (win0 7).flush t = false from by rw [flush_at7, h0]; rfl,
      show Inv m c t.val = Pipeline.ΦD osem0 spec0 H0 (V m) c from by rw [h0, Inv_zero], show Later m c t.val.succ = Later m c 1 from by rw [h0]]
    simp only
    iintro ⟨HI, ⟨%O, -, HO⟩, ⟨%d0, H0⟩, ⟨%d1, H1⟩, ⟨%d2, H2⟩, ⟨%d3, H3⟩, ⟨%d4, H4⟩, ⟨%d5, H5⟩, H6, H7⟩
    rw [before_0 m c t d0, before_1 m c t d1, before_2 m c t d2, before_3 m c t d3, before_4 m c t d4, before_5 m c t d5, after_0, after_1, after_2, after_3, after_4, after_5]
    iapply (point_first m c t h0 _)
    isplitl [HI]; · iexact HI
    isplitl [HO]; · iexists O; iexact HO
    isplitl [H0]; · iexact H0
    iintro HI ⟨%O', HO⟩ H0
    isplitl [HI]; · iexact HI
    isplitl [HO]
    · iexists O'; isplitr; · ipureintro; exact fun _ _ => Or.inl trivial
      iexact HO
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  · rw [show idle0 6 (grid0.coords t) = false from by rw [idle_at6]; exact decide_eq_false h0, Inv_pos m c _ h0]
    simp only
    iintro ⟨HI, HO, ⟨%d0, H0⟩, ⟨%d1, H1⟩, ⟨%d2, H2⟩, ⟨%d3, H3⟩, ⟨%d4, H4⟩, ⟨%d5, H5⟩, ⟨%d6, H6⟩, ⟨%d7, H7⟩⟩
    rw [before_0 m c t d0, before_1 m c t d1, before_2 m c t d2, before_3 m c t d3, before_4 m c t d4, before_5 m c t d5, after_0, after_1, after_2, after_3, after_4, after_5, after_6, after_7]
    iapply (point_later m c t h0 _ _ _)
    isplitl [HI]; · iexact HI
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iintro HI H0 H1 H2 H3 H4 H5 H6 H7
    isplitl [HI]; · iexact HI
    isplitl [HO]; · iexact HO
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7

set_option maxHeartbeats 800000 in
theorem main_upto (𝒱₀ : Variants) : Pipeline.HMain (Ix := Unit) (Name := ℕ) (U := Pipeline.UD sig nD τ) (Lvl := ℕ) cfgs 0 defs₀ 𝒱₀ m (main (F := F)) (V m) :=
  Pipeline.hmain_prefix cfgs 0 defs₀ 𝒱₀ m main hostOps0 hostOps0_sub hostOps0_fresh main_chain

set_option backward.isDefEq.respectTransparency.types false in
theorem run : θ_run defs (onTc (τ := τ) (main (F := F))) (s₀ m ρ)
    (fun r => Pipeline.FramePost cfgs (dats m) 0 (V m) r ∧ r.2.sem = fun _ => 0) :=
  Pipeline.θ_run_frame_dma_shared (Q' := _) cfgs (dats m) (0 : Fin 1) launch₀0 osem0 defs₀ Variants.none ownSemFacts0 H0 H0_sub m ρ main
    (hbody := obligation m) (hq := fun _ _ _ => rfl) (howed := fun _ _ => rfl) (V := V m)
    (hmain := main_upto m Variants.none) (hA := A_eq m)
    (hin := fun c => by rw [show (dats m 0 c).Φ 0 = Inv m c 0 from rfl, Inv_zero])
    (hout := fun c => by
      rw [show (dats m 0 c).Φ (Fin.last cfg0.N) = Inv m c cfg0.N from rfl, Inv_pos m c _ (by rw [show cfg0.N = 33 from N_0]; decide)]
      exact later_out m c _)

/-- The run with the outputs named: it ends at what the points left, and the arguments as launched. -/
theorem named : θ_run defs (onTc (τ := τ) (main (F := F))) ⟨m, fun _ => 0, ρ⟩ (fun r => (∀ c : Dev nD,
      r.2.mem ((c.tc : Thread nD τ).loc main_v2_0) = (dats m 0 c).arrAt 6 cfg0.N
      ∧ r.2.mem ((c.tc : Thread nD τ).loc main_v2_1) = (dats m 0 c).arrAt 7 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨fun c => ⟨(h.1 c).1 6, (h.1 c).1 7,
      ((h.1 c).1 0).trans (((dats m 0 c).arrAt_in 0 rfl _).trans ((A_eq m c 0).trans (V_main_arg0 m c))),
      ((h.1 c).2 main_arg1 (Pipeline.mem_restRefs_of main_arg1 (by decide) (by decide))).trans (V_main_arg1 m c),
      ((h.1 c).1 1).trans (((dats m 0 c).arrAt_in 1 rfl _).trans ((A_eq m c 1).trans (V_main_arg2 m c))),
      ((h.1 c).2 main_arg3 (Pipeline.mem_restRefs_of main_arg3 (by decide) (by decide))).trans (V_main_arg3 m c),
      ((h.1 c).2 main_arg4 (Pipeline.mem_restRefs_of main_arg4 (by decide) (by decide))).trans (V_main_arg4 m c)⟩, h.2⟩) (run m ρ)

/-- The frame: the arguments end as launched and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨fun c => (h.1 c).2.2, h.2⟩) (named m ρ)

end Cert.DownModRun

end
-- ==== Proof.DownModEqual.lean ====
/- The first down-projection call over the extended reals: the two results, of the kernel and of the reference, as
   x + (gate / 2) · (rows times columns) and its root-mean-square norm, scaled and shifted. -/
module

public import proofs.«01_k».proof.Proof.DownModFrame
public import proofs.«01_k».proof.Proof.Dots
public import proofs.«01_k».proof.Proof.Gen.DownModRefIdeal.Read
public import proofs.«01_k».proof.Proof.Gen.DownModRefIdeal.Run

@[expose] public section

set_option maxRecDepth 16384

noncomputable section

namespace Cert.DownModEqual

open Idealize.ShloMosaic Idealize.ShloMosaic.TcCoe Idealize.ShloMosaic.Tactic
open Cert.DownModIdeal Cert.DownModIdeal.Gen Cert.DownModRun

/-- One, a half, the row length and the norm's small addend. -/
abbrev one : EReal := Scalar.ofBits (F := Ideal) .f32 0x3F800000#32
abbrev half : EReal := Scalar.ofBits (F := Ideal) .f32 0x3F000000#32
abbrev width : EReal := Scalar.ofBits (F := Ideal) .f32 0x45000000#32
abbrev small : EReal := Scalar.ofBits (F := Ideal) .f32 0x358637BD#32

/-- A row scaled by the reciprocal root of its mean square, and by `g`. -/
def normed (row : Fin 2048 → EReal) (g : EReal) (q : Fin 2048) : EReal :=
  row q * FloatOps.rsqrt (F := Ideal) (φ := .f32) (FloatOps.divf (F := Ideal) (φ := .f32) (∑ k : Fin 2048, row k * row k) width + small) * g

/-- The sum, which is the first result, at row `r` and column `q`. -/
def resid (act : FVec Ideal S8192x5504 .bf16) (w : FVec Ideal S4x2x5504x2048 .f32) (x : FVec Ideal S8192x2048 .f32)
    (mods : FVec Ideal S4x18432 .f32) (r : Fin 8192) (q : Fin 2048) : EReal :=
  x (ix2 r q) + half * mods (ix2 (⟨r.val / 2048, by have := r.isLt; omega⟩ : Fin 4) (⟨4096 + q.val, by have := q.isLt; omega⟩ : Fin 18432))
    * ∑ k : Fin 5504, act (ix2 r k) * w (ix4 (0 : Fin 4) (0 : Fin 2) k q)

/-- The call's results. -/
def result0 (act : FVec Ideal S8192x5504 .bf16) (w : FVec Ideal S4x2x5504x2048 .f32) (x : FVec Ideal S8192x2048 .f32)
    (mods : FVec Ideal S4x18432 .f32) : FVec Ideal S8192x2048 .f32 :=
  fun y => resid act w x mods (y 0) (y 1)
def result1 (act : FVec Ideal S8192x5504 .bf16) (w : FVec Ideal S4x2x5504x2048 .f32) (x : FVec Ideal S8192x2048 .f32)
    (mods : FVec Ideal S4x18432 .f32) (g : FVec Ideal S2048 .f32) : FVec Ideal S8192x2048 .bf16 :=
  fun y => (normed (resid act w x mods (y 0)) (g (ix1 (y 1))) (y 1)
      * (one + mods (ix2 (⟨(y 0).val / 2048, by have : (y 0).val < 8192 := (y 0).isLt; omega⟩ : Fin 4) (⟨8192 + (y 1).val, by have : (y 1).val < 2048 := (y 1).isLt; omega⟩ : Fin 18432)))
    + mods (ix2 (⟨(y 0).val / 2048, by have : (y 0).val < 8192 := (y 0).isLt; omega⟩ : Fin 4) (⟨6144 + (y 1).val, by have : (y 1).val < 2048 := (y 1).isLt; omega⟩ : Fin 18432)) : EReal)

/-! ## The products -/

section
variable {c : Dev nD} (x : FVec Ideal S256x5504 .bf16) (W : Buf (Elt Ideal) (wtM.view.loc (T c)))

/-- A block of the rounded weights reads the weights. -/
theorem rblk_apply (k : ℕ) (hk : k < 43) (p : Fin 128) (q : Fin 2048) :
    (rblk W k : FVec Ideal S128x2048 .bf16) (ix2 p q)
      = (W : FVec Ideal S4x2x5504x2048 .f32) (ix4 (0 : Fin 4) (0 : Fin 2) (⟨128 * k + p.val, by have := p.isLt; omega⟩ : Fin 5504) q) := by
  have hc : S1x1x128x2048.ShapeCasts S128x2048 := rfl
  refine (congrFun (Memref.read_squeeze_slice wtM (rBlk k) (fun _ => rfl) squeezes_S1x1x128x2048_S128x2048 hc W) (ix2 p q)).trans ?_
  refine (shapeCast_apply _ hc (ix2 p q) (ix4 (0 : Fin 1) (0 : Fin 1) p q) ?_).trans ?_
  · rw [Shape.rowMajor_val_four, Shape.rowMajor_val_two]
    show ((0 * 1 + 0) * 128 + p.val) * 2048 + q.val = p.val * 2048 + q.val
    omega
  refine congrArg W (funext fun a => Fin.ext ?_)
  have hm : k % 43 = k := Nat.mod_eq_of_lt hk
  match a with
  | ⟨0, _⟩ => rfl
  | ⟨1, _⟩ => rfl
  | ⟨2, _⟩ => show 128 * (k % 43) + 1 * p.val = 128 * k + p.val; rw [hm]; omega
  | ⟨3, _⟩ => show 0 + 1 * q.val = q.val; omega

/-- The summand of the whole product, at any number. -/
def term (p : Fin 256) (q : Fin 2048) (n : ℕ) : EReal :=
  if h : n < 5504 then x (ix2 p (⟨n, h⟩ : Fin 5504)) * (W : FVec Ideal S4x2x5504x2048 .f32) (ix4 (0 : Fin 4) (0 : Fin 2) (⟨n, h⟩ : Fin 5504) q) else 0

theorem part_apply (k : ℕ) (hk : k < 43) (p : Fin 256) (q : Fin 2048) :
    (part x W k : FVec Ideal S256x2048 .f32) (ix2 p q) = ∑ n ∈ Finset.range 128, term x W p q (128 * k + n) := by
  unfold part
  rw [Dots.product_apply dot_S256x128_S128x2048_S256x2048_1_0_0_1_n_n rfl, Finset.sum_range]
  refine Finset.sum_congr rfl fun n _ => ?_
  have hn := n.isLt
  have hm : k % 43 = k := Nat.mod_eq_of_lt hk
  rw [rblk_apply W k hk, term, dif_pos (by omega)]
  refine congrArg (fun a : EReal => a * _) (congrArg x (funext fun a => Fin.ext ?_))
  match a with
  | ⟨0, _⟩ => show 0 + 1 * p.val = p.val; omega
  | ⟨1, _⟩ => show 128 * (k % 43) + 1 * n.val = 128 * k + n.val; rw [hm]; omega

theorem acc_apply (p : Fin 256) (q : Fin 2048) : ∀ k, k < 43 →
    (acc x W k : FVec Ideal S256x2048 .f32) (ix2 p q) = ∑ n ∈ Finset.range (128 * (k + 1)), term x W p q n
  | 0, _ => by
    show (part x W 0 : FVec Ideal S256x2048 .f32) (ix2 p q) = _
    rw [part_apply x W 0 (by decide)]
    refine Finset.sum_congr rfl fun n _ => congrArg _ (by omega)
  | k + 1, hk => by
    show (acc x W k : FVec Ideal S256x2048 .f32) (ix2 p q) + (part x W (k + 1) : FVec Ideal S256x2048 .f32) (ix2 p q) = _
    rw [acc_apply p q k (by omega), part_apply x W (k + 1) hk, show 128 * (k + 1 + 1) = 128 * (k + 1) + 128 from rfl, Finset.sum_range_add]

/-- The first point's product, block by block, -/
theorem blocks_apply (p : Fin 256) (q : Fin 2048) :
    (acc x W 42 : FVec Ideal S256x2048 .f32) (ix2 p q)
      = ∑ k : Fin 5504, x (ix2 p k) * (W : FVec Ideal S4x2x5504x2048 .f32) (ix4 (0 : Fin 4) (0 : Fin 2) k q) := by
  rw [acc_apply x W p q 42 (by decide), show 128 * (42 + 1) = 5504 from rfl, Finset.sum_range]
  exact Finset.sum_congr rfl fun k _ => dif_pos k.isLt

/-- and the later points', whole. -/
theorem full_apply (p : Fin 256) (q : Fin 2048) :
    (full x (wbw W) : FVec Ideal S256x2048 .f32) (ix2 p q)
      = ∑ k : Fin 5504, x (ix2 p k) * (W : FVec Ideal S4x2x5504x2048 .f32) (ix4 (0 : Fin 4) (0 : Fin 2) k q) := by
  unfold full
  rw [Dots.product_apply dot_S256x5504_S5504x2048_S256x2048_1_0_0_1_n_n rfl]
  refine Finset.sum_congr rfl fun k _ => congrArg (fun a : EReal => x (ix2 p k) * a) ?_
  have hk := k.isLt
  show (rblk W (k.val / 128) : FVec Ideal S128x2048 .bf16) _ = _
  refine Eq.trans (congrArg _ ?_) ((rblk_apply W (k.val / 128) (by omega) (⟨k.val % 128, Nat.mod_lt _ (by decide)⟩ : Fin 128) q).trans ?_)
  · funext a
    match a with
    | ⟨0, _⟩ => rfl
    | ⟨1, _⟩ => rfl
  · refine congrArg _ (congrArg (fun n : Fin 5504 => ix4 (0 : Fin 4) (0 : Fin 2) n q) (Fin.ext ?_))
    show 128 * (k.val / 128) + k.val % 128 = k.val; omega
end

/-! ## The output blocks -/

section
variable (y x : FVec Ideal S256x2048 .f32) (gt sh sc : FVec Ideal S1x1x1x2048 .f32) (g : FVec Ideal S1x2048 .f32)

/-- The block before the norm. -/
def before : FVec Ideal S256x2048 .f32 :=
  addf x (mulf (broadcastTo S256x2048 (mulf (broadcast S1x2048 (Scalar.ofBits (F := Ideal) .f32 0x3F000000#32))
    (shapeCast S1x2048 gt shapeCasts_S1x1x1x2048_S1x2048)) broadcasts_S1x2048_S256x2048) y)

theorem before_apply (p : Fin 256) (q : Fin 2048) :
    before y x gt (ix2 p q) = x (ix2 p q) + half * gt (ix4 (0 : Fin 1) (0 : Fin 1) (0 : Fin 1) q) * y (ix2 p q) := by
  pointwise [before]

/-- The norm of a block. -/
def after (b : FVec Ideal S256x2048 .f32) : FVec Ideal S256x2048 .f32 :=
  mulf (mulf b (broadcastTo S256x2048 (rsqrt (addf (divf (shapeCast S256x1 (multiReduction .add [1] S256 (mulf b b) 0x00000000#32
      reduces_S256x2048_S256 (.inl rfl) rfl) shapeCasts_S256_S256x1) (broadcast S256x1 (Scalar.ofBits (F := Ideal) .f32 0x45000000#32)))
      (broadcast S256x1 (Scalar.ofBits (F := Ideal) .f32 0x358637BD#32)))) broadcasts_S256x1_S256x2048))
    (broadcastTo S256x2048 g broadcasts_S1x2048_S256x2048)

theorem after_apply (b : FVec Ideal S256x2048 .f32) (p : Fin 256) (q : Fin 2048) :
    after g b (ix2 p q) = normed (fun k => b (ix2 p k)) (g (ix2 (0 : Fin 1) q)) q := by
  pointwise [after]
  rfl

theorem sumv_eq : sumv (F := Ideal) y x gt = before y x gt := by
  unfold sumv sum1
  rw [shapeCast_shapeCast]
  rfl

/-- The norm scaled and shifted. -/
def moved (b : FVec Ideal S256x2048 .f32) : FVec Ideal S256x2048 .f32 :=
  addf (mulf b (broadcastTo S256x2048 (addf (broadcast S1x2048 (Scalar.ofBits (F := Ideal) .f32 0x3F800000#32))
      (shapeCast S1x2048 sc shapeCasts_S1x1x1x2048_S1x2048)) broadcasts_S1x2048_S256x2048))
    (broadcastTo S256x2048 (shapeCast S1x2048 sh shapeCasts_S1x1x1x2048_S1x2048) broadcasts_S1x2048_S256x2048)

theorem moved_apply (b : FVec Ideal S256x2048 .f32) (p : Fin 256) (q : Fin 2048) :
    moved sh sc b (ix2 p q) = b (ix2 p q) * (one + sc (ix4 (0 : Fin 1) (0 : Fin 1) (0 : Fin 1) q)) + sh (ix4 (0 : Fin 1) (0 : Fin 1) (0 : Fin 1) q) := by
  pointwise [moved]

theorem modv_eq : modv (F := Ideal) y x gt g sh sc = moved sh sc (after g (before y x gt)) := by
  unfold modv
  rw [sumv_eq]
  unfold mod1
  rw [shapeCast_self]
  rfl
end

/-! ## The array -/

section
variable (m : (ℓ : Loc nD τ sig) → Buf (Elt Ideal) ℓ)

theorem idx_facts : ∀ t : Fin cfg0.N, win0_0.index t (0 : Fin 2) = min t.val 31 ∧ win0_0.index t (1 : Fin 2) = 0
    ∧ win0_1.index t (0 : Fin 2) = t.val - 1 ∧ win0_1.index t (1 : Fin 2) = 0
    ∧ win0_3.index t (0 : Fin 2) = 0 ∧ win0_3.index t (1 : Fin 2) = 0
    ∧ win0_6.index t (0 : Fin 2) = t.val - 1 ∧ win0_6.index t (1 : Fin 2) = 0
    ∧ win0_7.index t (0 : Fin 2) = t.val - 1 ∧ win0_7.index t (1 : Fin 2) = 0 :=
  (by decide +kernel : ∀ t : Fin grid0.N, _)
theorem row_facts : ∀ t : Fin cfg0.N, (win0_2.index t (0 : Fin 4) = (t.val - 1) / 8 ∧ win0_2.index t (1 : Fin 4) = 2 ∧ win0_2.index t (2 : Fin 4) = 0 ∧ win0_2.index t (3 : Fin 4) = 0)
    ∧ (win0_4.index t (0 : Fin 4) = (t.val - 1) / 8 ∧ win0_4.index t (1 : Fin 4) = 3 ∧ win0_4.index t (2 : Fin 4) = 0 ∧ win0_4.index t (3 : Fin 4) = 0)
    ∧ win0_5.index t (0 : Fin 4) = (t.val - 1) / 8 ∧ win0_5.index t (1 : Fin 4) = 4 ∧ win0_5.index t (2 : Fin 4) = 0 ∧ win0_5.index t (3 : Fin 4) = 0 :=
  (by decide +kernel : ∀ t : Fin grid0.N, _)

/-- The modulation and the scale as the region finds them. -/
theorem V_mods (c : Dev nD) : V m c main_v0
    = (shapeCast S4x9x1x2048 (m ((c : Thread nD τ).loc main_arg3) : FVec Ideal S4x18432 .f32) shapeCasts_S4x18432_S4x9x1x2048 : FVec Ideal S4x9x1x2048 .f32) := by
  simp only [V, hostOps0, List.flatten_cons, List.flatten_nil, List.append_nil, List.cons_append, List.nil_append, StableHlo.after_cons, StableHlo.after_nil]
  rfl
theorem V_scale (c : Dev nD) : V m c main_v1
    = (shapeCast S1x2048 (m ((c : Thread nD τ).loc main_arg4) : FVec Ideal S2048 .f32) shapeCasts_S2048_S1x2048 : FVec Ideal S1x2048 .f32) := by
  simp only [V, hostOps0, List.flatten_cons, List.flatten_nil, List.append_nil, List.cons_append, List.nil_append, StableHlo.after_cons, StableHlo.after_nil]
  rfl

theorem act_apply (c : Dev nD) (t : Fin cfg0.N) (p : Fin 256) (k : Fin 5504) (r : Fin 8192) (hr : r.val = 256 * min t.val 31 + p.val) :
    (iblk m c 0 t : Vec Ideal S256x5504 .bf16) (ix2 p k) = m ((c : Thread nD τ).loc main_arg0) (ix2 r k) := by
  obtain ⟨e0, e1, -⟩ := idx_facts t
  show V m c main_arg0 (((cfg0.win 0).blk t).view.emb (ix2 p k)) = _
  rw [V_main_arg0]
  refine congrArg _ (funext fun a => Fin.ext ?_)
  match a with
  | ⟨0, _⟩ => show win0_0.index t (0 : Fin 2) * 256 + 1 * p.val = r.val; rw [e0, hr]; omega
  | ⟨1, _⟩ => show win0_0.index t (1 : Fin 2) * 5504 + 1 * k.val = k.val; rw [e1]; omega

theorem x_apply (c : Dev nD) (t : Fin cfg0.N) (p : Fin 256) (q : Fin 2048) (r : Fin 8192) (hr : r.val = 256 * (t.val - 1) + p.val) :
    (iblk m c 1 t : Vec Ideal S256x2048 .f32) (ix2 p q) = m ((c : Thread nD τ).loc main_arg2) (ix2 r q) := by
  obtain ⟨-, -, e0, e1, -⟩ := idx_facts t
  show V m c main_arg2 (((cfg0.win 1).blk t).view.emb (ix2 p q)) = _
  rw [V_main_arg2]
  refine congrArg _ (funext fun a => Fin.ext ?_)
  match a with
  | ⟨0, _⟩ => show win0_1.index t (0 : Fin 2) * 256 + 1 * p.val = r.val; rw [e0, hr]; omega
  | ⟨1, _⟩ => show win0_1.index t (1 : Fin 2) * 2048 + 1 * q.val = q.val; rw [e1]; omega

theorem gate_apply (c : Dev nD) (t : Fin cfg0.N) (q : Fin 2048) (b : Fin 4) (hb : b.val = (t.val - 1) / 8) (s : Fin 18432) (hs : s.val = 4096 + q.val) :
    (iblk m c 2 t : Vec Ideal S1x1x1x2048 .f32) (ix4 (0 : Fin 1) (0 : Fin 1) (0 : Fin 1) q) = m ((c : Thread nD τ).loc main_arg3) (ix2 b s) := by
  obtain ⟨⟨e0, e1, e2, e3⟩, -⟩ := row_facts t
  have hq := q.isLt
  show V m c main_v0 (((cfg0.win 2).blk t).view.emb (ix4 (0 : Fin 1) (0 : Fin 1) (0 : Fin 1) q)) = _
  rw [V_mods]
  have e : ((cfg0.win 2).blk t).view.emb (ix4 (0 : Fin 1) (0 : Fin 1) (0 : Fin 1) q) = (ix4 b (2 : Fin 9) (0 : Fin 1) q : S4x9x1x2048.Idx) := by
    refine funext fun a => Fin.ext ?_
    match a with
    | ⟨0, _⟩ => show win0_2.index t (0 : Fin 4) * 1 + 1 * 0 = b.val; rw [e0, hb]; omega
    | ⟨1, _⟩ => show win0_2.index t (1 : Fin 4) * 1 + 1 * 0 = 2; rw [e1]
    | ⟨2, _⟩ => show win0_2.index t (2 : Fin 4) * 1 + 1 * 0 = 0; rw [e2]
    | ⟨3, _⟩ => show win0_2.index t (3 : Fin 4) * 2048 + 1 * q.val = q.val; rw [e3]; omega
  rw [e]
  refine shapeCast_apply _ _ _ (ix2 b s) ?_
  rw [Shape.rowMajor_val_two, Shape.rowMajor_val_four]
  show b.val * 18432 + s.val = ((b.val * 9 + 2) * 1 + 0) * 2048 + q.val
  omega

theorem shift_apply (c : Dev nD) (t : Fin cfg0.N) (q : Fin 2048) (b : Fin 4) (hb : b.val = (t.val - 1) / 8) (s : Fin 18432) (hs : s.val = 6144 + q.val) :
    (iblk m c 4 t : Vec Ideal S1x1x1x2048 .f32) (ix4 (0 : Fin 1) (0 : Fin 1) (0 : Fin 1) q) = m ((c : Thread nD τ).loc main_arg3) (ix2 b s) := by
  obtain ⟨-, ⟨e0, e1, e2, e3⟩, -⟩ := row_facts t
  have hq := q.isLt
  show V m c main_v0 (((cfg0.win 4).blk t).view.emb (ix4 (0 : Fin 1) (0 : Fin 1) (0 : Fin 1) q)) = _
  rw [V_mods]
  have e : ((cfg0.win 4).blk t).view.emb (ix4 (0 : Fin 1) (0 : Fin 1) (0 : Fin 1) q) = (ix4 b (3 : Fin 9) (0 : Fin 1) q : S4x9x1x2048.Idx) := by
    refine funext fun a => Fin.ext ?_
    match a with
    | ⟨0, _⟩ => show win0_4.index t (0 : Fin 4) * 1 + 1 * 0 = b.val; rw [e0, hb]; omega
    | ⟨1, _⟩ => show win0_4.index t (1 : Fin 4) * 1 + 1 * 0 = 3; rw [e1]
    | ⟨2, _⟩ => show win0_4.index t (2 : Fin 4) * 1 + 1 * 0 = 0; rw [e2]
    | ⟨3, _⟩ => show win0_4.index t (3 : Fin 4) * 2048 + 1 * q.val = q.val; rw [e3]; omega
  rw [e]
  refine shapeCast_apply _ _ _ (ix2 b s) ?_
  rw [Shape.rowMajor_val_two, Shape.rowMajor_val_four]
  show b.val * 18432 + s.val = ((b.val * 9 + 3) * 1 + 0) * 2048 + q.val
  omega

theorem factor_apply (c : Dev nD) (t : Fin cfg0.N) (q : Fin 2048) (b : Fin 4) (hb : b.val = (t.val - 1) / 8) (s : Fin 18432) (hs : s.val = 8192 + q.val) :
    (iblk m c 5 t : Vec Ideal S1x1x1x2048 .f32) (ix4 (0 : Fin 1) (0 : Fin 1) (0 : Fin 1) q) = m ((c : Thread nD τ).loc main_arg3) (ix2 b s) := by
  obtain ⟨-, -, e0, e1, e2, e3⟩ := row_facts t
  have hq := q.isLt
  show V m c main_v0 (((cfg0.win 5).blk t).view.emb (ix4 (0 : Fin 1) (0 : Fin 1) (0 : Fin 1) q)) = _
  rw [V_mods]
  have e : ((cfg0.win 5).blk t).view.emb (ix4 (0 : Fin 1) (0 : Fin 1) (0 : Fin 1) q) = (ix4 b (4 : Fin 9) (0 : Fin 1) q : S4x9x1x2048.Idx) := by
    refine funext fun a => Fin.ext ?_
    match a with
    | ⟨0, _⟩ => show win0_5.index t (0 : Fin 4) * 1 + 1 * 0 = b.val; rw [e0, hb]; omega
    | ⟨1, _⟩ => show win0_5.index t (1 : Fin 4) * 1 + 1 * 0 = 4; rw [e1]
    | ⟨2, _⟩ => show win0_5.index t (2 : Fin 4) * 1 + 1 * 0 = 0; rw [e2]
    | ⟨3, _⟩ => show win0_5.index t (3 : Fin 4) * 2048 + 1 * q.val = q.val; rw [e3]; omega
  rw [e]
  refine shapeCast_apply _ _ _ (ix2 b s) ?_
  rw [Shape.rowMajor_val_two, Shape.rowMajor_val_four]
  show b.val * 18432 + s.val = ((b.val * 9 + 4) * 1 + 0) * 2048 + q.val
  omega

theorem scale_apply (c : Dev nD) (t : Fin cfg0.N) (q : Fin 2048) :
    (iblk m c 3 t : Vec Ideal S1x2048 .f32) (ix2 (0 : Fin 1) q) = m ((c : Thread nD τ).loc main_arg4) (ix1 q) := by
  obtain ⟨-, -, -, -, e0, e1, -⟩ := idx_facts t
  show V m c main_v1 (((cfg0.win 3).blk t).view.emb (ix2 (0 : Fin 1) q)) = _
  rw [V_scale]
  have e : ((cfg0.win 3).blk t).view.emb (ix2 (0 : Fin 1) q) = (ix2 (0 : Fin 1) q : S1x2048.Idx) := by
    refine funext fun a => Fin.ext ?_
    match a with
    | ⟨0, _⟩ => show win0_3.index t (0 : Fin 2) * 1 + 1 * 0 = 0; rw [e0]
    | ⟨1, _⟩ => show win0_3.index t (1 : Fin 2) * 2048 + 1 * q.val = q.val; rw [e1]; omega
  rw [e]
  refine shapeCast_apply _ _ _ (ix1 q) ?_
  rw [Shape.rowMajor_val_one, Shape.rowMajor_val_two]
  show q.val = 0 * 2048 + q.val
  omega

/-- A point's product: the rows of its block times the columns. -/
theorem prod_apply (c : Dev nD) (n : ℕ) (hn : n < 32) (p : Fin 256) (q : Fin 2048) (r : Fin 8192) (hr : r.val = 256 * n + p.val)
    (act : FVec Ideal S8192x5504 .bf16) (ha : m ((c : Thread nD τ).loc main_arg0) = act)
    (w : FVec Ideal S4x2x5504x2048 .f32) (he : m ((c : Thread nD τ).loc main_arg1) = w) :
    DownModRun.prod m c n (ix2 p q) = ∑ k : Fin 5504, act (ix2 r k) * w (ix4 (0 : Fin 4) (0 : Fin 2) k q) := by
  subst ha he
  have hw : Wt m c = m ((c : Thread nD τ).loc main_arg1) := V_main_arg1 m c
  have hv : (pt n).val = n := Nat.mod_eq_of_lt (by omega)
  have hx : ∀ k : Fin 5504, (iblk m c 0 (pt n) : Vec Ideal S256x5504 .bf16) (ix2 p k) = m ((c : Thread nD τ).loc main_arg0) (ix2 r k) :=
    fun k => act_apply m c (pt n) p k r (by rw [hv, hr]; omega)
  unfold DownModRun.prod
  rw [hw]
  by_cases h : n = 0
  · rw [if_pos h, blocks_apply]
    exact Finset.sum_congr rfl fun k _ => congrArg (fun a : EReal => a * _) (hx k)
  · rw [if_neg h, full_apply]
    exact Finset.sum_congr rfl fun k _ => congrArg (fun a : EReal => a * _) (hx k)

/-- The results at the arguments. -/
abbrev out0 (c : Dev nD) : FVec Ideal S8192x2048 .f32 :=
  result0 (m ((c : Thread nD τ).loc main_arg0)) (m ((c : Thread nD τ).loc main_arg1)) (m ((c : Thread nD τ).loc main_arg2)) (m ((c : Thread nD τ).loc main_arg3))
abbrev out1 (c : Dev nD) : FVec Ideal S8192x2048 .bf16 :=
  result1 (m ((c : Thread nD τ).loc main_arg0)) (m ((c : Thread nD τ).loc main_arg1)) (m ((c : Thread nD τ).loc main_arg2)) (m ((c : Thread nD τ).loc main_arg3)) (m ((c : Thread nD τ).loc main_arg4))

theorem sum_apply (c : Dev nD) (t : Fin cfg0.N) (h : t.val ≠ 0) (p : Fin 256) (k : Fin 2048) (r : Fin 8192) (hr : r.val = 256 * (t.val - 1) + p.val) :
    before (DownModRun.prod m c (t.val - 1)) (iblk m c 1 t) (iblk m c 2 t) (ix2 p k) = resid (m ((c : Thread nD τ).loc main_arg0)) (m ((c : Thread nD τ).loc main_arg1)) (m ((c : Thread nD τ).loc main_arg2)) (m ((c : Thread nD τ).loc main_arg3)) r k := by
  have ht := bound t
  have hp := p.isLt
  have hk := k.isLt
  rw [before_apply, x_apply m c t p k r hr, prod_apply m c (t.val - 1) (by omega) p k r hr _ rfl _ rfl,
    gate_apply m c t k (⟨r.val / 2048, by omega⟩ : Fin 4) (by show r.val / 2048 = _; omega) (⟨4096 + k.val, by omega⟩ : Fin 18432) rfl]
  rfl

theorem sumAt_apply (c : Dev nD) (t : Fin cfg0.N) (h : t.val ≠ 0) (p : Fin 256) (q : Fin 2048) (r : Fin 8192) (hr : r.val = 256 * (t.val - 1) + p.val) :
    sumAt m c t (ix2 p q) = out0 m c (ix2 r q) := by
  unfold sumAt
  rw [sumv_eq]
  exact sum_apply m c t h p q r hr

theorem modAt_apply (c : Dev nD) (t : Fin cfg0.N) (h : t.val ≠ 0) (p : Fin 256) (q : Fin 2048) (r : Fin 8192) (hr : r.val = 256 * (t.val - 1) + p.val) :
    modAt m c t (ix2 p q) = out1 m c (ix2 r q) := by
  have ht := bound t
  have hp := p.isLt
  have hq := q.isLt
  unfold modAt
  rw [modv_eq]
  refine (moved_apply _ _ _ p q).trans ?_
  rw [after_apply, scale_apply,
    factor_apply m c t q (⟨r.val / 2048, by omega⟩ : Fin 4) (by show r.val / 2048 = _; omega) (⟨8192 + q.val, by omega⟩ : Fin 18432) rfl,
    shift_apply m c t q (⟨r.val / 2048, by omega⟩ : Fin 4) (by show r.val / 2048 = _; omega) (⟨6144 + q.val, by omega⟩ : Fin 18432) rfl,
    show (fun k => before (DownModRun.prod m c (t.val - 1)) (iblk m c 1 t) (iblk m c 2 t) (ix2 p k)) = resid (m ((c : Thread nD τ).loc main_arg0)) (m ((c : Thread nD τ).loc main_arg1)) (m ((c : Thread nD τ).loc main_arg2)) (m ((c : Thread nD τ).loc main_arg3)) r from
      funext fun k => sum_apply m c t h p k r hr]
  rfl

/-- Each flushed block is its block of the result. -/
theorem flushed_eq6 (c : Dev nD) (t : Fin cfg0.N) (hf : (cfg0.win 6).flush t = true) :
    (dats m 0 c).flushed 6 t = ((cfg0.win 6).blk t).view.read (Elt Ideal) (out0 m c) := by
  have h : t.val ≠ 0 := by
    intro h
    have e := flush_at6 t
    rw [show (win0 6).flush t = true from hf, h] at e
    exact absurd e (by decide)
  have ht := bound t
  obtain ⟨-, -, -, -, -, -, i0, i1, -⟩ := idx_facts t
  show (cfg0.win 6).cut (grid0.coords t) ((dats m 0 c).after 6 t) = _
  rw [after_6]
  funext j
  have l0 : (j 0).val < 256 := (j 0).isLt
  have l1 : (j 1).val < 2048 := (j 1).isLt
  have ej : (cfg0.win 6).xinj (grid0.coords t) j = (ix2 (⟨(j 0).val, l0⟩ : Fin 256) (⟨(j 1).val, l1⟩ : Fin 2048) : S256x2048.Idx) :=
    funext fun a => Fin.ext (by match a with | ⟨0, _⟩ => rfl | ⟨1, _⟩ => rfl)
  have ei : ((cfg0.win 6).blk t).view.emb j
      = (ix2 (⟨256 * (t.val - 1) + (j 0).val, by omega⟩ : Fin 8192) (⟨(j 1).val, l1⟩ : Fin 2048) : S8192x2048.Idx) := by
    refine funext fun a => Fin.ext ?_
    match a with
    | ⟨0, _⟩ => show win0_6.index t (0 : Fin 2) * 256 + 1 * (j 0).val = 256 * (t.val - 1) + (j 0).val; rw [i0]; omega
    | ⟨1, _⟩ => show win0_6.index t (1 : Fin 2) * 2048 + 1 * (j 1).val = (j 1).val; rw [i1]; omega
  show sumAt m c t ((cfg0.win 6).xinj (grid0.coords t) j) = out0 m c (((cfg0.win 6).blk t).view.emb j)
  rw [ej, ei]
  exact sumAt_apply m c t h _ _ _ rfl

/-- The flushed blocks fill the array. -/
theorem cover6 (i : S8192x2048.Idx) : ∃ t : Fin cfg0.N, (cfg0.win 6).flush t = true ∧ i ∈ ((cfg0.win 6).blk t).view.set := by
  have hi0 : (i 0).val < 8192 := (i 0).isLt
  have hi1 : (i 1).val < 2048 := (i 1).isLt
  have ht : (i 0).val / 256 + 1 < cfg0.N := by rw [show cfg0.N = 33 from N_0]; omega
  generalize hT : (⟨_, ht⟩ : Fin cfg0.N) = t
  have hv : t.val = (i 0).val / 256 + 1 := by rw [← hT]
  refine ⟨t, (flush_at6 t).trans (by rw [hv]; rfl), ?_⟩
  obtain ⟨-, -, -, -, -, -, i0, i1, -⟩ := idx_facts t
  rw [View.set_slice_whole, Rect.mem_set_unit]
  intro a
  match a with
  | ⟨0, _⟩ =>
    show win0_6.index t (0 : Fin 2) * 256 ≤ (i 0).val ∧ (i 0).val < win0_6.index t (0 : Fin 2) * 256 + 256
    rw [i0]; omega
  | ⟨1, _⟩ =>
    show win0_6.index t (1 : Fin 2) * 2048 ≤ (i 1).val ∧ (i 1).val < win0_6.index t (1 : Fin 2) * 2048 + 2048
    rw [i1]; omega

/-- The array after the run. -/
theorem final6 (c : Dev nD) : (dats m 0 c).arrAt 6 cfg0.N = out0 m c :=
  (dats m 0 c).arrAt_eq_of_cover 6 (out0 m c) (fun t ht => flushed_eq6 m c t ht) cover6

/-- Each flushed block is its block of the result. -/
theorem flushed_eq7 (c : Dev nD) (t : Fin cfg0.N) (hf : (cfg0.win 7).flush t = true) :
    (dats m 0 c).flushed 7 t = ((cfg0.win 7).blk t).view.read (Elt Ideal) (out1 m c) := by
  have h : t.val ≠ 0 := by
    intro h
    have e := flush_at7 t
    rw [show (win0 7).flush t = true from hf, h] at e
    exact absurd e (by decide)
  have ht := bound t
  obtain ⟨-, -, -, -, -, -, -, -, i0, i1⟩ := idx_facts t
  show (cfg0.win 7).cut (grid0.coords t) ((dats m 0 c).after 7 t) = _
  rw [after_7]
  funext j
  have l0 : (j 0).val < 256 := (j 0).isLt
  have l1 : (j 1).val < 2048 := (j 1).isLt
  have ej : (cfg0.win 7).xinj (grid0.coords t) j = (ix2 (⟨(j 0).val, l0⟩ : Fin 256) (⟨(j 1).val, l1⟩ : Fin 2048) : S256x2048.Idx) :=
    funext fun a => Fin.ext (by match a with | ⟨0, _⟩ => rfl | ⟨1, _⟩ => rfl)
  have ei : ((cfg0.win 7).blk t).view.emb j
      = (ix2 (⟨256 * (t.val - 1) + (j 0).val, by omega⟩ : Fin 8192) (⟨(j 1).val, l1⟩ : Fin 2048) : S8192x2048.Idx) := by
    refine funext fun a => Fin.ext ?_
    match a with
    | ⟨0, _⟩ => show win0_7.index t (0 : Fin 2) * 256 + 1 * (j 0).val = 256 * (t.val - 1) + (j 0).val; rw [i0]; omega
    | ⟨1, _⟩ => show win0_7.index t (1 : Fin 2) * 2048 + 1 * (j 1).val = (j 1).val; rw [i1]; omega
  show modAt m c t ((cfg0.win 7).xinj (grid0.coords t) j) = out1 m c (((cfg0.win 7).blk t).view.emb j)
  rw [ej, ei]
  exact modAt_apply m c t h _ _ _ rfl

/-- The flushed blocks fill the array. -/
theorem cover7 (i : S8192x2048.Idx) : ∃ t : Fin cfg0.N, (cfg0.win 7).flush t = true ∧ i ∈ ((cfg0.win 7).blk t).view.set := by
  have hi0 : (i 0).val < 8192 := (i 0).isLt
  have hi1 : (i 1).val < 2048 := (i 1).isLt
  have ht : (i 0).val / 256 + 1 < cfg0.N := by rw [show cfg0.N = 33 from N_0]; omega
  generalize hT : (⟨_, ht⟩ : Fin cfg0.N) = t
  have hv : t.val = (i 0).val / 256 + 1 := by rw [← hT]
  refine ⟨t, (flush_at7 t).trans (by rw [hv]; rfl), ?_⟩
  obtain ⟨-, -, -, -, -, -, -, -, i0, i1⟩ := idx_facts t
  rw [View.set_slice_whole, Rect.mem_set_unit]
  intro a
  match a with
  | ⟨0, _⟩ =>
    show win0_7.index t (0 : Fin 2) * 256 ≤ (i 0).val ∧ (i 0).val < win0_7.index t (0 : Fin 2) * 256 + 256
    rw [i0]; omega
  | ⟨1, _⟩ =>
    show win0_7.index t (1 : Fin 2) * 2048 ≤ (i 1).val ∧ (i 1).val < win0_7.index t (1 : Fin 2) * 2048 + 2048
    rw [i1]; omega

/-- The array after the run. -/
theorem final7 (c : Dev nD) : (dats m 0 c).arrAt 7 cfg0.N = out1 m c :=
  (dats m 0 c).arrAt_eq_of_cover 7 (out1 m c) (fun t ht => flushed_eq7 m c t ht) cover7

end

/-! ## The reference -/

section
open Cert.DownModRefIdeal.Read

theorem ref_resid (x0 : FVec Ideal S8192x5504 .bf16) (x1 : FVec Ideal S4x2x5504x2048 .f32) (x2 : FVec Ideal S8192x2048 .f32)
    (x3 : FVec Ideal S4x18432 .f32) (r : Fin 8192) (q : Fin 2048) (i : Cert.DownModRefIdeal.S4x2048x2048.Idx)
    (h0 : (i 0).val = r.val / 2048) (h1 : (i 1).val = r.val % 2048) (h2 : (i 2).val = q.val) :
    val_main_v20 (F := Ideal) x0 x1 x2 x3 i = resid x0 x1 x2 x3 r q := by
  have hr := r.isLt
  have hq := q.isLt
  rw [val_main_v20_apply, val_main_v2_apply, val_main_v19_apply, val_main_v18_apply, val_main_v14_apply, val_main_v13_apply, val_main_cst_apply,
    val_main_v6_apply, val_main_v3_apply, val_main_v17_apply]
  refine congrArg₂ (fun a b : EReal => a + b) (congrArg x2 (funext fun a => Fin.ext ?_))
    (congrArg₂ (fun a b : EReal => a * b) (congrArg (fun a : EReal => half * a) (congrArg x3 (funext fun a => Fin.ext ?_)))
      (Finset.sum_congr rfl fun k _ => ?_))
  · match a with
    | ⟨0, _⟩ => show (((i 0).val * 2048 + (i 1).val) * 2048 + (i 2).val) / 2048 = r.val; omega
    | ⟨1, _⟩ => show (((i 0).val * 2048 + (i 1).val) * 2048 + (i 2).val) % 2048 = q.val; omega
  · match a with
    | ⟨0, _⟩ => exact h0
    | ⟨1, _⟩ => show 4096 + (i 2).val = 4096 + q.val; omega
  · have hk := k.isLt
    rw [val_main_v1_apply, val_main_v0_apply, val_main_v16_apply, val_main_v15_apply]
    refine congrArg₂ (fun a b : EReal => a * b) (congrArg x0 (funext fun a => Fin.ext ?_)) (congrArg x1 (funext fun a => Fin.ext ?_))
    · match a with
      | ⟨0, _⟩ => show (((i 0).val * 2048 + (i 1).val) * 5504 + k.val) / 5504 = r.val; omega
      | ⟨1, _⟩ => show (((i 0).val * 2048 + (i 1).val) * 5504 + k.val) % 5504 = k.val; omega
    · match a with
      | ⟨0, _⟩ => rfl
      | ⟨1, _⟩ => rfl
      | ⟨2, _⟩ => show (k.val * 2048 + (i 2).val) / 2048 % 5504 = k.val; omega
      | ⟨3, _⟩ => show (k.val * 2048 + (i 2).val) % 2048 = q.val; omega

/-- The reference's results. -/
theorem ref_eq0 (x0 : FVec Ideal S8192x5504 .bf16) (x1 : FVec Ideal S4x2x5504x2048 .f32) (x2 : FVec Ideal S8192x2048 .f32)
    (x3 : FVec Ideal S4x18432 .f32) :
    val_main_v40 (F := Ideal) x0 x1 x2 x3 = result0 x0 x1 x2 x3 := by
  refine funext fun (y : S8192x2048.Idx) => ?_
  have h0 : (y 0).val < 8192 := (y 0).isLt
  have h1 : (y 1).val < 2048 := (y 1).isLt
  rw [val_main_v40_apply, ref_resid x0 x1 x2 x3 (y 0) (y 1) (idx_main_v40 y)
    (by show ((y 0).val * 2048 + (y 1).val) / 4194304 = (y 0).val / 2048; omega)
    (by show ((y 0).val * 2048 + (y 1).val) / 2048 % 2048 = (y 0).val % 2048; omega)
    (by show ((y 0).val * 2048 + (y 1).val) % 2048 = (y 1).val; omega)]
  rfl

theorem ref_eq1 (x0 : FVec Ideal S8192x5504 .bf16) (x1 : FVec Ideal S4x2x5504x2048 .f32) (x2 : FVec Ideal S8192x2048 .f32)
    (x3 : FVec Ideal S4x18432 .f32) (x4 : FVec Ideal S2048 .f32) :
    val_main_v42 (F := Ideal) x0 x1 x2 x3 x4 = result1 x0 x1 x2 x3 x4 := by
  refine funext fun (y : S8192x2048.Idx) => ?_
  have h0 : (y 0).val < 8192 := (y 0).isLt
  have h1 : (y 1).val < 2048 := (y 1).isLt
  rw [val_main_v42_apply, val_main_v41_apply, val_main_v39_apply, val_main_v38_apply, val_main_v7_apply, val_main_v37_apply, val_main_v36_apply, val_main_v35_apply,
    val_main_v34_apply, val_main_cst_3_apply, val_main_v8_apply, val_main_v33_apply, val_main_v30_apply, val_main_v29_apply, val_main_v28_apply, val_main_v27_apply, val_main_v25_apply,
    val_main_v26_apply, val_main_cst_2_apply, val_main_v24_apply, val_main_cst_1_apply, val_main_v23_apply, val_main_v22_apply,
    val_main_cst_0_apply, val_main_v32_apply, val_main_v31_apply]
  rw [ref_resid x0 x1 x2 x3 (y 0) (y 1) (idx_main_v41 y)
    (by show ((y 0).val * 2048 + (y 1).val) / 4194304 = (y 0).val / 2048; omega)
    (by show ((y 0).val * 2048 + (y 1).val) / 2048 % 2048 = (y 0).val % 2048; omega)
    (by show ((y 0).val * 2048 + (y 1).val) % 2048 = (y 1).val; omega)]
  have hs : ∀ k : Fin 2048, val_main_v21 (F := Ideal) x0 x1 x2 x3 (idx_main_v22 (idx_main_v23 (idx_main_v29 (idx_main_v41 y))) k)
      = resid x0 x1 x2 x3 (y 0) k * resid x0 x1 x2 x3 (y 0) k := fun k => by
    rw [val_main_v21_apply, ref_resid x0 x1 x2 x3 (y 0) k _
      (by show ((y 0).val * 2048 + (y 1).val) / 4194304 = (y 0).val / 2048; omega)
      (by show ((y 0).val * 2048 + (y 1).val) / 2048 % 2048 = (y 0).val % 2048; omega) rfl]
    rfl
  rw [Finset.sum_congr rfl fun k _ => hs k]
  have hz : (FloatOps.ofBits (F := Ideal) .f32 0x00000000#32 : EReal) = 0 := Ideal.ofBits_zero_f32
  rw [hz, zero_add]
  have hg : x4 (idx_main_v31 (idx_main_v32 (idx_main_v41 y))) = x4 (ix1 (y 1)) := congrArg x4 (funext fun a => Fin.ext (by
    match a with
    | ⟨0, _⟩ => show ((y 0).val * 2048 + (y 1).val) % 2048 = (y 1).val; omega))
  have ha : val_main_v3 (F := Ideal) x3 (idx_main_v8 (idx_main_v36 (idx_main_v41 y))) = x3 (ix2 (⟨(y 0).val / 2048, by have : (y 0).val < 8192 := (y 0).isLt; omega⟩ : Fin 4) (⟨8192 + (y 1).val, by have : (y 1).val < 2048 := (y 1).isLt; omega⟩ : Fin 18432)) := by
    rw [val_main_v3_apply]
    refine congrArg x3 (funext fun a => Fin.ext ?_)
    match a with
    | ⟨0, _⟩ => show ((y 0).val * 2048 + (y 1).val) / 4194304 = (y 0).val / 2048; omega
    | ⟨1, _⟩ => show 8192 + ((y 0).val * 2048 + (y 1).val) % 2048 = 8192 + (y 1).val; omega
  have hb : val_main_v3 (F := Ideal) x3 (idx_main_v7 (idx_main_v38 (idx_main_v41 y))) = x3 (ix2 (⟨(y 0).val / 2048, by have : (y 0).val < 8192 := (y 0).isLt; omega⟩ : Fin 4) (⟨6144 + (y 1).val, by have : (y 1).val < 2048 := (y 1).isLt; omega⟩ : Fin 18432)) := by
    rw [val_main_v3_apply]
    refine congrArg x3 (funext fun a => Fin.ext ?_)
    match a with
    | ⟨0, _⟩ => show ((y 0).val * 2048 + (y 1).val) / 4194304 = (y 0).val / 2048; omega
    | ⟨1, _⟩ => show 6144 + ((y 0).val * 2048 + (y 1).val) % 2048 = 6144 + (y 1).val; omega
  rw [hg, ha, hb]
  rfl
end

end Cert.DownModEqual

end
-- ==== Proof.DownNextBody.lean ====
/- The layer-ending down-projection call's first grid point: its program as a sequence of chunks, and what one chunk does. -/
module

public import proofs.«01_k».proof.Proof.Gen.DownNextIdeal.Frame
public import proofs.«01_k».proof.Proof.Gen.DownNextIdeal.Skeleton
public import Idealize.ShloMosaic.Lib.Claim
public import Idealize.ShloMosaic.Lib.Pipeline.Value

@[expose] public section

set_option maxRecDepth 16384

noncomputable section

namespace Cert.DownNextRun

open Cert.DownNextIdeal Cert.DownNextIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-- The weights in HBM, and the body's scratch: the rounded weights, the four staging slots, the two products. -/
abbrev wtM : Memref sig .tc .hbm S4x2x5504x2048 .f32 := Memref.whole main_arg1
abbrev wbM : Memref sig .tc .vmem S5504x2048 .bf16 := Memref.whole cc0_scratch0
abbrev stM : Memref sig .tc .vmem S4x128x2048 .f32 := Memref.whole cc0_scratch1
abbrev yM : Memref sig .tc .vmem S2x256x2048 .f32 := Memref.whole cc0_scratch3
theorem hwb : wbM.IsWhole := Memref.isWhole_whole _
theorem hst : stM.IsWhole := Memref.isWhole_whole _
theorem hy : yM.IsWhole := Memref.isWhole_whole _
theorem hwt : wtM.IsWhole := Memref.isWhole_whole _

theorem inbSlot (s : Fin 4) : ∀ a, (![s.val, 0, 0] : Fin 3 → ℕ) a + S1x128x2048.size a ≤ S4x128x2048.size a := by
  intro a; have := s.isLt
  match a with
  | ⟨0, _⟩ => show s.val + 1 ≤ 4; omega
  | ⟨1, _⟩ => show 0 + 128 ≤ 128; omega
  | ⟨2, _⟩ => show 0 + 2048 ≤ 2048; omega
theorem inbBlk (c : ℕ) : ∀ a, (![0, 1, 128 * (c % 43), 0] : Fin 4 → ℕ) a + S1x1x128x2048.size a ≤ S4x2x5504x2048.size a := by
  intro a; have := Nat.mod_lt c (show 43 > 0 by decide)
  match a with
  | ⟨0, _⟩ => show 0 + 1 ≤ 4; omega
  | ⟨1, _⟩ => show 1 + 1 ≤ 2; omega
  | ⟨2, _⟩ => show 128 * (c % 43) + 128 ≤ 5504; omega
  | ⟨3, _⟩ => show 0 + 2048 ≤ 2048; omega
theorem inbCell (s : Fin 4) : ∀ a, (![s.val] : Fin 1 → ℕ) a + S1.size a ≤ S4.size a := by
  intro a; have := s.isLt
  match a with
  | ⟨0, _⟩ => show s.val + 1 ≤ 4; omega
theorem inbRow (c : ℕ) : ∀ a, (![128 * (c % 43), 0] : Fin 2 → ℕ) a + S128x2048.size a ≤ S5504x2048.size a := by
  intro a; have := Nat.mod_lt c (show 43 > 0 by decide)
  match a with
  | ⟨0, _⟩ => show 128 * (c % 43) + 128 ≤ 5504; omega
  | ⟨1, _⟩ => show 0 + 2048 ≤ 2048; omega
theorem inbCol (c : ℕ) : ∀ a, (![0, 128 * (c % 43)] : Fin 2 → ℕ) a + S256x128.size a ≤ S256x5504.size a := by
  intro a; have := Nat.mod_lt c (show 43 > 0 by decide)
  match a with
  | ⟨0, _⟩ => show 0 + 256 ≤ 256; omega
  | ⟨1, _⟩ => show 128 * (c % 43) + 128 ≤ 5504; omega

abbrev rSlot (s : Fin 4) : Rect S4x128x2048 := Rect.unit (s := S4x128x2048) ![s.val, 0, 0] S1x128x2048.size (inbSlot s)
abbrev rBlk (c : ℕ) : Rect S4x2x5504x2048 := Rect.unit (s := S4x2x5504x2048) ![0, 1, 128 * (c % 43), 0] S1x1x128x2048.size (inbBlk c)
abbrev rRow (c : ℕ) : Rect S5504x2048 := Rect.unit (s := S5504x2048) ![128 * (c % 43), 0] S128x2048.size (inbRow c)
abbrev rCol (c : ℕ) : Rect S256x5504 := Rect.unit (s := S256x5504) ![0, 128 * (c % 43)] S256x128.size (inbCol c)
abbrev rY0 : Rect S2x256x2048 := Rect.unit (s := S2x256x2048) ![0, 0, 0] S1x256x2048.size inb_S2x256x2048_S1x256x2048_0_0_0
abbrev rY1 : Rect S2x256x2048 := Rect.unit (s := S2x256x2048) ![1, 0, 0] S1x256x2048.size inb_S2x256x2048_S1x256x2048_1_0_0

/-- Staging slot `s`, weight block `c` and the slot's transfer cell. -/
abbrev slotM (s : Fin 4) : Memref sig .tc .vmem S128x2048 .f32 :=
  (stM.slice (rSlot s) (fun _ => rfl)).squeeze S128x2048 squeezes_S1x128x2048_S128x2048
abbrev blkM (c : ℕ) : Memref sig .tc .hbm S128x2048 .f32 :=
  (wtM.slice (rBlk c) (fun _ => rfl)).squeeze S128x2048 squeezes_S1x1x128x2048_S128x2048
abbrev cell (s : Fin 4) : DmaSem sig :=
  ((cc0_scratch2.slice (Rect.unit (s := S4) ![s.val] S1.size (inbCell s)) : DmaSems sig S1).squeeze S_ squeezes_S1_S_).sem

theorem packedRow (c : ℕ) : (rRow c).PackedRows (EltTy.packing .bf16) := by
  have h : ∀ k : Fin 43, (Rect.unit (s := S5504x2048) ![128 * k.val, 0] S128x2048.size
      (by have := inbRow k.val; rwa [Nat.mod_eq_of_lt k.isLt] at this)).PackedRows (EltTy.packing .bf16) := by decide
  exact h ⟨c % 43, Nat.mod_lt _ (by decide)⟩

/-- The program's own steps: starting the transfer of block `c` into slot `s`. -/
def issue (s : Fin 4) (c : ℕ) : Prog (TpuEff nD τ sig (Elt F) Λ₀ .tc) PUnit :=
  Prog.lift (.enqueueDma (blkM c) (.here (slotM s)) (.dma (cell s)) ((View.wordExact_bits rfl).reshape _ _) ((View.wordExact_bits rfl).reshape _ _) ⟨Or.inl rfl, trivial⟩)

/-- Keeping block `c`, loaded as `v`, rounded. -/
def keep (c : ℕ) (v : Vec F S1x128x2048 .f32) : Prog (TpuEff nD τ sig (Elt F) Λ₀ .tc) PUnit := do
  let _w : Vec F S128x2048 .bf16 ← Prog.lift (.load wbM (rRow c).toLoadRect (View.loadsAt_vmem h_S128x2048))
  Prog.lift (.store wbM (rRow c) (k0_pay6 v) Finset.univ (View.stores_vmem h_S128x2048 (hwb.storeExact_slice rfl _ (packedRow c)) (fun _ => rfl)) (.inl rfl))

/-- Waiting for block `c` in slot `s`, and loading it. -/
def fetch (s : Fin 4) (c : ℕ) : Prog (TpuEff nD τ sig (Elt F) Λ₀ .tc) (Vec F S1x128x2048 .f32) := do
  Prog.lift (.waitDma2 (cell s) (blkM c) (slotM s) ((View.wordExact_bits rfl).reshape _ _) ((View.wordExact_bits rfl).reshape _ _))
  Prog.lift (.load stM (rSlot s).toLoadRect (View.loadsAt_vmem h_S1x128x2048))

/-- Adding block `c`'s product to the running product. -/
def add (arg1 : Memref sig .tc .vmem S256x5504 .bf16) (c : ℕ) (v : Vec F S1x128x2048 .f32) : Prog (TpuEff nD τ sig (Elt F) Λ₀ .tc) PUnit := do
  let a : Vec F S256x128 .bf16 ← Prog.lift (.load arg1 (rCol c).toLoadRect (View.loadsAt_vmem h_S256x128))
  let y : Vec F S1x256x2048 .f32 ← Prog.lift (.load yM rY0.toLoadRect (View.loadsAt_vmem h_S1x256x2048))
  let _z : Vec F S1x256x2048 .f32 ← Prog.lift (.load yM rY0.toLoadRect (View.loadsAt_vmem h_S1x256x2048))
  Prog.lift (.store yM rY0 (k0_pay7 v a y) Finset.univ (View.stores_vmem_bits_univ h_S1x256x2048 rfl) (.inl rfl))

/-- Starting the running product from block 0. -/
def start (arg1 : Memref sig .tc .vmem S256x5504 .bf16) (v : Vec F S1x128x2048 .f32) : Prog (TpuEff nD τ sig (Elt F) Λ₀ .tc) PUnit := do
  let a : Vec F S256x128 .bf16 ← Prog.lift (.load arg1 (rCol 0).toLoadRect (View.loadsAt_vmem h_S256x128))
  let _y : Vec F S1x256x2048 .f32 ← Prog.lift (.load yM rY0.toLoadRect (View.loadsAt_vmem h_S1x256x2048))
  Prog.lift (.store yM rY0 (k0_pay4 v a) Finset.univ (View.stores_vmem_bits_univ h_S1x256x2048 rfl) (.inl rfl))

def issues : Prog (TpuEff nD τ sig (Elt F) Λ₀ .tc) PUnit := do
  issue 0 0; issue 1 1; issue 2 2; issue 3 3
def chunk0 (arg1 : Memref sig .tc .vmem S256x5504 .bf16) : Prog (TpuEff nD τ sig (Elt F) Λ₀ .tc) PUnit := do
  let v ← fetch 0 0
  keep 0 v
  issue 0 4
  start arg1 v
def chunk (arg1 : Memref sig .tc .vmem S256x5504 .bf16) (s : Fin 4) (c : ℕ) : Prog (TpuEff nD τ sig (Elt F) Λ₀ .tc) PUnit := do
  let v ← fetch s c
  keep c v
  issue s (c + 4)
  add arg1 c v
def last (arg1 : Memref sig .tc .vmem S256x5504 .bf16) (s : Fin 4) (c : ℕ) : Prog (TpuEff nD τ sig (Elt F) Λ₀ .tc) PUnit := do
  let v ← fetch s c
  keep c v
  add arg1 c v

/-- The first point: four transfers started, 39 chunks each of which starts the transfer four blocks on, four chunks more. -/
def most (arg1 : Memref sig .tc .vmem S256x5504 .bf16) : Prog (TpuEff nD τ sig (Elt F) Λ₀ .tc) PUnit := do
  issues
  chunk0 arg1
  chunk arg1 1 1
  chunk arg1 2 2
  chunk arg1 3 3
  chunk arg1 0 4
  chunk arg1 1 5
  chunk arg1 2 6
  chunk arg1 3 7
  chunk arg1 0 8
  chunk arg1 1 9
  chunk arg1 2 10
  chunk arg1 3 11
  chunk arg1 0 12
  chunk arg1 1 13
  chunk arg1 2 14
  chunk arg1 3 15
  chunk arg1 0 16
  chunk arg1 1 17
  chunk arg1 2 18
  chunk arg1 3 19
  chunk arg1 0 20
  chunk arg1 1 21
  chunk arg1 2 22
  chunk arg1 3 23
  chunk arg1 0 24
  chunk arg1 1 25
  chunk arg1 2 26
  chunk arg1 3 27
  chunk arg1 0 28
  chunk arg1 1 29
  chunk arg1 2 30
  chunk arg1 3 31
  chunk arg1 0 32
  chunk arg1 1 33
  chunk arg1 2 34
  chunk arg1 3 35
  chunk arg1 0 36
  chunk arg1 1 37
  chunk arg1 2 38
  pure ⟨⟩
def rest (arg1 : Memref sig .tc .vmem S256x5504 .bf16) : Prog (TpuEff nD τ sig (Elt F) Λ₀ .tc) PUnit := do
  last arg1 3 39
  last arg1 0 40
  last arg1 1 41
  last arg1 2 42
def product (arg1 : Memref sig .tc .vmem S256x5504 .bf16) : Prog (TpuEff nD τ sig (Elt F) Λ₀ .tc) PUnit := do
  most arg1
  rest arg1

theorem inbY (b : Fin 2) : ∀ a, (![b.val, 0, 0] : Fin 3 → ℕ) a + S1x256x2048.size a ≤ S2x256x2048.size a := by
  intro a; have := b.isLt
  match a with
  | ⟨0, _⟩ => show b.val + 1 ≤ 2; omega
  | ⟨1, _⟩ => show 0 + 256 ≤ 256; omega
  | ⟨2, _⟩ => show 0 + 2048 ≤ 2048; omega
abbrev rY (b : Fin 2) : Rect S2x256x2048 := Rect.unit (s := S2x256x2048) ![b.val, 0, 0] S1x256x2048.size (inbY b)

/-- The sum, and its modulated norm rounded. -/
def sum1 (y : Vec F S1x256x2048 .f32) (x : Vec F S256x2048 .f32) (gt : Vec F S1x1x1x2048 .f32) : FVec F S256x2048 .f32 :=
  addf x (mulf (broadcastTo S256x2048 (mulf (broadcast S1x2048 (Scalar.ofBits .f32 0x3F000000#32))
    (shapeCast S1x2048 gt shapeCasts_S1x1x1x2048_S1x2048)) broadcasts_S1x2048_S256x2048) (shapeCast S256x2048 y shapeCasts_S1x256x2048_S256x2048))
def mod1 (b : FVec F S256x2048 .f32) (g : Vec F S1x2048 .f32) (sh sc : Vec F S1x1x1x2048 .f32) : FVec F S256x2048 .bf16 :=
  truncf .bf16 (addf (mulf (mulf (mulf b (broadcastTo S256x2048 (rsqrt (addf (divf (shapeCast S256x1 (multiReduction .add [1] S256 (mulf b b) 0x00000000#32
      reduces_S256x2048_S256 (.inl rfl) rfl) shapeCasts_S256_S256x1) (broadcast S256x1 (Scalar.ofBits .f32 0x45000000#32)))
      (broadcast S256x1 (Scalar.ofBits .f32 0x358637BD#32)))) broadcasts_S256x1_S256x2048))
    (broadcastTo S256x2048 (shapeCast S1x2048 g shapeCasts_S1x2048_S1x2048) broadcasts_S1x2048_S256x2048))
    (broadcastTo S256x2048 (addf (broadcast S1x2048 (Scalar.ofBits .f32 0x3F800000#32)) (shapeCast S1x2048 sc shapeCasts_S1x1x1x2048_S1x2048)) broadcasts_S1x2048_S256x2048))
    (broadcastTo S256x2048 (shapeCast S1x2048 sh shapeCasts_S1x1x1x2048_S1x2048) broadcasts_S1x2048_S256x2048)) bitsLt_bf16_f32

/-- Writing the two output blocks from product `b`. -/
def emit (arg3 : Memref sig .tc .vmem S256x2048 .f32) (arg4 : Memref sig .tc .vmem S1x1x1x2048 .f32)
    (arg5 : Memref sig .tc .vmem S1x2048 .f32) (arg6 arg7 : Memref sig .tc .vmem S1x1x1x2048 .f32)
    (arg8 : Memref sig .tc .vmem S256x2048 .f32) (arg9 : Memref sig .tc .vmem S256x2048 .bf16) (harg9 : arg9.IsWhole) (b : Fin 2) : Prog (TpuEff nD τ sig (Elt F) Λ₀ .tc) PUnit := do
  let y : Vec F S1x256x2048 .f32 ← Prog.lift (.load yM (rY b).toLoadRect (View.loadsAt_vmem h_S1x256x2048))
  let x : Vec F S256x2048 .f32 ← Prog.lift (.load arg3 (Rect.unit (s := S256x2048) ![0, 0] S256x2048.size inb_S256x2048_S256x2048_0_0).toLoadRect (View.loadsAt_vmem h_S256x2048))
  let gt : Vec F S1x1x1x2048 .f32 ← Prog.lift (.load arg4 (Rect.unit (s := S1x1x1x2048) ![0, 0, 0, 0] S1x1x1x2048.size inb_S1x1x1x2048_S1x1x1x2048_0_0_0_0).toLoadRect (View.loadsAt_vmem h_S1x1x1x2048))
  let _o : Vec F S256x2048 .f32 ← Prog.lift (.load arg8 (Rect.unit (s := S256x2048) ![0, 0] S256x2048.size inb_S256x2048_S256x2048_0_0).toLoadRect (View.loadsAt_vmem h_S256x2048))
  Prog.lift (.store arg8 (Rect.unit (s := S256x2048) ![0, 0] S256x2048.size inb_S256x2048_S256x2048_0_0) (sum1 y x gt) Finset.univ (View.stores_vmem_bits_univ h_S256x2048 rfl) (.inl rfl))
  let g : Vec F S1x2048 .f32 ← Prog.lift (.load arg5 (Rect.unit (s := S1x2048) ![0, 0] S1x2048.size inb_S1x2048_S1x2048_0_0).toLoadRect (View.loadsAt_vmem h_S1x2048))
  let sh : Vec F S1x1x1x2048 .f32 ← Prog.lift (.load arg6 (Rect.unit (s := S1x1x1x2048) ![0, 0, 0, 0] S1x1x1x2048.size inb_S1x1x1x2048_S1x1x1x2048_0_0_0_0).toLoadRect (View.loadsAt_vmem h_S1x1x1x2048))
  let sc : Vec F S1x1x1x2048 .f32 ← Prog.lift (.load arg7 (Rect.unit (s := S1x1x1x2048) ![0, 0, 0, 0] S1x1x1x2048.size inb_S1x1x1x2048_S1x1x1x2048_0_0_0_0).toLoadRect (View.loadsAt_vmem h_S1x1x1x2048))
  let _p : Vec F S256x2048 .bf16 ← Prog.lift (.load arg9 (Rect.unit (s := S256x2048) ![0, 0] S256x2048.size inb_S256x2048_S256x2048_0_0).toLoadRect (View.loadsAt_vmem h_S256x2048))
  Prog.lift (.store arg9 (Rect.unit (s := S256x2048) ![0, 0] S256x2048.size inb_S256x2048_S256x2048_0_0) (mod1 (sum1 y x gt) g sh sc) Finset.univ (View.stores_vmem h_S256x2048 (harg9.storeExact_slice rfl _ packedbf16_S256x2048_S256x2048_0_0) (fun _ => rfl)) (.inl rfl))

/-- A block's product with the whole of the weights. -/
def pay (a : Vec F S256x5504 .bf16) (w : Vec F S5504x2048 .bf16) : FVec F S1x256x2048 .f32 :=
  shapeCast S1x256x2048 (matmul dot_S256x5504_S5504x2048_S256x2048_1_0_0_1_n_n none a w (constant S256x2048 .f32 0x00000000#32)) shapeCasts_S256x2048_S1x256x2048

/-- Computing product `b` from the rounded weights. -/
def compute (arg1 : Memref sig .tc .vmem S256x5504 .bf16) (b : Fin 2) : Prog (TpuEff nD τ sig (Elt F) Λ₀ .tc) PUnit := do
  let a : Vec F S256x5504 .bf16 ← Prog.lift (.load arg1 (Rect.unit (s := S256x5504) ![0, 0] S256x5504.size inb_S256x5504_S256x5504_0_0).toLoadRect (View.loadsAt_vmem h_S256x5504))
  let w : Vec F S5504x2048 .bf16 ← Prog.lift (.load wbM (Rect.unit (s := S5504x2048) ![0, 0] S5504x2048.size inb_S5504x2048_S5504x2048_0_0).toLoadRect (View.loadsAt_vmem h_S5504x2048))
  let _y : Vec F S1x256x2048 .f32 ← Prog.lift (.load yM (rY b).toLoadRect (View.loadsAt_vmem h_S1x256x2048))
  Prog.lift (.store yM (rY b) (pay a w) Finset.univ (View.stores_vmem_bits_univ h_S1x256x2048 rfl) (.inl rfl))

/-- The body's first test. -/
abbrev atZero (i : grid0.Coords) : Prop :=
  (Scalar.cmpi .ne (Scalar.extui (Scalar.cmpi .eq (BitVec.ofNat 32 (i 0).val) 0#32)) 0#32) = 1#1

section
variable (i : grid0.Coords) (arg1 : Memref sig .tc .vmem S256x5504 .bf16) (harg1 : arg1.IsWhole)
  (arg3 : Memref sig .tc .vmem S256x2048 .f32) (harg3 : arg3.IsWhole) (arg4 : Memref sig .tc .vmem S1x1x1x2048 .f32) (harg4 : arg4.IsWhole)
  (arg5 : Memref sig .tc .vmem S1x2048 .f32) (harg5 : arg5.IsWhole) (arg6 : Memref sig .tc .vmem S1x1x1x2048 .f32) (harg6 : arg6.IsWhole)
  (arg7 : Memref sig .tc .vmem S1x1x1x2048 .f32) (harg7 : arg7.IsWhole) (arg8 : Memref sig .tc .vmem S256x2048 .f32) (harg8 : arg8.IsWhole)
  (arg9 : Memref sig .tc .vmem S256x2048 .bf16) (harg9 : arg9.IsWhole)

theorem part1_eq : k0_part1 (F := F) i arg1 harg1 wtM hwt arg3 harg3 arg4 harg4 arg5 harg5 arg6 harg6 arg7 harg7 arg8 harg8 arg9 harg9 wbM hwb stM hst cc0_scratch2 yM hy = issues := rfl
theorem part2_eq : k0_part2 (F := F) i arg1 harg1 wtM hwt arg3 harg3 arg4 harg4 arg5 harg5 arg6 harg6 arg7 harg7 arg8 harg8 arg9 harg9 wbM hwb stM hst cc0_scratch2 yM hy = chunk0 arg1 := rfl
theorem part3_eq : k0_part3 (F := F) i arg1 harg1 wtM hwt arg3 harg3 arg4 harg4 arg5 harg5 arg6 harg6 arg7 harg7 arg8 harg8 arg9 harg9 wbM hwb stM hst cc0_scratch2 yM hy = chunk arg1 1 1 := rfl
theorem part4_eq : k0_part4 (F := F) i arg1 harg1 wtM hwt arg3 harg3 arg4 harg4 arg5 harg5 arg6 harg6 arg7 harg7 arg8 harg8 arg9 harg9 wbM hwb stM hst cc0_scratch2 yM hy = chunk arg1 2 2 := rfl
theorem part5_eq : k0_part5 (F := F) i arg1 harg1 wtM hwt arg3 harg3 arg4 harg4 arg5 harg5 arg6 harg6 arg7 harg7 arg8 harg8 arg9 harg9 wbM hwb stM hst cc0_scratch2 yM hy = chunk arg1 3 3 := rfl
theorem part6_eq : k0_part6 (F := F) i arg1 harg1 wtM hwt arg3 harg3 arg4 harg4 arg5 harg5 arg6 harg6 arg7 harg7 arg8 harg8 arg9 harg9 wbM hwb stM hst cc0_scratch2 yM hy = chunk arg1 0 4 := rfl
theorem part7_eq : k0_part7 (F := F) i arg1 harg1 wtM hwt arg3 harg3 arg4 harg4 arg5 harg5 arg6 harg6 arg7 harg7 arg8 harg8 arg9 harg9 wbM hwb stM hst cc0_scratch2 yM hy = chunk arg1 1 5 := rfl
theorem part8_eq : k0_part8 (F := F) i arg1 harg1 wtM hwt arg3 harg3 arg4 harg4 arg5 harg5 arg6 harg6 arg7 harg7 arg8 harg8 arg9 harg9 wbM hwb stM hst cc0_scratch2 yM hy = chunk arg1 2 6 := rfl
theorem part9_eq : k0_part9 (F := F) i arg1 harg1 wtM hwt arg3 harg3 arg4 harg4 arg5 harg5 arg6 harg6 arg7 harg7 arg8 harg8 arg9 harg9 wbM hwb stM hst cc0_scratch2 yM hy = chunk arg1 3 7 := rfl
theorem part10_eq : k0_part10 (F := F) i arg1 harg1 wtM hwt arg3 harg3 arg4 harg4 arg5 harg5 arg6 harg6 arg7 harg7 arg8 harg8 arg9 harg9 wbM hwb stM hst cc0_scratch2 yM hy = chunk arg1 0 8 := rfl
theorem part11_eq : k0_part11 (F := F) i arg1 harg1 wtM hwt arg3 harg3 arg4 harg4 arg5 harg5 arg6 harg6 arg7 harg7 arg8 harg8 arg9 harg9 wbM hwb stM hst cc0_scratch2 yM hy = chunk arg1 1 9 := rfl
theorem part12_eq : k0_part12 (F := F) i arg1 harg1 wtM hwt arg3 harg3 arg4 harg4 arg5 harg5 arg6 harg6 arg7 harg7 arg8 harg8 arg9 harg9 wbM hwb stM hst cc0_scratch2 yM hy = chunk arg1 2 10 := rfl
theorem part13_eq : k0_part13 (F := F) i arg1 harg1 wtM hwt arg3 harg3 arg4 harg4 arg5 harg5 arg6 harg6 arg7 harg7 arg8 harg8 arg9 harg9 wbM hwb stM hst cc0_scratch2 yM hy = chunk arg1 3 11 := rfl
theorem part14_eq : k0_part14 (F := F) i arg1 harg1 wtM hwt arg3 harg3 arg4 harg4 arg5 harg5 arg6 harg6 arg7 harg7 arg8 harg8 arg9 harg9 wbM hwb stM hst cc0_scratch2 yM hy = chunk arg1 0 12 := rfl
theorem part15_eq : k0_part15 (F := F) i arg1 harg1 wtM hwt arg3 harg3 arg4 harg4 arg5 harg5 arg6 harg6 arg7 harg7 arg8 harg8 arg9 harg9 wbM hwb stM hst cc0_scratch2 yM hy = chunk arg1 1 13 := rfl
theorem part16_eq : k0_part16 (F := F) i arg1 harg1 wtM hwt arg3 harg3 arg4 harg4 arg5 harg5 arg6 harg6 arg7 harg7 arg8 harg8 arg9 harg9 wbM hwb stM hst cc0_scratch2 yM hy = chunk arg1 2 14 := rfl
theorem part17_eq : k0_part17 (F := F) i arg1 harg1 wtM hwt arg3 harg3 arg4 harg4 arg5 harg5 arg6 harg6 arg7 harg7 arg8 harg8 arg9 harg9 wbM hwb stM hst cc0_scratch2 yM hy = chunk arg1 3 15 := rfl
theorem part18_eq : k0_part18 (F := F) i arg1 harg1 wtM hwt arg3 harg3 arg4 harg4 arg5 harg5 arg6 harg6 arg7 harg7 arg8 harg8 arg9 harg9 wbM hwb stM hst cc0_scratch2 yM hy = chunk arg1 0 16 := rfl
theorem part19_eq : k0_part19 (F := F) i arg1 harg1 wtM hwt arg3 harg3 arg4 harg4 arg5 harg5 arg6 harg6 arg7 harg7 arg8 harg8 arg9 harg9 wbM hwb stM hst cc0_scratch2 yM hy = chunk arg1 1 17 := rfl
theorem part20_eq : k0_part20 (F := F) i arg1 harg1 wtM hwt arg3 harg3 arg4 harg4 arg5 harg5 arg6 harg6 arg7 harg7 arg8 harg8 arg9 harg9 wbM hwb stM hst cc0_scratch2 yM hy = chunk arg1 2 18 := rfl
theorem part21_eq : k0_part21 (F := F) i arg1 harg1 wtM hwt arg3 harg3 arg4 harg4 arg5 harg5 arg6 harg6 arg7 harg7 arg8 harg8 arg9 harg9 wbM hwb stM hst cc0_scratch2 yM hy = chunk arg1 3 19 := rfl
theorem part22_eq : k0_part22 (F := F) i arg1 harg1 wtM hwt arg3 harg3 arg4 harg4 arg5 harg5 arg6 harg6 arg7 harg7 arg8 harg8 arg9 harg9 wbM hwb stM hst cc0_scratch2 yM hy = chunk arg1 0 20 := rfl
theorem part23_eq : k0_part23 (F := F) i arg1 harg1 wtM hwt arg3 harg3 arg4 harg4 arg5 harg5 arg6 harg6 arg7 harg7 arg8 harg8 arg9 harg9 wbM hwb stM hst cc0_scratch2 yM hy = chunk arg1 1 21 := rfl
theorem part24_eq : k0_part24 (F := F) i arg1 harg1 wtM hwt arg3 harg3 arg4 harg4 arg5 harg5 arg6 harg6 arg7 harg7 arg8 harg8 arg9 harg9 wbM hwb stM hst cc0_scratch2 yM hy = chunk arg1 2 22 := rfl
theorem part25_eq : k0_part25 (F := F) i arg1 harg1 wtM hwt arg3 harg3 arg4 harg4 arg5 harg5 arg6 harg6 arg7 harg7 arg8 harg8 arg9 harg9 wbM hwb stM hst cc0_scratch2 yM hy = chunk arg1 3 23 := rfl
theorem part26_eq : k0_part26 (F := F) i arg1 harg1 wtM hwt arg3 harg3 arg4 harg4 arg5 harg5 arg6 harg6 arg7 harg7 arg8 harg8 arg9 harg9 wbM hwb stM hst cc0_scratch2 yM hy = chunk arg1 0 24 := rfl
theorem part27_eq : k0_part27 (F := F) i arg1 harg1 wtM hwt arg3 harg3 arg4 harg4 arg5 harg5 arg6 harg6 arg7 harg7 arg8 harg8 arg9 harg9 wbM hwb stM hst cc0_scratch2 yM hy = chunk arg1 1 25 := rfl
theorem part28_eq : k0_part28 (F := F) i arg1 harg1 wtM hwt arg3 harg3 arg4 harg4 arg5 harg5 arg6 harg6 arg7 harg7 arg8 harg8 arg9 harg9 wbM hwb stM hst cc0_scratch2 yM hy = chunk arg1 2 26 := rfl
theorem part29_eq : k0_part29 (F := F) i arg1 harg1 wtM hwt arg3 harg3 arg4 harg4 arg5 harg5 arg6 harg6 arg7 harg7 arg8 harg8 arg9 harg9 wbM hwb stM hst cc0_scratch2 yM hy = chunk arg1 3 27 := rfl
theorem part30_eq : k0_part30 (F := F) i arg1 harg1 wtM hwt arg3 harg3 arg4 harg4 arg5 harg5 arg6 harg6 arg7 harg7 arg8 harg8 arg9 harg9 wbM hwb stM hst cc0_scratch2 yM hy = chunk arg1 0 28 := rfl
theorem part31_eq : k0_part31 (F := F) i arg1 harg1 wtM hwt arg3 harg3 arg4 harg4 arg5 harg5 arg6 harg6 arg7 harg7 arg8 harg8 arg9 harg9 wbM hwb stM hst cc0_scratch2 yM hy = chunk arg1 1 29 := rfl
theorem part32_eq : k0_part32 (F := F) i arg1 harg1 wtM hwt arg3 harg3 arg4 harg4 arg5 harg5 arg6 harg6 arg7 harg7 arg8 harg8 arg9 harg9 wbM hwb stM hst cc0_scratch2 yM hy = chunk arg1 2 30 := rfl
theorem part33_eq : k0_part33 (F := F) i arg1 harg1 wtM hwt arg3 harg3 arg4 harg4 arg5 harg5 arg6 harg6 arg7 harg7 arg8 harg8 arg9 harg9 wbM hwb stM hst cc0_scratch2 yM hy = chunk arg1 3 31 := rfl
theorem part34_eq : k0_part34 (F := F) i arg1 harg1 wtM hwt arg3 harg3 arg4 harg4 arg5 harg5 arg6 harg6 arg7 harg7 arg8 harg8 arg9 harg9 wbM hwb stM hst cc0_scratch2 yM hy = chunk arg1 0 32 := rfl
theorem part35_eq : k0_part35 (F := F) i arg1 harg1 wtM hwt arg3 harg3 arg4 harg4 arg5 harg5 arg6 harg6 arg7 harg7 arg8 harg8 arg9 harg9 wbM hwb stM hst cc0_scratch2 yM hy = chunk arg1 1 33 := rfl
theorem part36_eq : k0_part36 (F := F) i arg1 harg1 wtM hwt arg3 harg3 arg4 harg4 arg5 harg5 arg6 harg6 arg7 harg7 arg8 harg8 arg9 harg9 wbM hwb stM hst cc0_scratch2 yM hy = chunk arg1 2 34 := rfl
theorem part37_eq : k0_part37 (F := F) i arg1 harg1 wtM hwt arg3 harg3 arg4 harg4 arg5 harg5 arg6 harg6 arg7 harg7 arg8 harg8 arg9 harg9 wbM hwb stM hst cc0_scratch2 yM hy = chunk arg1 3 35 := rfl
theorem part38_eq : k0_part38 (F := F) i arg1 harg1 wtM hwt arg3 harg3 arg4 harg4 arg5 harg5 arg6 harg6 arg7 harg7 arg8 harg8 arg9 harg9 wbM hwb stM hst cc0_scratch2 yM hy = chunk arg1 0 36 := rfl
theorem part39_eq : k0_part39 (F := F) i arg1 harg1 wtM hwt arg3 harg3 arg4 harg4 arg5 harg5 arg6 harg6 arg7 harg7 arg8 harg8 arg9 harg9 wbM hwb stM hst cc0_scratch2 yM hy = chunk arg1 1 37 := rfl
theorem part40_eq : k0_part40 (F := F) i arg1 harg1 wtM hwt arg3 harg3 arg4 harg4 arg5 harg5 arg6 harg6 arg7 harg7 arg8 harg8 arg9 harg9 wbM hwb stM hst cc0_scratch2 yM hy = chunk arg1 2 38 := rfl

/-- The first point's program. -/
theorem body_first (h1 : atZero i) (h2 : ¬k0_cond2 i = 1#1) (h3 : ¬k0_cond3 i = 1#1) (h4 : ¬k0_cond4 i = 1#1) :
    cc0_mm_resid (F := F) i arg1 harg1 wtM hwt arg3 harg3 arg4 harg4 arg5 harg5 arg6 harg6 arg7 harg7 arg8 harg8 arg9 harg9 wbM hwb stM hst cc0_scratch2 yM hy = product arg1 := by
  unfold cc0_mm_resid k0_part47 k0_part43
  dsimp only
  simp only [dif_pos h1, dif_neg h2, dif_neg h3, dif_neg h4, part1_eq, part2_eq, part3_eq, part4_eq, part5_eq, part6_eq, part7_eq, part8_eq, part9_eq, part10_eq, part11_eq, part12_eq, part13_eq, part14_eq, part15_eq, part16_eq, part17_eq, part18_eq, part19_eq, part20_eq, part21_eq, part22_eq, part23_eq, part24_eq, part25_eq, part26_eq, part27_eq, part28_eq, part29_eq, part30_eq, part31_eq, part32_eq, part33_eq, part34_eq, part35_eq, part36_eq, part37_eq, part38_eq, part39_eq, part40_eq]
  simp only [product, most, bind_assoc, pure_bind]
  rfl

/-- An even point's program. -/
theorem body_even (h1 : ¬atZero i) (h2 : k0_cond2 i = 1#1) (h3 : ¬k0_cond3 i = 1#1) (h4 : ¬k0_cond4 i = 1#1) :
    cc0_mm_resid (F := F) i arg1 harg1 wtM hwt arg3 harg3 arg4 harg4 arg5 harg5 arg6 harg6 arg7 harg7 arg8 harg8 arg9 harg9 wbM hwb stM hst cc0_scratch2 yM hy = (do emit arg3 arg4 arg5 arg6 arg7 arg8 arg9 harg9 1; compute arg1 0) := by
  unfold cc0_mm_resid k0_part47
  dsimp only
  simp only [dif_neg h1, dif_pos h2, dif_neg h3, dif_neg h4]
  rfl

/-- An odd point's program. -/
theorem body_odd (h1 : ¬atZero i) (h2 : ¬k0_cond2 i = 1#1) (h3 : k0_cond3 i = 1#1) (h4 : ¬k0_cond4 i = 1#1) :
    cc0_mm_resid (F := F) i arg1 harg1 wtM hwt arg3 harg3 arg4 harg4 arg5 harg5 arg6 harg6 arg7 harg7 arg8 harg8 arg9 harg9 wbM hwb stM hst cc0_scratch2 yM hy = (do emit arg3 arg4 arg5 arg6 arg7 arg8 arg9 harg9 0; compute arg1 1) := by
  unfold cc0_mm_resid k0_part47
  dsimp only
  simp only [dif_neg h1, dif_neg h2, dif_pos h3, dif_neg h4]
  rfl

/-- The last point's program. -/
theorem body_last (h1 : ¬atZero i) (h2 : ¬k0_cond2 i = 1#1) (h3 : ¬k0_cond3 i = 1#1) (h4 : k0_cond4 i = 1#1) :
    cc0_mm_resid (F := F) i arg1 harg1 wtM hwt arg3 harg3 arg4 harg4 arg5 harg5 arg6 harg6 arg7 harg7 arg8 harg8 arg9 harg9 wbM hwb stM hst cc0_scratch2 yM hy = emit arg3 arg4 arg5 arg6 arg7 arg8 arg9 harg9 1 := by
  unfold cc0_mm_resid k0_part47
  dsimp only
  simp only [dif_neg h1, dif_neg h2, dif_neg h3, dif_pos h4]
  rfl
end

end Cert.DownNextRun

end
-- ==== Proof.DownNextChunk.lean ====
/- What one chunk of the layer-ending down-projection call's first point does. -/
module

public import proofs.«01_k».proof.Proof.DownNextBody
public import Idealize.ShloMosaic.Lib.Ring
public import Idealize.ShloMosaic.Lib.WritesUnit

@[expose] public section

set_option maxRecDepth 16384

noncomputable section

namespace Cert.DownNextRun

open Cert.DownNextIdeal Cert.DownNextIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (Pipeline.UD sig nD τ) ℕ

local notation "EC" => (countersEmb (U := Pipeline.UD sig nD τ) : UEmb Counters 𝕄)

abbrev T (c : Dev nD) : Thread nD τ := (c : Thread nD τ)

/-- Chunk `k`'s transfer into slot `s`, in flight from the weights `W` held at share `q`. -/
def Fly (c : Dev nD) (q : PosShare TreeShare) (W : Buf (Elt F) (wtM.view.loc (T c))) (s : Fin 4) (k : ℕ) : sProp 𝕄 :=
  iprop(∃ fd : Buf (Elt F) ((slotM s).view.loc (T c)),
    Transfers.Flight EC (T c) (.dma (cell s)) () (slotM s).view.dmaCredit
      iprop(((slotM s).view.loc (T c) ↦[(slotM s).view.set]{fullShare} (slotM s).view.write (Elt F) fd ((blkM k).view.read (Elt F) W) Finset.univ)
        ∗ ((blkM k).view.loc (T c) ↦[(blkM k).view.set]{q} W))
      ∗ (wtM.view.loc (T c) ↦[Finset.univ \ (blkM k).view.set]{q} W))

/-- Slot `s` with nothing in flight. -/
def Free (c : Dev nD) (q : PosShare TreeShare) (W : Buf (Elt F) (wtM.view.loc (T c))) (s : Fin 4) : sProp 𝕄 :=
  iprop((∃ fd : Buf (Elt F) ((slotM s).view.loc (T c)), (slotM s).view.loc (T c) ↦[(slotM s).view.set]{fullShare} fd)
    ∗ semVal (T c, SemLoc.dma (cell s)) 0 ∗ (wtM.view.loc (T c) ↦{q} W))

theorem credit_pos (s : Fin 4) : 0 < (slotM s).view.dmaCredit := (by decide : 0 < (slotM 0).view.dmaCredit)

set_option maxHeartbeats 1000000 in
theorem issue_wp (c : Dev nD) (q : PosShare TreeShare) (W : Buf (Elt F) (wtM.view.loc (T c))) (s : Fin 4) (k : ℕ) (K : PUnit → sProp 𝕄) :
    iprop(Free c q W s ∗ (Fly c q W s k -∗ K ⟨⟩))
      ⊢ wp frame (wpE (defs₀ (F := F)) Variants.none (T c) none) Set.univ (issue s k) K := by
  unfold Free issue
  iintro ⟨⟨⟨%fd, Hs⟩, Hv, Hw⟩, HK⟩
  ihave Hw' := (pointsTo_split_subset (Finset.subset_univ (blkM k).view.set)).1 $$ Hw
  icases Hw' with ⟨Hb, Hr⟩
  iapply (Transfers.wp_dmaLocal EC Variants.none (T c) none (src := blkM k) (dst := slotM s) () (slotM s).view.dmaCredit rfl (credit_pos s) subset_rfl) $$ [Hb Hs Hv]
  · isplitl [Hb]; · iexact Hb
    isplitl [Hs]; · iexact Hs
    iexact Hv
  iintro Hf
  sl_step
  iapply HK
  unfold Fly
  iexists fd
  isplitl [Hf]; · iexact Hf
  iexact Hr

/-- Block `k` of the weights, and it rounded. -/
def wblk {c : Dev nD} (W : Buf (Elt F) (wtM.view.loc (T c))) (k : ℕ) : FVec F S128x2048 .f32 := (blkM k).view.read (Elt F) W
def rblk {c : Dev nD} (W : Buf (Elt F) (wtM.view.loc (T c))) (k : ℕ) : FVec F S128x2048 .bf16 := truncf .bf16 (wblk W k) bitsLt_bf16_f32

/-- The rounded weights' first `k` blocks are in place. -/
def wbOK {c : Dev nD} (W : Buf (Elt F) (wtM.view.loc (T c))) (k : ℕ) (w : Vec F S5504x2048 .bf16) : Prop :=
  ∀ j, j < k → View.ld w (rRow j) = rblk W j

theorem set_slot (s : Fin 4) : stM.view.setOn (rSlot s).toLoadRect.set ⊆ (slotM s).view.set := by
  rw [show (slotM s).view.set = (stM.view.slice (rSlot s)).set from View.set_reshape _ _, View.set_slice]
  exact subset_rfl

theorem slot_read {c : Dev nD} (s : Fin 4) (f : Buf (Elt F) ((slotM s).view.loc (T c))) :
    shapeCast S128x2048 (stM.view.readAt (Elt F) (rSlot s).toLoadRect f) shapeCasts_S1x128x2048_S128x2048 = (slotM s).view.read (Elt F) f := rfl

theorem ld_row (w : Vec F S5504x2048 .bf16) (j : ℕ) (x : S128x2048.Idx) (y : S5504x2048.Idx)
    (h0 : (y 0).val = 128 * (j % 43) + (x 0).val) (h1 : (y 1).val = (x 1).val) : View.ld w (rRow j) x = w y := by
  rw [View.ld_unit]
  show w _ = w y
  congr 1
  funext a
  match a with
  | ⟨0, _⟩ => exact Fin.ext h0.symm
  | ⟨1, _⟩ => exact Fin.ext ((Nat.zero_add _).trans h1.symm)

/-- Storing block `k` keeps the earlier ones. -/
theorem wbOK_step {c : Dev nD} (W : Buf (Elt F) (wtM.view.loc (T c))) (k : ℕ) (hk : k < 43) (f : wbM.view.ty.Contents (Elt F))
    (h : wbOK W k (wbM.view.read (Elt F) f)) :
    wbOK W (k + 1) (wbM.view.read (Elt F) (wbM.view.writes (Elt F) f [⟨rRow k, rblk W k⟩])) := by
  intro j hj
  funext x
  have hj43 : j < 43 := by omega
  have hx := (x 0).isLt
  have hx' : (x 0).val < 128 := hx
  have hy : 128 * j + (x 0).val < 5504 := by omega
  have hjm : j % 43 = j := Nat.mod_eq_of_lt hj43
  have hkm : k % 43 = k := Nat.mod_eq_of_lt hk
  rw [ld_row _ j x (fun a => match a with | ⟨0, _⟩ => ⟨128 * j + (x 0).val, hy⟩ | ⟨1, _⟩ => x 1) (by rw [hjm]) rfl]
  by_cases e : j = k
  · subst e
    refine View.read_writes_cons_unit_of_mem (off' := ![128 * (j % 43), 0]) wbM.view f (inbRow j) (rblk W j) [] _ x rfl (fun a => ?_)
    match a with
    | ⟨0, _⟩ => show 128 * j + (x 0).val = 128 * (j % 43) + (x 0).val; rw [hjm]
    | ⟨1, _⟩ => exact (Nat.zero_add _).symm
  · have hjk : j < k := by omega
    rw [View.read_writes_cons_unit_of_not_mem (off' := ![128 * (k % 43), 0]) wbM.view f (inbRow k) (rblk W k) [] _ rfl 0
      (Or.inl (by show 128 * j + (x 0).val < 128 * (k % 43); rw [hkm]; omega))]
    rw [← h j hjk]
    exact (ld_row _ j x (fun a => match a with | ⟨0, _⟩ => ⟨128 * j + (x 0).val, hy⟩ | ⟨1, _⟩ => x 1) (by rw [hjm]) rfl).symm

/-- The rounded weights' scratch with its first `k` blocks in place. -/
def Wb (c : Dev nD) (W : Buf (Elt F) (wtM.view.loc (T c))) (k : ℕ) : sProp 𝕄 :=
  iprop(∃ f : Buf (Elt F) (wbM.view.loc (T c)), ⌜wbOK W k (wbM.view.read (Elt F) f)⌝ ∗ (wbM.view.loc (T c) ↦[wbM.view.set]{fullShare} f))

theorem pay6_of {c : Dev nD} (W : Buf (Elt F) (wtM.view.loc (T c))) (k : ℕ) (v : Vec F S1x128x2048 .f32)
    (hv : shapeCast S128x2048 v shapeCasts_S1x128x2048_S128x2048 = wblk W k) : k0_pay6 v = rblk W k := by
  unfold k0_pay6 k0_pay5 rblk
  dsimp only
  rw [hv]
  exact shapeCast_self _ _

set_option maxHeartbeats 1000000 in
theorem keep_wp (c : Dev nD) (W : Buf (Elt F) (wtM.view.loc (T c))) (k : ℕ) (hk : k < 43) (v : Vec F S1x128x2048 .f32)
    (hv : shapeCast S128x2048 v shapeCasts_S1x128x2048_S128x2048 = wblk W k) (K : PUnit → sProp 𝕄) :
    iprop(Wb c W k ∗ (Wb c W (k + 1) -∗ K ⟨⟩))
      ⊢ wp frame (wpE (defs₀ (F := F)) Variants.none (T c) none) Set.univ (keep k v) K := by
  unfold Wb keep
  iintro ⟨⟨%fb, %hb, HB⟩, HK⟩
  rw [pay6_of W k v hv]
  iapply (wp_load Variants.none (T c) none Set.univ (m := wbM) (r := (rRow k).toLoadRect) (S := wbM.view.set) (View.setOn_subset_set _ _)) $$ HB
  iintro HB
  iapply (wp_store Variants.none (T c) none Set.univ (m := wbM) (r := rRow k) (S := wbM.view.set) (Memref.setOn_access_subset _ _ _)) $$ HB
  iintro HB
  sl_step
  iapply HK
  iexists _
  isplitr; swap; · iexact HB
  ipureintro
  exact wbOK_step W k hk fb hb

set_option maxHeartbeats 1000000 in
theorem fetch_wp (c : Dev nD) (q : PosShare TreeShare) (W : Buf (Elt F) (wtM.view.loc (T c))) (s : Fin 4) (k : ℕ)
    (K : Vec F S1x128x2048 .f32 → sProp 𝕄) :
    iprop(Fly c q W s k ∗ (∃ O, owes (T c) 0 O)
        ∗ (∀ v, ⌜shapeCast S128x2048 v shapeCasts_S1x128x2048_S128x2048 = wblk W k⌝ -∗ Free c q W s -∗ (∃ O, owes (T c) 0 O) -∗ K v))
      ⊢ wp frame (wpE (defs₀ (F := F)) Variants.none (T c) none) Set.univ (fetch s k) K := by
  unfold Fly fetch
  iintro ⟨⟨%fd, Hf, Hr⟩, ⟨%O, HO⟩, HK⟩
  iapply (Transfers.wp_waitLocal EC Variants.none (T c) none (srcw := blkM k) (dstw := slotM s) () rfl) $$ [Hf HO]
  · isplitl [Hf]; · iexact Hf
    iexact HO
  iintro ⟨⟨Hs, Hb⟩, Hv, HO⟩
  ihave Hw := (pointsTo_split_subset (ℓ := wtM.view.loc (T c)) (q := q) (f := W) (Finset.subset_univ ((blkM k).view.set : Finset (Idx (wtM.view.loc (T c)))))).2 $$ [Hb Hr]
  · isplitl [Hb]; · iexact Hb
    iexact Hr
  iapply (wp_load Variants.none (T c) none Set.univ (m := stM) (r := (rSlot s).toLoadRect) (S := (slotM s).view.set) (set_slot s)) $$ Hs
  iintro Hs
  sl_step
  iapply HK $$ [] [Hs Hv Hw] [HO]
  · ipureintro
    exact (slot_read (c := c) s _).trans (View.read_write_univ _ _)
  · unfold Free
    isplitl [Hs]; · iexists _; iexact Hs
    isplitl [Hv]; · iexact Hv
    iexact Hw
  · iexists _; iexact HO

/-- Block `k`'s product, and the running product after block `k`. -/
def part {c : Dev nD} (x : Vec F S256x5504 .bf16) (W : Buf (Elt F) (wtM.view.loc (T c))) (k : ℕ) : FVec F S256x2048 .f32 :=
  matmul dot_S256x128_S128x2048_S256x2048_1_0_0_1_n_n none (View.ld x (rCol k)) (rblk W k) (constant S256x2048 .f32 0x00000000#32)
def acc {c : Dev nD} (x : Vec F S256x5504 .bf16) (W : Buf (Elt F) (wtM.view.loc (T c))) : ℕ → FVec F S256x2048 .f32
  | 0 => part x W 0
  | k + 1 => addf (acc x W k) (part x W (k + 1))

/-- The products' scratch, its first product `y`. -/
def Y (c : Dev nD) (b : Fin 2) (y : FVec F S256x2048 .f32) : sProp 𝕄 :=
  iprop(∃ f : Buf (Elt F) (yM.view.loc (T c)),
    ⌜View.ld (yM.view.read (Elt F) f) (rY b) = shapeCast S1x256x2048 y shapeCasts_S256x2048_S1x256x2048⌝ ∗ (yM.view.loc (T c) ↦[yM.view.set]{fullShare} f))
def Yany (c : Dev nD) : sProp 𝕄 := iprop(∃ f : Buf (Elt F) (yM.view.loc (T c)), (yM.view.loc (T c) ↦[yM.view.set]{fullShare} f))

theorem Y_any (c : Dev nD) (b : Fin 2) (y : FVec F S256x2048 .f32) : (Y c b y : sProp 𝕄) ⊢ Yany c := by
  unfold Y Yany
  iintro ⟨%f, -, H⟩
  iexists f; iexact H

/-- A store of a whole product is read back as stored. -/
theorem y_store (b : Fin 2) (f : yM.view.ty.Contents (Elt F)) (p : Vec F S1x256x2048 .f32) :
    View.ld (yM.view.read (Elt F) (yM.view.writes (Elt F) f [⟨rY b, p⟩])) (rY b) = p := by
  funext x
  exact View.read_writes_cons_emb yM.view f (rY b) p [] x

theorem pay4_eq {c : Dev nD} (x : Vec F S256x5504 .bf16) (W : Buf (Elt F) (wtM.view.loc (T c))) (v : Vec F S1x128x2048 .f32)
    (hv : shapeCast S128x2048 v shapeCasts_S1x128x2048_S128x2048 = wblk W 0) :
    k0_pay4 v (View.ld x (rCol 0)) = shapeCast S1x256x2048 (acc x W 0) shapeCasts_S256x2048_S1x256x2048 := by
  unfold k0_pay4 k0_pay2
  dsimp only
  rw [hv]
  rfl

theorem pay7_eq {c : Dev nD} (x : Vec F S256x5504 .bf16) (W : Buf (Elt F) (wtM.view.loc (T c))) (k : ℕ) (v : Vec F S1x128x2048 .f32)
    (hv : shapeCast S128x2048 v shapeCasts_S1x128x2048_S128x2048 = wblk W (k + 1)) :
    k0_pay7 v (View.ld x (rCol (k + 1))) (shapeCast S1x256x2048 (acc x W k) shapeCasts_S256x2048_S1x256x2048)
      = shapeCast S1x256x2048 (acc x W (k + 1)) shapeCasts_S256x2048_S1x256x2048 := by
  unfold k0_pay7 k0_pay5
  dsimp only
  rw [hv, shapeCast_shapeCast]
  rfl

set_option maxHeartbeats 1000000 in
theorem add_wp (c : Dev nD) (arg1 : Memref sig .tc .vmem S256x5504 .bf16) (harg1 : arg1.IsWhole) (x : Vec F S256x5504 .bf16)
    (W : Buf (Elt F) (wtM.view.loc (T c))) (k : ℕ) (v : Vec F S1x128x2048 .f32)
    (hv : shapeCast S128x2048 v shapeCasts_S1x128x2048_S128x2048 = wblk W (k + 1)) (K : PUnit → sProp 𝕄) :
    iprop(owns (T c) arg1 fullShare x ∗ Y c 0 (acc x W k) ∗ (owns (T c) arg1 fullShare x -∗ Y c 0 (acc x W (k + 1)) -∗ K ⟨⟩))
      ⊢ wp frame (wpE (defs₀ (F := F)) Variants.none (T c) none) Set.univ (add arg1 (k + 1) v) K := by
  unfold Y owns add
  iintro ⟨⟨%f0, %hf0, H0⟩, ⟨%fy, %hy, HY⟩, HK⟩
  iapply (wp_load Variants.none (T c) none Set.univ (m := arg1) (r := (rCol (k + 1)).toLoadRect) (S := arg1.view.set) (View.setOn_subset_set _ _)) $$ H0
  iintro H0
  iapply (wp_load Variants.none (T c) none Set.univ (m := yM) (r := rY0.toLoadRect) (S := yM.view.set) (View.setOn_subset_set _ _)) $$ HY
  iintro HY
  iapply (wp_load Variants.none (T c) none Set.univ (m := yM) (r := rY0.toLoadRect) (S := yM.view.set) (View.setOn_subset_set _ _)) $$ HY
  iintro HY
  rw [View.readAt_eq_ld, View.readAt_eq_ld, hf0, show View.ld (yM.view.read (Elt F) fy) rY0 = _ from hy, pay7_eq x W k v hv]
  iapply (wp_store Variants.none (T c) none Set.univ (m := yM) (r := rY0) (S := yM.view.set) (Memref.setOn_access_subset _ _ _)) $$ HY
  iintro HY
  sl_step
  iapply HK $$ [H0] [HY]
  · iexists _
    isplitr; swap; · iexact H0
    ipureintro; exact hf0
  · iexists _
    isplitr; swap; · iexact HY
    ipureintro
    exact y_store 0 fy _

set_option maxHeartbeats 1000000 in
theorem start_wp (c : Dev nD) (arg1 : Memref sig .tc .vmem S256x5504 .bf16) (harg1 : arg1.IsWhole) (x : Vec F S256x5504 .bf16)
    (W : Buf (Elt F) (wtM.view.loc (T c))) (v : Vec F S1x128x2048 .f32)
    (hv : shapeCast S128x2048 v shapeCasts_S1x128x2048_S128x2048 = wblk W 0) (K : PUnit → sProp 𝕄) :
    iprop(owns (T c) arg1 fullShare x ∗ Yany c ∗ (owns (T c) arg1 fullShare x -∗ Y c 0 (acc x W 0) -∗ K ⟨⟩))
      ⊢ wp frame (wpE (defs₀ (F := F)) Variants.none (T c) none) Set.univ (start arg1 v) K := by
  unfold Y Yany owns start
  iintro ⟨⟨%f0, %hf0, H0⟩, ⟨%fy, HY⟩, HK⟩
  iapply (wp_load Variants.none (T c) none Set.univ (m := arg1) (r := (rCol 0).toLoadRect) (S := arg1.view.set) (View.setOn_subset_set _ _)) $$ H0
  iintro H0
  iapply (wp_load Variants.none (T c) none Set.univ (m := yM) (r := rY0.toLoadRect) (S := yM.view.set) (View.setOn_subset_set _ _)) $$ HY
  iintro HY
  rw [View.readAt_eq_ld, View.readAt_eq_ld, hf0, pay4_eq x W v hv]
  iapply (wp_store Variants.none (T c) none Set.univ (m := yM) (r := rY0) (S := yM.view.set) (Memref.setOn_access_subset _ _ _)) $$ HY
  iintro HY
  sl_step
  iapply HK $$ [H0] [HY]
  · iexists _
    isplitr; swap; · iexact H0
    ipureintro; exact hf0
  · iexists _
    isplitr; swap; · iexact HY
    ipureintro
    exact y_store 0 fy _

end Cert.DownNextRun

end
-- ==== Proof.DownNextProduct.lean ====
/- What the layer-ending down-projection call's first point does: the weights rounded into their scratch, and the first product. -/
module

public import proofs.«01_k».proof.Proof.DownNextChunk

@[expose] public section

set_option maxRecDepth 16384

noncomputable section

namespace Cert.DownNextRun

open Cert.DownNextIdeal Cert.DownNextIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-- What the point holds beside the slots after block `k`. -/
def Core (c : Dev nD) (arg1 : Memref sig .tc .vmem S256x5504 .bf16) (x : Vec F S256x5504 .bf16) (W : Buf (Elt F) (wtM.view.loc (T c))) (k : ℕ) : sProp 𝕄 :=
  iprop(owns (T c) arg1 fullShare x ∗ Y c 0 (acc x W k) ∗ Wb c W (k + 1) ∗ (∃ O, owes (T c) 0 O))

theorem chunk0_wp (c : Dev nD) (q : PosShare TreeShare) (arg1 : Memref sig .tc .vmem S256x5504 .bf16) (harg1 : arg1.IsWhole) (x : Vec F S256x5504 .bf16)
    (W : Buf (Elt F) (wtM.view.loc (T c))) (K : PUnit → sProp 𝕄) :
    iprop((owns (T c) arg1 fullShare x ∗ Yany c ∗ Wb c W 0 ∗ (∃ O, owes (T c) 0 O)) ∗ Fly c q W 0 0
        ∗ (Core c arg1 x W 0 -∗ Fly c q W 0 4 -∗ K ⟨⟩))
      ⊢ wp frame (wpE (defs₀ (F := F)) Variants.none (T c) none) Set.univ (chunk0 arg1) K := by
  unfold chunk0 Core
  simp only [wp_bind]
  iintro ⟨⟨H1, HY, HB, HO⟩, HF, HK⟩
  iapply (fetch_wp c q W 0 0)
  isplitl [HF]; · iexact HF
  isplitl [HO]; · iexact HO
  iintro %v %hv HF HO
  iapply (keep_wp c W 0 (by decide) v hv)
  isplitl [HB]; · iexact HB
  iintro HB
  iapply (issue_wp c q W 0 4)
  isplitl [HF]; · iexact HF
  iintro HF
  iapply (start_wp c arg1 harg1 x W v hv)
  isplitl [H1]; · iexact H1
  isplitl [HY]; · iexact HY
  iintro H1 HY
  iapply HK $$ [H1 HY HB HO] HF
  isplitl [H1]; · iexact H1
  isplitl [HY]; · iexact HY
  isplitl [HB]; · iexact HB
  iexact HO

theorem chunk_wp (c : Dev nD) (q : PosShare TreeShare) (arg1 : Memref sig .tc .vmem S256x5504 .bf16) (harg1 : arg1.IsWhole) (x : Vec F S256x5504 .bf16)
    (W : Buf (Elt F) (wtM.view.loc (T c))) (s : Fin 4) (k : ℕ) (hk : k + 1 < 43) (K : PUnit → sProp 𝕄) :
    iprop(Core c arg1 x W k ∗ Fly c q W s (k + 1) ∗ (Core c arg1 x W (k + 1) -∗ Fly c q W s (k + 1 + 4) -∗ K ⟨⟩))
      ⊢ wp frame (wpE (defs₀ (F := F)) Variants.none (T c) none) Set.univ (chunk arg1 s (k + 1)) K := by
  unfold chunk Core
  simp only [wp_bind]
  iintro ⟨⟨H1, HY, HB, HO⟩, HF, HK⟩
  iapply (fetch_wp c q W s (k + 1))
  isplitl [HF]; · iexact HF
  isplitl [HO]; · iexact HO
  iintro %v %hv HF HO
  iapply (keep_wp c W (k + 1) hk v hv)
  isplitl [HB]; · iexact HB
  iintro HB
  iapply (issue_wp c q W s (k + 1 + 4))
  isplitl [HF]; · iexact HF
  iintro HF
  iapply (add_wp c arg1 harg1 x W k v hv)
  isplitl [H1]; · iexact H1
  isplitl [HY]; · iexact HY
  iintro H1 HY
  iapply HK $$ [H1 HY HB HO] HF
  isplitl [H1]; · iexact H1
  isplitl [HY]; · iexact HY
  isplitl [HB]; · iexact HB
  iexact HO

theorem last_wp (c : Dev nD) (q : PosShare TreeShare) (arg1 : Memref sig .tc .vmem S256x5504 .bf16) (harg1 : arg1.IsWhole) (x : Vec F S256x5504 .bf16)
    (W : Buf (Elt F) (wtM.view.loc (T c))) (s : Fin 4) (k : ℕ) (hk : k + 1 < 43) (K : PUnit → sProp 𝕄) :
    iprop(Core c arg1 x W k ∗ Fly c q W s (k + 1) ∗ (Core c arg1 x W (k + 1) -∗ Free c q W s -∗ K ⟨⟩))
      ⊢ wp frame (wpE (defs₀ (F := F)) Variants.none (T c) none) Set.univ (last arg1 s (k + 1)) K := by
  unfold last Core
  simp only [wp_bind]
  iintro ⟨⟨H1, HY, HB, HO⟩, HF, HK⟩
  iapply (fetch_wp c q W s (k + 1))
  isplitl [HF]; · iexact HF
  isplitl [HO]; · iexact HO
  iintro %v %hv HF HO
  iapply (keep_wp c W (k + 1) hk v hv)
  isplitl [HB]; · iexact HB
  iintro HB
  iapply (add_wp c arg1 harg1 x W k v hv)
  isplitl [H1]; · iexact H1
  isplitl [HY]; · iexact HY
  iintro H1 HY
  iapply HK $$ [H1 HY HB HO] HF
  isplitl [H1]; · iexact H1
  isplitl [HY]; · iexact HY
  isplitl [HB]; · iexact HB
  iexact HO

/-- The four slots, slot `s` at its own share, with the transfers given. -/
def Four (c : Dev nD) (q : Fin 4 → PosShare TreeShare) (W : Buf (Elt F) (wtM.view.loc (T c))) (k0 k1 k2 k3 : ℕ) : sProp 𝕄 :=
  iprop(Fly c (q 0) W 0 k0 ∗ Fly c (q 1) W 1 k1 ∗ Fly c (q 2) W 2 k2 ∗ Fly c (q 3) W 3 k3)

/-- Four chunks in a row, the slots in turn from slot 1. -/
theorem round_wp (c : Dev nD) (q : Fin 4 → PosShare TreeShare) (arg1 : Memref sig .tc .vmem S256x5504 .bf16) (harg1 : arg1.IsWhole) (x : Vec F S256x5504 .bf16)
    (W : Buf (Elt F) (wtM.view.loc (T c))) (k : ℕ) (hk : k + 4 < 43)
    (P : Prog (TpuEff nD τ sig (Elt F) Λ₀ .tc) PUnit) (K : PUnit → sProp 𝕄) :
    iprop((Core c arg1 x W k ∗ Four c q W (k + 4) (k + 1) (k + 2) (k + 3)) ∗ ((Core c arg1 x W (k + 4) ∗ Four c q W (k + 8) (k + 5) (k + 6) (k + 7)) -∗
          wp frame (wpE (defs₀ (F := F)) Variants.none (T c) none) Set.univ P K))
      ⊢ wp frame (wpE (defs₀ (F := F)) Variants.none (T c) none) Set.univ
          (do chunk arg1 1 (k + 1); chunk arg1 2 (k + 2); chunk arg1 3 (k + 3); chunk arg1 0 (k + 4); P) K := by
  unfold Four
  simp only [wp_bind]
  iintro ⟨⟨HC, HF0, HF1, HF2, HF3⟩, HK⟩
  iapply (chunk_wp c (q 1) arg1 harg1 x W 1 k (by omega))
  isplitl [HC]; · iexact HC
  isplitl [HF1]; · iexact HF1
  iintro HC HF1
  iapply (chunk_wp c (q 2) arg1 harg1 x W 2 (k + 1) (by omega))
  isplitl [HC]; · iexact HC
  isplitl [HF2]; · iexact HF2
  iintro HC HF2
  iapply (chunk_wp c (q 3) arg1 harg1 x W 3 (k + 2) (by omega))
  isplitl [HC]; · iexact HC
  isplitl [HF3]; · iexact HF3
  iintro HC HF3
  iapply (chunk_wp c (q 0) arg1 harg1 x W 0 (k + 3) (by omega))
  isplitl [HC]; · iexact HC
  isplitl [HF0]; · iexact HF0
  iintro HC HF0
  iapply HK
  isplitl [HC]; · iexact HC
  isplitl [HF0]; · iexact HF0
  isplitl [HF1]; · iexact HF1
  isplitl [HF2]; · iexact HF2
  iexact HF3

theorem most_wp (c : Dev nD) (q : Fin 4 → PosShare TreeShare) (arg1 : Memref sig .tc .vmem S256x5504 .bf16) (harg1 : arg1.IsWhole) (x : Vec F S256x5504 .bf16)
    (W : Buf (Elt F) (wtM.view.loc (T c))) (K : PUnit → sProp 𝕄) :
    iprop((owns (T c) arg1 fullShare x ∗ Yany c ∗ Wb c W 0 ∗ (∃ O, owes (T c) 0 O))
        ∗ (Free c (q 0) W 0 ∗ Free c (q 1) W 1 ∗ Free c (q 2) W 2 ∗ Free c (q 3) W 3)
        ∗ ((Core c arg1 x W 38 ∗ Four c q W 40 41 42 39) -∗ K ⟨⟩))
      ⊢ wp frame (wpE (defs₀ (F := F)) Variants.none (T c) none) Set.univ (most arg1) K := by
  unfold most issues
  simp only [bind_assoc]
  iintro ⟨HC, ⟨H0, H1, H2, H3⟩, HK⟩
  rw [wp_bind]
  iapply (issue_wp c (q 0) W 0 0)
  isplitl [H0]; · iexact H0
  iintro H0
  rw [wp_bind]
  iapply (issue_wp c (q 1) W 1 1)
  isplitl [H1]; · iexact H1
  iintro H1
  rw [wp_bind]
  iapply (issue_wp c (q 2) W 2 2)
  isplitl [H2]; · iexact H2
  iintro H2
  rw [wp_bind]
  iapply (issue_wp c (q 3) W 3 3)
  isplitl [H3]; · iexact H3
  iintro H3
  rw [wp_bind]
  iapply (chunk0_wp c (q 0) arg1 harg1 x W)
  isplitl [HC]; · iexact HC
  isplitl [H0]; · iexact H0
  iintro HC H0
  ihave H : iprop(Core c arg1 x W 0 ∗ Four c q W 4 1 2 3) $$ [HC H0 H1 H2 H3]
  · unfold Four
    isplitl [HC]; · iexact HC
    isplitl [H0]; · iexact H0
    isplitl [H1]; · iexact H1
    isplitl [H2]; · iexact H2
    iexact H3
  iapply (round_wp c q arg1 harg1 x W 0 (by decide))
  isplitl [H]; · iexact H
  iintro H
  iapply (round_wp c q arg1 harg1 x W 4 (by decide))
  isplitl [H]; · iexact H
  iintro H
  iapply (round_wp c q arg1 harg1 x W 8 (by decide))
  isplitl [H]; · iexact H
  iintro H
  iapply (round_wp c q arg1 harg1 x W 12 (by decide))
  isplitl [H]; · iexact H
  iintro H
  iapply (round_wp c q arg1 harg1 x W 16 (by decide))
  isplitl [H]; · iexact H
  iintro H
  iapply (round_wp c q arg1 harg1 x W 20 (by decide))
  isplitl [H]; · iexact H
  iintro H
  iapply (round_wp c q arg1 harg1 x W 24 (by decide))
  isplitl [H]; · iexact H
  iintro H
  iapply (round_wp c q arg1 harg1 x W 28 (by decide))
  isplitl [H]; · iexact H
  iintro H
  iapply (round_wp c q arg1 harg1 x W 32 (by decide))
  isplitl [H]; · iexact H
  iintro H
  unfold Four
  icases H with ⟨HC, H0, H1, H2, H3⟩
  rw [wp_bind]
  iapply (chunk_wp c (q 1) arg1 harg1 x W 1 36 (by decide))
  isplitl [HC]; · iexact HC
  isplitl [H1]; · iexact H1
  iintro HC H1
  rw [wp_bind]
  iapply (chunk_wp c (q 2) arg1 harg1 x W 2 37 (by decide))
  isplitl [HC]; · iexact HC
  isplitl [H2]; · iexact H2
  iintro HC H2
  sl_step
  iapply HK
  isplitl [HC]; · iexact HC
  isplitl [H0]; · iexact H0
  isplitl [H1]; · iexact H1
  isplitl [H2]; · iexact H2
  iexact H3

/-- The first point, all four slots free before and after. -/
theorem product_wp (c : Dev nD) (q : Fin 4 → PosShare TreeShare) (arg1 : Memref sig .tc .vmem S256x5504 .bf16) (harg1 : arg1.IsWhole) (x : Vec F S256x5504 .bf16)
    (W : Buf (Elt F) (wtM.view.loc (T c))) (K : PUnit → sProp 𝕄) :
    iprop((owns (T c) arg1 fullShare x ∗ Yany c ∗ Wb c W 0 ∗ (∃ O, owes (T c) 0 O))
        ∗ (Free c (q 0) W 0 ∗ Free c (q 1) W 1 ∗ Free c (q 2) W 2 ∗ Free c (q 3) W 3)
        ∗ (Core c arg1 x W 42 -∗ (Free c (q 0) W 0 ∗ Free c (q 1) W 1 ∗ Free c (q 2) W 2 ∗ Free c (q 3) W 3) -∗ K ⟨⟩))
      ⊢ wp frame (wpE (defs₀ (F := F)) Variants.none (T c) none) Set.univ (product arg1) K := by
  unfold product rest
  iintro ⟨HC, HF, HK⟩
  rw [wp_bind]
  iapply (most_wp c q arg1 harg1 x W)
  isplitl [HC]; · iexact HC
  isplitl [HF]; · iexact HF
  unfold Four
  iintro ⟨HC, H0, H1, H2, H3⟩
  rw [wp_bind]
  iapply (last_wp c (q 3) arg1 harg1 x W 3 38 (by decide))
  isplitl [HC]; · iexact HC
  isplitl [H3]; · iexact H3
  iintro HC H3
  rw [wp_bind]
  iapply (last_wp c (q 0) arg1 harg1 x W 0 39 (by decide))
  isplitl [HC]; · iexact HC
  isplitl [H0]; · iexact H0
  iintro HC H0
  rw [wp_bind]
  iapply (last_wp c (q 1) arg1 harg1 x W 1 40 (by decide))
  isplitl [HC]; · iexact HC
  isplitl [H1]; · iexact H1
  iintro HC H1
  iapply (last_wp c (q 2) arg1 harg1 x W 2 41 (by decide))
  isplitl [HC]; · iexact HC
  isplitl [H2]; · iexact H2
  iintro HC H2
  iapply HK $$ HC [H0 H1 H2 H3]
  isplitl [H0]; · iexact H0
  isplitl [H1]; · iexact H1
  isplitl [H2]; · iexact H2
  iexact H3

end Cert.DownNextRun

end
-- ==== Proof.DownNextPoint.lean ====
/- What the layer-ending down-projection call's later points do: an output block from the product before, and the next product. -/
module

public import proofs.«01_k».proof.Proof.DownNextProduct

@[expose] public section

set_option maxRecDepth 16384

noncomputable section

namespace Cert.DownNextRun

open Cert.DownNextIdeal Cert.DownNextIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-- The rounded weights, whole. -/
def wbw {c : Dev nD} (W : Buf (Elt F) (wtM.view.loc (T c))) : Vec F S5504x2048 .bf16 := fun y =>
  rblk W ((y 0).val / 128) (fun a => match a with
    | ⟨0, _⟩ => (⟨(y 0).val % 128, Nat.mod_lt _ (by decide)⟩ : Fin 128)
    | ⟨1, _⟩ => y 1)

theorem wb_all {c : Dev nD} (W : Buf (Elt F) (wtM.view.loc (T c))) (w : Vec F S5504x2048 .bf16) (h : wbOK W 43 w) : w = wbw W := by
  funext y
  have hy : (y 0).val < 5504 := (y 0).isLt
  have hj : (y 0).val / 128 < 43 := by omega
  unfold wbw
  rw [← h _ hj]
  refine (ld_row w _ _ y ?_ rfl).symm
  show (y 0).val = 128 * (((y 0).val / 128) % 43) + (y 0).val % 128
  rw [Nat.mod_eq_of_lt hj]
  omega

theorem Wb_all (c : Dev nD) (W : Buf (Elt F) (wtM.view.loc (T c))) : (Wb c W 43 : sProp 𝕄) ⊢ owns (T c) wbM fullShare (wbw W) := by
  unfold Wb owns
  iintro ⟨%f, %h, H⟩
  iexists f
  isplitr; swap; · iexact H
  ipureintro; exact wb_all W _ h

/-- The product of an input block with the whole of the weights. -/
def full (x : Vec F S256x5504 .bf16) (w : Vec F S5504x2048 .bf16) : FVec F S256x2048 .f32 :=
  matmul dot_S256x5504_S5504x2048_S256x2048_1_0_0_1_n_n none x w (constant S256x2048 .f32 0x00000000#32)

theorem pay_eq (x : Vec F S256x5504 .bf16) (w : Vec F S5504x2048 .bf16) :
    pay x w = shapeCast S1x256x2048 (full x w) shapeCasts_S256x2048_S1x256x2048 := rfl

/-- The two output blocks: the sum, and its modulated norm. -/
def sumv (y : FVec F S256x2048 .f32) (x : Vec F S256x2048 .f32) (gt : Vec F S1x1x1x2048 .f32) : Vec F S256x2048 .f32 :=
  sum1 (shapeCast S1x256x2048 y shapeCasts_S256x2048_S1x256x2048) x gt
def modv (y : FVec F S256x2048 .f32) (x : Vec F S256x2048 .f32) (gt : Vec F S1x1x1x2048 .f32) (g : Vec F S1x2048 .f32)
    (sh sc : Vec F S1x1x1x2048 .f32) : Vec F S256x2048 .bf16 :=
  mod1 (sumv y x gt) g sh sc

theorem out_store {φ : EltTy} (arg : Memref sig .tc .vmem S256x2048 φ) (f : arg.view.ty.Contents (Elt F)) (p : Vec F S256x2048 φ) :
    arg.view.read (Elt F) (arg.view.writes (Elt F) f [⟨Rect.unit (s := S256x2048) ![0, 0] S256x2048.size inb_S256x2048_S256x2048_0_0, p⟩]) = p := by
  funext x
  refine View.read_writes_cons_unit_of_mem (off' := ![0, 0]) arg.view f inb_S256x2048_S256x2048_0_0 p [] x x rfl (fun a => ?_)
  match a with
  | ⟨0, _⟩ => exact (Nat.zero_add _).symm
  | ⟨1, _⟩ => exact (Nat.zero_add _).symm

theorem z2 : (![0, 0] : Fin 2 → ℕ) = fun _ => 0 := by funext a; match a with | ⟨0, _⟩ => rfl | ⟨1, _⟩ => rfl
theorem z4 : (![0, 0, 0, 0] : Fin 4 → ℕ) = fun _ => 0 := by funext a; match a with | ⟨0, _⟩ => rfl | ⟨1, _⟩ => rfl | ⟨2, _⟩ => rfl | ⟨3, _⟩ => rfl

set_option maxHeartbeats 2000000 in
theorem emit_wp (c : Dev nD) (arg3 : Memref sig .tc .vmem S256x2048 .f32) (arg4 : Memref sig .tc .vmem S1x1x1x2048 .f32)
    (arg5 : Memref sig .tc .vmem S1x2048 .f32) (arg6 arg7 : Memref sig .tc .vmem S1x1x1x2048 .f32)
    (arg8 : Memref sig .tc .vmem S256x2048 .f32) (arg9 : Memref sig .tc .vmem S256x2048 .bf16) (harg9 : arg9.IsWhole) (b : Fin 2) (y : FVec F S256x2048 .f32)
    (x : Vec F S256x2048 .f32) (gt : Vec F S1x1x1x2048 .f32) (g : Vec F S1x2048 .f32) (sh sc : Vec F S1x1x1x2048 .f32)
    (d : Vec F S256x2048 .f32) (e : Vec F S256x2048 .bf16) (K : PUnit → sProp 𝕄) :
    iprop(Y c b y ∗ owns (T c) arg3 fullShare x ∗ owns (T c) arg4 fullShare gt ∗ owns (T c) arg5 fullShare g ∗ owns (T c) arg6 fullShare sh
        ∗ owns (T c) arg7 fullShare sc ∗ owns (T c) arg8 fullShare d ∗ owns (T c) arg9 fullShare e
        ∗ (Y c b y -∗ owns (T c) arg3 fullShare x -∗ owns (T c) arg4 fullShare gt -∗ owns (T c) arg5 fullShare g
            -∗ owns (T c) arg6 fullShare sh -∗ owns (T c) arg7 fullShare sc
            -∗ owns (T c) arg8 fullShare (sumv y x gt) -∗ owns (T c) arg9 fullShare (modv y x gt g sh sc) -∗ K ⟨⟩))
      ⊢ wp frame (wpE (defs₀ (F := F)) Variants.none (T c) none) Set.univ (emit arg3 arg4 arg5 arg6 arg7 arg8 arg9 harg9 b) K := by
  unfold Y owns emit
  iintro ⟨⟨%fy, %hy, HY⟩, ⟨%f3, %h3, H3⟩, ⟨%f4, %h4, H4⟩, ⟨%f5, %h5, H5⟩, ⟨%f6, %h6, H6⟩, ⟨%f7, %h7, H7⟩, ⟨%f8, %h8, H8⟩, ⟨%f9, %h9, H9⟩, HK⟩
  iapply (wp_load Variants.none (T c) none Set.univ (m := yM) (r := (rY b).toLoadRect) (S := yM.view.set) (View.setOn_subset_set _ _)) $$ HY
  iintro HY
  iapply (wp_load Variants.none (T c) none Set.univ (m := arg3) (S := arg3.view.set) (View.setOn_subset_set _ _)) $$ H3
  iintro H3
  iapply (wp_load Variants.none (T c) none Set.univ (m := arg4) (S := arg4.view.set) (View.setOn_subset_set _ _)) $$ H4
  iintro H4
  iapply (wp_load Variants.none (T c) none Set.univ (m := arg8) (S := arg8.view.set) (View.setOn_subset_set _ _)) $$ H8
  iintro H8
  rw [View.readAt_eq_ld, View.readAt_eq_ld, View.readAt_eq_ld, View.readAt_eq_ld]
  rw [hy, h3, h4, View.ld_unit_zero z2 inb_S256x2048_S256x2048_0_0 x, View.ld_unit_zero z4 inb_S1x1x1x2048_S1x1x1x2048_0_0_0_0 gt]
  iapply (wp_store Variants.none (T c) none Set.univ (m := arg8) (r := Rect.unit (s := S256x2048) ![0, 0] S256x2048.size inb_S256x2048_S256x2048_0_0) (S := arg8.view.set) (Memref.setOn_access_subset _ _ _)) $$ H8
  iintro H8
  iapply (wp_load Variants.none (T c) none Set.univ (m := arg5) (S := arg5.view.set) (View.setOn_subset_set _ _)) $$ H5
  iintro H5
  iapply (wp_load Variants.none (T c) none Set.univ (m := arg6) (S := arg6.view.set) (View.setOn_subset_set _ _)) $$ H6
  iintro H6
  iapply (wp_load Variants.none (T c) none Set.univ (m := arg7) (S := arg7.view.set) (View.setOn_subset_set _ _)) $$ H7
  iintro H7
  iapply (wp_load Variants.none (T c) none Set.univ (m := arg9) (S := arg9.view.set) (View.setOn_subset_set _ _)) $$ H9
  iintro H9
  rw [View.readAt_eq_ld, View.readAt_eq_ld, View.readAt_eq_ld, View.readAt_eq_ld]
  rw [h5, h6, h7, View.ld_unit_zero z2 inb_S1x2048_S1x2048_0_0 g, View.ld_unit_zero z4 inb_S1x1x1x2048_S1x1x1x2048_0_0_0_0 sh,
    View.ld_unit_zero z4 inb_S1x1x1x2048_S1x1x1x2048_0_0_0_0 sc]
  iapply (wp_store Variants.none (T c) none Set.univ (m := arg9) (r := Rect.unit (s := S256x2048) ![0, 0] S256x2048.size inb_S256x2048_S256x2048_0_0) (S := arg9.view.set) (Memref.setOn_access_subset _ _ _)) $$ H9
  iintro H9
  sl_step
  iapply HK $$ [HY] [H3] [H4] [H5] [H6] [H7] [H8] [H9]
  · iexists _
    isplitr; swap; · iexact HY
    ipureintro; exact hy
  · iexists _
    isplitr; swap; · iexact H3
    ipureintro; exact h3
  · iexists _
    isplitr; swap; · iexact H4
    ipureintro; exact h4
  · iexists _
    isplitr; swap; · iexact H5
    ipureintro; exact h5
  · iexists _
    isplitr; swap; · iexact H6
    ipureintro; exact h6
  · iexists _
    isplitr; swap; · iexact H7
    ipureintro; exact h7
  · iexists _
    isplitr; swap; · iexact H8
    ipureintro; exact out_store arg8 f8 _
  · iexists _
    isplitr; swap; · iexact H9
    ipureintro; exact out_store arg9 f9 _

set_option maxHeartbeats 1000000 in
theorem compute_wp (c : Dev nD) (arg1 : Memref sig .tc .vmem S256x5504 .bf16) (b : Fin 2) (x : Vec F S256x5504 .bf16)
    (w : Vec F S5504x2048 .bf16) (K : PUnit → sProp 𝕄) :
    iprop(Yany c ∗ owns (T c) arg1 fullShare x ∗ owns (T c) wbM fullShare w
        ∗ (Y c b (full x w) -∗ owns (T c) arg1 fullShare x -∗ owns (T c) wbM fullShare w -∗ K ⟨⟩))
      ⊢ wp frame (wpE (defs₀ (F := F)) Variants.none (T c) none) Set.univ (compute arg1 b) K := by
  unfold Y Yany owns compute
  iintro ⟨⟨%fy, HY⟩, ⟨%f1, %h1, H1⟩, ⟨%fw, %hw, HW⟩, HK⟩
  iapply (wp_load Variants.none (T c) none Set.univ (m := arg1) (S := arg1.view.set) (View.setOn_subset_set _ _)) $$ H1
  iintro H1
  iapply (wp_load Variants.none (T c) none Set.univ (m := wbM) (S := wbM.view.set) (View.setOn_subset_set _ _)) $$ HW
  iintro HW
  iapply (wp_load Variants.none (T c) none Set.univ (m := yM) (r := (rY b).toLoadRect) (S := yM.view.set) (View.setOn_subset_set _ _)) $$ HY
  iintro HY
  rw [View.readAt_eq_ld, View.readAt_eq_ld, View.readAt_eq_ld]
  rw [h1, hw, View.ld_unit_zero (by funext a; match a with | ⟨0, _⟩ => rfl | ⟨1, _⟩ => rfl) inb_S256x5504_S256x5504_0_0 x,
    View.ld_unit_zero (by funext a; match a with | ⟨0, _⟩ => rfl | ⟨1, _⟩ => rfl) inb_S5504x2048_S5504x2048_0_0 w, pay_eq]
  iapply (wp_store Variants.none (T c) none Set.univ (m := yM) (r := rY b) (S := yM.view.set) (Memref.setOn_access_subset _ _ _)) $$ HY
  iintro HY
  sl_step
  iapply HK $$ [HY] [H1] [HW]
  · iexists _
    isplitr; swap; · iexact HY
    ipureintro; exact y_store b fy _
  · iexists _
    isplitr; swap; · iexact H1
    ipureintro; exact h1
  · iexists _
    isplitr; swap; · iexact HW
    ipureintro; exact hw

end Cert.DownNextRun

end
-- ==== Proof.DownNextFrame.lean ====
/- The layer-ending down-projection call's run over its grid: the invariant between points, and the frame with the outputs named. -/
module

public import proofs.«01_k».proof.Proof.DownNextPoint
public import proofs.«01_k».proof.Proof.Gen.DownNextIdeal.Frame

@[expose] public section

set_option maxRecDepth 16384

noncomputable section

namespace Cert.DownNextRun

open Cert.DownNextIdeal Cert.DownNextIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- The kind of each point. -/
theorem kinds : ∀ t : Fin cfg0.N,
    (t.val = 0 → atZero (grid0.coords t) ∧ ¬k0_cond2 (grid0.coords t) = 1#1 ∧ ¬k0_cond3 (grid0.coords t) = 1#1 ∧ ¬k0_cond4 (grid0.coords t) = 1#1)
    ∧ (t.val ≠ 0 ∧ t.val ≠ 32 ∧ t.val % 2 = 0 → ¬atZero (grid0.coords t) ∧ k0_cond2 (grid0.coords t) = 1#1 ∧ ¬k0_cond3 (grid0.coords t) = 1#1 ∧ ¬k0_cond4 (grid0.coords t) = 1#1)
    ∧ (t.val % 2 = 1 → ¬atZero (grid0.coords t) ∧ ¬k0_cond2 (grid0.coords t) = 1#1 ∧ k0_cond3 (grid0.coords t) = 1#1 ∧ ¬k0_cond4 (grid0.coords t) = 1#1)
    ∧ (t.val = 32 → ¬atZero (grid0.coords t) ∧ ¬k0_cond2 (grid0.coords t) = 1#1 ∧ ¬k0_cond3 (grid0.coords t) = 1#1 ∧ k0_cond4 (grid0.coords t) = 1#1) :=
  (by decide +kernel : ∀ t : Fin grid0.N, _)

/-- The output windows skip the first point, as one condition for both. -/
theorem idle_at6 : ∀ t : Fin cfg0.N, idle0 6 (grid0.coords t) = decide (t.val = 0) :=
  (by decide +kernel : ∀ t : Fin grid0.N, idle0 6 (grid0.coords t) = decide (t.val = 0))
theorem flush_at6 : ∀ t : Fin cfg0.N, (win0 6).flush t = !decide (t.val = 0) :=
  (by decide +kernel : ∀ t : Fin grid0.N, win0_6.flush t = !decide (t.val = 0))
theorem flush_at7 : ∀ t : Fin cfg0.N, (win0 7).flush t = !decide (t.val = 0) :=
  (by decide +kernel : ∀ t : Fin grid0.N, win0_7.flush t = !decide (t.val = 0))

theorem bound (t : Fin cfg0.N) : t.val < 33 := lt_of_lt_of_eq t.isLt (show cfg0.N = 33 from N_0)

/-- Point `n`. -/
def pt (n : ℕ) : Fin cfg0.N := ⟨n % 33, lt_of_lt_of_eq (Nat.mod_lt _ (by decide)) (show cfg0.N = 33 from N_0).symm⟩
theorem pt_val (t : Fin cfg0.N) : pt t.val = t := Fin.ext (Nat.mod_eq_of_lt (bound t))

/-- The weights as the region finds them. -/
abbrev Wt (c : Dev nD) : Buf (Elt F) (wtM.view.loc (T c)) := V m c main_arg1

/-- Point `n`'s product. -/
def prod (c : Dev nD) (n : ℕ) : FVec F S256x2048 .f32 :=
  if n = 0 then acc (iblk m c 0 (pt n)) (Wt m c) 42 else full (iblk m c 0 (pt n)) (wbw (Wt m c))

/-! ## The scratch, the semaphores and the weights between the points -/

abbrev osem0 : Fin 4 → SemLoc sig := fun j => (![SemLoc.dma 15, SemLoc.dma 16, SemLoc.dma 17, SemLoc.dma 18] : Fin 4 → SemLoc sig) j
theorem ownSemFacts0 : Pipeline.OwnSemFacts spec0 osem0 := by decide
def H0 : Finset (Ref sig .tc) := {main_arg1}
theorem H0_sub : H0 ⊆ Pipeline.restRefs sig spec0 := by decide

theorem sems_eq (c : Dev nD) :
    (Pipeline.ownSems0 (Ix := Unit) (Name := ℕ) (U := Pipeline.UD sig nD τ) (Lvl := ℕ) (Val := Elt F) (τ := τ) osem0 c : sProp 𝕄)
      = iprop(semVal (T c, SemLoc.dma (cell 0)) 0 ∗ semVal (T c, SemLoc.dma (cell 1)) 0
          ∗ semVal (T c, SemLoc.dma (cell 2)) 0 ∗ semVal (T c, SemLoc.dma (cell 3)) 0) := by
  rw [Pipeline.ownSems0_eq_of_list c osem0 [0, 1, 2, 3] (by decide) (by decide)]; rfl

theorem hbm_eq (c : Dev nD) :
    (bigSep H0 (fun b => ((c : Thread nD τ).loc b) ↦{fullShare} V m c b) : sProp 𝕄) = (wtM.view.loc (T c) ↦{fullShare} Wt m c) := by
  rw [BI.bigSep_eq_bigSepL_of_eq [main_arg1] (by decide) (by decide)]; rfl

/-- The slots' sets tile the scratch. -/
abbrev sset (s : Fin 4) : Finset (Idx (stM.view.loc (T (0 : Dev nD)))) := (rSlot s).set
theorem sset_disjoint : ∀ s s' : Fin 4, s ≠ s' → Disjoint (rSlot s).set (rSlot s').set :=
  fun s s' h => Ring.lead_disjoint (s := S4x128x2048) (NB := 4) (0 : Fin 3) 1 (fun b => ![b.val, 0, 0]) S1x128x2048.size inbSlot
    (fun b => (Nat.one_mul _).symm) rfl s s' h
theorem sset_cover : Finset.univ.biUnion (fun s : Fin 4 => (rSlot s).set) = Finset.univ :=
  Ring.lead_cover (s := S4x128x2048) (NB := 4) (0 : Fin 3) 1 (fun b => ![b.val, 0, 0]) S1x128x2048.size inbSlot
    (fun b => (Nat.one_mul _).symm) (fun b a h => by match a with | ⟨0, _⟩ => exact absurd rfl h | ⟨1, _⟩ => rfl | ⟨2, _⟩ => rfl) rfl
    (fun a h => by match a with | ⟨0, _⟩ => exact absurd rfl h | ⟨1, _⟩ => rfl | ⟨2, _⟩ => rfl) rfl
theorem slot_set (s : Fin 4) : (slotM s).view.set = (rSlot s).set := (View.set_reshape _ _).trans (View.set_slice_whole _ _)

def Slots (c : Dev nD) : sProp 𝕄 :=
  iprop((∃ f : Buf (Elt F) (stM.view.loc (T c)), stM.view.loc (T c) ↦{fullShare} f)
    ∗ (semVal (T c, SemLoc.dma (cell 0)) 0 ∗ semVal (T c, SemLoc.dma (cell 1)) 0
          ∗ semVal (T c, SemLoc.dma (cell 2)) 0 ∗ semVal (T c, SemLoc.dma (cell 3)) 0)
    ∗ (wtM.view.loc (T c) ↦{fullShare} Wt m c))

/-- Each slot's share of the weights. -/
def qs : Fin 4 → PosShare TreeShare := ![fullShare.left.left, fullShare.left.right, fullShare.right.left, fullShare.right.right]

def Frees (c : Dev nD) : sProp 𝕄 :=
  iprop(Free c (qs 0) (Wt m c) 0 ∗ Free c (qs 1) (Wt m c) 1 ∗ Free c (qs 2) (Wt m c) 2 ∗ Free c (qs 3) (Wt m c) 3)

theorem sep4 (Φ : Fin 4 → sProp 𝕄) : bigSep Finset.univ Φ = iprop(Φ 0 ∗ Φ 1 ∗ Φ 2 ∗ Φ 3) :=
  bigSep_univ_eq_bigSepL [(0 : Fin 4), 1, 2, 3] (by decide) (by decide) Φ

theorem stage_split (c : Dev nD) :
    (iprop(∃ f : Buf (Elt F) (stM.view.loc (T c)), stM.view.loc (T c) ↦{fullShare} f) : sProp 𝕄)
      ⊢ iprop((∃ f : Buf (Elt F) (stM.view.loc (T c)), stM.view.loc (T c) ↦[(rSlot 0).set]{fullShare} f)
          ∗ (∃ f : Buf (Elt F) (stM.view.loc (T c)), stM.view.loc (T c) ↦[(rSlot 1).set]{fullShare} f)
          ∗ (∃ f : Buf (Elt F) (stM.view.loc (T c)), stM.view.loc (T c) ↦[(rSlot 2).set]{fullShare} f)
          ∗ (∃ f : Buf (Elt F) (stM.view.loc (T c)), stM.view.loc (T c) ↦[(rSlot 3).set]{fullShare} f)) := by
  iintro ⟨%f, H⟩
  ihave H' := (Entails.of_eq ((Ring.pointsTo_blocks (ℓ := stM.view.loc (T c)) (q := fullShare) (fun s : Fin 4 => (rSlot s).set) sset_disjoint sset_cover f).trans (sep4 _))) $$ H
  icases H' with ⟨H0, H1, H2, H3⟩
  isplitl [H0]; · iexists f; iexact H0
  isplitl [H1]; · iexists f; iexact H1
  isplitl [H2]; · iexists f; iexact H2
  iexists f; iexact H3

theorem frees_in (c : Dev nD) : (Slots m c : sProp 𝕄) ⊢ Frees m c := by
  unfold Slots Frees Free
  iintro ⟨Hst, ⟨Hv0, Hv1, Hv2, Hv3⟩, Hw⟩
  ihave Hs := (stage_split c) $$ Hst
  ihave Hw2 := (pointsTo_share (PosShare.mem_left_op_right fullShare)).1 $$ Hw
  icases Hw2 with ⟨Hl, Hr⟩
  ihave Hl2 := (pointsTo_share (PosShare.mem_left_op_right fullShare.left)).1 $$ Hl
  icases Hl2 with ⟨Hw0, Hw1⟩
  ihave Hr2 := (pointsTo_share (PosShare.mem_left_op_right fullShare.right)).1 $$ Hr
  icases Hr2 with ⟨Hw2, Hw3⟩
  rw [slot_set 0, slot_set 1, slot_set 2, slot_set 3]
  icases Hs with ⟨Hs0, Hs1, Hs2, Hs3⟩
  isplitl [Hs0 Hv0 Hw0]
  · isplitl [Hs0]; · iexact Hs0
    isplitl [Hv0]; · iexact Hv0
    iexact Hw0
  isplitl [Hs1 Hv1 Hw1]
  · isplitl [Hs1]; · iexact Hs1
    isplitl [Hv1]; · iexact Hv1
    iexact Hw1
  isplitl [Hs2 Hv2 Hw2]
  · isplitl [Hs2]; · iexact Hs2
    isplitl [Hv2]; · iexact Hv2
    iexact Hw2
  isplitl [Hs3]; · iexact Hs3
  isplitl [Hv3]; · iexact Hv3
  iexact Hw3

theorem frees_out (c : Dev nD) : (Frees m c : sProp 𝕄) ⊢ Slots m c := by
  unfold Slots Frees Free
  rw [slot_set 0, slot_set 1, slot_set 2, slot_set 3]
  iintro ⟨⟨Hs0, Hv0, Hw0⟩, ⟨Hs1, Hv1, Hw1⟩, ⟨Hs2, Hv2, Hw2⟩, ⟨Hs3, Hv3, Hw3⟩⟩
  isplitl [Hs0 Hs1 Hs2 Hs3]
  · iapply (Ring.pointsTo_blocks_join_exists (ℓ := stM.view.loc (T c)) (q := fullShare) (fun s : Fin 4 => (rSlot s).set) sset_disjoint sset_cover stM.view.junk)
    rw [sep4]
    isplitl [Hs0]; · iexact Hs0
    isplitl [Hs1]; · iexact Hs1
    isplitl [Hs2]; · iexact Hs2
    iexact Hs3
  isplitl [Hv0 Hv1 Hv2 Hv3]
  · isplitl [Hv0]; · iexact Hv0
    isplitl [Hv1]; · iexact Hv1
    isplitl [Hv2]; · iexact Hv2
    iexact Hv3
  iapply (pointsTo_share (PosShare.mem_left_op_right fullShare)).2
  isplitl [Hw0 Hw1]
  · iapply (pointsTo_share (PosShare.mem_left_op_right fullShare.left)).2
    isplitl [Hw0]; · iexact Hw0
    iexact Hw1
  iapply (pointsTo_share (PosShare.mem_left_op_right fullShare.right)).2
  isplitl [Hw2]; · iexact Hw2
  iexact Hw3

/-- What the region is handed. -/
theorem start_eq (c : Dev nD) :
    (Pipeline.ΦD osem0 spec0 H0 (V m) c : sProp 𝕄)
      ⊣⊢ iprop((Yany c ∗ (∃ d, owns (T c) wbM fullShare d)) ∗ Slots m c ∗ (∃ r, prngReg c r)) := by
  rw [Pipeline.ΦD_eq, scopedRest0_eq, sems_eq, hbm_eq]
  unfold Yany Slots
  simp only [owns_whole]
  rw [show yM.view.set = Finset.univ from View.set_whole _]
  constructor
  · iintro ⟨⟨HB, HS, HY⟩, Hg, Hv, Hw⟩
    isplitl [HB HY]
    · isplitl [HY]; · iexact HY
      iexact HB
    isplitr [Hg]; swap; · iexact Hg
    isplitl [HS]; · iexact HS
    isplitl [Hv]; · iexact Hv
    iexact Hw
  · iintro ⟨⟨HY, HB⟩, ⟨HS, Hv, Hw⟩, Hg⟩
    isplitl [HB HS HY]
    · isplitl [HB]; · iexact HB
      isplitl [HS]; · iexact HS
      iexact HY
    isplitl [Hg]; · iexact Hg
    isplitl [Hv]; · iexact Hv
    iexact Hw

/-! ## The invariant -/

/-- Before a point after the first: the rounded weights, and the product of the point before. -/
def Later (c : Dev nD) (n : ℕ) : sProp 𝕄 :=
  iprop((∃ (b : Fin 2) (y : FVec F S256x2048 .f32), ⌜n < 33 → b.val = (n - 1) % 2 ∧ y = prod m c (n - 1)⌝ ∗ Y c b y)
    ∗ owns (T c) wbM fullShare (wbw (Wt m c)) ∗ Slots m c ∗ (∃ r, prngReg c r))

def Inv (c : Dev nD) (n : ℕ) : sProp 𝕄 := if n = 0 then Pipeline.ΦD osem0 spec0 H0 (V m) c else Later m c n

theorem Inv_zero (c : Dev nD) : Inv m c 0 = Pipeline.ΦD osem0 spec0 H0 (V m) c := if_pos rfl
theorem Inv_pos (c : Dev nD) (n : ℕ) (h : n ≠ 0) : Inv m c n = Later m c n := if_neg h

theorem later_out (c : Dev nD) (n : ℕ) : (Later m c n : sProp 𝕄) ⊢ Pipeline.ΦD osem0 spec0 H0 (V m) c := by
  refine BIBase.Entails.trans ?_ (start_eq m c).2
  unfold Later
  iintro ⟨⟨%b, %y, -, HY⟩, HB, HS, Hg⟩
  isplitl [HY HB]
  · isplitl [HY]; · iapply (Y_any c b y); iexact HY
    iexists _; iexact HB
  isplitl [HS]; · iexact HS
  iexact Hg

theorem Wb_zero (c : Dev nD) : (iprop(∃ d, owns (T c) wbM fullShare d) : sProp 𝕄) ⊢ Wb c (Wt m c) 0 := by
  unfold Wb owns
  iintro ⟨%d, %f, -, H⟩
  iexists f
  isplitr; swap; · iexact H
  ipureintro; intro j hj; exact absurd hj (Nat.not_lt_zero j)

/-- The output blocks of a point after the first. -/
def sumAt (c : Dev nD) (t : Fin cfg0.N) : Vec F S256x2048 .f32 := sumv (prod m c (t.val - 1)) (iblk m c 1 t) (iblk m c 2 t)
def modAt (c : Dev nD) (t : Fin cfg0.N) : Vec F S256x2048 .bf16 :=
  modv (prod m c (t.val - 1)) (iblk m c 1 t) (iblk m c 2 t) (iblk m c 3 t) (iblk m c 4 t) (iblk m c 5 t)

/-- The first point. -/
theorem point_first (c : Dev nD) (t : Fin cfg0.N) (h : t.val = 0) (K : PUnit → sProp 𝕄) :
    iprop(Pipeline.ΦD osem0 spec0 H0 (V m) c ∗ (∃ O, owes (T c) 0 O) ∗ owns (c : Thread nD τ) (st0_0 t) fullShare (iblk m c 0 t)
        ∗ (Later m c 1 -∗ (∃ O, owes (T c) 0 O) -∗ owns (c : Thread nD τ) (st0_0 t) fullShare (iblk m c 0 t) -∗ K ⟨⟩))
      ⊢ wp frame (wpE (defs₀ (F := F)) Variants.none c none) Set.univ (bodyAt0 t) K := by
  obtain ⟨h1, h2, h3, h4⟩ := (kinds t).1 h
  refine BIBase.Entails.trans (sep_mono (start_eq m c).1 .rfl) ?_
  unfold bodyAt0
  rw [body_first (grid0.coords t) _ _ _ _ _ _ _ _ _ _ _ _ _ _ _ _ h1 h2 h3 h4]
  iintro ⟨⟨⟨HY, HB⟩, HS, Hg⟩, HO, H0, HK⟩
  ihave HB' := (Wb_zero m c) $$ HB
  ihave HF := (frees_in m c) $$ HS
  iapply (product_wp c qs (st0_0 t) (hstage0_0 ((cfg0.slots t 0).cast nbuf0_0)) (iblk m c 0 t) (Wt m c) K)
  isplitl [HY HB' HO H0]
  · isplitl [H0]; · iexact H0
    isplitl [HY]; · iexact HY
    isplitl [HB']; · iexact HB'
    iexact HO
  isplitl [HF]; · unfold Frees; iexact HF
  unfold Core
  iintro ⟨H0, HY, HB, HO⟩ HF
  iapply HK $$ [HY HB HF Hg] HO H0
  unfold Later
  isplitl [HY]
  · iexists (0 : Fin 2); iexists _
    isplitr; swap; · iexact HY
    ipureintro; intro _; refine ⟨rfl, ?_⟩
    unfold prod
    rw [if_pos rfl, show pt 0 = t from Fin.ext h.symm]
  isplitl [HB]; · iapply (Wb_all c (Wt m c)); iexact HB
  isplitl [HF]; · iapply (frees_out m c); unfold Frees; iexact HF
  iexact Hg

/-- A point that emits product `b` and computes the other. -/
theorem point_mid (c : Dev nD) (t : Fin cfg0.N) (h0 : t.val ≠ 0) (hN : t.val ≠ 32) (b b' : Fin 2) (hb : b.val = (t.val - 1) % 2) (hb' : b'.val = t.val % 2)
    (d : Vec F S256x2048 .f32) (d7 : Vec F S256x2048 .bf16) (K : PUnit → sProp 𝕄) :
    iprop(Later m c t.val ∗ owns (c : Thread nD τ) (st0_0 t) fullShare (iblk m c 0 t) ∗ owns (c : Thread nD τ) (st0_1 t) fullShare (iblk m c 1 t)
        ∗ owns (c : Thread nD τ) (st0_2 t) fullShare (iblk m c 2 t) ∗ owns (c : Thread nD τ) (st0_3 t) fullShare (iblk m c 3 t)
        ∗ owns (c : Thread nD τ) (st0_4 t) fullShare (iblk m c 4 t) ∗ owns (c : Thread nD τ) (st0_5 t) fullShare (iblk m c 5 t)
        ∗ owns (c : Thread nD τ) (st0_6 t) fullShare d ∗ owns (c : Thread nD τ) (st0_7 t) fullShare d7
        ∗ (Later m c (t.val + 1) -∗ owns (c : Thread nD τ) (st0_0 t) fullShare (iblk m c 0 t) -∗ owns (c : Thread nD τ) (st0_1 t) fullShare (iblk m c 1 t)
            -∗ owns (c : Thread nD τ) (st0_2 t) fullShare (iblk m c 2 t) -∗ owns (c : Thread nD τ) (st0_3 t) fullShare (iblk m c 3 t)
            -∗ owns (c : Thread nD τ) (st0_4 t) fullShare (iblk m c 4 t) -∗ owns (c : Thread nD τ) (st0_5 t) fullShare (iblk m c 5 t)
            -∗ owns (c : Thread nD τ) (st0_6 t) fullShare (sumAt m c t) -∗ owns (c : Thread nD τ) (st0_7 t) fullShare (modAt m c t) -∗ K ⟨⟩))
      ⊢ wp frame (wpE (defs₀ (F := F)) Variants.none c none) Set.univ (do emit (st0_1 t) (st0_2 t) (st0_3 t) (st0_4 t) (st0_5 t) (st0_6 t) (st0_7 t) (hstage0_7 ((cfg0.slots t 7).cast nbuf0_7)) b; compute (st0_0 t) b') K := by
  unfold Later
  rw [wp_bind]
  iintro ⟨⟨⟨%e, %y, %hy, HY⟩, HB, HS, Hg⟩, H0, H1, H2, H3, H4, H5, H6, H7, HK⟩
  obtain ⟨he, rfl⟩ := hy (bound t)
  obtain rfl : e = b := Fin.ext (he.trans hb.symm)
  iapply (emit_wp c (st0_1 t) (st0_2 t) (st0_3 t) (st0_4 t) (st0_5 t) (st0_6 t) (st0_7 t) (hstage0_7 ((cfg0.slots t 7).cast nbuf0_7)) e (prod m c (t.val - 1))
    (iblk m c 1 t) (iblk m c 2 t) (iblk m c 3 t) (iblk m c 4 t) (iblk m c 5 t) d d7)
  isplitl [HY]; · iexact HY
  isplitl [H1]; · iexact H1
  isplitl [H2]; · iexact H2
  isplitl [H3]; · iexact H3
  isplitl [H4]; · iexact H4
  isplitl [H5]; · iexact H5
  isplitl [H6]; · iexact H6
  isplitl [H7]; · iexact H7
  iintro HY H1 H2 H3 H4 H5 H6 H7
  iapply (compute_wp c (st0_0 t) b' (iblk m c 0 t) (wbw (Wt m c)))
  isplitl [HY]; · iapply (Y_any c e _); iexact HY
  isplitl [H0]; · iexact H0
  isplitl [HB]; · iexact HB
  iintro HY H0 HB
  iapply HK $$ [HY HB HS Hg] H0 H1 H2 H3 H4 H5 [H6] [H7]
  · isplitl [HY]
    · iexists b'; iexists _
      isplitr; swap; · iexact HY
      ipureintro; intro _; refine ⟨by rw [hb', Nat.add_sub_cancel], ?_⟩
      unfold prod
      rw [Nat.add_sub_cancel, if_neg h0, pt_val]
    isplitl [HB]; · iexact HB
    isplitl [HS]; · iexact HS
    iexact Hg
  · unfold sumAt; iexact H6
  · unfold modAt; iexact H7

/-- The last point. -/
theorem point_last (c : Dev nD) (t : Fin cfg0.N) (hN : t.val = 32) (d : Vec F S256x2048 .f32) (d7 : Vec F S256x2048 .bf16) (K : PUnit → sProp 𝕄) :
    iprop(Later m c t.val ∗ owns (c : Thread nD τ) (st0_0 t) fullShare (iblk m c 0 t) ∗ owns (c : Thread nD τ) (st0_1 t) fullShare (iblk m c 1 t)
        ∗ owns (c : Thread nD τ) (st0_2 t) fullShare (iblk m c 2 t) ∗ owns (c : Thread nD τ) (st0_3 t) fullShare (iblk m c 3 t)
        ∗ owns (c : Thread nD τ) (st0_4 t) fullShare (iblk m c 4 t) ∗ owns (c : Thread nD τ) (st0_5 t) fullShare (iblk m c 5 t)
        ∗ owns (c : Thread nD τ) (st0_6 t) fullShare d ∗ owns (c : Thread nD τ) (st0_7 t) fullShare d7
        ∗ (Later m c (t.val + 1) -∗ owns (c : Thread nD τ) (st0_0 t) fullShare (iblk m c 0 t) -∗ owns (c : Thread nD τ) (st0_1 t) fullShare (iblk m c 1 t)
            -∗ owns (c : Thread nD τ) (st0_2 t) fullShare (iblk m c 2 t) -∗ owns (c : Thread nD τ) (st0_3 t) fullShare (iblk m c 3 t)
            -∗ owns (c : Thread nD τ) (st0_4 t) fullShare (iblk m c 4 t) -∗ owns (c : Thread nD τ) (st0_5 t) fullShare (iblk m c 5 t)
            -∗ owns (c : Thread nD τ) (st0_6 t) fullShare (sumAt m c t) -∗ owns (c : Thread nD τ) (st0_7 t) fullShare (modAt m c t) -∗ K ⟨⟩))
      ⊢ wp frame (wpE (defs₀ (F := F)) Variants.none c none) Set.univ (emit (st0_1 t) (st0_2 t) (st0_3 t) (st0_4 t) (st0_5 t) (st0_6 t) (st0_7 t) (hstage0_7 ((cfg0.slots t 7).cast nbuf0_7)) 1) K := by
  unfold Later
  iintro ⟨⟨⟨%e, %y, %hy, HY⟩, HB, HS, Hg⟩, H0, H1, H2, H3, H4, H5, H6, H7, HK⟩
  obtain ⟨he, rfl⟩ := hy (bound t)
  obtain rfl : e = 1 := Fin.ext (by rw [he, hN]; rfl)
  iapply (emit_wp c (st0_1 t) (st0_2 t) (st0_3 t) (st0_4 t) (st0_5 t) (st0_6 t) (st0_7 t) (hstage0_7 ((cfg0.slots t 7).cast nbuf0_7)) 1 (prod m c (t.val - 1))
    (iblk m c 1 t) (iblk m c 2 t) (iblk m c 3 t) (iblk m c 4 t) (iblk m c 5 t) d d7)
  isplitl [HY]; · iexact HY
  isplitl [H1]; · iexact H1
  isplitl [H2]; · iexact H2
  isplitl [H3]; · iexact H3
  isplitl [H4]; · iexact H4
  isplitl [H5]; · iexact H5
  isplitl [H6]; · iexact H6
  isplitl [H7]; · iexact H7
  iintro HY H1 H2 H3 H4 H5 H6 H7
  iapply HK $$ [HY HB HS Hg] H0 H1 H2 H3 H4 H5 [H6] [H7]
  · isplitl [HY]
    · iexists (1 : Fin 2); iexists _
      isplitr; swap; · iexact HY
      ipureintro; intro h; omega
    isplitl [HB]; · iexact HB
    isplitl [HS]; · iexact HS
    iexact Hg
  · unfold sumAt; iexact H6
  · unfold modAt; iexact H7

/-- Any point after the first. -/
theorem point_later (c : Dev nD) (t : Fin cfg0.N) (h0 : t.val ≠ 0) (d : Vec F S256x2048 .f32) (d7 : Vec F S256x2048 .bf16) (K : PUnit → sProp 𝕄) :
    iprop(Later m c t.val ∗ owns (c : Thread nD τ) (st0_0 t) fullShare (iblk m c 0 t) ∗ owns (c : Thread nD τ) (st0_1 t) fullShare (iblk m c 1 t)
        ∗ owns (c : Thread nD τ) (st0_2 t) fullShare (iblk m c 2 t) ∗ owns (c : Thread nD τ) (st0_3 t) fullShare (iblk m c 3 t)
        ∗ owns (c : Thread nD τ) (st0_4 t) fullShare (iblk m c 4 t) ∗ owns (c : Thread nD τ) (st0_5 t) fullShare (iblk m c 5 t)
        ∗ owns (c : Thread nD τ) (st0_6 t) fullShare d ∗ owns (c : Thread nD τ) (st0_7 t) fullShare d7
        ∗ (Later m c (t.val + 1) -∗ owns (c : Thread nD τ) (st0_0 t) fullShare (iblk m c 0 t) -∗ owns (c : Thread nD τ) (st0_1 t) fullShare (iblk m c 1 t)
            -∗ owns (c : Thread nD τ) (st0_2 t) fullShare (iblk m c 2 t) -∗ owns (c : Thread nD τ) (st0_3 t) fullShare (iblk m c 3 t)
            -∗ owns (c : Thread nD τ) (st0_4 t) fullShare (iblk m c 4 t) -∗ owns (c : Thread nD τ) (st0_5 t) fullShare (iblk m c 5 t)
            -∗ owns (c : Thread nD τ) (st0_6 t) fullShare (sumAt m c t) -∗ owns (c : Thread nD τ) (st0_7 t) fullShare (modAt m c t) -∗ K ⟨⟩))
      ⊢ wp frame (wpE (defs₀ (F := F)) Variants.none c none) Set.univ (bodyAt0 t) K := by
  unfold bodyAt0
  obtain ⟨-, k2, k3, k4⟩ := kinds t
  by_cases hN : t.val = 32
  · obtain ⟨h1, h2, h3, h4⟩ := k4 hN
    rw [body_last (grid0.coords t) _ _ _ _ _ _ _ _ _ _ _ _ _ _ _ _ h1 h2 h3 h4]
    exact point_last m c t hN d d7 K
  rcases Nat.mod_two_eq_zero_or_one t.val with hp | hp
  · obtain ⟨h1, h2, h3, h4⟩ := k2 ⟨h0, hN, hp⟩
    rw [body_even (grid0.coords t) _ _ _ _ _ _ _ _ _ _ _ _ _ _ _ _ h1 h2 h3 h4]
    exact point_mid m c t h0 hN 1 0 (by show 1 = _; omega) hp.symm d d7 K
  · obtain ⟨h1, h2, h3, h4⟩ := k3 hp
    rw [body_odd (grid0.coords t) _ _ _ _ _ _ _ _ _ _ _ _ _ _ _ _ h1 h2 h3 h4]
    exact point_mid m c t h0 hN 0 1 (by show 0 = _; omega) hp.symm d d7 K

/-! ## The run -/

def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => sumAt m c t
    | ⟨7, _⟩ => modAt m c t
  Φ t := Inv m c t.val
  q := Pipeline.shareOf spec0
  owed _ := 0

theorem A_eq (c : Dev nD) (w : Fin cfg0.W) : (dats m 0 c).A w = V m c (Pipeline.arrRef spec0 w) := by dsimp only [dats]
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = sumAt m c t := by dsimp only [dats]
theorem after_7 (c : Dev nD) (t : Fin cfg0.N) : (dats m 0 c).after 7 t = modAt m c t := by dsimp only [dats]

theorem before_0 (c : Dev nD) (t : Fin cfg0.N) (d) : (dats m 0 c).before 0 t d = iblk m c 0 t :=
  ((dats m 0 c).before_in_eq_fetched 0 rfl (fun _ => rfl) (fun _ _ _ => rfl)
    (fun t => by rw [after_0]; unfold Dat.blockOf iblk; rw [A_eq]; try rfl) t d).trans (by unfold Dat.fetched Dat.blockOf iblk; rw [A_eq]; try rfl)
theorem before_1 (c : Dev nD) (t : Fin cfg0.N) (d) : (dats m 0 c).before 1 t d = iblk m c 1 t :=
  ((dats m 0 c).before_in_eq_fetched 1 rfl (fun _ => rfl) (fun _ _ _ => rfl)
    (fun t => by rw [after_1]; unfold Dat.blockOf iblk; rw [A_eq]; try rfl) t d).trans (by unfold Dat.fetched Dat.blockOf iblk; rw [A_eq]; try rfl)
theorem before_2 (c : Dev nD) (t : Fin cfg0.N) (d) : (dats m 0 c).before 2 t d = iblk m c 2 t :=
  ((dats m 0 c).before_in_eq_fetched 2 rfl (fun _ => rfl) (fun _ _ _ => rfl)
    (fun t => by rw [after_2]; unfold Dat.blockOf iblk; rw [A_eq]; try rfl) t d).trans (by unfold Dat.fetched Dat.blockOf iblk; rw [A_eq]; try rfl)
theorem before_3 (c : Dev nD) (t : Fin cfg0.N) (d) : (dats m 0 c).before 3 t d = iblk m c 3 t :=
  ((dats m 0 c).before_in_eq_fetched 3 rfl (fun _ => rfl) (fun _ _ _ => rfl)
    (fun t => by rw [after_3]; unfold Dat.blockOf iblk; rw [A_eq]; try rfl) t d).trans (by unfold Dat.fetched Dat.blockOf iblk; rw [A_eq]; try rfl)
theorem before_4 (c : Dev nD) (t : Fin cfg0.N) (d) : (dats m 0 c).before 4 t d = iblk m c 4 t :=
  ((dats m 0 c).before_in_eq_fetched 4 rfl (fun _ => rfl) (fun _ _ _ => rfl)
    (fun t => by rw [after_4]; unfold Dat.blockOf iblk; rw [A_eq]; try rfl) t d).trans (by unfold Dat.fetched Dat.blockOf iblk; rw [A_eq]; try rfl)
theorem before_5 (c : Dev nD) (t : Fin cfg0.N) (d) : (dats m 0 c).before 5 t d = iblk m c 5 t :=
  ((dats m 0 c).before_in_eq_fetched 5 rfl (fun _ => rfl) (fun _ _ _ => rfl)
    (fun t => by rw [after_5]; unfold Dat.blockOf iblk; rw [A_eq]; try rfl) t d).trans (by unfold Dat.fetched Dat.blockOf iblk; rw [A_eq]; try rfl)

theorem row_eq (t : Fin cfg0.N) : defs₀ (F := F) .tc cfg0.body (cfg0.bodyArgs t (cfg0.slots t)) = bodyAt0 t := by
  unfold defs₀; rw [Defs.onTc_tc]

theorem obligation (c : Dev nD) : BodyObligationLoose (dats m 0 c) (defs₀ (F := F)) Variants.none () Set.univ := fun t => by
  rw [bigSep_W0, bigSep_W0, row_eq]
  simp only
  rw [show (dats m 0 c).Φ t.castSucc = Inv m c t.val from rfl, show (dats m 0 c).Φ t.succ = Inv m c (t.val + 1) from rfl, Inv_pos m c _ (Nat.succ_ne_zero _)]
  unfold Dat.owesAt Pipeline.owesWithin
  rw [show (dats m 0 c).owed t.castSucc = 0 from rfl, show (dats m 0 c).owed t.succ = 0 from rfl]
  by_cases h0 : t.val = 0
  · rw [show idle0 6 (grid0.coords t) = true from by rw [idle_at6, h0]; rfl, show (win0 6).flush t = false from by rw [flush_at6, h0]; rfl,
      show (win0 7).flush t = false from by rw [flush_at7, h0]; rfl,
      show Inv m c t.val = Pipeline.ΦD osem0 spec0 H0 (V m) c from by rw [h0, Inv_zero], show Later m c t.val.succ = Later m c 1 from by rw [h0]]
    simp only
    iintro ⟨HI, ⟨%O, -, HO⟩, ⟨%d0, H0⟩, ⟨%d1, H1⟩, ⟨%d2, H2⟩, ⟨%d3, H3⟩, ⟨%d4, H4⟩, ⟨%d5, H5⟩, H6, H7⟩
    rw [before_0 m c t d0, before_1 m c t d1, before_2 m c t d2, before_3 m c t d3, before_4 m c t d4, before_5 m c t d5, after_0, after_1, after_2, after_3, after_4, after_5]
    iapply (point_first m c t h0 _)
    isplitl [HI]; · iexact HI
    isplitl [HO]; · iexists O; iexact HO
    isplitl [H0]; · iexact H0
    iintro HI ⟨%O', HO⟩ H0
    isplitl [HI]; · iexact HI
    isplitl [HO]
    · iexists O'; isplitr; · ipureintro; exact fun _ _ => Or.inl trivial
      iexact HO
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  · rw [show idle0 6 (grid0.coords t) = false from by rw [idle_at6]; exact decide_eq_false h0, Inv_pos m c _ h0]
    simp only
    iintro ⟨HI, HO, ⟨%d0, H0⟩, ⟨%d1, H1⟩, ⟨%d2, H2⟩, ⟨%d3, H3⟩, ⟨%d4, H4⟩, ⟨%d5, H5⟩, ⟨%d6, H6⟩, ⟨%d7, H7⟩⟩
    rw [before_0 m c t d0, before_1 m c t d1, before_2 m c t d2, before_3 m c t d3, before_4 m c t d4, before_5 m c t d5, after_0, after_1, after_2, after_3, after_4, after_5, after_6, after_7]
    iapply (point_later m c t h0 _ _ _)
    isplitl [HI]; · iexact HI
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iintro HI H0 H1 H2 H3 H4 H5 H6 H7
    isplitl [HI]; · iexact HI
    isplitl [HO]; · iexact HO
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7

set_option maxHeartbeats 800000 in
theorem main_upto (𝒱₀ : Variants) : Pipeline.HMain (Ix := Unit) (Name := ℕ) (U := Pipeline.UD sig nD τ) (Lvl := ℕ) cfgs 0 defs₀ 𝒱₀ m (main (F := F)) (V m) :=
  Pipeline.hmain_prefix cfgs 0 defs₀ 𝒱₀ m main hostOps0 hostOps0_sub hostOps0_fresh main_chain

set_option backward.isDefEq.respectTransparency.types false in
theorem run : θ_run defs (onTc (τ := τ) (main (F := F))) (s₀ m ρ)
    (fun r => Pipeline.FramePost cfgs (dats m) 0 (V m) r ∧ r.2.sem = fun _ => 0) :=
  Pipeline.θ_run_frame_dma_shared (Q' := _) cfgs (dats m) (0 : Fin 1) launch₀0 osem0 defs₀ Variants.none ownSemFacts0 H0 H0_sub m ρ main
    (hbody := obligation m) (hq := fun _ _ _ => rfl) (howed := fun _ _ => rfl) (V := V m)
    (hmain := main_upto m Variants.none) (hA := A_eq m)
    (hin := fun c => by rw [show (dats m 0 c).Φ 0 = Inv m c 0 from rfl, Inv_zero])
    (hout := fun c => by
      rw [show (dats m 0 c).Φ (Fin.last cfg0.N) = Inv m c cfg0.N from rfl, Inv_pos m c _ (by rw [show cfg0.N = 33 from N_0]; decide)]
      exact later_out m c _)

/-- The run with the outputs named: it ends at what the points left, and the arguments as launched. -/
theorem named : θ_run defs (onTc (τ := τ) (main (F := F))) ⟨m, fun _ => 0, ρ⟩ (fun r => (∀ c : Dev nD,
      r.2.mem ((c.tc : Thread nD τ).loc main_v3_0) = (dats m 0 c).arrAt 6 cfg0.N
      ∧ r.2.mem ((c.tc : Thread nD τ).loc main_v3_1) = (dats m 0 c).arrAt 7 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun _ h => ⟨fun c => ⟨(h.1 c).1 6, (h.1 c).1 7,
      ((h.1 c).1 0).trans (((dats m 0 c).arrAt_in 0 rfl _).trans ((A_eq m c 0).trans (V_main_arg0 m c))),
      ((h.1 c).2 main_arg1 (Pipeline.mem_restRefs_of main_arg1 (by decide) (by decide))).trans (V_main_arg1 m c),
      ((h.1 c).1 1).trans (((dats m 0 c).arrAt_in 1 rfl _).trans ((A_eq m c 1).trans (V_main_arg2 m c))),
      ((h.1 c).2 main_arg3 (Pipeline.mem_restRefs_of main_arg3 (by decide) (by decide))).trans (V_main_arg3 m c),
      ((h.1 c).2 main_arg4 (Pipeline.mem_restRefs_of main_arg4 (by decide) (by decide))).trans (V_main_arg4 m c),
      ((h.1 c).2 main_arg5 (Pipeline.mem_restRefs_of main_arg5 (by decide) (by decide))).trans (V_main_arg5 m c)⟩, h.2⟩) (run m ρ)

/-- The frame: the arguments end as launched and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun _ h => ⟨fun c => (h.1 c).2.2, h.2⟩) (named m ρ)

end Cert.DownNextRun

end
-- ==== Proof.DownNextEqual.lean ====
/- The layer-ending down-projection call over the extended reals: the two results, of the kernel and of the reference, as
   x + (gate / 2) · (rows times columns) and its root-mean-square norm, scaled and shifted. -/
module

public import proofs.«01_k».proof.Proof.DownNextFrame
public import proofs.«01_k».proof.Proof.Dots
public import proofs.«01_k».proof.Proof.Gen.DownNextRefIdeal.Read
public import proofs.«01_k».proof.Proof.Gen.DownNextRefIdeal.Run

@[expose] public section

set_option maxRecDepth 16384

noncomputable section

namespace Cert.DownNextEqual

open Idealize.ShloMosaic Idealize.ShloMosaic.TcCoe Idealize.ShloMosaic.Tactic
open Cert.DownNextIdeal Cert.DownNextIdeal.Gen Cert.DownNextRun

/-- One, a half, the row length and the norm's small addend. -/
abbrev one : EReal := Scalar.ofBits (F := Ideal) .f32 0x3F800000#32
abbrev half : EReal := Scalar.ofBits (F := Ideal) .f32 0x3F000000#32
abbrev width : EReal := Scalar.ofBits (F := Ideal) .f32 0x45000000#32
abbrev small : EReal := Scalar.ofBits (F := Ideal) .f32 0x358637BD#32

/-- A row scaled by the reciprocal root of its mean square, and by `g`. -/
def normed (row : Fin 2048 → EReal) (g : EReal) (q : Fin 2048) : EReal :=
  row q * FloatOps.rsqrt (F := Ideal) (φ := .f32) (FloatOps.divf (F := Ideal) (φ := .f32) (∑ k : Fin 2048, row k * row k) width + small) * g

/-- The sum, which is the first result, at row `r` and column `q`. -/
def resid (act : FVec Ideal S8192x5504 .bf16) (w : FVec Ideal S4x2x5504x2048 .f32) (x : FVec Ideal S8192x2048 .f32)
    (mods : FVec Ideal S4x18432 .f32) (r : Fin 8192) (q : Fin 2048) : EReal :=
  x (ix2 r q) + half * mods (ix2 (⟨r.val / 2048, by have := r.isLt; omega⟩ : Fin 4) (⟨16384 + q.val, by have := q.isLt; omega⟩ : Fin 18432))
    * ∑ k : Fin 5504, act (ix2 r k) * w (ix4 (0 : Fin 4) (1 : Fin 2) k q)

/-- The call's results. -/
def result0 (act : FVec Ideal S8192x5504 .bf16) (w : FVec Ideal S4x2x5504x2048 .f32) (x : FVec Ideal S8192x2048 .f32)
    (mods : FVec Ideal S4x18432 .f32) : FVec Ideal S8192x2048 .f32 :=
  fun y => resid act w x mods (y 0) (y 1)
def result1 (act : FVec Ideal S8192x5504 .bf16) (w : FVec Ideal S4x2x5504x2048 .f32) (x : FVec Ideal S8192x2048 .f32)
    (mods next : FVec Ideal S4x18432 .f32) (g : FVec Ideal S2048 .f32) : FVec Ideal S8192x2048 .bf16 :=
  fun y => (normed (resid act w x mods (y 0)) (g (ix1 (y 1))) (y 1)
      * (one + next (ix2 (⟨(y 0).val / 2048, by have : (y 0).val < 8192 := (y 0).isLt; omega⟩ : Fin 4) (⟨2048 + (y 1).val, by have : (y 1).val < 2048 := (y 1).isLt; omega⟩ : Fin 18432)))
    + next (ix2 (⟨(y 0).val / 2048, by have : (y 0).val < 8192 := (y 0).isLt; omega⟩ : Fin 4) (⟨0 + (y 1).val, by have : (y 1).val < 2048 := (y 1).isLt; omega⟩ : Fin 18432)) : EReal)

/-! ## The products -/

section
variable {c : Dev nD} (x : FVec Ideal S256x5504 .bf16) (W : Buf (Elt Ideal) (wtM.view.loc (T c)))

/-- A block of the rounded weights reads the weights. -/
theorem rblk_apply (k : ℕ) (hk : k < 43) (p : Fin 128) (q : Fin 2048) :
    (rblk W k : FVec Ideal S128x2048 .bf16) (ix2 p q)
      = (W : FVec Ideal S4x2x5504x2048 .f32) (ix4 (0 : Fin 4) (1 : Fin 2) (⟨128 * k + p.val, by have := p.isLt; omega⟩ : Fin 5504) q) := by
  have hc : S1x1x128x2048.ShapeCasts S128x2048 := rfl
  refine (congrFun (Memref.read_squeeze_slice wtM (rBlk k) (fun _ => rfl) squeezes_S1x1x128x2048_S128x2048 hc W) (ix2 p q)).trans ?_
  refine (shapeCast_apply _ hc (ix2 p q) (ix4 (0 : Fin 1) (0 : Fin 1) p q) ?_).trans ?_
  · rw [Shape.rowMajor_val_four, Shape.rowMajor_val_two]
    show ((0 * 1 + 0) * 128 + p.val) * 2048 + q.val = p.val * 2048 + q.val
    omega
  refine congrArg W (funext fun a => Fin.ext ?_)
  have hm : k % 43 = k := Nat.mod_eq_of_lt hk
  match a with
  | ⟨0, _⟩ => rfl
  | ⟨1, _⟩ => rfl
  | ⟨2, _⟩ => show 128 * (k % 43) + 1 * p.val = 128 * k + p.val; rw [hm]; omega
  | ⟨3, _⟩ => show 0 + 1 * q.val = q.val; omega

/-- The summand of the whole product, at any number. -/
def term (p : Fin 256) (q : Fin 2048) (n : ℕ) : EReal :=
  if h : n < 5504 then x (ix2 p (⟨n, h⟩ : Fin 5504)) * (W : FVec Ideal S4x2x5504x2048 .f32) (ix4 (0 : Fin 4) (1 : Fin 2) (⟨n, h⟩ : Fin 5504) q) else 0

theorem part_apply (k : ℕ) (hk : k < 43) (p : Fin 256) (q : Fin 2048) :
    (part x W k : FVec Ideal S256x2048 .f32) (ix2 p q) = ∑ n ∈ Finset.range 128, term x W p q (128 * k + n) := by
  unfold part
  rw [Dots.product_apply dot_S256x128_S128x2048_S256x2048_1_0_0_1_n_n rfl, Finset.sum_range]
  refine Finset.sum_congr rfl fun n _ => ?_
  have hn := n.isLt
  have hm : k % 43 = k := Nat.mod_eq_of_lt hk
  rw [rblk_apply W k hk, term, dif_pos (by omega)]
  refine congrArg (fun a : EReal => a * _) (congrArg x (funext fun a => Fin.ext ?_))
  match a with
  | ⟨0, _⟩ => show 0 + 1 * p.val = p.val; omega
  | ⟨1, _⟩ => show 128 * (k % 43) + 1 * n.val = 128 * k + n.val; rw [hm]; omega

theorem acc_apply (p : Fin 256) (q : Fin 2048) : ∀ k, k < 43 →
    (acc x W k : FVec Ideal S256x2048 .f32) (ix2 p q) = ∑ n ∈ Finset.range (128 * (k + 1)), term x W p q n
  | 0, _ => by
    show (part x W 0 : FVec Ideal S256x2048 .f32) (ix2 p q) = _
    rw [part_apply x W 0 (by decide)]
    refine Finset.sum_congr rfl fun n _ => congrArg _ (by omega)
  | k + 1, hk => by
    show (acc x W k : FVec Ideal S256x2048 .f32) (ix2 p q) + (part x W (k + 1) : FVec Ideal S256x2048 .f32) (ix2 p q) = _
    rw [acc_apply p q k (by omega), part_apply x W (k + 1) hk, show 128 * (k + 1 + 1) = 128 * (k + 1) + 128 from rfl, Finset.sum_range_add]

/-- The first point's product, block by block, -/
theorem blocks_apply (p : Fin 256) (q : Fin 2048) :
    (acc x W 42 : FVec Ideal S256x2048 .f32) (ix2 p q)
      = ∑ k : Fin 5504, x (ix2 p k) * (W : FVec Ideal S4x2x5504x2048 .f32) (ix4 (0 : Fin 4) (1 : Fin 2) k q) := by
  rw [acc_apply x W p q 42 (by decide), show 128 * (42 + 1) = 5504 from rfl, Finset.sum_range]
  exact Finset.sum_congr rfl fun k _ => dif_pos k.isLt

/-- and the later points', whole. -/
theorem full_apply (p : Fin 256) (q : Fin 2048) :
    (full x (wbw W) : FVec Ideal S256x2048 .f32) (ix2 p q)
      = ∑ k : Fin 5504, x (ix2 p k) * (W : FVec Ideal S4x2x5504x2048 .f32) (ix4 (0 : Fin 4) (1 : Fin 2) k q) := by
  unfold full
  rw [Dots.product_apply dot_S256x5504_S5504x2048_S256x2048_1_0_0_1_n_n rfl]
  refine Finset.sum_congr rfl fun k _ => congrArg (fun a : EReal => x (ix2 p k) * a) ?_
  have hk := k.isLt
  show (rblk W (k.val / 128) : FVec Ideal S128x2048 .bf16) _ = _
  refine Eq.trans (congrArg _ ?_) ((rblk_apply W (k.val / 128) (by omega) (⟨k.val % 128, Nat.mod_lt _ (by decide)⟩ : Fin 128) q).trans ?_)
  · funext a
    match a with
    | ⟨0, _⟩ => rfl
    | ⟨1, _⟩ => rfl
  · refine congrArg _ (congrArg (fun n : Fin 5504 => ix4 (0 : Fin 4) (1 : Fin 2) n q) (Fin.ext ?_))
    show 128 * (k.val / 128) + k.val % 128 = k.val; omega
end

/-! ## The output blocks -/

section
variable (y x : FVec Ideal S256x2048 .f32) (gt sh sc : FVec Ideal S1x1x1x2048 .f32) (g : FVec Ideal S1x2048 .f32)

/-- The block before the norm. -/
def before : FVec Ideal S256x2048 .f32 :=
  addf x (mulf (broadcastTo S256x2048 (mulf (broadcast S1x2048 (Scalar.ofBits (F := Ideal) .f32 0x3F000000#32))
    (shapeCast S1x2048 gt shapeCasts_S1x1x1x2048_S1x2048)) broadcasts_S1x2048_S256x2048) y)

theorem before_apply (p : Fin 256) (q : Fin 2048) :
    before y x gt (ix2 p q) = x (ix2 p q) + half * gt (ix4 (0 : Fin 1) (0 : Fin 1) (0 : Fin 1) q) * y (ix2 p q) := by
  pointwise [before]

/-- The norm of a block. -/
def after (b : FVec Ideal S256x2048 .f32) : FVec Ideal S256x2048 .f32 :=
  mulf (mulf b (broadcastTo S256x2048 (rsqrt (addf (divf (shapeCast S256x1 (multiReduction .add [1] S256 (mulf b b) 0x00000000#32
      reduces_S256x2048_S256 (.inl rfl) rfl) shapeCasts_S256_S256x1) (broadcast S256x1 (Scalar.ofBits (F := Ideal) .f32 0x45000000#32)))
      (broadcast S256x1 (Scalar.ofBits (F := Ideal) .f32 0x358637BD#32)))) broadcasts_S256x1_S256x2048))
    (broadcastTo S256x2048 g broadcasts_S1x2048_S256x2048)

theorem after_apply (b : FVec Ideal S256x2048 .f32) (p : Fin 256) (q : Fin 2048) :
    after g b (ix2 p q) = normed (fun k => b (ix2 p k)) (g (ix2 (0 : Fin 1) q)) q := by
  pointwise [after]
  rfl

theorem sumv_eq : sumv (F := Ideal) y x gt = before y x gt := by
  unfold sumv sum1
  rw [shapeCast_shapeCast]
  rfl

/-- The norm scaled and shifted. -/
def moved (b : FVec Ideal S256x2048 .f32) : FVec Ideal S256x2048 .f32 :=
  addf (mulf b (broadcastTo S256x2048 (addf (broadcast S1x2048 (Scalar.ofBits (F := Ideal) .f32 0x3F800000#32))
      (shapeCast S1x2048 sc shapeCasts_S1x1x1x2048_S1x2048)) broadcasts_S1x2048_S256x2048))
    (broadcastTo S256x2048 (shapeCast S1x2048 sh shapeCasts_S1x1x1x2048_S1x2048) broadcasts_S1x2048_S256x2048)

theorem moved_apply (b : FVec Ideal S256x2048 .f32) (p : Fin 256) (q : Fin 2048) :
    moved sh sc b (ix2 p q) = b (ix2 p q) * (one + sc (ix4 (0 : Fin 1) (0 : Fin 1) (0 : Fin 1) q)) + sh (ix4 (0 : Fin 1) (0 : Fin 1) (0 : Fin 1) q) := by
  pointwise [moved]

theorem modv_eq : modv (F := Ideal) y x gt g sh sc = moved sh sc (after g (before y x gt)) := by
  unfold modv
  rw [sumv_eq]
  unfold mod1
  rw [shapeCast_self]
  rfl
end

/-! ## The array -/

section
variable (m : (ℓ : Loc nD τ sig) → Buf (Elt Ideal) ℓ)

theorem idx_facts : ∀ t : Fin cfg0.N, win0_0.index t (0 : Fin 2) = min t.val 31 ∧ win0_0.index t (1 : Fin 2) = 0
    ∧ win0_1.index t (0 : Fin 2) = t.val - 1 ∧ win0_1.index t (1 : Fin 2) = 0
    ∧ win0_3.index t (0 : Fin 2) = 0 ∧ win0_3.index t (1 : Fin 2) = 0
    ∧ win0_6.index t (0 : Fin 2) = t.val - 1 ∧ win0_6.index t (1 : Fin 2) = 0
    ∧ win0_7.index t (0 : Fin 2) = t.val - 1 ∧ win0_7.index t (1 : Fin 2) = 0 :=
  (by decide +kernel : ∀ t : Fin grid0.N, _)
theorem row_facts : ∀ t : Fin cfg0.N, (win0_2.index t (0 : Fin 4) = (t.val - 1) / 8 ∧ win0_2.index t (1 : Fin 4) = 8 ∧ win0_2.index t (2 : Fin 4) = 0 ∧ win0_2.index t (3 : Fin 4) = 0)
    ∧ (win0_4.index t (0 : Fin 4) = (t.val - 1) / 8 ∧ win0_4.index t (1 : Fin 4) = 0 ∧ win0_4.index t (2 : Fin 4) = 0 ∧ win0_4.index t (3 : Fin 4) = 0)
    ∧ win0_5.index t (0 : Fin 4) = (t.val - 1) / 8 ∧ win0_5.index t (1 : Fin 4) = 1 ∧ win0_5.index t (2 : Fin 4) = 0 ∧ win0_5.index t (3 : Fin 4) = 0 :=
  (by decide +kernel : ∀ t : Fin grid0.N, _)

/-- The two modulations and the scale as the region finds them. -/
theorem V_mods (c : Dev nD) : V m c main_v0
    = (shapeCast S4x9x1x2048 (m ((c : Thread nD τ).loc main_arg3) : FVec Ideal S4x18432 .f32) shapeCasts_S4x18432_S4x9x1x2048 : FVec Ideal S4x9x1x2048 .f32) := by
  simp only [V, hostOps0, List.flatten_cons, List.flatten_nil, List.append_nil, List.cons_append, List.nil_append, StableHlo.after_cons, StableHlo.after_nil]
  rfl
theorem V_next (c : Dev nD) : V m c main_v1
    = (shapeCast S4x9x1x2048 (m ((c : Thread nD τ).loc main_arg4) : FVec Ideal S4x18432 .f32) shapeCasts_S4x18432_S4x9x1x2048 : FVec Ideal S4x9x1x2048 .f32) := by
  simp only [V, hostOps0, List.flatten_cons, List.flatten_nil, List.append_nil, List.cons_append, List.nil_append, StableHlo.after_cons, StableHlo.after_nil]
  rfl
theorem V_scale (c : Dev nD) : V m c main_v2
    = (shapeCast S1x2048 (m ((c : Thread nD τ).loc main_arg5) : FVec Ideal S2048 .f32) shapeCasts_S2048_S1x2048 : FVec Ideal S1x2048 .f32) := by
  simp only [V, hostOps0, List.flatten_cons, List.flatten_nil, List.append_nil, List.cons_append, List.nil_append, StableHlo.after_cons, StableHlo.after_nil]
  rfl

theorem act_apply (c : Dev nD) (t : Fin cfg0.N) (p : Fin 256) (k : Fin 5504) (r : Fin 8192) (hr : r.val = 256 * min t.val 31 + p.val) :
    (iblk m c 0 t : Vec Ideal S256x5504 .bf16) (ix2 p k) = m ((c : Thread nD τ).loc main_arg0) (ix2 r k) := by
  obtain ⟨e0, e1, -⟩ := idx_facts t
  show V m c main_arg0 (((cfg0.win 0).blk t).view.emb (ix2 p k)) = _
  rw [V_main_arg0]
  refine congrArg _ (funext fun a => Fin.ext ?_)
  match a with
  | ⟨0, _⟩ => show win0_0.index t (0 : Fin 2) * 256 + 1 * p.val = r.val; rw [e0, hr]; omega
  | ⟨1, _⟩ => show win0_0.index t (1 : Fin 2) * 5504 + 1 * k.val = k.val; rw [e1]; omega

theorem x_apply (c : Dev nD) (t : Fin cfg0.N) (p : Fin 256) (q : Fin 2048) (r : Fin 8192) (hr : r.val = 256 * (t.val - 1) + p.val) :
    (iblk m c 1 t : Vec Ideal S256x2048 .f32) (ix2 p q) = m ((c : Thread nD τ).loc main_arg2) (ix2 r q) := by
  obtain ⟨-, -, e0, e1, -⟩ := idx_facts t
  show V m c main_arg2 (((cfg0.win 1).blk t).view.emb (ix2 p q)) = _
  rw [V_main_arg2]
  refine congrArg _ (funext fun a => Fin.ext ?_)
  match a with
  | ⟨0, _⟩ => show win0_1.index t (0 : Fin 2) * 256 + 1 * p.val = r.val; rw [e0, hr]; omega
  | ⟨1, _⟩ => show win0_1.index t (1 : Fin 2) * 2048 + 1 * q.val = q.val; rw [e1]; omega

theorem gate_apply (c : Dev nD) (t : Fin cfg0.N) (q : Fin 2048) (b : Fin 4) (hb : b.val = (t.val - 1) / 8) (s : Fin 18432) (hs : s.val = 16384 + q.val) :
    (iblk m c 2 t : Vec Ideal S1x1x1x2048 .f32) (ix4 (0 : Fin 1) (0 : Fin 1) (0 : Fin 1) q) = m ((c : Thread nD τ).loc main_arg3) (ix2 b s) := by
  obtain ⟨⟨e0, e1, e2, e3⟩, -⟩ := row_facts t
  have hq := q.isLt
  show V m c main_v0 (((cfg0.win 2).blk t).view.emb (ix4 (0 : Fin 1) (0 : Fin 1) (0 : Fin 1) q)) = _
  rw [V_mods]
  have e : ((cfg0.win 2).blk t).view.emb (ix4 (0 : Fin 1) (0 : Fin 1) (0 : Fin 1) q) = (ix4 b (8 : Fin 9) (0 : Fin 1) q : S4x9x1x2048.Idx) := by
    refine funext fun a => Fin.ext ?_
    match a with
    | ⟨0, _⟩ => show win0_2.index t (0 : Fin 4) * 1 + 1 * 0 = b.val; rw [e0, hb]; omega
    | ⟨1, _⟩ => show win0_2.index t (1 : Fin 4) * 1 + 1 * 0 = 8; rw [e1]
    | ⟨2, _⟩ => show win0_2.index t (2 : Fin 4) * 1 + 1 * 0 = 0; rw [e2]
    | ⟨3, _⟩ => show win0_2.index t (3 : Fin 4) * 2048 + 1 * q.val = q.val; rw [e3]; omega
  rw [e]
  refine shapeCast_apply _ _ _ (ix2 b s) ?_
  rw [Shape.rowMajor_val_two, Shape.rowMajor_val_four]
  show b.val * 18432 + s.val = ((b.val * 9 + 8) * 1 + 0) * 2048 + q.val
  omega

theorem shift_apply (c : Dev nD) (t : Fin cfg0.N) (q : Fin 2048) (b : Fin 4) (hb : b.val = (t.val - 1) / 8) (s : Fin 18432) (hs : s.val = 0 + q.val) :
    (iblk m c 4 t : Vec Ideal S1x1x1x2048 .f32) (ix4 (0 : Fin 1) (0 : Fin 1) (0 : Fin 1) q) = m ((c : Thread nD τ).loc main_arg4) (ix2 b s) := by
  obtain ⟨-, ⟨e0, e1, e2, e3⟩, -⟩ := row_facts t
  have hq := q.isLt
  show V m c main_v1 (((cfg0.win 4).blk t).view.emb (ix4 (0 : Fin 1) (0 : Fin 1) (0 : Fin 1) q)) = _
  rw [V_next]
  have e : ((cfg0.win 4).blk t).view.emb (ix4 (0 : Fin 1) (0 : Fin 1) (0 : Fin 1) q) = (ix4 b (0 : Fin 9) (0 : Fin 1) q : S4x9x1x2048.Idx) := by
    refine funext fun a => Fin.ext ?_
    match a with
    | ⟨0, _⟩ => show win0_4.index t (0 : Fin 4) * 1 + 1 * 0 = b.val; rw [e0, hb]; omega
    | ⟨1, _⟩ => show win0_4.index t (1 : Fin 4) * 1 + 1 * 0 = 0; rw [e1]
    | ⟨2, _⟩ => show win0_4.index t (2 : Fin 4) * 1 + 1 * 0 = 0; rw [e2]
    | ⟨3, _⟩ => show win0_4.index t (3 : Fin 4) * 2048 + 1 * q.val = q.val; rw [e3]; omega
  rw [e]
  refine shapeCast_apply _ _ _ (ix2 b s) ?_
  rw [Shape.rowMajor_val_two, Shape.rowMajor_val_four]
  show b.val * 18432 + s.val = ((b.val * 9 + 0) * 1 + 0) * 2048 + q.val
  omega

theorem factor_apply (c : Dev nD) (t : Fin cfg0.N) (q : Fin 2048) (b : Fin 4) (hb : b.val = (t.val - 1) / 8) (s : Fin 18432) (hs : s.val = 2048 + q.val) :
    (iblk m c 5 t : Vec Ideal S1x1x1x2048 .f32) (ix4 (0 : Fin 1) (0 : Fin 1) (0 : Fin 1) q) = m ((c : Thread nD τ).loc main_arg4) (ix2 b s) := by
  obtain ⟨-, -, e0, e1, e2, e3⟩ := row_facts t
  have hq := q.isLt
  show V m c main_v1 (((cfg0.win 5).blk t).view.emb (ix4 (0 : Fin 1) (0 : Fin 1) (0 : Fin 1) q)) = _
  rw [V_next]
  have e : ((cfg0.win 5).blk t).view.emb (ix4 (0 : Fin 1) (0 : Fin 1) (0 : Fin 1) q) = (ix4 b (1 : Fin 9) (0 : Fin 1) q : S4x9x1x2048.Idx) := by
    refine funext fun a => Fin.ext ?_
    match a with
    | ⟨0, _⟩ => show win0_5.index t (0 : Fin 4) * 1 + 1 * 0 = b.val; rw [e0, hb]; omega
    | ⟨1, _⟩ => show win0_5.index t (1 : Fin 4) * 1 + 1 * 0 = 1; rw [e1]
    | ⟨2, _⟩ => show win0_5.index t (2 : Fin 4) * 1 + 1 * 0 = 0; rw [e2]
    | ⟨3, _⟩ => show win0_5.index t (3 : Fin 4) * 2048 + 1 * q.val = q.val; rw [e3]; omega
  rw [e]
  refine shapeCast_apply _ _ _ (ix2 b s) ?_
  rw [Shape.rowMajor_val_two, Shape.rowMajor_val_four]
  show b.val * 18432 + s.val = ((b.val * 9 + 1) * 1 + 0) * 2048 + q.val
  omega

theorem scale_apply (c : Dev nD) (t : Fin cfg0.N) (q : Fin 2048) :
    (iblk m c 3 t : Vec Ideal S1x2048 .f32) (ix2 (0 : Fin 1) q) = m ((c : Thread nD τ).loc main_arg5) (ix1 q) := by
  obtain ⟨-, -, -, -, e0, e1, -⟩ := idx_facts t
  show V m c main_v2 (((cfg0.win 3).blk t).view.emb (ix2 (0 : Fin 1) q)) = _
  rw [V_scale]
  have e : ((cfg0.win 3).blk t).view.emb (ix2 (0 : Fin 1) q) = (ix2 (0 : Fin 1) q : S1x2048.Idx) := by
    refine funext fun a => Fin.ext ?_
    match a with
    | ⟨0, _⟩ => show win0_3.index t (0 : Fin 2) * 1 + 1 * 0 = 0; rw [e0]
    | ⟨1, _⟩ => show win0_3.index t (1 : Fin 2) * 2048 + 1 * q.val = q.val; rw [e1]; omega
  rw [e]
  refine shapeCast_apply _ _ _ (ix1 q) ?_
  rw [Shape.rowMajor_val_one, Shape.rowMajor_val_two]
  show q.val = 0 * 2048 + q.val
  omega

/-- A point's product: the rows of its block times the columns. -/
theorem prod_apply (c : Dev nD) (n : ℕ) (hn : n < 32) (p : Fin 256) (q : Fin 2048) (r : Fin 8192) (hr : r.val = 256 * n + p.val)
    (act : FVec Ideal S8192x5504 .bf16) (ha : m ((c : Thread nD τ).loc main_arg0) = act)
    (w : FVec Ideal S4x2x5504x2048 .f32) (he : m ((c : Thread nD τ).loc main_arg1) = w) :
    DownNextRun.prod m c n (ix2 p q) = ∑ k : Fin 5504, act (ix2 r k) * w (ix4 (0 : Fin 4) (1 : Fin 2) k q) := by
  subst ha he
  have hw : Wt m c = m ((c : Thread nD τ).loc main_arg1) := V_main_arg1 m c
  have hv : (pt n).val = n := Nat.mod_eq_of_lt (by omega)
  have hx : ∀ k : Fin 5504, (iblk m c 0 (pt n) : Vec Ideal S256x5504 .bf16) (ix2 p k) = m ((c : Thread nD τ).loc main_arg0) (ix2 r k) :=
    fun k => act_apply m c (pt n) p k r (by rw [hv, hr]; omega)
  unfold DownNextRun.prod
  rw [hw]
  by_cases h : n = 0
  · rw [if_pos h, blocks_apply]
    exact Finset.sum_congr rfl fun k _ => congrArg (fun a : EReal => a * _) (hx k)
  · rw [if_neg h, full_apply]
    exact Finset.sum_congr rfl fun k _ => congrArg (fun a : EReal => a * _) (hx k)

/-- The results at the arguments. -/
abbrev out0 (c : Dev nD) : FVec Ideal S8192x2048 .f32 :=
  result0 (m ((c : Thread nD τ).loc main_arg0)) (m ((c : Thread nD τ).loc main_arg1)) (m ((c : Thread nD τ).loc main_arg2)) (m ((c : Thread nD τ).loc main_arg3))
abbrev out1 (c : Dev nD) : FVec Ideal S8192x2048 .bf16 :=
  result1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))

theorem sum_apply (c : Dev nD) (t : Fin cfg0.N) (h : t.val ≠ 0) (p : Fin 256) (k : Fin 2048) (r : Fin 8192) (hr : r.val = 256 * (t.val - 1) + p.val) :
    before (DownNextRun.prod m c (t.val - 1)) (iblk m c 1 t) (iblk m c 2 t) (ix2 p k) = resid (m ((c : Thread nD τ).loc main_arg0)) (m ((c : Thread nD τ).loc main_arg1)) (m ((c : Thread nD τ).loc main_arg2)) (m ((c : Thread nD τ).loc main_arg3)) r k := by
  have ht := bound t
  have hp := p.isLt
  have hk := k.isLt
  rw [before_apply, x_apply m c t p k r hr, prod_apply m c (t.val - 1) (by omega) p k r hr _ rfl _ rfl,
    gate_apply m c t k (⟨r.val / 2048, by omega⟩ : Fin 4) (by show r.val / 2048 = _; omega) (⟨16384 + k.val, by omega⟩ : Fin 18432) rfl]
  rfl

theorem sumAt_apply (c : Dev nD) (t : Fin cfg0.N) (h : t.val ≠ 0) (p : Fin 256) (q : Fin 2048) (r : Fin 8192) (hr : r.val = 256 * (t.val - 1) + p.val) :
    sumAt m c t (ix2 p q) = out0 m c (ix2 r q) := by
  unfold sumAt
  rw [sumv_eq]
  exact sum_apply m c t h p q r hr

theorem modAt_apply (c : Dev nD) (t : Fin cfg0.N) (h : t.val ≠ 0) (p : Fin 256) (q : Fin 2048) (r : Fin 8192) (hr : r.val = 256 * (t.val - 1) + p.val) :
    modAt m c t (ix2 p q) = out1 m c (ix2 r q) := by
  have ht := bound t
  have hp := p.isLt
  have hq := q.isLt
  unfold modAt
  rw [modv_eq]
  refine (moved_apply _ _ _ p q).trans ?_
  rw [after_apply, scale_apply,
    factor_apply m c t q (⟨r.val / 2048, by omega⟩ : Fin 4) (by show r.val / 2048 = _; omega) (⟨2048 + q.val, by omega⟩ : Fin 18432) rfl,
    shift_apply m c t q (⟨r.val / 2048, by omega⟩ : Fin 4) (by show r.val / 2048 = _; omega) (⟨0 + q.val, by omega⟩ : Fin 18432) rfl,
    show (fun k => before (DownNextRun.prod m c (t.val - 1)) (iblk m c 1 t) (iblk m c 2 t) (ix2 p k)) = resid (m ((c : Thread nD τ).loc main_arg0)) (m ((c : Thread nD τ).loc main_arg1)) (m ((c : Thread nD τ).loc main_arg2)) (m ((c : Thread nD τ).loc main_arg3)) r from
      funext fun k => sum_apply m c t h p k r hr]
  rfl

/-- Each flushed block is its block of the result. -/
theorem flushed_eq6 (c : Dev nD) (t : Fin cfg0.N) (hf : (cfg0.win 6).flush t = true) :
    (dats m 0 c).flushed 6 t = ((cfg0.win 6).blk t).view.read (Elt Ideal) (out0 m c) := by
  have h : t.val ≠ 0 := by
    intro h
    have e := flush_at6 t
    rw [show (win0 6).flush t = true from hf, h] at e
    exact absurd e (by decide)
  have ht := bound t
  obtain ⟨-, -, -, -, -, -, i0, i1, -⟩ := idx_facts t
  show (cfg0.win 6).cut (grid0.coords t) ((dats m 0 c).after 6 t) = _
  rw [after_6]
  funext j
  have l0 : (j 0).val < 256 := (j 0).isLt
  have l1 : (j 1).val < 2048 := (j 1).isLt
  have ej : (cfg0.win 6).xinj (grid0.coords t) j = (ix2 (⟨(j 0).val, l0⟩ : Fin 256) (⟨(j 1).val, l1⟩ : Fin 2048) : S256x2048.Idx) :=
    funext fun a => Fin.ext (by match a with | ⟨0, _⟩ => rfl | ⟨1, _⟩ => rfl)
  have ei : ((cfg0.win 6).blk t).view.emb j
      = (ix2 (⟨256 * (t.val - 1) + (j 0).val, by omega⟩ : Fin 8192) (⟨(j 1).val, l1⟩ : Fin 2048) : S8192x2048.Idx) := by
    refine funext fun a => Fin.ext ?_
    match a with
    | ⟨0, _⟩ => show win0_6.index t (0 : Fin 2) * 256 + 1 * (j 0).val = 256 * (t.val - 1) + (j 0).val; rw [i0]; omega
    | ⟨1, _⟩ => show win0_6.index t (1 : Fin 2) * 2048 + 1 * (j 1).val = (j 1).val; rw [i1]; omega
  show sumAt m c t ((cfg0.win 6).xinj (grid0.coords t) j) = out0 m c (((cfg0.win 6).blk t).view.emb j)
  rw [ej, ei]
  exact sumAt_apply m c t h _ _ _ rfl

/-- The flushed blocks fill the array. -/
theorem cover6 (i : S8192x2048.Idx) : ∃ t : Fin cfg0.N, (cfg0.win 6).flush t = true ∧ i ∈ ((cfg0.win 6).blk t).view.set := by
  have hi0 : (i 0).val < 8192 := (i 0).isLt
  have hi1 : (i 1).val < 2048 := (i 1).isLt
  have ht : (i 0).val / 256 + 1 < cfg0.N := by rw [show cfg0.N = 33 from N_0]; omega
  generalize hT : (⟨_, ht⟩ : Fin cfg0.N) = t
  have hv : t.val = (i 0).val / 256 + 1 := by rw [← hT]
  refine ⟨t, (flush_at6 t).trans (by rw [hv]; rfl), ?_⟩
  obtain ⟨-, -, -, -, -, -, i0, i1, -⟩ := idx_facts t
  rw [View.set_slice_whole, Rect.mem_set_unit]
  intro a
  match a with
  | ⟨0, _⟩ =>
    show win0_6.index t (0 : Fin 2) * 256 ≤ (i 0).val ∧ (i 0).val < win0_6.index t (0 : Fin 2) * 256 + 256
    rw [i0]; omega
  | ⟨1, _⟩ =>
    show win0_6.index t (1 : Fin 2) * 2048 ≤ (i 1).val ∧ (i 1).val < win0_6.index t (1 : Fin 2) * 2048 + 2048
    rw [i1]; omega

/-- The array after the run. -/
theorem final6 (c : Dev nD) : (dats m 0 c).arrAt 6 cfg0.N = out0 m c :=
  (dats m 0 c).arrAt_eq_of_cover 6 (out0 m c) (fun t ht => flushed_eq6 m c t ht) cover6

/-- Each flushed block is its block of the result. -/
theorem flushed_eq7 (c : Dev nD) (t : Fin cfg0.N) (hf : (cfg0.win 7).flush t = true) :
    (dats m 0 c).flushed 7 t = ((cfg0.win 7).blk t).view.read (Elt Ideal) (out1 m c) := by
  have h : t.val ≠ 0 := by
    intro h
    have e := flush_at7 t
    rw [show (win0 7).flush t = true from hf, h] at e
    exact absurd e (by decide)
  have ht := bound t
  obtain ⟨-, -, -, -, -, -, -, -, i0, i1⟩ := idx_facts t
  show (cfg0.win 7).cut (grid0.coords t) ((dats m 0 c).after 7 t) = _
  rw [after_7]
  funext j
  have l0 : (j 0).val < 256 := (j 0).isLt
  have l1 : (j 1).val < 2048 := (j 1).isLt
  have ej : (cfg0.win 7).xinj (grid0.coords t) j = (ix2 (⟨(j 0).val, l0⟩ : Fin 256) (⟨(j 1).val, l1⟩ : Fin 2048) : S256x2048.Idx) :=
    funext fun a => Fin.ext (by match a with | ⟨0, _⟩ => rfl | ⟨1, _⟩ => rfl)
  have ei : ((cfg0.win 7).blk t).view.emb j
      = (ix2 (⟨256 * (t.val - 1) + (j 0).val, by omega⟩ : Fin 8192) (⟨(j 1).val, l1⟩ : Fin 2048) : S8192x2048.Idx) := by
    refine funext fun a => Fin.ext ?_
    match a with
    | ⟨0, _⟩ => show win0_7.index t (0 : Fin 2) * 256 + 1 * (j 0).val = 256 * (t.val - 1) + (j 0).val; rw [i0]; omega
    | ⟨1, _⟩ => show win0_7.index t (1 : Fin 2) * 2048 + 1 * (j 1).val = (j 1).val; rw [i1]; omega
  show modAt m c t ((cfg0.win 7).xinj (grid0.coords t) j) = out1 m c (((cfg0.win 7).blk t).view.emb j)
  rw [ej, ei]
  exact modAt_apply m c t h _ _ _ rfl

/-- The flushed blocks fill the array. -/
theorem cover7 (i : S8192x2048.Idx) : ∃ t : Fin cfg0.N, (cfg0.win 7).flush t = true ∧ i ∈ ((cfg0.win 7).blk t).view.set := by
  have hi0 : (i 0).val < 8192 := (i 0).isLt
  have hi1 : (i 1).val < 2048 := (i 1).isLt
  have ht : (i 0).val / 256 + 1 < cfg0.N := by rw [show cfg0.N = 33 from N_0]; omega
  generalize hT : (⟨_, ht⟩ : Fin cfg0.N) = t
  have hv : t.val = (i 0).val / 256 + 1 := by rw [← hT]
  refine ⟨t, (flush_at7 t).trans (by rw [hv]; rfl), ?_⟩
  obtain ⟨-, -, -, -, -, -, -, -, i0, i1⟩ := idx_facts t
  rw [View.set_slice_whole, Rect.mem_set_unit]
  intro a
  match a with
  | ⟨0, _⟩ =>
    show win0_7.index t (0 : Fin 2) * 256 ≤ (i 0).val ∧ (i 0).val < win0_7.index t (0 : Fin 2) * 256 + 256
    rw [i0]; omega
  | ⟨1, _⟩ =>
    show win0_7.index t (1 : Fin 2) * 2048 ≤ (i 1).val ∧ (i 1).val < win0_7.index t (1 : Fin 2) * 2048 + 2048
    rw [i1]; omega

/-- The array after the run. -/
theorem final7 (c : Dev nD) : (dats m 0 c).arrAt 7 cfg0.N = out1 m c :=
  (dats m 0 c).arrAt_eq_of_cover 7 (out1 m c) (fun t ht => flushed_eq7 m c t ht) cover7

end

/-! ## The reference -/

section
open Cert.DownNextRefIdeal.Read

theorem ref_resid (x0 : FVec Ideal S8192x5504 .bf16) (x1 : FVec Ideal S4x2x5504x2048 .f32) (x2 : FVec Ideal S8192x2048 .f32)
    (x3 : FVec Ideal S4x18432 .f32) (r : Fin 8192) (q : Fin 2048) (i : Cert.DownNextRefIdeal.S4x2048x2048.Idx)
    (h0 : (i 0).val = r.val / 2048) (h1 : (i 1).val = r.val % 2048) (h2 : (i 2).val = q.val) :
    val_main_v20 (F := Ideal) x0 x1 x2 x3 i = resid x0 x1 x2 x3 r q := by
  have hr := r.isLt
  have hq := q.isLt
  rw [val_main_v20_apply, val_main_v2_apply, val_main_v19_apply, val_main_v18_apply, val_main_v14_apply, val_main_v13_apply, val_main_cst_apply,
    val_main_v12_apply, val_main_v3_apply, val_main_v17_apply]
  refine congrArg₂ (fun a b : EReal => a + b) (congrArg x2 (funext fun a => Fin.ext ?_))
    (congrArg₂ (fun a b : EReal => a * b) (congrArg (fun a : EReal => half * a) (congrArg x3 (funext fun a => Fin.ext ?_)))
      (Finset.sum_congr rfl fun k _ => ?_))
  · match a with
    | ⟨0, _⟩ => show (((i 0).val * 2048 + (i 1).val) * 2048 + (i 2).val) / 2048 = r.val; omega
    | ⟨1, _⟩ => show (((i 0).val * 2048 + (i 1).val) * 2048 + (i 2).val) % 2048 = q.val; omega
  · match a with
    | ⟨0, _⟩ => exact h0
    | ⟨1, _⟩ => show 16384 + (i 2).val = 16384 + q.val; omega
  · have hk := k.isLt
    rw [val_main_v1_apply, val_main_v0_apply, val_main_v16_apply, val_main_v15_apply]
    refine congrArg₂ (fun a b : EReal => a * b) (congrArg x0 (funext fun a => Fin.ext ?_)) (congrArg x1 (funext fun a => Fin.ext ?_))
    · match a with
      | ⟨0, _⟩ => show (((i 0).val * 2048 + (i 1).val) * 5504 + k.val) / 5504 = r.val; omega
      | ⟨1, _⟩ => show (((i 0).val * 2048 + (i 1).val) * 5504 + k.val) % 5504 = k.val; omega
    · match a with
      | ⟨0, _⟩ => rfl
      | ⟨1, _⟩ => rfl
      | ⟨2, _⟩ => show (k.val * 2048 + (i 2).val) / 2048 % 5504 = k.val; omega
      | ⟨3, _⟩ => show (k.val * 2048 + (i 2).val) % 2048 = q.val; omega

/-- The reference's results. -/
theorem ref_eq0 (x0 : FVec Ideal S8192x5504 .bf16) (x1 : FVec Ideal S4x2x5504x2048 .f32) (x2 : FVec Ideal S8192x2048 .f32)
    (x3 : FVec Ideal S4x18432 .f32) :
    val_main_v50 (F := Ideal) x0 x1 x2 x3 = result0 x0 x1 x2 x3 := by
  refine funext fun (y : S8192x2048.Idx) => ?_
  have h0 : (y 0).val < 8192 := (y 0).isLt
  have h1 : (y 1).val < 2048 := (y 1).isLt
  rw [val_main_v50_apply, ref_resid x0 x1 x2 x3 (y 0) (y 1) (idx_main_v50 y)
    (by show ((y 0).val * 2048 + (y 1).val) / 4194304 = (y 0).val / 2048; omega)
    (by show ((y 0).val * 2048 + (y 1).val) / 2048 % 2048 = (y 0).val % 2048; omega)
    (by show ((y 0).val * 2048 + (y 1).val) % 2048 = (y 1).val; omega)]
  rfl

theorem ref_eq1 (x0 : FVec Ideal S8192x5504 .bf16) (x1 : FVec Ideal S4x2x5504x2048 .f32) (x2 : FVec Ideal S8192x2048 .f32)
    (x3 : FVec Ideal S4x18432 .f32) (x4 : FVec Ideal S4x18432 .f32) (x5 : FVec Ideal S2048 .f32) :
    val_main_v52 (F := Ideal) x0 x1 x2 x3 x4 x5 = result1 x0 x1 x2 x3 x4 x5 := by
  refine funext fun (y : S8192x2048.Idx) => ?_
  have h0 : (y 0).val < 8192 := (y 0).isLt
  have h1 : (y 1).val < 2048 := (y 1).isLt
  rw [val_main_v52_apply, val_main_v51_apply, val_main_v49_apply, val_main_v48_apply, val_main_v22_apply, val_main_v47_apply, val_main_v46_apply, val_main_v45_apply,
    val_main_v44_apply, val_main_cst_3_apply, val_main_v23_apply, val_main_v43_apply, val_main_v40_apply, val_main_v39_apply, val_main_v38_apply, val_main_v37_apply, val_main_v35_apply,
    val_main_v36_apply, val_main_cst_2_apply, val_main_v34_apply, val_main_cst_1_apply, val_main_v33_apply, val_main_v32_apply,
    val_main_cst_0_apply, val_main_v42_apply, val_main_v41_apply]
  rw [ref_resid x0 x1 x2 x3 (y 0) (y 1) (idx_main_v51 y)
    (by show ((y 0).val * 2048 + (y 1).val) / 4194304 = (y 0).val / 2048; omega)
    (by show ((y 0).val * 2048 + (y 1).val) / 2048 % 2048 = (y 0).val % 2048; omega)
    (by show ((y 0).val * 2048 + (y 1).val) % 2048 = (y 1).val; omega)]
  have hs : ∀ k : Fin 2048, val_main_v31 (F := Ideal) x0 x1 x2 x3 (idx_main_v32 (idx_main_v33 (idx_main_v39 (idx_main_v51 y))) k)
      = resid x0 x1 x2 x3 (y 0) k * resid x0 x1 x2 x3 (y 0) k := fun k => by
    rw [val_main_v31_apply, ref_resid x0 x1 x2 x3 (y 0) k _
      (by show ((y 0).val * 2048 + (y 1).val) / 4194304 = (y 0).val / 2048; omega)
      (by show ((y 0).val * 2048 + (y 1).val) / 2048 % 2048 = (y 0).val % 2048; omega) rfl]
    rfl
  rw [Finset.sum_congr rfl fun k _ => hs k]
  have hz : (FloatOps.ofBits (F := Ideal) .f32 0x00000000#32 : EReal) = 0 := Ideal.ofBits_zero_f32
  rw [hz, zero_add]
  have hg : x5 (idx_main_v41 (idx_main_v42 (idx_main_v51 y))) = x5 (ix1 (y 1)) := congrArg x5 (funext fun a => Fin.ext (by
    match a with
    | ⟨0, _⟩ => show ((y 0).val * 2048 + (y 1).val) % 2048 = (y 1).val; omega))
  have ha : val_main_v21 (F := Ideal) x4 (idx_main_v23 (idx_main_v46 (idx_main_v51 y))) = x4 (ix2 (⟨(y 0).val / 2048, by have : (y 0).val < 8192 := (y 0).isLt; omega⟩ : Fin 4) (⟨2048 + (y 1).val, by have : (y 1).val < 2048 := (y 1).isLt; omega⟩ : Fin 18432)) := by
    rw [val_main_v21_apply]
    refine congrArg x4 (funext fun a => Fin.ext ?_)
    match a with
    | ⟨0, _⟩ => show ((y 0).val * 2048 + (y 1).val) / 4194304 = (y 0).val / 2048; omega
    | ⟨1, _⟩ => show 2048 + ((y 0).val * 2048 + (y 1).val) % 2048 = 2048 + (y 1).val; omega
  have hb : val_main_v21 (F := Ideal) x4 (idx_main_v22 (idx_main_v48 (idx_main_v51 y))) = x4 (ix2 (⟨(y 0).val / 2048, by have : (y 0).val < 8192 := (y 0).isLt; omega⟩ : Fin 4) (⟨0 + (y 1).val, by have : (y 1).val < 2048 := (y 1).isLt; omega⟩ : Fin 18432)) := by
    rw [val_main_v21_apply]
    refine congrArg x4 (funext fun a => Fin.ext ?_)
    match a with
    | ⟨0, _⟩ => show ((y 0).val * 2048 + (y 1).val) / 4194304 = (y 0).val / 2048; omega
    | ⟨1, _⟩ => show ((y 0).val * 2048 + (y 1).val) % 2048 = 0 + (y 1).val; omega
  rw [hg, ha, hb]
  rfl
end

end Cert.DownNextEqual

end
-- ==== Proof.lean ====
module

public import proofs.«01_k».proof.Defs
public import proofs.«01_k».proof.Proof.Gen.Kernel.Frame
public import proofs.«01_k».proof.Proof.Gen.KernelIdeal.Value
public import proofs.«01_k».proof.Proof.Gen.ReferenceIdeal.Run
public import proofs.«01_k».proof.Proof.Gen.ReferenceIdeal.Step
public import proofs.«01_k».proof.Proof.Gen.Pre_finite
public import proofs.«01_k».proof.Proof.Equal
public import proofs.«01_k».proof.Proof.Gen.GluIdeal.Value
public import proofs.«01_k».proof.Proof.Gen.ProjIdeal.Value
public import proofs.«01_k».proof.Proof.Gen.Swiglu.Frame
public import proofs.«01_k».proof.Proof.Gen.SwigluIdeal.Frame
public import proofs.«01_k».proof.Proof.Gen.SwigluIdeal.Skeleton
public import proofs.«01_k».proof.Proof.Gen.SwigluRefIdeal.Read
public import proofs.«01_k».proof.Proof.Gen.GluRefIdeal.Read
public import proofs.«01_k».proof.Proof.Gen.ProjRefIdeal.Read
public import proofs.«01_k».proof.Proof.Gen.Glu.Frame
public import proofs.«01_k».proof.Proof.Gen.Proj.Frame
public import proofs.«01_k».proof.Proof.SwigluEqual
public import proofs.«01_k».proof.Proof.GluEqual
public import proofs.«01_k».proof.Proof.ProjEqual
public import proofs.«01_k».proof.Proof.DownEqual
public import proofs.«01_k».proof.Proof.DownModEqual
public import proofs.«01_k».proof.Proof.DownNextEqual
public import proofs.«01_k».proof.Proof.Gen.Down.Frame
public import proofs.«01_k».proof.Proof.Gen.DownIdeal.Frame
public import proofs.«01_k».proof.Proof.Gen.DownRefIdeal.Read
public import proofs.«01_k».proof.Proof.Gen.DownRefIdeal.Run
public import proofs.«01_k».proof.Proof.Gen.DownMod.Frame
public import proofs.«01_k».proof.Proof.Gen.DownModIdeal.Frame
public import proofs.«01_k».proof.Proof.Gen.DownModIdeal.Skeleton
public import proofs.«01_k».proof.Proof.Gen.DownModRefIdeal.Read
public import proofs.«01_k».proof.Proof.Gen.DownModRefIdeal.Run
public import proofs.«01_k».proof.Proof.Gen.DownNext.Frame
public import proofs.«01_k».proof.Proof.Gen.DownNextIdeal.Frame
public import proofs.«01_k».proof.Proof.Gen.DownNextIdeal.Skeleton
public import proofs.«01_k».proof.Proof.Gen.DownNextRefIdeal.Read
public import proofs.«01_k».proof.Proof.Gen.DownNextRefIdeal.Run
public import Idealize.ShloMosaic.Adequacy
public import Idealize.ShloMosaic.Init
public import Idealize.ShloMosaic.Lib.Quiescent

@[expose] public section

noncomputable section

namespace Cert.Proof

open Idealize.ShloMosaic Idealize.SL.Sem

theorem reference_frame : quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

theorem algebraic : algebraic_KernelIdeal_ReferenceIdeal_pre_finite := by
  intro m ρ m' ρ' hpre hagree
  refine ⟨_, Cert.KernelIdeal.Value.run (F := Ideal) m ρ, ?_⟩
  refine (θ_run Cert.ReferenceIdeal.defs _ _).mono (fun _ h c => ⟨(h c).1.trans ?_, (h c).2⟩) (Cert.GlaRefLoop.run (F := Ideal) m' ρ')
  have hA := Cert.GlaEqual.holds _ _ _ _ (hpre c).1 (hpre c).2.1 (hpre c).2.2.1 (hpre c).2.2.2
  have hs : Cert.GlaRefLoop.start m' c = Cert.ReferenceIdeal.Step.init (F := Ideal) _ _ _ _ :=
    congr (congr (congr (congrArg Cert.ReferenceIdeal.Step.init (hagree c).1) (hagree c).2.1) (hagree c).2.2.1) (hagree c).2.2.2
  rw [hs]
  exact Cert.GlaEqual.same hA (Cert.GlaRef.after_trips (Cert.GlaRef.after_init hA) 32 le_rfl)

/-- The feed-forward program and its ideal one have the same body table. -/
theorem swiglu_bodies : Cert.Swiglu.defs₀ (F := Bits) = Cert.SwigluIdeal.defs₀ (F := Bits) := by
  unfold Cert.Swiglu.defs₀ Cert.SwigluIdeal.defs₀
  refine congrArg Defs.onTc (funext fun l => funext fun a => ?_)
  match l, a with
  | 0, (t, s) => rfl

theorem swiglu_defs : Cert.Swiglu.defs (F := Bits) = Cert.SwigluIdeal.defs (F := Bits) :=
  congrArg (Pipeline.defs Cert.SwigluIdeal.pcfgs) swiglu_bodies

theorem swiglu_frame : quiescent_Swiglu := fun m ρ _ => by
  have h := Cert.SwigluRun.frame (F := Bits) m ρ
  rw [← swiglu_defs] at h
  exact h

theorem swigluRef_frame : quiescent_SwigluRefIdeal := fun m ρ _ =>
  (θ_run Cert.SwigluRefIdeal.defs _ _).mono (fun r h => ⟨fun c => (h c).2, sem_eq_zero_of_no_sems (by decide) r.2⟩)
    (Cert.SwigluRefIdeal.Value.run (F := Ideal) m ρ)

theorem swiglu_algebraic : algebraic_SwigluIdeal_SwigluRefIdeal := by
  intro m ρ m' ρ' _ hagree
  refine ⟨_, Cert.SwigluRun.run (F := Ideal) m ρ _ (Cert.SwigluEqual.computes m), ?_⟩
  refine (θ_run Cert.SwigluRefIdeal.defs _ _).mono (fun _ h c => ⟨(h c).1.trans ?_, (h c).2⟩) (Cert.SwigluRefIdeal.Value.run (F := Ideal) m' ρ')
  obtain ⟨h0, h1, h2⟩ := hagree c
  exact (congr (congr (congrArg _ h0) h1) h2).trans (Cert.SwigluEqual.ref_eq _ _ _)

theorem gluRef_frame : quiescent_GluRefIdeal := fun m ρ _ =>
  (θ_run Cert.GluRefIdeal.defs _ _).mono (fun r h => ⟨fun c => (h c).2, sem_eq_zero_of_no_sems (by decide) r.2⟩)
    (Cert.GluRefIdeal.Value.run (F := Ideal) m ρ)

theorem glu_algebraic : algebraic_GluIdeal_GluRefIdeal := by
  intro m ρ m' ρ' _ hagree
  refine ⟨_, Cert.GluIdeal.Value.run_blocks (F := Ideal) m ρ, ?_⟩
  refine (θ_run Cert.GluRefIdeal.defs _ _).mono (fun _ h c => ⟨(h c).1.trans ?_, (h c).2⟩) (Cert.GluRefIdeal.Value.run (F := Ideal) m' ρ')
  obtain ⟨h0, h1, h2⟩ := hagree c
  rw [Cert.GluRefIdeal.Read.val_main_v19_eq, Cert.GluEqual.ref_eq, Cert.GluEqual.final, h0, h1, h2]

theorem projRef_frame : quiescent_ProjRefIdeal := fun m ρ _ =>
  (θ_run Cert.ProjRefIdeal.defs _ _).mono (fun r h => ⟨fun c => (h c).2, sem_eq_zero_of_no_sems (by decide) r.2⟩)
    (Cert.ProjRefIdeal.Value.run (F := Ideal) m ρ)

theorem proj_algebraic : algebraic_ProjIdeal_ProjRefIdeal := by
  intro m ρ m' ρ' _ hagree
  refine ⟨_, Cert.ProjIdeal.Value.run_blocks (F := Ideal) m ρ, ?_⟩
  refine (θ_run Cert.ProjRefIdeal.defs _ _).mono (fun _ h c => ⟨(h c).1.trans ?_, (h c).2⟩) (Cert.ProjRefIdeal.Value.run (F := Ideal) m' ρ')
  obtain ⟨h0, h1⟩ := hagree c
  rw [Cert.ProjRefIdeal.Read.val_main_v5_eq, Cert.ProjEqual.ref_eq, Cert.ProjEqual.final, h0, h1]

/-- The down-projection program and its ideal one have the same body table. -/
theorem down_bodies : Cert.Down.defs₀ (F := Bits) = Cert.DownIdeal.defs₀ (F := Bits) := by
  unfold Cert.Down.defs₀ Cert.DownIdeal.defs₀
  refine congrArg Defs.onTc (funext fun l => funext fun a => ?_)
  match l, a with
  | 0, (t, s) => rfl

theorem down_defs : Cert.Down.defs (F := Bits) = Cert.DownIdeal.defs (F := Bits) :=
  congrArg (Pipeline.defs Cert.DownIdeal.pcfgs) down_bodies

theorem down_frame : quiescent_Down := fun m ρ _ => by
  have h := Cert.DownRun.frame (F := Bits) m ρ
  rw [← down_defs] at h
  exact h

theorem downRef_frame : quiescent_DownRefIdeal := fun m ρ _ =>
  (θ_run Cert.DownRefIdeal.defs _ _).mono (fun r h => ⟨fun c => (h c).2, sem_eq_zero_of_no_sems (by decide) r.2⟩)
    (Cert.DownRefIdeal.Value.run (F := Ideal) m ρ)

theorem down_algebraic : algebraic_DownIdeal_DownRefIdeal := by
  intro m ρ m' ρ' _ hagree
  refine ⟨Cert.DownEqual.out m, (θ_run Cert.DownIdeal.defs _ _).mono (fun _ h c => ⟨(h.1 c).1.trans (Cert.DownEqual.final m c), (h.1 c).2⟩)
    (Cert.DownRun.named (F := Ideal) m ρ), ?_⟩
  refine (θ_run Cert.DownRefIdeal.defs _ _).mono (fun _ h c => ⟨(h c).1.trans ?_, (h c).2⟩) (Cert.DownRefIdeal.Value.run (F := Ideal) m' ρ')
  obtain ⟨h0, h1, h2, h3, h4⟩ := hagree c
  rw [Cert.DownRefIdeal.Read.val_main_v34_eq, Cert.DownEqual.ref_eq, h0, h1, h2, h3, h4]

/-- The first down-projection program and its ideal one have the same body table. -/
theorem downMod_bodies : Cert.DownMod.defs₀ (F := Bits) = Cert.DownModIdeal.defs₀ (F := Bits) := by
  unfold Cert.DownMod.defs₀ Cert.DownModIdeal.defs₀
  refine congrArg Defs.onTc (funext fun l => funext fun a => ?_)
  match l, a with
  | 0, (t, s) => rfl

theorem downMod_defs : Cert.DownMod.defs (F := Bits) = Cert.DownModIdeal.defs (F := Bits) :=
  congrArg (Pipeline.defs Cert.DownModIdeal.pcfgs) downMod_bodies

theorem downMod_frame : quiescent_DownMod := fun m ρ _ => by
  have h := Cert.DownModRun.frame (F := Bits) m ρ
  rw [← downMod_defs] at h
  exact h

theorem downModRef_frame : quiescent_DownModRefIdeal := fun m ρ _ =>
  (θ_run Cert.DownModRefIdeal.defs _ _).mono (fun r h => ⟨fun c => (h c).2.2, sem_eq_zero_of_no_sems (by decide) r.2⟩)
    (Cert.DownModRefIdeal.Value.run (F := Ideal) m ρ)

theorem downMod_algebraic : algebraic_DownModIdeal_DownModRefIdeal := by
  intro m ρ m' ρ' _ hagree
  refine ⟨Cert.DownModEqual.out0 m, Cert.DownModEqual.out1 m, (θ_run Cert.DownModIdeal.defs _ _).mono
    (fun _ h c => ⟨(h.1 c).1.trans (Cert.DownModEqual.final6 m c), (h.1 c).2.1.trans (Cert.DownModEqual.final7 m c), (h.1 c).2.2⟩)
    (Cert.DownModRun.named (F := Ideal) m ρ), ?_⟩
  refine (θ_run Cert.DownModRefIdeal.defs _ _).mono (fun _ h c => ⟨(h c).1.trans ?_, (h c).2.1.trans ?_, (h c).2.2⟩)
    (Cert.DownModRefIdeal.Value.run (F := Ideal) m' ρ')
  · obtain ⟨h0, h1, h2, h3, h4⟩ := hagree c
    rw [Cert.DownModRefIdeal.Read.val_main_v40_eq, Cert.DownModEqual.ref_eq0, h0, h1, h2, h3]
  · obtain ⟨h0, h1, h2, h3, h4⟩ := hagree c
    rw [Cert.DownModRefIdeal.Read.val_main_v42_eq, Cert.DownModEqual.ref_eq1, h0, h1, h2, h3, h4]

/-- The layer-ending down-projection program and its ideal one have the same body table. -/
theorem downNext_bodies : Cert.DownNext.defs₀ (F := Bits) = Cert.DownNextIdeal.defs₀ (F := Bits) := by
  unfold Cert.DownNext.defs₀ Cert.DownNextIdeal.defs₀
  refine congrArg Defs.onTc (funext fun l => funext fun a => ?_)
  match l, a with
  | 0, (t, s) => rfl

theorem downNext_defs : Cert.DownNext.defs (F := Bits) = Cert.DownNextIdeal.defs (F := Bits) :=
  congrArg (Pipeline.defs Cert.DownNextIdeal.pcfgs) downNext_bodies

theorem downNext_frame : quiescent_DownNext := fun m ρ _ => by
  have h := Cert.DownNextRun.frame (F := Bits) m ρ
  rw [← downNext_defs] at h
  exact h

theorem downNextRef_frame : quiescent_DownNextRefIdeal := fun m ρ _ =>
  (θ_run Cert.DownNextRefIdeal.defs _ _).mono (fun r h => ⟨fun c => (h c).2.2, sem_eq_zero_of_no_sems (by decide) r.2⟩)
    (Cert.DownNextRefIdeal.Value.run (F := Ideal) m ρ)

theorem downNext_algebraic : algebraic_DownNextIdeal_DownNextRefIdeal := by
  intro m ρ m' ρ' _ hagree
  refine ⟨Cert.DownNextEqual.out0 m, Cert.DownNextEqual.out1 m, (θ_run Cert.DownNextIdeal.defs _ _).mono
    (fun _ h c => ⟨(h.1 c).1.trans (Cert.DownNextEqual.final6 m c), (h.1 c).2.1.trans (Cert.DownNextEqual.final7 m c), (h.1 c).2.2⟩)
    (Cert.DownNextRun.named (F := Ideal) m ρ), ?_⟩
  refine (θ_run Cert.DownNextRefIdeal.defs _ _).mono (fun _ h c => ⟨(h c).1.trans ?_, (h c).2.1.trans ?_, (h c).2.2⟩)
    (Cert.DownNextRefIdeal.Value.run (F := Ideal) m' ρ')
  · obtain ⟨h0, h1, h2, h3, h4, h5⟩ := hagree c
    rw [Cert.DownNextRefIdeal.Read.val_main_v50_eq, Cert.DownNextEqual.ref_eq0, h0, h1, h2, h3]
  · obtain ⟨h0, h1, h2, h3, h4, h5⟩ := hagree c
    rw [Cert.DownNextRefIdeal.Read.val_main_v52_eq, Cert.DownNextEqual.ref_eq1, h0, h1, h2, h3, h4, h5]

theorem claim : Cert.Claim := ⟨Cert.Kernel.Gen.facts, Cert.KernelIdeal.Gen.facts, Cert.ReferenceIdeal.Gen.facts,
  Cert.Swiglu.Gen.facts, Cert.SwigluIdeal.Gen.facts, Cert.SwigluRefIdeal.Gen.facts, Cert.Glu.Gen.facts, Cert.GluIdeal.Gen.facts,
  Cert.GluRefIdeal.Gen.facts, Cert.Proj.Gen.facts, Cert.ProjIdeal.Gen.facts, Cert.ProjRefIdeal.Gen.facts,
  Cert.Down.Gen.facts, Cert.DownIdeal.Gen.facts, Cert.DownRefIdeal.Gen.facts,
  Cert.DownMod.Gen.facts, Cert.DownModIdeal.Gen.facts, Cert.DownModRefIdeal.Gen.facts,
  Cert.DownNext.Gen.facts, Cert.DownNextIdeal.Gen.facts, Cert.DownNextRefIdeal.Gen.facts, Cert.Pre_finite.Gen.facts,
  fun m ρ _ => Cert.Kernel.Gen.frame m ρ, fun m ρ _ => Cert.KernelIdeal.Gen.frame m ρ, fun m ρ _ => Cert.KernelIdeal.Gen.frame m ρ,
  reference_frame, fun m ρ _ => reference_frame m ρ trivial,
  swiglu_frame, fun m ρ _ => Cert.SwigluRun.frame (F := Ideal) m ρ, swigluRef_frame,
  fun m ρ _ => Cert.Glu.Gen.frame m ρ, fun m ρ _ => Cert.GluIdeal.Gen.frame m ρ, gluRef_frame,
  fun m ρ _ => Cert.Proj.Gen.frame m ρ, fun m ρ _ => Cert.ProjIdeal.Gen.frame m ρ, projRef_frame,
  down_frame, fun m ρ _ => Cert.DownRun.frame (F := Ideal) m ρ, downRef_frame,
  downMod_frame, fun m ρ _ => Cert.DownModRun.frame (F := Ideal) m ρ, downModRef_frame,
  downNext_frame, fun m ρ _ => Cert.DownNextRun.frame (F := Ideal) m ρ, downNextRef_frame,
  (trivial : preserves_Kernel_KernelIdeal), algebraic, (trivial : preserves_Swiglu_SwigluIdeal), swiglu_algebraic,
  (trivial : preserves_Glu_GluIdeal), glu_algebraic, (trivial : preserves_Proj_ProjIdeal), proj_algebraic,
  (trivial : preserves_Down_DownIdeal), down_algebraic,
  (trivial : preserves_DownMod_DownModIdeal), downMod_algebraic,
  (trivial : preserves_DownNext_DownNextIdeal), downNext_algebraic⟩

end Cert.Proof

end
